-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_q_and_k_finite [hPre_q_and_k_finite : Cert.Pre_q_and_k_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_q_and_k_finite.fn (F := Ideal) (m ((c.tc : Thread Cert.SbKernelIdeal.nD Cert.SbKernelIdeal.τ).loc Cert.SbKernelIdeal.main_arg0))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_q_and_k_finite [hPre_q_and_k_finite : Cert.Pre_q_and_k_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_q_and_k_finite.fn (F := Ideal) (m ((c.tc : Thread Cert.SbReferenceIdeal.nD Cert.SbReferenceIdeal.τ).loc Cert.SbReferenceIdeal.main_arg0))) = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_NsaKernel (m : (ℓ : Loc Cert.NsaKernel.nD Cert.NsaKernel.τ Cert.NsaKernel.sig) → Buf (Elt Bits) ℓ) : Prop :=
  True

def Pre_NsaKernelIdeal (m : (ℓ : Loc Cert.NsaKernelIdeal.nD Cert.NsaKernelIdeal.τ Cert.NsaKernelIdeal.sig) → Buf (Elt Ideal) ℓ) : Prop :=
  True

def Pre_NsaReferenceIdeal (m : (ℓ : Loc Cert.NsaReferenceIdeal.nD Cert.NsaReferenceIdeal.τ Cert.NsaReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ r.2.sem = fun _ => 0)

def quiescent_SbKernelIdeal_pre_q_and_k_finite [hSbKernelIdeal : Cert.SbKernelIdeal.Facts] [hPre_q_and_k_finite : Cert.Pre_q_and_k_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_q_and_k_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_SbReferenceIdeal_pre_q_and_k_finite [hSbReferenceIdeal : Cert.SbReferenceIdeal.Facts] [hPre_q_and_k_finite : Cert.Pre_q_and_k_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_q_and_k_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_NsaKernel [hNsaKernel : Cert.NsaKernel.Facts] : Prop :=
  ∀ (m : (ℓ : Loc Cert.NsaKernel.nD Cert.NsaKernel.τ Cert.NsaKernel.sig) → Buf (Elt Bits) ℓ) (g : Dev Cert.NsaKernel.nD → PrngReg), Pre_NsaKernel m →
    θ_run (Cert.NsaKernel.defs (F := Bits)) (onTc (τ := Cert.NsaKernel.τ) (Cert.NsaKernel.main (F := Bits))) ⟨m, fun _ => 0, g⟩ (fun r => (∀ c : Dev Cert.NsaKernel.nD,
      r.2.mem ((c.tc : Thread Cert.NsaKernel.nD Cert.NsaKernel.τ).loc Cert.NsaKernel.main_arg0) = m ((c.tc : Thread Cert.NsaKernel.nD Cert.NsaKernel.τ).loc Cert.NsaKernel.main_arg0)
      ∧ r.2.mem ((c.tc : Thread Cert.NsaKernel.nD Cert.NsaKernel.τ).loc Cert.NsaKernel.main_arg1) = m ((c.tc : Thread Cert.NsaKernel.nD Cert.NsaKernel.τ).loc Cert.NsaKernel.main_arg1)
      ∧ r.2.mem ((c.tc : Thread Cert.NsaKernel.nD Cert.NsaKernel.τ).loc Cert.NsaKernel.main_arg2) = m ((c.tc : Thread Cert.NsaKernel.nD Cert.NsaKernel.τ).loc Cert.NsaKernel.main_arg2)
      ∧ r.2.mem ((c.tc : Thread Cert.NsaKernel.nD Cert.NsaKernel.τ).loc Cert.NsaKernel.main_arg3) = m ((c.tc : Thread Cert.NsaKernel.nD Cert.NsaKernel.τ).loc Cert.NsaKernel.main_arg3)
      ∧ r.2.mem ((c.tc : Thread Cert.NsaKernel.nD Cert.NsaKernel.τ).loc Cert.NsaKernel.main_arg4) = m ((c.tc : Thread Cert.NsaKernel.nD Cert.NsaKernel.τ).loc Cert.NsaKernel.main_arg4)
      ∧ r.2.mem ((c.tc : Thread Cert.NsaKernel.nD Cert.NsaKernel.τ).loc Cert.NsaKernel.main_arg5) = m ((c.tc : Thread Cert.NsaKernel.nD Cert.NsaKernel.τ).loc Cert.NsaKernel.main_arg5)
      ∧ r.2.mem ((c.tc : Thread Cert.NsaKernel.nD Cert.NsaKernel.τ).loc Cert.NsaKernel.main_arg6) = m ((c.tc : Thread Cert.NsaKernel.nD Cert.NsaKernel.τ).loc Cert.NsaKernel.main_arg6)
      ∧ r.2.mem ((c.tc : Thread Cert.NsaKernel.nD Cert.NsaKernel.τ).loc Cert.NsaKernel.main_arg7) = m ((c.tc : Thread Cert.NsaKernel.nD Cert.NsaKernel.τ).loc Cert.NsaKernel.main_arg7)
      ∧ r.2.mem ((c.tc : Thread Cert.NsaKernel.nD Cert.NsaKernel.τ).loc Cert.NsaKernel.main_arg8) = m ((c.tc : Thread Cert.NsaKernel.nD Cert.NsaKernel.τ).loc Cert.NsaKernel.main_arg8)
      ∧ r.2.mem ((c.tc : Thread Cert.NsaKernel.nD Cert.NsaKernel.τ).loc Cert.NsaKernel.main_arg9) = m ((c.tc : Thread Cert.NsaKernel.nD Cert.NsaKernel.τ).loc Cert.NsaKernel.main_arg9)
      ∧ r.2.mem ((c.tc : Thread Cert.NsaKernel.nD Cert.NsaKernel.τ).loc Cert.NsaKernel.main_arg10) = m ((c.tc : Thread Cert.NsaKernel.nD Cert.NsaKernel.τ).loc Cert.NsaKernel.main_arg10))
      ∧ r.2.sem = fun _ => 0)

def quiescent_NsaKernelIdeal [hNsaKernelIdeal : Cert.NsaKernelIdeal.Facts] : Prop :=
  ∀ (m : (ℓ : Loc Cert.NsaKernelIdeal.nD Cert.NsaKernelIdeal.τ Cert.NsaKernelIdeal.sig) → Buf (Elt Ideal) ℓ) (g : Dev Cert.NsaKernelIdeal.nD → PrngReg), Pre_NsaKernelIdeal m →
    θ_run (Cert.NsaKernelIdeal.defs (F := Ideal)) (onTc (τ := Cert.NsaKernelIdeal.τ) (Cert.NsaKernelIdeal.main (F := Ideal))) ⟨m, fun _ => 0, g⟩ (fun r => (∀ c : Dev Cert.NsaKernelIdeal.nD,
      r.2.mem ((c.tc : Thread Cert.NsaKernelIdeal.nD Cert.NsaKernelIdeal.τ).loc Cert.NsaKernelIdeal.main_arg0) = m ((c.tc : Thread Cert.NsaKernelIdeal.nD Cert.NsaKernelIdeal.τ).loc Cert.NsaKernelIdeal.main_arg0)
      ∧ r.2.mem ((c.tc : Thread Cert.NsaKernelIdeal.nD Cert.NsaKernelIdeal.τ).loc Cert.NsaKernelIdeal.main_arg1) = m ((c.tc : Thread Cert.NsaKernelIdeal.nD Cert.NsaKernelIdeal.τ).loc Cert.NsaKernelIdeal.main_arg1)
      ∧ r.2.mem ((c.tc : Thread Cert.NsaKernelIdeal.nD Cert.NsaKernelIdeal.τ).loc Cert.NsaKernelIdeal.main_arg2) = m ((c.tc : Thread Cert.NsaKernelIdeal.nD Cert.NsaKernelIdeal.τ).loc Cert.NsaKernelIdeal.main_arg2)
      ∧ r.2.mem ((c.tc : Thread Cert.NsaKernelIdeal.nD Cert.NsaKernelIdeal.τ).loc Cert.NsaKernelIdeal.main_arg3) = m ((c.tc : Thread Cert.NsaKernelIdeal.nD Cert.NsaKernelIdeal.τ).loc Cert.NsaKernelIdeal.main_arg3)
      ∧ r.2.mem ((c.tc : Thread Cert.NsaKernelIdeal.nD Cert.NsaKernelIdeal.τ).loc Cert.NsaKernelIdeal.main_arg4) = m ((c.tc : Thread Cert.NsaKernelIdeal.nD Cert.NsaKernelIdeal.τ).loc Cert.NsaKernelIdeal.main_arg4)
      ∧ r.2.mem ((c.tc : Thread Cert.NsaKernelIdeal.nD Cert.NsaKernelIdeal.τ).loc Cert.NsaKernelIdeal.main_arg5) = m ((c.tc : Thread Cert.NsaKernelIdeal.nD Cert.NsaKernelIdeal.τ).loc Cert.NsaKernelIdeal.main_arg5)
      ∧ r.2.mem ((c.tc : Thread Cert.NsaKernelIdeal.nD Cert.NsaKernelIdeal.τ).loc Cert.NsaKernelIdeal.main_arg6) = m ((c.tc : Thread Cert.NsaKernelIdeal.nD Cert.NsaKernelIdeal.τ).loc Cert.NsaKernelIdeal.main_arg6)
      ∧ r.2.mem ((c.tc : Thread Cert.NsaKernelIdeal.nD Cert.NsaKernelIdeal.τ).loc Cert.NsaKernelIdeal.main_arg7) = m ((c.tc : Thread Cert.NsaKernelIdeal.nD Cert.NsaKernelIdeal.τ).loc Cert.NsaKernelIdeal.main_arg7)
      ∧ r.2.mem ((c.tc : Thread Cert.NsaKernelIdeal.nD Cert.NsaKernelIdeal.τ).loc Cert.NsaKernelIdeal.main_arg8) = m ((c.tc : Thread Cert.NsaKernelIdeal.nD Cert.NsaKernelIdeal.τ).loc Cert.NsaKernelIdeal.main_arg8)
      ∧ r.2.mem ((c.tc : Thread Cert.NsaKernelIdeal.nD Cert.NsaKernelIdeal.τ).loc Cert.NsaKernelIdeal.main_arg9) = m ((c.tc : Thread Cert.NsaKernelIdeal.nD Cert.NsaKernelIdeal.τ).loc Cert.NsaKernelIdeal.main_arg9)
      ∧ r.2.mem ((c.tc : Thread Cert.NsaKernelIdeal.nD Cert.NsaKernelIdeal.τ).loc Cert.NsaKernelIdeal.main_arg10) = m ((c.tc : Thread Cert.NsaKernelIdeal.nD Cert.NsaKernelIdeal.τ).loc Cert.NsaKernelIdeal.main_arg10))
      ∧ r.2.sem = fun _ => 0)

def quiescent_NsaReferenceIdeal [hNsaReferenceIdeal : Cert.NsaReferenceIdeal.Facts] : Prop :=
  ∀ (m : (ℓ : Loc Cert.NsaReferenceIdeal.nD Cert.NsaReferenceIdeal.τ Cert.NsaReferenceIdeal.sig) → Buf (Elt Ideal) ℓ) (g : Dev Cert.NsaReferenceIdeal.nD → PrngReg), Pre_NsaReferenceIdeal m →
    θ_run (Cert.NsaReferenceIdeal.defs (F := Ideal)) (onTc (τ := Cert.NsaReferenceIdeal.τ) (Cert.NsaReferenceIdeal.main (F := Ideal))) ⟨m, fun _ => 0, g⟩ (fun r => (∀ c : Dev Cert.NsaReferenceIdeal.nD,
      r.2.mem ((c.tc : Thread Cert.NsaReferenceIdeal.nD Cert.NsaReferenceIdeal.τ).loc Cert.NsaReferenceIdeal.main_arg0) = m ((c.tc : Thread Cert.NsaReferenceIdeal.nD Cert.NsaReferenceIdeal.τ).loc Cert.NsaReferenceIdeal.main_arg0)
      ∧ r.2.mem ((c.tc : Thread Cert.NsaReferenceIdeal.nD Cert.NsaReferenceIdeal.τ).loc Cert.NsaReferenceIdeal.main_arg1) = m ((c.tc : Thread Cert.NsaReferenceIdeal.nD Cert.NsaReferenceIdeal.τ).loc Cert.NsaReferenceIdeal.main_arg1)
      ∧ r.2.mem ((c.tc : Thread Cert.NsaReferenceIdeal.nD Cert.NsaReferenceIdeal.τ).loc Cert.NsaReferenceIdeal.main_arg2) = m ((c.tc : Thread Cert.NsaReferenceIdeal.nD Cert.NsaReferenceIdeal.τ).loc Cert.NsaReferenceIdeal.main_arg2)
      ∧ r.2.mem ((c.tc : Thread Cert.NsaReferenceIdeal.nD Cert.NsaReferenceIdeal.τ).loc Cert.NsaReferenceIdeal.main_arg3) = m ((c.tc : Thread Cert.NsaReferenceIdeal.nD Cert.NsaReferenceIdeal.τ).loc Cert.NsaReferenceIdeal.main_arg3)
      ∧ r.2.mem ((c.tc : Thread Cert.NsaReferenceIdeal.nD Cert.NsaReferenceIdeal.τ).loc Cert.NsaReferenceIdeal.main_arg4) = m ((c.tc : Thread Cert.NsaReferenceIdeal.nD Cert.NsaReferenceIdeal.τ).loc Cert.NsaReferenceIdeal.main_arg4)
      ∧ r.2.mem ((c.tc : Thread Cert.NsaReferenceIdeal.nD Cert.NsaReferenceIdeal.τ).loc Cert.NsaReferenceIdeal.main_arg5) = m ((c.tc : Thread Cert.NsaReferenceIdeal.nD Cert.NsaReferenceIdeal.τ).loc Cert.NsaReferenceIdeal.main_arg5)
      ∧ r.2.mem ((c.tc : Thread Cert.NsaReferenceIdeal.nD Cert.NsaReferenceIdeal.τ).loc Cert.NsaReferenceIdeal.main_arg6) = m ((c.tc : Thread Cert.NsaReferenceIdeal.nD Cert.NsaReferenceIdeal.τ).loc Cert.NsaReferenceIdeal.main_arg6)
      ∧ r.2.mem ((c.tc : Thread Cert.NsaReferenceIdeal.nD Cert.NsaReferenceIdeal.τ).loc Cert.NsaReferenceIdeal.main_arg7) = m ((c.tc : Thread Cert.NsaReferenceIdeal.nD Cert.NsaReferenceIdeal.τ).loc Cert.NsaReferenceIdeal.main_arg7)
      ∧ r.2.mem ((c.tc : Thread Cert.NsaReferenceIdeal.nD Cert.NsaReferenceIdeal.τ).loc Cert.NsaReferenceIdeal.main_arg8) = m ((c.tc : Thread Cert.NsaReferenceIdeal.nD Cert.NsaReferenceIdeal.τ).loc Cert.NsaReferenceIdeal.main_arg8)
      ∧ r.2.mem ((c.tc : Thread Cert.NsaReferenceIdeal.nD Cert.NsaReferenceIdeal.τ).loc Cert.NsaReferenceIdeal.main_arg9) = m ((c.tc : Thread Cert.NsaReferenceIdeal.nD Cert.NsaReferenceIdeal.τ).loc Cert.NsaReferenceIdeal.main_arg9)
      ∧ r.2.mem ((c.tc : Thread Cert.NsaReferenceIdeal.nD Cert.NsaReferenceIdeal.τ).loc Cert.NsaReferenceIdeal.main_arg10) = m ((c.tc : Thread Cert.NsaReferenceIdeal.nD Cert.NsaReferenceIdeal.τ).loc Cert.NsaReferenceIdeal.main_arg10))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v10)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v10) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v53) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_SbKernel_SbKernelIdeal : Prop :=
  IdealRules.named_const.Statement Cert.SbKernelIdeal.κ "scale_log2e" .f32 0x3E38AA3B#32 (((8 * (Real.log 2))⁻¹ : ℝ) : EReal)
  ∧ IdealRules.named_const.Statement Cert.SbKernelIdeal.κ "inv_ln2" .f32 0x3FB8AA3B#32 (((Real.log 2)⁻¹ : ℝ) : EReal)

def algebraic_SbKernelIdeal_SbReferenceIdeal_pre_q_and_k_finite [hSbKernelIdeal : Cert.SbKernelIdeal.Facts] [hSbReferenceIdeal : Cert.SbReferenceIdeal.Facts] [hPre_q_and_k_finite : Cert.Pre_q_and_k_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_q_and_k_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)) →
    ∃ (v0 : (c : Dev Cert.SbKernelIdeal.nD) → Buf (Elt Ideal) ((c.tc : Thread Cert.SbKernelIdeal.nD Cert.SbKernelIdeal.τ).loc Cert.SbKernelIdeal.main_v9)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v9) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v26) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)) →
    ∃ (v0 : (c : Dev Cert.InprojKernelIdeal.nD) → Buf (Elt Ideal) ((c.tc : Thread Cert.InprojKernelIdeal.nD Cert.InprojKernelIdeal.τ).loc Cert.InprojKernelIdeal.main_v15_0)) (v1 : (c : Dev Cert.InprojKernelIdeal.nD) → Buf (Elt Ideal) ((c.tc : Thread Cert.InprojKernelIdeal.nD Cert.InprojKernelIdeal.τ).loc Cert.InprojKernelIdeal.main_v15_1)) (v2 : (c : Dev Cert.InprojKernelIdeal.nD) → Buf (Elt Ideal) ((c.tc : Thread Cert.InprojKernelIdeal.nD Cert.InprojKernelIdeal.τ).loc Cert.InprojKernelIdeal.main_v15_2)) (v3 : (c : Dev Cert.InprojKernelIdeal.nD) → Buf (Elt Ideal) ((c.tc : Thread Cert.InprojKernelIdeal.nD Cert.InprojKernelIdeal.τ).loc Cert.InprojKernelIdeal.main_v15_3)) (v4 : (c : Dev Cert.InprojKernelIdeal.nD) → Buf (Elt Ideal) ((c.tc : Thread Cert.InprojKernelIdeal.nD Cert.InprojKernelIdeal.τ).loc Cert.InprojKernelIdeal.main_v15_4)) (v5 : (c : Dev Cert.InprojKernelIdeal.nD) → Buf (Elt Ideal) ((c.tc : Thread Cert.InprojKernelIdeal.nD Cert.InprojKernelIdeal.τ).loc Cert.InprojKernelIdeal.main_v15_5)) (v6 : (c : Dev Cert.InprojKernelIdeal.nD) → Buf (Elt Ideal) ((c.tc : Thread Cert.InprojKernelIdeal.nD Cert.InprojKernelIdeal.τ).loc Cert.InprojKernelIdeal.main_v15_6)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v15_0) = v0 c
          ∧ r.2.mem ((c.tc : Thread Cert.InprojKernelIdeal.nD Cert.InprojKernelIdeal.τ).loc Cert.InprojKernelIdeal.main_v15_1) = v1 c
          ∧ r.2.mem ((c.tc : Thread Cert.InprojKernelIdeal.nD Cert.InprojKernelIdeal.τ).loc Cert.InprojKernelIdeal.main_v15_2) = v2 c
          ∧ r.2.mem ((c.tc : Thread Cert.InprojKernelIdeal.nD Cert.InprojKernelIdeal.τ).loc Cert.InprojKernelIdeal.main_v15_3) = v3 c
          ∧ r.2.mem ((c.tc : Thread Cert.InprojKernelIdeal.nD Cert.InprojKernelIdeal.τ).loc Cert.InprojKernelIdeal.main_v15_4) = v4 c
          ∧ r.2.mem ((c.tc : Thread Cert.InprojKernelIdeal.nD Cert.InprojKernelIdeal.τ).loc Cert.InprojKernelIdeal.main_v15_5) = v5 c
          ∧ r.2.mem ((c.tc : Thread Cert.InprojKernelIdeal.nD Cert.InprojKernelIdeal.τ).loc Cert.InprojKernelIdeal.main_v15_6) = v6 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v15) = v0 c
          ∧ r.2.mem ((c.tc : Thread Cert.InprojReferenceIdeal.nD Cert.InprojReferenceIdeal.τ).loc Cert.InprojReferenceIdeal.main_v16) = v1 c
          ∧ r.2.mem ((c.tc : Thread Cert.InprojReferenceIdeal.nD Cert.InprojReferenceIdeal.τ).loc Cert.InprojReferenceIdeal.main_v27) = v2 c
          ∧ r.2.mem ((c.tc : Thread Cert.InprojReferenceIdeal.nD Cert.InprojReferenceIdeal.τ).loc Cert.InprojReferenceIdeal.main_v19) = v3 c
          ∧ r.2.mem ((c.tc : Thread Cert.InprojReferenceIdeal.nD Cert.InprojReferenceIdeal.τ).loc Cert.InprojReferenceIdeal.main_v22) = v4 c
          ∧ r.2.mem ((c.tc : Thread Cert.InprojReferenceIdeal.nD Cert.InprojReferenceIdeal.τ).loc Cert.InprojReferenceIdeal.main_v30) = v5 c
          ∧ r.2.mem ((c.tc : Thread Cert.InprojReferenceIdeal.nD Cert.InprojReferenceIdeal.τ).loc Cert.InprojReferenceIdeal.main_v29) = v6 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_NsaKernel_NsaKernelIdeal : Prop :=
  IdealRules.named_const.Statement Cert.NsaKernelIdeal.κ "mask" .f32 0xF149F2CA#32 ⊥
  ∧ IdealRules.named_const.Statement Cert.NsaKernelIdeal.κ "unmask" .f32 0x7149F2CA#32 ⊤

def algebraic_NsaKernelIdeal_NsaReferenceIdeal [hNsaKernelIdeal : Cert.NsaKernelIdeal.Facts] [hNsaReferenceIdeal : Cert.NsaReferenceIdeal.Facts] : Prop :=
  ∀ (m : (ℓ : Loc Cert.NsaKernelIdeal.nD Cert.NsaKernelIdeal.τ Cert.NsaKernelIdeal.sig) → Buf (Elt Ideal) ℓ) (g : Dev Cert.NsaKernelIdeal.nD → PrngReg)
    (m' : (ℓ : Loc Cert.NsaReferenceIdeal.nD Cert.NsaReferenceIdeal.τ Cert.NsaReferenceIdeal.sig) → Buf (Elt Ideal) ℓ) (g' : Dev Cert.NsaReferenceIdeal.nD → PrngReg), Pre_NsaKernelIdeal m →
    (∀ c : Dev Cert.NsaKernelIdeal.nD,
      m' ((c.tc : Thread Cert.NsaReferenceIdeal.nD Cert.NsaReferenceIdeal.τ).loc Cert.NsaReferenceIdeal.main_arg0) = m ((c.tc : Thread Cert.NsaKernelIdeal.nD Cert.NsaKernelIdeal.τ).loc Cert.NsaKernelIdeal.main_arg0)
      ∧ m' ((c.tc : Thread Cert.NsaReferenceIdeal.nD Cert.NsaReferenceIdeal.τ).loc Cert.NsaReferenceIdeal.main_arg1) = m ((c.tc : Thread Cert.NsaKernelIdeal.nD Cert.NsaKernelIdeal.τ).loc Cert.NsaKernelIdeal.main_arg1)
      ∧ m' ((c.tc : Thread Cert.NsaReferenceIdeal.nD Cert.NsaReferenceIdeal.τ).loc Cert.NsaReferenceIdeal.main_arg2) = m ((c.tc : Thread Cert.NsaKernelIdeal.nD Cert.NsaKernelIdeal.τ).loc Cert.NsaKernelIdeal.main_arg2)
      ∧ m' ((c.tc : Thread Cert.NsaReferenceIdeal.nD Cert.NsaReferenceIdeal.τ).loc Cert.NsaReferenceIdeal.main_arg3) = m ((c.tc : Thread Cert.NsaKernelIdeal.nD Cert.NsaKernelIdeal.τ).loc Cert.NsaKernelIdeal.main_arg3)
      ∧ m' ((c.tc : Thread Cert.NsaReferenceIdeal.nD Cert.NsaReferenceIdeal.τ).loc Cert.NsaReferenceIdeal.main_arg4) = m ((c.tc : Thread Cert.NsaKernelIdeal.nD Cert.NsaKernelIdeal.τ).loc Cert.NsaKernelIdeal.main_arg4)
      ∧ m' ((c.tc : Thread Cert.NsaReferenceIdeal.nD Cert.NsaReferenceIdeal.τ).loc Cert.NsaReferenceIdeal.main_arg5) = m ((c.tc : Thread Cert.NsaKernelIdeal.nD Cert.NsaKernelIdeal.τ).loc Cert.NsaKernelIdeal.main_arg5)
      ∧ m' ((c.tc : Thread Cert.NsaReferenceIdeal.nD Cert.NsaReferenceIdeal.τ).loc Cert.NsaReferenceIdeal.main_arg6) = m ((c.tc : Thread Cert.NsaKernelIdeal.nD Cert.NsaKernelIdeal.τ).loc Cert.NsaKernelIdeal.main_arg6)
      ∧ m' ((c.tc : Thread Cert.NsaReferenceIdeal.nD Cert.NsaReferenceIdeal.τ).loc Cert.NsaReferenceIdeal.main_arg7) = m ((c.tc : Thread Cert.NsaKernelIdeal.nD Cert.NsaKernelIdeal.τ).loc Cert.NsaKernelIdeal.main_arg7)
      ∧ m' ((c.tc : Thread Cert.NsaReferenceIdeal.nD Cert.NsaReferenceIdeal.τ).loc Cert.NsaReferenceIdeal.main_arg8) = m ((c.tc : Thread Cert.NsaKernelIdeal.nD Cert.NsaKernelIdeal.τ).loc Cert.NsaKernelIdeal.main_arg8)
      ∧ m' ((c.tc : Thread Cert.NsaReferenceIdeal.nD Cert.NsaReferenceIdeal.τ).loc Cert.NsaReferenceIdeal.main_arg9) = m ((c.tc : Thread Cert.NsaKernelIdeal.nD Cert.NsaKernelIdeal.τ).loc Cert.NsaKernelIdeal.main_arg9)
      ∧ m' ((c.tc : Thread Cert.NsaReferenceIdeal.nD Cert.NsaReferenceIdeal.τ).loc Cert.NsaReferenceIdeal.main_arg10) = m ((c.tc : Thread Cert.NsaKernelIdeal.nD Cert.NsaKernelIdeal.τ).loc Cert.NsaKernelIdeal.main_arg10)) →
    ∃ (v0 : (c : Dev Cert.NsaKernelIdeal.nD) → Buf (Elt Ideal) ((c.tc : Thread Cert.NsaKernelIdeal.nD Cert.NsaKernelIdeal.τ).loc Cert.NsaKernelIdeal.main_v70)),
      θ_run (Cert.NsaKernelIdeal.defs (F := Ideal)) (onTc (τ := Cert.NsaKernelIdeal.τ) (Cert.NsaKernelIdeal.main (F := Ideal))) ⟨m, fun _ => 0, g⟩ (fun r => ∀ c : Dev Cert.NsaKernelIdeal.nD,
          r.2.mem ((c.tc : Thread Cert.NsaKernelIdeal.nD Cert.NsaKernelIdeal.τ).loc Cert.NsaKernelIdeal.main_v70) = v0 c
          ∧ r.2.mem ((c.tc : Thread Cert.NsaKernelIdeal.nD Cert.NsaKernelIdeal.τ).loc Cert.NsaKernelIdeal.main_arg0) = m ((c.tc : Thread Cert.NsaKernelIdeal.nD Cert.NsaKernelIdeal.τ).loc Cert.NsaKernelIdeal.main_arg0)
          ∧ r.2.mem ((c.tc : Thread Cert.NsaKernelIdeal.nD Cert.NsaKernelIdeal.τ).loc Cert.NsaKernelIdeal.main_arg1) = m ((c.tc : Thread Cert.NsaKernelIdeal.nD Cert.NsaKernelIdeal.τ).loc Cert.NsaKernelIdeal.main_arg1)
          ∧ r.2.mem ((c.tc : Thread Cert.NsaKernelIdeal.nD Cert.NsaKernelIdeal.τ).loc Cert.NsaKernelIdeal.main_arg2) = m ((c.tc : Thread Cert.NsaKernelIdeal.nD Cert.NsaKernelIdeal.τ).loc Cert.NsaKernelIdeal.main_arg2)
          ∧ r.2.mem ((c.tc : Thread Cert.NsaKernelIdeal.nD Cert.NsaKernelIdeal.τ).loc Cert.NsaKernelIdeal.main_arg3) = m ((c.tc : Thread Cert.NsaKernelIdeal.nD Cert.NsaKernelIdeal.τ).loc Cert.NsaKernelIdeal.main_arg3)
          ∧ r.2.mem ((c.tc : Thread Cert.NsaKernelIdeal.nD Cert.NsaKernelIdeal.τ).loc Cert.NsaKernelIdeal.main_arg4) = m ((c.tc : Thread Cert.NsaKernelIdeal.nD Cert.NsaKernelIdeal.τ).loc Cert.NsaKernelIdeal.main_arg4)
          ∧ r.2.mem ((c.tc : Thread Cert.NsaKernelIdeal.nD Cert.NsaKernelIdeal.τ).loc Cert.NsaKernelIdeal.main_arg5) = m ((c.tc : Thread Cert.NsaKernelIdeal.nD Cert.NsaKernelIdeal.τ).loc Cert.NsaKernelIdeal.main_arg5)
          ∧ r.2.mem ((c.tc : Thread Cert.NsaKernelIdeal.nD Cert.NsaKernelIdeal.τ).loc Cert.NsaKernelIdeal.main_arg6) = m ((c.tc : Thread Cert.NsaKernelIdeal.nD Cert.NsaKernelIdeal.τ).loc Cert.NsaKernelIdeal.main_arg6)
          ∧ r.2.mem ((c.tc : Thread Cert.NsaKernelIdeal.nD Cert.NsaKernelIdeal.τ).loc Cert.NsaKernelIdeal.main_arg7) = m ((c.tc : Thread Cert.NsaKernelIdeal.nD Cert.NsaKernelIdeal.τ).loc Cert.NsaKernelIdeal.main_arg7)
          ∧ r.2.mem ((c.tc : Thread Cert.NsaKernelIdeal.nD Cert.NsaKernelIdeal.τ).loc Cert.NsaKernelIdeal.main_arg8) = m ((c.tc : Thread Cert.NsaKernelIdeal.nD Cert.NsaKernelIdeal.τ).loc Cert.NsaKernelIdeal.main_arg8)
          ∧ r.2.mem ((c.tc : Thread Cert.NsaKernelIdeal.nD Cert.NsaKernelIdeal.τ).loc Cert.NsaKernelIdeal.main_arg9) = m ((c.tc : Thread Cert.NsaKernelIdeal.nD Cert.NsaKernelIdeal.τ).loc Cert.NsaKernelIdeal.main_arg9)
          ∧ r.2.mem ((c.tc : Thread Cert.NsaKernelIdeal.nD Cert.NsaKernelIdeal.τ).loc Cert.NsaKernelIdeal.main_arg10) = m ((c.tc : Thread Cert.NsaKernelIdeal.nD Cert.NsaKernelIdeal.τ).loc Cert.NsaKernelIdeal.main_arg10))
      ∧ θ_run (Cert.NsaReferenceIdeal.defs (F := Ideal)) (onTc (τ := Cert.NsaReferenceIdeal.τ) (Cert.NsaReferenceIdeal.main (F := Ideal))) ⟨m', fun _ => 0, g'⟩ (fun r => ∀ c : Dev Cert.NsaReferenceIdeal.nD,
          r.2.mem ((c.tc : Thread Cert.NsaReferenceIdeal.nD Cert.NsaReferenceIdeal.τ).loc Cert.NsaReferenceIdeal.main_v236) = v0 c
          ∧ r.2.mem ((c.tc : Thread Cert.NsaReferenceIdeal.nD Cert.NsaReferenceIdeal.τ).loc Cert.NsaReferenceIdeal.main_arg0) = m' ((c.tc : Thread Cert.NsaReferenceIdeal.nD Cert.NsaReferenceIdeal.τ).loc Cert.NsaReferenceIdeal.main_arg0)
          ∧ r.2.mem ((c.tc : Thread Cert.NsaReferenceIdeal.nD Cert.NsaReferenceIdeal.τ).loc Cert.NsaReferenceIdeal.main_arg1) = m' ((c.tc : Thread Cert.NsaReferenceIdeal.nD Cert.NsaReferenceIdeal.τ).loc Cert.NsaReferenceIdeal.main_arg1)
          ∧ r.2.mem ((c.tc : Thread Cert.NsaReferenceIdeal.nD Cert.NsaReferenceIdeal.τ).loc Cert.NsaReferenceIdeal.main_arg2) = m' ((c.tc : Thread Cert.NsaReferenceIdeal.nD Cert.NsaReferenceIdeal.τ).loc Cert.NsaReferenceIdeal.main_arg2)
          ∧ r.2.mem ((c.tc : Thread Cert.NsaReferenceIdeal.nD Cert.NsaReferenceIdeal.τ).loc Cert.NsaReferenceIdeal.main_arg3) = m' ((c.tc : Thread Cert.NsaReferenceIdeal.nD Cert.NsaReferenceIdeal.τ).loc Cert.NsaReferenceIdeal.main_arg3)
          ∧ r.2.mem ((c.tc : Thread Cert.NsaReferenceIdeal.nD Cert.NsaReferenceIdeal.τ).loc Cert.NsaReferenceIdeal.main_arg4) = m' ((c.tc : Thread Cert.NsaReferenceIdeal.nD Cert.NsaReferenceIdeal.τ).loc Cert.NsaReferenceIdeal.main_arg4)
          ∧ r.2.mem ((c.tc : Thread Cert.NsaReferenceIdeal.nD Cert.NsaReferenceIdeal.τ).loc Cert.NsaReferenceIdeal.main_arg5) = m' ((c.tc : Thread Cert.NsaReferenceIdeal.nD Cert.NsaReferenceIdeal.τ).loc Cert.NsaReferenceIdeal.main_arg5)
          ∧ r.2.mem ((c.tc : Thread Cert.NsaReferenceIdeal.nD Cert.NsaReferenceIdeal.τ).loc Cert.NsaReferenceIdeal.main_arg6) = m' ((c.tc : Thread Cert.NsaReferenceIdeal.nD Cert.NsaReferenceIdeal.τ).loc Cert.NsaReferenceIdeal.main_arg6)
          ∧ r.2.mem ((c.tc : Thread Cert.NsaReferenceIdeal.nD Cert.NsaReferenceIdeal.τ).loc Cert.NsaReferenceIdeal.main_arg7) = m' ((c.tc : Thread Cert.NsaReferenceIdeal.nD Cert.NsaReferenceIdeal.τ).loc Cert.NsaReferenceIdeal.main_arg7)
          ∧ r.2.mem ((c.tc : Thread Cert.NsaReferenceIdeal.nD Cert.NsaReferenceIdeal.τ).loc Cert.NsaReferenceIdeal.main_arg8) = m' ((c.tc : Thread Cert.NsaReferenceIdeal.nD Cert.NsaReferenceIdeal.τ).loc Cert.NsaReferenceIdeal.main_arg8)
          ∧ r.2.mem ((c.tc : Thread Cert.NsaReferenceIdeal.nD Cert.NsaReferenceIdeal.τ).loc Cert.NsaReferenceIdeal.main_arg9) = m' ((c.tc : Thread Cert.NsaReferenceIdeal.nD Cert.NsaReferenceIdeal.τ).loc Cert.NsaReferenceIdeal.main_arg9)
          ∧ r.2.mem ((c.tc : Thread Cert.NsaReferenceIdeal.nD Cert.NsaReferenceIdeal.τ).loc Cert.NsaReferenceIdeal.main_arg10) = m' ((c.tc : Thread Cert.NsaReferenceIdeal.nD Cert.NsaReferenceIdeal.τ).loc Cert.NsaReferenceIdeal.main_arg10))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)) →
    ∃ (v0 : (c : Dev Cert.PrepKernelIdeal.nD) → Buf (Elt Ideal) ((c.tc : Thread Cert.PrepKernelIdeal.nD Cert.PrepKernelIdeal.τ).loc Cert.PrepKernelIdeal.main_v16_0)) (v1 : (c : Dev Cert.PrepKernelIdeal.nD) → Buf (Elt Ideal) ((c.tc : Thread Cert.PrepKernelIdeal.nD Cert.PrepKernelIdeal.τ).loc Cert.PrepKernelIdeal.main_v16_1)) (v2 : (c : Dev Cert.PrepKernelIdeal.nD) → Buf (Elt Ideal) ((c.tc : Thread Cert.PrepKernelIdeal.nD Cert.PrepKernelIdeal.τ).loc Cert.PrepKernelIdeal.main_v16_2)) (v3 : (c : Dev Cert.PrepKernelIdeal.nD) → Buf (Elt Ideal) ((c.tc : Thread Cert.PrepKernelIdeal.nD Cert.PrepKernelIdeal.τ).loc Cert.PrepKernelIdeal.main_v16_3)) (v4 : (c : Dev Cert.PrepKernelIdeal.nD) → Buf (Elt Ideal) ((c.tc : Thread Cert.PrepKernelIdeal.nD Cert.PrepKernelIdeal.τ).loc Cert.PrepKernelIdeal.main_v16_4)) (v5 : (c : Dev Cert.PrepKernelIdeal.nD) → Buf (Elt Ideal) ((c.tc : Thread Cert.PrepKernelIdeal.nD Cert.PrepKernelIdeal.τ).loc Cert.PrepKernelIdeal.main_v16_5)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v16_0) = v0 c
          ∧ r.2.mem ((c.tc : Thread Cert.PrepKernelIdeal.nD Cert.PrepKernelIdeal.τ).loc Cert.PrepKernelIdeal.main_v16_1) = v1 c
          ∧ r.2.mem ((c.tc : Thread Cert.PrepKernelIdeal.nD Cert.PrepKernelIdeal.τ).loc Cert.PrepKernelIdeal.main_v16_2) = v2 c
          ∧ r.2.mem ((c.tc : Thread Cert.PrepKernelIdeal.nD Cert.PrepKernelIdeal.τ).loc Cert.PrepKernelIdeal.main_v16_3) = v3 c
          ∧ r.2.mem ((c.tc : Thread Cert.PrepKernelIdeal.nD Cert.PrepKernelIdeal.τ).loc Cert.PrepKernelIdeal.main_v16_4) = v4 c
          ∧ r.2.mem ((c.tc : Thread Cert.PrepKernelIdeal.nD Cert.PrepKernelIdeal.τ).loc Cert.PrepKernelIdeal.main_v16_5) = v5 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v151) = v0 c
          ∧ r.2.mem ((c.tc : Thread Cert.PrepReferenceIdeal.nD Cert.PrepReferenceIdeal.τ).loc Cert.PrepReferenceIdeal.main_v152) = v1 c
          ∧ r.2.mem ((c.tc : Thread Cert.PrepReferenceIdeal.nD Cert.PrepReferenceIdeal.τ).loc Cert.PrepReferenceIdeal.main_v153) = v2 c
          ∧ r.2.mem ((c.tc : Thread Cert.PrepReferenceIdeal.nD Cert.PrepReferenceIdeal.τ).loc Cert.PrepReferenceIdeal.main_v154) = v3 c
          ∧ r.2.mem ((c.tc : Thread Cert.PrepReferenceIdeal.nD Cert.PrepReferenceIdeal.τ).loc Cert.PrepReferenceIdeal.main_v155) = v4 c
          ∧ r.2.mem ((c.tc : Thread Cert.PrepReferenceIdeal.nD Cert.PrepReferenceIdeal.τ).loc Cert.PrepReferenceIdeal.main_v156) = v5 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8))

def Claim : Prop :=
  ∃ (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hSbKernel : Cert.SbKernel.Facts) (hSbKernelIdeal : Cert.SbKernelIdeal.Facts) (hSbReferenceIdeal : Cert.SbReferenceIdeal.Facts) (hInprojKernel : Cert.InprojKernel.Facts) (hInprojKernelIdeal : Cert.InprojKernelIdeal.Facts) (hInprojReferenceIdeal : Cert.InprojReferenceIdeal.Facts) (hNsaKernel : Cert.NsaKernel.Facts) (hNsaKernelIdeal : Cert.NsaKernelIdeal.Facts) (hNsaReferenceIdeal : Cert.NsaReferenceIdeal.Facts) (hPrepKernel : Cert.PrepKernel.Facts) (hPrepKernelIdeal : Cert.PrepKernelIdeal.Facts) (hPrepReferenceIdeal : Cert.PrepReferenceIdeal.Facts) (hPre_q_and_k_finite : Cert.Pre_q_and_k_finite.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_SbKernel (hSbKernel := hSbKernel)
    ∧ quiescent_SbKernelIdeal (hSbKernelIdeal := hSbKernelIdeal)
    ∧ quiescent_SbKernelIdeal_pre_q_and_k_finite (hSbKernelIdeal := hSbKernelIdeal) (hPre_q_and_k_finite := hPre_q_and_k_finite)
    ∧ quiescent_SbReferenceIdeal (hSbReferenceIdeal := hSbReferenceIdeal)
    ∧ quiescent_SbReferenceIdeal_pre_q_and_k_finite (hSbReferenceIdeal := hSbReferenceIdeal) (hPre_q_and_k_finite := hPre_q_and_k_finite)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_NsaKernel (hNsaKernel := hNsaKernel)
    ∧ quiescent_NsaKernelIdeal (hNsaKernelIdeal := hNsaKernelIdeal)
    ∧ quiescent_NsaReferenceIdeal (hNsaReferenceIdeal := hNsaReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_SbKernel_SbKernelIdeal
    ∧ algebraic_SbKernelIdeal_SbReferenceIdeal_pre_q_and_k_finite (hSbKernelIdeal := hSbKernelIdeal) (hSbReferenceIdeal := hSbReferenceIdeal) (hPre_q_and_k_finite := hPre_q_and_k_finite)
    ∧ preserves_InprojKernel_InprojKernelIdeal
    ∧ algebraic_InprojKernelIdeal_InprojReferenceIdeal (hInprojKernelIdeal := hInprojKernelIdeal) (hInprojReferenceIdeal := hInprojReferenceIdeal)
    ∧ preserves_NsaKernel_NsaKernelIdeal
    ∧ algebraic_NsaKernelIdeal_NsaReferenceIdeal (hNsaKernelIdeal := hNsaKernelIdeal) (hNsaReferenceIdeal := hNsaReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== Pre_q_and_k_finite.lean ====
abbrev S8x4096x768 : Shape := ⟨3, ![8, 4096, 768]⟩
abbrev S8x4096x512 : Shape := ⟨3, ![8, 4096, 512]⟩
abbrev S_ : Shape := ⟨0, ![]⟩

class Facts : Prop where
  slices_S8x4096x768_S8x4096x512_0_0_0 : S8x4096x768.Slices ![0, 0, 0] S8x4096x512
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x768 .f32) : IVec S_ 1 :=
  let main_v0 : FVec F S8x4096x512 .f32 := (extractStridedSlice S8x4096x512 ![0, 0, 0] · slices_S8x4096x768_S8x4096x512_0_0_0) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  main_v4
-- ==== FfnKernel.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== MergeKernel.lean ====
abbrev S8x4096x1024 : Shape := ⟨3, ![8, 4096, 1024]⟩
abbrev S1024 : Shape := ⟨1, ![1024]⟩
abbrev S1024x6804 : Shape := ⟨2, ![1024, 6804]⟩
abbrev S8x4096x256 : Shape := ⟨3, ![8, 4096, 256]⟩
abbrev S4x256x1024 : Shape := ⟨3, ![4, 256, 1024]⟩
abbrev S1024x1024 : Shape := ⟨2, ![1024, 1024]⟩
abbrev S1024x4096 : Shape := ⟨2, ![1024, 4096]⟩
abbrev S32768x256 : Shape := ⟨2, ![32768, 256]⟩
abbrev S32768x1024 : Shape := ⟨2, ![32768, 1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6804, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S4x256x1024, .f32⟩
  | .hbm, ⟨8, _⟩ => ⟨S1024x1024, .f32⟩
  | .hbm, ⟨9, _⟩ => ⟨S1024x4096, .f32⟩
  | .hbm, ⟨10, _⟩ => ⟨S1024x4096, .bf16⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x1024, .f32⟩
  | .hbm, ⟨16, _⟩ => ⟨S1x1024, .f32⟩
  | .hbm, ⟨17, _⟩ => ⟨S4x256x1024, .bf16⟩
  | .hbm, ⟨18, _⟩ => ⟨S1024x1024, .bf16⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S8x4096x1024 : Shape := ⟨3, ![8, 4096, 1024]⟩
abbrev S1024 : Shape := ⟨1, ![1024]⟩
abbrev S1024x6804 : Shape := ⟨2, ![1024, 6804]⟩
abbrev S8x4096x256 : Shape := ⟨3, ![8, 4096, 256]⟩
abbrev S4x256x1024 : Shape := ⟨3, ![4, 256, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6804 : Shape := ⟨3, ![8, 4096, 6804]⟩
abbrev S8x4096x4096 : Shape := ⟨3, ![8, 4096, 4096]⟩
abbrev S8x4096x4x1024 : Shape := ⟨4, ![8, 4096, 4, 1024]⟩
abbrev S8x4096x1x1024 : Shape := ⟨4, ![8, 4096, 1, 1024]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6804, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S4x256x1024, .f32⟩
  | .hbm, ⟨8, _⟩ => ⟨S1024x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x6804, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S8x4096x4x1024, .f32⟩
  | .hbm, ⟨36, _⟩ => ⟨S_, .f32⟩
  | .hbm, ⟨37, _⟩ => ⟨S8x4096x1024, .f32⟩
  | .hbm, ⟨38, _⟩ => ⟨S8x4096x1x1024, .f32⟩
  | .hbm, ⟨39, _⟩ => ⟨S8x4096x1024, .f32⟩
  | .hbm, ⟨40, _⟩ => ⟨S1x256x1024, .f32⟩
  | .hbm, ⟨41, _⟩ => ⟨S256x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1x1024, .f32⟩
  | .hbm, ⟨46, _⟩ => ⟨S8x4096x1024, .f32⟩
  | .hbm, ⟨47, _⟩ => ⟨S1x256x1024, .f32⟩
  | .hbm, ⟨48, _⟩ => ⟨S256x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1x1024, .f32⟩
  | .hbm, ⟨53, _⟩ => ⟨S8x4096x1024, .f32⟩
  | .hbm, ⟨54, _⟩ => ⟨S1x256x1024, .f32⟩
  | .hbm, ⟨55, _⟩ => ⟨S256x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1x1024, .f32⟩
  | .hbm, ⟨60, _⟩ => ⟨S8x4096x1024, .f32⟩
  | .hbm, ⟨61, _⟩ => ⟨S1x256x1024, .f32⟩
  | .hbm, ⟨62, _⟩ => ⟨S256x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== SbKernel.lean ====
abbrev S8x4096x768 : Shape := ⟨3, ![8, 4096, 768]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x256 : Shape := ⟨3, ![8, 4096, 256]⟩
abbrev S1x256x256 : Shape := ⟨3, ![1, 256, 256]⟩
abbrev S1x4096x256 : Shape := ⟨3, ![1, 4096, 256]⟩
abbrev S4x256x64 : Shape := ⟨3, ![4, 256, 64]⟩
abbrev S4x4096x64 : Shape := ⟨3, ![4, 4096, 64]⟩
abbrev S4x256x1 : Shape := ⟨3, ![4, 256, 1]⟩
abbrev S1x4096x64 : Shape := ⟨3, ![1, 4096, 64]⟩
abbrev S4096x64 : Shape := ⟨2, ![4096, 64]⟩
abbrev S256x64 : Shape := ⟨2, ![256, 64]⟩
abbrev S1x256x64 : Shape := ⟨3, ![1, 256, 64]⟩
abbrev S1x256x1 : Shape := ⟨3, ![1, 256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8x4096x768, .f32⟩
  | .hbm, ⟨1, _⟩ => ⟨S8x4096x768, .bf16⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S256x256, .bf16⟩
  | .hbm, ⟨10, _⟩ => ⟨S8x4096x256, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S256x256, .bf16⟩
  | .local _ .vmem, ⟨7, _⟩ => ⟨S1x256x256, .f32⟩
  | .local _ .vmem, ⟨8, _⟩ => ⟨S1x256x256, .f32⟩
  | .local _ .vmem, ⟨9, _⟩ => ⟨S4x256x64, .bf16⟩
  | .local _ .vmem, ⟨10, _⟩ => ⟨S4x4096x64, .bf16⟩
  | .local _ .vmem, ⟨11, _⟩ => ⟨S4x4096x64, .bf16⟩
  | .local _ .vmem, ⟨12, _⟩ => ⟨S4x256x64, .f32⟩
  | .local _ .vmem, ⟨13, _⟩ => ⟨S4x256x1, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v45 : BitVec 32 := Scalar.muli arg1 c256_i32
  v45
def k0_off1 (i : grid0.Coords) : Fin 3 → Nat :=
  let c0_26 : Index := 0#32
  let arg1 : BitVec 32 := BitVec.ofNat 32 (i 1).val
  let c256_i32 : BitVec 32 := 256#32
  let v45 : BitVec 32 := Scalar.muli arg1 c256_i32
  let v46 : BitVec 32 := v45
  let v52 : Index := Scalar.indexCast v46
  let c0_27 : Index := 0#32
  ![0, v52.toNat, 0]
def k0_off2 (i : grid0.Coords) : Fin 3 → Nat :=
  let c1_37 : Index := 1#32
  let arg1 : BitVec 32 := BitVec.ofNat 32 (i 1).val
  let c256_i32 : BitVec 32 := 256#32
  let v45 : BitVec 32 := Scalar.muli arg1 c256_i32
  let v46 : BitVec 32 := v45
  let v72 : Index := Scalar.indexCast v46
  let c0_38 : Index := 0#32
  ![1, v72.toNat, 0]
def k0_off3 (i : grid0.Coords) : Fin 3 → Nat :=
  let c2_48 : Index := 2#32
  let arg1 : BitVec 32 := BitVec.ofNat 32 (i 1).val
  let c256_i32 : BitVec 32 := 256#32
  let v45 : BitVec 32 := Scalar.muli arg1 c256_i32
  let v46 : BitVec 32 := v45
  let v92 : Index := Scalar.indexCast v46
  let c0_49 : Index := 0#32
  ![2, v92.toNat, 0]
def k0_off4 (i : grid0.Coords) : Fin 3 → Nat :=
  let c3_59 : Index := 3#32
  let arg1 : BitVec 32 := BitVec.ofNat 32 (i 1).val
  let c256_i32 : BitVec 32 := 256#32
  let v45 : BitVec 32 := Scalar.muli arg1 c256_i32
  let v46 : BitVec 32 := v45
  let v112 : Index := Scalar.indexCast v46
  let c0_60 : Index := 0#32
  ![3, v112.toNat, 0]
@[reducible] def k0_t1_loop (i : grid0.Coords) : Scf.Loop 32 :=
  let c1_i32_155 : BitVec 32 := 1#32
  let arg1 : BitVec 32 := BitVec.ofNat 32 (i 1).val
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_158 : BitVec 32 := 1#32
  ⟨c1_i32_155, v267, c1_i32_158⟩
def k0_mult2 (i : grid0.Coords) (k0_t1 : Fin (k0_t1_loop i).trips) : BitVec 32 :=
  let arg1 : BitVec 32 := BitVec.ofNat 32 (i 1).val
  let c1_i32_155 : BitVec 32 := 1#32
  let c1_i32_158 : BitVec 32 := 1#32
  let arg12 : BitVec 32 := Scf.iv c1_i32_155 c1_i32_158 k0_t1
  let v282 : BitVec 32 := Scalar.subi arg1 arg12
  let c256_i32_175 : BitVec 32 := 256#32
  let v283 : BitVec 32 := Scalar.muli v282 c256_i32_175
  v283
def k0_off5 (i : grid0.Coords) (k0_t1 : Fin (k0_t1_loop i).trips) : Fin 3 → Nat :=
  let c0_179 : Index := 0#32
  let arg1 : BitVec 32 := BitVec.ofNat 32 (i 1).val
  let c1_i32_155 : BitVec 32 := 1#32
  let c1_i32_158 : BitVec 32 := 1#32
  let arg12 : BitVec 32 := Scf.iv c1_i32_155 c1_i32_158 k0_t1
  let v282 : BitVec 32 := Scalar.subi arg1 arg12
  let c256_i32_175 : BitVec 32 := 256#32
  let v283 : BitVec 32 := Scalar.muli v282 c256_i32_175
  let v284 : BitVec 32 := v283
  let v287 : Index := Scalar.indexCast v284
  let c0_180 : Index := 0#32
  ![0, v287.toNat, 0]
def k0_off6 (i : grid0.Coords) (k0_t1 : Fin (k0_t1_loop i).trips) : Fin 3 → Nat :=
  let c1_189 : Index := 1#32
  let arg1 : BitVec 32 := BitVec.ofNat 32 (i 1).val
  let c1_i32_155 : BitVec 32 := 1#32
  let c1_i32_158 : BitVec 32 := 1#32
  let arg12 : BitVec 32 := Scf.iv c1_i32_155 c1_i32_158 k0_t1
  let v282 : BitVec 32 := Scalar.subi arg1 arg12
  let c256_i32_175 : BitVec 32 := 256#32
  let v283 : BitVec 32 := Scalar.muli v282 c256_i32_175
  let v284 : BitVec 32 := v283
  let v305 : Index := Scalar.indexCast v284
  let c0_190 : Index := 0#32
  ![1, v305.toNat, 0]
def k0_off7 (i : grid0.Coords) (k0_t1 : Fin (k0_t1_loop i).trips) : Fin 3 → Nat :=
  let c2_199 : Index := 2#32
  let arg1 : BitVec 32 := BitVec.ofNat 32 (i 1).val
  let c1_i32_155 : BitVec 32 := 1#32
  let c1_i32_158 : BitVec 32 := 1#32
  let arg12 : BitVec 32 := Scf.iv c1_i32_155 c1_i32_158 k0_t1
  let v282 : BitVec 32 := Scalar.subi arg1 arg12
  let c256_i32_175 : BitVec 32 := 256#32
  let v283 : BitVec 32 := Scalar.muli v282 c256_i32_175
  let v284 : BitVec 32 := v283
  let v323 : Index := Scalar.indexCast v284
  let c0_200 : Index := 0#32
  ![2, v323.toNat, 0]
def k0_off8 (i : grid0.Coords) (k0_t1 : Fin (k0_t1_loop i).trips) : Fin 3 → Nat :=
  let c3_209 : Index := 3#32
  let arg1 : BitVec 32 := BitVec.ofNat 32 (i 1).val
  let c1_i32_155 : BitVec 32 := 1#32
  let c1_i32_158 : BitVec 32 := 1#32
  let arg12 : BitVec 32 := Scf.iv c1_i32_155 c1_i32_158 k0_t1
  let v282 : BitVec 32 := Scalar.subi arg1 arg12
  let c256_i32_175 : BitVec 32 := 256#32
  let v283 : BitVec 32 := Scalar.muli v282 c256_i32_175
  let v284 : BitVec 32 := v283
  let v341 : Index := Scalar.indexCast v284
  let c0_210 : Index := 0#32
  ![3, v341.toNat, 0]
@[reducible] def k0_t2_loop (i : grid0.Coords) : Scf.Loop 32 :=
  let c1_i32_155 : BitVec 32 := 1#32
  let arg1 : BitVec 32 := BitVec.ofNat 32 (i 1).val
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let v264 : BitVec 32 := Scalar.addi c1_i32_155 v263
  let c1_i32_159 : BitVec 32 := 1#32
  ⟨v267, v264, c1_i32_159⟩
def k0_mult3 (i : grid0.Coords) (k0_t2 : Fin (k0_t2_loop i).trips) : BitVec 32 :=
  let arg1 : BitVec 32 := BitVec.ofNat 32 (i 1).val
  let c1_i32_155 : BitVec 32 := 1#32
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_159 : BitVec 32 := 1#32
  let arg12 : BitVec 32 := Scf.iv v267 c1_i32_159 k0_t2
  let v282 : BitVec 32 := Scalar.subi arg1 arg12
  let c256_i32_175 : BitVec 32 := 256#32
  let v283 : BitVec 32 := Scalar.muli v282 c256_i32_175
  v283
def k0_off9 (i : grid0.Coords) (k0_t2 : Fin (k0_t2_loop i).trips) : Fin 3 → Nat :=
  let c0_179 : Index := 0#32
  let arg1 : BitVec 32 := BitVec.ofNat 32 (i 1).val
  let c1_i32_155 : BitVec 32 := 1#32
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_159 : BitVec 32 := 1#32
  let arg12 : BitVec 32 := Scf.iv v267 c1_i32_159 k0_t2
  let v282 : BitVec 32 := Scalar.subi arg1 arg12
  let c256_i32_175 : BitVec 32 := 256#32
  let v283 : BitVec 32 := Scalar.muli v282 c256_i32_175
  let v284 : BitVec 32 := v283
  let v287 : Index := Scalar.indexCast v284
  let c0_180 : Index := 0#32
  ![0, v287.toNat, 0]
def k0_off10 (i : grid0.Coords) (k0_t2 : Fin (k0_t2_loop i).trips) : Fin 3 → Nat :=
  let c1_189 : Index := 1#32
  let arg1 : BitVec 32 := BitVec.ofNat 32 (i 1).val
  let c1_i32_155 : BitVec 32 := 1#32
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_159 : BitVec 32 := 1#32
  let arg12 : BitVec 32 := Scf.iv v267 c1_i32_159 k0_t2
  let v282 : BitVec 32 := Scalar.subi arg1 arg12
  let c256_i32_175 : BitVec 32 := 256#32
  let v283 : BitVec 32 := Scalar.muli v282 c256_i32_175
  let v284 : BitVec 32 := v283
  let v305 : Index := Scalar.indexCast v284
  let c0_190 : Index := 0#32
  ![1, v305.toNat, 0]
def k0_off11 (i : grid0.Coords) (k0_t2 : Fin (k0_t2_loop i).trips) : Fin 3 → Nat :=
  let c2_199 : Index := 2#32
  let arg1 : BitVec 32 := BitVec.ofNat 32 (i 1).val
  let c1_i32_155 : BitVec 32 := 1#32
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_159 : BitVec 32 := 1#32
  let arg12 : BitVec 32 := Scf.iv v267 c1_i32_159 k0_t2
  let v282 : BitVec 32 := Scalar.subi arg1 arg12
  let c256_i32_175 : BitVec 32 := 256#32
  let v283 : BitVec 32 := Scalar.muli v282 c256_i32_175
  let v284 : BitVec 32 := v283
  let v323 : Index := Scalar.indexCast v284
  let c0_200 : Index := 0#32
  ![2, v323.toNat, 0]
def k0_off12 (i : grid0.Coords) (k0_t2 : Fin (k0_t2_loop i).trips) : Fin 3 → Nat :=
  let c3_209 : Index := 3#32
  let arg1 : BitVec 32 := BitVec.ofNat 32 (i 1).val
  let c1_i32_155 : BitVec 32 := 1#32
  let c1_i32 : BitVec 32 := 1#32
  let v262 : BitVec 32 := Scalar.addi arg1 c1_i32
  let v263 : BitVec 32 := Scalar.subi v262 c1_i32_155
  let c1_i32_157 : BitVec 32 := 1#32
  let v265 : BitVec 32 := Scalar.divsi v263 c1_i32_157
  let v266 : BitVec 32 := Scalar.muli v265 c1_i32_157
  let v267 : BitVec 32 := Scalar.addi c1_i32_155 v266
  let c1_i32_159 : BitVec 32 := 1#32
  let arg12 : BitVec 32 := Scf.iv v267 c1_i32_159 k0_t2
  let v282 : BitVec 32 := Scalar.subi arg1 arg12
  let c256_i32_175 : BitVec 32 := 256#32
  let v283 : BitVec 32 := Scalar.muli v282 c256_i32_175
  let v284 : BitVec 32 := v283
  let v341 : Index := Scalar.indexCast v284
  let c0_210 : Index := 0#32
  ![3, v341.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbKernelIdeal.lean ====
variable {F : FTy → Type} [FloatOps F] [Named F]
def κ : String → Option EReal := fun
  | "inv_ln2" => some (((Real.log 2)⁻¹ : ℝ) : EReal)
  | "scale_log2e" => some (((8 * (Real.log 2))⁻¹ : ℝ) : EReal)
  | _ => none
-- ==== SbReferenceIdeal.lean ====
abbrev S8x4096x768 : Shape := ⟨3, ![8, 4096, 768]⟩
abbrev S8x4096x256 : Shape := ⟨3, ![8, 4096, 256]⟩
abbrev S8x4096x4x64 : Shape := ⟨4, ![8, 4096, 4, 64]⟩
abbrev S8x4x4096x4096 : Shape := ⟨4, ![8, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x64x4096 : Shape := ⟨4, ![8, 4, 64, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x4x64, .f32⟩
  | .hbm, ⟨5, _⟩ => ⟨S8x4096x4x64, .f32⟩
  | .hbm, ⟨6, _⟩ => ⟨S8x4096x4x64, .f32⟩
  | .hbm, ⟨7, _⟩ => ⟨S8x4x4096x4096, .f32⟩
  | .hbm, ⟨8, _⟩ => ⟨S_, .f32⟩
  | .hbm, ⟨9, _⟩ => ⟨S8x4x4096x4096, .f32⟩
  | .hbm, ⟨10, _⟩ => ⟨S8x4x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S8x4x4096x4096, .f32⟩
  | .hbm, ⟨19, _⟩ => ⟨S8x4x4096x4096, .f32⟩
  | .hbm, ⟨20, _⟩ => ⟨S8x4x4096x4096, .f32⟩
  | .hbm, ⟨21, _⟩ => ⟨S8x4x4096x4096, .f32⟩
  | .hbm, ⟨22, _⟩ => ⟨S8x4x4096x4096, .i1⟩
  | .hbm, ⟨23, _⟩ => ⟨S8x4x4096x4096, .f32⟩
  | .hbm, ⟨24, _⟩ => ⟨S8x4x4096x4096, .f32⟩
  | .hbm, ⟨25, _⟩ => ⟨S8x4x4096x4096, .f32⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S8x4x4096x4096, .f32⟩
  | .hbm, ⟨30, _⟩ => ⟨S8x4x4096x4096, .f32⟩
  | .hbm, ⟨31, _⟩ => ⟨S8x4x4096x4096, .f32⟩
  | .hbm, ⟨32, _⟩ => ⟨S_, .f32⟩
  | .hbm, ⟨33, _⟩ => ⟨S_, .f32⟩
  | .hbm, ⟨34, _⟩ => ⟨S8x4x4096x4096, .i1⟩
  | .hbm, ⟨35, _⟩ => ⟨S8x4x4096x4096, .f32⟩
  | .hbm, ⟨36, _⟩ => ⟨S8x4x4096x4096, .f32⟩
  | .hbm, ⟨37, _⟩ => ⟨S_, .f32⟩
  | .hbm, ⟨38, _⟩ => ⟨S_, .f32⟩
  | .hbm, ⟨39, _⟩ => ⟨S8x4x4096x4096, .f32⟩
  | .hbm, ⟨40, _⟩ => ⟨S8x4x4096x4096, .f32⟩
  | .hbm, ⟨41, _⟩ => ⟨S8x4x4096x4096, .f32⟩
  | .hbm, ⟨42, _⟩ => ⟨S_, .f32⟩
  | .hbm, ⟨43, _⟩ => ⟨S8x4x4096x4096, .f32⟩
  | .hbm, ⟨44, _⟩ => ⟨S8x4x4096x4096, .f32⟩
  | .hbm, ⟨45, _⟩ => ⟨S8x4x4096x4096, .f32⟩
  | .hbm, ⟨46, _⟩ => ⟨S8x4x4096x4096, .f32⟩
  | .hbm, ⟨47, _⟩ => ⟨S8x4x4096x4096, .i1⟩
  | .hbm, ⟨48, _⟩ => ⟨S8x4x4096x4096, .f32⟩
  | .hbm, ⟨49, _⟩ => ⟨S8x4x4096x4096, .f32⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S_, .f32⟩
  | .hbm, ⟨60, _⟩ => ⟨S_, .f32⟩
  | .hbm, ⟨61, _⟩ => ⟨S8x4x4096x4096, .i1⟩
  | .hbm, ⟨62, _⟩ => ⟨S8x4x4096x4096, .f32⟩
  | .hbm, ⟨63, _⟩ => ⟨S8x4x4096x4096, .f32⟩
  | .hbm, ⟨64, _⟩ => ⟨S8x4x64x4096, .f32⟩
  | .hbm, ⟨65, _⟩ => ⟨S8x4096x4x64, .f32⟩
  | .hbm, ⟨66, _⟩ => ⟨S8x4096x256, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_call2_cst : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩

abbrev nD : Nat := 1
abbrev τ : Topo := Topo.v7x

variable {F : FTy → Type} [FloatOps F]
-- ==== InprojKernel.lean ====
abbrev S8x4096x1024 : Shape := ⟨3, ![8, 4096, 1024]⟩
abbrev S1024 : Shape := ⟨1, ![1024]⟩
abbrev S1024x6804 : Shape := ⟨2, ![1024, 6804]⟩
abbrev S32768x1024 : Shape := ⟨2, ![32768, 1024]⟩
abbrev S1x1024 : Shape := ⟨2, ![1, 1024]⟩
abbrev S1024x12 : Shape := ⟨2, ![1024, 12]⟩
abbrev S1024x4 : Shape := ⟨2, ![1024, 4]⟩
abbrev S1024x20 : Shape := ⟨2, ![1024, 20]⟩
abbrev S_ : Shape := ⟨0, ![]⟩
abbrev S1024x128 : Shape := ⟨2, ![1024, 128]⟩
abbrev S1024x256 : Shape := ⟨2, ![1024, 256]⟩
abbrev S1024x384 : Shape := ⟨2, ![1024, 384]⟩
abbrev S1024x768 : Shape := ⟨2, ![1024, 768]⟩
abbrev S1024x2816 : Shape := ⟨2, ![1024, 2816]⟩
abbrev S32768x256 : Shape := ⟨2, ![32768, 256]⟩
abbrev S32768x384 : Shape := ⟨2, ![32768, 384]⟩
abbrev S4096x2048 : Shape := ⟨2, ![4096, 2048]⟩
abbrev S32768x768 : Shape := ⟨2, ![32768, 768]⟩
abbrev S32768x128 : Shape := ⟨2, ![32768, 128]⟩
abbrev S512x1024 : Shape := ⟨2, ![512, 1024]⟩
abbrev S512x256 : Shape := ⟨2, ![512, 256]⟩
abbrev S512x384 : Shape := ⟨2, ![512, 384]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6804, .f32⟩
  | .hbm, ⟨3, _⟩ => ⟨S32768x1024, .f32⟩
  | .hbm, ⟨4, _⟩ => ⟨S1x1024, .f32⟩
  | .hbm, ⟨5, _⟩ => ⟨S1024x12, .f32⟩
  | .hbm, ⟨6, _⟩ => ⟨S1024x4, .f32⟩
  | .hbm, ⟨7, _⟩ => ⟨S1024x4, .f32⟩
  | .hbm, ⟨8, _⟩ => ⟨S1024x20, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x256, .f32⟩
  | .hbm, ⟨13, _⟩ => ⟨S1024x384, .f32⟩
  | .hbm, ⟨14, _⟩ => ⟨S1024x256, .f32⟩
  | .hbm, ⟨15, _⟩ => ⟨S1024x768, .f32⟩
  | .hbm, ⟨16, _⟩ => ⟨S1024x256, .f32⟩
  | .hbm, ⟨17, _⟩ => ⟨S1024x768, .f32⟩
  | .hbm, ⟨18, _⟩ => ⟨S1024x2816, .f32⟩
  | .hbm, ⟨19, _⟩ => ⟨S1024x2816, .bf16⟩
  | .hbm, ⟨20, _⟩ => ⟨S32768x256, .f32⟩
  | .hbm, ⟨21, _⟩ => ⟨S32768x384, .f32⟩
  | .hbm, ⟨22, _⟩ => ⟨S4096x2048, .f32⟩
  | .hbm, ⟨23, _⟩ => ⟨S32768x768, .f32⟩
  | .hbm, ⟨24, _⟩ => ⟨S32768x256, .f32⟩
  | .hbm, ⟨25, _⟩ => ⟨S32768x768, .bf16⟩
  | .hbm, ⟨26, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x256, .f32⟩
  | .local _ .vmem, ⟨5, _⟩ => ⟨S512x256, .f32⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S512x768, .f32⟩
  | .local _ .vmem, ⟨11, _⟩ => ⟨S512x768, .f32⟩
  | .local _ .vmem, ⟨12, _⟩ => ⟨S512x256, .f32⟩
  | .local _ .vmem, ⟨13, _⟩ => ⟨S512x256, .f32⟩
  | .local _ .vmem, ⟨14, _⟩ => ⟨S512x768, .bf16⟩
  | .local _ .vmem, ⟨15, _⟩ => ⟨S512x768, .bf16⟩
  | .local _ .vmem, ⟨16, _⟩ => ⟨S512x128, .f32⟩
  | .local _ .vmem, ⟨17, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojReferenceIdeal.lean ====
abbrev S8x4096x1024 : Shape := ⟨3, ![8, 4096, 1024]⟩
abbrev S1024 : Shape := ⟨1, ![1024]⟩
abbrev S1024x6804 : Shape := ⟨2, ![1024, 6804]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6804 : Shape := ⟨3, ![8, 4096, 6804]⟩
abbrev S32768x6804 : Shape := ⟨2, ![32768, 6804]⟩
abbrev S32768x256 : Shape := ⟨2, ![32768, 256]⟩
abbrev S32768x384 : Shape := ⟨2, ![32768, 384]⟩
abbrev S32768x12 : Shape := ⟨2, ![32768, 12]⟩
abbrev S32768x768 : Shape := ⟨2, ![32768, 768]⟩
abbrev S32768x4 : Shape := ⟨2, ![32768, 4]⟩
abbrev S32768x4096 : Shape := ⟨2, ![32768, 4096]⟩
abbrev S8x4096x256 : Shape := ⟨3, ![8, 4096, 256]⟩
abbrev S4096x8x256 : Shape := ⟨3, ![4096, 8, 256]⟩
abbrev S4096x2048 : Shape := ⟨2, ![4096, 2048]⟩
abbrev S32768x20 : Shape := ⟨2, ![32768, 20]⟩
abbrev S32768x128 : Shape := ⟨2, ![32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6804, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x6804, .f32⟩
  | .hbm, ⟨20, _⟩ => ⟨S32768x6804, .f32⟩
  | .hbm, ⟨21, _⟩ => ⟨S32768x256, .f32⟩
  | .hbm, ⟨22, _⟩ => ⟨S32768x384, .f32⟩
  | .hbm, ⟨23, _⟩ => ⟨S32768x12, .f32⟩
  | .hbm, ⟨24, _⟩ => ⟨S32768x256, .f32⟩
  | .hbm, ⟨25, _⟩ => ⟨S32768x768, .f32⟩
  | .hbm, ⟨26, _⟩ => ⟨S32768x4, .f32⟩
  | .hbm, ⟨27, _⟩ => ⟨S32768x4, .f32⟩
  | .hbm, ⟨28, _⟩ => ⟨S32768x256, .f32⟩
  | .hbm, ⟨29, _⟩ => ⟨S32768x768, .f32⟩
  | .hbm, ⟨30, _⟩ => ⟨S32768x4096, .f32⟩
  | .hbm, ⟨31, _⟩ => ⟨S8x4096x256, .f32⟩
  | .hbm, ⟨32, _⟩ => ⟨S4096x8x256, .f32⟩
  | .hbm, ⟨33, _⟩ => ⟨S4096x2048, .f32⟩
  | .hbm, ⟨34, _⟩ => ⟨S32768x20, .f32⟩
  | .hbm, ⟨35, _⟩ => ⟨S_, .i32⟩
  | .hbm, ⟨36, _⟩ => ⟨S_, .f32⟩
  | .hbm, ⟨37, _⟩ => ⟨S32768x128, .f32⟩
  | .hbm, ⟨38, _⟩ => ⟨S32768x768, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_call0_v0 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== NsaKernel.lean ====
abbrev S8x4096x256 : Shape := ⟨3, ![8, 4096, 256]⟩
abbrev S8x4096x12 : Shape := ⟨3, ![8, 4096, 12]⟩
abbrev S8x4096x8 : Shape := ⟨3, ![8, 4096, 8]⟩
abbrev S64 : Shape := ⟨1, ![64]⟩
abbrev S8x256x64 : Shape := ⟨3, ![8, 256, 64]⟩
abbrev S8x4096x64 : Shape := ⟨3, ![8, 4096, 64]⟩
abbrev S_ : Shape := ⟨0, ![]⟩
abbrev S8x4096x48 : Shape := ⟨3, ![8, 4096, 48]⟩
abbrev S8x4096x128 : Shape := ⟨3, ![8, 4096, 128]⟩
abbrev S8x4096x1 : Shape := ⟨3, ![8, 4096, 1]⟩
abbrev S1x64 : Shape := ⟨2, ![1, 64]⟩
abbrev S256 : Shape := ⟨1, ![256]⟩
abbrev S1x256 : Shape := ⟨2, ![1, 256]⟩
abbrev S64x1 : Shape := ⟨2, ![64, 1]⟩
abbrev S64x256 : Shape := ⟨2, ![64, 256]⟩
abbrev S4 : Shape := ⟨1, ![4]⟩
abbrev S4x1 : Shape := ⟨2, ![4, 1]⟩
abbrev S1024 : Shape := ⟨1, ![1024]⟩
abbrev S1x1024 : Shape := ⟨2, ![1, 1024]⟩
abbrev S4x1024 : Shape := ⟨2, ![4, 1024]⟩
abbrev S4x1x1024 : Shape := ⟨3, ![4, 1, 1024]⟩
abbrev S1x64x1 : Shape := ⟨3, ![1, 64, 1]⟩
abbrev S4x64x1024 : Shape := ⟨3, ![4, 64, 1024]⟩
abbrev S1x256x256 : Shape := ⟨3, ![1, 256, 256]⟩
abbrev S1x256x128 : Shape := ⟨3, ![1, 256, 128]⟩
abbrev S1x256x64 : Shape := ⟨3, ![1, 256, 64]⟩
abbrev S1x4096x64 : Shape := ⟨3, ![1, 4096, 64]⟩
abbrev S1x4096x128 : Shape := ⟨3, ![1, 4096, 128]⟩
abbrev S4x256x64 : Shape := ⟨3, ![4, 256, 64]⟩
abbrev S4x256x1 : Shape := ⟨3, ![4, 256, 1]⟩
abbrev S4x256x128 : Shape := ⟨3, ![4, 256, 128]⟩
abbrev S256x256 : Shape := ⟨2, ![256, 256]⟩
abbrev S256x64 : Shape := ⟨2, ![256, 64]⟩
abbrev S256x1 : Shape := ⟨2, ![256, 1]⟩
abbrev S256x56 : Shape := ⟨2, ![256, 56]⟩
abbrev S256x8 : Shape := ⟨2, ![256, 8]⟩
abbrev S1024x64 : Shape := ⟨2, ![1024, 64]⟩
abbrev S1024x256 : Shape := ⟨2, ![1024, 256]⟩
abbrev S1024x1 : Shape := ⟨2, ![1024, 1]⟩
abbrev S1x64x1024 : Shape := ⟨3, ![1, 64, 1024]⟩
abbrev S64x1024 : Shape := ⟨2, ![64, 1024]⟩
abbrev S256x1024 : Shape := ⟨2, ![256, 1024]⟩
abbrev S1x1024x64 : Shape := ⟨3, ![1, 1024, 64]⟩
abbrev S1x1024x128 : Shape := ⟨3, ![1, 1024, 128]⟩
abbrev S1024x128 : Shape := ⟨2, ![1024, 128]⟩
abbrev S1x256x1 : Shape := ⟨3, ![1, 256, 1]⟩
abbrev S256x128 : Shape := ⟨2, ![256, 128]⟩

abbrev nBuf : Space → Nat
  | .hbm => 97
  | .vmem => 31
  | .smem => 0
  | _ => 0

abbrev bufTy : (tb : Table) → Fin (tcTables nBuf tb) → BufTy
  | .hbm, ⟨0, _⟩ => ⟨S8x4096x256, .f32⟩
  | .hbm, ⟨1, _⟩ => ⟨S8x4096x12, .f32⟩
  | .hbm, ⟨2, _⟩ => ⟨S8x4096x8, .f32⟩
  | .hbm, ⟨3, _⟩ => ⟨S8x4096x8, .f32⟩
  | .hbm, ⟨4, _⟩ => ⟨S64, .f32⟩
  | .hbm, ⟨5, _⟩ => ⟨S8x256x64, .f32⟩
  | .hbm, ⟨6, _⟩ => ⟨S8x256x64, .f32⟩
  | .hbm, ⟨7, _⟩ => ⟨S8x4096x64, .f32⟩
  | .hbm, ⟨8, _⟩ => ⟨S8x4096x64, .f32⟩
  | .hbm, ⟨9, _⟩ => ⟨S8x4096x64, .f32⟩
  | .hbm, ⟨10, _⟩ => ⟨S8x4096x64, .f32⟩
  | .hbm, ⟨11, _⟩ => ⟨S_, .f32⟩
  | .hbm, ⟨12, _⟩ => ⟨S8x4096x48, .f32⟩
  | .hbm, ⟨13, _⟩ => ⟨S_, .f32⟩
  | .hbm, ⟨14, _⟩ => ⟨S8x4096x48, .f32⟩
  | .hbm, ⟨15, _⟩ => ⟨S_, .f32⟩
  | .hbm, ⟨16, _⟩ => ⟨S8x4096x8, .f32⟩
  | .hbm, ⟨17, _⟩ => ⟨S8x4096x64, .f32⟩
  | .hbm, ⟨18, _⟩ => ⟨S8x4096x8, .f32⟩
  | .hbm, ⟨19, _⟩ => ⟨S8x4096x64, .f32⟩
  | .hbm, ⟨20, _⟩ => ⟨S8x4096x64, .f32⟩
  | .hbm, ⟨21, _⟩ => ⟨S_, .i32⟩
  | .hbm, ⟨22, _⟩ => ⟨S_, .f32⟩
  | .hbm, ⟨23, _⟩ => ⟨S8x4096x128, .f32⟩
  | .hbm, ⟨24, _⟩ => ⟨S_, .f32⟩
  | .hbm, ⟨25, _⟩ => ⟨S8x4096x1, .f32⟩
  | .hbm, ⟨26, _⟩ => ⟨S_, .i32⟩
  | .hbm, ⟨27, _⟩ => ⟨S_, .f32⟩
  | .hbm, ⟨28, _⟩ => ⟨S8x4096x64, .f32⟩
  | .hbm, ⟨29, _⟩ => ⟨S8x4096x128, .f32⟩
  | .hbm, ⟨30, _⟩ => ⟨S8x4096x128, .f32⟩
  | .hbm, ⟨31, _⟩ => ⟨S1x64, .f32⟩
  | .hbm, ⟨32, _⟩ => ⟨S8x256x64, .bf16⟩
  | .hbm, ⟨33, _⟩ => ⟨S8x256x64, .bf16⟩
  | .hbm, ⟨34, _⟩ => ⟨S8x4096x64, .bf16⟩
  | .hbm, ⟨35, _⟩ => ⟨S8x4096x128, .bf16⟩
  | .hbm, ⟨36, _⟩ => ⟨S8x4096x64, .bf16⟩
  | .hbm, ⟨37, _⟩ => ⟨S8x4096x128, .bf16⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S1x256, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S64x256, .i32⟩
  | .hbm, ⟨52, _⟩ => ⟨S64x256, .i32⟩
  | .hbm, ⟨53, _⟩ => ⟨S64x256, .i1⟩
  | .hbm, ⟨54, _⟩ => ⟨S1x256, .i32⟩
  | .hbm, ⟨55, _⟩ => ⟨S_, .i32⟩
  | .hbm, ⟨56, _⟩ => ⟨S1x256, .i32⟩
  | .hbm, ⟨57, _⟩ => ⟨S1x256, .i32⟩
  | .hbm, ⟨58, _⟩ => ⟨S64x1, .i32⟩
  | .hbm, ⟨59, _⟩ => ⟨S64x256, .i32⟩
  | .hbm, ⟨60, _⟩ => ⟨S64x256, .i32⟩
  | .hbm, ⟨61, _⟩ => ⟨S64x256, .i1⟩
  | .hbm, ⟨62, _⟩ => ⟨S64x256, .i1⟩
  | .hbm, ⟨63, _⟩ => ⟨S256, .i32⟩
  | .hbm, ⟨64, _⟩ => ⟨S1x256, .i32⟩
  | .hbm, ⟨65, _⟩ => ⟨S_, .i32⟩
  | .hbm, ⟨66, _⟩ => ⟨S1x256, .i32⟩
  | .hbm, ⟨67, _⟩ => ⟨S1x256, .i1⟩
  | .hbm, ⟨68, _⟩ => ⟨S64x256, .i1⟩
  | .hbm, ⟨69, _⟩ => ⟨S64x256, .i1⟩
  | .hbm, ⟨70, _⟩ => ⟨S64x256, .f32⟩
  | .hbm, ⟨71, _⟩ => ⟨S4, .i32⟩
  | .hbm, ⟨72, _⟩ => ⟨S4x1, .i32⟩
  | .hbm, ⟨73, _⟩ => ⟨S_, .i32⟩
  | .hbm, ⟨74, _⟩ => ⟨S4x1, .i32⟩
  | .hbm, ⟨75, _⟩ => ⟨S4x1, .i32⟩
  | .hbm, ⟨76, _⟩ => ⟨S1024, .i32⟩
  | .hbm, ⟨77, _⟩ => ⟨S1x1024, .i32⟩
  | .hbm, ⟨78, _⟩ => ⟨S4x1024, .i32⟩
  | .hbm, ⟨79, _⟩ => ⟨S4x1024, .i32⟩
  | .hbm, ⟨80, _⟩ => ⟨S4x1024, .i32⟩
  | .hbm, ⟨81, _⟩ => ⟨S4x1x1024, .i32⟩
  | .hbm, ⟨82, _⟩ => ⟨S1x64x1, .i32⟩
  | .hbm, ⟨83, _⟩ => ⟨S4x64x1024, .i32⟩
  | .hbm, ⟨84, _⟩ => ⟨S4x64x1024, .i32⟩
  | .hbm, ⟨85, _⟩ => ⟨S4x64x1024, .i1⟩
  | .hbm, ⟨86, _⟩ => ⟨S_, .i32⟩
  | .hbm, ⟨87, _⟩ => ⟨S1x64x1, .i32⟩
  | .hbm, ⟨88, _⟩ => ⟨S1x64x1, .i32⟩
  | .hbm, ⟨89, _⟩ => ⟨S4x64x1024, .i32⟩
  | .hbm, ⟨90, _⟩ => ⟨S4x64x1024, .i32⟩
  | .hbm, ⟨91, _⟩ => ⟨S4x64x1024, .i1⟩
  | .hbm, ⟨92, _⟩ => ⟨S4x64x1024, .i1⟩
  | .hbm, ⟨93, _⟩ => ⟨S4x64x1024, .f32⟩
  | .hbm, ⟨94, _⟩ => ⟨S64x256, .bf16⟩
  | .hbm, ⟨95, _⟩ => ⟨S4x64x1024, .bf16⟩
  | .hbm, ⟨96, _⟩ => ⟨S8x4096x256, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | .local _ .vmem, ⟨10, _⟩ => ⟨S1x64, .f32⟩
  | .local _ .vmem, ⟨11, _⟩ => ⟨S1x256x64, .bf16⟩
  | .local _ .vmem, ⟨12, _⟩ => ⟨S1x256x64, .bf16⟩
  | .local _ .vmem, ⟨13, _⟩ => ⟨S1x256x64, .bf16⟩
  | .local _ .vmem, ⟨14, _⟩ => ⟨S1x256x64, .bf16⟩
  | .local _ .vmem, ⟨15, _⟩ => ⟨S1x4096x64, .bf16⟩
  | .local _ .vmem, ⟨16, _⟩ => ⟨S1x4096x64, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x64, .bf16⟩
  | .local _ .vmem, ⟨20, _⟩ => ⟨S1x4096x64, .bf16⟩
  | .local _ .vmem, ⟨21, _⟩ => ⟨S1x4096x128, .bf16⟩
  | .local _ .vmem, ⟨22, _⟩ => ⟨S1x4096x128, .bf16⟩
  | .local _ .vmem, ⟨23, _⟩ => ⟨S64x256, .bf16⟩
  | .local _ .vmem, ⟨24, _⟩ => ⟨S4x64x1024, .bf16⟩
  | .local _ .vmem, ⟨25, _⟩ => ⟨S1x256x256, .f32⟩
  | .local _ .vmem, ⟨26, _⟩ => ⟨S1x256x256, .f32⟩
  | .local _ .vmem, ⟨27, _⟩ => ⟨S64x256, .f32⟩
  | .local _ .vmem, ⟨28, _⟩ => ⟨S4x256x64, .bf16⟩
  | .local _ .vmem, ⟨29, _⟩ => ⟨S4x256x1, .f32⟩
  | .local _ .vmem, ⟨30, _⟩ => ⟨S4x256x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_v0 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_c_3 : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let c1_i32_425 : BitVec 32 := 1#32
  ⟨c0_i32_422, v1240, c1_i32_425⟩
def k0_mult1 (i : grid0.Coords) (k0_t1 : Fin (k0_t1_loop i).trips) : BitVec 32 :=
  let c0_i32_422 : BitVec 32 := 0#32
  let c1_i32_425 : BitVec 32 := 1#32
  let arg21 : BitVec 32 := Scf.iv c0_i32_422 c1_i32_425 k0_t1
  let c1024_i32_670 : BitVec 32 := 1024#32
  let v1751 : BitVec 32 := Scalar.muli arg21 c1024_i32_670
  v1751
def k0_off1 (i : grid0.Coords) (k0_t1 : Fin (k0_t1_loop i).trips) : Fin 3 → Nat :=
  let c0_i32_422 : BitVec 32 := 0#32
  let c1_i32_425 : BitVec 32 := 1#32
  let arg21 : BitVec 32 := Scf.iv c0_i32_422 c1_i32_425 k0_t1
  let v1753 : Index := Scalar.indexCast arg21
  let c0_671 : Index := 0#32
  let c0_672 : Index := 0#32
  ![v1753.toNat, 0, 0]
def k0_off2 (i : grid0.Coords) (k0_t1 : Fin (k0_t1_loop i).trips) : Fin 3 → Nat :=
  let c0_676 : Index := 0#32
  let c0_i32_422 : BitVec 32 := 0#32
  let c1_i32_425 : BitVec 32 := 1#32
  let arg21 : BitVec 32 := Scf.iv c0_i32_422 c1_i32_425 k0_t1
  let c1024_i32_670 : BitVec 32 := 1024#32
  let v1751 : BitVec 32 := Scalar.muli arg21 c1024_i32_670
  let v1752 : BitVec 32 := v1751
  let v1761 : Index := Scalar.indexCast v1752
  let c0_677 : Index := 0#32
  ![0, v1761.toNat, 0]
def k0_off3 (i : grid0.Coords) (k0_t1 : Fin (k0_t1_loop i).trips) : Fin 3 → Nat :=
  let c0_678 : Index := 0#32
  let c0_i32_422 : BitVec 32 := 0#32
  let c1_i32_425 : BitVec 32 := 1#32
  let arg21 : BitVec 32 := Scf.iv c0_i32_422 c1_i32_425 k0_t1
  let c1024_i32_670 : BitVec 32 := 1024#32
  let v1751 : BitVec 32 := Scalar.muli arg21 c1024_i32_670
  let v1752 : BitVec 32 := v1751
  let v1764 : Index := Scalar.indexCast v1752
  let c0_679 : Index := 0#32
  ![0, v1764.toNat, 0]
@[reducible] def k0_t2_loop (i : grid0.Coords) : Scf.Loop 32 :=
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let v1237 : BitVec 32 := Scalar.addi c0_i32_422 v1236
  let c1_i32_426 : BitVec 32 := 1#32
  ⟨v1240, v1237, c1_i32_426⟩
def k0_mult2 (i : grid0.Coords) (k0_t2 : Fin (k0_t2_loop i).trips) : BitVec 32 :=
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let c1_i32_426 : BitVec 32 := 1#32
  let arg21 : BitVec 32 := Scf.iv v1240 c1_i32_426 k0_t2
  let c1024_i32_670 : BitVec 32 := 1024#32
  let v1751 : BitVec 32 := Scalar.muli arg21 c1024_i32_670
  v1751
def k0_off4 (i : grid0.Coords) (k0_t2 : Fin (k0_t2_loop i).trips) : Fin 3 → Nat :=
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let c1_i32_426 : BitVec 32 := 1#32
  let arg21 : BitVec 32 := Scf.iv v1240 c1_i32_426 k0_t2
  let v1753 : Index := Scalar.indexCast arg21
  let c0_671 : Index := 0#32
  let c0_672 : Index := 0#32
  ![v1753.toNat, 0, 0]
def k0_off5 (i : grid0.Coords) (k0_t2 : Fin (k0_t2_loop i).trips) : Fin 3 → Nat :=
  let c0_676 : Index := 0#32
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let c1_i32_426 : BitVec 32 := 1#32
  let arg21 : BitVec 32 := Scf.iv v1240 c1_i32_426 k0_t2
  let c1024_i32_670 : BitVec 32 := 1024#32
  let v1751 : BitVec 32 := Scalar.muli arg21 c1024_i32_670
  let v1752 : BitVec 32 := v1751
  let v1761 : Index := Scalar.indexCast v1752
  let c0_677 : Index := 0#32
  ![0, v1761.toNat, 0]
def k0_off6 (i : grid0.Coords) (k0_t2 : Fin (k0_t2_loop i).trips) : Fin 3 → Nat :=
  let c0_678 : Index := 0#32
  let c0_i32_422 : BitVec 32 := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1236 : BitVec 32 := Scalar.subi v1235 c0_i32_422
  let c1_i32_424 : BitVec 32 := 1#32
  let v1238 : BitVec 32 := Scalar.divsi v1236 c1_i32_424
  let v1239 : BitVec 32 := Scalar.muli v1238 c1_i32_424
  let v1240 : BitVec 32 := Scalar.addi c0_i32_422 v1239
  let c1_i32_426 : BitVec 32 := 1#32
  let arg21 : BitVec 32 := Scf.iv v1240 c1_i32_426 k0_t2
  let c1024_i32_670 : BitVec 32 := 1024#32
  let v1751 : BitVec 32 := Scalar.muli arg21 c1024_i32_670
  let v1752 : BitVec 32 := v1751
  let v1764 : Index := Scalar.indexCast v1752
  let c0_679 : Index := 0#32
  ![0, v1764.toNat, 0]
def k0_mult3 (i : grid0.Coords) : BitVec 32 :=
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let c1024_i32_427 : BitVec 32 := 1024#32
  let v1243 : BitVec 32 := Scalar.muli v1235 c1024_i32_427
  v1243
def k0_off7 (i : grid0.Coords) : Fin 3 → Nat :=
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let v1245 : Index := Scalar.indexCast v1235
  let c0_428 : Index := 0#32
  let c0_429 : Index := 0#32
  ![v1245.toNat, 0, 0]
def k0_off8 (i : grid0.Coords) : Fin 3 → Nat :=
  let c0_434 : Index := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let c1024_i32_427 : BitVec 32 := 1024#32
  let v1243 : BitVec 32 := Scalar.muli v1235 c1024_i32_427
  let v1244 : BitVec 32 := v1243
  let v1262 : Index := Scalar.indexCast v1244
  let c0_435 : Index := 0#32
  ![0, v1262.toNat, 0]
def k0_off9 (i : grid0.Coords) : Fin 3 → Nat :=
  let c0_436 : Index := 0#32
  let arg1 : BitVec 32 := BitVec.ofNat 32 (i 1).val
  let c256_i32 : BitVec 32 := 256#32
  let v0 : BitVec 32 := Scalar.muli arg1 c256_i32
  let c0_i32_416 : BitVec 32 := 0#32
  let v1220 : BitVec 1 := Scalar.cmpi .sgt v0 c0_i32_416
  let v1221 : BitVec 32 := Scalar.extui v1220
  let c0_i32_417 : BitVec 32 := 0#32
  let v1222 : BitVec 1 := Scalar.cmpi .slt v0 c0_i32_417
  let v1223 : BitVec 32 := Scalar.extui v1222
  let v1224 : BitVec 32 := Scalar.subi v1221 v1223
  let c1024_i32 : BitVec 32 := 1024#32
  let c0_i32_418 : BitVec 32 := 0#32
  let v1225 : BitVec 1 := Scalar.cmpi .sgt c1024_i32 c0_i32_418
  let v1226 : BitVec 32 := Scalar.extui v1225
  let c0_i32_419 : BitVec 32 := 0#32
  let v1227 : BitVec 1 := Scalar.cmpi .slt c1024_i32 c0_i32_419
  let v1228 : BitVec 32 := Scalar.extui v1227
  let v1229 : BitVec 32 := Scalar.subi v1226 v1228
  let v1230 : BitVec 1 := Scalar.cmpi .ne v1224 v1229
  let v1231 : BitVec 32 := Scalar.remsi v0 c1024_i32
  let c0_i32_420 : BitVec 32 := 0#32
  let v1232 : BitVec 1 := Scalar.cmpi .ne v1231 c0_i32_420
  let v1233 : BitVec 1 := Scalar.andi v1230 v1232
  let v1219 : BitVec 32 := Scalar.divsi v0 c1024_i32
  let c1_i32_421 : BitVec 32 := 1#32
  let v1234 : BitVec 32 := Scalar.subi v1219 c1_i32_421
  let v1235 : BitVec 32 := Scalar.select v1233 v1234 v1219
  let c1024_i32_427 : BitVec 32 := 1024#32
  let v1243 : BitVec 32 := Scalar.muli v1235 c1024_i32_427
  let v1244 : BitVec 32 := v1243
  let v1265 : Index := Scalar.indexCast v1244
  let c0_437 : Index := 0#32
  ![0, v1265.toNat, 0]
def k0_mult4 (i : grid0.Coords) : BitVec 32 :=
  let arg1 : BitVec 32 := BitVec.ofNat 32 (i 1).val
  let c256_i32 : BitVec 32 := 256#32
  let v0 : BitVec 32 := Scalar.muli arg1 c256_i32
  let c512_i32 : BitVec 32 := 512#32
  let v1411 : BitVec 32 := Scalar.subi v0 c512_i32
  let c0_i32_526 : BitVec 32 := 0#32
  let v1412 : BitVec 32 := Scalar.addi v1411 c0_i32_526
  let c0_i32_530 : BitVec 32 := 0#32
  let v1426 : BitVec 32 := Scalar.maxsi v1412 c0_i32_530
  v1426
def k0_mult5 (i : grid0.Coords) : BitVec 32 :=
  let arg1 : BitVec 32 := BitVec.ofNat 32 (i 1).val
  let c256_i32 : BitVec 32 := 256#32
  let v0 : BitVec 32 := Scalar.muli arg1 c256_i32
  let c512_i32_531 : BitVec 32 := 512#32
  let v1428 : BitVec 32 := Scalar.subi v0 c512_i32_531
  let c256_i32_532 : BitVec 32 := 256#32
  let v1429 : BitVec 32 := Scalar.addi v1428 c256_i32_532
  let c0_i32_537 : BitVec 32 := 0#32
  let v1443 : BitVec 32 := Scalar.maxsi v1429 c0_i32_537
  v1443
def k0_mult6 (i : grid0.Coords) : BitVec 32 :=
  let arg1 : BitVec 32 := BitVec.ofNat 32 (i 1).val
  let c256_i32 : BitVec 32 := 256#32
  let v0 : BitVec 32 := Scalar.muli arg1 c256_i32
  let c512_i32_538 : BitVec 32 := 512#32
  let v1445 : BitVec 32 := Scalar.subi v0 c512_i32_538
  let c512_i32_539 : BitVec 32 := 512#32
  let v1446 : BitVec 32 := Scalar.addi v1445 c512_i32_539
  let c0_i32_544 : BitVec 32 := 0#32
  let v1460 : BitVec 32 := Scalar.maxsi v1446 c0_i32_544
  v1460
def k0_off10 (i : grid0.Coords) (c0_i32_526 : BitVec 32) : Fin 3 → Nat :=
  let c0_548 : Index := 0#32
  let arg1 : BitVec 32 := BitVec.ofNat 32 (i 1).val
  let c256_i32 : BitVec 32 := 256#32
  let v0 : BitVec 32 := Scalar.muli arg1 c256_i32
  let c512_i32 : BitVec 32 := 512#32
  let v1411 : BitVec 32 := Scalar.subi v0 c512_i32
  let v1412 : BitVec 32 := Scalar.addi v1411 c0_i32_526
  let c0_i32_530 : BitVec 32 := 0#32
  let v1426 : BitVec 32 := Scalar.maxsi v1412 c0_i32_530
  let v1427 : BitVec 32 := v1426
  let v1464 : Index := Scalar.indexCast v1427
  let c0_549 : Index := 0#32
  ![0, v1464.toNat, 0]
def k0_off11 (i : grid0.Coords) (c0_i32_526 : BitVec 32) : Fin 3 → Nat :=
  let c0_621 : Index := 0#32
  let arg1 : BitVec 32 := BitVec.ofNat 32 (i 1).val
  let c256_i32 : BitVec 32 := 256#32
  let v0 : BitVec 32 := Scalar.muli arg1 c256_i32
  let c512_i32 : BitVec 32 := 512#32
  let v1411 : BitVec 32 := Scalar.subi v0 c512_i32
  let v1412 : BitVec 32 := Scalar.addi v1411 c0_i32_526
  let c0_i32_530 : BitVec 32 := 0#32
  let v1426 : BitVec 32 := Scalar.maxsi v1412 c0_i32_530
  let v1427 : BitVec 32 := v1426
  let v1566 : Index := Scalar.indexCast v1427
  let c0_622 : Index := 0#32
  ![0, v1566.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S64x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== NsaKernelIdeal.lean ====
variable {F : FTy → Type} [FloatOps F] [Named F]
def κ : String → Option EReal := fun
  | "mask" => some ⊥
  | "unmask" => some ⊤
  | _ => none
-- ==== NsaReferenceIdeal.lean ====
abbrev S8x4096x256 : Shape := ⟨3, ![8, 4096, 256]⟩
abbrev S8x4096x12 : Shape := ⟨3, ![8, 4096, 12]⟩
abbrev S8x4096x8 : Shape := ⟨3, ![8, 4096, 8]⟩
abbrev S64 : Shape := ⟨1, ![64]⟩
abbrev S8x256x64 : Shape := ⟨3, ![8, 256, 64]⟩
abbrev S8x4096x64 : Shape := ⟨3, ![8, 4096, 64]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x1x8 : Shape := ⟨4, ![8, 4096, 1, 8]⟩
abbrev S8x4096x4x8 : Shape := ⟨4, ![8, 4096, 4, 8]⟩
abbrev S8x4096x4x48 : Shape := ⟨4, ![8, 4096, 4, 48]⟩
abbrev S8x255x64 : Shape := ⟨3, ![8, 255, 64]⟩
abbrev S255 : Shape := ⟨1, ![255]⟩
abbrev S255x1 : Shape := ⟨2, ![255, 1]⟩
abbrev S1x64 : Shape := ⟨2, ![1, 64]⟩
abbrev S255x64 : Shape := ⟨2, ![255, 64]⟩
abbrev S8x64x64x64 : Shape := ⟨4, ![8, 64, 64, 64]⟩
abbrev S8x4096x4x3 : Shape := ⟨4, ![8, 4096, 4, 3]⟩
abbrev S8 : Shape := ⟨1, ![8]⟩
abbrev S8x1x1 : Shape := ⟨3, ![8, 1, 1]⟩
abbrev S4096 : Shape := ⟨1, ![4096]⟩
abbrev S8x255x4096x4 : Shape := ⟨4, ![8, 255, 4096, 4]⟩
abbrev S8x4x4096x255 : Shape := ⟨4, ![8, 4, 4096, 255]⟩
abbrev S1x255 : Shape := ⟨2, ![1, 255]⟩
abbrev S4096x1 : Shape := ⟨2, ![4096, 1]⟩
abbrev S4096x255 : Shape := ⟨2, ![4096, 255]⟩
abbrev S8x4x4096 : Shape := ⟨3, ![8, 4, 4096]⟩
abbrev S8x4x4096x1 : Shape := ⟨4, ![8, 4, 4096, 1]⟩
abbrev S8x64x4x4096 : Shape := ⟨4, ![8, 64, 4, 4096]⟩
abbrev S8x4096x255 : Shape := ⟨3, ![8, 4096, 255]⟩
abbrev S4096x64 : Shape := ⟨2, ![4096, 64]⟩
abbrev S8x4096x16 : Shape := ⟨3, ![8, 4096, 16]⟩
abbrev S8x4096x16x1 : Shape := ⟨4, ![8, 4096, 16, 1]⟩
abbrev S8x4096x16x2 : Shape := ⟨4, ![8, 4096, 16, 2]⟩
abbrev S8x4096x16x64x64 : Shape := ⟨5, ![8, 4096, 16, 64, 64]⟩
abbrev S8x4096x1024x64 : Shape := ⟨4, ![8, 4096, 1024, 64]⟩
abbrev S8x4096x16x64 : Shape := ⟨4, ![8, 4096, 16, 64]⟩
abbrev S8x4096x1024 : Shape := ⟨3, ![8, 4096, 1024]⟩
abbrev S8x4096x1024x4 : Shape := ⟨4, ![8, 4096, 1024, 4]⟩
abbrev S8x4x4096x1024 : Shape := ⟨4, ![8, 4, 4096, 1024]⟩
abbrev S1x4096x1 : Shape := ⟨3, ![1, 4096, 1]⟩
abbrev S8x1x4096x1024 : Shape := ⟨4, ![8, 1, 4096, 1024]⟩
abbrev S1x4096 : Shape := ⟨2, ![1, 4096]⟩
abbrev S4096x4096 : Shape := ⟨2, ![4096, 4096]⟩
abbrev S8x4096x4096x4 : Shape := ⟨4, ![8, 4096, 4096, 4]⟩
abbrev S8x4x4096x4096 : Shape := ⟨4, ![8, 4, 4096, 4096]⟩

abbrev nBuf : Space → Nat
  | .hbm => 312
  | .vmem => 0
  | .smem => 0
  | _ => 0

abbrev hbmTy0_0 (i : Nat) : BufTy := match i % 128 with
  | 0 => ⟨S8x4096x256, .f32⟩
  | 1 => ⟨S8x4096x12, .f32⟩
  | 2 => ⟨S8x4096x8, .f32⟩
  | 3 => ⟨S8x4096x8, .f32⟩
  | 4 => ⟨S64, .f32⟩
  | 5 => ⟨S8x256x64, .f32⟩
  | 6 => ⟨S8x256x64, .f32⟩
  | 7 => ⟨S8x4096x64, .f32⟩
  | 8 => ⟨S8x4096x64, .f32⟩
  | 9 => ⟨S8x4096x64, .f32⟩
  | 10 => ⟨S8x4096x64, .f32⟩
  | 11 => ⟨S8x4096x4x64, .f32⟩
  | 12 => ⟨S8x4096x4x64, .f32⟩
  | 13 => ⟨S_, .f32⟩
  | 14 => ⟨S8x4096x4, .f32⟩
  | 15 => ⟨S8x4096x4x1, .f32⟩
  | 16 => ⟨S_, .f32⟩
  | 17 => ⟨S8x4096x4x1, .f32⟩
  | 18 => ⟨S8x4096x4x1, .f32⟩
  | 19 => ⟨S_, .f32⟩
  | 20 => ⟨S8x4096x4x1, .f32⟩
  | 21 => ⟨S8x4096x4x1, .f32⟩
  | 22 => ⟨S8x4096x4x1, .f32⟩
  | 23 => ⟨S8x4096x4x64, .f32⟩
  | 24 => ⟨S8x4096x4x64, .f32⟩
  | 25 => ⟨S1x1x1x64, .f32⟩
  | 26 => ⟨S8x4096x4x64, .f32⟩
  | 27 => ⟨S8x4096x4x64, .f32⟩
  | 28 => ⟨S8x4096x1x8, .f32⟩
  | 29 => ⟨S8x4096x1x8, .f32⟩
  | 30 => ⟨S8x4096x4x8, .f32⟩
  | 31 => ⟨S8x4096x4x8, .f32⟩
  | 32 => ⟨S8x4096x4x48, .f32⟩
  | 33 => ⟨S8x4096x4x8, .f32⟩
  | 34 => ⟨S8x4096x4x8, .f32⟩
  | 35 => ⟨S8x4096x4x8, .f32⟩
  | 36 => ⟨S8x4096x4x8, .f32⟩
  | 37 => ⟨S8x4096x4x8, .f32⟩
  | 38 => ⟨S8x4096x4x8, .f32⟩
  | 39 => ⟨S8x4096x4x8, .f32⟩
  | 40 => ⟨S8x4096x4x8, .f32⟩
  | 41 => ⟨S8x4096x4x8, .f32⟩
  | 42 => ⟨S8x4096x4x8, .f32⟩
  | 43 => ⟨S8x4096x4x64, .f32⟩
  | 44 => ⟨S8x255x64, .f32⟩
  | 45 => ⟨S8x255x64, .f32⟩
  | 46 => ⟨S255, .i32⟩
  | 47 => ⟨S_, .i32⟩
  | 48 => ⟨S255, .i32⟩
  | 49 => ⟨S255, .i32⟩
  | 50 => ⟨S_, .i32⟩
  | 51 => ⟨S255, .i32⟩
  | 52 => ⟨S255, .i32⟩
  | 53 => ⟨S_, .i32⟩
  | 54 => ⟨S255, .i32⟩
  | 55 => ⟨S255, .i32⟩
  | 56 => ⟨S64, .i32⟩
  | 57 => ⟨S_, .i32⟩
  | 58 => ⟨S64, .i32⟩
  | 59 => ⟨S64, .i32⟩
  | 60 => ⟨S255x1, .i32⟩
  | 61 => ⟨S1x64, .i32⟩
  | 62 => ⟨S_, .i32⟩
  | 63 => ⟨S1x64, .i32⟩
  | 64 => ⟨S1x64, .i32⟩
  | 65 => ⟨S255x64, .i32⟩
  | 66 => ⟨S255x64, .i32⟩
  | 67 => ⟨S255x64, .i1⟩
  | 68 => ⟨S255x1, .i32⟩
  | 69 => ⟨S_, .i32⟩
  | 70 => ⟨S255x1, .i32⟩
  | 71 => ⟨S255x1, .i32⟩
  | 72 => ⟨S1x64, .i32⟩
  | 73 => ⟨S255x64, .i32⟩
  | 74 => ⟨S255x64, .i32⟩
  | 75 => ⟨S255x64, .i1⟩
  | 76 => ⟨S255x64, .i1⟩
  | 77 => ⟨S255x64, .f32⟩
  | 78 => ⟨S8x64x64x64, .f32⟩
  | 79 => ⟨S8x64x64x64, .f32⟩
  | 80 => ⟨S8x4096x12, .f32⟩
  | 81 => ⟨S8x4096x12, .f32⟩
  | 82 => ⟨S_, .f32⟩
  | 83 => ⟨S8x4096x12, .f32⟩
  | 84 => ⟨S8x4096x12, .f32⟩
  | 85 => ⟨S_, .f32⟩
  | 86 => ⟨S8x4096x12, .f32⟩
  | 87 => ⟨S8x4096x12, .f32⟩
  | 88 => ⟨S8x4096x4x3, .f32⟩
  | 89 => ⟨S8, .i32⟩
  | 90 => ⟨S8x1x1, .i32⟩
  | 91 => ⟨S64, .i32⟩
  | 92 => ⟨S4096, .i32⟩
  | 93 => ⟨S8x255x4096x4, .f32⟩
  | 94 => ⟨S8x4x4096x255, .f32⟩
  | 95 => ⟨S_, .f32⟩
  | 96 => ⟨S8x4x4096x255, .f32⟩
  | 97 => ⟨S8x4x4096x255, .f32⟩
  | 98 => ⟨S1x255, .i32⟩
  | 99 => ⟨S4096x1, .i32⟩
  | 100 => ⟨S4096x255, .i32⟩
  | 101 => ⟨S4096x255, .i32⟩
  | 102 => ⟨S4096x255, .i1⟩
  | 103 => ⟨S8x4x4096x255, .i1⟩
  | 104 => ⟨S_, .f32⟩
  | 105 => ⟨S8x4x4096x255, .f32⟩
  | 106 => ⟨S8x4x4096x255, .f32⟩
  | 107 => ⟨S_, .f32⟩
  | 108 => ⟨S8x4x4096, .f32⟩
  | 109 => ⟨S8x4x4096x1, .f32⟩
  | 110 => ⟨S8x4x4096x255, .f32⟩
  | 111 => ⟨S8x4x4096x255, .f32⟩
  | 112 => ⟨S8x4x4096x255, .f32⟩
  | 113 => ⟨S8x4x4096x255, .i1⟩
  | 114 => ⟨S_, .f32⟩
  | 115 => ⟨S8x4x4096x255, .f32⟩
  | 116 => ⟨S8x4x4096x255, .f32⟩
  | 117 => ⟨S_, .f32⟩
  | 118 => ⟨S8x4x4096, .f32⟩
  | 119 => ⟨S8x4x4096x1, .f32⟩
  | 120 => ⟨S_, .f32⟩
  | 121 => ⟨S8x4x4096x1, .f32⟩
  | 122 => ⟨S8x4x4096x1, .f32⟩
  | 123 => ⟨S8x4x4096x255, .f32⟩
  | 124 => ⟨S8x4x4096x255, .f32⟩
  | 125 => ⟨S8x64x4x4096, .f32⟩
  | 126 => ⟨S8x4096x4x64, .f32⟩
  | 127 => ⟨S_, .f32⟩
  | _ => ⟨S8x4096x256, .f32⟩

abbrev hbmTy0_1 (i : Nat) : BufTy := match i % 128 with
  | 0 => ⟨S8x4096x255, .f32⟩
  | 1 => ⟨S8x4096x64, .f32⟩
  | 2 => ⟨S1x64, .i32⟩
  | 3 => ⟨S_, .i32⟩
  | 4 => ⟨S_, .i32⟩
  | 5 => ⟨S4096, .i32⟩
  | 6 => ⟨S4096, .i32⟩
  | 7 => ⟨S4096, .i32⟩
  | 8 => ⟨S_, .i32⟩
  | 9 => ⟨S4096, .i32⟩
  | 10 => ⟨S4096, .i1⟩
  | 11 => ⟨S4096, .i32⟩
  | 12 => ⟨S4096, .i32⟩
  | 13 => ⟨S_, .i32⟩
  | 14 => ⟨S4096, .i32⟩
  | 15 => ⟨S4096, .i1⟩
  | 16 => ⟨S4096, .i1⟩
  | 17 => ⟨S_, .i32⟩
  | 18 => ⟨S4096, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096x1, .i32⟩
  | 25 => ⟨S4096x64, .i32⟩
  | 26 => ⟨S4096x64, .i32⟩
  | 27 => ⟨S4096x64, .i1⟩
  | 28 => ⟨S1x64, .i32⟩
  | 29 => ⟨S_, .i32⟩
  | 30 => ⟨S1x64, .i32⟩
  | 31 => ⟨S1x64, .i1⟩
  | 32 => ⟨S4096x64, .i1⟩
  | 33 => ⟨S4096x64, .i1⟩
  | 34 => ⟨S4096x64, .i1⟩
  | 35 => ⟨S1x64, .i32⟩
  | 36 => ⟨S4096x1, .i32⟩
  | 37 => ⟨S4096x64, .i32⟩
  | 38 => ⟨S4096x64, .i32⟩
  | 39 => ⟨S4096x64, .i1⟩
  | 40 => ⟨S8x4096x64, .i1⟩
  | 41 => ⟨S_, .f32⟩
  | 42 => ⟨S8x4096x64, .f32⟩
  | 43 => ⟨S8x4096x64, .f32⟩
  | 44 => ⟨S8x4096x64, .i1⟩
  | 45 => ⟨S_, .f32⟩
  | 46 => ⟨S8x4096x64, .f32⟩
  | 47 => ⟨S8x4096x64, .f32⟩
  | 48 => ⟨S8x4096x16, .f32⟩
  | 49 => ⟨S8x4096x16, .i32⟩
  | 50 => ⟨S_, .i32⟩
  | 51 => ⟨S8x1x1, .i32⟩
  | 52 => ⟨S8x1x1, .i1⟩
  | 53 => ⟨S_, .i32⟩
  | 54 => ⟨S8x1x1, .i32⟩
  | 55 => ⟨S8x1x1, .i32⟩
  | 56 => ⟨S8x1x1, .i32⟩
  | 57 => ⟨S_, .i32⟩
  | 58 => ⟨S8x4096x16, .i32⟩
  | 59 => ⟨S8x4096x16, .i1⟩
  | 60 => ⟨S_, .i32⟩
  | 61 => ⟨S8x4096x16, .i32⟩
  | 62 => ⟨S8x4096x16, .i32⟩
  | 63 => ⟨S8x4096x16, .i32⟩
  | 64 => ⟨S8x4096x16, .i32⟩
  | 65 => ⟨S8x4096x16x1, .i32⟩
  | 66 => ⟨S8x4096x16x1, .i32⟩
  | 67 => ⟨S8x4096x16x2, .i32⟩
  | 68 => ⟨S8x4096x16x64x64, .f32⟩
  | 69 => ⟨S8x4096x1024x64, .f32⟩
  | 70 => ⟨S_, .i32⟩
  | 71 => ⟨S8x1x1, .i32⟩
  | 72 => ⟨S8x1x1, .i1⟩
  | 73 => ⟨S_, .i32⟩
  | 74 => ⟨S8x1x1, .i32⟩
  | 75 => ⟨S8x1x1, .i32⟩
  | 76 => ⟨S8x1x1, .i32⟩
  | 77 => ⟨S_, .i32⟩
  | 78 => ⟨S8x4096x16, .i32⟩
  | 79 => ⟨S8x4096x16, .i1⟩
  | 80 => ⟨S_, .i32⟩
  | 81 => ⟨S8x4096x16, .i32⟩
  | 82 => ⟨S8x4096x16, .i32⟩
  | 83 => ⟨S8x4096x16, .i32⟩
  | 84 => ⟨S8x4096x16, .i32⟩
  | 85 => ⟨S8x4096x16x1, .i32⟩
  | 86 => ⟨S8x4096x16x1, .i32⟩
  | 87 => ⟨S8x4096x16x2, .i32⟩
  | 88 => ⟨S8x4096x16x64x64, .f32⟩
  | 89 => ⟨S8x4096x1024x64, .f32⟩
  | 90 => ⟨S8x4096x16x1, .i32⟩
  | 91 => ⟨S_, .i32⟩
  | 92 => ⟨S8x4096x16x1, .i32⟩
  | 93 => ⟨S8x4096x16x1, .i32⟩
  | 94 => ⟨S1x1x1x64, .i32⟩
  | 95 => ⟨S8x4096x16x64, .i32⟩
  | 96 => ⟨S8x4096x16x64, .i32⟩
  | 97 => ⟨S8x4096x16x64, .i32⟩
  | 98 => ⟨S8x4096x1024, .i32⟩
  | 99 => ⟨S8x4096x1024x4, .f32⟩
  | 100 => ⟨S8x4x4096x1024, .f32⟩
  | 101 => ⟨S_, .f32⟩
  | 102 => ⟨S8x4x4096x1024, .f32⟩
  | 103 => ⟨S8x4x4096x1024, .f32⟩
  | 104 => ⟨S1x4096x1, .i32⟩
  | 105 => ⟨S8x4096x1024, .i32⟩
  | 106 => ⟨S8x4096x1024, .i1⟩
  | 107 => ⟨S8x1x4096x1024, .i1⟩
  | 108 => ⟨S8x4x4096x1024, .i1⟩
  | 109 => ⟨S_, .f32⟩
  | 110 => ⟨S8x4x4096x1024, .f32⟩
  | 111 => ⟨S8x4x4096x1024, .f32⟩
  | 112 => ⟨S_, .f32⟩
  | 113 => ⟨S8x4x4096, .f32⟩
  | 114 => ⟨S8x4x4096x1, .f32⟩
  | 115 => ⟨S8x4x4096x1024, .f32⟩
  | 116 => ⟨S8x4x4096x1024, .f32⟩
  | 117 => ⟨S8x4x4096x1024, .f32⟩
  | 118 => ⟨S8x4x4096x1024, .i1⟩
  | 119 => ⟨S_, .f32⟩
  | 120 => ⟨S8x4x4096x1024, .f32⟩
  | 121 => ⟨S8x4x4096x1024, .f32⟩
  | 122 => ⟨S_, .f32⟩
  | 123 => ⟨S8x4x4096, .f32⟩
  | 124 => ⟨S8x4x4096x1, .f32⟩
  | 125 => ⟨S_, .f32⟩
  | 126 => ⟨S8x4x4096x1, .f32⟩
  | 127 => ⟨S8x4x4096x1, .f32⟩
  | _ => ⟨S8x4096x256, .f32⟩

abbrev hbmTy0_2 (i : Nat) : BufTy := match i % 128 with
  | 0 => ⟨S8x4x4096x1024, .f32⟩
  | 1 => ⟨S8x4x4096x1024, .f32⟩
  | 2 => ⟨S8x4096x4x64, .f32⟩
  | 3 => ⟨S4096x1, .i32⟩
  | 4 => ⟨S1x4096, .i32⟩
  | 5 => ⟨S4096x4096, .i32⟩
  | 6 => ⟨S4096x4096, .i32⟩
  | 7 => ⟨S4096x4096, .i32⟩
  | 8 => ⟨S_, .i32⟩
  | 9 => ⟨S4096x4096, .i32⟩
  | 10 => ⟨S4096x4096, .i1⟩
  | 11 => ⟨S_, .i32⟩
  | 12 => ⟨S4096x4096, .i32⟩
  | 13 => ⟨S4096x4096, .i1⟩
  | 14 => ⟨S4096x4096, .i1⟩
  | 15 => ⟨S8x4096x4096x4, .f32⟩
  | 16 => ⟨S8x4x4096x4096, .f32⟩
  | 17 => ⟨S_, .f32⟩
  | 18 => ⟨S8x4x4096x4096, .f32⟩
  | 19 => ⟨S8x4x4096x4096, .f32⟩
  | 20 => ⟨S8x4x4096x4096, .i1⟩
  | 21 => ⟨S_, .f32⟩
  | 22 => ⟨S8x4x4096x4096, .f32⟩
  | 23 => ⟨S8x4x4096x4096, .f32⟩
  | 24 => ⟨S_, .f32⟩
  | 25 => ⟨S8x4x4096, .f32⟩
  | 26 => ⟨S8x4x4096x1, .f32⟩
  | 27 => ⟨S8x4x4096x4096, .f32⟩
  | 28 => ⟨S8x4x4096x4096, .f32⟩
  | 29 => ⟨S8x4x4096x4096, .f32⟩
  | 30 => ⟨S8x4x4096x4096, .i1⟩
  | 31 => ⟨S_, .f32⟩
  | 32 => ⟨S8x4x4096x4096, .f32⟩
  | 33 => ⟨S8x4x4096x4096, .f32⟩
  | 34 => ⟨S_, .f32⟩
  | 35 => ⟨S8x4x4096, .f32⟩
  | 36 => ⟨S8x4x4096x1, .f32⟩
  | 37 => ⟨S_, .f32⟩
  | 38 => ⟨S8x4x4096x1, .f32⟩
  | 39 => ⟨S8x4x4096x1, .f32⟩
  | 40 => ⟨S8x4x4096x4096, .f32⟩
  | 41 => ⟨S8x4x4096x4096, .f32⟩
  | 42 => ⟨S8x64x4x4096, .f32⟩
  | 43 => ⟨S8x4096x4x64, .f32⟩
  | 44 => ⟨S8x4096x4x1, .f32⟩
  | 45 => ⟨S8x4096x4x64, .f32⟩
  | 46 => ⟨S8x4096x4x64, .f32⟩
  | 47 => ⟨S8x4096x4x1, .f32⟩
  | 48 => ⟨S8x4096x4x64, .f32⟩
  | 49 => ⟨S8x4096x4x64, .f32⟩
  | 50 => ⟨S8x4096x4x64, .f32⟩
  | 51 => ⟨S8x4096x4x1, .f32⟩
  | 52 => ⟨S8x4096x4x64, .f32⟩
  | 53 => ⟨S8x4096x4x64, .f32⟩
  | 54 => ⟨S8x4096x4x64, .f32⟩
  | 55 => ⟨S8x4096x256, .f32⟩
  | _ => ⟨S8x4096x256, .f32⟩

abbrev hbmTy (i : Nat) : BufTy := match i / 128 with
  | 0 => hbmTy0_0 i
  | 1 => hbmTy0_1 i
  | 2 => hbmTy0_2 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_10 : Ref sig .tc := ⟨.hbm, 104, rfl⟩
abbrev main_v81 : Ref sig .tc := ⟨.hbm, 105, rfl⟩
abbrev main_v82 : Ref sig .tc := ⟨.hbm, 106, rfl⟩
abbrev main_cst_11 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_12 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_16 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_call0_v5 : Ref sig .tc := ⟨.hbm, 137, rfl⟩
abbrev main_call0_v6 : Ref sig .tc := ⟨.hbm, 138, rfl⟩
abbrev main_call0_v7 : Ref sig .tc := ⟨.hbm, 139, rfl⟩
abbrev main_call0_v8 : Ref sig .tc := ⟨.hbm, 140, rfl⟩
abbrev main_call0_c : Ref sig .tc := ⟨.hbm, 141, rfl⟩
abbrev main_call0_v9 : Ref sig .tc := ⟨.hbm, 142, rfl⟩
abbrev main_call0_v10 : Ref sig .tc := ⟨.hbm, 143, rfl⟩
abbrev main_call0_v11 : Ref sig .tc := ⟨.hbm, 144, rfl⟩
abbrev main_call0_c_0 : Ref sig .tc := ⟨.hbm, 145, rfl⟩
abbrev main_call0_v12 : Ref sig .tc := ⟨.hbm, 146, rfl⟩
abbrev main_call0_v13 : Ref sig .tc := ⟨.hbm, 147, rfl⟩
abbrev main_v102 : Ref sig .tc := ⟨.hbm, 148, rfl⟩
abbrev main_c_17 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_18 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_19 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_20 : Ref sig .tc := ⟨.hbm, 173, rfl⟩
abbrev main_v124 : Ref sig .tc := ⟨.hbm, 174, rfl⟩
abbrev main_v125 : Ref sig .tc := ⟨.hbm, 175, rfl⟩
abbrev main_values : Ref sig .tc := ⟨.hbm, 176, rfl⟩
abbrev main_indices : Ref sig .tc := ⟨.hbm, 177, rfl⟩
abbrev main_c_21 : Ref sig .tc := ⟨.hbm, 178, rfl⟩
abbrev main_v126 : Ref sig .tc := ⟨.hbm, 179, rfl⟩
abbrev main_v127 : Ref sig .tc := ⟨.hbm, 180, rfl⟩
abbrev main_c_22 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_23 : Ref sig .tc := ⟨.hbm, 185, rfl⟩
abbrev main_v131 : Ref sig .tc := ⟨.hbm, 186, rfl⟩
abbrev main_v132 : Ref sig .tc := ⟨.hbm, 187, rfl⟩
abbrev main_c_24 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_25 : Ref sig .tc := ⟨.hbm, 198, rfl⟩
abbrev main_v142 : Ref sig .tc := ⟨.hbm, 199, rfl⟩
abbrev main_v143 : Ref sig .tc := ⟨.hbm, 200, rfl⟩
abbrev main_c_26 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_27 : Ref sig .tc := ⟨.hbm, 205, rfl⟩
abbrev main_v147 : Ref sig .tc := ⟨.hbm, 206, rfl⟩
abbrev main_v148 : Ref sig .tc := ⟨.hbm, 207, rfl⟩
abbrev main_c_28 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_c_29 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_30 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_31 : Ref sig .tc := ⟨.hbm, 237, rfl⟩
abbrev main_v175 : Ref sig .tc := ⟨.hbm, 238, rfl⟩
abbrev main_v176 : Ref sig .tc := ⟨.hbm, 239, rfl⟩
abbrev main_cst_32 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_33 : Ref sig .tc := ⟨.hbm, 247, rfl⟩
abbrev main_v183 : Ref sig .tc := ⟨.hbm, 248, rfl⟩
abbrev main_v184 : Ref sig .tc := ⟨.hbm, 249, rfl⟩
abbrev main_cst_34 : Ref sig .tc := ⟨.hbm, 250, rfl⟩
abbrev main_v185 : Ref sig .tc := ⟨.hbm, 251, rfl⟩
abbrev main_v186 : Ref sig .tc := ⟨.hbm, 252, rfl⟩
abbrev main_cst_35 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_c_36 : Ref sig .tc := ⟨.hbm, 264, rfl⟩
abbrev main_v197 : Ref sig .tc := ⟨.hbm, 265, rfl⟩
abbrev main_v198 : Ref sig .tc := ⟨.hbm, 266, rfl⟩
abbrev main_c_37 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_38 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_39 : Ref sig .tc := ⟨.hbm, 277, rfl⟩
abbrev main_v207 : Ref sig .tc := ⟨.hbm, 278, rfl⟩
abbrev main_v208 : Ref sig .tc := ⟨.hbm, 279, rfl⟩
abbrev main_cst_40 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_cst_41 : Ref sig .tc := ⟨.hbm, 287, rfl⟩
abbrev main_v215 : Ref sig .tc := ⟨.hbm, 288, rfl⟩
abbrev main_v216 : Ref sig .tc := ⟨.hbm, 289, rfl⟩
abbrev main_cst_42 : Ref sig .tc := ⟨.hbm, 290, rfl⟩
abbrev main_v217 : Ref sig .tc := ⟨.hbm, 291, rfl⟩
abbrev main_v218 : Ref sig .tc := ⟨.hbm, 292, rfl⟩
abbrev main_cst_43 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩

abbrev nD : Nat := 1
abbrev τ : Topo := Topo.v7x

variable {F : FTy → Type} [FloatOps F]
-- ==== PrepKernel.lean ====
abbrev S8x4096x384 : Shape := ⟨3, ![8, 4096, 384]⟩
abbrev S8x4096x8 : Shape := ⟨3, ![8, 4096, 8]⟩
abbrev S3x64 : Shape := ⟨2, ![3, 64]⟩
abbrev S2x32x64 : Shape := ⟨3, ![2, 32, 64]⟩
abbrev S2048x256 : Shape := ⟨2, ![2048, 256]⟩
abbrev S256x64 : Shape := ⟨2, ![256, 64]⟩
abbrev S_ : Shape := ⟨0, ![]⟩
abbrev S8x4096x48 : Shape := ⟨3, ![8, 4096, 48]⟩
abbrev S8x4096x64 : Shape := ⟨3, ![8, 4096, 64]⟩
abbrev S8x256x1024 : Shape := ⟨3, ![8, 256, 1024]⟩
abbrev S4x1024 : Shape := ⟨2, ![4, 1024]⟩
abbrev S8x256x64 : Shape := ⟨3, ![8, 256, 64]⟩
abbrev S8x4096x128 : Shape := ⟨3, ![8, 4096, 128]⟩
abbrev S1x4096x384 : Shape := ⟨3, ![1, 4096, 384]⟩
abbrev S1x256x1024 : Shape := ⟨3, ![1, 256, 1024]⟩
abbrev S1x4096x64 : Shape := ⟨3, ![1, 4096, 64]⟩
abbrev S1x256x64 : Shape := ⟨3, ![1, 256, 64]⟩
abbrev S1x4096x128 : Shape := ⟨3, ![1, 4096, 128]⟩
abbrev S256x256 : Shape := ⟨2, ![256, 256]⟩
abbrev S1x1024 : Shape := ⟨2, ![1, 1024]⟩
abbrev S256x1024 : Shape := ⟨2, ![256, 1024]⟩
abbrev S1024x256 : Shape := ⟨2, ![1024, 256]⟩
abbrev S1x64 : Shape := ⟨2, ![1, 64]⟩
abbrev S256 : Shape := ⟨1, ![256]⟩
abbrev S256x1 : Shape := ⟨2, ![256, 1]⟩
abbrev S4096x64 : Shape := ⟨2, ![4096, 64]⟩
abbrev S4096 : Shape := ⟨1, ![4096]⟩
abbrev S4096x1 : Shape := ⟨2, ![4096, 1]⟩
abbrev S4096x56 : Shape := ⟨2, ![4096, 56]⟩
abbrev S4096x8 : Shape := ⟨2, ![4096, 8]⟩
abbrev S4096x128 : Shape := ⟨2, ![4096, 128]⟩

abbrev nBuf : Space → Nat
  | .hbm => 34
  | .vmem => 30
  | .smem => 0
  | _ => 0

abbrev bufTy : (tb : Table) → Fin (tcTables nBuf tb) → BufTy
  | .hbm, ⟨0, _⟩ => ⟨S8x4096x384, .f32⟩
  | .hbm, ⟨1, _⟩ => ⟨S8x4096x8, .f32⟩
  | .hbm, ⟨2, _⟩ => ⟨S8x4096x8, .f32⟩
  | .hbm, ⟨3, _⟩ => ⟨S3x64, .f32⟩
  | .hbm, ⟨4, _⟩ => ⟨S2x32x64, .f32⟩
  | .hbm, ⟨5, _⟩ => ⟨S2048x256, .f32⟩
  | .hbm, ⟨6, _⟩ => ⟨S256x64, .f32⟩
  | .hbm, ⟨7, _⟩ => ⟨S2048x256, .f32⟩
  | .hbm, ⟨8, _⟩ => ⟨S256x64, .f32⟩
  | .hbm, ⟨9, _⟩ => ⟨S_, .f32⟩
  | .hbm, ⟨10, _⟩ => ⟨S8x4096x48, .f32⟩
  | .hbm, ⟨11, _⟩ => ⟨S_, .f32⟩
  | .hbm, ⟨12, _⟩ => ⟨S8x4096x48, .f32⟩
  | .hbm, ⟨13, _⟩ => ⟨S_, .f32⟩
  | .hbm, ⟨14, _⟩ => ⟨S8x4096x8, .f32⟩
  | .hbm, ⟨15, _⟩ => ⟨S8x4096x64, .f32⟩
  | .hbm, ⟨16, _⟩ => ⟨S8x4096x8, .f32⟩
  | .hbm, ⟨17, _⟩ => ⟨S8x4096x64, .f32⟩
  | .hbm, ⟨18, _⟩ => ⟨S8x4096x64, .f32⟩
  | .hbm, ⟨19, _⟩ => ⟨S8x4096x64, .f32⟩
  | .hbm, ⟨20, _⟩ => ⟨S8x256x1024, .f32⟩
  | .hbm, ⟨21, _⟩ => ⟨S8x4096x64, .f32⟩
  | .hbm, ⟨22, _⟩ => ⟨S8x256x1024, .f32⟩
  | .hbm, ⟨23, _⟩ => ⟨S4x1024, .f32⟩
  | .hbm, ⟨24, _⟩ => ⟨S2048x256, .bf16⟩
  | .hbm, ⟨25, _⟩ => ⟨S256x64, .bf16⟩
  | .hbm, ⟨26, _⟩ => ⟨S2048x256, .bf16⟩
  | .hbm, ⟨27, _⟩ => ⟨S256x64, .bf16⟩
  | .hbm, ⟨28, _⟩ => ⟨S8x256x64, .bf16⟩
  | .hbm, ⟨29, _⟩ => ⟨S8x256x64, .bf16⟩
  | .hbm, ⟨30, _⟩ => ⟨S8x4096x64, .bf16⟩
  | .hbm, ⟨31, _⟩ => ⟨S8x4096x128, .bf16⟩
  | .hbm, ⟨32, _⟩ => ⟨S8x4096x64, .bf16⟩
  | .hbm, ⟨33, _⟩ => ⟨S8x4096x128, .bf16⟩
  | .local _ .vmem, ⟨0, _⟩ => ⟨S1x4096x384, .f32⟩
  | .local _ .vmem, ⟨1, _⟩ => ⟨S1x4096x384, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S4x1024, .f32⟩
  | .local _ .vmem, ⟨7, _⟩ => ⟨S2048x256, .bf16⟩
  | .local _ .vmem, ⟨8, _⟩ => ⟨S256x64, .bf16⟩
  | .local _ .vmem, ⟨9, _⟩ => ⟨S2048x256, .bf16⟩
  | .local _ .vmem, ⟨10, _⟩ => ⟨S256x64, .bf16⟩
  | .local _ .vmem, ⟨11, _⟩ => ⟨S3x64, .f32⟩
  | .local _ .vmem, ⟨12, _⟩ => ⟨S1x4096x64, .f32⟩
  | .local _ .vmem, ⟨13, _⟩ => ⟨S1x4096x64, .f32⟩
  | .local _ .vmem, ⟨14, _⟩ => ⟨S1x4096x64, .f32⟩
  | .local _ .vmem, ⟨15, _⟩ => ⟨S1x4096x64, .f32⟩
  | .local _ .vmem, ⟨16, _⟩ => ⟨S1x4096x64, .f32⟩
  | .local _ .vmem, ⟨17, _⟩ => ⟨S1x4096x64, .f32⟩
  | .local _ .vmem, ⟨18, _⟩ => ⟨S1x256x64, .bf16⟩
  | .local _ .vmem, ⟨19, _⟩ => ⟨S1x256x64, .bf16⟩
  | .local _ .vmem, ⟨20, _⟩ => ⟨S1x256x64, .bf16⟩
  | .local _ .vmem, ⟨21, _⟩ => ⟨S1x256x64, .bf16⟩
  | .local _ .vmem, ⟨22, _⟩ => ⟨S1x4096x64, .bf16⟩
  | .local _ .vmem, ⟨23, _⟩ => ⟨S1x4096x64, .bf16⟩
  | .local _ .vmem, ⟨24, _⟩ => ⟨S1x4096x128, .bf16⟩
  | .local _ .vmem, ⟨25, _⟩ => ⟨S1x4096x128, .bf16⟩
  | .local _ .vmem, ⟨26, _⟩ => ⟨S1x4096x64, .bf16⟩
  | .local _ .vmem, ⟨27, _⟩ => ⟨S1x4096x64, .bf16⟩
  | .local _ .vmem, ⟨28, _⟩ => ⟨S1x4096x128, .bf16⟩
  | .local _ .vmem, ⟨29, _⟩ => ⟨S1x4096x128, .bf16⟩
  | _, _ => ⟨S8x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4096x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4096x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4096x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepReferenceIdeal.lean ====
abbrev S8x4096x384 : Shape := ⟨3, ![8, 4096, 384]⟩
abbrev S8x4096x8 : Shape := ⟨3, ![8, 4096, 8]⟩
abbrev S3x64 : Shape := ⟨2, ![3, 64]⟩
abbrev S2x32x64 : Shape := ⟨3, ![2, 32, 64]⟩
abbrev S2048x256 : Shape := ⟨2, ![2048, 256]⟩
abbrev S256x64 : Shape := ⟨2, ![256, 64]⟩
abbrev S8x4096x64 : Shape := ⟨3, ![8, 4096, 64]⟩
abbrev S256 : Shape := ⟨1, ![256]⟩
abbrev S_ : Shape := ⟨0, ![]⟩
abbrev S256x1 : Shape := ⟨2, ![256, 1]⟩
abbrev S32 : Shape := ⟨1, ![32]⟩
abbrev S1x32 : Shape := ⟨2, ![1, 32]⟩
abbrev S256x32 : Shape := ⟨2, ![256, 32]⟩
abbrev S1x256x32x1 : Shape := ⟨4, ![1, 256, 32, 1]⟩
abbrev S1x32x64 : Shape := ⟨3, ![1, 32, 64]⟩
abbrev S32x64 : Shape := ⟨2, ![32, 64]⟩
abbrev S8x4112x64 : Shape := ⟨3, ![8, 4112, 64]⟩
abbrev S256x32x1 : Shape := ⟨3, ![256, 32, 1]⟩
abbrev S8x256x32x64 : Shape := ⟨4, ![8, 256, 32, 64]⟩
abbrev S1x1x32x64 : Shape := ⟨4, ![1, 1, 32, 64]⟩
abbrev S8x256x2048 : Shape := ⟨3, ![8, 256, 2048]⟩
abbrev S8x256x256 : Shape := ⟨3, ![8, 256, 256]⟩
abbrev S8x256x64 : Shape := ⟨3, ![8, 256, 64]⟩
abbrev S1x64 : Shape := ⟨2, ![1, 64]⟩
abbrev S64 : Shape := ⟨1, ![64]⟩
abbrev S8x256 : Shape := ⟨2, ![8, 256]⟩
abbrev S8x256x1 : Shape := ⟨3, ![8, 256, 1]⟩
abbrev S1x1x64 : Shape := ⟨3, ![1, 1, 64]⟩
abbrev S8x4096 : Shape := ⟨2, ![8, 4096]⟩
abbrev S8x4096x1 : Shape := ⟨3, ![8, 4096, 1]⟩
abbrev S8x4096x48 : Shape := ⟨3, ![8, 4096, 48]⟩
abbrev S8x4096x128 : Shape := ⟨3, ![8, 4096, 128]⟩

abbrev nBuf : Space → Nat
  | .hbm => 198
  | .vmem => 0
  | .smem => 0
  | _ => 0

abbrev hbmTy0_0 (i : Nat) : BufTy := match i % 128 with
  | 0 => ⟨S8x4096x384, .f32⟩
  | 1 => ⟨S8x4096x8, .f32⟩
  | 2 => ⟨S8x4096x8, .f32⟩
  | 3 => ⟨S3x64, .f32⟩
  | 4 => ⟨S2x32x64, .f32⟩
  | 5 => ⟨S2048x256, .f32⟩
  | 6 => ⟨S256x64, .f32⟩
  | 7 => ⟨S2048x256, .f32⟩
  | 8 => ⟨S256x64, .f32⟩
  | 9 => ⟨S8x4096x64, .f32⟩
  | 10 => ⟨S8x4096x64, .f32⟩
  | 11 => ⟨S8x4096x64, .f32⟩
  | 12 => ⟨S8x4096x64, .f32⟩
  | 13 => ⟨S8x4096x64, .f32⟩
  | 14 => ⟨S8x4096x64, .f32⟩
  | 15 => ⟨S256, .i32⟩
  | 16 => ⟨S_, .i32⟩
  | 17 => ⟨S256, .i32⟩
  | 18 => ⟨S256, .i32⟩
  | 19 => ⟨S256x1, .i32⟩
  | 20 => ⟨S32, .i32⟩
  | 21 => ⟨S1x32, .i32⟩
  | 22 => ⟨S256x32, .i32⟩
  | 23 => ⟨S256x32, .i32⟩
  | 24 => ⟨S256x32, .i32⟩
  | 25 => ⟨S_, .i32⟩
  | 26 => ⟨S256x32, .i32⟩
  | 27 => ⟨S256x32, .i1⟩
  | 28 => ⟨S1x256x32x1, .i1⟩
  | 29 => ⟨S1x32x64, .f32⟩
  | 30 => ⟨S32x64, .f32⟩
  | 31 => ⟨S_, .i32⟩
  | 32 => ⟨S_, .f32⟩
  | 33 => ⟨S8x4112x64, .f32⟩
  | 34 => ⟨S_, .i32⟩
  | 35 => ⟨S256x32, .i32⟩
  | 36 => ⟨S256x32, .i1⟩
  | 37 => ⟨S_, .i32⟩
  | 38 => ⟨S256x32, .i32⟩
  | 39 => ⟨S256x32, .i32⟩
  | 40 => ⟨S256x32, .i32⟩
  | 41 => ⟨S256x32x1, .i32⟩
  | 42 => ⟨S8x256x32x64, .f32⟩
  | 43 => ⟨S1x1x32x64, .f32⟩
  | 44 => ⟨S8x256x32x64, .f32⟩
  | 45 => ⟨S8x256x32x64, .f32⟩
  | 46 => ⟨S8x256x32x64, .i1⟩
  | 47 => ⟨S_, .f32⟩
  | 48 => ⟨S8x256x32x64, .f32⟩
  | 49 => ⟨S8x256x32x64, .f32⟩
  | 50 => ⟨S8x256x2048, .f32⟩
  | 51 => ⟨S8x256x256, .f32⟩
  | 52 => ⟨S8x256x256, .f32⟩
  | 53 => ⟨S8x256x256, .f32⟩
  | 54 => ⟨S_, .f32⟩
  | 55 => ⟨S8x256x256, .f32⟩
  | 56 => ⟨S8x256x256, .f32⟩
  | 57 => ⟨S8x256x256, .f32⟩
  | 58 => ⟨S_, .f32⟩
  | 59 => ⟨S8x256x256, .f32⟩
  | 60 => ⟨S8x256x256, .f32⟩
  | 61 => ⟨S8x256x256, .f32⟩
  | 62 => ⟨S_, .f32⟩
  | 63 => ⟨S8x256x256, .f32⟩
  | 64 => ⟨S8x256x256, .f32⟩
  | 65 => ⟨S_, .f32⟩
  | 66 => ⟨S8x256x256, .f32⟩
  | 67 => ⟨S8x256x256, .f32⟩
  | 68 => ⟨S8x256x256, .f32⟩
  | 69 => ⟨S8x256x64, .f32⟩
  | 70 => ⟨S1x64, .f32⟩
  | 71 => ⟨S64, .f32⟩
  | 72 => ⟨S8x256x64, .f32⟩
  | 73 => ⟨S_, .f32⟩
  | 74 => ⟨S8x256, .f32⟩
  | 75 => ⟨S8x256x1, .f32⟩
  | 76 => ⟨S_, .f32⟩
  | 77 => ⟨S8x256x1, .f32⟩
  | 78 => ⟨S8x256x1, .f32⟩
  | 79 => ⟨S_, .f32⟩
  | 80 => ⟨S8x256x1, .f32⟩
  | 81 => ⟨S8x256x1, .f32⟩
  | 82 => ⟨S8x256x1, .f32⟩
  | 83 => ⟨S8x256x64, .f32⟩
  | 84 => ⟨S8x256x64, .f32⟩
  | 85 => ⟨S1x1x64, .f32⟩
  | 86 => ⟨S8x256x64, .f32⟩
  | 87 => ⟨S8x256x64, .f32⟩
  | 88 => ⟨S1x32x64, .f32⟩
  | 89 => ⟨S32x64, .f32⟩
  | 90 => ⟨S_, .i32⟩
  | 91 => ⟨S_, .f32⟩
  | 92 => ⟨S8x4112x64, .f32⟩
  | 93 => ⟨S_, .i32⟩
  | 94 => ⟨S256x32, .i32⟩
  | 95 => ⟨S256x32, .i1⟩
  | 96 => ⟨S_, .i32⟩
  | 97 => ⟨S256x32, .i32⟩
  | 98 => ⟨S256x32, .i32⟩
  | 99 => ⟨S256x32, .i32⟩
  | 100 => ⟨S256x32x1, .i32⟩
  | 101 => ⟨S8x256x32x64, .f32⟩
  | 102 => ⟨S1x1x32x64, .f32⟩
  | 103 => ⟨S8x256x32x64, .f32⟩
  | 104 => ⟨S8x256x32x64, .f32⟩
  | 105 => ⟨S8x256x32x64, .i1⟩
  | 106 => ⟨S_, .f32⟩
  | 107 => ⟨S8x256x32x64, .f32⟩
  | 108 => ⟨S8x256x32x64, .f32⟩
  | 109 => ⟨S8x256x2048, .f32⟩
  | 110 => ⟨S8x256x256, .f32⟩
  | 111 => ⟨S8x256x256, .f32⟩
  | 112 => ⟨S8x256x256, .f32⟩
  | 113 => ⟨S_, .f32⟩
  | 114 => ⟨S8x256x256, .f32⟩
  | 115 => ⟨S8x256x256, .f32⟩
  | 116 => ⟨S8x256x256, .f32⟩
  | 117 => ⟨S_, .f32⟩
  | 118 => ⟨S8x256x256, .f32⟩
  | 119 => ⟨S8x256x256, .f32⟩
  | 120 => ⟨S8x256x256, .f32⟩
  | 121 => ⟨S_, .f32⟩
  | 122 => ⟨S8x256x256, .f32⟩
  | 123 => ⟨S8x256x256, .f32⟩
  | 124 => ⟨S_, .f32⟩
  | 125 => ⟨S8x256x256, .f32⟩
  | 126 => ⟨S8x256x256, .f32⟩
  | 127 => ⟨S8x256x256, .f32⟩
  | _ => ⟨S8x4096x384, .f32⟩

abbrev hbmTy0_1 (i : Nat) : BufTy := match i % 128 with
  | 0 => ⟨S8x256x64, .f32⟩
  | 1 => ⟨S1x64, .f32⟩
  | 2 => ⟨S64, .f32⟩
  | 3 => ⟨S8x4096x64, .f32⟩
  | 4 => ⟨S_, .f32⟩
  | 5 => ⟨S8x4096, .f32⟩
  | 6 => ⟨S8x4096x1, .f32⟩
  | 7 => ⟨S_, .f32⟩
  | 8 => ⟨S8x4096x1, .f32⟩
  | 9 => ⟨S8x4096x1, .f32⟩
  | 10 => ⟨S_, .f32⟩
  | 11 => ⟨S8x4096x1, .f32⟩
  | 12 => ⟨S8x4096x1, .f32⟩
  | 13 => ⟨S8x4096x1, .f32⟩
  | 14 => ⟨S8x4096x64, .f32⟩
  | 15 => ⟨S8x4096x64, .f32⟩
  | 16 => ⟨S1x1x64, .f32⟩
  | 17 => ⟨S8x4096x64, .f32⟩
  | 18 => ⟨S8x4096x64, .f32⟩
  | 19 => ⟨S8x4096x8, .f32⟩
  | 20 => ⟨S8x4096x8, .f32⟩
  | 21 => ⟨S8x4096x48, .f32⟩
  | 22 => ⟨S8x4096x8, .f32⟩
  | 23 => ⟨S8x4096x8, .f32⟩
  | 24 => ⟨S8x4096x8, .f32⟩
  | 25 => ⟨S8x4096x8, .f32⟩
  | 26 => ⟨S8x4096x8, .f32⟩
  | 27 => ⟨S8x4096x8, .f32⟩
  | 28 => ⟨S8x4096x64, .f32⟩
  | 29 => ⟨S1x64, .f32⟩
  | 30 => ⟨S64, .f32⟩
  | 31 => ⟨S8x4096x64, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x64, .f32⟩
  | 43 => ⟨S8x4096x64, .f32⟩
  | 44 => ⟨S1x1x64, .f32⟩
  | 45 => ⟨S8x4096x64, .f32⟩
  | 46 => ⟨S8x4096x64, .f32⟩
  | 47 => ⟨S8x4096x8, .f32⟩
  | 48 => ⟨S8x4096x8, .f32⟩
  | 49 => ⟨S8x4096x48, .f32⟩
  | 50 => ⟨S8x4096x8, .f32⟩
  | 51 => ⟨S8x4096x8, .f32⟩
  | 52 => ⟨S8x4096x8, .f32⟩
  | 53 => ⟨S8x4096x8, .f32⟩
  | 54 => ⟨S8x4096x8, .f32⟩
  | 55 => ⟨S8x4096x8, .f32⟩
  | 56 => ⟨S8x4096x64, .f32⟩
  | 57 => ⟨S_, .f32⟩
  | 58 => ⟨S8x4096x1, .f32⟩
  | 59 => ⟨S_, .i32⟩
  | 60 => ⟨S_, .f32⟩
  | 61 => ⟨S8x4096x64, .f32⟩
  | 62 => ⟨S8x4096x128, .f32⟩
  | 63 => ⟨S8x4096x128, .f32⟩
  | 64 => ⟨S8x256x64, .bf16⟩
  | 65 => ⟨S8x256x64, .bf16⟩
  | 66 => ⟨S8x4096x64, .bf16⟩
  | 67 => ⟨S8x4096x128, .bf16⟩
  | 68 => ⟨S8x4096x64, .bf16⟩
  | 69 => ⟨S8x4096x128, .bf16⟩
  | _ => ⟨S8x4096x384, .f32⟩

abbrev hbmTy (i : Nat) : BufTy := match i / 128 with
  | 0 => hbmTy0_0 i
  | 1 => hbmTy0_1 i
  | _ => ⟨S8x4096x384, .f32⟩

abbrev bufTy : (tb : Table) → Fin (tcTables nBuf tb) → BufTy
  | .hbm, ⟨i, _⟩ => hbmTy i
  | _, _ => ⟨S8x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_call0_v0 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_call1_v0 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_cst_21 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_22 : Ref sig .tc := ⟨.hbm, 160, rfl⟩
abbrev main_v125 : Ref sig .tc := ⟨.hbm, 161, rfl⟩
abbrev main_v126 : Ref sig .tc := ⟨.hbm, 162, rfl⟩
abbrev main_cst_23 : Ref sig .tc := ⟨.hbm, 163, rfl⟩
abbrev main_v127 : Ref sig .tc := ⟨.hbm, 164, rfl⟩
abbrev main_v128 : Ref sig .tc := ⟨.hbm, 165, rfl⟩
abbrev main_cst_24 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_c_26 : Ref sig .tc := ⟨.hbm, 187, rfl⟩
abbrev main_call2_v0 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩

abbrev nD : Nat := 1
abbrev τ : Topo := Topo.v7x

variable {F : FTy → Type} [FloatOps F]
-- ==== Proof.Scalars.lean ====
module

public import Idealize.ShloMosaic.PureOps.Ideal.Laws
/-! Scalar functions of the extended reals that several calls of the layer share. -/

@[expose] public section

noncomputable section
open Idealize.ShloMosaic
namespace Cert.Layer

/-- The normalised element: the element times the inverse root of the row's mean square plus the offset, times the gain. -/
def normed (sq : EReal) (x g : EReal) : EReal :=
  x * Ideal.rsqrt (Ideal.div sq (Ideal.ofBits .f32 0x44800000#32) + Ideal.ofBits .f32 0x358637BD#32) * g

/-- The logistic function as both programs compute it, `1 / (1 + exp (-a))`. -/
def sigm (a : EReal) : EReal := Ideal.div 1 (1 + Ideal.exp (-a))

end Cert.Layer
-- ==== Proof.FfnPure.lean ====
module

public import proofs.«01_k».proof.Proof.Gen.FfnKernelIdeal.Skeleton
public import proofs.«01_k».proof.Proof.Gen.FfnReferenceIdeal.Read
public import proofs.«01_k».proof.Proof.Scalars
public import Idealize.ShloMosaic.Lib.Pointwise
/-! The SwiGLU block's arithmetic at one element, over the extended reals: what each payload of the kernel's body and
each stage of the reference holds at an index, as finite sums of its operands' elements. -/

@[expose] public section

set_option maxRecDepth 16384
noncomputable section
open Idealize.ShloMosaic Idealize.ShloMosaic.TcCoe Idealize.SL.Sem
namespace Cert.FfnKernelIdeal.Pure
open Cert.FfnKernelIdeal Cert.FfnKernelIdeal.Gen Cert.Layer

/-- The gated element: the gate's pre-activation through `a ↦ a / (1 + exp (-a))`, times the up-projection. -/
def gated (a u : EReal) : EReal := a * sigm a * u

/-- The first payload stores the root-mean-square normalised rows of the point's block. -/
theorem pay1_at (x : FVec Ideal S512x1024 .f32) (g : FVec Ideal S1x1024 .f32) (r : Fin 512) (k : Fin 1024) :
    k0_pay1 (F := Ideal) x g (ix2 r k) = normed (∑ l : Fin 1024, x (ix2 r l) * x (ix2 r l)) (x (ix2 r k)) (g (ix2 0 k)) := by
  pointwise [k0_pay1]
  rfl

/-- The second payload is the zero fill of the accumulator. -/
theorem pay2_at (j : S512x1024.Idx) : k0_pay2 (F := Ideal) j = 0 := by
  pointwise [k0_pay2]

/-- The third payload adds to the accumulator the point's half of the hidden columns, pushed through the down-projection. -/
theorem pay3_at (h : FVec Ideal S512x1024 .bf16) (wg wu : FVec Ideal S1024x1408 .bf16) (acc : FVec Ideal S512x1024 .f32)
    (wd : FVec Ideal S1408x1024 .bf16) (r : Fin 512) (l : Fin 1024) :
    k0_pay3 (F := Ideal) h wg wu acc wd (ix2 r l) = acc (ix2 r l)
      + ∑ x : Fin 1408, gated (∑ k : Fin 1024, h (ix2 r k) * wg (ix2 k x)) (∑ k : Fin 1024, h (ix2 r k) * wu (ix2 k x)) * wd (ix2 x l) := by
  pointwise [k0_pay3]
  simp only [gated, sigm, zero_sub]

/-- The last payload adds the accumulator to the point's rows. -/
theorem pay4_at (x acc : FVec Ideal S512x1024 .f32) (j : S512x1024.Idx) :
    k0_pay4 (F := Ideal) x acc j = x j + acc j := by
  pointwise [k0_pay4]

open Cert.FfnReferenceIdeal.Read in
/-- The reference's normalised array at an index. -/
theorem ref12_at (X : FVec Ideal Cert.FfnReferenceIdeal.S8x4096x1024 .f32) (g : FVec Ideal Cert.FfnReferenceIdeal.S1024 .f32)
    (b : Fin 8) (s : Fin 4096) (k : Fin 1024) :
    val_main_v12 (F := Ideal) X g (ix3 b s k)
      = normed (∑ l : Fin 1024, X (ix3 b s l) * X (ix3 b s l)) (X (ix3 b s k)) (g (ix1 k)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

open Cert.FfnReferenceIdeal.Read in
/-- The reference's result at an index, over its normalised array. -/
theorem ref_at (X : FVec Ideal Cert.FfnReferenceIdeal.S8x4096x1024 .f32) (g : FVec Ideal Cert.FfnReferenceIdeal.S1024 .f32)
   (wg wu : FVec Ideal Cert.FfnReferenceIdeal.S1024x2816 .f32) (wd : FVec Ideal Cert.FfnReferenceIdeal.S2816x1024 .f32)
    (r : Fin 32768) (l : Fin 1024) :
    val_main_v19 (F := Ideal) X g wg wu wd (ix2 r l) = X (ix3 ⟨r.val / 4096, by omega⟩ ⟨r.val % 4096, by omega⟩ l)
      + ∑ x : Fin 2816, gated
          (∑ k : Fin 1024, val_main_v12 (F := Ideal) X g (ix3 ⟨r.val / 4096, by omega⟩ ⟨r.val % 4096, by omega⟩ k) * wg (ix2 k x))
          (∑ k : Fin 1024, val_main_v12 (F := Ideal) X g (ix3 ⟨r.val / 4096, by omega⟩ ⟨r.val % 4096, by omega⟩ k) * wu (ix2 k x)) * wd (ix2 x l) := by
  pointwise [val_main_v19, val_main_v18, val_main_v17, val_main_v16, val_main_v15, val_main_v14, val_main_v13, val_main_call0_v0, val_main_call0_v1, val_main_call0_v2, val_main_call0_v3, val_main_call0_v4, val_main_call0_v5, val_main_call0_cst, val_main_call0_cst_0]
  rfl
end Cert.FfnKernelIdeal.Pure
-- ==== Proof.FfnValue.lean ====
module

public import proofs.«01_k».proof.Proof.Gen.FfnKernelIdeal.Frame
public import proofs.«01_k».proof.Proof.FfnPure
public import Idealize.ShloMosaic.Lib.Pipeline.ValueKit
public import Idealize.ShloMosaic.Lib.Pipeline.ReadBack
/-! The feed-forward call's result array after the run, block by block, is the reference's. -/

@[expose] public section

set_option maxRecDepth 16384
noncomputable section
open Idealize.ShloMosaic Idealize.ShloMosaic.TcCoe Idealize.SL.Sem
open Idealize.ShloMosaic.Pipeline (Dat)
namespace Cert.FfnKernelIdeal.Bridge
open Cert.FfnKernelIdeal Cert.FfnKernelIdeal.Gen Cert.FfnKernelIdeal.Pure
variable (m : (ℓ : Loc nD τ sig) → Buf (Elt Ideal) ℓ)

/-- Which block of its array each window holds at point `t`. -/
theorem idx : ∀ t : Fin cfg0.N, win0_0.index t = ![t.val / 2, 0] ∧ win0_1.index t = ![0, 0]
    ∧ win0_2.index t = ![0, t.val % 2] ∧ win0_3.index t = ![0, t.val % 2] ∧ win0_4.index t = ![t.val % 2, 0] ∧ win0_5.index t = ![t.val / 2, 0] :=
  (by decide +kernel : ∀ t : Fin grid0.N, _)

/-- After an even point the scratch holds the normalised rows and the first half of the hidden columns' contribution. -/
theorem even_point (c : Dev nD) (t : Fin cfg0.N) (h : t.val % 2 = 0) :
    (outsAt0 m c t.val t.isLt).2 = (k0_pay1 (F := Ideal) (iblk m c 0 t) (iblk m c 1 t),
      k0_pay3 (F := Ideal) (k0_pay1 (F := Ideal) (iblk m c 0 t) (iblk m c 1 t)) (iblk m c 2 t) (iblk m c 3 t) (k0_pay2 (F := Ideal)) (iblk m c 4 t)) := by
  rw [outsAt0_A m c t h (by omega)]
  refine Prod.ext ?_ ?_
  · frame_out
  · frame_out

/-- After an odd point the result block holds the residual plus both halves' contributions. -/
theorem odd_point (c : Dev nD) (t : Fin cfg0.N) (h : t.val % 2 = 1) :
    (outsAt0 m c t.val t.isLt).1 = k0_pay4 (F := Ideal) (iblk m c 0 t)
      (k0_pay3 (F := Ideal) (outsAt0 m c (t.val - 1) (lt_of_le_of_lt (Nat.sub_le _ _) t.isLt)).2.1 (iblk m c 2 t) (iblk m c 3 t)
        (outsAt0 m c (t.val - 1) (lt_of_le_of_lt (Nat.sub_le _ _) t.isLt)).2.2 (iblk m c 4 t)) := by
  rw [outsAt0_B m c t (by omega) h]
  frame_out
  rw [read_unread_whole, read_unread_whole]

/-- The result array after the run is the reference's result over the kernel's arguments. -/
theorem final (c : Dev nD) : (dats m 0 c).arrAt 5 (cfgs 0).N
    = Cert.FfnReferenceIdeal.Read.val_main_v19 (F := Ideal) (m ((c : Thread nD τ).loc main_arg0)) (m ((c : Thread nD τ).loc main_arg1))
       (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have ho : t.val % 2 = 1 := (flush0_5 t).mp hf
  rw [after0_5, odd_point m c t ho]
  have hlt : t.val - 1 < cfg0.N := lt_of_le_of_lt (Nat.sub_le _ _) t.isLt
  have he := even_point m c ⟨t.val - 1, hlt⟩ (by show (t.val - 1) % 2 = 0; omega)
  rw [he]
  dsimp only
  idx_vars y
  have hN : cfg0.N = 128 := N_0
  have htN : t.val < 128 := lt_of_lt_of_eq t.isLt hN
  have hemb : (win0_5.blk t).view.emb (ix2 y0 y1) = ix2 (⟨t.val / 2 * 512 + y0.val, by omega⟩ : Fin 32768) y1 := by
    blk_ext [idx t]
  blk_simp
  rw [hemb, pay4_at, pay3_at, pay3_at, pay2_at, zero_add, ref_at,
    Fin.sum_univ_two_halves 1408 1408 rfl]
  simp only [pay1_at, ref12_at]
  have i1 := idx t
  have i0 := idx ⟨t.val - 1, hlt⟩
  dsimp only at i0
  rw [show (t.val - 1) / 2 = t.val / 2 by omega, show (t.val - 1) % 2 = 0 by omega] at i0
  rw [ho] at i1
  blk_point [iblk, V, i1, i0]
end Cert.FfnKernelIdeal.Bridge
-- ==== Proof.FfnClaims.lean ====
module

public import proofs.«01_k».proof.Defs
public import proofs.«01_k».proof.Proof.Gen.FfnKernel.Frame
public import proofs.«01_k».proof.Proof.Gen.FfnKernelIdeal.Value
public import proofs.«01_k».proof.Proof.FfnValue
public import Idealize.ShloMosaic.Lib.Quiescent
/-! The five claims of the `Ffn` pair of programs. -/

@[expose] public section

set_option maxRecDepth 16384
noncomputable section
open Idealize.ShloMosaic Idealize.ShloMosaic.TcCoe Idealize.SL.Sem
namespace Cert.FfnClaims

/-- The printed kernel runs, leaves its arguments and ends with every counter at zero. -/
theorem frame_p : Cert.quiescent_FfnKernel := fun m ρ _ => Cert.FfnKernel.Gen.frame m ρ

/-- The idealized kernel runs, leaves its arguments and ends with every counter at zero. -/
theorem frame_pi : Cert.quiescent_FfnKernelIdeal := fun m ρ _ => Cert.FfnKernelIdeal.Gen.frame m ρ

/-- The reference runs, leaves its arguments and ends with every counter at zero. -/
theorem frame_ri : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- From agreeing arguments the kernel's result array ends holding what the reference's does. -/
theorem algebraic : Cert.algebraic_FfnKernelIdeal_FfnReferenceIdeal := by
  intro m ρ m' ρ' _ hag
  refine ⟨_, Cert.FfnKernelIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4⟩ := hag c
  refine Eq.trans ?_ (Cert.FfnKernelIdeal.Bridge.final m c).symm
  refine (Cert.FfnReferenceIdeal.Read.val_main_v19_eq (F := Ideal) _ _ _ _ _).trans ?_
  rw [h0, h1, h2, h3, h4]

end Cert.FfnClaims
-- ==== Proof.MergePure.lean ====
module

public import proofs.«01_k».proof.Proof.Gen.MergeKernelIdeal.Frame
public import proofs.«01_k».proof.Proof.Gen.MergeReferenceIdeal.Read
public import proofs.«01_k».proof.Proof.Scalars
public import Idealize.ShloMosaic.Lib.Pointwise
/-! The gated merge's arithmetic at one element, over the extended reals: what each payload of the kernel's body and
each stage of the reference holds at an index, as finite sums of its operands' elements. -/

@[expose] public section

set_option maxRecDepth 16384
noncomputable section
open Idealize.ShloMosaic Idealize.ShloMosaic.TcCoe Idealize.SL.Sem
namespace Cert.MergeKernelIdeal.Pure
open Cert.MergeKernelIdeal Cert.MergeKernelIdeal.Gen Cert.Layer

/-- The point's rows, unchanged. -/
theorem pay2_at (x : FVec Ideal S256x1024 .f32) (j : S256x1024.Idx) : k0_pay2 (F := Ideal) x j = x j := by
  pointwise [k0_pay2]

/-- The point's rows, normalised. -/
theorem pay3_at (x : FVec Ideal S256x1024 .f32) (g : FVec Ideal S1x1024 .f32) (r : Fin 256) (k : Fin 1024) :
    k0_pay3 (F := Ideal) x g (ix2 r k) = normed (∑ l : Fin 1024, x (ix2 r l) * x (ix2 r l)) (x (ix2 r k)) (g (ix2 0 k)) := by
  pointwise [k0_pay3, k0_pay2]
  rfl

/-- One branch's contribution to the merged row: its gate times its projected output. -/
def branch {n : ℕ} (h w : Fin 1024 → EReal) (o p : Fin n → EReal) : EReal :=
  sigm (∑ k : Fin 1024, h k * w k) * ∑ e : Fin n, o e * p e

/-- The first branch's contribution. -/
theorem pay4_at (x : FVec Ideal S256x1024 .f32) (g : FVec Ideal S1x1024 .f32) (w : FVec Ideal S1024x1024 .bf16)
    (o : FVec Ideal S256x256 .f32) (p : FVec Ideal S1x256x1024 .bf16) (r : Fin 256) (d : Fin 1024) :
    k0_pay4 (F := Ideal) x g w o p (ix2 r d)
      = branch (fun k => k0_pay3 (F := Ideal) x g (ix2 r k)) (fun k => w (ix2 k d)) (fun e : Fin 256 => o (ix2 r e)) (fun e => p (ix3 0 e d)) := by
  pointwise [k0_pay4]
  simp only [branch, sigm, zero_sub, zero_add]

/-- The second and third branches' contributions, added to what was merged before. -/
theorem pay5_at (h : FVec Ideal S256x1024 .bf16) (a : FVec Ideal S256x1024 .f32) (w : FVec Ideal S1024x1024 .bf16)
    (o : FVec Ideal S256x256 .f32) (p : FVec Ideal S1x256x1024 .bf16) (w' : FVec Ideal S1024x1024 .bf16)
    (o' : FVec Ideal S256x256 .f32) (p' : FVec Ideal S1x256x1024 .bf16) (r : Fin 256) (d : Fin 1024) :
    k0_pay5 (F := Ideal) h a w o p w' o' p' (ix2 r d)
      = a (ix2 r d) + branch (fun k => h (ix2 r k)) (fun k => w (ix2 k d)) (fun e : Fin 256 => o (ix2 r e)) (fun e => p (ix3 0 e d))
        + branch (fun k => h (ix2 r k)) (fun k => w' (ix2 k d)) (fun e : Fin 256 => o' (ix2 r e)) (fun e => p' (ix3 0 e d)) := by
  pointwise [k0_pay5]
  simp only [branch, sigm, zero_sub]

/-- The last payload adds the fourth branch, projects the merged row and adds the residual. -/
theorem pay1_at (x : FVec Ideal S256x1024 .f32) (h : FVec Ideal S256x1024 .bf16) (a : FVec Ideal S256x1024 .f32)
    (w : FVec Ideal S1024x1024 .bf16) (o : FVec Ideal S256x256 .f32) (p : FVec Ideal S1x256x1024 .bf16)
    (wo : FVec Ideal S1024x1024 .bf16) (r : Fin 256) (l : Fin 1024) :
    k0_pay1 (F := Ideal) x h a w o p wo (ix2 r l)
      = x (ix2 r l) + ∑ d : Fin 1024, (a (ix2 r d)
          + branch (fun k => h (ix2 r k)) (fun k => w (ix2 k d)) (fun e : Fin 256 => o (ix2 r e)) (fun e => p (ix3 0 e d))) * wo (ix2 d l) := by
  pointwise [k0_pay1]
  simp only [branch, sigm, zero_sub]

open Cert.MergeReferenceIdeal.Read in
/-- The reference's normalised array at an index. -/
theorem ref12_at (X : FVec Ideal Cert.MergeReferenceIdeal.S8x4096x1024 .f32) (g : FVec Ideal Cert.MergeReferenceIdeal.S1024 .f32)
    (b : Fin 8) (s : Fin 4096) (k : Fin 1024) :
    val_main_v12 (F := Ideal) X g (ix3 b s k)
      = normed (∑ l : Fin 1024, X (ix3 b s l) * X (ix3 b s l)) (X (ix3 b s k)) (g (ix1 k)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

open Cert.MergeReferenceIdeal.Read in
/-- The reference's gates at an index: branch `j`'s gates are columns `2708 + 1024 j …` of the projection. -/
theorem ref21_at (X : FVec Ideal Cert.MergeReferenceIdeal.S8x4096x1024 .f32) (g : FVec Ideal Cert.MergeReferenceIdeal.S1024 .f32)
    (w : FVec Ideal Cert.MergeReferenceIdeal.S1024x6804 .f32) (b : Fin 8) (s : Fin 4096) (j : Fin 4) (d : Fin 1024) :
    val_main_v21 (F := Ideal) X g w (ix4 b s j d)
      = sigm (∑ k : Fin 1024, val_main_v12 (F := Ideal) X g (ix3 b s k) * w (ix2 k (⟨2708 + (j.val * 1024 + d.val), by omega⟩ : Fin 6804))) := by
  pointwise [val_main_v21, val_main_v20, val_main_v19, val_main_v18, val_main_v17, val_main_v16, val_main_v15, val_main_v14, val_main_v13, val_main_cst_2, val_main_cst_3]
  rfl

open Cert.MergeReferenceIdeal.Read in
/-- The reference's result at an index. -/
theorem ref_at (X : FVec Ideal Cert.MergeReferenceIdeal.S8x4096x1024 .f32) (g : FVec Ideal Cert.MergeReferenceIdeal.S1024 .f32)
    (w : FVec Ideal Cert.MergeReferenceIdeal.S1024x6804 .f32) (o0 o1 o2 o3 : FVec Ideal Cert.MergeReferenceIdeal.S8x4096x256 .f32)
    (p : FVec Ideal Cert.MergeReferenceIdeal.S4x256x1024 .f32) (wo : FVec Ideal Cert.MergeReferenceIdeal.S1024x1024 .f32)
    (r : Fin 32768) (l : Fin 1024) :
    val_main_v53 (F := Ideal) X g w o0 o1 o2 o3 p wo (ix2 r l)
      = X (ix3 ⟨r.val / 4096, by omega⟩ ⟨r.val % 4096, by omega⟩ l) + ∑ d : Fin 1024,
          (val_main_v21 (F := Ideal) X g w (ix4 ⟨r.val / 4096, by omega⟩ ⟨r.val % 4096, by omega⟩ 0 d)
            * ∑ e : Fin 256, o0 (ix3 ⟨r.val / 4096, by omega⟩ ⟨r.val % 4096, by omega⟩ e) * p (ix3 0 e d)
          + val_main_v21 (F := Ideal) X g w (ix4 ⟨r.val / 4096, by omega⟩ ⟨r.val % 4096, by omega⟩ 1 d)
            * ∑ e : Fin 256, o1 (ix3 ⟨r.val / 4096, by omega⟩ ⟨r.val % 4096, by omega⟩ e) * p (ix3 1 e d)
          + val_main_v21 (F := Ideal) X g w (ix4 ⟨r.val / 4096, by omega⟩ ⟨r.val % 4096, by omega⟩ 2 d)
            * ∑ e : Fin 256, o2 (ix3 ⟨r.val / 4096, by omega⟩ ⟨r.val % 4096, by omega⟩ e) * p (ix3 2 e d)
          + val_main_v21 (F := Ideal) X g w (ix4 ⟨r.val / 4096, by omega⟩ ⟨r.val % 4096, by omega⟩ 3 d)
            * ∑ e : Fin 256, o3 (ix3 ⟨r.val / 4096, by omega⟩ ⟨r.val % 4096, by omega⟩ e) * p (ix3 3 e d)) * wo (ix2 d l) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst_4]
end Cert.MergeKernelIdeal.Pure
-- ==== Proof.MergeValue.lean ====
module

public import proofs.«01_k».proof.Proof.Gen.MergeKernelIdeal.Frame
public import proofs.«01_k».proof.Proof.MergePure
public import Idealize.ShloMosaic.Lib.Pipeline.ValueKit
public import Idealize.ShloMosaic.Lib.Pipeline.ReadBack
/-! The merge call's result array after the run, block by block, is the reference's. -/

@[expose] public section

set_option maxRecDepth 16384
noncomputable section
open Idealize.ShloMosaic Idealize.ShloMosaic.TcCoe Idealize.SL.Sem
open Idealize.ShloMosaic.Pipeline (Dat)
namespace Cert.MergeKernelIdeal.Bridge
open Cert.MergeKernelIdeal Cert.MergeKernelIdeal.Gen Cert.MergeKernelIdeal.Pure
variable (m : (ℓ : Loc nD τ sig) → Buf (Elt Ideal) ℓ)

/-- Which block of its array each window holds at point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0] ∧ win0_9.index t = ![t.val, 0] :=
  (by decide +kernel : ∀ t : Fin grid0.N, _)

/-- The result array after the run is the reference's result over the kernel's arguments. -/
theorem final (c : Dev nD) : (dats m 0 c).arrAt 9 (cfgs 0).N
    = Cert.MergeReferenceIdeal.Read.val_main_v53 (F := Ideal) (m ((c : Thread nD τ).loc main_arg0))
       (m ((c : Thread nD τ).loc main_arg1))
       (m ((c : Thread nD τ).loc main_arg2))
       (m ((c : Thread nD τ).loc main_arg3))
       (m ((c : Thread nD τ).loc main_arg4))
       (m ((c : Thread nD τ).loc main_arg5))
       (m ((c : Thread nD τ).loc main_arg6))
       (m ((c : Thread nD τ).loc main_arg7))
       (m ((c : Thread nD τ).loc main_arg8)) := by
  refine (dats m 0 c).arrAt_eq_of_covers 9 _ (by decide +kernel) fun t hf y => ?_
  blk_simp
  rw [after0_9]
  frame_out
  idx_vars y
  have htN : t.val < 128 := lt_of_lt_of_eq t.isLt N_0
  have hemb : (win0_9.blk t).view.emb (ix2 y0 y1) = ix2 (⟨t.val * 256 + y0.val, by omega⟩ : Fin 32768) y1 := by
    blk_ext [idx t]
  blk_simp
  rw [hemb, pay1_at, ref_at]
  simp only [pay2_at, pay5_at, pay4_at]
  simp only [k0_pay6]
  frame_out
  simp only [pay3_at, ref21_at, ref12_at, branch]
  pointwise
  blk_point [iblk, V, idx t]
end Cert.MergeKernelIdeal.Bridge
-- ==== Proof.MergeClaims.lean ====
module

public import proofs.«01_k».proof.Defs
public import proofs.«01_k».proof.Proof.Gen.MergeKernel.Frame
public import proofs.«01_k».proof.Proof.Gen.MergeKernelIdeal.Value
public import proofs.«01_k».proof.Proof.MergeValue
public import Idealize.ShloMosaic.Lib.Quiescent
/-! The five claims of the `Merge` pair of programs. -/

@[expose] public section

set_option maxRecDepth 16384
noncomputable section
open Idealize.ShloMosaic Idealize.ShloMosaic.TcCoe Idealize.SL.Sem
namespace Cert.MergeClaims

/-- The printed kernel runs, leaves its arguments and ends with every counter at zero. -/
theorem frame_p : Cert.quiescent_MergeKernel := fun m ρ _ => Cert.MergeKernel.Gen.frame m ρ

/-- The idealized kernel runs, leaves its arguments and ends with every counter at zero. -/
theorem frame_pi : Cert.quiescent_MergeKernelIdeal := fun m ρ _ => Cert.MergeKernelIdeal.Gen.frame m ρ

/-- The reference runs, leaves its arguments and ends with every counter at zero. -/
theorem frame_ri : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- From agreeing arguments the kernel's result array ends holding what the reference's does. -/
theorem algebraic : Cert.algebraic_MergeKernelIdeal_MergeReferenceIdeal := by
  intro m ρ m' ρ' _ hag
  refine ⟨_, Cert.MergeKernelIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  obtain ⟨h0, h1, h2, h3, h4, h5, h6, h7, h8⟩ := hag c
  refine Eq.trans ?_ (Cert.MergeKernelIdeal.Bridge.final m c).symm
  refine (Cert.MergeReferenceIdeal.Read.val_main_v53_eq (F := Ideal) m' c).trans ?_
  rw [h0, h1, h2, h3, h4, h5, h6, h7, h8]

end Cert.MergeClaims
-- ==== Proof.SbScalar.lean ====
module

public import Idealize.ShloMosaic.Lib.Pointwise
public import Idealize.ShloMosaic.Lib.IdealHost
public import Mathlib.Analysis.SpecialFunctions.Pow.Real

@[expose] public section

/-! The arithmetic of stick breaking on one row: the kernel works with scores divided by log 2 and exponentials of base 2, the reference with natural ones. -/

namespace Cert.Layer.Sb

open Idealize.ShloMosaic Idealize.ShloMosaic.TcCoe

noncomputable section

/-- The softplus of a real number, in the shape both programs compute it. -/
def softplus (y : ℝ) : ℝ := max y 0 + Real.log (1 + Real.exp (-|y|))

/-- The constant by which the kernel turns natural logarithms into logarithms of base 2. -/
def invLn2 : ℝ := (Real.log 2)⁻¹

/-- The constant by which the kernel scales the queries: an eighth, over log 2. -/
def qScale : ℝ := (8 * Real.log 2)⁻¹

/-- The logarithm of two is positive. -/
theorem log2_pos : 0 < Real.log 2 := Real.log_pos (by norm_num)

/-- Its inverse is positive. -/
theorem invLn2_pos : 0 < invLn2 := inv_pos.mpr log2_pos

/-- The queries' scale is an eighth of that inverse. -/
theorem qScale_eq : qScale = 1 / 8 * invLn2 := by
  unfold qScale invLn2
  rw [mul_inv]; norm_num

/-- A power of two at a score divided by log 2 is the exponential of the score. -/
theorem rpow_two (y : ℝ) : Real.rpow 2 (y * invLn2) = Real.exp y := by
  show (2 : ℝ) ^ (y * invLn2) = _
  rw [Real.rpow_def_of_pos (by norm_num), invLn2]
  congr 1
  field_simp [log2_pos.ne']

/-- A power of two of a scaled real is the exponential of the real. -/
theorem exp2_scaled (y : ℝ) : Ideal.exp2 ((y * invLn2 : ℝ) : EReal) = ((Real.exp y : ℝ) : EReal) :=
  congrArg (fun r : ℝ => (r : EReal)) (rpow_two y)

/-- The exponential of a real. -/
theorem exp_real (y : ℝ) : Ideal.exp (y : EReal) = ((Real.exp y : ℝ) : EReal) := rfl

/-- The logarithm of a positive real. -/
theorem log_real {y : ℝ} (h : 0 < y) : Ideal.log (y : EReal) = ((Real.log y : ℝ) : EReal) := if_neg (not_le.mpr h)

/-- The maximum of two reals. -/
theorem coe_max' (a b : ℝ) : max (a : EReal) (b : EReal) = ((max a b : ℝ) : EReal) :=
  (EReal.coe_strictMono.monotone.map_max).symm

/-- The absolute value of a real. -/
theorem abs_real (y : ℝ) : max (y : EReal) (-(y : EReal)) = ((|y| : ℝ) : EReal) := by
  rw [← EReal.coe_neg, coe_max']; rfl

/-- The kernel's softplus of base 2, at a score divided by log 2. -/
theorem kernel_softplus (y : ℝ) :
    max ((y * invLn2 : ℝ) : EReal) 0
        + Ideal.log (1 + Ideal.exp2 (-(max ((y * invLn2 : ℝ) : EReal) (-((y * invLn2 : ℝ) : EReal))))) * (invLn2 : EReal)
      = ((softplus y * invLn2 : ℝ) : EReal) := by
  have h1 : -|y * invLn2| = -|y| * invLn2 := by rw [abs_mul, abs_of_pos invLn2_pos]; ring
  rw [abs_real, ← EReal.coe_neg, h1, exp2_scaled, ← EReal.coe_one, ← EReal.coe_add, log_real (by positivity), ← EReal.coe_mul,
    ← EReal.coe_zero, coe_max', ← EReal.coe_add]
  congr 1
  unfold softplus
  rw [add_mul, max_mul_of_nonneg _ _ invLn2_pos.le, zero_mul]

/-- The reference's softplus at a real score. -/
theorem reference_softplus (y : ℝ) :
    max (y : EReal) 0 + Ideal.log (1 + Ideal.exp (-(max (y : EReal) (-(y : EReal))))) = ((softplus y : ℝ) : EReal) := by
  rw [abs_real, ← EReal.coe_neg, exp_real, ← EReal.coe_one, ← EReal.coe_add, log_real (by positivity),
    ← EReal.coe_zero, coe_max', ← EReal.coe_add]
  rfl

/-- The logarithm of the sigmoid: the softplus of the negated score, negated, is the score less its softplus. -/
theorem log_sigmoid (y : ℝ) : -softplus (-y) = y - softplus y := by
  unfold softplus
  rw [abs_neg]
  rcases le_total 0 y with h | h
  · rw [max_eq_right (by linarith), max_eq_left h]; ring
  · rw [max_eq_left (by linarith), max_eq_right h]; ring

/-- What key j lets through of the stick at the query of row t: nothing is taken at or after the row itself. -/
def taken (x : ℕ → ℝ) (t j : ℕ) : ℝ := if j < t then softplus (x j) else 0

/-- The part of the stick taken strictly after key j. -/
def after (x : ℕ → ℝ) (t j : ℕ) : ℝ := ∑ i ∈ Finset.Ico (j + 1) 4096, taken x t i

/-- The part of the stick taken from key a on. -/
def rest (x : ℕ → ℝ) (t a : ℕ) : ℝ := ∑ i ∈ Finset.Ico a 4096, taken x t i

/-- The weight of key j at the query of row t. -/
def weight (x : ℕ → ℝ) (t j : ℕ) : ℝ := if j < t then Real.exp (x j - softplus (x j) - after x t j) else 0

/-- The weighted sum of the values from key a on. -/
def acc (x : ℕ → ℝ) (t : ℕ) (V : ℕ → EReal) (a : ℕ) : EReal := ∑ i ∈ Finset.Ico a 4096, (weight x t i : EReal) * V i

/-- A sum over a chunk as a sum over an interval. -/
theorem sum_fin_eq_Ico {M : Type*} [AddCommMonoid M] (f : ℕ → M) (a n : ℕ) : ∑ i : Fin n, f (a + i.val) = ∑ i ∈ Finset.Ico a (a + n), f i := by
  rw [Finset.sum_Ico_eq_sum_range, Nat.add_sub_cancel_left, Finset.sum_range]

/-- The running sum from `a` on is the chunk's sum and the rest's. -/
theorem rest_succ (x : ℕ → ℝ) (t a n : ℕ) (h : a + n ≤ 4096) : rest x t a = ∑ i : Fin n, taken x t (a + i.val) + rest x t (a + n) := by
  rw [sum_fin_eq_Ico, rest, rest, Finset.sum_Ico_consecutive _ (by omega) h]

/-- The weighted sum from `a` on is the chunk's sum and the rest's. -/
theorem acc_succ (x : ℕ → ℝ) (t : ℕ) (V : ℕ → EReal) (a n : ℕ) (h : a + n ≤ 4096) :
    acc x t V a = ∑ i : Fin n, (weight x t (a + i.val) : EReal) * V (a + i.val) + acc x t V (a + n) := by
  rw [sum_fin_eq_Ico (fun i => (weight x t i : EReal) * V i), acc, acc, Finset.sum_Ico_consecutive _ (by omega) h]

/-- Nothing is taken from the query's own position on. -/
theorem rest_of_le (x : ℕ → ℝ) (t a : ℕ) (h : t ≤ a) : rest x t a = 0 :=
  Finset.sum_eq_zero fun i hi => if_neg (by have := (Finset.mem_Ico.mp hi).1; omega)

/-- Nothing is added from the query's own position on. -/
theorem acc_of_le (x : ℕ → ℝ) (t : ℕ) (V : ℕ → EReal) (a : ℕ) (h : t ≤ a) : acc x t V a = 0 :=
  Finset.sum_eq_zero fun i hi => by
    rw [weight, if_neg (by have := (Finset.mem_Ico.mp hi).1; omega), EReal.coe_zero, zero_mul]

/-- A sum of reals. -/
theorem coe_sum' {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum over the keys of a chunk that come after key jj, as the product with the strictly lower triangle of ones. -/
theorem before_eq (x : ℕ → ℝ) (t a : ℕ) (jj : Fin 256) :
    ∑ i : Fin 256, ((taken x t (a + i.val) * invLn2 : ℝ) : EReal) * (if jj.val < i.val then (1 : EReal) else 0)
      = (((∑ i ∈ Finset.Ico (a + jj.val + 1) (a + 256), taken x t i) * invLn2 : ℝ) : EReal) := by
  have h : ∀ i : Fin 256, ((taken x t (a + i.val) * invLn2 : ℝ) : EReal) * (if jj.val < i.val then (1 : EReal) else 0)
      = (((fun n => if a + jj.val < n then taken x t n * invLn2 else 0) (a + i.val) : ℝ) : EReal) := fun i => by
    by_cases hh : jj.val < i.val
    · rw [if_pos hh, mul_one]; simp only [add_lt_add_iff_left, if_pos hh]
    · rw [if_neg hh, mul_zero]; simp only [add_lt_add_iff_left, if_neg hh, EReal.coe_zero]
  rw [Finset.sum_congr rfl fun i _ => h i, coe_sum', sum_fin_eq_Ico (fun n => if a + jj.val < n then taken x t n * invLn2 else 0)]
  congr 1
  rw [Finset.sum_mul, ← Finset.sum_filter]
  refine Finset.sum_congr (Finset.ext fun i => ?_) fun _ _ => rfl
  simp only [Finset.mem_filter, Finset.mem_Ico]
  have := jj.isLt
  omega

/-- The carry at the head of a chunk, from the carry at the head of the next one. -/
theorem carry_step (x : ℕ → ℝ) (t a : ℕ) (h : a + 256 ≤ 4096) :
    ((-(rest x t (a + 256)) * invLn2 : ℝ) : EReal)
        - ((((∑ i ∈ Finset.Ico (a + 0 + 1) (a + 256), taken x t i) * invLn2 : ℝ) : EReal) + ((taken x t (a + 0) * invLn2 : ℝ) : EReal))
      = ((-(rest x t a) * invLn2 : ℝ) : EReal) := by
  rw [← EReal.coe_add, ← EReal.coe_sub]
  congr 1
  have e : rest x t a = taken x t a + ∑ i ∈ Finset.Ico (a + 1) (a + 256), taken x t i + rest x t (a + 256) := by
    rw [rest_succ x t a 256 h, sum_fin_eq_Ico, Finset.sum_eq_sum_Ico_succ_bot (by omega)]
  rw [e, add_zero]
  ring

/-- The kernel's weight of a key before the row. -/
theorem weight_step (x : ℕ → ℝ) (t a : ℕ) (jj : Fin 256) (h : a + 256 ≤ 4096) (hj : a + jj.val < t) :
    Ideal.exp2 (((x (a + jj.val) * invLn2 : ℝ) : EReal) - ((taken x t (a + jj.val) * invLn2 : ℝ) : EReal)
        - (((∑ i ∈ Finset.Ico (a + jj.val + 1) (a + 256), taken x t i) * invLn2 : ℝ) : EReal)
        + ((-(rest x t (a + 256)) * invLn2 : ℝ) : EReal))
      = ((weight x t (a + jj.val) : ℝ) : EReal) := by
  rw [← EReal.coe_sub, ← EReal.coe_sub, ← EReal.coe_add]
  have e : x (a + jj.val) * invLn2 - taken x t (a + jj.val) * invLn2
      - (∑ i ∈ Finset.Ico (a + jj.val + 1) (a + 256), taken x t i) * invLn2 + -(rest x t (a + 256)) * invLn2
      = (x (a + jj.val) - softplus (x (a + jj.val)) - after x t (a + jj.val)) * invLn2 := by
    have e1 : after x t (a + jj.val) = ∑ i ∈ Finset.Ico (a + jj.val + 1) (a + 256), taken x t i + rest x t (a + 256) := by
      have := jj.isLt
      rw [after, rest, Finset.sum_Ico_consecutive _ (by omega) h]
    rw [e1, taken, if_pos hj]
    ring
  rw [e, exp2_scaled, weight, if_pos hj]

/-- The reference's weight of a key before the row: the logarithm of the sigmoid, plus what the reverse running sum leaves after the key. -/
theorem reference_weight (x : ℕ → ℝ) (t j : ℕ) (hj : j < t) (ht : t ≤ 4096) :
    Ideal.exp (((-softplus (-(x j)) : ℝ) : EReal)
        + (((∑ i ∈ Finset.Ico j 4096, -(taken x t i) : ℝ) : EReal) - ((-(taken x t j) : ℝ) : EReal)))
      = ((weight x t j : ℝ) : EReal) := by
  rw [← EReal.coe_sub, ← EReal.coe_add, exp_real, weight, if_pos hj, log_sigmoid]
  congr 2
  rw [Finset.sum_eq_sum_Ico_succ_bot (by omega), after, Finset.sum_neg_distrib]
  ring

/-- The three projections of every row side by side: 8 sequences of 4096 rows of queries, keys and values of four heads of 64 features. -/
abbrev Arr : Type := (⟨⟨3, ![8, 4096, 768]⟩, .f32⟩ : BufTy).Contents (Elt Ideal)

/-- The element of an array of the three projections, by the values of its coordinates. -/
def el (X : Arr) (b t c : ℕ) : EReal := if h : b < 8 ∧ t < 4096 ∧ c < 768 then X (ix3 ⟨b, h.1⟩ ⟨t, h.2.1⟩ ⟨c, h.2.2⟩) else 0

/-- An entry of the array by its three coordinates. -/
theorem eq_el (X : Arr) (i : Shape.Idx ⟨3, ![8, 4096, 768]⟩) (b t c : ℕ) (h0 : (i 0).val = b) (h1 : (i 1).val = t) (h2 : (i 2).val = c) :
    X i = el X b t c := by
  subst h0 h1 h2
  unfold el
  rw [dif_pos ⟨(i 0).isLt, (i 1).isLt, (i 2).isLt⟩]
  refine congrArg X (funext fun a => ?_)
  match a with
  | ⟨0, _⟩ => rfl
  | ⟨1, _⟩ => rfl
  | ⟨2, _⟩ => rfl

/-- The real number at a coordinate of the queries or keys. -/
def qk (X : Arr) (b t c : ℕ) : ℝ := (el X b t c).toReal

/-- Queries and keys are real numbers. -/
def Finite (X : Arr) : Prop := ∀ b t c : ℕ, c < 512 → el X b t c = ((qk X b t c : ℝ) : EReal)

/-- The score of key j at the query of row t, for sequence b and head h. -/
def score (X : Arr) (b h t j : ℕ) : ℝ := (∑ d : Fin 64, qk X b t (64 * h + d.val) * qk X b j (256 + (64 * h + d.val))) * (1 / 8)

/-- The attention's result at feature d of head h of row t of sequence b. -/
def result (X : Arr) (b t h d : ℕ) : EReal := acc (score X b h t) t (fun j => el X b j (512 + (64 * h + d))) 0

/-- One chunk's accumulation at one row and feature: the accumulator plus the weighted sum of the values. -/
def hacc (z s : Fin 256 → EReal) (U : Fin 256 → Fin 256 → EReal) (c a : EReal) (v : Fin 256 → EReal) : EReal :=
  a + ∑ jj : Fin 256, Ideal.exp2 (z jj - s jj - (∑ i : Fin 256, s i * U i jj) + c) * v jj

/-- The same for the chunk of the row itself: only the keys before the row are weighed. -/
def haccM (r : ℕ) (z s : Fin 256 → EReal) (U : Fin 256 → Fin 256 → EReal) (c a : EReal) (v : Fin 256 → EReal) : EReal :=
  a + ∑ jj : Fin 256, (if jj.val < r then Ideal.exp2 (z jj - s jj - (∑ i : Fin 256, s i * U i jj) + c) else 0) * v jj

/-- One chunk's carry at one row: the carry less what the chunk takes of the stick. -/
def hcar (s : Fin 256 → EReal) (U : Fin 256 → Fin 256 → EReal) (c : EReal) : EReal := c - ((∑ i : Fin 256, s i * U i 0) + s 0)

/-- The softplus of base 2 as the kernel computes it. -/
def spl (z : EReal) : EReal := max z 0 + Ideal.log (1 + Ideal.exp2 (-(max z (-z)))) * (invLn2 : EReal)

/-- The softplus of a scaled real. -/
theorem spl_at (y : ℝ) : spl ((y * invLn2 : ℝ) : EReal) = ((softplus y * invLn2 : ℝ) : EReal) := kernel_softplus y

/-- The strictly lower triangle of ones. -/
def tri (i jj : Fin 256) : EReal := if jj.val < i.val then 1 else 0

section Step

variable {x : ℕ → ℝ} {t a : ℕ} {V : ℕ → EReal} {z s v : Fin 256 → EReal} {U : Fin 256 → Fin 256 → EReal} {c b : EReal}

/-- One chunk's step of the carried sum. -/
theorem hcar_step (h : a + 256 ≤ 4096) (hs : ∀ jj : Fin 256, s jj = ((taken x t (a + jj.val) * invLn2 : ℝ) : EReal)) (hU : ∀ i jj, U i jj = tri i jj)
    (hc : c = ((-(rest x t (a + 256)) * invLn2 : ℝ) : EReal)) : hcar s U c = ((-(rest x t a) * invLn2 : ℝ) : EReal) := by
  rw [← carry_step x t a h, hcar, hc, Finset.sum_congr rfl fun i _ => by rw [hs i, hU i 0, tri], before_eq x t a 0, hs 0]
  rfl

/-- One chunk's step of the accumulator. -/
theorem hacc_step (h : a + 256 ≤ 4096) (ht : a + 256 ≤ t) (hz : ∀ jj : Fin 256, z jj = ((x (a + jj.val) * invLn2 : ℝ) : EReal))
    (hs : ∀ jj : Fin 256, s jj = ((taken x t (a + jj.val) * invLn2 : ℝ) : EReal)) (hU : ∀ i jj, U i jj = tri i jj)
    (hc : c = ((-(rest x t (a + 256)) * invLn2 : ℝ) : EReal)) (hb : b = acc x t V (a + 256)) (hv : ∀ jj : Fin 256, v jj = V (a + jj.val)) :
    hacc z s U c b v = acc x t V a := by
  rw [acc_succ x t V a 256 h, hacc, hb, add_comm]
  congr 1
  refine Finset.sum_congr rfl fun jj _ => ?_
  have := jj.isLt
  rw [← weight_step x t a jj h (by omega), hz, hs, hc, hv, Finset.sum_congr rfl fun i _ => by rw [hs i, hU i jj, tri], before_eq x t a jj]

/-- The diagonal block's step of the accumulator. -/
theorem haccM_step {r : ℕ} (h : a + 256 ≤ 4096) (ht : t = a + r) (hz : ∀ jj : Fin 256, z jj = ((x (a + jj.val) * invLn2 : ℝ) : EReal))
    (hs : ∀ jj : Fin 256, s jj = ((taken x t (a + jj.val) * invLn2 : ℝ) : EReal)) (hU : ∀ i jj, U i jj = tri i jj)
    (hc : c = ((-(rest x t (a + 256)) * invLn2 : ℝ) : EReal)) (hb : b = acc x t V (a + 256)) (hv : ∀ jj : Fin 256, v jj = V (a + jj.val)) :
    haccM r z s U c b v = acc x t V a := by
  rw [acc_succ x t V a 256 h, haccM, hb, add_comm]
  congr 1
  refine Finset.sum_congr rfl fun jj _ => ?_
  by_cases hj : jj.val < r
  · rw [if_pos hj, ← weight_step x t a jj h (by omega), hz, hs, hc, hv, Finset.sum_congr rfl fun i _ => by rw [hs i, hU i jj, tri], before_eq x t a jj]
  · rw [if_neg hj, weight, if_neg (by omega), EReal.coe_zero, zero_mul, zero_mul]

end Step

/-- A row's product with a key in the kernel's scaling is the score over log 2. -/
theorem product_at (X : Arr) (b h t j : ℕ) :
    ∑ d : Fin 64, ((qk X b t (64 * h + d.val) * qScale : ℝ) : EReal) * ((qk X b j (256 + (64 * h + d.val)) : ℝ) : EReal)
      = ((score X b h t j * invLn2 : ℝ) : EReal) := by
  simp only [← EReal.coe_mul]
  rw [coe_sum']
  congr 1
  rw [score, mul_assoc, ← qScale_eq, Finset.sum_mul]
  exact Finset.sum_congr rfl fun d _ => by ring

end

end Cert.Layer.Sb
-- ==== Proof.SbPure.lean ====
module

public import proofs.«01_k».proof.Proof.Gen.SbKernelIdeal.Value
public import proofs.«01_k».proof.Proof.SbScalar
public import Idealize.ShloMosaic.Lib.Pointwise
public import Idealize.ShloMosaic.Lib.WordCmp

/-! The stick-breaking kernel's arithmetic at one element: what each value of the body holds at an index, as finite sums of what it loads. -/

@[expose] public section

set_option maxRecDepth 16384
noncomputable section

namespace Cert.SbKernelIdeal.Pure

open Idealize.ShloMosaic Idealize.ShloMosaic.TcCoe Idealize.SL.Sem Cert.SbKernelIdeal Cert.SbKernelIdeal.Gen Cert.Layer.Sb

/-- The product of a row of queries with a row of keys. -/
def Z (q k : Vec Ideal S1x256x64 .bf16) (r jj : Fin 256) : EReal := ∑ d : Fin 64, q (ix3 0 r d) * k (ix3 0 jj d)

/-- The named constant `inv_ln2`. -/
theorem inv_ln2 : Named.named (F := Ideal) κ "inv_ln2" (φ := .f32) 0x3FB8AA3B#32 = (invLn2 : EReal) :=
  IdealRules.named_const.ideal_named_scalar _ _ _ _ rfl

/-- The named constant `scale_log2e`. -/
theorem scale_log2e : Named.named (F := Ideal) κ "scale_log2e" (φ := .f32) 0x3E38AA3B#32 = (qScale : EReal) :=
  IdealRules.named_const.ideal_named_scalar _ _ _ _ rfl

/-- The kernel's softplus in base two. -/
theorem spl_eq (z : EReal) :
    max z 0 + Ideal.log (1 + FloatOps.exp2 (F := Ideal) (φ := .f32) (0 - FloatOps.absf (F := Ideal) (φ := .f32) z)) * (invLn2 : EReal) = spl z := by
  rw [zero_sub]; rfl

/-- Head 0's scores of a chunk. -/
theorem pay7_at (q k : Vec Ideal S1x256x64 .bf16) (r jj : Fin 256) : k0_pay7 (F := Ideal) q k (ix2 r jj) = Z q k r jj := by
  pointwise [k0_pay7]
  rfl

/-- Head 0's softplus of a chunk. -/
theorem pay8_at (q k : Vec Ideal S1x256x64 .bf16) (r jj : Fin 256) : k0_pay8 (F := Ideal) q k (ix2 r jj) = spl (Z q k r jj) := by
  pointwise [k0_pay8]
  rw [pay7_at, inv_ln2, spl_eq]

/-- Head 1's scores of a chunk. -/
theorem pay9_at (q k : Vec Ideal S1x256x64 .bf16) (r jj : Fin 256) : k0_pay9 (F := Ideal) q k (ix2 r jj) = Z q k r jj := by
  pointwise [k0_pay9]
  rfl

/-- Head 1's softplus of a chunk. -/
theorem pay12_at (q k : Vec Ideal S1x256x64 .bf16) (r jj : Fin 256) :
    k0_pay12 (F := Ideal) (k0_pay10 q k) (k0_pay11 q k) (ix2 r jj) = spl (Z q k r jj) := by
  pointwise [k0_pay12, k0_pay10, k0_pay11]
  rw [pay9_at, inv_ln2, spl_eq]

/-- Head 2's scores of a chunk. -/
theorem pay13_at (q k : Vec Ideal S1x256x64 .bf16) (r jj : Fin 256) : k0_pay13 (F := Ideal) q k (ix2 r jj) = Z q k r jj := by
  pointwise [k0_pay13]
  rfl

/-- Head 2's softplus of a chunk. -/
theorem pay14_at (q k : Vec Ideal S1x256x64 .bf16) (r jj : Fin 256) : k0_pay14 (F := Ideal) q k (ix2 r jj) = spl (Z q k r jj) := by
  pointwise [k0_pay14]
  rw [pay13_at, inv_ln2, spl_eq]

/-- Head 3's scores of a chunk. -/
theorem pay15_at (q k : Vec Ideal S1x256x64 .bf16) (r jj : Fin 256) : k0_pay15 (F := Ideal) q k (ix2 r jj) = Z q k r jj := by
  pointwise [k0_pay15]
  rfl

/-- Head 3's softplus of a chunk. -/
theorem pay16_at (q k : Vec Ideal S1x256x64 .bf16) (r jj : Fin 256) : k0_pay16 (F := Ideal) q k (ix2 r jj) = spl (Z q k r jj) := by
  pointwise [k0_pay16]
  rw [pay15_at, inv_ln2, spl_eq]

/-- A block of a rank-three view reads the view at the block's offsets plus the place in the block. -/
theorem rd3 {sp : Space} {e : EltTy} {A B C : ℕ} (v : View sig .tc sp ⟨3, ![A, B, C]⟩ e) (X : v.ty.Contents (Elt Ideal)) (off size : Fin 3 → ℕ)
    (inb : ∀ a, off a + size a ≤ (⟨3, ![A, B, C]⟩ : Shape).size a) (x : (Rect.unit (s := ⟨3, ![A, B, C]⟩) off size inb).shape.Idx)
    (y : Shape.Idx ⟨3, ![A, B, C]⟩) (h0 : (y 0).val = off 0 + (x 0).val) (h1 : (y 1).val = off 1 + (x 1).val) (h2 : (y 2).val = off 2 + (x 2).val) :
    v.readAt (Elt Ideal) (Rect.unit (s := ⟨3, ![A, B, C]⟩) off size inb).toLoadRect X x = v.read (Elt Ideal) X y := by
  refine congrArg (v.read (Elt Ideal) X) (funext fun a => Fin.ext ?_)
  match a with
  | ⟨0, _⟩ => show off 0 + 1 * (x 0).val = (y 0).val; omega
  | ⟨1, _⟩ => show off 1 + 1 * (x 1).val = (y 1).val; omega
  | ⟨2, _⟩ => show off 2 + 1 * (x 2).val = (y 2).val; omega

/-- Reading a rectangle of a whole two-axis view gives the contents at the shifted place. -/
theorem rd2 {sp : Space} {e : EltTy} {A B : ℕ} (v : View sig .tc sp ⟨2, ![A, B]⟩ e) (X : v.ty.Contents (Elt Ideal)) (off size : Fin 2 → ℕ)
    (inb : ∀ a, off a + size a ≤ (⟨2, ![A, B]⟩ : Shape).size a) (x : (Rect.unit (s := ⟨2, ![A, B]⟩) off size inb).shape.Idx)
    (y : Shape.Idx ⟨2, ![A, B]⟩) (h0 : (y 0).val = off 0 + (x 0).val) (h1 : (y 1).val = off 1 + (x 1).val) :
    v.readAt (Elt Ideal) (Rect.unit (s := ⟨2, ![A, B]⟩) off size inb).toLoadRect X x = v.read (Elt Ideal) X y := by
  refine congrArg (v.read (Elt Ideal) X) (funext fun a => Fin.ext ?_)
  match a with
  | ⟨0, _⟩ => show off 0 + 1 * (x 0).val = (y 0).val; omega
  | ⟨1, _⟩ => show off 1 + 1 * (x 1).val = (y 1).val; omega

/-- The loop over the earlier chunks goes once per chunk before the row's own. -/
theorem trips_eq (i : grid0.Coords) : (k0_t1_loop i).trips = (i 1).val := by
  have h : ∀ c : Fin 16, Scf.trips 1#32 (Scalar.addi 1#32 (Scalar.muli (Scalar.divsi (Scalar.subi (Scalar.addi (BitVec.ofNat 32 c.val) 1#32) 1#32) 1#32) 1#32)) 1#32 = c.val := by
    decide +kernel
  exact h (i 1)

/-- The second loop makes no trips. -/
theorem trips2_eq (i : grid0.Coords) : (k0_t2_loop i).trips = 0 := by
  have h : ∀ c : Fin 16, Scf.trips (Scalar.addi 1#32 (Scalar.muli (Scalar.divsi (Scalar.subi (Scalar.addi (BitVec.ofNat 32 c.val) 1#32) 1#32) 1#32) 1#32))
      (Scalar.addi 1#32 (Scalar.subi (Scalar.addi (BitVec.ofNat 32 c.val) 1#32) 1#32)) 1#32 = 0 := by
    decide +kernel
  exact h (i 1)

/-- The first row of the chunk that trip `k` reads. -/
theorem start_eq (c k : ℕ) (hc : c < 16) (hk : k < c) :
    (Scalar.muli (Scalar.subi (BitVec.ofNat 32 c) (Scf.iv 1#32 1#32 k)) 256#32).toNat = 256 * (c - (k + 1)) := by
  have h : ∀ c : Fin 16, ∀ k : Fin 16, k.val < c.val →
      (Scalar.muli (Scalar.subi (BitVec.ofNat 32 c.val) (Scf.iv 1#32 1#32 k.val)) 256#32).toNat = 256 * (c.val - (k.val + 1)) := by
    decide +kernel
  exact h ⟨c, hc⟩ ⟨k, by omega⟩ hk

/-- The first row of the step's own chunk. -/
theorem own_eq (c : ℕ) (hc : c < 16) : (Scalar.muli (BitVec.ofNat 32 c) 256#32).toNat = 256 * c := by
  have h : ∀ c : Fin 16, (Scalar.muli (BitVec.ofNat 32 c.val) 256#32).toNat = 256 * c.val := by decide +kernel
  exact h ⟨c, hc⟩

/-- Where trip `k` reads head 0. -/
theorem off5_eq (i : grid0.Coords) (k : Fin (k0_t1_loop i).trips) : k0_off5 i k = ![0, 256 * ((i 1).val - (k.val + 1)), 0] := by
  have hk : k.val < (i 1).val := lt_of_lt_of_eq k.isLt (trips_eq i)
  have hi : (i 1).val < 16 := (i 1).isLt
  exact congrArg (fun n => ![0, n, 0]) (start_eq _ _ hi hk)

/-- Where the diagonal block reads head 0. -/
theorem off1_eq (i : grid0.Coords) : k0_off1 i = ![0, 256 * (i 1).val, 0] := by
  have hi : (i 1).val < 16 := (i 1).isLt
  exact congrArg (fun n => ![0, n, 0]) (own_eq _ hi)

/-- Where trip `k` reads head 1. -/
theorem off6_eq (i : grid0.Coords) (k : Fin (k0_t1_loop i).trips) : k0_off6 i k = ![1, 256 * ((i 1).val - (k.val + 1)), 0] := by
  have hk : k.val < (i 1).val := lt_of_lt_of_eq k.isLt (trips_eq i)
  have hi : (i 1).val < 16 := (i 1).isLt
  exact congrArg (fun n => ![1, n, 0]) (start_eq _ _ hi hk)

/-- Where the diagonal block reads head 1. -/
theorem off2_eq (i : grid0.Coords) : k0_off2 i = ![1, 256 * (i 1).val, 0] := by
  have hi : (i 1).val < 16 := (i 1).isLt
  exact congrArg (fun n => ![1, n, 0]) (own_eq _ hi)

/-- Where trip `k` reads head 2. -/
theorem off7_eq (i : grid0.Coords) (k : Fin (k0_t1_loop i).trips) : k0_off7 i k = ![2, 256 * ((i 1).val - (k.val + 1)), 0] := by
  have hk : k.val < (i 1).val := lt_of_lt_of_eq k.isLt (trips_eq i)
  have hi : (i 1).val < 16 := (i 1).isLt
  exact congrArg (fun n => ![2, n, 0]) (start_eq _ _ hi hk)

/-- Where the diagonal block reads head 2. -/
theorem off3_eq (i : grid0.Coords) : k0_off3 i = ![2, 256 * (i 1).val, 0] := by
  have hi : (i 1).val < 16 := (i 1).isLt
  exact congrArg (fun n => ![2, n, 0]) (own_eq _ hi)

/-- Where trip `k` reads head 3. -/
theorem off8_eq (i : grid0.Coords) (k : Fin (k0_t1_loop i).trips) : k0_off8 i k = ![3, 256 * ((i 1).val - (k.val + 1)), 0] := by
  have hk : k.val < (i 1).val := lt_of_lt_of_eq k.isLt (trips_eq i)
  have hi : (i 1).val < 16 := (i 1).isLt
  exact congrArg (fun n => ![3, n, 0]) (start_eq _ _ hi hk)

/-- Where the diagonal block reads head 3. -/
theorem off4_eq (i : grid0.Coords) : k0_off4 i = ![3, 256 * (i 1).val, 0] := by
  have hi : (i 1).val < 16 := (i 1).isLt
  exact congrArg (fun n => ![3, n, 0]) (own_eq _ hi)

section Trip

variable (i : grid0.Coords) (arg5 : Memref sig .tc .vmem S256x256 .bf16) (arg7 : Memref sig .tc .vmem S4x256x64 .bf16)
  (arg8 : Memref sig .tc .vmem S4x4096x64 .bf16) (arg9 : Memref sig .tc .vmem S4x4096x64 .bf16)
  (arg10 : Memref sig .tc .vmem S4x256x64 .f32) (arg11 : Memref sig .tc .vmem S4x256x1 .f32)
  (X_arg5 : BufTy.Contents (Elt Ideal) arg5.view.ty) (X_arg7 : BufTy.Contents (Elt Ideal) arg7.view.ty)
  (X_arg8 : BufTy.Contents (Elt Ideal) arg8.view.ty) (X_arg9 : BufTy.Contents (Elt Ideal) arg9.view.ty)
  (k : Fin (k0_t1_loop i).trips)
  (f : BufTy.Contents (Elt Ideal) arg10.view.ty) (g : BufTy.Contents (Elt Ideal) arg11.view.ty)

/-- Head 0's accumulator after a trip. -/
theorem acc0_at (r : Fin 256) (d : Fin 64) :
    trip_k0_t1.sl.v390 (F := Ideal) i arg5 arg7 arg8 arg9 arg10 arg11 X_arg5 X_arg7 X_arg8 X_arg9 k f g (ix3 0 r d)
      = hacc (Z (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off5 i k) S1x256x64.size (k0_off5_inb i k)).toLoadRect X_arg8) r)
        (fun jj => spl (Z (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off5 i k) S1x256x64.size (k0_off5_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![0, 0, 0] S1x256x1.size inb_S4x256x1_S1x256x1_0_0_0).toLoadRect g (ix3 0 r 0))
        (View.readAt (Elt Ideal) arg10.view (Rect.unit (s := S4x256x64) ![0, 0, 0] S1x256x64.size inb_S4x256x64_S1x256x64_0_0_0).toLoadRect f (ix3 0 r d))
        (fun jj => View.readAt (Elt Ideal) arg9.view (Rect.unit (s := S4x4096x64) (k0_off5 i k) S1x256x64.size (k0_off5_inb i k)).toLoadRect X_arg9 (ix3 0 jj d)) := by
  pointwise [trip_k0_t1.sl.v390, trip_k0_t1.sl.v387, trip_k0_t1.sl.v386, trip_k0_t1.sl.cst_236, trip_k0_t1.sl.v385, trip_k0_t1.sl.v382, trip_k0_t1.sl.v379, trip_k0_t1.sl.v378, trip_k0_t1.sl.v377, trip_k0_t1.sl.v376, trip_k0_t1.sl.v374, trip_k0_t1.sl.v360, trip_k0_t1.sl.cst_218, trip_k0_t1.sl.v359, trip_k0_t1.sl.r_10, trip_k0_t1.sl.r_1, trip_k0_t1.sl.v373, trip_k0_t1.sl.r, trip_k0_t1.sl.v381, k0_pay17]
  simp only [pay7_at, pay8_at]
  rfl

/-- Head 0's carried sum after a trip. -/
theorem car0_at (r : Fin 256) :
    trip_k0_t1.sl.v399 (F := Ideal) i arg5 arg7 arg8 arg11 X_arg5 X_arg7 X_arg8 k g (ix3 0 r 0)
      = hcar (fun jj => spl (Z (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off5 i k) S1x256x64.size (k0_off5_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![0, 0, 0] S1x256x1.size inb_S4x256x1_S1x256x1_0_0_0).toLoadRect g (ix3 0 r 0)) := by
  pointwise [trip_k0_t1.sl.v399, trip_k0_t1.sl.v396, trip_k0_t1.sl.v395, trip_k0_t1.sl.v394, trip_k0_t1.sl.r_1, trip_k0_t1.sl.v393, trip_k0_t1.sl.v360, trip_k0_t1.sl.cst_218, trip_k0_t1.sl.v359, trip_k0_t1.sl.r_10, trip_k0_t1.sl.v392, trip_k0_t1.sl.r_11, k0_pay17]
  simp only [pay7_at, pay8_at]
  rfl

/-- Head 1's accumulator after a trip. -/
theorem acc1_at (r : Fin 256) (d : Fin 64) :
    trip_k0_t1.sl.v417 (F := Ideal) i arg5 arg7 arg8 arg9 arg10 arg11 X_arg5 X_arg7 X_arg8 X_arg9 k f g (ix3 0 r d)
      = hacc (Z (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off6 i k) S1x256x64.size (k0_off6_inb i k)).toLoadRect X_arg8) r)
        (fun jj => spl (Z (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off6 i k) S1x256x64.size (k0_off6_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![1, 0, 0] S1x256x1.size inb_S4x256x1_S1x256x1_1_0_0).toLoadRect g (ix3 0 r 0))
        (View.readAt (Elt Ideal) arg10.view (Rect.unit (s := S4x256x64) ![1, 0, 0] S1x256x64.size inb_S4x256x64_S1x256x64_1_0_0).toLoadRect f (ix3 0 r d))
        (fun jj => View.readAt (Elt Ideal) arg9.view (Rect.unit (s := S4x4096x64) (k0_off6 i k) S1x256x64.size (k0_off6_inb i k)).toLoadRect X_arg9 (ix3 0 jj d)) := by
  pointwise [trip_k0_t1.sl.v417, trip_k0_t1.sl.v414, trip_k0_t1.sl.v413, trip_k0_t1.sl.cst_236, trip_k0_t1.sl.v412, trip_k0_t1.sl.v409, trip_k0_t1.sl.v406, trip_k0_t1.sl.v405, trip_k0_t1.sl.v404, trip_k0_t1.sl.v403, trip_k0_t1.sl.v402, trip_k0_t1.sl.v401, trip_k0_t1.sl.v364, trip_k0_t1.sl.cst_218, trip_k0_t1.sl.v359, trip_k0_t1.sl.v361, trip_k0_t1.sl.r_5, trip_k0_t1.sl.r_4, trip_k0_t1.sl.r_3, trip_k0_t1.sl.v400, trip_k0_t1.sl.r_2, trip_k0_t1.sl.v408, trip_k0_t1.sl.v407, k0_pay17]
  simp only [pay9_at, pay12_at]
  rfl

/-- Head 1's carried sum after a trip. -/
theorem car1_at (r : Fin 256) :
    trip_k0_t1.sl.v426 (F := Ideal) i arg5 arg7 arg8 arg11 X_arg5 X_arg7 X_arg8 k g (ix3 0 r 0)
      = hcar (fun jj => spl (Z (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off6 i k) S1x256x64.size (k0_off6_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![1, 0, 0] S1x256x1.size inb_S4x256x1_S1x256x1_1_0_0).toLoadRect g (ix3 0 r 0)) := by
  pointwise [trip_k0_t1.sl.v426, trip_k0_t1.sl.v423, trip_k0_t1.sl.v422, trip_k0_t1.sl.v421, trip_k0_t1.sl.r_5, trip_k0_t1.sl.r_4, trip_k0_t1.sl.r_3, trip_k0_t1.sl.v420, trip_k0_t1.sl.v364, trip_k0_t1.sl.cst_218, trip_k0_t1.sl.v359, trip_k0_t1.sl.v361, trip_k0_t1.sl.v403, trip_k0_t1.sl.v402, k0_pay17]
  simp only [pay9_at, pay12_at]
  rfl

/-- Head 2's accumulator after a trip. -/
theorem acc2_at (r : Fin 256) (d : Fin 64) :
    trip_k0_t1.sl.v444 (F := Ideal) i arg5 arg7 arg8 arg9 arg10 arg11 X_arg5 X_arg7 X_arg8 X_arg9 k f g (ix3 0 r d)
      = hacc (Z (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off7 i k) S1x256x64.size (k0_off7_inb i k)).toLoadRect X_arg8) r)
        (fun jj => spl (Z (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off7 i k) S1x256x64.size (k0_off7_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![2, 0, 0] S1x256x1.size inb_S4x256x1_S1x256x1_2_0_0).toLoadRect g (ix3 0 r 0))
        (View.readAt (Elt Ideal) arg10.view (Rect.unit (s := S4x256x64) ![2, 0, 0] S1x256x64.size inb_S4x256x64_S1x256x64_2_0_0).toLoadRect f (ix3 0 r d))
        (fun jj => View.readAt (Elt Ideal) arg9.view (Rect.unit (s := S4x4096x64) (k0_off7 i k) S1x256x64.size (k0_off7_inb i k)).toLoadRect X_arg9 (ix3 0 jj d)) := by
  pointwise [trip_k0_t1.sl.v444, trip_k0_t1.sl.v441, trip_k0_t1.sl.v440, trip_k0_t1.sl.cst_236, trip_k0_t1.sl.v439, trip_k0_t1.sl.v436, trip_k0_t1.sl.v433, trip_k0_t1.sl.v432, trip_k0_t1.sl.v431, trip_k0_t1.sl.v430, trip_k0_t1.sl.v429, trip_k0_t1.sl.v428, trip_k0_t1.sl.v368, trip_k0_t1.sl.cst_218, trip_k0_t1.sl.v359, trip_k0_t1.sl.v365, trip_k0_t1.sl.r_7, trip_k0_t1.sl.v427, trip_k0_t1.sl.r_6, trip_k0_t1.sl.v435, trip_k0_t1.sl.v434, k0_pay17]
  simp only [pay13_at, pay14_at]
  rfl

/-- Head 2's carried sum after a trip. -/
theorem car2_at (r : Fin 256) :
    trip_k0_t1.sl.v453 (F := Ideal) i arg5 arg7 arg8 arg11 X_arg5 X_arg7 X_arg8 k g (ix3 0 r 0)
      = hcar (fun jj => spl (Z (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off7 i k) S1x256x64.size (k0_off7_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![2, 0, 0] S1x256x1.size inb_S4x256x1_S1x256x1_2_0_0).toLoadRect g (ix3 0 r 0)) := by
  pointwise [trip_k0_t1.sl.v453, trip_k0_t1.sl.v450, trip_k0_t1.sl.v449, trip_k0_t1.sl.v448, trip_k0_t1.sl.r_7, trip_k0_t1.sl.v447, trip_k0_t1.sl.v368, trip_k0_t1.sl.cst_218, trip_k0_t1.sl.v359, trip_k0_t1.sl.v365, trip_k0_t1.sl.v430, trip_k0_t1.sl.v429, k0_pay17]
  simp only [pay13_at, pay14_at]
  rfl

/-- Head 3's accumulator after a trip. -/
theorem acc3_at (r : Fin 256) (d : Fin 64) :
    k0_pay92 (F := Ideal) (trip_k0_t1.sl.v460 i arg5 arg7 arg8 arg11 X_arg5 X_arg7 X_arg8 k g) (trip_k0_t1.sl.v461 arg10 f) (View.readAt (Elt Ideal) arg9.view (Rect.unit (s := S4x4096x64) (k0_off8 i k) S1x256x64.size (k0_off8_inb i k)).toLoadRect X_arg9) (ix3 0 r d)
      = hacc (Z (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off8 i k) S1x256x64.size (k0_off8_inb i k)).toLoadRect X_arg8) r)
        (fun jj => spl (Z (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off8 i k) S1x256x64.size (k0_off8_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![3, 0, 0] S1x256x1.size inb_S4x256x1_S1x256x1_3_0_0).toLoadRect g (ix3 0 r 0))
        (View.readAt (Elt Ideal) arg10.view (Rect.unit (s := S4x256x64) ![3, 0, 0] S1x256x64.size inb_S4x256x64_S1x256x64_3_0_0).toLoadRect f (ix3 0 r d))
        (fun jj => View.readAt (Elt Ideal) arg9.view (Rect.unit (s := S4x4096x64) (k0_off8 i k) S1x256x64.size (k0_off8_inb i k)).toLoadRect X_arg9 (ix3 0 jj d)) := by
  pointwise [trip_k0_t1.sl.v461, trip_k0_t1.sl.v460, trip_k0_t1.sl.v459, trip_k0_t1.sl.v458, trip_k0_t1.sl.v457, trip_k0_t1.sl.v456, trip_k0_t1.sl.v455, trip_k0_t1.sl.v372, trip_k0_t1.sl.cst_218, trip_k0_t1.sl.v359, trip_k0_t1.sl.v369, trip_k0_t1.sl.r_9, trip_k0_t1.sl.v454, trip_k0_t1.sl.r_8, k0_pay92, k0_pay17]
  simp only [pay15_at, pay16_at]
  rfl

/-- Head 3's carried sum after a trip. -/
theorem car3_at (r : Fin 256) :
    k0_pay93 (F := Ideal) (trip_k0_t1.sl.r_9 i arg7 arg8 X_arg7 X_arg8 k) (trip_k0_t1.sl.v372 i arg5 arg7 arg8 X_arg5 X_arg7 X_arg8 k) (trip_k0_t1.sl.v472 arg11 g) (ix3 0 r 0)
      = hcar (fun jj => spl (Z (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off8 i k) S1x256x64.size (k0_off8_inb i k)).toLoadRect X_arg8) r jj))
        (fun a b => View.readAt (Elt Ideal) arg5.view (Rect.unit (s := S256x256) ![0, 0] S256x256.size inb_S256x256_S256x256_0_0).toLoadRect X_arg5 (ix2 a b))
        (View.readAt (Elt Ideal) arg11.view (Rect.unit (s := S4x256x1) ![3, 0, 0] S1x256x1.size inb_S4x256x1_S1x256x1_3_0_0).toLoadRect g (ix3 0 r 0)) := by
  pointwise [trip_k0_t1.sl.v472, trip_k0_t1.sl.v372, trip_k0_t1.sl.cst_218, trip_k0_t1.sl.v359, trip_k0_t1.sl.v369, trip_k0_t1.sl.r_9, k0_pay93, k0_pay17]
  simp only [pay15_at, pay16_at]
  rfl

end Trip

end Cert.SbKernelIdeal.Pure
-- ==== Proof.SbLoop.lean ====
module

public import proofs.«01_k».proof.Proof.SbPure
public import Idealize.ShloMosaic.Lib.WritesUnit

/-! The loop over the chunks before a row's own: after every trip the accumulator holds the weighted values, and the carry the stick taken, from the trip's chunk on. -/

@[expose] public section

set_option maxRecDepth 16384
noncomputable section

namespace Cert.SbKernelIdeal.Pure

open Idealize.ShloMosaic Idealize.ShloMosaic.TcCoe Idealize.SL.Sem Cert.SbKernelIdeal Cert.SbKernelIdeal.Gen Cert.Layer.Sb

/-- Four blocks written one per head read back each at its head. -/
theorem four {sp : Space} {e : EltTy} {M N : ℕ} (v : View sig .tc sp ⟨3, ![4, M, N]⟩ e) (f : v.ty.Contents (Elt Ideal))
    (b0 : ∀ a, (![0, 0, 0] : Fin 3 → ℕ) a + (![1, M, N] : Fin 3 → ℕ) a ≤ (⟨3, ![4, M, N]⟩ : Shape).size a)
    (b1 : ∀ a, (![1, 0, 0] : Fin 3 → ℕ) a + (![1, M, N] : Fin 3 → ℕ) a ≤ (⟨3, ![4, M, N]⟩ : Shape).size a)
    (b2 : ∀ a, (![2, 0, 0] : Fin 3 → ℕ) a + (![1, M, N] : Fin 3 → ℕ) a ≤ (⟨3, ![4, M, N]⟩ : Shape).size a)
    (b3 : ∀ a, (![3, 0, 0] : Fin 3 → ℕ) a + (![1, M, N] : Fin 3 → ℕ) a ≤ (⟨3, ![4, M, N]⟩ : Shape).size a)
    (w0 w1 w2 w3 : Shape.Idx ⟨3, ![1, M, N]⟩ → Elt Ideal e) (L : List (View.Piece (Elt Ideal) ⟨3, ![4, M, N]⟩ e))
    (h : Fin 4) (r : Fin M) (d : Fin N) :
    v.read (Elt Ideal) (v.writes (Elt Ideal) f
        ((⟨Rect.unit (s := ⟨3, ![4, M, N]⟩) ![3, 0, 0] ![1, M, N] b3, w3⟩ : View.Piece (Elt Ideal) ⟨3, ![4, M, N]⟩ e)
          :: ⟨Rect.unit (s := ⟨3, ![4, M, N]⟩) ![2, 0, 0] ![1, M, N] b2, w2⟩
          :: ⟨Rect.unit (s := ⟨3, ![4, M, N]⟩) ![1, 0, 0] ![1, M, N] b1, w1⟩
          :: ⟨Rect.unit (s := ⟨3, ![4, M, N]⟩) ![0, 0, 0] ![1, M, N] b0, w0⟩ :: L)) (ix3 h r d)
      = (match h with | 0 => w0 | 1 => w1 | 2 => w2 | 3 => w3) (ix3 0 r d) := by
  have hit : ∀ (q : ℕ) (bq : ∀ a, (![q, 0, 0] : Fin 3 → ℕ) a + (![1, M, N] : Fin 3 → ℕ) a ≤ (⟨3, ![4, M, N]⟩ : Shape).size a)
      (w : Shape.Idx ⟨3, ![1, M, N]⟩ → Elt Ideal e) (L : List (View.Piece (Elt Ideal) ⟨3, ![4, M, N]⟩ e)) (h : Fin 4), h.val = q →
      v.read (Elt Ideal) (v.writes (Elt Ideal) f ((⟨Rect.unit (s := ⟨3, ![4, M, N]⟩) ![q, 0, 0] ![1, M, N] bq, w⟩ : View.Piece (Elt Ideal) ⟨3, ![4, M, N]⟩ e) :: L)) (ix3 h r d)
        = w (ix3 0 r d) := fun q bq w L h hq =>
    View.read_writes_cons_unit_of_mem v f bq w L (ix3 h r d) (ix3 0 r d) rfl (fun a => by
      match a with
      | ⟨0, _⟩ => show h.val = q + 0; omega
      | ⟨1, _⟩ => show r.val = 0 + r.val; omega
      | ⟨2, _⟩ => show d.val = 0 + d.val; omega)
  have miss : ∀ (q : ℕ) (bq : ∀ a, (![q, 0, 0] : Fin 3 → ℕ) a + (![1, M, N] : Fin 3 → ℕ) a ≤ (⟨3, ![4, M, N]⟩ : Shape).size a)
      (w : Shape.Idx ⟨3, ![1, M, N]⟩ → Elt Ideal e) (L : List (View.Piece (Elt Ideal) ⟨3, ![4, M, N]⟩ e)) (h : Fin 4), h.val < q →
      v.read (Elt Ideal) (v.writes (Elt Ideal) f ((⟨Rect.unit (s := ⟨3, ![4, M, N]⟩) ![q, 0, 0] ![1, M, N] bq, w⟩ : View.Piece (Elt Ideal) ⟨3, ![4, M, N]⟩ e) :: L)) (ix3 h r d)
        = v.read (Elt Ideal) (v.writes (Elt Ideal) f L) (ix3 h r d) := fun q bq w L h hq =>
    View.read_writes_cons_unit_of_not_mem v f bq w L (ix3 h r d) rfl 0 (Or.inl hq)
  match h with
  | 3 => exact hit 3 b3 w3 _ 3 rfl
  | 2 => rw [miss 3 b3 w3 _ 2 (by decide)]; exact hit 2 b2 w2 _ 2 rfl
  | 1 => rw [miss 3 b3 w3 _ 1 (by decide), miss 2 b2 w2 _ 1 (by decide)]; exact hit 1 b1 w1 _ 1 rfl
  | 0 => rw [miss 3 b3 w3 _ 0 (by decide), miss 2 b2 w2 _ 0 (by decide), miss 1 b1 w1 _ 0 (by decide)]; exact hit 0 b0 w0 _ 0 rfl

/-- A block of 256 rows of one head. -/
theorem rdh {sp : Space} {e : EltTy} {M N : ℕ} (v : View sig .tc sp ⟨3, ![4, M, N]⟩ e) (X : v.ty.Contents (Elt Ideal)) (off : Fin 3 → ℕ) (h : Fin 4) (a : ℕ)
    (eo : off = ![h.val, a, 0]) (inb : ∀ x, off x + (![1, 256, N] : Fin 3 → ℕ) x ≤ (⟨3, ![4, M, N]⟩ : Shape).size x) (r : Fin 256) (ha : a + r.val < M) (d : Fin N) :
    v.readAt (Elt Ideal) (Rect.unit (s := ⟨3, ![4, M, N]⟩) off ![1, 256, N] inb).toLoadRect X (ix3 0 r d) = v.read (Elt Ideal) X (ix3 h ⟨a + r.val, ha⟩ d) := by
  subst eo
  exact rd3 v X _ _ inb (ix3 0 r d) (ix3 h ⟨a + r.val, ha⟩ d) (by show h.val = h.val + 0; omega) rfl (by show d.val = 0 + d.val; omega)

/-- Reading one head of a four-head scratch array gives that head's rows. -/
theorem rdh0 {sp : Space} {e : EltTy} {N : ℕ} (v : View sig .tc sp ⟨3, ![4, 256, N]⟩ e) (X : v.ty.Contents (Elt Ideal)) (off : Fin 3 → ℕ) (h : Fin 4)
    (eo : off = ![h.val, 0, 0]) (inb : ∀ x, off x + (![1, 256, N] : Fin 3 → ℕ) x ≤ (⟨3, ![4, 256, N]⟩ : Shape).size x) (r : Fin 256) (d : Fin N) :
    v.readAt (Elt Ideal) (Rect.unit (s := ⟨3, ![4, 256, N]⟩) off ![1, 256, N] inb).toLoadRect X (ix3 0 r d) = v.read (Elt Ideal) X (ix3 h r d) := by
  rw [rdh v X off h 0 eo inb r (by omega) d]
  exact congrArg (fun n => v.read (Elt Ideal) X (ix3 h n d)) (Fin.ext (Nat.zero_add _))

/-- What the accumulator and the carry hold from chunk n on, for the rows of chunk i 1 of sequence b. -/
structure Inv (X : Arr) (b s : ℕ) {arg10 : Memref sig .tc .vmem S4x256x64 .f32} {arg11 : Memref sig .tc .vmem S4x256x1 .f32} (n : ℕ)
    (f : BufTy.Contents (Elt Ideal) arg10.view.ty) (g : BufTy.Contents (Elt Ideal) arg11.view.ty) : Prop where
  acc : ∀ (h : Fin 4) (r : Fin 256) (d : Fin 64), arg10.view.read (Elt Ideal) f (ix3 h r d)
    = Layer.Sb.acc (score X b h.val (256 * s + r.val)) (256 * s + r.val) (fun j => el X b j (512 + (64 * h.val + d.val))) (256 * n)
  car : ∀ (h : Fin 4) (r : Fin 256), arg11.view.read (Elt Ideal) g (ix3 h r 0)
    = ((-(rest (score X b h.val (256 * s + r.val)) (256 * s + r.val) (256 * n)) * invLn2 : ℝ) : EReal)

/-- What the point holds in the operands of the loop: the scaled queries of its rows, all keys and values of its sequence, and the triangle. -/
structure Ops (X : Arr) (b s : ℕ) {arg5 : Memref sig .tc .vmem S256x256 .bf16} {arg7 : Memref sig .tc .vmem S4x256x64 .bf16}
    {arg8 : Memref sig .tc .vmem S4x4096x64 .bf16} {arg9 : Memref sig .tc .vmem S4x4096x64 .bf16}
    (X_arg5 : BufTy.Contents (Elt Ideal) arg5.view.ty) (X_arg7 : BufTy.Contents (Elt Ideal) arg7.view.ty)
    (X_arg8 : BufTy.Contents (Elt Ideal) arg8.view.ty) (X_arg9 : BufTy.Contents (Elt Ideal) arg9.view.ty) : Prop where
  u : ∀ a b : Fin 256, arg5.view.read (Elt Ideal) X_arg5 (ix2 a b) = tri a b
  q : ∀ (h : Fin 4) (r : Fin 256) (d : Fin 64), arg7.view.read (Elt Ideal) X_arg7 (ix3 h r d)
    = ((qk X b (256 * s + r.val) (64 * h.val + d.val) * qScale : ℝ) : EReal)
  k : ∀ (h : Fin 4) (j : Fin 4096) (d : Fin 64), arg8.view.read (Elt Ideal) X_arg8 (ix3 h j d)
    = ((qk X b j.val (256 + (64 * h.val + d.val)) : ℝ) : EReal)
  v : ∀ (h : Fin 4) (j : Fin 4096) (d : Fin 64), arg9.view.read (Elt Ideal) X_arg9 (ix3 h j d) = el X b j.val (512 + (64 * h.val + d.val))

/-- A block of queries against a block of keys. -/
theorem Z_at (X : Arr) (b s a : ℕ) {arg7 : Memref sig .tc .vmem S4x256x64 .bf16} {arg8 : Memref sig .tc .vmem S4x4096x64 .bf16}
    (X_arg7 : BufTy.Contents (Elt Ideal) arg7.view.ty) (X_arg8 : BufTy.Contents (Elt Ideal) arg8.view.ty)
    (hq : ∀ (h : Fin 4) (r : Fin 256) (d : Fin 64), arg7.view.read (Elt Ideal) X_arg7 (ix3 h r d)
      = ((qk X b (256 * s + r.val) (64 * h.val + d.val) * qScale : ℝ) : EReal))
    (hk : ∀ (h : Fin 4) (j : Fin 4096) (d : Fin 64), arg8.view.read (Elt Ideal) X_arg8 (ix3 h j d)
      = ((qk X b j.val (256 + (64 * h.val + d.val)) : ℝ) : EReal))
    (h : Fin 4) (off7 off8 : Fin 3 → ℕ) (e7 : off7 = ![h.val, 0, 0]) (e8 : off8 = ![h.val, a, 0]) (inb7 : ∀ a, off7 a + S1x256x64.size a ≤ S4x256x64.size a)
    (inb8 : ∀ a, off8 a + S1x256x64.size a ≤ S4x4096x64.size a) (r jj : Fin 256) (ha : a + 256 ≤ 4096) :
    Z (View.readAt (Elt Ideal) arg7.view (Rect.unit (s := S4x256x64) off7 S1x256x64.size inb7).toLoadRect X_arg7)
      (View.readAt (Elt Ideal) arg8.view (Rect.unit (s := S4x4096x64) off8 S1x256x64.size inb8).toLoadRect X_arg8) r jj
      = ((score X b h.val (256 * s + r.val) (a + jj.val) * invLn2 : ℝ) : EReal) := by
  subst e7 e8
  have hj := jj.isLt
  rw [← product_at]
  refine Finset.sum_congr rfl fun d _ => ?_
  have e1 := rdh0 arg7.view X_arg7 _ h rfl inb7 r d
  have e2 := rdh arg8.view X_arg8 _ h a rfl inb8 jj (by omega) d
  rw [hq] at e1
  rw [hk] at e2
  exact congrArg₂ (· * ·) e1 e2

section Loop

variable (𝒱 : Variants) (c : Dev nD) (bd : Option 𝒱.V) (i : grid0.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole)
  (arg5 : Memref sig .tc .vmem S256x256 .bf16) (harg5 : arg5.IsWhole) (arg6 : Memref sig .tc .vmem S1x256x256 .f32) (harg6 : arg6.IsWhole) (arg7 : Memref sig .tc .vmem S4x256x64 .bf16) (harg7 : arg7.IsWhole)
  (arg8 : Memref sig .tc .vmem S4x4096x64 .bf16) (harg8 : arg8.IsWhole) (arg9 : Memref sig .tc .vmem S4x4096x64 .bf16) (harg9 : arg9.IsWhole) (arg10 : Memref sig .tc .vmem S4x256x64 .f32) (harg10 : arg10.IsWhole)
  (arg11 : Memref sig .tc .vmem S4x256x1 .f32) (harg11 : arg11.IsWhole) (arg1 : BitVec 32)
  (v129 : FVec Ideal S256x256 .f32) (v145 : FVec Ideal S256x256 .f32) (v249 : FVec Ideal S256x64 .f32)
  (X_arg5 : BufTy.Contents (Elt Ideal) arg5.view.ty) (X_arg7 : BufTy.Contents (Elt Ideal) arg7.view.ty) (X_arg8 : BufTy.Contents (Elt Ideal) arg8.view.ty) (X_arg9 : BufTy.Contents (Elt Ideal) arg9.view.ty)

/-- The pieces a trip writes, newest first. -/
theorem tripL_eq (k : Fin (k0_t1_loop i).trips) (w : BitVec 32) (f : BufTy.Contents (Elt Ideal) arg10.view.ty) (g : BufTy.Contents (Elt Ideal) arg11.view.ty) :
    tripL_k0_t1 (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 k w f g
      = ([⟨Rect.unit ![3, 0, 0] S1x256x64.size inb_S4x256x64_S1x256x64_3_0_0, k0_pay92 (F := Ideal) (trip_k0_t1.sl.v460 i arg5 arg7 arg8 arg11 X_arg5 X_arg7 X_arg8 k g) (trip_k0_t1.sl.v461 arg10 f) (View.readAt (Elt Ideal) arg9.view (Rect.unit (s := S4x4096x64) (k0_off8 i k) S1x256x64.size (k0_off8_inb i k)).toLoadRect X_arg9)⟩,
          ⟨Rect.unit ![2, 0, 0] S1x256x64.size inb_S4x256x64_S1x256x64_2_0_0, trip_k0_t1.sl.v444 (F := Ideal) i arg5 arg7 arg8 arg9 arg10 arg11 X_arg5 X_arg7 X_arg8 X_arg9 k f g⟩,
          ⟨Rect.unit ![1, 0, 0] S1x256x64.size inb_S4x256x64_S1x256x64_1_0_0, trip_k0_t1.sl.v417 (F := Ideal) i arg5 arg7 arg8 arg9 arg10 arg11 X_arg5 X_arg7 X_arg8 X_arg9 k f g⟩,
          ⟨Rect.unit ![0, 0, 0] S1x256x64.size inb_S4x256x64_S1x256x64_0_0_0, trip_k0_t1.sl.v390 (F := Ideal) i arg5 arg7 arg8 arg9 arg10 arg11 X_arg5 X_arg7 X_arg8 X_arg9 k f g⟩],
         [⟨Rect.unit ![3, 0, 0] S1x256x1.size inb_S4x256x1_S1x256x1_3_0_0, k0_pay93 (F := Ideal) (trip_k0_t1.sl.r_9 i arg7 arg8 X_arg7 X_arg8 k) (trip_k0_t1.sl.v372 i arg5 arg7 arg8 X_arg5 X_arg7 X_arg8 k) (trip_k0_t1.sl.v472 arg11 g)⟩,
          ⟨Rect.unit ![2, 0, 0] S1x256x1.size inb_S4x256x1_S1x256x1_2_0_0, trip_k0_t1.sl.v453 (F := Ideal) i arg5 arg7 arg8 arg11 X_arg5 X_arg7 X_arg8 k g⟩,
          ⟨Rect.unit ![1, 0, 0] S1x256x1.size inb_S4x256x1_S1x256x1_1_0_0, trip_k0_t1.sl.v426 (F := Ideal) i arg5 arg7 arg8 arg11 X_arg5 X_arg7 X_arg8 k g⟩,
          ⟨Rect.unit ![0, 0, 0] S1x256x1.size inb_S4x256x1_S1x256x1_0_0_0, trip_k0_t1.sl.v399 (F := Ideal) i arg5 arg7 arg8 arg11 X_arg5 X_arg7 X_arg8 k g⟩]) := by
  unfold tripL_k0_t1 trip_k0_t1
  dsimp only

/-- A trip's accumulator and carry at head 0. -/
theorem head0_step (X : Arr) (b : ℕ) (ho : Ops X b (i 1).val X_arg5 X_arg7 X_arg8 X_arg9) (k : Fin (k0_t1_loop i).trips)
    (f : BufTy.Contents (Elt Ideal) arg10.view.ty) (g : BufTy.Contents (Elt Ideal) arg11.view.ty) (hi : Inv X b (i 1).val ((i 1).val - k.val) f g) (r : Fin 256) :
    (∀ d : Fin 64, (trip_k0_t1.sl.v390 (F := Ideal) i arg5 arg7 arg8 arg9 arg10 arg11 X_arg5 X_arg7 X_arg8 X_arg9 k f g) (ix3 0 r d)
        = Layer.Sb.acc (score X b 0 (256 * (i 1).val + r.val)) (256 * (i 1).val + r.val) (fun j => el X b j (512 + (64 * 0 + d.val))) (256 * ((i 1).val - (k.val + 1))))
      ∧ (trip_k0_t1.sl.v399 (F := Ideal) i arg5 arg7 arg8 arg11 X_arg5 X_arg7 X_arg8 k g) (ix3 0 r 0)
        = ((-(rest (score X b 0 (256 * (i 1).val + r.val)) (256 * (i 1).val + r.val) (256 * ((i 1).val - (k.val + 1)))) * invLn2 : ℝ) : EReal) := by
    have hk : k.val < (i 1).val := lt_of_lt_of_eq k.isLt (trips_eq i)
    have hi16 : (i 1).val < 16 := (i 1).isLt
    have eN : 256 * ((i 1).val - k.val) = 256 * ((i 1).val - (k.val + 1)) + 256 := by omega
    have hz : ∀ jj : Fin 256, Z (View.readAt (Elt Ideal) arg7.view (Rect.unit (s := S4x256x64) ![0, 0, 0] S1x256x64.size inb_S4x256x64_S1x256x64_0_0_0).toLoadRect X_arg7)
        (View.readAt (Elt Ideal) arg8.view (Rect.unit (s := S4x4096x64) (k0_off5 i k) S1x256x64.size (k0_off5_inb i k)).toLoadRect X_arg8) r jj
        = ((score X b 0 (256 * (i 1).val + r.val) (256 * ((i 1).val - (k.val + 1)) + jj.val) * invLn2 : ℝ) : EReal) := fun jj =>
      Z_at X b (i 1).val (256 * ((i 1).val - (k.val + 1))) X_arg7 X_arg8 ho.q ho.k 0 _ _ rfl (off5_eq i k) _ _ r jj (by omega)
    have hs : ∀ jj : Fin 256, spl (Z (View.readAt (Elt Ideal) arg7.view (Rect.unit (s := S4x256x64) ![0, 0, 0] S1x256x64.size inb_S4x256x64_S1x256x64_0_0_0).toLoadRect X_arg7)
        (View.readAt (Elt Ideal) arg8.view (Rect.unit (s := S4x4096x64) (k0_off5 i k) S1x256x64.size (k0_off5_inb i k)).toLoadRect X_arg8) r jj)
        = ((taken (score X b 0 (256 * (i 1).val + r.val)) (256 * (i 1).val + r.val) (256 * ((i 1).val - (k.val + 1)) + jj.val) * invLn2 : ℝ) : EReal) := fun jj => by
      have := jj.isLt
      rw [hz, spl_at, taken, if_pos (by omega)]
    have hU : ∀ a b : Fin 256, View.readAt (Elt Ideal) arg5.view (Rect.unit (s := S256x256) ![0, 0] S256x256.size inb_S256x256_S256x256_0_0).toLoadRect X_arg5 (ix2 a b) = tri a b := fun a b =>
      (rd2 arg5.view X_arg5 ![0, 0] _ _ (ix2 a b) (ix2 a b) (by show a.val = 0 + a.val; omega) (by show b.val = 0 + b.val; omega)).trans (ho.u a b)
    have hc : View.readAt (Elt Ideal) arg11.view (Rect.unit (s := S4x256x1) ![0, 0, 0] S1x256x1.size inb_S4x256x1_S1x256x1_0_0_0).toLoadRect g (ix3 0 r 0)
        = ((-(rest (score X b 0 (256 * (i 1).val + r.val)) (256 * (i 1).val + r.val) (256 * ((i 1).val - (k.val + 1)) + 256)) * invLn2 : ℝ) : EReal) := by
      refine (rdh0 arg11.view g ![0, 0, 0] 0 rfl _ r 0).trans ?_
      rw [hi.car, eN]
      rfl
    refine ⟨fun d => ?_, ?_⟩
    · rw [acc0_at]
      refine hacc_step (by omega) (by omega) hz hs hU hc ?_ fun jj => ?_
      · refine (rdh0 arg10.view f ![0, 0, 0] 0 rfl _ r d).trans ?_
        rw [hi.acc, eN]
        rfl
      · have := jj.isLt
        refine (rdh arg9.view X_arg9 _ 0 _ (off5_eq i k) _ jj (by omega) d).trans ?_
        rw [ho.v]
        rfl
    · rw [car0_at]
      exact hcar_step (by omega) hs hU hc

/-- A trip's accumulator and carry at head 1. -/
theorem head1_step (X : Arr) (b : ℕ) (ho : Ops X b (i 1).val X_arg5 X_arg7 X_arg8 X_arg9) (k : Fin (k0_t1_loop i).trips)
    (f : BufTy.Contents (Elt Ideal) arg10.view.ty) (g : BufTy.Contents (Elt Ideal) arg11.view.ty) (hi : Inv X b (i 1).val ((i 1).val - k.val) f g) (r : Fin 256) :
    (∀ d : Fin 64, (trip_k0_t1.sl.v417 (F := Ideal) i arg5 arg7 arg8 arg9 arg10 arg11 X_arg5 X_arg7 X_arg8 X_arg9 k f g) (ix3 0 r d)
        = Layer.Sb.acc (score X b 1 (256 * (i 1).val + r.val)) (256 * (i 1).val + r.val) (fun j => el X b j (512 + (64 * 1 + d.val))) (256 * ((i 1).val - (k.val + 1))))
      ∧ (trip_k0_t1.sl.v426 (F := Ideal) i arg5 arg7 arg8 arg11 X_arg5 X_arg7 X_arg8 k g) (ix3 0 r 0)
        = ((-(rest (score X b 1 (256 * (i 1).val + r.val)) (256 * (i 1).val + r.val) (256 * ((i 1).val - (k.val + 1)))) * invLn2 : ℝ) : EReal) := by
    have hk : k.val < (i 1).val := lt_of_lt_of_eq k.isLt (trips_eq i)
    have hi16 : (i 1).val < 16 := (i 1).isLt
    have eN : 256 * ((i 1).val - k.val) = 256 * ((i 1).val - (k.val + 1)) + 256 := by omega
    have hz : ∀ jj : Fin 256, Z (View.readAt (Elt Ideal) arg7.view (Rect.unit (s := S4x256x64) ![1, 0, 0] S1x256x64.size inb_S4x256x64_S1x256x64_1_0_0).toLoadRect X_arg7)
        (View.readAt (Elt Ideal) arg8.view (Rect.unit (s := S4x4096x64) (k0_off6 i k) S1x256x64.size (k0_off6_inb i k)).toLoadRect X_arg8) r jj
        = ((score X b 1 (256 * (i 1).val + r.val) (256 * ((i 1).val - (k.val + 1)) + jj.val) * invLn2 : ℝ) : EReal) := fun jj =>
      Z_at X b (i 1).val (256 * ((i 1).val - (k.val + 1))) X_arg7 X_arg8 ho.q ho.k 1 _ _ rfl (off6_eq i k) _ _ r jj (by omega)
    have hs : ∀ jj : Fin 256, spl (Z (View.readAt (Elt Ideal) arg7.view (Rect.unit (s := S4x256x64) ![1, 0, 0] S1x256x64.size inb_S4x256x64_S1x256x64_1_0_0).toLoadRect X_arg7)
        (View.readAt (Elt Ideal) arg8.view (Rect.unit (s := S4x4096x64) (k0_off6 i k) S1x256x64.size (k0_off6_inb i k)).toLoadRect X_arg8) r jj)
        = ((taken (score X b 1 (256 * (i 1).val + r.val)) (256 * (i 1).val + r.val) (256 * ((i 1).val - (k.val + 1)) + jj.val) * invLn2 : ℝ) : EReal) := fun jj => by
      have := jj.isLt
      rw [hz, spl_at, taken, if_pos (by omega)]
    have hU : ∀ a b : Fin 256, View.readAt (Elt Ideal) arg5.view (Rect.unit (s := S256x256) ![0, 0] S256x256.size inb_S256x256_S256x256_0_0).toLoadRect X_arg5 (ix2 a b) = tri a b := fun a b =>
      (rd2 arg5.view X_arg5 ![0, 0] _ _ (ix2 a b) (ix2 a b) (by show a.val = 0 + a.val; omega) (by show b.val = 0 + b.val; omega)).trans (ho.u a b)
    have hc : View.readAt (Elt Ideal) arg11.view (Rect.unit (s := S4x256x1) ![1, 0, 0] S1x256x1.size inb_S4x256x1_S1x256x1_1_0_0).toLoadRect g (ix3 0 r 0)
        = ((-(rest (score X b 1 (256 * (i 1).val + r.val)) (256 * (i 1).val + r.val) (256 * ((i 1).val - (k.val + 1)) + 256)) * invLn2 : ℝ) : EReal) := by
      refine (rdh0 arg11.view g ![1, 0, 0] 1 rfl _ r 0).trans ?_
      rw [hi.car, eN]
      rfl
    refine ⟨fun d => ?_, ?_⟩
    · rw [acc1_at]
      refine hacc_step (by omega) (by omega) hz hs hU hc ?_ fun jj => ?_
      · refine (rdh0 arg10.view f ![1, 0, 0] 1 rfl _ r d).trans ?_
        rw [hi.acc, eN]
        rfl
      · have := jj.isLt
        refine (rdh arg9.view X_arg9 _ 1 _ (off6_eq i k) _ jj (by omega) d).trans ?_
        rw [ho.v]
        rfl
    · rw [car1_at]
      exact hcar_step (by omega) hs hU hc

/-- A trip's accumulator and carry at head 2. -/
theorem head2_step (X : Arr) (b : ℕ) (ho : Ops X b (i 1).val X_arg5 X_arg7 X_arg8 X_arg9) (k : Fin (k0_t1_loop i).trips)
    (f : BufTy.Contents (Elt Ideal) arg10.view.ty) (g : BufTy.Contents (Elt Ideal) arg11.view.ty) (hi : Inv X b (i 1).val ((i 1).val - k.val) f g) (r : Fin 256) :
    (∀ d : Fin 64, (trip_k0_t1.sl.v444 (F := Ideal) i arg5 arg7 arg8 arg9 arg10 arg11 X_arg5 X_arg7 X_arg8 X_arg9 k f g) (ix3 0 r d)
        = Layer.Sb.acc (score X b 2 (256 * (i 1).val + r.val)) (256 * (i 1).val + r.val) (fun j => el X b j (512 + (64 * 2 + d.val))) (256 * ((i 1).val - (k.val + 1))))
      ∧ (trip_k0_t1.sl.v453 (F := Ideal) i arg5 arg7 arg8 arg11 X_arg5 X_arg7 X_arg8 k g) (ix3 0 r 0)
        = ((-(rest (score X b 2 (256 * (i 1).val + r.val)) (256 * (i 1).val + r.val) (256 * ((i 1).val - (k.val + 1)))) * invLn2 : ℝ) : EReal) := by
    have hk : k.val < (i 1).val := lt_of_lt_of_eq k.isLt (trips_eq i)
    have hi16 : (i 1).val < 16 := (i 1).isLt
    have eN : 256 * ((i 1).val - k.val) = 256 * ((i 1).val - (k.val + 1)) + 256 := by omega
    have hz : ∀ jj : Fin 256, Z (View.readAt (Elt Ideal) arg7.view (Rect.unit (s := S4x256x64) ![2, 0, 0] S1x256x64.size inb_S4x256x64_S1x256x64_2_0_0).toLoadRect X_arg7)
        (View.readAt (Elt Ideal) arg8.view (Rect.unit (s := S4x4096x64) (k0_off7 i k) S1x256x64.size (k0_off7_inb i k)).toLoadRect X_arg8) r jj
        = ((score X b 2 (256 * (i 1).val + r.val) (256 * ((i 1).val - (k.val + 1)) + jj.val) * invLn2 : ℝ) : EReal) := fun jj =>
      Z_at X b (i 1).val (256 * ((i 1).val - (k.val + 1))) X_arg7 X_arg8 ho.q ho.k 2 _ _ rfl (off7_eq i k) _ _ r jj (by omega)
    have hs : ∀ jj : Fin 256, spl (Z (View.readAt (Elt Ideal) arg7.view (Rect.unit (s := S4x256x64) ![2, 0, 0] S1x256x64.size inb_S4x256x64_S1x256x64_2_0_0).toLoadRect X_arg7)
        (View.readAt (Elt Ideal) arg8.view (Rect.unit (s := S4x4096x64) (k0_off7 i k) S1x256x64.size (k0_off7_inb i k)).toLoadRect X_arg8) r jj)
        = ((taken (score X b 2 (256 * (i 1).val + r.val)) (256 * (i 1).val + r.val) (256 * ((i 1).val - (k.val + 1)) + jj.val) * invLn2 : ℝ) : EReal) := fun jj => by
      have := jj.isLt
      rw [hz, spl_at, taken, if_pos (by omega)]
    have hU : ∀ a b : Fin 256, View.readAt (Elt Ideal) arg5.view (Rect.unit (s := S256x256) ![0, 0] S256x256.size inb_S256x256_S256x256_0_0).toLoadRect X_arg5 (ix2 a b) = tri a b := fun a b =>
      (rd2 arg5.view X_arg5 ![0, 0] _ _ (ix2 a b) (ix2 a b) (by show a.val = 0 + a.val; omega) (by show b.val = 0 + b.val; omega)).trans (ho.u a b)
    have hc : View.readAt (Elt Ideal) arg11.view (Rect.unit (s := S4x256x1) ![2, 0, 0] S1x256x1.size inb_S4x256x1_S1x256x1_2_0_0).toLoadRect g (ix3 0 r 0)
        = ((-(rest (score X b 2 (256 * (i 1).val + r.val)) (256 * (i 1).val + r.val) (256 * ((i 1).val - (k.val + 1)) + 256)) * invLn2 : ℝ) : EReal) := by
      refine (rdh0 arg11.view g ![2, 0, 0] 2 rfl _ r 0).trans ?_
      rw [hi.car, eN]
      rfl
    refine ⟨fun d => ?_, ?_⟩
    · rw [acc2_at]
      refine hacc_step (by omega) (by omega) hz hs hU hc ?_ fun jj => ?_
      · refine (rdh0 arg10.view f ![2, 0, 0] 2 rfl _ r d).trans ?_
        rw [hi.acc, eN]
        rfl
      · have := jj.isLt
        refine (rdh arg9.view X_arg9 _ 2 _ (off7_eq i k) _ jj (by omega) d).trans ?_
        rw [ho.v]
        rfl
    · rw [car2_at]
      exact hcar_step (by omega) hs hU hc

/-- A trip's accumulator and carry at head 3. -/
theorem head3_step (X : Arr) (b : ℕ) (ho : Ops X b (i 1).val X_arg5 X_arg7 X_arg8 X_arg9) (k : Fin (k0_t1_loop i).trips)
    (f : BufTy.Contents (Elt Ideal) arg10.view.ty) (g : BufTy.Contents (Elt Ideal) arg11.view.ty) (hi : Inv X b (i 1).val ((i 1).val - k.val) f g) (r : Fin 256) :
    (∀ d : Fin 64, (k0_pay92 (F := Ideal) (trip_k0_t1.sl.v460 i arg5 arg7 arg8 arg11 X_arg5 X_arg7 X_arg8 k g) (trip_k0_t1.sl.v461 arg10 f) (View.readAt (Elt Ideal) arg9.view (Rect.unit (s := S4x4096x64) (k0_off8 i k) S1x256x64.size (k0_off8_inb i k)).toLoadRect X_arg9)) (ix3 0 r d)
        = Layer.Sb.acc (score X b 3 (256 * (i 1).val + r.val)) (256 * (i 1).val + r.val) (fun j => el X b j (512 + (64 * 3 + d.val))) (256 * ((i 1).val - (k.val + 1))))
      ∧ (k0_pay93 (F := Ideal) (trip_k0_t1.sl.r_9 i arg7 arg8 X_arg7 X_arg8 k) (trip_k0_t1.sl.v372 i arg5 arg7 arg8 X_arg5 X_arg7 X_arg8 k) (trip_k0_t1.sl.v472 arg11 g)) (ix3 0 r 0)
        = ((-(rest (score X b 3 (256 * (i 1).val + r.val)) (256 * (i 1).val + r.val) (256 * ((i 1).val - (k.val + 1)))) * invLn2 : ℝ) : EReal) := by
    have hk : k.val < (i 1).val := lt_of_lt_of_eq k.isLt (trips_eq i)
    have hi16 : (i 1).val < 16 := (i 1).isLt
    have eN : 256 * ((i 1).val - k.val) = 256 * ((i 1).val - (k.val + 1)) + 256 := by omega
    have hz : ∀ jj : Fin 256, Z (View.readAt (Elt Ideal) arg7.view (Rect.unit (s := S4x256x64) ![3, 0, 0] S1x256x64.size inb_S4x256x64_S1x256x64_3_0_0).toLoadRect X_arg7)
        (View.readAt (Elt Ideal) arg8.view (Rect.unit (s := S4x4096x64) (k0_off8 i k) S1x256x64.size (k0_off8_inb i k)).toLoadRect X_arg8) r jj
        = ((score X b 3 (256 * (i 1).val + r.val) (256 * ((i 1).val - (k.val + 1)) + jj.val) * invLn2 : ℝ) : EReal) := fun jj =>
      Z_at X b (i 1).val (256 * ((i 1).val - (k.val + 1))) X_arg7 X_arg8 ho.q ho.k 3 _ _ rfl (off8_eq i k) _ _ r jj (by omega)
    have hs : ∀ jj : Fin 256, spl (Z (View.readAt (Elt Ideal) arg7.view (Rect.unit (s := S4x256x64) ![3, 0, 0] S1x256x64.size inb_S4x256x64_S1x256x64_3_0_0).toLoadRect X_arg7)
        (View.readAt (Elt Ideal) arg8.view (Rect.unit (s := S4x4096x64) (k0_off8 i k) S1x256x64.size (k0_off8_inb i k)).toLoadRect X_arg8) r jj)
        = ((taken (score X b 3 (256 * (i 1).val + r.val)) (256 * (i 1).val + r.val) (256 * ((i 1).val - (k.val + 1)) + jj.val) * invLn2 : ℝ) : EReal) := fun jj => by
      have := jj.isLt
      rw [hz, spl_at, taken, if_pos (by omega)]
    have hU : ∀ a b : Fin 256, View.readAt (Elt Ideal) arg5.view (Rect.unit (s := S256x256) ![0, 0] S256x256.size inb_S256x256_S256x256_0_0).toLoadRect X_arg5 (ix2 a b) = tri a b := fun a b =>
      (rd2 arg5.view X_arg5 ![0, 0] _ _ (ix2 a b) (ix2 a b) (by show a.val = 0 + a.val; omega) (by show b.val = 0 + b.val; omega)).trans (ho.u a b)
    have hc : View.readAt (Elt Ideal) arg11.view (Rect.unit (s := S4x256x1) ![3, 0, 0] S1x256x1.size inb_S4x256x1_S1x256x1_3_0_0).toLoadRect g (ix3 0 r 0)
        = ((-(rest (score X b 3 (256 * (i 1).val + r.val)) (256 * (i 1).val + r.val) (256 * ((i 1).val - (k.val + 1)) + 256)) * invLn2 : ℝ) : EReal) := by
      refine (rdh0 arg11.view g ![3, 0, 0] 3 rfl _ r 0).trans ?_
      rw [hi.car, eN]
      rfl
    refine ⟨fun d => ?_, ?_⟩
    · rw [acc3_at]
      refine hacc_step (by omega) (by omega) hz hs hU hc ?_ fun jj => ?_
      · refine (rdh0 arg10.view f ![3, 0, 0] 3 rfl _ r d).trans ?_
        rw [hi.acc, eN]
        rfl
      · have := jj.isLt
        refine (rdh arg9.view X_arg9 _ 3 _ (off8_eq i k) _ jj (by omega) d).trans ?_
        rw [ho.v]
        rfl
    · rw [car3_at]
      exact hcar_step (by omega) hs hU hc

/-- A trip takes the invariant one chunk back. -/
theorem trip_inv (X : Arr) (b : ℕ) (ho : Ops X b (i 1).val X_arg5 X_arg7 X_arg8 X_arg9) (k : Fin (k0_t1_loop i).trips) (w : BitVec 32)
    (f : BufTy.Contents (Elt Ideal) arg10.view.ty) (g : BufTy.Contents (Elt Ideal) arg11.view.ty) (hi : Inv X b (i 1).val ((i 1).val - k.val) f g) :
    Inv X b (i 1).val ((i 1).val - (k.val + 1))
      (arg10.view.writes (Elt Ideal) f (tripL_k0_t1 (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 k w f g).1)
      (arg11.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 k w f g).2) := by
  rw [tripL_eq]
  refine ⟨fun h r d => ?_, fun h r => ?_⟩
  · refine (four arg10.view f _ _ _ _ _ _ _ _ [] h r d).trans ?_
    match h with
    | 0 => exact (head0_step i arg5 arg7 arg8 arg9 arg10 arg11 X_arg5 X_arg7 X_arg8 X_arg9 X b ho k f g hi r).1 d
    | 1 => exact (head1_step i arg5 arg7 arg8 arg9 arg10 arg11 X_arg5 X_arg7 X_arg8 X_arg9 X b ho k f g hi r).1 d
    | 2 => exact (head2_step i arg5 arg7 arg8 arg9 arg10 arg11 X_arg5 X_arg7 X_arg8 X_arg9 X b ho k f g hi r).1 d
    | 3 => exact (head3_step i arg5 arg7 arg8 arg9 arg10 arg11 X_arg5 X_arg7 X_arg8 X_arg9 X b ho k f g hi r).1 d
  · refine (four arg11.view g _ _ _ _ _ _ _ _ [] h r 0).trans ?_
    match h with
    | 0 => exact (head0_step i arg5 arg7 arg8 arg9 arg10 arg11 X_arg5 X_arg7 X_arg8 X_arg9 X b ho k f g hi r).2
    | 1 => exact (head1_step i arg5 arg7 arg8 arg9 arg10 arg11 X_arg5 X_arg7 X_arg8 X_arg9 X b ho k f g hi r).2
    | 2 => exact (head2_step i arg5 arg7 arg8 arg9 arg10 arg11 X_arg5 X_arg7 X_arg8 X_arg9 X b ho k f g hi r).2
    | 3 => exact (head3_step i arg5 arg7 arg8 arg9 arg10 arg11 X_arg5 X_arg7 X_arg8 X_arg9 X b ho k f g hi r).2

/-- After n trips the invariant stands n chunks back. -/
theorem loop_inv (X : Arr) (b : ℕ) (ho : Ops X b (i 1).val X_arg5 X_arg7 X_arg8 X_arg9)
    (G10 : BufTy.Contents (Elt Ideal) arg10.view.ty) (G11 : BufTy.Contents (Elt Ideal) arg11.view.ty) (init : BitVec 32)
    (hi : Inv X b (i 1).val (i 1).val G10 G11) : ∀ n : ℕ, n ≤ (i 1).val →
    Inv X b (i 1).val ((i 1).val - n)
      (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 G10 G11 init n).2.1)
      (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 G10 G11 init n).2.2)
  | 0, _ => hi
  | n + 1, hn => by
    have hk : n < (k0_t1_loop i).trips := by rw [trips_eq]; omega
    have ih := loop_inv X b ho G10 G11 init hi n (by omega)
    have e := st_k0_t1_succ (F := Ideal) 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 G10 G11 init ⟨n, hk⟩
    rw [show n + 1 = (⟨n, hk⟩ : Fin (k0_t1_loop i).trips).val + 1 from rfl, e]
    dsimp only
    rw [View.writes_append, View.writes_append]
    exact trip_inv 𝒱 c bd i arg2 harg2 arg3 harg3 arg4 harg4 arg5 harg5 arg6 harg6 arg7 harg7 arg8 harg8 arg9 harg9 arg10 harg10 arg11 harg11 arg1 v129 v145 v249 X_arg5 X_arg7 X_arg8 X_arg9 X b ho ⟨n, hk⟩ _ _ _ ih

end Loop

end Cert.SbKernelIdeal.Pure
-- ==== Proof.SbDiag.lean ====
module

public import proofs.«01_k».proof.Proof.SbLoop

/-! The chunk of the row itself, element by element: a row weighs only the keys before it. -/

@[expose] public section

set_option maxRecDepth 16384
noncomputable section

namespace Cert.SbKernelIdeal.Pure

open Idealize.ShloMosaic Idealize.ShloMosaic.TcCoe Idealize.SL.Sem Cert.SbKernelIdeal Cert.SbKernelIdeal.Gen Cert.Layer.Sb

/-- What the row's own chunk takes of the stick: nothing at the keys from the row on. -/
def sM (q k : Vec Ideal S1x256x64 .bf16) (r jj : Fin 256) : EReal := if jj.val < r.val then spl (Z q k r jj) else 0

/-- The mask of the row's own chunk: the keys before the row. -/
theorem mask_at (r jj : Fin 256) : k0_pay64 (ix2 r jj) = if jj.val < r.val then 1#1 else 0#1 := by
  pointwise [k0_pay64]
  have h1 := r.isLt
  have h2 := jj.isLt
  rw [WordCmp.cmpi_slt_ofNat (by omega) (by omega)]
  by_cases h : jj.val < r.val <;> simp [h]

/-- Selecting by the diagonal block's mask. -/
theorem select_mask (r jj : Fin 256) (x : EReal) : Scalar.select (k0_pay64 (ix2 r jj)) x (0 : EReal) = if jj.val < r.val then x else 0 := by
  rw [mask_at]
  by_cases h : jj.val < r.val
  · rw [if_pos h, if_pos h]; rfl
  · rw [if_neg h, if_neg h]; rfl

/-- A masked sum of products is a sum of products of masked factors. -/
theorem masked_sum (r : Fin 256) (a : EReal) (e v : Fin 256 → EReal) :
    a + ∑ jj : Fin 256, Scalar.select (k0_pay64 (ix2 r jj)) (e jj * v jj) (0 : EReal) = a + ∑ jj : Fin 256, (if jj.val < r.val then e jj else 0) * v jj := by
  refine congrArg (fun s : EReal => a + s) (Finset.sum_congr rfl fun jj _ => ?_)
  rw [select_mask]
  by_cases h : jj.val < r.val
  · rw [if_pos h, if_pos h]
  · rw [if_neg h, if_neg h, zero_mul]

/-- Head 0's scores on the diagonal block. -/
theorem dz0_at (q k : Vec Ideal S1x256x64 .bf16) (r jj : Fin 256) : k0_pay65 (F := Ideal) q k (ix2 r jj) = Z q k r jj := by
  pointwise [k0_pay65]
  rfl

/-- Head 0's masked softplus on the diagonal block. -/
theorem ds0_at (q k : Vec Ideal S1x256x64 .bf16) (r jj : Fin 256) : k0_pay66 (F := Ideal) q k (ix2 r jj) = sM q k r jj := by
  pointwise [k0_pay66]
  rw [select_mask, dz0_at, inv_ln2, spl_eq, sM]

/-- The accumulator of head 0 after the row's own chunk. -/
theorem dacc0_at (q k : Vec Ideal S1x256x64 .bf16) (U : Vec Ideal S256x256 .bf16) (c : Vec Ideal S1x256x1 .f32) (a : Vec Ideal S1x256x64 .f32)
    (v : Vec Ideal S1x256x64 .bf16) (r : Fin 256) (d : Fin 64) :
    k0_pay80 (F := Ideal) k0_pay64 (k0_pay65 (F := Ideal) q k) (k0_pay66 (F := Ideal) q k) (k0_pay74 (k0_pay66 (F := Ideal) q k) U) c a v (ix3 0 r d)
      = haccM r.val (Z q k r) (sM q k r) (fun x y => U (ix2 x y)) (c (ix3 0 r 0)) (a (ix3 0 r d)) (fun jj => v (ix3 0 jj d)) := by
  pointwise [k0_pay80, k0_pay74]
  rw [masked_sum]
  simp only [dz0_at, ds0_at]
  rfl

/-- The carry of head 0 after the row's own chunk. -/
theorem dcar0_at (q k : Vec Ideal S1x256x64 .bf16) (U : Vec Ideal S256x256 .bf16) (c : Vec Ideal S1x256x1 .f32) (r : Fin 256) :
    k0_pay81 (F := Ideal) (k0_pay66 (F := Ideal) q k) (k0_pay74 (k0_pay66 (F := Ideal) q k) U) c (ix3 0 r 0)
      = hcar (sM q k r) (fun x y => U (ix2 x y)) (c (ix3 0 r 0)) := by
  pointwise [k0_pay81, k0_pay74]
  simp only [ds0_at]
  rfl

/-- Head 1's scores on the diagonal block. -/
theorem dz1_at (q k : Vec Ideal S1x256x64 .bf16) (r jj : Fin 256) : k0_pay67 (F := Ideal) q k (ix2 r jj) = Z q k r jj := by
  pointwise [k0_pay67]
  rfl

/-- Head 1's masked softplus on the diagonal block. -/
theorem ds1_at (q k : Vec Ideal S1x256x64 .bf16) (r jj : Fin 256) : k0_pay68 (F := Ideal) k0_pay64 q k (ix2 r jj) = sM q k r jj := by
  pointwise [k0_pay68]
  rw [select_mask, dz1_at, inv_ln2, spl_eq, sM]

/-- The accumulator of head 1 after the row's own chunk. -/
theorem dacc1_at (q k : Vec Ideal S1x256x64 .bf16) (U : Vec Ideal S256x256 .bf16) (c : Vec Ideal S1x256x1 .f32) (a : Vec Ideal S1x256x64 .f32)
    (v : Vec Ideal S1x256x64 .bf16) (r : Fin 256) (d : Fin 64) :
    k0_pay83 (F := Ideal) k0_pay64 (k0_pay82 (k0_pay67 (F := Ideal) q k) (k0_pay68 (F := Ideal) k0_pay64 q k) (k0_pay75 (k0_pay68 (F := Ideal) k0_pay64 q k) U) c) a v (ix3 0 r d)
      = haccM r.val (Z q k r) (sM q k r) (fun x y => U (ix2 x y)) (c (ix3 0 r 0)) (a (ix3 0 r d)) (fun jj => v (ix3 0 jj d)) := by
  pointwise [k0_pay83, k0_pay82, k0_pay75]
  rw [masked_sum]
  simp only [dz1_at, ds1_at]
  rfl

/-- The carry of head 1 after the row's own chunk. -/
theorem dcar1_at (q k : Vec Ideal S1x256x64 .bf16) (U : Vec Ideal S256x256 .bf16) (c : Vec Ideal S1x256x1 .f32) (r : Fin 256) :
    k0_pay84 (F := Ideal) (k0_pay68 (F := Ideal) k0_pay64 q k) (k0_pay75 (k0_pay68 (F := Ideal) k0_pay64 q k) U) c (ix3 0 r 0)
      = hcar (sM q k r) (fun x y => U (ix2 x y)) (c (ix3 0 r 0)) := by
  pointwise [k0_pay84, k0_pay75]
  simp only [ds1_at]
  rfl

/-- Head 2's scores on the diagonal block. -/
theorem dz2_at (q k : Vec Ideal S1x256x64 .bf16) (r jj : Fin 256) : k0_pay69 (F := Ideal) q k (ix2 r jj) = Z q k r jj := by
  pointwise [k0_pay69]
  rfl

/-- Head 2's masked softplus on the diagonal block. -/
theorem ds2_at (q k : Vec Ideal S1x256x64 .bf16) (r jj : Fin 256) : k0_pay71 (F := Ideal) k0_pay64 (k0_pay70 q k) (Scalar.ofBits .f32 0x00000000#32) (ix2 r jj) = sM q k r jj := by
  pointwise [k0_pay71, k0_pay70]
  rw [select_mask, dz2_at, inv_ln2, spl_eq, sM]

/-- Head 2's masked softplus on the diagonal block, with the zero written out. -/
theorem ds2z_at (q k : Vec Ideal S1x256x64 .bf16) (r jj : Fin 256) :
    k0_pay71 (F := Ideal) k0_pay64 (k0_pay70 q k) (0 : EReal) (ix2 r jj) = sM q k r jj := by
  pointwise [k0_pay71, k0_pay70]
  rw [select_mask, dz2_at, inv_ln2, spl_eq, sM]

/-- The accumulator of head 2 after the row's own chunk. -/
theorem dacc2_at (q k : Vec Ideal S1x256x64 .bf16) (U : Vec Ideal S256x256 .bf16) (c : Vec Ideal S1x256x1 .f32) (a : Vec Ideal S1x256x64 .f32)
    (v : Vec Ideal S1x256x64 .bf16) (r : Fin 256) (d : Fin 64) :
    k0_pay87 (F := Ideal) (k0_pay85 a) (k0_pay86 k0_pay64 (k0_pay69 (F := Ideal) q k) (k0_pay71 (F := Ideal) k0_pay64 (k0_pay70 q k) (Scalar.ofBits .f32 0x00000000#32)) (k0_pay76 (F := Ideal) k0_pay64 (k0_pay70 q k) (Scalar.ofBits .f32 0x00000000#32) U) c) v (ix3 0 r d)
      = haccM r.val (Z q k r) (sM q k r) (fun x y => U (ix2 x y)) (c (ix3 0 r 0)) (a (ix3 0 r d)) (fun jj => v (ix3 0 jj d)) := by
  pointwise [k0_pay87, k0_pay85, k0_pay86, k0_pay76]
  rw [masked_sum]
  simp only [dz2_at, ds2_at, ds2z_at]
  rfl

/-- The carry of head 2 after the row's own chunk. -/
theorem dcar2_at (q k : Vec Ideal S1x256x64 .bf16) (U : Vec Ideal S256x256 .bf16) (c : Vec Ideal S1x256x1 .f32) (r : Fin 256) :
    k0_pay88 (F := Ideal) (k0_pay71 (F := Ideal) k0_pay64 (k0_pay70 q k) (Scalar.ofBits .f32 0x00000000#32)) (k0_pay76 (F := Ideal) k0_pay64 (k0_pay70 q k) (Scalar.ofBits .f32 0x00000000#32) U) c (ix3 0 r 0)
      = hcar (sM q k r) (fun x y => U (ix2 x y)) (c (ix3 0 r 0)) := by
  pointwise [k0_pay88, k0_pay76]
  simp only [ds2_at, ds2z_at]
  rfl

/-- Head 3's scores on the diagonal block. -/
theorem dz3_at (q k : Vec Ideal S1x256x64 .bf16) (r jj : Fin 256) : k0_pay72 (F := Ideal) q k (ix2 r jj) = Z q k r jj := by
  pointwise [k0_pay72]
  rfl

/-- Head 3's masked softplus on the diagonal block. -/
theorem ds3_at (q k : Vec Ideal S1x256x64 .bf16) (r jj : Fin 256) : k0_pay73 (F := Ideal) k0_pay64 q k (ix2 r jj) = sM q k r jj := by
  pointwise [k0_pay73]
  rw [select_mask, dz3_at, inv_ln2, spl_eq, sM]

/-- The accumulator of head 3 after the row's own chunk. -/
theorem dacc3_at (q k : Vec Ideal S1x256x64 .bf16) (U : Vec Ideal S256x256 .bf16) (c : Vec Ideal S1x256x1 .f32) (a : Vec Ideal S1x256x64 .f32)
    (v : Vec Ideal S1x256x64 .bf16) (r : Fin 256) (d : Fin 64) :
    k0_pay90 (F := Ideal) (k0_pay89 k0_pay64 (k0_pay72 (F := Ideal) q k) (k0_pay73 (F := Ideal) k0_pay64 q k) (k0_pay79 (k0_pay77 (F := Ideal) k0_pay64 q k) (k0_pay78 U) (constant S256x256 .f32 0x00000000#32)) c a v) (ix3 0 r d)
      = haccM r.val (Z q k r) (sM q k r) (fun x y => U (ix2 x y)) (c (ix3 0 r 0)) (a (ix3 0 r d)) (fun jj => v (ix3 0 jj d)) := by
  pointwise [k0_pay90, k0_pay89, k0_pay79, k0_pay77, k0_pay78]
  rw [masked_sum]
  simp only [dz3_at, ds3_at]
  rfl

/-- The carry of head 3 after the row's own chunk. -/
theorem dcar3_at (q k : Vec Ideal S1x256x64 .bf16) (U : Vec Ideal S256x256 .bf16) (c : Vec Ideal S1x256x1 .f32) (r : Fin 256) :
    k0_pay91 (F := Ideal) (k0_pay73 (F := Ideal) k0_pay64 q k) (k0_pay79 (k0_pay77 (F := Ideal) k0_pay64 q k) (k0_pay78 U) (constant S256x256 .f32 0x00000000#32)) c (ix3 0 r 0)
      = hcar (sM q k r) (fun x y => U (ix2 x y)) (c (ix3 0 r 0)) := by
  pointwise [k0_pay91, k0_pay79, k0_pay77, k0_pay78]
  simp only [ds3_at]
  rfl

/-- The scaled queries of head 0. -/
theorem dq0_at (x : Vec Ideal S1x256x256 .bf16) (r : Fin 256) (d : Fin 64) :
    k0_pay57 (F := Ideal) x (ix3 0 r d) = x (ix3 0 r ⟨64 * 0 + d.val, by omega⟩) * (qScale : EReal) := by
  pointwise [k0_pay57, k0_pay56]
  rw [scale_log2e]

/-- The scaled queries of head 1. -/
theorem dq1_at (x : Vec Ideal S1x256x256 .bf16) (r : Fin 256) (d : Fin 64) :
    k0_pay58 (F := Ideal) x (ix3 0 r d) = x (ix3 0 r ⟨64 * 1 + d.val, by omega⟩) * (qScale : EReal) := by
  pointwise [k0_pay58, k0_pay56]
  rw [scale_log2e]

/-- The scaled queries of head 2. -/
theorem dq2_at (x : Vec Ideal S1x256x256 .bf16) (r : Fin 256) (d : Fin 64) :
    k0_pay59 (F := Ideal) x (ix3 0 r d) = x (ix3 0 r ⟨64 * 2 + d.val, by omega⟩) * (qScale : EReal) := by
  pointwise [k0_pay59, k0_pay56]
  rw [scale_log2e]

/-- The scaled queries of head 3. -/
theorem dq3_at (x : Vec Ideal S1x256x256 .bf16) (r : Fin 256) (d : Fin 64) :
    k0_pay61 (F := Ideal) (k0_pay60 x) (ix3 0 r d) = x (ix3 0 r ⟨64 * 3 + d.val, by omega⟩) * (qScale : EReal) := by
  pointwise [k0_pay61, k0_pay60, k0_pay56]
  rw [scale_log2e]

/-- The accumulators start at zero. -/
theorem zero10_at (x : S4x256x64.Idx) : k0_pay62 (F := Ideal) x = 0 := by
  pointwise [k0_pay62]

/-- The carried sums start at zero. -/
theorem zero11_at (x : S4x256x1.Idx) : k0_pay63 (F := Ideal) x = 0 := by
  pointwise [k0_pay63]

/-- The heads side by side: column e of the block is column e % 64 of head e / 64. -/
theorem out_at (a0 a1 a2 a3 : Vec Ideal S1x256x64 .f32) (r e : Fin 256) :
    k0_pay1 (F := Ideal) (k0_pay96 a0 a1 a2 a3) (ix3 0 r e)
      = (match (⟨e.val / 64, by omega⟩ : Fin 4) with | 0 => a0 | 1 => a1 | 2 => a2 | 3 => a3) (ix3 0 r ⟨e.val % 64, by omega⟩) := by
  pointwise [k0_pay1, k0_pay96]
  obtain ⟨h, hh⟩ : ∃ h : Fin 4, h.val = e.val / 64 := ⟨⟨e.val / 64, by omega⟩, rfl⟩
  rw [show (⟨e.val / 64, by omega⟩ : Fin 4) = h from Fin.ext hh.symm]
  have he := e.isLt
  match h, hh with
  | 0, hh =>
    replace hh : 0 = e.val / 64 := hh
    rw [dif_pos (by omega)]
    exact congrArg (fun d => a0 (ix3 0 r d)) (Fin.ext (by show e.val = e.val % 64; omega))
  | 1, hh =>
    replace hh : 1 = e.val / 64 := hh
    rw [dif_neg (by omega), dif_pos (by omega)]
    exact congrArg (fun d => a1 (ix3 0 r d)) (Fin.ext (by show e.val - 64 = e.val % 64; omega))
  | 2, hh =>
    replace hh : 2 = e.val / 64 := hh
    rw [dif_neg (by omega), dif_neg (by omega), dif_pos (by omega)]
    exact congrArg (fun d => a2 (ix3 0 r d)) (Fin.ext (by show e.val - 64 - 64 = e.val % 64; omega))
  | 3, hh =>
    replace hh : 3 = e.val / 64 := hh
    rw [dif_neg (by omega), dif_neg (by omega), dif_neg (by omega)]
    exact congrArg (fun d => a3 (ix3 0 r d)) (Fin.ext (by show e.val - 64 - 64 - 64 = e.val % 64; omega))

end Cert.SbKernelIdeal.Pure
-- ==== Proof.SbPoint.lean ====
module

public import proofs.«01_k».proof.Proof.SbDiag

/-! One point: what the accumulator holds after the row's own chunk and after the loop over the chunks before it. -/

@[expose] public section

set_option maxRecDepth 16384
noncomputable section

namespace Cert.SbKernelIdeal.Pure

open Idealize.ShloMosaic Idealize.ShloMosaic.TcCoe Idealize.SL.Sem Cert.SbKernelIdeal Cert.SbKernelIdeal.Gen Cert.Layer.Sb

/-- A block written at another head leaves this head's. -/
theorem other_head {sp : Space} {e : EltTy} {N : ℕ} (v : View sig .tc sp ⟨3, ![4, 256, N]⟩ e) (f : v.ty.Contents (Elt Ideal)) (q : ℕ)
    (bq : ∀ a, (![q, 0, 0] : Fin 3 → ℕ) a + (![1, 256, N] : Fin 3 → ℕ) a ≤ (⟨3, ![4, 256, N]⟩ : Shape).size a)
    (w : Shape.Idx ⟨3, ![1, 256, N]⟩ → Elt Ideal e) (L : List (View.Piece (Elt Ideal) ⟨3, ![4, 256, N]⟩ e)) (h : Fin 4) (hq : q < h.val) (r : Fin 256) (d : Fin N) :
    v.read (Elt Ideal) (v.writes (Elt Ideal) f ((⟨Rect.unit (s := ⟨3, ![4, 256, N]⟩) ![q, 0, 0] ![1, 256, N] bq, w⟩ : View.Piece (Elt Ideal) ⟨3, ![4, 256, N]⟩ e) :: L)) (ix3 h r d)
      = v.read (Elt Ideal) (v.writes (Elt Ideal) f L) (ix3 h r d) :=
  View.read_writes_cons_unit_of_not_mem v f bq w L (ix3 h r d) rfl 0 (Or.inr (by show q + 1 ≤ h.val; omega))

/-- A whole write reads back. -/
theorem whole_write {sp : Space} {e : EltTy} {N : ℕ} (v : View sig .tc sp ⟨3, ![4, 256, N]⟩ e) (f : v.ty.Contents (Elt Ideal))
    (bq : ∀ a, (![0, 0, 0] : Fin 3 → ℕ) a + (![4, 256, N] : Fin 3 → ℕ) a ≤ (⟨3, ![4, 256, N]⟩ : Shape).size a)
    (w : Shape.Idx ⟨3, ![4, 256, N]⟩ → Elt Ideal e) (h : Fin 4) (r : Fin 256) (d : Fin N) :
    v.read (Elt Ideal) (v.writes (Elt Ideal) f [(⟨Rect.unit (s := ⟨3, ![4, 256, N]⟩) ![0, 0, 0] ![4, 256, N] bq, w⟩ : View.Piece (Elt Ideal) ⟨3, ![4, 256, N]⟩ e)]) (ix3 h r d)
      = w (ix3 h r d) :=
  View.read_writes_cons_unit_of_mem v f bq w [] (ix3 h r d) (ix3 h r d) rfl (fun a => by
    match a with
    | ⟨0, _⟩ => show h.val = 0 + h.val; omega
    | ⟨1, _⟩ => show r.val = 0 + r.val; omega
    | ⟨2, _⟩ => show d.val = 0 + d.val; omega)

section Point

variable (c : Dev nD) (i : grid0.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole)
  (arg5 : Memref sig .tc .vmem S256x256 .bf16) (harg5 : arg5.IsWhole) (arg6 : Memref sig .tc .vmem S1x256x256 .f32) (harg6 : arg6.IsWhole) (arg7 : Memref sig .tc .vmem S4x256x64 .bf16) (harg7 : arg7.IsWhole)
  (arg8 : Memref sig .tc .vmem S4x4096x64 .bf16) (harg8 : arg8.IsWhole) (arg9 : Memref sig .tc .vmem S4x4096x64 .bf16) (harg9 : arg9.IsWhole) (arg10 : Memref sig .tc .vmem S4x256x64 .f32) (harg10 : arg10.IsWhole)
  (arg11 : Memref sig .tc .vmem S4x256x1 .f32) (harg11 : arg11.IsWhole)
  (X_arg5 : BufTy.Contents (Elt Ideal) arg5.view.ty) (X_arg7 : BufTy.Contents (Elt Ideal) arg7.view.ty)
  (X_arg8 : BufTy.Contents (Elt Ideal) arg8.view.ty) (X_arg9 : BufTy.Contents (Elt Ideal) arg9.view.ty)

/-- The row's own chunk at head 0. -/
theorem own0_step (X : Arr) (b : ℕ) (ho : Ops X b (i 1).val X_arg5 X_arg7 X_arg8 X_arg9) (c0 : Vec Ideal S1x256x1 .f32) (a0 : Vec Ideal S1x256x64 .f32)
    (hc0 : ∀ r : Fin 256, c0 (ix3 0 r 0) = 0) (ha0 : ∀ (r : Fin 256) (d : Fin 64), a0 (ix3 0 r d) = 0) (r : Fin 256) :
    (∀ d : Fin 64, (k0_pay80 (F := Ideal) k0_pay64 (k0_pay65 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay74 (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (View.readAt (Elt Ideal) arg5.view (Rect.unit (s := S256x256) ![0, 0] S256x256.size inb_S256x256_S256x256_0_0).toLoadRect X_arg5)) c0 a0 (View.readAt (Elt Ideal) arg9.view (Rect.unit (s := S4x4096x64) (k0_off1 i) S1x256x64.size (k0_off1_inb i)).toLoadRect X_arg9)) (ix3 0 r d)
        = Layer.Sb.acc (score X b 0 (256 * (i 1).val + r.val)) (256 * (i 1).val + r.val) (fun j => el X b j (512 + (64 * 0 + d.val))) (256 * (i 1).val))
      ∧ (k0_pay81 (F := Ideal) (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay74 (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (View.readAt (Elt Ideal) arg5.view (Rect.unit (s := S256x256) ![0, 0] S256x256.size inb_S256x256_S256x256_0_0).toLoadRect X_arg5)) c0) (ix3 0 r 0)
        = ((-(rest (score X b 0 (256 * (i 1).val + r.val)) (256 * (i 1).val + r.val) (256 * (i 1).val)) * invLn2 : ℝ) : EReal) := by
    have hi16 : (i 1).val < 16 := (i 1).isLt
    have hr := r.isLt
    have hz : ∀ jj : Fin 256, Z (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8) r jj
        = ((score X b 0 (256 * (i 1).val + r.val) (256 * (i 1).val + jj.val) * invLn2 : ℝ) : EReal) := fun jj =>
      Z_at X b (i 1).val (256 * (i 1).val) X_arg7 X_arg8 ho.q ho.k 0 _ _ rfl (off1_eq i) _ _ r jj (by omega)
    have hs : ∀ jj : Fin 256, sM (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8) r jj
        = ((taken (score X b 0 (256 * (i 1).val + r.val)) (256 * (i 1).val + r.val) (256 * (i 1).val + jj.val) * invLn2 : ℝ) : EReal) := fun jj => by
      by_cases hj : jj.val < r.val
      · rw [sM, if_pos hj, hz, spl_at, taken, if_pos (by omega)]
      · rw [sM, if_neg hj, taken, if_neg (by omega), zero_mul, EReal.coe_zero]
    have hU : ∀ a b : Fin 256, (View.readAt (Elt Ideal) arg5.view (Rect.unit (s := S256x256) ![0, 0] S256x256.size inb_S256x256_S256x256_0_0).toLoadRect X_arg5) (ix2 a b) = tri a b := fun a b =>
      (rd2 arg5.view X_arg5 ![0, 0] _ _ (ix2 a b) (ix2 a b) (by show a.val = 0 + a.val; omega) (by show b.val = 0 + b.val; omega)).trans (ho.u a b)
    have hc : c0 (ix3 0 r 0) = ((-(rest (score X b 0 (256 * (i 1).val + r.val)) (256 * (i 1).val + r.val) (256 * (i 1).val + 256)) * invLn2 : ℝ) : EReal) := by
      rw [hc0, rest_of_le _ _ _ (by omega), neg_zero, zero_mul, EReal.coe_zero]
    refine ⟨fun d => ?_, ?_⟩
    · rw [dacc0_at]
      refine haccM_step (by omega) rfl hz hs hU hc ?_ fun jj => ?_
      · rw [ha0, acc_of_le _ _ _ _ (by omega)]
      · have := jj.isLt
        refine (rdh arg9.view X_arg9 _ 0 _ (off1_eq i) _ jj (by omega) d).trans ?_
        rw [ho.v]
        rfl
    · rw [dcar0_at]
      exact hcar_step (by omega) hs hU hc

/-- The row's own chunk at head 1. -/
theorem own1_step (X : Arr) (b : ℕ) (ho : Ops X b (i 1).val X_arg5 X_arg7 X_arg8 X_arg9) (c1 : Vec Ideal S1x256x1 .f32) (a1 : Vec Ideal S1x256x64 .f32)
    (hc0 : ∀ r : Fin 256, c1 (ix3 0 r 0) = 0) (ha0 : ∀ (r : Fin 256) (d : Fin 64), a1 (ix3 0 r d) = 0) (r : Fin 256) :
    (∀ d : Fin 64, (k0_pay83 (F := Ideal) k0_pay64 (k0_pay82 (k0_pay67 (F := Ideal) (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay75 (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (View.readAt (Elt Ideal) arg5.view (Rect.unit (s := S256x256) ![0, 0] S256x256.size inb_S256x256_S256x256_0_0).toLoadRect X_arg5)) c1) a1 (View.readAt (Elt Ideal) arg9.view (Rect.unit (s := S4x4096x64) (k0_off2 i) S1x256x64.size (k0_off2_inb i)).toLoadRect X_arg9)) (ix3 0 r d)
        = Layer.Sb.acc (score X b 1 (256 * (i 1).val + r.val)) (256 * (i 1).val + r.val) (fun j => el X b j (512 + (64 * 1 + d.val))) (256 * (i 1).val))
      ∧ (k0_pay84 (F := Ideal) (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay75 (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (View.readAt (Elt Ideal) arg5.view (Rect.unit (s := S256x256) ![0, 0] S256x256.size inb_S256x256_S256x256_0_0).toLoadRect X_arg5)) c1) (ix3 0 r 0)
        = ((-(rest (score X b 1 (256 * (i 1).val + r.val)) (256 * (i 1).val + r.val) (256 * (i 1).val)) * invLn2 : ℝ) : EReal) := by
    have hi16 : (i 1).val < 16 := (i 1).isLt
    have hr := r.isLt
    have hz : ∀ jj : Fin 256, Z (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8) r jj
        = ((score X b 1 (256 * (i 1).val + r.val) (256 * (i 1).val + jj.val) * invLn2 : ℝ) : EReal) := fun jj =>
      Z_at X b (i 1).val (256 * (i 1).val) X_arg7 X_arg8 ho.q ho.k 1 _ _ rfl (off2_eq i) _ _ r jj (by omega)
    have hs : ∀ jj : Fin 256, sM (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8) r jj
        = ((taken (score X b 1 (256 * (i 1).val + r.val)) (256 * (i 1).val + r.val) (256 * (i 1).val + jj.val) * invLn2 : ℝ) : EReal) := fun jj => by
      by_cases hj : jj.val < r.val
      · rw [sM, if_pos hj, hz, spl_at, taken, if_pos (by omega)]
      · rw [sM, if_neg hj, taken, if_neg (by omega), zero_mul, EReal.coe_zero]
    have hU : ∀ a b : Fin 256, (View.readAt (Elt Ideal) arg5.view (Rect.unit (s := S256x256) ![0, 0] S256x256.size inb_S256x256_S256x256_0_0).toLoadRect X_arg5) (ix2 a b) = tri a b := fun a b =>
      (rd2 arg5.view X_arg5 ![0, 0] _ _ (ix2 a b) (ix2 a b) (by show a.val = 0 + a.val; omega) (by show b.val = 0 + b.val; omega)).trans (ho.u a b)
    have hc : c1 (ix3 0 r 0) = ((-(rest (score X b 1 (256 * (i 1).val + r.val)) (256 * (i 1).val + r.val) (256 * (i 1).val + 256)) * invLn2 : ℝ) : EReal) := by
      rw [hc0, rest_of_le _ _ _ (by omega), neg_zero, zero_mul, EReal.coe_zero]
    refine ⟨fun d => ?_, ?_⟩
    · rw [dacc1_at]
      refine haccM_step (by omega) rfl hz hs hU hc ?_ fun jj => ?_
      · rw [ha0, acc_of_le _ _ _ _ (by omega)]
      · have := jj.isLt
        refine (rdh arg9.view X_arg9 _ 1 _ (off2_eq i) _ jj (by omega) d).trans ?_
        rw [ho.v]
        rfl
    · rw [dcar1_at]
      exact hcar_step (by omega) hs hU hc

/-- The row's own chunk at head 2. -/
theorem own2_step (X : Arr) (b : ℕ) (ho : Ops X b (i 1).val X_arg5 X_arg7 X_arg8 X_arg9) (c2 : Vec Ideal S1x256x1 .f32) (a2 : Vec Ideal S1x256x64 .f32)
    (hc0 : ∀ r : Fin 256, c2 (ix3 0 r 0) = 0) (ha0 : ∀ (r : Fin 256) (d : Fin 64), a2 (ix3 0 r d) = 0) (r : Fin 256) :
    (∀ d : Fin 64, (k0_pay87 (F := Ideal) (k0_pay85 a2) (k0_pay86 k0_pay64 (k0_pay69 (F := Ideal) (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (k0_pay71 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32)) (k0_pay76 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32) (View.readAt (Elt Ideal) arg5.view (Rect.unit (s := S256x256) ![0, 0] S256x256.size inb_S256x256_S256x256_0_0).toLoadRect X_arg5)) c2) (View.readAt (Elt Ideal) arg9.view (Rect.unit (s := S4x4096x64) (k0_off3 i) S1x256x64.size (k0_off3_inb i)).toLoadRect X_arg9)) (ix3 0 r d)
        = Layer.Sb.acc (score X b 2 (256 * (i 1).val + r.val)) (256 * (i 1).val + r.val) (fun j => el X b j (512 + (64 * 2 + d.val))) (256 * (i 1).val))
      ∧ (k0_pay88 (F := Ideal) (k0_pay71 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32)) (k0_pay76 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32) (View.readAt (Elt Ideal) arg5.view (Rect.unit (s := S256x256) ![0, 0] S256x256.size inb_S256x256_S256x256_0_0).toLoadRect X_arg5)) c2) (ix3 0 r 0)
        = ((-(rest (score X b 2 (256 * (i 1).val + r.val)) (256 * (i 1).val + r.val) (256 * (i 1).val)) * invLn2 : ℝ) : EReal) := by
    have hi16 : (i 1).val < 16 := (i 1).isLt
    have hr := r.isLt
    have hz : ∀ jj : Fin 256, Z (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8) r jj
        = ((score X b 2 (256 * (i 1).val + r.val) (256 * (i 1).val + jj.val) * invLn2 : ℝ) : EReal) := fun jj =>
      Z_at X b (i 1).val (256 * (i 1).val) X_arg7 X_arg8 ho.q ho.k 2 _ _ rfl (off3_eq i) _ _ r jj (by omega)
    have hs : ∀ jj : Fin 256, sM (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8) r jj
        = ((taken (score X b 2 (256 * (i 1).val + r.val)) (256 * (i 1).val + r.val) (256 * (i 1).val + jj.val) * invLn2 : ℝ) : EReal) := fun jj => by
      by_cases hj : jj.val < r.val
      · rw [sM, if_pos hj, hz, spl_at, taken, if_pos (by omega)]
      · rw [sM, if_neg hj, taken, if_neg (by omega), zero_mul, EReal.coe_zero]
    have hU : ∀ a b : Fin 256, (View.readAt (Elt Ideal) arg5.view (Rect.unit (s := S256x256) ![0, 0] S256x256.size inb_S256x256_S256x256_0_0).toLoadRect X_arg5) (ix2 a b) = tri a b := fun a b =>
      (rd2 arg5.view X_arg5 ![0, 0] _ _ (ix2 a b) (ix2 a b) (by show a.val = 0 + a.val; omega) (by show b.val = 0 + b.val; omega)).trans (ho.u a b)
    have hc : c2 (ix3 0 r 0) = ((-(rest (score X b 2 (256 * (i 1).val + r.val)) (256 * (i 1).val + r.val) (256 * (i 1).val + 256)) * invLn2 : ℝ) : EReal) := by
      rw [hc0, rest_of_le _ _ _ (by omega), neg_zero, zero_mul, EReal.coe_zero]
    refine ⟨fun d => ?_, ?_⟩
    · rw [dacc2_at]
      refine haccM_step (by omega) rfl hz hs hU hc ?_ fun jj => ?_
      · rw [ha0, acc_of_le _ _ _ _ (by omega)]
      · have := jj.isLt
        refine (rdh arg9.view X_arg9 _ 2 _ (off3_eq i) _ jj (by omega) d).trans ?_
        rw [ho.v]
        rfl
    · rw [dcar2_at]
      exact hcar_step (by omega) hs hU hc

/-- The row's own chunk at head 3. -/
theorem own3_step (X : Arr) (b : ℕ) (ho : Ops X b (i 1).val X_arg5 X_arg7 X_arg8 X_arg9) (c3 : Vec Ideal S1x256x1 .f32) (a3 : Vec Ideal S1x256x64 .f32)
    (hc0 : ∀ r : Fin 256, c3 (ix3 0 r 0) = 0) (ha0 : ∀ (r : Fin 256) (d : Fin 64), a3 (ix3 0 r d) = 0) (r : Fin 256) :
    (∀ d : Fin 64, (k0_pay90 (F := Ideal) (k0_pay89 k0_pay64 (k0_pay72 (F := Ideal) (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay73 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay79 (k0_pay77 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay78 (View.readAt (Elt Ideal) arg5.view (Rect.unit (s := S256x256) ![0, 0] S256x256.size inb_S256x256_S256x256_0_0).toLoadRect X_arg5)) (constant S256x256 .f32 0x00000000#32)) c3 a3 (View.readAt (Elt Ideal) arg9.view (Rect.unit (s := S4x4096x64) (k0_off4 i) S1x256x64.size (k0_off4_inb i)).toLoadRect X_arg9))) (ix3 0 r d)
        = Layer.Sb.acc (score X b 3 (256 * (i 1).val + r.val)) (256 * (i 1).val + r.val) (fun j => el X b j (512 + (64 * 3 + d.val))) (256 * (i 1).val))
      ∧ (k0_pay91 (F := Ideal) (k0_pay73 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay79 (k0_pay77 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay78 (View.readAt (Elt Ideal) arg5.view (Rect.unit (s := S256x256) ![0, 0] S256x256.size inb_S256x256_S256x256_0_0).toLoadRect X_arg5)) (constant S256x256 .f32 0x00000000#32)) c3) (ix3 0 r 0)
        = ((-(rest (score X b 3 (256 * (i 1).val + r.val)) (256 * (i 1).val + r.val) (256 * (i 1).val)) * invLn2 : ℝ) : EReal) := by
    have hi16 : (i 1).val < 16 := (i 1).isLt
    have hr := r.isLt
    have hz : ∀ jj : Fin 256, Z (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8) r jj
        = ((score X b 3 (256 * (i 1).val + r.val) (256 * (i 1).val + jj.val) * invLn2 : ℝ) : EReal) := fun jj =>
      Z_at X b (i 1).val (256 * (i 1).val) X_arg7 X_arg8 ho.q ho.k 3 _ _ rfl (off4_eq i) _ _ r jj (by omega)
    have hs : ∀ jj : Fin 256, sM (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8) r jj
        = ((taken (score X b 3 (256 * (i 1).val + r.val)) (256 * (i 1).val + r.val) (256 * (i 1).val + jj.val) * invLn2 : ℝ) : EReal) := fun jj => by
      by_cases hj : jj.val < r.val
      · rw [sM, if_pos hj, hz, spl_at, taken, if_pos (by omega)]
      · rw [sM, if_neg hj, taken, if_neg (by omega), zero_mul, EReal.coe_zero]
    have hU : ∀ a b : Fin 256, (View.readAt (Elt Ideal) arg5.view (Rect.unit (s := S256x256) ![0, 0] S256x256.size inb_S256x256_S256x256_0_0).toLoadRect X_arg5) (ix2 a b) = tri a b := fun a b =>
      (rd2 arg5.view X_arg5 ![0, 0] _ _ (ix2 a b) (ix2 a b) (by show a.val = 0 + a.val; omega) (by show b.val = 0 + b.val; omega)).trans (ho.u a b)
    have hc : c3 (ix3 0 r 0) = ((-(rest (score X b 3 (256 * (i 1).val + r.val)) (256 * (i 1).val + r.val) (256 * (i 1).val + 256)) * invLn2 : ℝ) : EReal) := by
      rw [hc0, rest_of_le _ _ _ (by omega), neg_zero, zero_mul, EReal.coe_zero]
    refine ⟨fun d => ?_, ?_⟩
    · rw [dacc3_at]
      refine haccM_step (by omega) rfl hz hs hU hc ?_ fun jj => ?_
      · rw [ha0, acc_of_le _ _ _ _ (by omega)]
      · have := jj.isLt
        refine (rdh arg9.view X_arg9 _ 3 _ (off4_eq i) _ jj (by omega) d).trans ?_
        rw [ho.v]
        rfl
    · rw [dcar3_at]
      exact hcar_step (by omega) hs hU hc

/-- After the row's own chunk the invariant stands at that chunk. -/
theorem own_inv (X : Arr) (b : ℕ) (ho : Ops X b (i 1).val X_arg5 X_arg7 X_arg8 X_arg9) (c0 : Vec Ideal S1x256x1 .f32) (a0 : Vec Ideal S1x256x64 .f32) (c1 : Vec Ideal S1x256x1 .f32) (a1 : Vec Ideal S1x256x64 .f32) (c2 : Vec Ideal S1x256x1 .f32) (a2 : Vec Ideal S1x256x64 .f32) (c3 : Vec Ideal S1x256x1 .f32) (a3 : Vec Ideal S1x256x64 .f32)
    (hc0 : ∀ r : Fin 256, c0 (ix3 0 r 0) = 0) (ha0 : ∀ (r : Fin 256) (d : Fin 64), a0 (ix3 0 r d) = 0) (hc1 : ∀ r : Fin 256, c1 (ix3 0 r 0) = 0) (ha1 : ∀ (r : Fin 256) (d : Fin 64), a1 (ix3 0 r d) = 0) (hc2 : ∀ r : Fin 256, c2 (ix3 0 r 0) = 0) (ha2 : ∀ (r : Fin 256) (d : Fin 64), a2 (ix3 0 r d) = 0) (hc3 : ∀ r : Fin 256, c3 (ix3 0 r 0) = 0) (ha3 : ∀ (r : Fin 256) (d : Fin 64), a3 (ix3 0 r d) = 0) (L : List (View.Piece (Elt Ideal) S4x256x64 .f32)) (L' : List (View.Piece (Elt Ideal) S4x256x1 .f32))
    (f : BufTy.Contents (Elt Ideal) arg10.view.ty) (g : BufTy.Contents (Elt Ideal) arg11.view.ty) :
    Inv X b (i 1).val (i 1).val (arg10 := arg10) (arg11 := arg11)
      (arg10.view.writes (Elt Ideal) f ((⟨Rect.unit (s := S4x256x64) ![3, 0, 0] S1x256x64.size inb_S4x256x64_S1x256x64_3_0_0, k0_pay90 (F := Ideal) (k0_pay89 k0_pay64 (k0_pay72 (F := Ideal) (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay73 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay79 (k0_pay77 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay78 (View.readAt (Elt Ideal) arg5.view (Rect.unit (s := S256x256) ![0, 0] S256x256.size inb_S256x256_S256x256_0_0).toLoadRect X_arg5)) (constant S256x256 .f32 0x00000000#32)) c3 a3 (View.readAt (Elt Ideal) arg9.view (Rect.unit (s := S4x4096x64) (k0_off4 i) S1x256x64.size (k0_off4_inb i)).toLoadRect X_arg9))⟩ : View.Piece (Elt Ideal) S4x256x64 .f32) :: (⟨Rect.unit (s := S4x256x64) ![2, 0, 0] S1x256x64.size inb_S4x256x64_S1x256x64_2_0_0, k0_pay87 (F := Ideal) (k0_pay85 a2) (k0_pay86 k0_pay64 (k0_pay69 (F := Ideal) (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (k0_pay71 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32)) (k0_pay76 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32) (View.readAt (Elt Ideal) arg5.view (Rect.unit (s := S256x256) ![0, 0] S256x256.size inb_S256x256_S256x256_0_0).toLoadRect X_arg5)) c2) (View.readAt (Elt Ideal) arg9.view (Rect.unit (s := S4x4096x64) (k0_off3 i) S1x256x64.size (k0_off3_inb i)).toLoadRect X_arg9)⟩ : View.Piece (Elt Ideal) S4x256x64 .f32) :: (⟨Rect.unit (s := S4x256x64) ![1, 0, 0] S1x256x64.size inb_S4x256x64_S1x256x64_1_0_0, k0_pay83 (F := Ideal) k0_pay64 (k0_pay82 (k0_pay67 (F := Ideal) (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay75 (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (View.readAt (Elt Ideal) arg5.view (Rect.unit (s := S256x256) ![0, 0] S256x256.size inb_S256x256_S256x256_0_0).toLoadRect X_arg5)) c1) a1 (View.readAt (Elt Ideal) arg9.view (Rect.unit (s := S4x4096x64) (k0_off2 i) S1x256x64.size (k0_off2_inb i)).toLoadRect X_arg9)⟩ : View.Piece (Elt Ideal) S4x256x64 .f32) :: (⟨Rect.unit (s := S4x256x64) ![0, 0, 0] S1x256x64.size inb_S4x256x64_S1x256x64_0_0_0, k0_pay80 (F := Ideal) k0_pay64 (k0_pay65 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay74 (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (View.readAt (Elt Ideal) arg5.view (Rect.unit (s := S256x256) ![0, 0] S256x256.size inb_S256x256_S256x256_0_0).toLoadRect X_arg5)) c0 a0 (View.readAt (Elt Ideal) arg9.view (Rect.unit (s := S4x4096x64) (k0_off1 i) S1x256x64.size (k0_off1_inb i)).toLoadRect X_arg9)⟩ : View.Piece (Elt Ideal) S4x256x64 .f32) :: L))
      (arg11.view.writes (Elt Ideal) g ((⟨Rect.unit (s := S4x256x1) ![3, 0, 0] S1x256x1.size inb_S4x256x1_S1x256x1_3_0_0, k0_pay91 (F := Ideal) (k0_pay73 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay79 (k0_pay77 (F := Ideal) k0_pay64 (View.readAt (Elt Ideal) arg7.view (Rect.unit (s := S4x256x64) ![3, 0, 0] S1x256x64.size inb_S4x256x64_S1x256x64_3_0_0).toLoadRect X_arg7) (View.readAt (Elt Ideal) arg8.view (Rect.unit (s := S4x4096x64) (k0_off4 i) S1x256x64.size (k0_off4_inb i)).toLoadRect X_arg8)) (k0_pay78 (View.readAt (Elt Ideal) arg5.view (Rect.unit (s := S256x256) ![0, 0] S256x256.size inb_S256x256_S256x256_0_0).toLoadRect X_arg5)) (constant S256x256 .f32 0x00000000#32)) c3⟩ : View.Piece (Elt Ideal) S4x256x1 .f32) :: (⟨Rect.unit (s := S4x256x1) ![2, 0, 0] S1x256x1.size inb_S4x256x1_S1x256x1_2_0_0, k0_pay88 (F := Ideal) (k0_pay71 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32)) (k0_pay76 (F := Ideal) k0_pay64 (k0_pay70 (View.readAt (Elt Ideal) arg7.view (Rect.unit (s := S4x256x64) ![2, 0, 0] S1x256x64.size inb_S4x256x64_S1x256x64_2_0_0).toLoadRect X_arg7) (View.readAt (Elt Ideal) arg8.view (Rect.unit (s := S4x4096x64) (k0_off3 i) S1x256x64.size (k0_off3_inb i)).toLoadRect X_arg8)) (Scalar.ofBits .f32 0x00000000#32) (View.readAt (Elt Ideal) arg5.view (Rect.unit (s := S256x256) ![0, 0] S256x256.size inb_S256x256_S256x256_0_0).toLoadRect X_arg5)) c2⟩ : View.Piece (Elt Ideal) S4x256x1 .f32) :: (⟨Rect.unit (s := S4x256x1) ![1, 0, 0] S1x256x1.size inb_S4x256x1_S1x256x1_1_0_0, k0_pay84 (F := Ideal) (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (k0_pay75 (k0_pay68 (F := Ideal) k0_pay64 (View.readAt (Elt Ideal) arg7.view (Rect.unit (s := S4x256x64) ![1, 0, 0] S1x256x64.size inb_S4x256x64_S1x256x64_1_0_0).toLoadRect X_arg7) (View.readAt (Elt Ideal) arg8.view (Rect.unit (s := S4x4096x64) (k0_off2 i) S1x256x64.size (k0_off2_inb i)).toLoadRect X_arg8)) (View.readAt (Elt Ideal) arg5.view (Rect.unit (s := S256x256) ![0, 0] S256x256.size inb_S256x256_S256x256_0_0).toLoadRect X_arg5)) c1⟩ : View.Piece (Elt Ideal) S4x256x1 .f32) :: (⟨Rect.unit (s := S4x256x1) ![0, 0, 0] S1x256x1.size inb_S4x256x1_S1x256x1_0_0_0, k0_pay81 (F := Ideal) (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (k0_pay74 (k0_pay66 (F := Ideal) (View.readAt (Elt Ideal) arg7.view (Rect.unit (s := S4x256x64) ![0, 0, 0] S1x256x64.size inb_S4x256x64_S1x256x64_0_0_0).toLoadRect X_arg7) (View.readAt (Elt Ideal) arg8.view (Rect.unit (s := S4x4096x64) (k0_off1 i) S1x256x64.size (k0_off1_inb i)).toLoadRect X_arg8)) (View.readAt (Elt Ideal) arg5.view (Rect.unit (s := S256x256) ![0, 0] S256x256.size inb_S256x256_S256x256_0_0).toLoadRect X_arg5)) c0⟩ : View.Piece (Elt Ideal) S4x256x1 .f32) :: L')) := by
  refine ⟨fun h r d => ?_, fun h r => ?_⟩
  · refine (four arg10.view f _ _ _ _ _ _ _ _ L h r d).trans ?_
    match h with
    | 0 => exact (own0_step i arg5 arg7 arg8 arg9 X_arg5 X_arg7 X_arg8 X_arg9 X b ho c0 a0 hc0 ha0 r).1 d
    | 1 => exact (own1_step i arg5 arg7 arg8 arg9 X_arg5 X_arg7 X_arg8 X_arg9 X b ho c1 a1 hc1 ha1 r).1 d
    | 2 => exact (own2_step i arg5 arg7 arg8 arg9 X_arg5 X_arg7 X_arg8 X_arg9 X b ho c2 a2 hc2 ha2 r).1 d
    | 3 => exact (own3_step i arg5 arg7 arg8 arg9 X_arg5 X_arg7 X_arg8 X_arg9 X b ho c3 a3 hc3 ha3 r).1 d
  · refine (four arg11.view g _ _ _ _ _ _ _ _ L' h r 0).trans ?_
    match h with
    | 0 => exact (own0_step i arg5 arg7 arg8 arg9 X_arg5 X_arg7 X_arg8 X_arg9 X b ho c0 a0 hc0 ha0 r).2
    | 1 => exact (own1_step i arg5 arg7 arg8 arg9 X_arg5 X_arg7 X_arg8 X_arg9 X b ho c1 a1 hc1 ha1 r).2
    | 2 => exact (own2_step i arg5 arg7 arg8 arg9 X_arg5 X_arg7 X_arg8 X_arg9 X b ho c2 a2 hc2 ha2 r).2
    | 3 => exact (own3_step i arg5 arg7 arg8 arg9 X_arg5 X_arg7 X_arg8 X_arg9 X b ho c3 a3 hc3 ha3 r).2

/-- After both loops the accumulator holds the result. -/
theorem read_after (X : Arr) (b : ℕ) (ho : Ops X b (i 1).val X_arg5 X_arg7 X_arg8 X_arg9) (arg1 v267 : BitVec 32)
    (v129 : FVec Ideal S256x256 .f32) (v145 : FVec Ideal S256x256 .f32) (v249 : FVec Ideal S256x64 .f32) (init init2 : BitVec 32)
    (L : List (View.Piece (Elt Ideal) S4x256x64 .f32)) (L' : List (View.Piece (Elt Ideal) S4x256x1 .f32))
    (G10 : BufTy.Contents (Elt Ideal) arg10.view.ty) (G11 : BufTy.Contents (Elt Ideal) arg11.view.ty)
    (hi : Inv X b (i 1).val (i 1).val (arg10.view.writes (Elt Ideal) arg10.view.junk L) (arg11.view.writes (Elt Ideal) arg11.view.junk L'))
    (off : Fin 3 → ℕ) (h : Fin 4) (eo : off = ![h.val, 0, 0]) (inb : ∀ a, off a + S1x256x64.size a ≤ S4x256x64.size a) (r : Fin 256) (d : Fin 64) :
    arg10.view.readCov ((st_k0_t2 (F := Ideal) Variants.none c none i arg2 harg2 arg3 harg3 arg4 harg4 arg5 harg5 arg6 harg6 arg7 harg7 arg8 harg8 arg9 harg9 arg10 harg10 arg11 harg11 arg1 v129 v145 v249 v267 X_arg5 X_arg7 X_arg8 X_arg9 G10 G11 init2 (Scf.trips (k0_t2_loop i).lb (k0_t2_loop i).ub (k0_t2_loop i).st)).2.1 ++ ((st_k0_t1 (F := Ideal) Variants.none c none i arg2 harg2 arg3 harg3 arg4 harg4 arg5 harg5 arg6 harg6 arg7 harg7 arg8 harg8 arg9 harg9 arg10 harg10 arg11 harg11 arg1 v129 v145 v249 X_arg5 X_arg7 X_arg8 X_arg9 (arg10.view.writes (Elt Ideal) arg10.view.junk L) (arg11.view.writes (Elt Ideal) arg11.view.junk L') init (Scf.trips (k0_t1_loop i).lb (k0_t1_loop i).ub (k0_t1_loop i).st)).2.1 ++ L)) (Rect.unit (s := S4x256x64) off S1x256x64.size inb).toLoadRect (ix3 0 r d)
      = result X b (256 * (i 1).val + r.val) h.val d.val := by
  have e2 : (st_k0_t2 (F := Ideal) Variants.none c none i arg2 harg2 arg3 harg3 arg4 harg4 arg5 harg5 arg6 harg6 arg7 harg7 arg8 harg8 arg9 harg9 arg10 harg10 arg11 harg11 arg1 v129 v145 v249 v267 X_arg5 X_arg7 X_arg8 X_arg9 G10 G11 init2 (Scf.trips (k0_t2_loop i).lb (k0_t2_loop i).ub (k0_t2_loop i).st)).2.1 = [] := by
    rw [show Scf.trips (k0_t2_loop i).lb (k0_t2_loop i).ub (k0_t2_loop i).st = 0 from trips2_eq i]
    rfl
  have e1 := (loop_inv Variants.none c none i arg2 harg2 arg3 harg3 arg4 harg4 arg5 harg5 arg6 harg6 arg7 harg7 arg8 harg8 arg9 harg9 arg10 harg10 arg11 harg11 arg1 v129 v145 v249 X_arg5 X_arg7 X_arg8 X_arg9 X b ho _ _ init hi (i 1).val le_rfl).acc h r d
  rw [e2, List.nil_append, show Scf.trips (k0_t1_loop i).lb (k0_t1_loop i).ub (k0_t1_loop i).st = (i 1).val from trips_eq i]
  refine (rdh0 arg10.view _ off h eo inb r d).trans ?_
  rw [View.writes_append, e1, Nat.sub_self, Nat.mul_zero]
  rfl

end Point

end Cert.SbKernelIdeal.Pure
-- ==== Proof.SbCase.lean ====
module

public import proofs.«01_k».proof.Proof.SbPoint

/-! One point of the grid in each of its two cases: the first point of a sequence fills the key and value scratch, the others read it. -/

@[expose] public section

set_option maxRecDepth 16384
noncomputable section

namespace Cert.SbKernelIdeal.Pure

open Idealize.ShloMosaic Idealize.ShloMosaic.TcCoe Idealize.SL.Sem Cert.SbKernelIdeal Cert.SbKernelIdeal.Gen Cert.Layer.Sb

/-- The query scratch: each head's columns of the block, scaled. -/
theorem q_fill (X : Arr) (b s : ℕ) {sp : Space} (v : View sig .tc sp S4x256x64 .bf16) (f : v.ty.Contents (Elt Ideal)) (x : Vec Ideal S1x256x256 .bf16)
    (hx : ∀ r e : Fin 256, x (ix3 0 r e) = ((qk X b (256 * s + r.val) e.val : ℝ) : EReal)) (h : Fin 4) (r : Fin 256) (d : Fin 64) :
    v.read (Elt Ideal) (v.writes (Elt Ideal) f
      [(⟨Rect.unit (s := S4x256x64) ![3, 0, 0] S1x256x64.size inb_S4x256x64_S1x256x64_3_0_0, k0_pay61 (k0_pay60 x)⟩ : View.Piece (Elt Ideal) S4x256x64 .bf16),
       ⟨Rect.unit (s := S4x256x64) ![2, 0, 0] S1x256x64.size inb_S4x256x64_S1x256x64_2_0_0, k0_pay59 x⟩,
       ⟨Rect.unit (s := S4x256x64) ![1, 0, 0] S1x256x64.size inb_S4x256x64_S1x256x64_1_0_0, k0_pay58 x⟩,
       ⟨Rect.unit (s := S4x256x64) ![0, 0, 0] S1x256x64.size inb_S4x256x64_S1x256x64_0_0_0, k0_pay57 x⟩]) (ix3 h r d)
      = ((qk X b (256 * s + r.val) (64 * h.val + d.val) * qScale : ℝ) : EReal) := by
  refine (four v f _ _ _ _ _ _ _ _ [] h r d).trans ?_
  match h with
  | 0 => exact (dq0_at x r d).trans (by rw [hx]; exact (EReal.coe_mul _ _).symm)
  | 1 => exact (dq1_at x r d).trans (by rw [hx]; exact (EReal.coe_mul _ _).symm)
  | 2 => exact (dq2_at x r d).trans (by rw [hx]; exact (EReal.coe_mul _ _).symm)
  | 3 => exact (dq3_at x r d).trans (by rw [hx]; exact (EReal.coe_mul _ _).symm)

/-- Head 0's keys as the first step stores them. -/
theorem k0_at (c : Dev nD) (arg3 : Memref sig .tc .vmem S1x4096x256 .bf16) (harg3 : arg3.IsWhole) (x1 : Vec Ideal S1x4096x256 .bf16) (j : Fin 4096) (d : Fin 64) :
    kernelRun0_A.sl.v286 (F := Ideal) c arg3 harg3 x1 (ix3 0 j d) = x1 (ix3 0 j ⟨64 * 0 + d.val, by omega⟩) := by
  pointwise [kernelRun0_A.sl.v286, kernelRun0_A.sl.v283]
  refine (rd3 arg3.view _ ![0, 0, 0] _ _ (ix3 0 j d) (ix3 0 j ⟨64 * 0 + d.val, by omega⟩) rfl (by show j.val = 0 + j.val; omega) (by show 64 * 0 + d.val = 0 + d.val; omega)).trans ?_
  rw [harg3.read_unread]
  exact congrArg (fun n => x1 (ix3 0 j n)) (Fin.ext (by show 64 * 0 + d.val = d.val; omega))

/-- Head 1's keys as the first step stores them. -/
theorem k1_at (c : Dev nD) (arg3 : Memref sig .tc .vmem S1x4096x256 .bf16) (harg3 : arg3.IsWhole) (x1 : Vec Ideal S1x4096x256 .bf16) (j : Fin 4096) (d : Fin 64) :
    kernelRun0_A.sl.v296 (F := Ideal) c arg3 harg3 x1 (ix3 0 j d) = x1 (ix3 0 j ⟨64 * 1 + d.val, by omega⟩) := by
  pointwise [kernelRun0_A.sl.v296, kernelRun0_A.sl.v293]
  refine (rd3 arg3.view _ ![0, 0, 64] _ _ (ix3 0 j d) (ix3 0 j ⟨64 * 1 + d.val, by omega⟩) rfl (by show j.val = 0 + j.val; omega) (by show 64 * 1 + d.val = 64 + d.val; omega)).trans ?_
  rw [harg3.read_unread]

/-- Head 2's keys as the first step stores them. -/
theorem k2_at (c : Dev nD) (arg3 : Memref sig .tc .vmem S1x4096x256 .bf16) (harg3 : arg3.IsWhole) (x1 : Vec Ideal S1x4096x256 .bf16) (j : Fin 4096) (d : Fin 64) :
    kernelRun0_A.sl.v306 (F := Ideal) c arg3 harg3 x1 (ix3 0 j d) = x1 (ix3 0 j ⟨64 * 2 + d.val, by omega⟩) := by
  pointwise [kernelRun0_A.sl.v306, kernelRun0_A.sl.v303]
  refine (rd3 arg3.view _ ![0, 0, 128] _ _ (ix3 0 j d) (ix3 0 j ⟨64 * 2 + d.val, by omega⟩) rfl (by show j.val = 0 + j.val; omega) (by show 64 * 2 + d.val = 128 + d.val; omega)).trans ?_
  rw [harg3.read_unread]

/-- Head 3's keys as the first step stores them. -/
theorem k3_at (c : Dev nD) (arg3 : Memref sig .tc .vmem S1x4096x256 .bf16) (harg3 : arg3.IsWhole) (x1 : Vec Ideal S1x4096x256 .bf16) (j : Fin 4096) (d : Fin 64) :
    k0_pay54 (F := Ideal) (View.readAt (Elt Ideal) arg3.view (Rect.unit (s := S1x4096x256) ![0, 0, 192] S1x4096x64.size inb_S1x4096x256_S1x4096x64_0_0_192).toLoadRect (harg3.unread x1)) (ix3 0 j d) = x1 (ix3 0 j ⟨64 * 3 + d.val, by omega⟩) := by
  pointwise [k0_pay54]
  refine (rd3 arg3.view _ ![0, 0, 192] _ _ (ix3 0 j d) (ix3 0 j ⟨64 * 3 + d.val, by omega⟩) rfl (by show j.val = 0 + j.val; omega) (by show 64 * 3 + d.val = 192 + d.val; omega)).trans ?_
  rw [harg3.read_unread]

/-- The key scratch after the first point of a sequence: each head's columns of the block. -/
theorem k_fill (X : Arr) (b : ℕ) {sp : Space} (v : View sig .tc sp S4x4096x64 .bf16) (f : v.ty.Contents (Elt Ideal)) (c : Dev nD)
    (arg3 : Memref sig .tc .vmem S1x4096x256 .bf16) (harg3 : arg3.IsWhole) (x1 : Vec Ideal S1x4096x256 .bf16) (hx : ∀ (j : Fin 4096) (e : Fin 256), x1 (ix3 0 j e) = ((qk X b j.val (256 + e.val) : ℝ) : EReal)) (h : Fin 4) (j : Fin 4096) (d : Fin 64) :
    v.read (Elt Ideal) (v.writes (Elt Ideal) f (kernelRun0_A.sl.HS1_4 (F := Ideal) c arg3 harg3 x1)) (ix3 h j d) = ((qk X b j.val (256 + (64 * h.val + d.val)) : ℝ) : EReal) := by
  unfold kernelRun0_A.sl.HS1_4
  refine (four v f _ _ _ _ _ _ _ _ [] h j d).trans ?_
  match h with
  | 0 => exact (k0_at c arg3 harg3 x1 j d).trans (hx _ _)
  | 1 => exact (k1_at c arg3 harg3 x1 j d).trans (hx _ _)
  | 2 => exact (k2_at c arg3 harg3 x1 j d).trans (hx _ _)
  | 3 => exact (k3_at c arg3 harg3 x1 j d).trans (hx _ _)

/-- Head 0's values as the first step stores them. -/
theorem v0_at (c : Dev nD) (arg4 : Memref sig .tc .vmem S1x4096x256 .bf16) (harg4 : arg4.IsWhole) (x2 : Vec Ideal S1x4096x256 .bf16) (j : Fin 4096) (d : Fin 64) :
    kernelRun0_A.sl.v291 (F := Ideal) c arg4 harg4 x2 (ix3 0 j d) = x2 (ix3 0 j ⟨64 * 0 + d.val, by omega⟩) := by
  pointwise [kernelRun0_A.sl.v291, kernelRun0_A.sl.v288]
  refine (rd3 arg4.view _ ![0, 0, 0] _ _ (ix3 0 j d) (ix3 0 j ⟨64 * 0 + d.val, by omega⟩) rfl (by show j.val = 0 + j.val; omega) (by show 64 * 0 + d.val = 0 + d.val; omega)).trans ?_
  rw [harg4.read_unread]
  exact congrArg (fun n => x2 (ix3 0 j n)) (Fin.ext (by show 64 * 0 + d.val = d.val; omega))

/-- Head 1's values as the first step stores them. -/
theorem v1_at (c : Dev nD) (arg4 : Memref sig .tc .vmem S1x4096x256 .bf16) (harg4 : arg4.IsWhole) (x2 : Vec Ideal S1x4096x256 .bf16) (j : Fin 4096) (d : Fin 64) :
    kernelRun0_A.sl.v301 (F := Ideal) c arg4 harg4 x2 (ix3 0 j d) = x2 (ix3 0 j ⟨64 * 1 + d.val, by omega⟩) := by
  pointwise [kernelRun0_A.sl.v301, kernelRun0_A.sl.v298]
  refine (rd3 arg4.view _ ![0, 0, 64] _ _ (ix3 0 j d) (ix3 0 j ⟨64 * 1 + d.val, by omega⟩) rfl (by show j.val = 0 + j.val; omega) (by show 64 * 1 + d.val = 64 + d.val; omega)).trans ?_
  rw [harg4.read_unread]

/-- Head 2's values as the first step stores them. -/
theorem v2_at (c : Dev nD) (arg4 : Memref sig .tc .vmem S1x4096x256 .bf16) (harg4 : arg4.IsWhole) (x2 : Vec Ideal S1x4096x256 .bf16) (j : Fin 4096) (d : Fin 64) :
    k0_pay53 (F := Ideal) (View.readAt (Elt Ideal) arg4.view (Rect.unit (s := S1x4096x256) ![0, 0, 128] S1x4096x64.size inb_S1x4096x256_S1x4096x64_0_0_128).toLoadRect (harg4.unread x2)) (ix3 0 j d) = x2 (ix3 0 j ⟨64 * 2 + d.val, by omega⟩) := by
  pointwise [k0_pay53]
  refine (rd3 arg4.view _ ![0, 0, 128] _ _ (ix3 0 j d) (ix3 0 j ⟨64 * 2 + d.val, by omega⟩) rfl (by show j.val = 0 + j.val; omega) (by show 64 * 2 + d.val = 128 + d.val; omega)).trans ?_
  rw [harg4.read_unread]

/-- Head 3's values as the first step stores them. -/
theorem v3_at (c : Dev nD) (arg4 : Memref sig .tc .vmem S1x4096x256 .bf16) (harg4 : arg4.IsWhole) (x2 : Vec Ideal S1x4096x256 .bf16) (j : Fin 4096) (d : Fin 64) :
    k0_pay55 (F := Ideal) (View.readAt (Elt Ideal) arg4.view (Rect.unit (s := S1x4096x256) ![0, 0, 192] S1x4096x64.size inb_S1x4096x256_S1x4096x64_0_0_192).toLoadRect (harg4.unread x2)) (ix3 0 j d) = x2 (ix3 0 j ⟨64 * 3 + d.val, by omega⟩) := by
  pointwise [k0_pay55]
  refine (rd3 arg4.view _ ![0, 0, 192] _ _ (ix3 0 j d) (ix3 0 j ⟨64 * 3 + d.val, by omega⟩) rfl (by show j.val = 0 + j.val; omega) (by show 64 * 3 + d.val = 192 + d.val; omega)).trans ?_
  rw [harg4.read_unread]

/-- The value scratch after the first point of a sequence: each head's columns of the block. -/
theorem v_fill (X : Arr) (b : ℕ) {sp : Space} (v : View sig .tc sp S4x4096x64 .bf16) (f : v.ty.Contents (Elt Ideal)) (c : Dev nD)
    (arg4 : Memref sig .tc .vmem S1x4096x256 .bf16) (harg4 : arg4.IsWhole) (x2 : Vec Ideal S1x4096x256 .bf16) (hx : ∀ (j : Fin 4096) (e : Fin 256), x2 (ix3 0 j e) = el X b j.val (512 + e.val)) (h : Fin 4) (j : Fin 4096) (d : Fin 64) :
    v.read (Elt Ideal) (v.writes (Elt Ideal) f (kernelRun0_A.sl.HS2_4 (F := Ideal) c arg4 harg4 x2)) (ix3 h j d) = el X b j.val (512 + (64 * h.val + d.val)) := by
  unfold kernelRun0_A.sl.HS2_4
  refine (four v f _ _ _ _ _ _ _ _ [] h j d).trans ?_
  match h with
  | 0 => exact (v0_at c arg4 harg4 x2 j d).trans (hx _ _)
  | 1 => exact (v1_at c arg4 harg4 x2 j d).trans (hx _ _)
  | 2 => exact (v2_at c arg4 harg4 x2 j d).trans (hx _ _)
  | 3 => exact (v3_at c arg4 harg4 x2 j d).trans (hx _ _)

section CaseB

variable (c : Dev nD) (i : grid0.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole)
  (arg5 : Memref sig .tc .vmem S256x256 .bf16) (harg5 : arg5.IsWhole) (arg6 : Memref sig .tc .vmem S1x256x256 .f32) (harg6 : arg6.IsWhole) (arg7 : Memref sig .tc .vmem S4x256x64 .bf16) (harg7 : arg7.IsWhole)
  (arg8 : Memref sig .tc .vmem S4x4096x64 .bf16) (harg8 : arg8.IsWhole) (arg9 : Memref sig .tc .vmem S4x4096x64 .bf16) (harg9 : arg9.IsWhole) (arg10 : Memref sig .tc .vmem S4x256x64 .f32) (harg10 : arg10.IsWhole)
  (arg11 : Memref sig .tc .vmem S4x256x1 .f32) (harg11 : arg11.IsWhole) (hc0 : ¬cond0_0 i)
  (x0 : Vec Ideal S1x256x256 .bf16) (x1 : Vec Ideal S1x4096x256 .bf16) (x2 : Vec Ideal S1x4096x256 .bf16) (x3 : Vec Ideal S256x256 .bf16) (xs1 : Vec Ideal S4x4096x64 .bf16) (xs2 : Vec Ideal S4x4096x64 .bf16) (X : Arr) (b : ℕ)

include hc0 in
/-- The value of a point other than the first of its sequence. -/
theorem pointB (hx0 : ∀ r e : Fin 256, x0 (ix3 0 r e) = ((qk X b (256 * (i 1).val + r.val) e.val : ℝ) : EReal)) (hx3 : ∀ a b : Fin 256, x3 (ix2 a b) = tri a b)
    (hk : ∀ (h : Fin 4) (j : Fin 4096) (d : Fin 64), xs1 (ix3 h j d) = ((qk X b j.val (256 + (64 * h.val + d.val)) : ℝ) : EReal))
    (hv : ∀ (h : Fin 4) (j : Fin 4096) (d : Fin 64), xs2 (ix3 h j d) = el X b j.val (512 + (64 * h.val + d.val))) (r e : Fin 256) :
    out0_B_4 (F := Ideal) c i arg2 harg2 arg3 harg3 arg4 harg4 arg5 harg5 arg6 harg6 arg7 harg7 arg8 harg8 arg9 harg9 arg10 harg10 arg11 harg11 hc0 x0 x1 x2 x3 xs1 xs2 (ix3 0 r e) = result X b (256 * (i 1).val + r.val) (e.val / 64) (e.val % 64) := by
  have ho : Ops X b (i 1).val (harg5.unread x3) (arg7.view.writes (Elt Ideal) arg7.view.junk (kernelRun0_B.sl.HS0_4 (F := Ideal) c arg2 harg2 x0)) (harg8.unread xs1) (harg9.unread xs2) := by
    refine ⟨fun a b => ?_, ?_, fun h j d => ?_, fun h j d => ?_⟩
    · rw [harg5.read_unread]; exact hx3 a b
    · unfold kernelRun0_B.sl.HS0_4 kernelRun0_B.sl.r
      exact
        (fun h r d => q_fill X b (i 1).val arg7.view _ _ (fun r e => by
        refine (rd3 arg2.view _ ![0, 0, 0] _ _ (ix3 0 r e) (ix3 0 r e) rfl (by show r.val = 0 + r.val; omega) (by show e.val = 0 + e.val; omega)).trans ?_
        rw [harg2.read_unread]; exact hx0 r e) h r d)
    · exact by rw [harg8.read_unread]; exact hk h j d
    · exact by rw [harg9.read_unread]; exact hv h j d
  unfold out0_B_4 kernelRun0_B
  dsimp only
  refine (View.read_writes_cons_unit_of_mem VO0_4 VO0_4.junk _ _ [] (ix3 0 r e) (ix3 0 r e) rfl (fun a => by
    match a with
    | ⟨0, _⟩ => rfl
    | ⟨1, _⟩ => show r.val = 0 + r.val; omega
    | ⟨2, _⟩ => show e.val = 0 + e.val; omega)).trans ?_
  unfold kernelRun0_B.sl.r_20
  refine (out_at _ _ _ _ r e).trans ?_
  have hc0' : ∀ r : Fin 256, (kernelRun0_B.sl.v148 (F := Ideal) c arg11) (ix3 0 r 0) = 0 := fun r => by
    refine (rdh0 arg11.view (arg11.view.writes (Elt Ideal) arg11.view.junk (kernelRun0_B.sl.HS4_1 (F := Ideal) )) ![0, 0, 0] 0 rfl inb_S4x256x1_S1x256x1_0_0_0 r 0).trans ?_
    unfold kernelRun0_B.sl.HS4_1
    exact (whole_write arg11.view _ _ _ 0 r 0).trans (zero11_at _)
  have ha0 : ∀ (r : Fin 256) (d : Fin 64), (kernelRun0_B.sl.v155 (F := Ideal) c arg10) (ix3 0 r d) = 0 := fun r d => by
    refine (rdh0 arg10.view (arg10.view.writes (Elt Ideal) arg10.view.junk (kernelRun0_B.sl.HS3_1 (F := Ideal) )) ![0, 0, 0] 0 rfl inb_S4x256x64_S1x256x64_0_0_0 r d).trans ?_
    unfold kernelRun0_B.sl.HS3_1
    exact (whole_write arg10.view _ _ _ 0 r d).trans (zero10_at _)
  have hc1 : ∀ r : Fin 256, (kernelRun0_B.sl.v177 (F := Ideal) c i arg2 harg2 arg5 harg5 arg7 arg8 harg8 arg11 x0 x3 xs1) (ix3 0 r 0) = 0 := fun r => by
    refine (rdh0 arg11.view (arg11.view.writes (Elt Ideal) arg11.view.junk (kernelRun0_B.sl.HS4_2 (F := Ideal) c i arg2 harg2 arg5 harg5 arg7 arg8 harg8 arg11 x0 x3 xs1)) ![1, 0, 0] 1 rfl inb_S4x256x1_S1x256x1_1_0_0 r 0).trans ?_
    unfold kernelRun0_B.sl.HS4_2 kernelRun0_B.sl.HS4_1
    refine (other_head arg11.view _ 0 _ _ _ 1 (by decide) r 0).trans ?_
    exact (whole_write arg11.view _ _ _ 1 r 0).trans (zero11_at _)
  have ha1 : ∀ (r : Fin 256) (d : Fin 64), (kernelRun0_B.sl.v184 (F := Ideal) c i arg2 harg2 arg5 harg5 arg7 arg8 harg8 arg9 harg9 arg10 arg11 x0 x3 xs1 xs2) (ix3 0 r d) = 0 := fun r d => by
    refine (rdh0 arg10.view (arg10.view.writes (Elt Ideal) arg10.view.junk (kernelRun0_B.sl.HS3_2 (F := Ideal) c i arg2 harg2 arg5 harg5 arg7 arg8 harg8 arg9 harg9 arg10 arg11 x0 x3 xs1 xs2)) ![1, 0, 0] 1 rfl inb_S4x256x64_S1x256x64_1_0_0 r d).trans ?_
    unfold kernelRun0_B.sl.HS3_2 kernelRun0_B.sl.HS3_1
    refine (other_head arg10.view _ 0 _ _ _ 1 (by decide) r d).trans ?_
    exact (whole_write arg10.view _ _ _ 1 r d).trans (zero10_at _)
  have hc2 : ∀ r : Fin 256, (kernelRun0_B.sl.v206 (F := Ideal) c i arg2 harg2 arg5 harg5 arg7 arg8 harg8 arg11 x0 x3 xs1) (ix3 0 r 0) = 0 := fun r => by
    refine (rdh0 arg11.view (arg11.view.writes (Elt Ideal) arg11.view.junk (kernelRun0_B.sl.HS4_3 (F := Ideal) c i arg2 harg2 arg5 harg5 arg7 arg8 harg8 arg11 x0 x3 xs1)) ![2, 0, 0] 2 rfl inb_S4x256x1_S1x256x1_2_0_0 r 0).trans ?_
    unfold kernelRun0_B.sl.HS4_3 kernelRun0_B.sl.HS4_2 kernelRun0_B.sl.HS4_1
    refine (other_head arg11.view _ 1 _ _ _ 2 (by decide) r 0).trans ?_
    refine (other_head arg11.view _ 0 _ _ _ 2 (by decide) r 0).trans ?_
    exact (whole_write arg11.view _ _ _ 2 r 0).trans (zero11_at _)
  have ha2 : ∀ (r : Fin 256) (d : Fin 64), (kernelRun0_B.sl.v213 (F := Ideal) c i arg2 harg2 arg5 harg5 arg7 arg8 harg8 arg9 harg9 arg10 arg11 x0 x3 xs1 xs2) (ix3 0 r d) = 0 := fun r d => by
    refine (rdh0 arg10.view (arg10.view.writes (Elt Ideal) arg10.view.junk (kernelRun0_B.sl.HS3_3 (F := Ideal) c i arg2 harg2 arg5 harg5 arg7 arg8 harg8 arg9 harg9 arg10 arg11 x0 x3 xs1 xs2)) ![2, 0, 0] 2 rfl inb_S4x256x64_S1x256x64_2_0_0 r d).trans ?_
    unfold kernelRun0_B.sl.HS3_3 kernelRun0_B.sl.HS3_2 kernelRun0_B.sl.HS3_1
    refine (other_head arg10.view _ 1 _ _ _ 2 (by decide) r d).trans ?_
    refine (other_head arg10.view _ 0 _ _ _ 2 (by decide) r d).trans ?_
    exact (whole_write arg10.view _ _ _ 2 r d).trans (zero10_at _)
  have hc3 : ∀ r : Fin 256, (kernelRun0_B.sl.v235 (F := Ideal) c i arg2 harg2 arg5 harg5 arg7 arg8 harg8 arg11 x0 x3 xs1) (ix3 0 r 0) = 0 := fun r => by
    refine (rdh0 arg11.view (arg11.view.writes (Elt Ideal) arg11.view.junk (kernelRun0_B.sl.HS4_4 (F := Ideal) c i arg2 harg2 arg5 harg5 arg7 arg8 harg8 arg11 x0 x3 xs1)) ![3, 0, 0] 3 rfl inb_S4x256x1_S1x256x1_3_0_0 r 0).trans ?_
    unfold kernelRun0_B.sl.HS4_4 kernelRun0_B.sl.HS4_3 kernelRun0_B.sl.HS4_2 kernelRun0_B.sl.HS4_1
    refine (other_head arg11.view _ 2 _ _ _ 3 (by decide) r 0).trans ?_
    refine (other_head arg11.view _ 1 _ _ _ 3 (by decide) r 0).trans ?_
    refine (other_head arg11.view _ 0 _ _ _ 3 (by decide) r 0).trans ?_
    exact (whole_write arg11.view _ _ _ 3 r 0).trans (zero11_at _)
  have ha3 : ∀ (r : Fin 256) (d : Fin 64), (kernelRun0_B.sl.v242 (F := Ideal) c i arg2 harg2 arg5 harg5 arg7 arg8 harg8 arg9 harg9 arg10 arg11 x0 x3 xs1 xs2) (ix3 0 r d) = 0 := fun r d => by
    refine (rdh0 arg10.view (arg10.view.writes (Elt Ideal) arg10.view.junk (kernelRun0_B.sl.HS3_4 (F := Ideal) c i arg2 harg2 arg5 harg5 arg7 arg8 harg8 arg9 harg9 arg10 arg11 x0 x3 xs1 xs2)) ![3, 0, 0] 3 rfl inb_S4x256x64_S1x256x64_3_0_0 r d).trans ?_
    unfold kernelRun0_B.sl.HS3_4 kernelRun0_B.sl.HS3_3 kernelRun0_B.sl.HS3_2 kernelRun0_B.sl.HS3_1
    refine (other_head arg10.view _ 2 _ _ _ 3 (by decide) r d).trans ?_
    refine (other_head arg10.view _ 1 _ _ _ 3 (by decide) r d).trans ?_
    refine (other_head arg10.view _ 0 _ _ _ 3 (by decide) r d).trans ?_
    exact (whole_write arg10.view _ _ _ 3 r d).trans (zero10_at _)
  have hi : Inv X b (i 1).val (i 1).val (arg10 := arg10) (arg11 := arg11) (arg10.view.writes (Elt Ideal) arg10.view.junk (kernelRun0_B.sl.HS3_5 (F := Ideal) c i arg2 harg2 arg5 harg5 arg7 arg8 harg8 arg9 harg9 arg10 arg11 x0 x3 xs1 xs2))
      (arg11.view.writes (Elt Ideal) arg11.view.junk (kernelRun0_B.sl.HS4_5 (F := Ideal) c i arg2 harg2 arg5 harg5 arg7 arg8 harg8 arg11 x0 x3 xs1)) := by
    exact own_inv i arg5 arg7 arg8 arg9 arg10 arg11 _ _ _ _ X b ho _ _ _ _ _ _ _ _ hc0' ha0 hc1 ha1 hc2 ha2 hc3 ha3 (kernelRun0_B.sl.HS3_1 (F := Ideal)) (kernelRun0_B.sl.HS4_1 (F := Ideal)) _ _
  obtain ⟨h, hh⟩ : ∃ h : Fin 4, h.val = e.val / 64 := ⟨⟨e.val / 64, by omega⟩, rfl⟩
  rw [show (⟨e.val / 64, by omega⟩ : Fin 4) = h from Fin.ext hh.symm, ← hh]
  clear hh
  match h with
  | 0 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![0, 0, 0] 0 rfl inb_S4x256x64_S1x256x64_0_0_0 r ⟨e.val % 64, by omega⟩
  | 1 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![1, 0, 0] 1 rfl inb_S4x256x64_S1x256x64_1_0_0 r ⟨e.val % 64, by omega⟩
  | 2 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![2, 0, 0] 2 rfl inb_S4x256x64_S1x256x64_2_0_0 r ⟨e.val % 64, by omega⟩
  | 3 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![3, 0, 0] 3 rfl inb_S4x256x64_S1x256x64_3_0_0 r ⟨e.val % 64, by omega⟩

end CaseB

section CaseA

variable (c : Dev nD) (i : grid0.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole)
  (arg5 : Memref sig .tc .vmem S256x256 .bf16) (harg5 : arg5.IsWhole) (arg6 : Memref sig .tc .vmem S1x256x256 .f32) (harg6 : arg6.IsWhole) (arg7 : Memref sig .tc .vmem S4x256x64 .bf16) (harg7 : arg7.IsWhole)
  (arg8 : Memref sig .tc .vmem S4x4096x64 .bf16) (harg8 : arg8.IsWhole) (arg9 : Memref sig .tc .vmem S4x4096x64 .bf16) (harg9 : arg9.IsWhole) (arg10 : Memref sig .tc .vmem S4x256x64 .f32) (harg10 : arg10.IsWhole)
  (arg11 : Memref sig .tc .vmem S4x256x1 .f32) (harg11 : arg11.IsWhole) (hc0 : cond0_0 i)
  (x0 : Vec Ideal S1x256x256 .bf16) (x1 : Vec Ideal S1x4096x256 .bf16) (x2 : Vec Ideal S1x4096x256 .bf16) (x3 : Vec Ideal S256x256 .bf16) (X : Arr) (b : ℕ)

include hc0 in
/-- The value of a point that is the first of its sequence. -/
theorem pointA (hx0 : ∀ r e : Fin 256, x0 (ix3 0 r e) = ((qk X b (256 * (i 1).val + r.val) e.val : ℝ) : EReal)) (hx3 : ∀ a b : Fin 256, x3 (ix2 a b) = tri a b)
    (hx1 : ∀ (j : Fin 4096) (e : Fin 256), x1 (ix3 0 j e) = ((qk X b j.val (256 + e.val) : ℝ) : EReal))
    (hx2 : ∀ (j : Fin 4096) (e : Fin 256), x2 (ix3 0 j e) = el X b j.val (512 + e.val)) (r e : Fin 256) :
    out0_A_4 (F := Ideal) c i arg2 harg2 arg3 harg3 arg4 harg4 arg5 harg5 arg6 harg6 arg7 harg7 arg8 harg8 arg9 harg9 arg10 harg10 arg11 harg11 hc0 x0 x1 x2 x3 (ix3 0 r e) = result X b (256 * (i 1).val + r.val) (e.val / 64) (e.val % 64) := by
  have ho : Ops X b (i 1).val (harg5.unread x3) (arg7.view.writes (Elt Ideal) arg7.view.junk (kernelRun0_A.sl.HS0_4 (F := Ideal) c arg2 harg2 x0)) (arg8.view.writes (Elt Ideal) arg8.view.junk (kernelRun0_A.sl.HS1_4 (F := Ideal) c arg3 harg3 x1)) (arg9.view.writes (Elt Ideal) arg9.view.junk (kernelRun0_A.sl.HS2_4 (F := Ideal) c arg4 harg4 x2)) := by
    refine ⟨fun a b => ?_, ?_, fun h j d => ?_, fun h j d => ?_⟩
    · rw [harg5.read_unread]; exact hx3 a b
    · unfold kernelRun0_A.sl.HS0_4 kernelRun0_A.sl.r
      exact
        (fun h r d => q_fill X b (i 1).val arg7.view _ _ (fun r e => by
        refine (rd3 arg2.view _ ![0, 0, 0] _ _ (ix3 0 r e) (ix3 0 r e) rfl (by show r.val = 0 + r.val; omega) (by show e.val = 0 + e.val; omega)).trans ?_
        rw [harg2.read_unread]; exact hx0 r e) h r d)
    · exact k_fill X b arg8.view _ c arg3 harg3 x1 hx1 h j d
    · exact v_fill X b arg9.view _ c arg4 harg4 x2 hx2 h j d
  unfold out0_A_4 kernelRun0_A
  dsimp only
  refine (View.read_writes_cons_unit_of_mem VO0_4 VO0_4.junk _ _ [] (ix3 0 r e) (ix3 0 r e) rfl (fun a => by
    match a with
    | ⟨0, _⟩ => rfl
    | ⟨1, _⟩ => show r.val = 0 + r.val; omega
    | ⟨2, _⟩ => show e.val = 0 + e.val; omega)).trans ?_
  unfold kernelRun0_A.sl.r_20
  refine (out_at _ _ _ _ r e).trans ?_
  have hc0' : ∀ r : Fin 256, (kernelRun0_A.sl.v148 (F := Ideal) c arg11) (ix3 0 r 0) = 0 := fun r => by
    refine (rdh0 arg11.view (arg11.view.writes (Elt Ideal) arg11.view.junk (kernelRun0_A.sl.HS4_1 (F := Ideal) )) ![0, 0, 0] 0 rfl inb_S4x256x1_S1x256x1_0_0_0 r 0).trans ?_
    unfold kernelRun0_A.sl.HS4_1
    exact (whole_write arg11.view _ _ _ 0 r 0).trans (zero11_at _)
  have ha0 : ∀ (r : Fin 256) (d : Fin 64), (kernelRun0_A.sl.v155 (F := Ideal) c arg10) (ix3 0 r d) = 0 := fun r d => by
    refine (rdh0 arg10.view (arg10.view.writes (Elt Ideal) arg10.view.junk (kernelRun0_A.sl.HS3_1 (F := Ideal) )) ![0, 0, 0] 0 rfl inb_S4x256x64_S1x256x64_0_0_0 r d).trans ?_
    unfold kernelRun0_A.sl.HS3_1
    exact (whole_write arg10.view _ _ _ 0 r d).trans (zero10_at _)
  have hc1 : ∀ r : Fin 256, (kernelRun0_A.sl.v177 (F := Ideal) c i arg2 harg2 arg3 harg3 arg5 harg5 arg7 arg8 arg11 x0 x1 x3) (ix3 0 r 0) = 0 := fun r => by
    refine (rdh0 arg11.view (arg11.view.writes (Elt Ideal) arg11.view.junk (kernelRun0_A.sl.HS4_2 (F := Ideal) c i arg2 harg2 arg3 harg3 arg5 harg5 arg7 arg8 arg11 x0 x1 x3)) ![1, 0, 0] 1 rfl inb_S4x256x1_S1x256x1_1_0_0 r 0).trans ?_
    unfold kernelRun0_A.sl.HS4_2 kernelRun0_A.sl.HS4_1
    refine (other_head arg11.view _ 0 _ _ _ 1 (by decide) r 0).trans ?_
    exact (whole_write arg11.view _ _ _ 1 r 0).trans (zero11_at _)
  have ha1 : ∀ (r : Fin 256) (d : Fin 64), (kernelRun0_A.sl.v184 (F := Ideal) c i arg2 harg2 arg3 harg3 arg4 harg4 arg5 harg5 arg7 arg8 arg9 arg10 arg11 x0 x1 x2 x3) (ix3 0 r d) = 0 := fun r d => by
    refine (rdh0 arg10.view (arg10.view.writes (Elt Ideal) arg10.view.junk (kernelRun0_A.sl.HS3_2 (F := Ideal) c i arg2 harg2 arg3 harg3 arg4 harg4 arg5 harg5 arg7 arg8 arg9 arg10 arg11 x0 x1 x2 x3)) ![1, 0, 0] 1 rfl inb_S4x256x64_S1x256x64_1_0_0 r d).trans ?_
    unfold kernelRun0_A.sl.HS3_2 kernelRun0_A.sl.HS3_1
    refine (other_head arg10.view _ 0 _ _ _ 1 (by decide) r d).trans ?_
    exact (whole_write arg10.view _ _ _ 1 r d).trans (zero10_at _)
  have hc2 : ∀ r : Fin 256, (kernelRun0_A.sl.v206 (F := Ideal) c i arg2 harg2 arg3 harg3 arg5 harg5 arg7 arg8 arg11 x0 x1 x3) (ix3 0 r 0) = 0 := fun r => by
    refine (rdh0 arg11.view (arg11.view.writes (Elt Ideal) arg11.view.junk (kernelRun0_A.sl.HS4_3 (F := Ideal) c i arg2 harg2 arg3 harg3 arg5 harg5 arg7 arg8 arg11 x0 x1 x3)) ![2, 0, 0] 2 rfl inb_S4x256x1_S1x256x1_2_0_0 r 0).trans ?_
    unfold kernelRun0_A.sl.HS4_3 kernelRun0_A.sl.HS4_2 kernelRun0_A.sl.HS4_1
    refine (other_head arg11.view _ 1 _ _ _ 2 (by decide) r 0).trans ?_
    refine (other_head arg11.view _ 0 _ _ _ 2 (by decide) r 0).trans ?_
    exact (whole_write arg11.view _ _ _ 2 r 0).trans (zero11_at _)
  have ha2 : ∀ (r : Fin 256) (d : Fin 64), (kernelRun0_A.sl.v213 (F := Ideal) c i arg2 harg2 arg3 harg3 arg4 harg4 arg5 harg5 arg7 arg8 arg9 arg10 arg11 x0 x1 x2 x3) (ix3 0 r d) = 0 := fun r d => by
    refine (rdh0 arg10.view (arg10.view.writes (Elt Ideal) arg10.view.junk (kernelRun0_A.sl.HS3_3 (F := Ideal) c i arg2 harg2 arg3 harg3 arg4 harg4 arg5 harg5 arg7 arg8 arg9 arg10 arg11 x0 x1 x2 x3)) ![2, 0, 0] 2 rfl inb_S4x256x64_S1x256x64_2_0_0 r d).trans ?_
    unfold kernelRun0_A.sl.HS3_3 kernelRun0_A.sl.HS3_2 kernelRun0_A.sl.HS3_1
    refine (other_head arg10.view _ 1 _ _ _ 2 (by decide) r d).trans ?_
    refine (other_head arg10.view _ 0 _ _ _ 2 (by decide) r d).trans ?_
    exact (whole_write arg10.view _ _ _ 2 r d).trans (zero10_at _)
  have hc3 : ∀ r : Fin 256, (kernelRun0_A.sl.v235 (F := Ideal) c i arg2 harg2 arg3 harg3 arg5 harg5 arg7 arg8 arg11 x0 x1 x3) (ix3 0 r 0) = 0 := fun r => by
    refine (rdh0 arg11.view (arg11.view.writes (Elt Ideal) arg11.view.junk (kernelRun0_A.sl.HS4_4 (F := Ideal) c i arg2 harg2 arg3 harg3 arg5 harg5 arg7 arg8 arg11 x0 x1 x3)) ![3, 0, 0] 3 rfl inb_S4x256x1_S1x256x1_3_0_0 r 0).trans ?_
    unfold kernelRun0_A.sl.HS4_4 kernelRun0_A.sl.HS4_3 kernelRun0_A.sl.HS4_2 kernelRun0_A.sl.HS4_1
    refine (other_head arg11.view _ 2 _ _ _ 3 (by decide) r 0).trans ?_
    refine (other_head arg11.view _ 1 _ _ _ 3 (by decide) r 0).trans ?_
    refine (other_head arg11.view _ 0 _ _ _ 3 (by decide) r 0).trans ?_
    exact (whole_write arg11.view _ _ _ 3 r 0).trans (zero11_at _)
  have ha3 : ∀ (r : Fin 256) (d : Fin 64), (kernelRun0_A.sl.v242 (F := Ideal) c i arg2 harg2 arg3 harg3 arg4 harg4 arg5 harg5 arg7 arg8 arg9 arg10 arg11 x0 x1 x2 x3) (ix3 0 r d) = 0 := fun r d => by
    refine (rdh0 arg10.view (arg10.view.writes (Elt Ideal) arg10.view.junk (kernelRun0_A.sl.HS3_4 (F := Ideal) c i arg2 harg2 arg3 harg3 arg4 harg4 arg5 harg5 arg7 arg8 arg9 arg10 arg11 x0 x1 x2 x3)) ![3, 0, 0] 3 rfl inb_S4x256x64_S1x256x64_3_0_0 r d).trans ?_
    unfold kernelRun0_A.sl.HS3_4 kernelRun0_A.sl.HS3_3 kernelRun0_A.sl.HS3_2 kernelRun0_A.sl.HS3_1
    refine (other_head arg10.view _ 2 _ _ _ 3 (by decide) r d).trans ?_
    refine (other_head arg10.view _ 1 _ _ _ 3 (by decide) r d).trans ?_
    refine (other_head arg10.view _ 0 _ _ _ 3 (by decide) r d).trans ?_
    exact (whole_write arg10.view _ _ _ 3 r d).trans (zero10_at _)
  have hi : Inv X b (i 1).val (i 1).val (arg10 := arg10) (arg11 := arg11) (arg10.view.writes (Elt Ideal) arg10.view.junk (kernelRun0_A.sl.HS3_5 (F := Ideal) c i arg2 harg2 arg3 harg3 arg4 harg4 arg5 harg5 arg7 arg8 arg9 arg10 arg11 x0 x1 x2 x3))
      (arg11.view.writes (Elt Ideal) arg11.view.junk (kernelRun0_A.sl.HS4_5 (F := Ideal) c i arg2 harg2 arg3 harg3 arg5 harg5 arg7 arg8 arg11 x0 x1 x3)) := by
    exact own_inv i arg5 arg7 arg8 arg9 arg10 arg11 _ _ _ _ X b ho _ _ _ _ _ _ _ _ hc0' ha0 hc1 ha1 hc2 ha2 hc3 ha3 (kernelRun0_A.sl.HS3_1 (F := Ideal)) (kernelRun0_A.sl.HS4_1 (F := Ideal)) _ _
  obtain ⟨h, hh⟩ : ∃ h : Fin 4, h.val = e.val / 64 := ⟨⟨e.val / 64, by omega⟩, rfl⟩
  rw [show (⟨e.val / 64, by omega⟩ : Fin 4) = h from Fin.ext hh.symm, ← hh]
  clear hh
  match h with
  | 0 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![0, 0, 0] 0 rfl inb_S4x256x64_S1x256x64_0_0_0 r ⟨e.val % 64, by omega⟩
  | 1 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![1, 0, 0] 1 rfl inb_S4x256x64_S1x256x64_1_0_0 r ⟨e.val % 64, by omega⟩
  | 2 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![2, 0, 0] 2 rfl inb_S4x256x64_S1x256x64_2_0_0 r ⟨e.val % 64, by omega⟩
  | 3 => exact read_after c i arg2 harg2 arg3 harg3 arg4 harg4 arg5 harg5 arg6 harg6 arg7 harg7 arg8 harg8 arg9 harg9 arg10 harg10 arg11 harg11 _ _ _ _ X b ho _ _ _ _ _ _ _ _ _ _ _ hi ![3, 0, 0] 3 rfl inb_S4x256x64_S1x256x64_3_0_0 r ⟨e.val % 64, by omega⟩

end CaseA

end Cert.SbKernelIdeal.Pure
-- ==== Proof.SbRef.lean ====
module

public import proofs.«01_k».proof.Proof.Gen.SbReferenceIdeal.Read
public import proofs.«01_k».proof.Proof.SbScalar
public import Idealize.ShloMosaic.Lib.Pointwise
public import Idealize.ShloMosaic.Lib.WordCmp

/-! What the reference of the stick-breaking attention holds at one element, once queries and keys are real numbers. -/

@[expose] public section

set_option maxRecDepth 16384
noncomputable section

namespace Cert.SbReferenceIdeal.Read

open Idealize.ShloMosaic Idealize.ShloMosaic.TcCoe Cert.SbReferenceIdeal Cert.SbReferenceIdeal.Gen Cert.Layer.Sb

/-- The queries by head. -/
theorem v3_at (X : Arr) (i : S8x4096x4x64.Idx) : val_main_v3 (F := Ideal) X i = el X (i 0).val (i 1).val (64 * (i 2).val + (i 3).val) := by
  have h1 : (i 1).val < 4096 := (i 1).isLt
  have h2 : (i 2).val < 4 := (i 2).isLt
  have h3 : (i 3).val < 64 := (i 3).isLt
  rw [val_main_v3_apply, val_main_v0_apply]
  refine eq_el X _ _ _ _ ?_ ?_ ?_
  · show ((((i 0).val * 4096 + (i 1).val) * 4 + (i 2).val) * 64 + (i 3).val) / 1048576 = _; omega
  · show ((((i 0).val * 4096 + (i 1).val) * 4 + (i 2).val) * 64 + (i 3).val) / 256 % 4096 = _; omega
  · show ((((i 0).val * 4096 + (i 1).val) * 4 + (i 2).val) * 64 + (i 3).val) % 256 = _; omega

/-- The keys by head. -/
theorem v4_at (X : Arr) (i : S8x4096x4x64.Idx) : val_main_v4 (F := Ideal) X i = el X (i 0).val (i 1).val (256 + (64 * (i 2).val + (i 3).val)) := by
  have h1 : (i 1).val < 4096 := (i 1).isLt
  have h2 : (i 2).val < 4 := (i 2).isLt
  have h3 : (i 3).val < 64 := (i 3).isLt
  rw [val_main_v4_apply, val_main_v1_apply]
  refine eq_el X _ _ _ _ ?_ ?_ ?_
  · show ((((i 0).val * 4096 + (i 1).val) * 4 + (i 2).val) * 64 + (i 3).val) / 1048576 = _; omega
  · show ((((i 0).val * 4096 + (i 1).val) * 4 + (i 2).val) * 64 + (i 3).val) / 256 % 4096 = _; omega
  · show 256 + ((((i 0).val * 4096 + (i 1).val) * 4 + (i 2).val) * 64 + (i 3).val) % 256 = _; omega

/-- The values by head. -/
theorem v5_at (X : Arr) (i : S8x4096x4x64.Idx) : val_main_v5 (F := Ideal) X i = el X (i 0).val (i 1).val (512 + (64 * (i 2).val + (i 3).val)) := by
  have h1 : (i 1).val < 4096 := (i 1).isLt
  have h2 : (i 2).val < 4 := (i 2).isLt
  have h3 : (i 3).val < 64 := (i 3).isLt
  rw [val_main_v5_apply, val_main_v2_apply]
  refine eq_el X _ _ _ _ ?_ ?_ ?_
  · show ((((i 0).val * 4096 + (i 1).val) * 4 + (i 2).val) * 64 + (i 3).val) / 1048576 = _; omega
  · show ((((i 0).val * 4096 + (i 1).val) * 4 + (i 2).val) * 64 + (i 3).val) / 256 % 4096 = _; omega
  · show 512 + ((((i 0).val * 4096 + (i 1).val) * 4 + (i 2).val) * 64 + (i 3).val) % 256 = _; omega

/-- The scale's literal is one eighth. -/
theorem eighth : Ideal.ofBits .f32 0x3E000000#32 = ((1 / 8 : ℝ) : EReal) := by
  simp [Ideal.ofBits, Ideal.ieee]
  rw [← EReal.coe_mul]
  norm_num

/-- The scores. -/
theorem v8_at (X : Arr) (hX : Finite X) (i : S8x4x4096x4096.Idx) :
    val_main_v8 (F := Ideal) X i = ((score X (i 0).val (i 1).val (i 2).val (i 3).val : ℝ) : EReal) := by
  have h1 : (i 1).val < 4 := (i 1).isLt
  rw [val_main_v8_apply, val_main_v6_apply, val_main_v7_apply, val_main_cst_apply]
  show (∑ k : Fin 64, _ * _) * Ideal.ofBits .f32 0x3E000000#32 = _
  rw [eighth, score, EReal.coe_mul, ← coe_sum']
  congr 1
  refine Finset.sum_congr rfl fun k _ => ?_
  have hk : k.val < 64 := k.isLt
  rw [v3_at, v4_at, EReal.coe_mul, ← hX _ _ _ (by omega), ← hX _ _ _ (by omega)]

/-- The absolute value as a maximum. -/
theorem absf_eq (x : EReal) : FloatOps.absf (F := Ideal) (φ := .f32) x = max x (-x) := rfl

/-- The softplus of the scores. -/
theorem v15_at (X : Arr) (hX : Finite X) (i : S8x4x4096x4096.Idx) :
    val_main_v15 (F := Ideal) X i = ((softplus (score X (i 0).val (i 1).val (i 2).val (i 3).val) : ℝ) : EReal) := by
  rw [val_main_v15_apply, val_main_call0_v4_apply, val_main_call0_v11_apply, val_main_call0_v10_apply, val_main_call0_v9_apply,
    val_main_call0_v8_apply, val_main_call0_v7_apply, val_main_call0_v3_apply, val_main_call0_v1_apply, val_main_call0_v0_apply,
    val_main_call0_v2_apply, val_main_call0_cst_apply, v8_at X hX, ← reference_softplus]
  simp [Scalar.select, Ideal.log1p, Ideal.cmpf_def, Ideal.cmp, absf_eq]

/-- The mask: the key's position is before the row's. -/
theorem v14_at (i : S4096x4096.Idx) : val_main_v14 (F := Ideal) i = if (i 1).val < (i 0).val then 1#1 else 0#1 := by
  rw [val_main_v14_apply, val_main_v12_apply, val_main_v13_apply, val_main_v10_apply, val_main_v11_apply, val_main_v9_apply, val_main_v9_apply]
  have h0 : (i 0).val < 4096 := (i 0).isLt
  have h1 : (i 1).val < 4096 := (i 1).isLt
  show IntOp.cmpi .slt (BitVec.ofNat 32 (i 1).val) (BitVec.ofNat 32 (i 0).val) = _
  rw [WordCmp.cmpi_slt_ofNat (by omega) (by omega)]
  by_cases h : (i 1).val < (i 0).val
  · rw [if_pos h, decide_eq_true h]; rfl
  · rw [if_neg h, decide_eq_false h]; rfl

/-- The stick taken by a key, negated; nothing at or after the row's own position. -/
theorem v17_at (X : Arr) (hX : Finite X) (i : S8x4x4096x4096.Idx) :
    val_main_v17 (F := Ideal) X i = ((-(taken (score X (i 0).val (i 1).val (i 2).val) (i 2).val (i 3).val) : ℝ) : EReal) := by
  rw [val_main_v17_apply, val_main_call1_v1_apply, v14_at, val_main_v16_apply, v15_at X hX, val_main_call1_v2_apply, val_main_call1_v0_apply,
    val_main_cst_0_apply, taken]
  show Scalar.select (if (i 3).val < (i 2).val then 1#1 else 0#1) _ _ = _
  by_cases h : (i 3).val < (i 2).val
  · rw [if_pos h, if_pos h]; rfl
  · rw [if_neg h, if_neg h]; simp [Scalar.select]

/-- A left fold of additions is the sum. -/
theorem foldl_add_eq_sum {n : ℕ} (g : Fin n → EReal) (v : EReal) : (List.finRange n).foldl (fun r k => r + g k) v = v + ∑ k : Fin n, g k := by
  have h : ∀ (l : List (Fin n)) (v : EReal), l.foldl (fun r k => r + g k) v = v + (l.map g).sum := by
    intro l
    induction l with
    | nil => intro v; simp
    | cons a l ih => intro v; simp only [List.foldl_cons, List.map_cons, List.sum_cons, ih, add_assoc]
  rw [h, Fin.sum_univ_def]

/-- The windows of the running sum, by their one coordinate. -/
def windowEquiv : Fin 4096 ≃ Shape.Idx ⟨4, ![1, 1, 1, 4096]⟩ where
  toFun k := ix4 0 0 0 k
  invFun w := w 3
  left_inv _ := rfl
  right_inv w := by
    funext a
    match a with
    | ⟨0, _⟩ => exact Fin.ext (by have : (w 0).val < 1 := (w 0).isLt; show 0 = (w 0).val; omega)
    | ⟨1, _⟩ => exact Fin.ext (by have : (w 1).val < 1 := (w 1).isLt; show 0 = (w 1).val; omega)
    | ⟨2, _⟩ => exact Fin.ext (by have : (w 2).val < 1 := (w 2).isLt; show 0 = (w 2).val; omega)
    | ⟨3, _⟩ => rfl

/-- The reverse running sum along the last axis: every element is the sum of those from its own position on. -/
theorem running_sum (x : FVec Ideal S8x4x4096x4096 .f32) (v : FVec Ideal S_ .f32) (hv : ∀ i, v i = 0)
    (hw : S8x4x4096x4096.ReduceWindows (![1, 1, 1, 4096] : Fin 4 → Nat) ![1, 1, 1, 1] ![0, 0, 0, 0] ![0, 0, 0, 4095] S8x4x4096x4096)
    (hu : 0 < S_.numel) (i : S8x4x4096x4096.Idx) :
    Host.reduceWindowAdd (F := Ideal) ![1, 1, 1, 4096] ![1, 1, 1, 1] ![0, 0, 0, 0] ![0, 0, 0, 4095] x v hw hu i
      = ∑ k : Fin 4096, if hk : (i 3).val + k.val < 4096 then x (ix4 (i 0) (i 1) (i 2) ⟨(i 3).val + k.val, hk⟩) else 0 := by
  have h0 : (i 0).val < 8 := (i 0).isLt
  have h1 : (i 1).val < 4 := (i 1).isLt
  have h2 : (i 2).val < 4096 := (i 2).isLt
  unfold Host.reduceWindowAdd
  rw [Ideal.hostReduceWindowAdd_def]
  unfold Ideal.hostReduceWindowAdd Host.reduceWindow
  dsimp only
  rw [foldl_add_eq_sum, hv, zero_add]
  rw [← Equiv.sum_comp (Shape.rowMajor ⟨4, ![1, 1, 1, 4096]⟩), ← Equiv.sum_comp windowEquiv]
  refine Finset.sum_congr rfl fun k _ => ?_
  simp only [Equiv.symm_apply_apply]
  have hk' : k.val < 4096 := k.isLt
  by_cases hk : (i 3).val + k.val < 4096
  · rw [dif_pos hk, dif_pos (fun a => by
      match a with
      | ⟨0, _⟩ => show 0 ≤ (i 0).val * 1 + 0 ∧ (i 0).val * 1 + 0 - 0 < 8; omega
      | ⟨1, _⟩ => show 0 ≤ (i 1).val * 1 + 0 ∧ (i 1).val * 1 + 0 - 0 < 4; omega
      | ⟨2, _⟩ => show 0 ≤ (i 2).val * 1 + 0 ∧ (i 2).val * 1 + 0 - 0 < 4096; omega
      | ⟨3, _⟩ => show 0 ≤ (i 3).val * 1 + k.val ∧ (i 3).val * 1 + k.val - 0 < 4096; omega)]
    refine congrArg x (funext fun a => Fin.ext ?_)
    match a with
    | ⟨0, _⟩ => show (i 0).val * 1 + 0 - 0 = (i 0).val; omega
    | ⟨1, _⟩ => show (i 1).val * 1 + 0 - 0 = (i 1).val; omega
    | ⟨2, _⟩ => show (i 2).val * 1 + 0 - 0 = (i 2).val; omega
    | ⟨3, _⟩ => show (i 3).val * 1 + k.val - 0 = (i 3).val + k.val; omega
  · rw [dif_neg hk, dif_neg]
    intro hin
    have h3 : 0 ≤ (i 3).val * 1 + k.val ∧ (i 3).val * 1 + k.val - 0 < 4096 := hin 3
    omega

/-- The running sum of what is taken, from a key on. -/
theorem v18_at (X : Arr) (hX : Finite X) (i : S8x4x4096x4096.Idx) :
    val_main_v18 (F := Ideal) X i
      = ((∑ j ∈ Finset.Ico (i 3).val 4096, -(taken (score X (i 0).val (i 1).val (i 2).val) (i 2).val j) : ℝ) : EReal) := by
  unfold val_main_v18
  rw [running_sum _ _ (fun _ => by
    rw [val_main_call2_v0_apply, val_main_call2_cst_apply]; simp)]
  set x := score X (i 0).val (i 1).val (i 2).val with hx
  have h : ∀ k : Fin 4096, (if hk : (i 3).val + k.val < 4096 then val_main_v17 (F := Ideal) X (ix4 (i 0) (i 1) (i 2) ⟨(i 3).val + k.val, hk⟩) else 0)
      = (((fun n => if n < 4096 then -(taken x (i 2).val n) else 0) ((i 3).val + k.val) : ℝ) : EReal) := fun k => by
    by_cases hk : (i 3).val + k.val < 4096
    · rw [dif_pos hk, v17_at X hX]
      simp only [if_pos hk]
      rfl
    · rw [dif_neg hk]
      simp only [if_neg hk, EReal.coe_zero]
  rw [Finset.sum_congr rfl fun k _ => h k, coe_sum', sum_fin_eq_Ico (fun n => if n < 4096 then -(taken x (i 2).val n) else 0), ← Finset.sum_filter]
  congr 1
  refine Finset.sum_congr (Finset.ext fun j => ?_) fun _ _ => rfl
  have h3 : (i 3).val < 4096 := (i 3).isLt
  simp only [Finset.mem_filter, Finset.mem_Ico]
  omega

/-- The logarithm of the sigmoid of the scores. -/
theorem v20_at (X : Arr) (hX : Finite X) (i : S8x4x4096x4096.Idx) :
    val_main_v20 (F := Ideal) X i = ((-(softplus (-(score X (i 0).val (i 1).val (i 2).val (i 3).val))) : ℝ) : EReal) := by
  rw [EReal.coe_neg, ← reference_softplus, val_main_v20_apply, val_main_call3_v1_apply, val_main_call3_call0_v4_apply, val_main_call3_call0_v11_apply,
    val_main_call3_call0_v10_apply, val_main_call3_call0_v9_apply, val_main_call3_call0_v8_apply, val_main_call3_call0_v7_apply,
    val_main_call3_call0_v3_apply, val_main_call3_call0_v1_apply, val_main_call3_call0_v0_apply, val_main_call3_call0_v2_apply,
    val_main_call3_call0_cst_apply, val_main_call3_v0_apply, v8_at X hX]
  simp [Scalar.select, Ideal.log1p, Ideal.cmpf_def, Ideal.cmp, absf_eq]

/-- The weights. -/
theorem v23_at (X : Arr) (hX : Finite X) (i : S8x4x4096x4096.Idx) :
    val_main_v23 (F := Ideal) X i = ((weight (score X (i 0).val (i 1).val (i 2).val) (i 2).val (i 3).val : ℝ) : EReal) := by
  have h2 : (i 2).val < 4096 := (i 2).isLt
  rw [val_main_v23_apply, val_main_call4_v1_apply, v14_at, val_main_v22_apply, val_main_v21_apply, val_main_v19_apply, v20_at X hX, v18_at X hX,
    v17_at X hX, val_main_call4_v2_apply, val_main_call4_v0_apply, val_main_cst_1_apply]
  show Scalar.select (if (i 3).val < (i 2).val then 1#1 else 0#1) _ _ = _
  by_cases h : (i 3).val < (i 2).val
  · rw [if_pos h, ← reference_weight _ _ _ h h2.le]; rfl
  · rw [if_neg h, weight, if_neg h]; simp [Scalar.select]

/-- The reference's result. -/
theorem v26_at (X : Arr) (hX : Finite X) (i : S8x4096x256.Idx) :
    val_main_v26 (F := Ideal) X i = result X (i 0).val (i 1).val ((i 2).val / 64) ((i 2).val % 64) := by
  have h0 : (i 0).val < 8 := (i 0).isLt
  have h1 : (i 1).val < 4096 := (i 1).isLt
  have h2 : (i 2).val < 256 := (i 2).isLt
  rw [val_main_v26_apply, val_main_v25_apply, val_main_v24_apply, result, acc]
  refine Eq.trans ?_ (sum_fin_eq_Ico (fun j => (weight (score X (i 0).val ((i 2).val / 64) (i 1).val) (i 1).val j : EReal) * el X (i 0).val j (512 + (64 * ((i 2).val / 64) + (i 2).val % 64))) 0 4096)
  refine Finset.sum_congr rfl fun k _ => ?_
  rw [v23_at X hX, v5_at, mul_comm, Nat.zero_add]
  have e0 : (((i 0).val * 4096 + (i 1).val) * 256 + (i 2).val) / 1048576 = (i 0).val := by omega
  have e1 : (((i 0).val * 4096 + (i 1).val) * 256 + (i 2).val) / 256 % 4096 = (i 1).val := by omega
  have e2 : (((i 0).val * 4096 + (i 1).val) * 256 + (i 2).val) / 64 % 4 = (i 2).val / 64 := by omega
  have e3 : (((i 0).val * 4096 + (i 1).val) * 256 + (i 2).val) % 64 = (i 2).val % 64 := by omega
  show (weight (score X ((((i 0).val * 4096 + (i 1).val) * 256 + (i 2).val) / 1048576) ((((i 0).val * 4096 + (i 1).val) * 256 + (i 2).val) / 64 % 4)
      ((((i 0).val * 4096 + (i 1).val) * 256 + (i 2).val) / 256 % 4096)) ((((i 0).val * 4096 + (i 1).val) * 256 + (i 2).val) / 256 % 4096) k.val : EReal)
    * el X ((((i 0).val * 4096 + (i 1).val) * 256 + (i 2).val) / 1048576) k.val
      (512 + (64 * ((((i 0).val * 4096 + (i 1).val) * 256 + (i 2).val) / 64 % 4) + (((i 0).val * 4096 + (i 1).val) * 256 + (i 2).val) % 64)) = _
  rw [e0, e1, e2, e3]

end Cert.SbReferenceIdeal.Read
-- ==== Proof.SbValue.lean ====
module

public import proofs.«01_k».proof.Proof.SbCase
public import proofs.«01_k».proof.Proof.SbRef
public import Idealize.ShloMosaic.Lib.Pipeline.ValueKit
public import Idealize.ShloMosaic.Lib.Pipeline.ReadBack

/-! The stick-breaking attention's result array after the run is the reference's. -/

@[expose] public section

set_option maxRecDepth 16384
noncomputable section

namespace Cert.SbKernelIdeal.Bridge

open Idealize.ShloMosaic Idealize.ShloMosaic.TcCoe Idealize.SL.Sem Cert.SbKernelIdeal Cert.SbKernelIdeal.Gen Cert.SbKernelIdeal.Pure Cert.Layer.Sb
open Idealize.ShloMosaic.Pipeline (Dat)

variable (m : (ℓ : Loc nD τ sig) → Buf (Elt Ideal) ℓ)

/-- The array of queries, keys and values the call is given. -/
def arr (c : Dev nD) : Arr := m ((c : Thread nD τ).loc main_arg0)

/-- The call is entered with that array. -/
theorem V_v0 (c : Dev nD) (b : Fin 8) (t : Fin 4096) (e : Fin 768) : V m c main_v0 (ix3 b t e) = arr m c (ix3 b t e) := by
  unfold_abbrev_sides
  simp only [hostOps0]
  after_results
  pointwise
  rfl

/-- The triangle the call is entered with. -/
theorem V_v8 (c : Dev nD) (i j : Fin 256) : V m c main_v8 (ix2 i j) = tri i j := by
  unfold_abbrev_sides
  simp only [hostOps0]
  after_results
  pointwise
  have h1 := i.isLt
  have h2 := j.isLt
  rw [WordCmp.cmpi_sgt_ofNat (by omega) (by omega), tri]
  by_cases h : j.val < i.val
  · rw [if_pos h, decide_eq_true h]
    show ((1 : ℕ) : EReal) = 1
    simp
  · rw [if_neg h, decide_eq_false h]
    show ((0 : ℕ) : EReal) = 0
    simp

/-- Which block of its array each window holds at point t, and the point's chunk. -/
theorem idx : ∀ t : Fin cfg0.N, win0_0.index t = ![t.val / 16, t.val % 16, 0] ∧ win0_1.index t = ![t.val / 16, 0, 1] ∧ win0_2.index t = ![t.val / 16, 0, 2]
    ∧ win0_3.index t = ![0, 0] ∧ win0_4.index t = ![t.val / 16, t.val % 16, 0] ∧ (grid0.coords t 1).val = t.val % 16 :=
  (by decide +kernel : ∀ t : Fin grid0.N, _)

/-- The queries of the point's block. -/
theorem queries (c : Dev nD) (t : Fin cfg0.N) (hX : Finite (arr m c)) (r e : Fin 256) : iblk m c 0 t (ix3 0 r e) = ((qk (arr m c) (t.val / 16) (256 * (grid0.coords t 1).val + r.val) e.val : ℝ) : EReal) := by
  have htN : t.val < 128 := lt_of_lt_of_eq t.isLt N_0
  have hemb : (win0_0.blk t).view.emb (ix3 0 r e) = ix3 (⟨t.val / 16, by omega⟩ : Fin 8) (⟨256 * (t.val % 16) + r.val, by omega⟩ : Fin 4096) (⟨e.val, by omega⟩ : Fin 768) := by
    blk_ext [idx t]
    all_goals omega
  rw [(idx t).2.2.2.2.2]
  show V m c main_v0 ((win0_0.blk t).view.emb (ix3 0 r e)) = _
  rw [hemb, V_v0]
  refine (eq_el (arr m c) _ (t.val / 16) (256 * (t.val % 16) + r.val) (e.val) rfl rfl rfl).trans ?_
  exact hX _ _ _ (by omega)

/-- The keys of the point's block. -/
theorem keys (c : Dev nD) (t : Fin cfg0.N) (hX : Finite (arr m c)) (j : Fin 4096) (e : Fin 256) : iblk m c 1 t (ix3 0 j e) = ((qk (arr m c) (t.val / 16) j.val (256 + e.val) : ℝ) : EReal) := by
  have htN : t.val < 128 := lt_of_lt_of_eq t.isLt N_0
  have hemb : (win0_1.blk t).view.emb (ix3 0 j e) = ix3 (⟨t.val / 16, by omega⟩ : Fin 8) j (⟨256 + e.val, by omega⟩ : Fin 768) := by
    blk_ext [idx t]
    all_goals omega
  show V m c main_v0 ((win0_1.blk t).view.emb (ix3 0 j e)) = _
  rw [hemb, V_v0]
  refine (eq_el (arr m c) _ (t.val / 16) j.val (256 + e.val) rfl rfl rfl).trans ?_
  exact hX _ _ _ (by omega)

/-- The values of the point's block. -/
theorem values (c : Dev nD) (t : Fin cfg0.N) (j : Fin 4096) (e : Fin 256) : iblk m c 2 t (ix3 0 j e) = el (arr m c) (t.val / 16) j.val (512 + e.val) := by
  have htN : t.val < 128 := lt_of_lt_of_eq t.isLt N_0
  have hemb : (win0_2.blk t).view.emb (ix3 0 j e) = ix3 (⟨t.val / 16, by omega⟩ : Fin 8) j (⟨512 + e.val, by omega⟩ : Fin 768) := by
    blk_ext [idx t]
    all_goals omega
  show V m c main_v0 ((win0_2.blk t).view.emb (ix3 0 j e)) = _
  rw [hemb, V_v0]
  refine (eq_el (arr m c) _ (t.val / 16) j.val (512 + e.val) rfl rfl rfl).trans ?_
  rfl

/-- The triangle of the point's block. -/
theorem triangle (c : Dev nD) (t : Fin cfg0.N) (i j : Fin 256) : iblk m c 3 t (ix2 i j) = tri i j := by
  have hemb : (win0_3.blk t).view.emb (ix2 i j) = ix2 i j := by
    blk_ext [idx t]
  show V m c main_v8 ((win0_3.blk t).view.emb (ix2 i j)) = _
  rw [hemb, V_v8]

/-- The key and value scratch after every point hold the point's sequence. -/
theorem scratch (c : Dev nD) (hX : Finite (arr m c)) : ∀ (n : ℕ) (hn : n < cfg0.N),
    (∀ (h : Fin 4) (j : Fin 4096) (d : Fin 64), (outsAt0 m c n hn).2.1 (ix3 h j d) = ((qk (arr m c) (n / 16) j.val (256 + (64 * h.val + d.val)) : ℝ) : EReal))
    ∧ (∀ (h : Fin 4) (j : Fin 4096) (d : Fin 64), (outsAt0 m c n hn).2.2 (ix3 h j d) = el (arr m c) (n / 16) j.val (512 + (64 * h.val + d.val))) := by
  intro n
  induction n with
  | zero =>
    intro hn
    rw [outsAt0_A m c ⟨0, hn⟩ (by rfl)]
    refine ⟨fun h j d => ?_, fun h j d => ?_⟩
    · dsimp only
      unfold sout0_A_1 kernelRun0_A
      exact k_fill (arr m c) _ VS0_1 _ c _ _ _ (keys m c ⟨0, hn⟩ hX) h j d
    · dsimp only
      unfold sout0_A_2 kernelRun0_A
      exact v_fill (arr m c) _ VS0_2 _ c _ _ _ (values m c ⟨0, hn⟩) h j d
  | succ n ih =>
    intro hn
    by_cases h0 : (n + 1) % 16 = 0
    · rw [outsAt0_A m c ⟨n + 1, hn⟩ h0]
      refine ⟨fun h j d => ?_, fun h j d => ?_⟩
      · dsimp only
        unfold sout0_A_1 kernelRun0_A
        exact k_fill (arr m c) _ VS0_1 _ c _ _ _ (keys m c ⟨n + 1, hn⟩ hX) h j d
      · dsimp only
        unfold sout0_A_2 kernelRun0_A
        exact v_fill (arr m c) _ VS0_2 _ c _ _ _ (values m c ⟨n + 1, hn⟩) h j d
    · rw [outsAt0_B m c ⟨n + 1, hn⟩ h0, show (n + 1) / 16 = n / 16 by omega]
      exact ih _

/-- The result array after the run. -/
theorem final (c : Dev nD) (hX : Finite (arr m c)) : (dats m 0 c).arrAt 4 (cfgs 0).N
    = Cert.SbReferenceIdeal.Read.val_main_v26 (F := Ideal) (arr m c) := by
  refine (dats m 0 c).arrAt_eq_of_covers 4 _ (by decide +kernel) fun t hf y => ?_
  blk_simp
  rw [after0_4]
  idx_vars y
  have htN : t.val < 128 := lt_of_lt_of_eq t.isLt N_0
  have hemb : (win0_4.blk t).view.emb (ix3 y0 y1 y2) = ix3 (⟨t.val / 16, by omega⟩ : Fin 8) (⟨256 * (t.val % 16) + y1.val, by omega⟩ : Fin 4096) y2 := by
    blk_ext [idx t]
    all_goals omega
  rw [hemb, Cert.SbReferenceIdeal.Read.v26_at _ hX]
  have hi := (idx t).2.2.2.2.2
  obtain rfl : y0 = 0 := Subsingleton.elim _ _
  by_cases h0 : t.val % 16 = 0
  · rw [outsAt0_A m c t h0]
    dsimp only
    refine (pointA c _ _ _ _ _ _ _ _ _ _ _ _ _ _ _ _ _ _ _ _ _ _ _ _ _ _ (arr m c) (t.val / 16) (queries m c t hX) (triangle m c t) (keys m c t hX) (values m c t) y1 y2).trans ?_
    rw [hi]
    rfl
  · rw [outsAt0_B m c t h0]
    dsimp only
    have hs := scratch m c hX (t.val - 1) (Nat.lt_of_le_of_lt (Nat.sub_le _ _) t.isLt)
    rw [show (t.val - 1) / 16 = t.val / 16 by omega] at hs
    refine (pointB c _ _ _ _ _ _ _ _ _ _ _ _ _ _ _ _ _ _ _ _ _ _ _ _ _ _ _ _ (arr m c) (t.val / 16) (queries m c t hX) (triangle m c t) hs.1 hs.2 y1 y2).trans ?_
    rw [hi]
    rfl

end Cert.SbKernelIdeal.Bridge
-- ==== Proof.SbClaims.lean ====
module

public import proofs.«01_k».proof.Defs
public import proofs.«01_k».proof.Proof.Gen.SbKernel.Frame
public import proofs.«01_k».proof.Proof.Gen.SbKernelIdeal.Value
public import proofs.«01_k».proof.Proof.SbValue
public import Idealize.ShloMosaic.Lib.Quiescent
public import Idealize.ShloMosaic.Lib.ReduceAll
/-! The claims of the `Sb` pair of programs. -/

@[expose] public section

set_option maxRecDepth 16384
noncomputable section
open Idealize.ShloMosaic Idealize.ShloMosaic.TcCoe Idealize.SL.Sem
namespace Cert.SbClaims

/-- The shape relations the precondition's operations take. -/
theorem pre_facts : Cert.Pre_q_and_k_finite.Facts :=
  ⟨by decide, by decide, by decide, by decide⟩

/-- The printed kernel runs, leaves its arguments and ends with every counter at zero. -/
theorem frame_p : Cert.quiescent_SbKernel := fun m ρ _ => Cert.SbKernel.Gen.frame m ρ

/-- The idealized kernel runs, leaves its arguments and ends with every counter at zero. -/
theorem frame_pi : Cert.quiescent_SbKernelIdeal := fun m ρ _ => Cert.SbKernelIdeal.Gen.frame m ρ

/-- The same of the idealized kernel, from arrays that satisfy the precondition. -/
theorem frame_pi_pre : Cert.quiescent_SbKernelIdeal_pre_q_and_k_finite (hPre_q_and_k_finite := pre_facts) :=
  fun m ρ _ => Cert.SbKernelIdeal.Gen.frame m ρ

/-- The reference runs, leaves its arguments and ends with every counter at zero. -/
theorem frame_ri : Cert.quiescent_SbReferenceIdeal := fun m ρ _ =>
  (θ_run Cert.SbReferenceIdeal.defs _ _).mono (fun r h => ⟨fun c => (h c).2,
      Idealize.ShloMosaic.sem_eq_zero_of_no_sems (by decide) r.2⟩)
    (Cert.SbReferenceIdeal.Value.run (F := Ideal) m ρ)

/-- The same of the reference, from arrays that satisfy the precondition. -/
theorem frame_ri_pre : Cert.quiescent_SbReferenceIdeal_pre_q_and_k_finite (hPre_q_and_k_finite := pre_facts) :=
  fun m ρ _ => frame_ri m ρ trivial

/-- The two named constants stand for the literals the idealization replaced. -/
theorem preserves : Cert.preserves_SbKernel_SbKernelIdeal :=
  ⟨IdealRules.named_const.statement Cert.SbKernelIdeal.κ "scale_log2e" .f32 0x3E38AA3B#32 (((8 * (Real.log 2))⁻¹ : ℝ) : EReal) rfl,
    IdealRules.named_const.statement Cert.SbKernelIdeal.κ "inv_ln2" .f32 0x3FB8AA3B#32 (((Real.log 2)⁻¹ : ℝ) : EReal) rfl⟩

/-- The bits of plus infinity read as the top of the extended reals. -/
theorem infinity_bits : Ideal.ofBits .f32 0x7F800000#32 = (⊤ : EReal) := by
  have h1 : (2139095040 : ℕ) >>> 23 % 256 = 255 := by decide
  have h2 : ¬BitVec.extractLsb' 31 1 2139095040#32 = 1#1 := by decide
  norm_num [Ideal.ofBits, Ideal.ieee, h1, h2]

/-- An extended real whose magnitude lies under the top is a real number. -/
theorem real_of_abs_lt (x : EReal) (h : max x (-x) < ⊤) : x = ((x.toReal : ℝ) : EReal) := by
  induction x using EReal.rec with
  | bot => simp at h
  | coe r => simp
  | top => simp at h

/-- Where the precondition holds of an array, its queries and keys are real numbers. -/
theorem finite_of_pre (X : Layer.Sb.Arr) (h : @Cert.Pre_q_and_k_finite.fn pre_facts Ideal _ X = fun _ => 1#1) : Layer.Sb.Finite X := by
  intro b t c hc
  unfold Layer.Sb.qk Layer.Sb.el
  split
  · rename_i hr
    haveI : Subsingleton (Shape.Idx Cert.Pre_q_and_k_finite.S_) := ⟨fun a b => funext fun i => Fin.elim0 i⟩
    have e := Host.reduce_andi_all _ _ _ _ _ (congrFun h (fun i => Fin.elim0 i)) (ix3 ⟨b, hr.1⟩ ⟨t, hr.2.1⟩ ⟨c, hc⟩)
    refine real_of_abs_lt _ ?_
    have e' : Ideal.cmp .olt (max (X (ix3 ⟨b, hr.1⟩ ⟨t, hr.2.1⟩ ⟨c, hr.2.2⟩)) (-(X (ix3 ⟨b, hr.1⟩ ⟨t, hr.2.1⟩ ⟨c, hr.2.2⟩)))) (Ideal.ofBits .f32 0x7F800000#32) = 1#1 := by
      refine Eq.trans ?_ e
      show _ = Ideal.cmp .olt (max (X _) (-(X _))) (Ideal.ofBits .f32 0x7F800000#32)
      have hi : ∀ i i' : Shape.Idx ⟨3, ![8, 4096, 768]⟩, (∀ k, (i k).val = (i' k).val) → i = i' := fun i i' hk => funext fun k => Fin.ext (hk k)
      refine congrArg (fun i => Ideal.cmp .olt (max (X i) (-(X i))) (Ideal.ofBits .f32 0x7F800000#32)) (hi _ _ fun k => ?_)
      match k with
      | 0 => exact (Nat.zero_add _).symm
      | 1 => exact (Nat.zero_add _).symm
      | 2 => exact (Nat.zero_add _).symm
    rw [infinity_bits] at e'
    by_contra hn
    simp [Ideal.cmp, hn] at e'
  · simp

/-- From agreeing arguments the kernel's result array ends holding what the reference's does. -/
theorem algebraic : Cert.algebraic_SbKernelIdeal_SbReferenceIdeal_pre_q_and_k_finite (hPre_q_and_k_finite := pre_facts) := by
  intro m ρ m' ρ' hpre hag
  refine ⟨_, Cert.SbKernelIdeal.Value.run_blocks (F := Ideal) m ρ, ?_⟩
  refine (θ_run Cert.SbReferenceIdeal.defs _ _).mono (fun _ h c => ⟨(h c).1.trans ?_, (h c).2⟩)
    (Cert.SbReferenceIdeal.Value.run (F := Ideal) m' ρ')
  have h0 := hag c
  refine Eq.trans ?_ (Cert.SbKernelIdeal.Bridge.final m c (finite_of_pre _ (hpre c))).symm
  refine (Cert.SbReferenceIdeal.Read.val_main_v26_eq (F := Ideal) _ c).trans ?_
  rw [h0]
  rfl

end Cert.SbClaims
-- ==== Proof.InprojPure.lean ====
module

public import proofs.«01_k».proof.Proof.Gen.InprojKernelIdeal.Frame
public import proofs.«01_k».proof.Proof.Gen.InprojReferenceIdeal.Read
public import proofs.«01_k».proof.Proof.Scalars
public import Idealize.ShloMosaic.Lib.Pointwise
/-! The input projection's arithmetic at one element, over the extended reals: what each payload of the kernel's body
and each stage of the reference holds at an index, as finite sums of its operands' elements. -/

@[expose] public section

set_option maxRecDepth 16384
noncomputable section
open Idealize.ShloMosaic Idealize.ShloMosaic.TcCoe Idealize.SL.Sem
namespace Cert.InprojKernelIdeal.Pure
open Cert.InprojKernelIdeal Cert.InprojKernelIdeal.Gen Cert.Layer

/-- The point's rows, normalised. -/
theorem pay5_at (x : FVec Ideal S512x1024 .f32) (g : FVec Ideal S1x1024 .f32) (r : Fin 512) (k : Fin 1024) :
    k0_pay5 (F := Ideal) x g (ix2 r k) = normed (∑ l : Fin 1024, x (ix2 r l) * x (ix2 r l)) (x (ix2 r k)) (g (ix2 0 k)) := by
  pointwise [k0_pay5]
  rfl

/-- The first group of columns. -/
theorem pay6_at (x : FVec Ideal S512x1024 .f32) (g : FVec Ideal S1x1024 .f32) (w : FVec Ideal S1024x256 .bf16) (r : Fin 512) (j : Fin 256) :
    k0_pay6 (F := Ideal) x g w (ix2 r j) = ∑ k : Fin 1024, k0_pay5 (F := Ideal) x g (ix2 r k) * w (ix2 k j) := by
  pointwise [k0_pay6]

/-- The second group of columns. -/
theorem pay7_at (x : FVec Ideal S512x1024 .f32) (g : FVec Ideal S1x1024 .f32) (w : FVec Ideal S1024x384 .bf16) (r : Fin 512) (j : Fin 384) :
    k0_pay7 (F := Ideal) x g w (ix2 r j) = ∑ k : Fin 1024, k0_pay5 (F := Ideal) x g (ix2 r k) * w (ix2 k j) := by
  pointwise [k0_pay7]

/-- The third group of columns. -/
theorem pay8_at (x : FVec Ideal S512x1024 .f32) (g : FVec Ideal S1x1024 .f32) (w : FVec Ideal S1024x256 .bf16) (r : Fin 512) (j : Fin 256) :
    k0_pay8 (F := Ideal) x g w (ix2 r j) = ∑ k : Fin 1024, k0_pay5 (F := Ideal) x g (ix2 r k) * w (ix2 k j) := by
  pointwise [k0_pay8]

/-- The fourth group of columns, into an accumulator of zeros. -/
theorem pay1_at (h : FVec Ideal S512x1024 .bf16) (w : FVec Ideal S1024x768 .bf16) (r : Fin 512) (j : Fin 768) :
    k0_pay1 (F := Ideal) h (k0_pay9 (F := Ideal) w) (constant S512x768 .f32 0x00000000#32) (ix2 r j)
      = ∑ k : Fin 1024, h (ix2 r k) * w (ix2 k j) := by
  pointwise [k0_pay1, k0_pay9]

/-- The fifth group of columns. -/
theorem pay2_at (h : FVec Ideal S512x1024 .bf16) (w : FVec Ideal S1024x256 .bf16) (r : Fin 512) (j : Fin 256) :
    k0_pay2 (F := Ideal) h w (ix2 r j) = ∑ k : Fin 1024, h (ix2 r k) * w (ix2 k j) := by
  pointwise [k0_pay2]

/-- The sixth group of columns. -/
theorem pay3_at (h : FVec Ideal S512x1024 .bf16) (w : FVec Ideal S1024x768 .bf16) (r : Fin 512) (j : Fin 768) :
    k0_pay3 (F := Ideal) h w (ix2 r j) = ∑ k : Fin 1024, h (ix2 r k) * w (ix2 k j) := by
  pointwise [k0_pay3]

/-- The seventh group of columns. -/
theorem pay4_at (h : FVec Ideal S512x1024 .bf16) (w : FVec Ideal S1024x128 .bf16) (r : Fin 512) (j : Fin 128) :
    k0_pay4 (F := Ideal) h w (ix2 r j) = ∑ k : Fin 1024, h (ix2 r k) * w (ix2 k j) := by
  pointwise [k0_pay4]

open Cert.InprojReferenceIdeal.Read in
/-- The reference's projection at an index. -/
theorem ref14_at (X : FVec Ideal Cert.InprojReferenceIdeal.S8x4096x1024 .f32) (g : FVec Ideal Cert.InprojReferenceIdeal.S1024 .f32)
    (w : FVec Ideal Cert.InprojReferenceIdeal.S1024x6804 .f32) (r : Fin 32768) (j : Fin 6804) :
    val_main_v14 (F := Ideal) X g w (ix2 r j)
      = ∑ k : Fin 1024, normed (∑ l : Fin 1024, X (ix3 ⟨r.val / 4096, by omega⟩ ⟨r.val % 4096, by omega⟩ l) * X (ix3 ⟨r.val / 4096, by omega⟩ ⟨r.val % 4096, by omega⟩ l)) (X (ix3 ⟨r.val / 4096, by omega⟩ ⟨r.val % 4096, by omega⟩ k)) (g (ix1 k))
          * w (ix2 k j) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
end Cert.InprojKernelIdeal.Pure
-- ==== Proof.InprojEntry.lean ====
module

public import proofs.«01_k».proof.Proof.Gen.InprojKernelIdeal.Frame
public import proofs.«01_k».proof.Proof.InprojPure
public import Idealize.ShloMosaic.Lib.Pipeline.ValueKit
public import Idealize.ShloMosaic.Lib.Pipeline.ReadBack
/-! The arrays the input projection's call is entered with, from the program's arguments. -/

@[expose] public section

set_option maxRecDepth 16384
noncomputable section
open Idealize.ShloMosaic Idealize.ShloMosaic.TcCoe Idealize.SL.Sem
namespace Cert.InprojKernelIdeal.Bridge
open Cert.InprojKernelIdeal Cert.InprojKernelIdeal.Gen Cert.InprojKernelIdeal.Pure
variable (m : (ℓ : Loc nD τ sig) → Buf (Elt Ideal) ℓ)

/-- The last group of the arranged weights: the gate, decay and strength columns side by side, then zeros. -/
def small (w : FVec Ideal S1024x6804 .f32) : FVec Ideal S1024x128 .f32 :=
  pad S1024x128 ![0, 0] ![0, 108] ![0, 0]
    (concatenate S1024x20 1 [⟨S1024x12, extractStridedSlice S1024x12 ![0, 640] w slices_S1024x6804_S1024x12_0_640⟩,
      ⟨S1024x4, extractStridedSlice S1024x4 ![0, 1676] w slices_S1024x6804_S1024x4_0_1676⟩,
      ⟨S1024x4, extractStridedSlice S1024x4 ![0, 1680] w slices_S1024x6804_S1024x4_0_1680⟩]
      concatenates_S1024x12_S1024x4_S1024x4_S1024x20_d1)
    (sitofp (F := Ideal) .f32 (constantI S_ 32 0#32)) pads_S1024x20_S1024x128_000_01080 h_S_

/-- The arranged weights: the seven groups of columns side by side. -/
def arranged (w : FVec Ideal S1024x6804 .f32) : FVec Ideal S1024x2816 .bf16 :=
  truncf .bf16 (concatenate S1024x2816 1 [⟨S1024x256, extractStridedSlice S1024x256 ![0, 0] w slices_S1024x6804_S1024x256_0_0⟩,
    ⟨S1024x384, extractStridedSlice S1024x384 ![0, 256] w slices_S1024x6804_S1024x384_0_256⟩,
    ⟨S1024x256, extractStridedSlice S1024x256 ![0, 652] w slices_S1024x6804_S1024x256_0_652⟩,
    ⟨S1024x768, extractStridedSlice S1024x768 ![0, 908] w slices_S1024x6804_S1024x768_0_908⟩,
    ⟨S1024x256, extractStridedSlice S1024x256 ![0, 1684] w slices_S1024x6804_S1024x256_0_1684⟩,
    ⟨S1024x768, extractStridedSlice S1024x768 ![0, 1940] w slices_S1024x6804_S1024x768_0_1940⟩,
    ⟨S1024x128, small w⟩]
    concatenates_S1024x256_S1024x384_S1024x256_S1024x768_S1024x256_S1024x768_S1024x128_S1024x2816_d1) bitsLt_bf16_f32

/-- The rows the call is entered with are the argument's, one batch after another. -/
theorem V_v0 (c : Dev nD) (r : Fin 32768) (k : Fin 1024) : V m c main_v0 (ix2 r k) = m ((c : Thread nD τ).loc main_arg0) (ix3 ⟨r.val / 4096, by omega⟩ ⟨r.val % 4096, by omega⟩ k) := by
  unfold_abbrev_sides
  simp only [hostOps0, hostOps0_1, hostOps0_2, List.flatten_cons, List.flatten_nil, List.append_nil, List.cons_append,
      List.nil_append]
  after_results
  pointwise

/-- The gain the call is entered with is the argument's. -/
theorem V_v1 (c : Dev nD) (k : Fin 1024) : V m c main_v1 (ix2 0 k) = m ((c : Thread nD τ).loc main_arg1) (ix1 k) := by
  unfold_abbrev_sides
  simp only [hostOps0, hostOps0_1, hostOps0_2, List.flatten_cons, List.flatten_nil, List.append_nil, List.cons_append,
      List.nil_append]
  after_results
  pointwise

/-- The weights the call is entered with are the argument's, arranged. -/
theorem V_v14 (c : Dev nD) : V m c main_v14 = arranged (m ((c : Thread nD τ).loc main_arg2)) := by
  unfold_abbrev_sides
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- Group 1 of the arranged weights: columns `0 …` of the argument. -/
theorem arranged_0 (w : FVec Ideal S1024x6804 .f32) (k : Fin 1024) (p : Fin 2816) (q : Fin 6804) (h0 : 0 ≤ p.val) (h1 : p.val < 0 + 256) (hq : q.val = 0 + (p.val - 0)) :
    arranged w (ix2 k p) = w (ix2 k q) := by
  pointwise [arranged]
  all_goals (repeat rw [dif_neg (by omega)])
  all_goals rw [dif_pos (by omega)]
  all_goals (congr 2; apply Fin.ext; simp only; omega)

/-- Group 2 of the arranged weights: columns `256 …` of the argument. -/
theorem arranged_1 (w : FVec Ideal S1024x6804 .f32) (k : Fin 1024) (p : Fin 2816) (q : Fin 6804) (h0 : 256 ≤ p.val) (h1 : p.val < 256 + 384) (hq : q.val = 256 + (p.val - 256)) :
    arranged w (ix2 k p) = w (ix2 k q) := by
  pointwise [arranged]
  all_goals (repeat rw [dif_neg (by omega)])
  all_goals rw [dif_pos (by omega)]
  all_goals (congr 2; apply Fin.ext; simp only; omega)

/-- Group 3 of the arranged weights: columns `652 …` of the argument. -/
theorem arranged_2 (w : FVec Ideal S1024x6804 .f32) (k : Fin 1024) (p : Fin 2816) (q : Fin 6804) (h0 : 640 ≤ p.val) (h1 : p.val < 640 + 256) (hq : q.val = 652 + (p.val - 640)) :
    arranged w (ix2 k p) = w (ix2 k q) := by
  pointwise [arranged]
  all_goals (repeat rw [dif_neg (by omega)])
  all_goals rw [dif_pos (by omega)]
  all_goals (congr 2; apply Fin.ext; simp only; omega)

/-- Group 4 of the arranged weights: columns `908 …` of the argument. -/
theorem arranged_3 (w : FVec Ideal S1024x6804 .f32) (k : Fin 1024) (p : Fin 2816) (q : Fin 6804) (h0 : 896 ≤ p.val) (h1 : p.val < 896 + 768) (hq : q.val = 908 + (p.val - 896)) :
    arranged w (ix2 k p) = w (ix2 k q) := by
  pointwise [arranged]
  all_goals (repeat rw [dif_neg (by omega)])
  all_goals rw [dif_pos (by omega)]
  all_goals (congr 2; apply Fin.ext; simp only; omega)

/-- Group 5 of the arranged weights: columns `1684 …` of the argument. -/
theorem arranged_4 (w : FVec Ideal S1024x6804 .f32) (k : Fin 1024) (p : Fin 2816) (q : Fin 6804) (h0 : 1664 ≤ p.val) (h1 : p.val < 1664 + 256) (hq : q.val = 1684 + (p.val - 1664)) :
    arranged w (ix2 k p) = w (ix2 k q) := by
  pointwise [arranged]
  all_goals (repeat rw [dif_neg (by omega)])
  all_goals rw [dif_pos (by omega)]
  all_goals (congr 2; apply Fin.ext; simp only; omega)

/-- Group 6 of the arranged weights: columns `1940 …` of the argument. -/
theorem arranged_5 (w : FVec Ideal S1024x6804 .f32) (k : Fin 1024) (p : Fin 2816) (q : Fin 6804) (h0 : 1920 ≤ p.val) (h1 : p.val < 1920 + 768) (hq : q.val = 1940 + (p.val - 1920)) :
    arranged w (ix2 k p) = w (ix2 k q) := by
  pointwise [arranged]
  all_goals (repeat rw [dif_neg (by omega)])
  all_goals rw [dif_pos (by omega)]
  all_goals (congr 2; apply Fin.ext; simp only; omega)

/-- Group 7 of the arranged weights. -/
theorem arranged_6 (w : FVec Ideal S1024x6804 .f32) (k : Fin 1024) (p : Fin 2816) (j : Fin 128) (hp : p.val = 2688 + j.val) :
    arranged w (ix2 k p) = small w (ix2 k j) := by
  pointwise [arranged]
  repeat rw [dif_neg (by omega)]
  congr 2; apply Fin.ext; simp only; omega

/-- The last group's columns: gates, decays, strengths, then zeros. -/
theorem small_at (w : FVec Ideal S1024x6804 .f32) (k : Fin 1024) (j : Fin 128) :
    small w (ix2 k j) = if h : j.val < 20 then if h' : j.val < 12 then w (ix2 k ⟨640 + j.val, by omega⟩)
      else if h'' : j.val - 12 < 4 then w (ix2 k ⟨1676 + (j.val - 12), by omega⟩) else w (ix2 k ⟨1680 + (j.val - 12 - 4), by omega⟩)
      else 0 := by
  pointwise [small]
  simp only [show (FloatOps.sitofp (F := Ideal) FTy.f32 (0#32)) = (0 : EReal) by simp [FloatOps.sitofp]]
end Cert.InprojKernelIdeal.Bridge
-- ==== Proof.InprojValue.lean ====
module

public import proofs.«01_k».proof.Proof.Gen.InprojKernelIdeal.Frame
public import proofs.«01_k».proof.Proof.InprojEntry
public import Idealize.ShloMosaic.Lib.Pipeline.ValueKit
public import Idealize.ShloMosaic.Lib.Pipeline.ReadBack
/-! The input projection's result arrays after the run, block by block, are the reference's. -/

@[expose] public section

set_option maxRecDepth 16384
noncomputable section
open Idealize.ShloMosaic Idealize.ShloMosaic.TcCoe Idealize.SL.Sem
open Idealize.ShloMosaic.Pipeline (Dat)
namespace Cert.InprojKernelIdeal.Bridge
open Cert.InprojKernelIdeal Cert.InprojKernelIdeal.Gen Cert.InprojKernelIdeal.Pure
variable (m : (ℓ : Loc nD τ sig) → Buf (Elt Ideal) ℓ)

/-- Which block of its array each window holds at point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val % 8, t.val / 8] ∧ win0_6.index t = ![t.val, 0]
    ∧ win0_7.index t = ![t.val, 0] ∧ win0_8.index t = ![t.val, 0] ∧ win0_9.index t = ![t.val, 0] :=
  (by decide +kernel : ∀ t : Fin grid0.N, _)

/-- Row `y` of point `t`'s block is row `512 t + y` of the input, counted through the batches. -/
theorem row (c : Dev nD) (t : Fin cfg0.N) (y : Fin 512) (k : Fin 1024) (b : Fin 8) (s : Fin 4096)
    (h : b.val * 4096 + s.val = t.val * 512 + y.val) :
    iblk m c 0 t (ix2 y k) = m ((c : Thread nD τ).loc main_arg0) (ix3 b s k) := by
  have htN : t.val < 64 := lt_of_lt_of_eq t.isLt N_0
  have hemb : (win0_0.blk t).view.emb (ix2 y k) = ix2 (⟨t.val * 512 + y.val, by omega⟩ : Fin 32768) k := by
    blk_ext [idx t]
  show V m c main_v0 ((win0_0.blk t).view.emb (ix2 y k)) = _
  rw [hemb, V_v0]
  congr 2 <;> apply Fin.ext <;> simp only <;> omega

/-- The gain's block is the whole gain. -/
theorem gain (c : Dev nD) (t : Fin cfg0.N) (k : Fin 1024) :
    iblk m c 1 t (ix2 0 k) = m ((c : Thread nD τ).loc main_arg1) (ix1 k) := by
  have hemb : (win0_1.blk t).view.emb (ix2 0 k) = ix2 (0 : Fin 1) k := by
    blk_ext [idx t]
  show V m c main_v1 ((win0_1.blk t).view.emb (ix2 0 k)) = _
  rw [hemb, V_v1]

/-- The weights result array 1 is projected with, in the arranged array. -/
theorem weights3 (c : Dev nD) (t : Fin cfg0.N) (k : Fin 1024) (j : Fin 256) :
    View.ld (iblk m c 2 t) r0_2 (ix2 k j) = arranged (m ((c : Thread nD τ).loc main_arg2)) (ix2 k ⟨0 + j.val, by omega⟩) := by
  have hemb : (win0_2.blk t).view.emb (r0_2.idx (ix2 k j)) = ix2 k (⟨0 + j.val, by omega⟩ : Fin 2816) := by
    blk_ext [idx t]
    all_goals simp [r0_2, LoadRect.idx, Rect.unit]
  show V m c main_v14 ((win0_2.blk t).view.emb (r0_2.idx (ix2 k j))) = _
  rw [hemb, V_v14]

/-- The weights result array 2 is projected with, in the arranged array. -/
theorem weights4 (c : Dev nD) (t : Fin cfg0.N) (k : Fin 1024) (j : Fin 384) :
    View.ld (iblk m c 2 t) r0_4 (ix2 k j) = arranged (m ((c : Thread nD τ).loc main_arg2)) (ix2 k ⟨256 + j.val, by omega⟩) := by
  have hemb : (win0_2.blk t).view.emb (r0_4.idx (ix2 k j)) = ix2 k (⟨256 + j.val, by omega⟩ : Fin 2816) := by
    blk_ext [idx t]
    all_goals simp [r0_4, LoadRect.idx, Rect.unit]
  show V m c main_v14 ((win0_2.blk t).view.emb (r0_4.idx (ix2 k j))) = _
  rw [hemb, V_v14]

/-- The weights result array 3 is projected with, in the arranged array. -/
theorem weights5 (c : Dev nD) (t : Fin cfg0.N) (k : Fin 1024) (j : Fin 256) :
    View.ld (iblk m c 2 t) r0_6 (ix2 k j) = arranged (m ((c : Thread nD τ).loc main_arg2)) (ix2 k ⟨640 + j.val, by omega⟩) := by
  have hemb : (win0_2.blk t).view.emb (r0_6.idx (ix2 k j)) = ix2 k (⟨640 + j.val, by omega⟩ : Fin 2816) := by
    blk_ext [idx t]
    all_goals simp [r0_6, LoadRect.idx, Rect.unit]
  show V m c main_v14 ((win0_2.blk t).view.emb (r0_6.idx (ix2 k j))) = _
  rw [hemb, V_v14]

/-- The weights result array 4 is projected with, in the arranged array. -/
theorem weights6 (c : Dev nD) (t : Fin cfg0.N) (k : Fin 1024) (j : Fin 768) :
    View.ld (iblk m c 2 t) r0_7 (ix2 k j) = arranged (m ((c : Thread nD τ).loc main_arg2)) (ix2 k ⟨896 + j.val, by omega⟩) := by
  have hemb : (win0_2.blk t).view.emb (r0_7.idx (ix2 k j)) = ix2 k (⟨896 + j.val, by omega⟩ : Fin 2816) := by
    blk_ext [idx t]
    all_goals simp [r0_7, LoadRect.idx, Rect.unit]
  show V m c main_v14 ((win0_2.blk t).view.emb (r0_7.idx (ix2 k j))) = _
  rw [hemb, V_v14]

/-- The weights result array 5 is projected with, in the arranged array. -/
theorem weights7 (c : Dev nD) (t : Fin cfg0.N) (k : Fin 1024) (j : Fin 256) :
    View.ld (iblk m c 2 t) r0_9 (ix2 k j) = arranged (m ((c : Thread nD τ).loc main_arg2)) (ix2 k ⟨1664 + j.val, by omega⟩) := by
  have hemb : (win0_2.blk t).view.emb (r0_9.idx (ix2 k j)) = ix2 k (⟨1664 + j.val, by omega⟩ : Fin 2816) := by
    blk_ext [idx t]
    all_goals simp [r0_9, LoadRect.idx, Rect.unit]
  show V m c main_v14 ((win0_2.blk t).view.emb (r0_9.idx (ix2 k j))) = _
  rw [hemb, V_v14]

/-- The weights result array 6 is projected with, in the arranged array. -/
theorem weights8 (c : Dev nD) (t : Fin cfg0.N) (k : Fin 1024) (j : Fin 768) :
    View.ld (iblk m c 2 t) r0_10 (ix2 k j) = arranged (m ((c : Thread nD τ).loc main_arg2)) (ix2 k ⟨1920 + j.val, by omega⟩) := by
  have hemb : (win0_2.blk t).view.emb (r0_10.idx (ix2 k j)) = ix2 k (⟨1920 + j.val, by omega⟩ : Fin 2816) := by
    blk_ext [idx t]
    all_goals simp [r0_10, LoadRect.idx, Rect.unit]
  show V m c main_v14 ((win0_2.blk t).view.emb (r0_10.idx (ix2 k j))) = _
  rw [hemb, V_v14]

/-- The weights result array 7 is projected with, in the arranged array. -/
theorem weights9 (c : Dev nD) (t : Fin cfg0.N) (k : Fin 1024) (j : Fin 128) :
    View.ld (iblk m c 2 t) r0_11 (ix2 k j) = arranged (m ((c : Thread nD τ).loc main_arg2)) (ix2 k ⟨2688 + j.val, by omega⟩) := by
  have hemb : (win0_2.blk t).view.emb (r0_11.idx (ix2 k j)) = ix2 k (⟨2688 + j.val, by omega⟩ : Fin 2816) := by
    blk_ext [idx t]
    all_goals simp [r0_11, LoadRect.idx, Rect.unit]
  show V m c main_v14 ((win0_2.blk t).view.emb (r0_11.idx (ix2 k j))) = _
  rw [hemb, V_v14]

/-- The normalised rows, as the body's first part hands them on. -/
theorem pay10_at (c : Dev nD) (t : Fin cfg0.N) (y : Fin 512) (k : Fin 1024) :
    k0_pay10 (iblk m c 0 t) (iblk m c 1 t) (iblk m c 2 t) (ix2 y k) = k0_pay5 (F := Ideal) (iblk m c 0 t) (iblk m c 1 t) (ix2 y k) := by
  simp only [k0_pay10]
  frame_out

/-- An entry of the projection: a row of the input, normalised, times a column of weights. -/
def proj (X : FVec Ideal S8x4096x1024 .f32) (g : FVec Ideal S1024 .f32) (b : Fin 8) (s : Fin 4096) (w : Fin 1024 → EReal) : EReal :=
  ∑ k : Fin 1024, Cert.Layer.normed (∑ l : Fin 1024, X (ix3 b s l) * X (ix3 b s l)) (X (ix3 b s k)) (g (ix1 k)) * w k

/-- A row of point `t`, projected. -/
theorem proj_at (c : Dev nD) (t : Fin cfg0.N) (y : Fin 512) (w w' : Fin 1024 → EReal) (b : Fin 8) (s : Fin 4096)
    (h : b.val * 4096 + s.val = t.val * 512 + y.val) (hw : ∀ k, w k = w' k) :
    (∑ k : Fin 1024, k0_pay5 (F := Ideal) (iblk m c 0 t) (iblk m c 1 t) (ix2 y k) * w k)
      = proj (m ((c : Thread nD τ).loc main_arg0)) (m ((c : Thread nD τ).loc main_arg1)) b s w' := by
  simp only [proj, pay5_at, row m c t y _ b s h, gain, hw]

/-- Result array 1 after the run. -/
theorem final3 (c : Dev nD) : (dats m 0 c).arrAt 3 (cfgs 0).N
    = Cert.InprojReferenceIdeal.Read.val_main_v15 (F := Ideal) (m ((c : Thread nD τ).loc main_arg0))
       (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have htN : t.val < 64 := lt_of_lt_of_eq t.isLt N_0
  have hemb : (win0_3.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v15]
  simp only [pay6_at, pay10_at, ref14_at]
  refine proj_at m c t y0 _ _ _ _ ?_ fun k => ?_
  · simp only; omega
  · rw [weights3]
    exact arranged_0 _ k _ _ (by simp only; omega) (by simp only; omega) (by simp only; omega)

/-- Result array 2 after the run. -/
theorem final4 (c : Dev nD) : (dats m 0 c).arrAt 4 (cfgs 0).N
    = Cert.InprojReferenceIdeal.Read.val_main_v16 (F := Ideal) (m ((c : Thread nD τ).loc main_arg0))
       (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  have htN : t.val < 64 := lt_of_lt_of_eq t.isLt N_0
  have hemb : (win0_4.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v16]
  simp only [pay7_at, pay10_at, ref14_at]
  refine proj_at m c t y0 _ _ _ _ ?_ fun k => ?_
  · simp only; omega
  · rw [weights4]
    exact arranged_1 _ k _ _ (by simp only; omega) (by simp only; omega) (by simp only; omega)

/-- Result array 3 after the run. -/
theorem final5 (c : Dev nD) : (dats m 0 c).arrAt 5 (cfgs 0).N
    = Cert.InprojReferenceIdeal.Read.val_main_v27 (F := Ideal) (m ((c : Thread nD τ).loc main_arg0))
       (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  have htN : t.val < 64 := lt_of_lt_of_eq t.isLt N_0
  have hemb : (win0_5.blk t).view.emb (ix2 y0 y1) = ix2 (⟨t.val % 8 * 512 + y0.val, by omega⟩ : Fin 4096) (⟨t.val / 8 * 256 + y1.val, by omega⟩ : Fin 2048) := by
    blk_ext [idx t]
  blk_simp
  rw [hemb]
  frame_out
  pointwise [Cert.InprojReferenceIdeal.Read.val_main_v27, Cert.InprojReferenceIdeal.Read.val_main_v26, Cert.InprojReferenceIdeal.Read.val_main_v25, Cert.InprojReferenceIdeal.Read.val_main_v18]
  simp only [pay8_at, pay10_at, ref14_at]
  refine proj_at m c t y0 _ _ _ _ ?_ fun k => ?_
  · simp only; omega
  · rw [weights5]
    exact arranged_2 _ k _ _ (by simp only; omega) (by simp only; omega) (by simp only; omega)

/-- Result array 4 after the run. -/
theorem final6 (c : Dev nD) : (dats m 0 c).arrAt 6 (cfgs 0).N
    = Cert.InprojReferenceIdeal.Read.val_main_v19 (F := Ideal) (m ((c : Thread nD τ).loc main_arg0))
       (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  have htN : t.val < 64 := lt_of_lt_of_eq t.isLt N_0
  have hemb : (win0_6.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v19]
  simp only [pay1_at, pay10_at, ref14_at]
  refine proj_at m c t y0 _ _ _ _ ?_ fun k => ?_
  · simp only; omega
  · rw [weights6]
    exact arranged_3 _ k _ _ (by simp only; omega) (by simp only; omega) (by simp only; omega)

/-- Result array 5 after the run. -/
theorem final7 (c : Dev nD) : (dats m 0 c).arrAt 7 (cfgs 0).N
    = Cert.InprojReferenceIdeal.Read.val_main_v22 (F := Ideal) (m ((c : Thread nD τ).loc main_arg0))
       (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  have htN : t.val < 64 := lt_of_lt_of_eq t.isLt N_0
  have hemb : (win0_7.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v22]
  simp only [pay2_at, pay10_at, ref14_at]
  refine proj_at m c t y0 _ _ _ _ ?_ fun k => ?_
  · simp only; omega
  · rw [weights7]
    exact arranged_4 _ k _ _ (by simp only; omega) (by simp only; omega) (by simp only; omega)

/-- Result array 6 after the run. -/
theorem final8 (c : Dev nD) : (dats m 0 c).arrAt 8 (cfgs 0).N
    = Cert.InprojReferenceIdeal.Read.val_main_v30 (F := Ideal) (m ((c : Thread nD τ).loc main_arg0))
       (m ((c : Thread nD τ).loc main_arg1)) (m ((c : Thread nD τ).loc main_arg2)) := by
  refine (dats m 0 c).arrAt_eq_of_covers 8 _ (by decide +kernel) fun t hf y => ?_
  blk_simp
  rw [after0_8]
  frame_out
  idx_vars y
  have htN : t.val < 64 := lt_of_lt_of_eq t.isLt N_0
  have hemb : (win0_8.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v30, Cert.InprojReferenceIdeal.Read.val_main_v23]
  simp only [pay3_at, pay10_at, ref14_at]
  refine proj_at m c t y0 _ _ _ _ ?_ fun k => ?_
  · simp only; omega
  · rw [weights8]
    exact arranged_5 _ k _ _ (by simp only; omega) (by simp only; omega) (by simp only; omega)

/-- Result array 7 after the run. -/
theorem final9 (c : Dev nD) : (dats m 0 c).arrAt 9 (cfgs 0).N
    = Cert.InprojReferenceIdeal.Read.val_main_v29 (F := Ideal) (m ((c : Thread nD τ).loc main_arg0))
       (m ((c : Thread nD τ).loc main_arg1)) (m ((c : Thread nD τ).loc main_arg2)) := by
  refine (dats m 0 c).arrAt_eq_of_covers 9 _ (by decide +kernel) fun t hf y => ?_
  blk_simp
  rw [after0_9]
  frame_out
  idx_vars y
  have htN : t.val < 64 := lt_of_lt_of_eq t.isLt N_0
  have hemb : (win0_9.blk t).view.emb (ix2 y0 y1) = ix2 (⟨t.val * 512 + y0.val, by omega⟩ : Fin 32768) y1 := by
    blk_ext [idx t]
  blk_simp
  rw [hemb]
  frame_out
  pointwise [Cert.InprojReferenceIdeal.Read.val_main_v29, Cert.InprojReferenceIdeal.Read.val_main_v28, Cert.InprojReferenceIdeal.Read.val_main_v17, Cert.InprojReferenceIdeal.Read.val_main_v20, Cert.InprojReferenceIdeal.Read.val_main_v21]
  simp only [pay4_at, pay10_at, ref14_at]
  simp only [weights9]
  have hw : ∀ k : Fin 1024, arranged (m ((c : Thread nD τ).loc main_arg2)) (ix2 k (⟨2688 + y1.val, by omega⟩ : Fin 2816))
      = small (m ((c : Thread nD τ).loc main_arg2)) (ix2 k y1) := fun k => arranged_6 _ k _ y1 rfl
  simp only [hw, small_at]
  by_cases h20 : y1.val < 20
  · rw [dif_pos (show t.val * 512 + y0.val < 32768 ∧ y1.val < 20 from ⟨by omega, h20⟩)]
    simp only [h20, dif_pos]
    by_cases h12 : y1.val < 12
    · simp only [h12, dif_pos]
      exact proj_at m c t y0 _ _ ⟨(t.val * 512 + y0.val) / 4096, by omega⟩ ⟨(t.val * 512 + y0.val) % 4096, by omega⟩ (by simp only; omega) fun k => rfl
    · simp only [h12, dif_neg, not_false_eq_true]
      by_cases h16 : y1.val - 12 < 4
      · simp only [h16, dif_pos]
        exact proj_at m c t y0 _ _ ⟨(t.val * 512 + y0.val) / 4096, by omega⟩ ⟨(t.val * 512 + y0.val) % 4096, by omega⟩ (by simp only; omega) fun k => rfl
      · simp only [h16, dif_neg, not_false_eq_true]
        exact proj_at m c t y0 _ _ ⟨(t.val * 512 + y0.val) / 4096, by omega⟩ ⟨(t.val * 512 + y0.val) % 4096, by omega⟩ (by simp only; omega) fun k => rfl
  · rw [dif_neg (fun h => h20 h.2)]
    simp only [h20, dif_neg, not_false_eq_true, mul_zero, Finset.sum_const_zero]
    pointwise [Cert.InprojReferenceIdeal.Read.val_main_call0_v0, Cert.InprojReferenceIdeal.Read.val_main_c]
    simp [FloatOps.sitofp]

end Cert.InprojKernelIdeal.Bridge
-- ==== Proof.InprojClaims.lean ====
module

public import proofs.«01_k».proof.Defs
public import proofs.«01_k».proof.Proof.Gen.InprojKernel.Frame
public import proofs.«01_k».proof.Proof.Gen.InprojKernelIdeal.Value
public import proofs.«01_k».proof.Proof.InprojValue
public import Idealize.ShloMosaic.Lib.Quiescent
/-! The five claims of the `Inproj` pair of programs. -/

@[expose] public section

set_option maxRecDepth 16384
noncomputable section
open Idealize.ShloMosaic Idealize.ShloMosaic.TcCoe Idealize.SL.Sem
namespace Cert.InprojClaims

/-- The printed kernel runs, leaves its arguments and ends with every counter at zero. -/
theorem frame_p : Cert.quiescent_InprojKernel := fun m ρ _ => Cert.InprojKernel.Gen.frame m ρ

/-- The idealized kernel runs, leaves its arguments and ends with every counter at zero. -/
theorem frame_pi : Cert.quiescent_InprojKernelIdeal := fun m ρ _ => Cert.InprojKernelIdeal.Gen.frame m ρ

/-- The reference runs, leaves its arguments and ends with every counter at zero. -/
theorem frame_ri : Cert.quiescent_InprojReferenceIdeal := fun m ρ _ =>
  (θ_run Cert.InprojReferenceIdeal.defs _ _).mono (fun r h => ⟨fun c => (h c).2.2.2.2.2.2.2,
      Idealize.ShloMosaic.sem_eq_zero_of_no_sems (by decide) r.2⟩)
    (Cert.InprojReferenceIdeal.Value.run (F := Ideal) m ρ)

/-- From agreeing arguments the kernel's result arrays end holding what the reference's do. -/
theorem algebraic : Cert.algebraic_InprojKernelIdeal_InprojReferenceIdeal := by
  intro m ρ m' ρ' _ hag
  refine ⟨_, _, _, _, _, _, _, Cert.InprojKernelIdeal.Value.run_blocks (F := Ideal) m ρ, ?_⟩
  refine (θ_run Cert.InprojReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.InprojReferenceIdeal.Value.run (F := Ideal) m' ρ')
  all_goals obtain ⟨h0, h1, h2⟩ := hag c
  · refine Eq.trans ?_ (Cert.InprojKernelIdeal.Bridge.final3 m c).symm
    refine (Cert.InprojReferenceIdeal.Read.val_main_v15_eq (F := Ideal) _ _ _).trans ?_
    rw [h0, h1, h2]
  · refine Eq.trans ?_ (Cert.InprojKernelIdeal.Bridge.final4 m c).symm
    refine (Cert.InprojReferenceIdeal.Read.val_main_v16_eq (F := Ideal) _ _ _).trans ?_
    rw [h0, h1, h2]
  · refine Eq.trans ?_ (Cert.InprojKernelIdeal.Bridge.final5 m c).symm
    refine (Cert.InprojReferenceIdeal.Read.val_main_v27_eq (F := Ideal) _ _ _).trans ?_
    rw [h0, h1, h2]
  · refine Eq.trans ?_ (Cert.InprojKernelIdeal.Bridge.final6 m c).symm
    refine (Cert.InprojReferenceIdeal.Read.val_main_v19_eq (F := Ideal) _ _ _).trans ?_
    rw [h0, h1, h2]
  · refine Eq.trans ?_ (Cert.InprojKernelIdeal.Bridge.final7 m c).symm
    refine (Cert.InprojReferenceIdeal.Read.val_main_v22_eq (F := Ideal) _ _ _).trans ?_
    rw [h0, h1, h2]
  · refine Eq.trans ?_ (Cert.InprojKernelIdeal.Bridge.final8 m c).symm
    refine (Cert.InprojReferenceIdeal.Read.val_main_v30_eq (F := Ideal) _ _ _).trans ?_
    rw [h0, h1, h2]
  · refine Eq.trans ?_ (Cert.InprojKernelIdeal.Bridge.final9 m c).symm
    refine (Cert.InprojReferenceIdeal.Read.val_main_v29_eq (F := Ideal) _ _ _).trans ?_
    rw [h0, h1, h2]

end Cert.InprojClaims
-- ==== Proof.NsaScalar.lean ====
module

public import Idealize.ShloMosaic.Lib.Pointwise
public import Idealize.ShloMosaic.Lib.IdealHost
public import Idealize.ShloMosaic.Lib.SortFacts
public import Idealize.ShloMosaic.Lib.SortPrefix
public import Mathlib.Analysis.SpecialFunctions.Pow.Real

@[expose] public section

/-! The arithmetic of masked softmax attention on one row, over the extended reals: a masked score is −∞, the weights
are exponentials of scores less their maximum, and the average divides by the sum of the weights kept above a small
positive number. Also the ranks that pick the selected blocks. -/

noncomputable section

namespace Cert.Layer.Nsa

open Idealize.ShloMosaic

/-- The small positive number a sum of weights is kept above. -/
def eps : EReal := Ideal.ofBits .f32 0x0DA24260#32

/-- The floor of the denominators is a positive real. -/
theorem eps_real : ∃ e : ℝ, 0 < e ∧ eps = (e : EReal) := by
  have h1 : (BitVec.extractLsb' 23 8 (0x0DA24260#32)).toNat = 27 := by decide
  have h2 : (BitVec.extractLsb' 0 23 (0x0DA24260#32)).toNat = 2245216 := by decide
  have h3 : (0x0DA24260#32 : BitVec 32).msb = false := by decide
  have h4 : ¬BitVec.extractLsb' 31 1 228737632#32 = 1#1 := by decide
  refine ⟨_, ?_, by norm_num [eps, Ideal.ofBits, Ideal.ieee, h1, h2, h3, h4]; rfl⟩
  norm_num

/-- The exponential of minus infinity is zero. -/
theorem exp_bot : Ideal.exp ⊥ = 0 := rfl

/-- An exponential of a number less a bound of it is a real between zero and one. -/
theorem exp_sub_real {s M : EReal} (h : s ≤ M) : ∃ a : ℝ, 0 ≤ a ∧ Ideal.exp (s - M) = (a : EReal) := by
  induction M with
  | bot => exact ⟨0, le_refl _, by rw [show s - ⊥ = (⊥ : EReal) by rw [le_bot_iff.mp h]; rfl]; rfl⟩
  | top => exact ⟨0, le_refl _, by rw [show s - ⊤ = (⊥ : EReal) from EReal.sub_top s]; rfl⟩
  | coe m =>
    induction s with
    | bot => exact ⟨0, le_refl _, rfl⟩
    | top => exact absurd h (by simp)
    | coe r => exact ⟨Real.exp (r - m), (Real.exp_pos _).le, rfl⟩

/-- Rescaling a weight from one bound to a greater one. -/
theorem exp_rescale {s m M : EReal} (h : s ≤ m) (h' : m ≤ M) : Ideal.exp (m - M) * Ideal.exp (s - m) = Ideal.exp (s - M) := by
  induction M with
  | top =>
    rw [show m - ⊤ = (⊥ : EReal) from EReal.sub_top m, show s - ⊤ = (⊥ : EReal) from EReal.sub_top s, exp_bot, zero_mul]
  | bot =>
    have e := le_bot_iff.mp h'
    subst e
    have e := le_bot_iff.mp h
    subst e
    rw [show (⊥ : EReal) - ⊥ = ⊥ from rfl, exp_bot, zero_mul]
  | coe M =>
    induction m with
    | top => exact absurd h' (by simp)
    | bot =>
      have e := le_bot_iff.mp h
      subst e
      rw [show (⊥ : EReal) - (M : EReal) = ⊥ from rfl, exp_bot, zero_mul]
    | coe m =>
      induction s with
      | top => exact absurd h (by simp)
      | bot =>
        rw [show (⊥ : EReal) - (M : EReal) = ⊥ from rfl, show (⊥ : EReal) - (m : EReal) = ⊥ from rfl, exp_bot, mul_zero]
      | coe s =>
        show ((Real.exp (m - M) : ℝ) : EReal) * ((Real.exp (s - m) : ℝ) : EReal) = ((Real.exp (s - M) : ℝ) : EReal)
        rw [← EReal.coe_mul, ← Real.exp_add, show m - M + (s - m) = s - M by ring]

/-- A real that is not negative distributes over a sum. -/
theorem mul_sum_real {ι : Type*} (S : Finset ι) (a : ℝ) (ha : 0 ≤ a) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi, EReal.left_distrib_of_nonneg_of_ne_top (by exact_mod_cast ha) (EReal.coe_ne_top a), ih]

section Attention

variable {ι κ : Type*} [Fintype ι] [Fintype κ]

/-- The greatest score. -/
def top (x : ι → EReal) : EReal := Finset.univ.sup x

/-- Every score lies under the largest. -/
theorem le_top (x : ι → EReal) (i : ι) : x i ≤ top x := Finset.le_sup (Finset.mem_univ i)

/-- A weight. -/
def wt (x : ι → EReal) (i : ι) : EReal := Ideal.exp (x i - top x)

/-- The sum of the weights, kept above the small number. -/
def den (x : ι → EReal) : EReal := max (∑ i, wt x i) eps

/-- A weight's share. -/
def prob (x : ι → EReal) (i : ι) : EReal := Ideal.div (wt x i) (den x)

/-- The average of the values by the weights' shares. -/
def att (x v : ι → EReal) : EReal := ∑ i, prob x i * v i

/-- A weight is a nonnegative real. -/
theorem wt_real (x : ι → EReal) (i : ι) : ∃ a : ℝ, 0 ≤ a ∧ wt x i = (a : EReal) := exp_sub_real (le_top x i)

/-- A masked score has weight zero. -/
theorem wt_bot (x : ι → EReal) (i : ι) (h : x i = ⊥) : wt x i = 0 := by
  unfold wt
  rw [h, show (⊥ : EReal) - top x = ⊥ from EReal.bot_sub _, exp_bot]

/-- A sum of nonnegative reals is a nonnegative real. -/
theorem sum_real (S : Finset ι) (f : ι → EReal) (h : ∀ i, ∃ a : ℝ, 0 ≤ a ∧ f i = (a : EReal)) : ∃ a : ℝ, 0 ≤ a ∧ ∑ i ∈ S, f i = (a : EReal) := by
  choose g hg hf using h
  refine ⟨∑ i ∈ S, g i, Finset.sum_nonneg fun i _ => hg i, ?_⟩
  rw [Finset.sum_congr rfl fun i _ => hf i]
  classical
  induction S using Finset.induction_on with
  | empty => simp
  | insert i S hi ih => rw [Finset.sum_insert hi, Finset.sum_insert hi, ih, EReal.coe_add]

/-- The denominator is a positive real. -/
theorem den_real (x : ι → EReal) : ∃ l : ℝ, 0 < l ∧ den x = (l : EReal) := by
  obtain ⟨a, _, e⟩ := sum_real Finset.univ _ (wt_real x)
  obtain ⟨b, hb, e'⟩ := eps_real
  exact ⟨max a b, lt_max_of_lt_right hb, by rw [den, e, e']; exact (EReal.coe_strictMono.monotone.map_max).symm⟩

/-- Division by a positive real is multiplication by its inverse. -/
theorem div_real (y : EReal) (l : ℝ) (hl : 0 < l) : Ideal.div y (l : EReal) = ((l⁻¹ : ℝ) : EReal) * y := by
  rw [Ideal.div, if_neg (by exact_mod_cast hl.ne'), mul_comm, EReal.coe_inv]

/-- A probability is a nonnegative real. -/
theorem prob_real (x : ι → EReal) (i : ι) : ∃ a : ℝ, 0 ≤ a ∧ prob x i = (a : EReal) := by
  obtain ⟨l, hl, e⟩ := den_real x
  obtain ⟨a, ha, e'⟩ := wt_real x i
  exact ⟨l⁻¹ * a, by positivity, by rw [prob, e, e', div_real _ _ hl, ← EReal.coe_mul]⟩

/-- A masked score has probability zero. -/
theorem prob_bot (x : ι → EReal) (i : ι) (h : x i = ⊥) : prob x i = 0 := by
  obtain ⟨l, hl, e⟩ := den_real x
  rw [prob, e, wt_bot x i h, div_real _ _ hl, mul_zero]

/-- The division may be taken after the sum. -/
theorem att_eq (x v : ι → EReal) : att x v = Ideal.div (∑ i, wt x i * v i) (den x) := by
  obtain ⟨l, hl, e⟩ := den_real x
  rw [e, div_real _ _ hl, mul_sum_real _ _ (by positivity)]
  refine Finset.sum_congr rfl fun i _ => ?_
  rw [prob, e, div_real _ _ hl, mul_assoc]

/-- Two families of scores and values with the same unmasked members have the same greatest score, sum of weights and average. -/
theorem transfer (x v : ι → EReal) (x' v' : κ → EReal) (f : κ → ι) (hf : ∀ j, x' j ≠ ⊥ → x (f j) = x' j ∧ v (f j) = v' j)
    (inj : ∀ j j', x' j ≠ ⊥ → x' j' ≠ ⊥ → f j = f j' → j = j') (surj : ∀ i, x i ≠ ⊥ → ∃ j, x' j ≠ ⊥ ∧ f j = i) :
    top x = top x' ∧ (∑ i, wt x i * v i = ∑ j, wt x' j * v' j) := by
  have ht : top x = top x' := by
    refine le_antisymm (Finset.sup_le fun i _ => ?_) (Finset.sup_le fun j _ => ?_)
    · by_cases h : x i = ⊥
      · rw [h]; exact bot_le
      · obtain ⟨j, hj, rfl⟩ := surj i h
        rw [(hf j hj).1]; exact le_top x' j
    · by_cases h : x' j = ⊥
      · rw [h]; exact bot_le
      · rw [← (hf j h).1]; exact le_top x _
  refine ⟨ht, ?_⟩
  have hne : ∀ j, wt x' j * v' j ≠ 0 → x' j ≠ ⊥ := fun j h e => h (by rw [wt_bot x' j e, zero_mul])
  have hne' : ∀ i, wt x i * v i ≠ 0 → x i ≠ ⊥ := fun j h e => h (by rw [wt_bot x j e, zero_mul])
  have hw : ∀ j, x' j ≠ ⊥ → wt x' j * v' j = wt x (f j) * v (f j) := fun j h => by
    rw [wt, wt, ht, (hf j h).1, (hf j h).2]
  refine (Finset.sum_bij_ne_zero (fun j _ _ => f j) (fun _ _ _ => Finset.mem_univ _)
    (fun j _ h j' _ h' e => inj j j' (hne j h) (hne j' h') e) (fun i _ h => ?_) (fun j _ h => hw j (hne j h))).symm
  obtain ⟨j, hj, e⟩ := surj i (hne' i h)
  exact ⟨j, Finset.mem_univ _, by rw [hw j hj, e]; exact h, e⟩

/-- Attention is the same over two families whose unmasked members correspond one to one. -/
theorem att_transfer (x v : ι → EReal) (x' v' : κ → EReal) (f : κ → ι) (hf : ∀ j, x' j ≠ ⊥ → x (f j) = x' j ∧ v (f j) = v' j)
    (inj : ∀ j j', x' j ≠ ⊥ → x' j' ≠ ⊥ → f j = f j' → j = j') (surj : ∀ i, x i ≠ ⊥ → ∃ j, x' j ≠ ⊥ ∧ f j = i) :
    att x v = att x' v' := by
  have h1 := (transfer x (fun _ => 1) x' (fun _ => 1) f (fun j h => ⟨(hf j h).1, rfl⟩) inj surj).2
  simp only [mul_one] at h1
  rw [att_eq, att_eq, (transfer x v x' v' f hf inj surj).2, den, den, h1]

end Attention

/-! ### The running form, over the first scores of a sequence -/

/-- The greatest of the first n scores. -/
def topN (x : ℕ → EReal) (n : ℕ) : EReal := (Finset.range n).sup x

/-- The weighted sum of the first n values. -/
def accN (x v : ℕ → EReal) (n : ℕ) : EReal := ∑ k ∈ Finset.range n, Ideal.exp (x k - topN x n) * v k

/-- The maximum of no scores. -/
theorem topN_zero (x : ℕ → EReal) : topN x 0 = ⊥ := rfl

/-- The weighted sum of no scores. -/
theorem accN_zero (x v : ℕ → EReal) : accN x v 0 = 0 := rfl

/-- The maximum of a prefix and the tile after it. -/
theorem topN_add (x : ℕ → EReal) (n m : ℕ) : topN x (n + m) = max (topN x n) (top fun j : Fin m => x (n + j.val)) := by
  refine le_antisymm (Finset.sup_le fun k hk => ?_) (max_le (Finset.sup_mono (Finset.range_mono (by omega))) (Finset.sup_le fun j _ => ?_))
  · by_cases h : k < n
    · exact le_max_of_le_left (Finset.le_sup (Finset.mem_range.mpr h))
    · have hk := Finset.mem_range.mp hk
      have e := le_top (fun j : Fin m => x (n + j.val)) ⟨k - n, by omega⟩
      rw [show n + (⟨k - n, by omega⟩ : Fin m).val = k by show n + (k - n) = k; omega] at e
      exact le_max_of_le_right e
  · exact Finset.le_sup (f := x) (Finset.mem_range.mpr (by have := j.isLt; omega))

/-- One tile more: the old sum rescaled plus the tile's. -/
theorem accN_add (x v : ℕ → EReal) (n m : ℕ) :
    accN x v (n + m) = Ideal.exp (topN x n - topN x (n + m)) * accN x v n
      + ∑ j : Fin m, Ideal.exp (x (n + j.val) - topN x (n + m)) * v (n + j.val) := by
  have hle : topN x n ≤ topN x (n + m) := Finset.sup_mono (Finset.range_mono (by omega))
  obtain ⟨a, ha, e⟩ := exp_sub_real hle
  rw [accN, Finset.sum_range_add, Finset.sum_range fun j => Ideal.exp (x (n + j) - topN x (n + m)) * v (n + j), accN, e, mul_sum_real _ _ ha]
  congr 1
  refine Finset.sum_congr rfl fun k hk => ?_
  rw [← mul_assoc, ← e, exp_rescale (show x k ≤ topN x n from Finset.le_sup hk) hle]

/-- The running form at the end is the average. -/
theorem accN_att (x v : ℕ → EReal) (n : ℕ) :
    Ideal.div (accN x v n) (max (accN x (fun _ => 1) n) eps) = att (fun k : Fin n => x k.val) (fun k => v k.val) := by
  have ht : topN x n = top fun k : Fin n => x k.val := by
    have h := topN_add x 0 n
    rw [topN_zero, Nat.zero_add, max_eq_right bot_le] at h
    rw [h]
    exact congrArg top (funext fun j => by rw [Nat.zero_add])
  rw [att_eq, den, accN, accN, ht, Finset.sum_range, Finset.sum_range]
  simp only [mul_one]
  rfl

/-! ### Ranks -/

variable {n : ℕ}

/-- Block i ranks before block j: it scores more, or as much and comes first. -/
def Before (s : Fin n → EReal) (i j : Fin n) : Prop := s j < s i ∨ (s i = s j ∧ i < j)

open Classical in
/-- How many blocks rank before block j. -/
def rank (s : Fin n → EReal) (j : Fin n) : ℕ := (Finset.univ.filter fun i => Before s i j).card

/-- The comparison of block i with block j as the kernel counts it. -/
def beat (s : Fin n → EReal) (j i : Fin n) : EReal :=
  if i.val < j.val then (if s j ≤ s i then 1 else 0) else (if s j < s i then 1 else 0)

open Classical in
/-- The kernel's comparison of two blocks is one exactly when the first comes before the second. -/
theorem beat_eq (s : Fin n → EReal) (j i : Fin n) : beat s j i = ((if Before s i j then 1 else 0 : ℕ) : EReal) := by
  unfold beat Before
  by_cases h : i.val < j.val
  · rw [if_pos h]
    by_cases h' : s j ≤ s i
    · rw [if_pos h', if_pos (h'.lt_or_eq.imp id fun e => ⟨e.symm, h⟩)]; simp
    · rw [if_neg h', if_neg (by rintro (a | ⟨a, _⟩); exacts [h' a.le, h' a.ge])]; simp
  · rw [if_neg h]
    by_cases h' : s j < s i
    · rw [if_pos h', if_pos (Or.inl h')]; simp
    · rw [if_neg h', if_neg (by rintro (a | ⟨_, a⟩); exacts [h' a, h a])]; simp

/-- The sum of the comparisons is the block's rank. -/
theorem sum_beat (s : Fin n → EReal) (j : Fin n) : ∑ i : Fin n, beat s j i = ((rank s j : ℕ) : EReal) := by
  classical
  rw [Finset.sum_congr rfl fun i _ => beat_eq s j i, ← Nat.cast_sum, rank, Finset.card_filter]

/-- The block a sort by descending score puts at place k. -/
def place (gt : EReal → EReal → BitVec 1) (s : Fin n → EReal) (k : Fin n) : Fin n := sortedFrom (fun a b => gt (s a) (s b) == 1#1) k

/-- Two comparisons that agree on pairs in order sort an increasing list alike. -/
theorem stableSort_key_position (K B : Fin n → Fin n → Bool) (h : ∀ a b, a < b → K b a = B b a) :
    ∀ l : List (Fin n), l.Pairwise (· < ·) → stableSort K l = stableSort B l
  | [], _ => rfl
  | a :: l, hl => by
    rw [List.pairwise_cons] at hl
    unfold stableSort
    rw [stableSort_key_position K B h l hl.2]
    exact insertBefore_congr _ _ _ _ fun b hb => h a b (hl.1 b ((perm_stableSort B l).mem_iff.mp hb))

/-- The block in place `k` of the sort has rank `k`. -/
theorem rank_place (gt : EReal → EReal → BitVec 1) (hgt : ∀ a b, gt a b = 1#1 ↔ b < a) (s : Fin n → EReal) (k : Fin n) : rank s (place gt s k) = k.val := by
  classical
  let lt : EReal → EReal → Bool := fun a b => decide (b < a)
  have hB := StrictTotalBefore.of_key_then_position lt s (by simp [lt]) (by simp only [lt, decide_eq_true_eq]; exact fun a b c h h' => h'.trans h)
    (by simp only [lt, decide_eq_true_eq]; exact fun a b => (lt_trichotomy b a).imp id (Or.imp (fun e => e.symm) id))
  set B : Fin n → Fin n → Bool := fun k k' => lt (s k) (s k') || (decide (s k = s k') && decide (k < k')) with hBdef
  have hBB : ∀ a b, B a b = true ↔ Before s a b := fun a b => by simp [hBdef, lt, Before]
  have e : sortedFrom (fun a b => gt (s a) (s b) == 1#1) = sortedFrom B := by
    have : sortPositions n (fun a b => gt (s a) (s b) == 1#1) = sortPositions n B := by
      refine stableSort_key_position _ _ (fun a b hab => ?_) _ (List.pairwise_lt_finRange n)
      have : ¬ b < a := not_lt.mpr hab.le
      have h2 : (gt (s b) (s a) == 1#1) = decide (s a < s b) := by
        rw [Bool.eq_iff_iff]; simp [hgt]
      simp [hBdef, lt, this, h2]
    funext k
    exact List.get_of_eq this _
  have hinj := sortedFrom_injective B
  have hlt : ∀ i j : Fin n, i < j → B (sortedFrom B i) (sortedFrom B j) = true := fun i j hij => by
    have h := sortedFrom_noInversion B B (fun a b h => hB.asymm a b h) (fun _ _ h => h) hB.negTrans i j hij
    rcases hB.total (sortedFrom B i) (sortedFrom B j) (fun e => absurd (hinj e) hij.ne) with h' | h'
    · exact h'
    · rw [h'] at h; exact absurd h (by decide)
  have hiff : ∀ i j : Fin n, Before s (sortedFrom B i) (sortedFrom B j) ↔ i < j := fun i j => by
    rw [← hBB]
    constructor
    · intro h
      rcases lt_trichotomy i j with h' | h' | h'
      · exact h'
      · subst h'; rw [hB.irrefl] at h; exact absurd h (by decide)
      · rw [hB.asymm _ _ (hlt j i h')] at h; exact absurd h (by decide)
    · exact hlt i j
  unfold place rank
  rw [e]
  have : (Finset.univ.filter fun i => Before s i (sortedFrom B k)) = (Finset.univ.filter fun i : Fin n => i < k).image (sortedFrom B) := by
    ext p
    simp only [Finset.mem_filter, Finset.mem_univ, true_and, Finset.mem_image]
    constructor
    · intro h
      obtain ⟨i, rfl⟩ := sortedFrom_surjective B p
      exact ⟨i, (hiff i k).mp h, rfl⟩
    · rintro ⟨i, hi, rfl⟩
      exact (hiff i k).mpr hi
  rw [this, Finset.card_image_of_injective _ hinj]
  have : (Finset.univ.filter fun i : Fin n => i < k) = Finset.Iio k := by ext; simp
  rw [this, Fin.card_Iio]

/-- A block is at a place. -/
theorem place_surjective (gt : EReal → EReal → BitVec 1) (s : Fin n → EReal) (j : Fin n) : ∃ k, place gt s k = j := sortedFrom_surjective _ j

/-- Different places of the sort hold different blocks. -/
theorem place_injective (gt : EReal → EReal → BitVec 1) (s : Fin n → EReal) : Function.Injective (place gt s) := sortedFrom_injective _

end Cert.Layer.Nsa
-- ==== Proof.NsaSpec.lean ====
module

public import proofs.«01_k».proof.Proof.NsaScalar
public import Idealize.ShloMosaic.Lib.WordCmp

@[expose] public section

/-! One row of the three-branch attention, over the extended reals: the row's normed and rotated queries, its compressed
branch, the importance of the key blocks and their ranks, the selected and the window branch, and the gated sum. -/

noncomputable section

namespace Cert.Layer.Nsa

open Idealize.ShloMosaic

/-- A row normed by the root of its mean square, times the weights. -/
def rms (x g : Fin 64 → EReal) (d : Fin 64) : EReal :=
  x d * Ideal.rsqrt (Ideal.div (∑ k : Fin 64, x k * x k) (Ideal.ofBits .f32 0x42800000#32) + Ideal.ofBits .f32 0x358637BD#32) * g d

/-- The first sixteen places rotated in pairs eight apart. -/
def rope (y : Fin 64 → EReal) (cos sin : Fin 8 → EReal) (d : Fin 64) : EReal :=
  if h : d.val < 8 then y d * cos ⟨d.val, h⟩ - y ⟨d.val + 8, by omega⟩ * sin ⟨d.val, h⟩
  else if h' : d.val < 16 then y d * cos ⟨d.val - 8, by omega⟩ + y ⟨d.val - 8, by omega⟩ * sin ⟨d.val - 8, by omega⟩
  else y d

/-- One eighth. -/
def eighth : EReal := Ideal.ofBits .f32 0x3E000000#32

/-- The scale's literal is one eighth. -/
theorem eighth_real : eighth = ((1 / 8 : ℝ) : EReal) := by
  unfold eighth
  simp [Ideal.ofBits, Ideal.ieee]
  rw [← EReal.coe_mul]
  norm_num

/-- The score of a key. -/
def score (y k : Fin 64 → EReal) : EReal := ∑ d : Fin 64, y d * eighth * k d

/-- The scale may be taken after the sum. -/
theorem score_eq (y k : Fin 64 → EReal) : (∑ d : Fin 64, k d * y d) * eighth = score y k := by
  rw [score, eighth_real, mul_comm, mul_sum_real _ _ (by norm_num)]
  refine Finset.sum_congr rfl fun d _ => ?_
  rw [mul_comm (k d), ← mul_assoc, mul_comm (y d)]

/-- The logistic function. -/
def gate (x : EReal) : EReal := Ideal.div (Ideal.ofBits .f32 0x3F800000#32) (Ideal.ofBits .f32 0x3F800000#32 + Ideal.exp (-x))

/-! ### Positions as words -/

/-- Product of natural numbers as words. -/
theorem muli_nat (a b : ℕ) : IntOp.muli (BitVec.ofNat 32 a) (BitVec.ofNat 32 b) = BitVec.ofNat 32 (a * b) := (BitVec.ofNat_mul ..).symm

/-- Sum of natural numbers as words. -/
theorem addi_nat (a b : ℕ) : IntOp.addi (BitVec.ofNat 32 a) (BitVec.ofNat 32 b) = BitVec.ofNat 32 (a + b) := (BitVec.ofNat_add ..).symm

/-- Difference of natural numbers as words. -/
theorem subi_nat (a b : ℕ) (h : b ≤ a) : IntOp.subi (BitVec.ofNat 32 a) (BitVec.ofNat 32 b) = BitVec.ofNat 32 (a - b) := by
  have e : BitVec.ofNat 32 a = BitVec.ofNat 32 (a - b) + BitVec.ofNat 32 b := by rw [← BitVec.ofNat_add, Nat.sub_add_cancel h]
  show BitVec.ofNat 32 a - BitVec.ofNat 32 b = _
  rw [e, BitVec.add_sub_cancel]

/-- Selecting by the bit one. -/
theorem select_true {α : Type} (x y : α) : Scalar.select 1#1 x y = x := rfl

/-- Selecting by the bit zero. -/
theorem select_false {α : Type} (x y : α) : Scalar.select 0#1 x y = y := rfl

/-- Selecting by a decided bit. -/
theorem select_bool {α : Type} (p : Prop) [Decidable p] (x y : α) : Scalar.select (BitVec.ofBool (decide p)) x y = if p then x else y := by
  by_cases h : p
  · rw [if_pos h, decide_eq_true h]; rfl
  · rw [if_neg h, decide_eq_false h]; rfl

/-- Selecting by the signed comparison of two small natural numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  exact select_bool (a ≤ b) x y

/-- The bits of minus infinity. -/
theorem bot_bits : Ideal.ofBits .f32 0xFF800000#32 = (⊥ : EReal) := by
  have h1 : (4286578688 : ℕ) >>> 23 % 256 = 255 := by decide
  have h2 : BitVec.extractLsb' 31 1 4286578688#32 = 1#1 := by decide
  norm_num [Ideal.ofBits, Ideal.ieee, h1, h2]

/-- The bits of zero. -/
theorem zero_bits : Ideal.ofBits .f32 0x00000000#32 = (0 : EReal) := by
  simp [Ideal.ofBits, Ideal.ieee]

/-- A masked weight is the weight of the masked score. -/
theorem masked_wt {ι : Type} [Fintype ι] (c : Prop) [Decidable c] (x : ι → EReal) (i : ι) (h : ¬c → x i = ⊥) :
    (if c then Ideal.exp (x i - top x) else 0) = wt x i := by
  by_cases hc : c
  · rw [if_pos hc]; rfl
  · rw [if_neg hc, wt_bot x i (h hc)]

/-- Averaging over the keys of the sixteen chosen blocks, gathered, is averaging over all keys with the other blocks masked. -/
theorem gathered (s : Fin 64 → EReal) (J : Fin 16 → Fin 64) (hr : ∀ r, rank s (J r) = r.val) (hs : ∀ j, rank s j < 16 → ∃ r, J r = j)
    (f v : Fin 4096 → EReal) (t : ℕ) (pos : Fin 1024 → Fin 4096) (hp : ∀ m, (pos m).val = 64 * (J ⟨m.val / 64, by omega⟩).val + m.val % 64) :
    att (fun k : Fin 4096 => if rank s ⟨k.val / 64, by omega⟩ < 16 ∧ k.val ≤ t then f k else ⊥) v
      = att (fun m : Fin 1024 => if (pos m).val ≤ t then f (pos m) else ⊥) fun m => v (pos m) := by
  have hJ : ∀ r r' : Fin 16, (J r).val = (J r').val → r.val = r'.val := fun r r' e => by rw [← hr r, ← hr r', Fin.ext e]
  refine att_transfer _ _ _ _ pos (fun m hm => ⟨?_, rfl⟩) (fun m m' _ _ e => ?_) (fun k hk => ?_)
  · have hq : (pos m).val ≤ t := by
      by_contra hc
      exact hm (if_neg hc)
    have hd : (⟨(pos m).val / 64, by omega⟩ : Fin 64) = J ⟨m.val / 64, by omega⟩ := Fin.ext (by have := hp m; show (pos m).val / 64 = _; omega)
    rw [if_pos hq, hd, hr, if_pos ⟨by show m.val / 64 < 16; omega, hq⟩]
  · have e' := congrArg Fin.val e
    rw [hp, hp] at e'
    have := hJ ⟨m.val / 64, by omega⟩ ⟨m'.val / 64, by omega⟩ (by omega)
    dsimp only at this
    exact Fin.ext (by omega)
  · have hk' : rank s ⟨k.val / 64, by omega⟩ < 16 ∧ k.val ≤ t := by
      by_contra hc
      exact hk (if_neg hc)
    obtain ⟨r, hr'⟩ := hs _ hk'.1
    have hq : pos ⟨64 * r.val + k.val % 64, by omega⟩ = k := by
      refine Fin.ext ?_
      rw [hp]
      have : (⟨(64 * r.val + k.val % 64) / 64, by omega⟩ : Fin 16) = r := Fin.ext (by show (64 * r.val + k.val % 64) / 64 = r.val; omega)
      show 64 * (J ⟨(64 * r.val + k.val % 64) / 64, by omega⟩).val + (64 * r.val + k.val % 64) % 64 = k.val
      rw [this, hr']
      show 64 * (k.val / 64) + (64 * r.val + k.val % 64) % 64 = k.val
      omega
    refine ⟨⟨64 * r.val + k.val % 64, by omega⟩, ?_, hq⟩
    rw [hq, if_pos hk'.2]
    rw [if_pos hk'] at hk
    exact hk

section Row

variable (qn qr : Fin 4 → Fin 64 → EReal) (kc vc : Fin 256 → Fin 64 → EReal) (ks vs kw vw : Fin 4096 → Fin 64 → EReal) (t : ℕ)

/-- The compressed branch's masked scores. -/
def xc (h : Fin 4) (n : Fin 255) : EReal := if 16 * n.val + 31 ≤ t then score (qn h) (kc n.castSucc) else ⊥

/-- The compressed branch. -/
def oc (h : Fin 4) (d : Fin 64) : EReal := att (xc qn kc t h) fun n => vc n.castSucc d

/-- Whether a compressed key covers part of a block. -/
def cover (n j : ℕ) : EReal := if 16 * n < 64 * j + 64 ∧ 64 * j < 16 * n + 32 then 1 else 0

/-- A block's share of the compressed branch's attention. -/
def imp (j : Fin 64) : EReal := ∑ n : Fin 255, (∑ h : Fin 4, prob (xc qn kc t h) n) * cover n.val j.val

/-- A block's importance. -/
def imps (j : Fin 64) : EReal :=
  if j.val = t / 64 ∨ j.val = 0 then Ideal.ofBits .f32 0x4E6E6B28#32 else if 64 * j.val ≤ t then imp qn kc t j else ⊥

/-- The selected branch's masked scores. -/
def xs (h : Fin 4) (k : Fin 4096) : EReal :=
  if rank (imps qn kc t) ⟨k.val / 64, by omega⟩ < 16 ∧ k.val ≤ t then score (qr h) (ks k) else ⊥

/-- The selected branch. -/
def os (h : Fin 4) (d : Fin 64) : EReal := att (xs qn qr kc ks t h) fun k => vs k d

/-- The window branch's masked scores. -/
def xw (h : Fin 4) (k : Fin 4096) : EReal := if k.val ≤ t ∧ t < k.val + 512 then score (qr h) (kw k) else ⊥

/-- The window branch. -/
def ow (h : Fin 4) (d : Fin 64) : EReal := att (xw qr kw t h) fun k => vw k d

/-- The three branches, each times its gate. -/
def out (g : Fin 3 → EReal) (h : Fin 4) (d : Fin 64) : EReal :=
  gate (g 0) * oc qn kc vc t h d + gate (g 1) * os qn qr kc ks vs t h d + gate (g 2) * ow qr kw vw t h d

end Row

end Cert.Layer.Nsa
-- ==== Proof.NsaPre.lean ====
module

public import proofs.«01_k».proof.Proof.Gen.NsaKernelIdeal.Value
public import proofs.«01_k».proof.Proof.NsaSpec
public import Idealize.ShloMosaic.Lib.Pointwise
public import Idealize.ShloMosaic.Lib.WordCmp

/-! The attention kernel before its loop, at one element: the normed and rotated queries. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- Reading a rectangle of a whole three-axis view gives the contents at the shifted place. -/
theorem rd3 {sp : Space} {e : EltTy} {A B C : ℕ} (v : View sig .tc sp ⟨3, ![A, B, C]⟩ e) (X : v.ty.Contents (Elt Ideal)) (off size : Fin 3 → ℕ)
    (inb : ∀ a, off a + size a ≤ (⟨3, ![A, B, C]⟩ : Shape).size a) (x : (Rect.unit (s := ⟨3, ![A, B, C]⟩) off size inb).shape.Idx)
    (y : Shape.Idx ⟨3, ![A, B, C]⟩) (h0 : (y 0).val = off 0 + (x 0).val) (h1 : (y 1).val = off 1 + (x 1).val) (h2 : (y 2).val = off 2 + (x 2).val) :
    v.readAt (Elt Ideal) (Rect.unit (s := ⟨3, ![A, B, C]⟩) off size inb).toLoadRect X x = v.read (Elt Ideal) X y := by
  refine congrArg (v.read (Elt Ideal) X) (funext fun a => Fin.ext ?_)
  match a with
  | ⟨0, _⟩ => show off 0 + 1 * (x 0).val = (y 0).val; omega
  | ⟨1, _⟩ => show off 1 + 1 * (x 1).val = (y 1).val; omega
  | ⟨2, _⟩ => show off 2 + 1 * (x 2).val = (y 2).val; omega

/-- Reading a rectangle of a whole two-axis view gives the contents at the shifted place. -/
theorem rd2 {sp : Space} {e : EltTy} {A B : ℕ} (v : View sig .tc sp ⟨2, ![A, B]⟩ e) (X : v.ty.Contents (Elt Ideal)) (off size : Fin 2 → ℕ)
    (inb : ∀ a, off a + size a ≤ (⟨2, ![A, B]⟩ : Shape).size a) (x : (Rect.unit (s := ⟨2, ![A, B]⟩) off size inb).shape.Idx)
    (y : Shape.Idx ⟨2, ![A, B]⟩) (h0 : (y 0).val = off 0 + (x 0).val) (h1 : (y 1).val = off 1 + (x 1).val) :
    v.readAt (Elt Ideal) (Rect.unit (s := ⟨2, ![A, B]⟩) off size inb).toLoadRect X x = v.read (Elt Ideal) X y := by
  refine congrArg (v.read (Elt Ideal) X) (funext fun a => Fin.ext ?_)
  match a with
  | ⟨0, _⟩ => show off 0 + 1 * (x 0).val = (y 0).val; omega
  | ⟨1, _⟩ => show off 1 + 1 * (x 1).val = (y 1).val; omega

/-- A load of a whole array of rank three reads the array itself. -/
theorem whole3 {e : EltTy} {A B C : ℕ} (m : Memref sig .tc .vmem ⟨3, ![A, B, C]⟩ e) (h : m.IsWhole) (X : Vec Ideal ⟨3, ![A, B, C]⟩ e)
    (inb : ∀ a, (![0, 0, 0] : Fin 3 → ℕ) a + (![A, B, C] : Fin 3 → ℕ) a ≤ (⟨3, ![A, B, C]⟩ : Shape).size a) (x : Fin A) (y : Fin B) (z : Fin C) :
    View.readAt (Elt Ideal) m.view (Rect.unit (s := ⟨3, ![A, B, C]⟩) ![0, 0, 0] ![A, B, C] inb).toLoadRect (h.unread X) (ix3 x y z) = X (ix3 x y z) := by
  rw [rd3 m.view _ _ _ inb (ix3 x y z) (ix3 x y z) (by simp) (by simp) (by simp), h.read_unread]

/-- A load of a whole array of rank two reads the array itself. -/
theorem whole2 {e : EltTy} {A B : ℕ} (m : Memref sig .tc .vmem ⟨2, ![A, B]⟩ e) (h : m.IsWhole) (X : Vec Ideal ⟨2, ![A, B]⟩ e)
    (inb : ∀ a, (![0, 0] : Fin 2 → ℕ) a + (![A, B] : Fin 2 → ℕ) a ≤ (⟨2, ![A, B]⟩ : Shape).size a) (x : Fin A) (y : Fin B) :
    View.readAt (Elt Ideal) m.view (Rect.unit (s := ⟨2, ![A, B]⟩) ![0, 0] ![A, B] inb).toLoadRect (h.unread X) (ix2 x y) = X (ix2 x y) := by
  rw [rd2 m.view _ _ _ inb (ix2 x y) (ix2 x y) (by simp) (by simp), h.read_unread]

/-- The rotation written with rolled columns and three tables is the rotation of pairs of columns. -/
theorem turn (y ct s1 s2 : Fin 64 → EReal) (cos sin : Fin 8 → EReal)
    (hc : ∀ d : Fin 64, ct d = if h : d.val < 8 then cos ⟨d.val, h⟩ else if h : d.val < 16 then cos ⟨d.val - 8, by omega⟩ else 1)
    (h1 : ∀ d : Fin 64, s1 d = if h : d.val < 8 then - sin ⟨d.val, h⟩ else 0)
    (h2 : ∀ d : Fin 64, s2 d = if h : 8 ≤ d.val ∧ d.val < 16 then sin ⟨d.val - 8, by omega⟩ else 0) (d : Fin 64) (a b : EReal)
    (ha : ∀ h : d.val < 8, a = y ⟨d.val + 8, by omega⟩) (hb : ∀ h : ¬ d.val < 8, b = y ⟨d.val - 8, by omega⟩) :
    y d * ct d + a * s1 d + b * s2 d = rope y cos sin d := by
  rw [hc, h1, h2]
  unfold rope
  by_cases h : d.val < 8
  · rw [dif_pos h, dif_pos h, dif_neg (by omega), dif_pos h, ha h, mul_zero, add_zero, mul_neg, sub_eq_add_neg]
  · by_cases h' : d.val < 16
    · rw [dif_neg h, dif_pos h', dif_neg h, dif_pos ⟨by omega, h'⟩, dif_neg h, dif_pos h', hb h, mul_zero, add_zero]
    · rw [dif_neg h, dif_neg h', dif_neg h, dif_neg (by omega), dif_neg h, dif_neg h', mul_zero, mul_zero, add_zero, add_zero, mul_one]

variable (c : Dev nD) (i : Fin 2 → ℕ) (arg2 : Memref sig .tc .vmem S1x256x256 .f32) (harg2 : arg2.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole)
  (x0 : Vec Ideal S1x256x256 .f32) (x2 x3 x4 : Vec Ideal S1x256x64 .f32) (x5 : Vec Ideal S1x64 .f32) (cs sn : Fin 256 → Fin 8 → EReal)

/-- One head's normed query of the block's row `r`. -/
def kqn (r : Fin 256) (h : Fin 4) : Fin 64 → EReal := rms (fun d => x0 (ix3 0 r ⟨64 * h.val + d.val, by omega⟩)) fun d => x5 (ix2 0 d)

/-- The same rotated by the row's position. -/
def kqr (r : Fin 256) (h : Fin 4) : Fin 64 → EReal := rope (kqn x0 x5 r h) (cs r) (sn r)

/-- The three tables of the rotation hold the cosines and the sines. -/
structure Tables : Prop where
  ct : ∀ r (d : Fin 64), x2 (ix3 0 r d) = if h : d.val < 8 then cs r ⟨d.val, h⟩ else if h : d.val < 16 then cs r ⟨d.val - 8, by omega⟩ else 1
  s1 : ∀ r (d : Fin 64), x3 (ix3 0 r d) = if h : d.val < 8 then - sn r ⟨d.val, h⟩ else 0
  s2 : ∀ r (d : Fin 64), x4 (ix3 0 r d) = if h : 8 ≤ d.val ∧ d.val < 16 then sn r ⟨d.val - 8, by omega⟩ else 0

/-- Head 0: the normed query. -/
theorem v23_at (r : Fin 256) (d : Fin 64) : kernelRun0_A.sl.v23 (F := Ideal) c arg2 harg2 arg7 harg7 x0 x5 (ix2 r d) = kqn x0 x5 r 0 d := by
  pointwise [kernelRun0_A.sl.v23, kernelRun0_A.sl.v22, kernelRun0_A.sl.v11, kernelRun0_A.sl.v21, kernelRun0_A.sl.v20, kernelRun0_A.sl.v19, kernelRun0_A.sl.v18, kernelRun0_A.sl.v17, kernelRun0_A.sl.cst_14, kernelRun0_A.sl.v16, kernelRun0_A.sl.v15, kernelRun0_A.sl.cst_13, kernelRun0_A.sl.v14, kernelRun0_A.sl.v13, kernelRun0_A.sl.v12, kernelRun0_A.sl.v9, kernelRun0_A.sl.v2]
  simp only [whole3, whole2]
  simp only [kqn, rms, Fin.val_zero, Nat.mul_zero, Nat.zero_add]

/-- Head 0: the normed query scaled. -/
theorem v26_at (r : Fin 256) (d : Fin 64) : kernelRun0_A.sl.v26 (F := Ideal) c arg2 harg2 arg7 harg7 x0 x5 (ix2 r d) = kqn x0 x5 r 0 d * eighth := by
  pointwise [kernelRun0_A.sl.v26, kernelRun0_A.sl.v25, kernelRun0_A.sl.v24, kernelRun0_A.sl.cst_15]
  rw [v23_at]
  rfl

/-- Head 0: the rotated query scaled. -/
theorem v40_at (T : Tables x2 x3 x4 cs sn) (r : Fin 256) (d : Fin 64) : kernelRun0_A.sl.v40 (F := Ideal) c arg2 harg2 arg4 harg4 arg5 harg5 arg6 harg6 arg7 harg7 x0 x2 x3 x4 x5 (ix2 r d) = kqr x0 x5 cs sn r 0 d * eighth := by
  pointwise [kernelRun0_A.sl.v40, kernelRun0_A.sl.v39, kernelRun0_A.sl.v24, kernelRun0_A.sl.cst_15, kernelRun0_A.sl.v37, kernelRun0_A.sl.v36, kernelRun0_A.sl.v8, kernelRun0_A.sl.v32, kernelRun0_A.sl.v31, kernelRun0_A.sl.v30, kernelRun0_A.sl.v35, kernelRun0_A.sl.v34, kernelRun0_A.sl.v6, kernelRun0_A.sl.v29, kernelRun0_A.sl.v28, kernelRun0_A.sl.v27, kernelRun0_A.sl.v33, kernelRun0_A.sl.v4]
  simp only [v23_at, whole3]
  refine congrArg (· * eighth) (turn (kqn x0 x5 r 0) (fun d => x2 (ix3 0 r d)) (fun d => x3 (ix3 0 r d)) (fun d => x4 (ix3 0 r d)) (cs r) (sn r) (T.ct r) (T.s1 r) (T.s2 r) d _ _ (fun hd => ?_) fun hd => ?_)
  · rw [dif_pos (by omega)]
    exact congrArg (kqn x0 x5 r 0) (Fin.ext (by dsimp only; omega))
  · rw [dif_neg (by omega)]

/-- Head 1: the normed query. -/
theorem v55_at (r : Fin 256) (d : Fin 64) : kernelRun0_A.sl.v55 (F := Ideal) c arg2 harg2 arg7 harg7 x0 x5 (ix2 r d) = kqn x0 x5 r 1 d := by
  pointwise [kernelRun0_A.sl.v55, kernelRun0_A.sl.v22, kernelRun0_A.sl.v11, kernelRun0_A.sl.v53, kernelRun0_A.sl.v52, kernelRun0_A.sl.v51, kernelRun0_A.sl.v50, kernelRun0_A.sl.v17, kernelRun0_A.sl.cst_14, kernelRun0_A.sl.v48, kernelRun0_A.sl.v15, kernelRun0_A.sl.cst_13, kernelRun0_A.sl.v46, kernelRun0_A.sl.v45, kernelRun0_A.sl.v44, kernelRun0_A.sl.v41, kernelRun0_A.sl.v2]
  simp only [whole3, whole2]
  rfl

/-- Head 1: the normed query scaled. -/
theorem v58_at (r : Fin 256) (d : Fin 64) : kernelRun0_A.sl.v58 (F := Ideal) c arg2 harg2 arg7 harg7 x0 x5 (ix2 r d) = kqn x0 x5 r 1 d * eighth := by
  pointwise [kernelRun0_A.sl.v58, kernelRun0_A.sl.v57, kernelRun0_A.sl.v24, kernelRun0_A.sl.cst_15]
  rw [v55_at]
  rfl

/-- Head 1: the rotated query scaled. -/
theorem v72_at (T : Tables x2 x3 x4 cs sn) (r : Fin 256) (d : Fin 64) : kernelRun0_A.sl.v72 (F := Ideal) c arg2 harg2 arg4 harg4 arg5 harg5 arg6 harg6 arg7 harg7 x0 x2 x3 x4 x5 (ix2 r d) = kqr x0 x5 cs sn r 1 d * eighth := by
  pointwise [kernelRun0_A.sl.v72, kernelRun0_A.sl.v71, kernelRun0_A.sl.v24, kernelRun0_A.sl.cst_15, kernelRun0_A.sl.v69, kernelRun0_A.sl.v68, kernelRun0_A.sl.v8, kernelRun0_A.sl.v64, kernelRun0_A.sl.v63, kernelRun0_A.sl.v62, kernelRun0_A.sl.v67, kernelRun0_A.sl.v66, kernelRun0_A.sl.v6, kernelRun0_A.sl.v61, kernelRun0_A.sl.v60, kernelRun0_A.sl.v59, kernelRun0_A.sl.v65, kernelRun0_A.sl.v4]
  simp only [v55_at, whole3]
  refine congrArg (· * eighth) (turn (kqn x0 x5 r 1) (fun d => x2 (ix3 0 r d)) (fun d => x3 (ix3 0 r d)) (fun d => x4 (ix3 0 r d)) (cs r) (sn r) (T.ct r) (T.s1 r) (T.s2 r) d _ _ (fun hd => ?_) fun hd => ?_)
  · rw [dif_pos (by omega)]
    exact congrArg (kqn x0 x5 r 1) (Fin.ext (by dsimp only; omega))
  · rw [dif_neg (by omega)]

/-- Head 2: the normed query. -/
theorem v87_at (r : Fin 256) (d : Fin 64) : kernelRun0_A.sl.v87 (F := Ideal) c arg2 harg2 arg7 harg7 x0 x5 (ix2 r d) = kqn x0 x5 r 2 d := by
  pointwise [kernelRun0_A.sl.v87, kernelRun0_A.sl.v22, kernelRun0_A.sl.v11, kernelRun0_A.sl.v85, kernelRun0_A.sl.v84, kernelRun0_A.sl.v83, kernelRun0_A.sl.v82, kernelRun0_A.sl.v17, kernelRun0_A.sl.cst_14, kernelRun0_A.sl.v80, kernelRun0_A.sl.v15, kernelRun0_A.sl.cst_13, kernelRun0_A.sl.v78, kernelRun0_A.sl.v77, kernelRun0_A.sl.v76, kernelRun0_A.sl.v73, kernelRun0_A.sl.v2]
  simp only [whole3, whole2]
  rfl

/-- Head 2: the normed query scaled. -/
theorem v90_at (r : Fin 256) (d : Fin 64) : kernelRun0_A.sl.v90 (F := Ideal) c arg2 harg2 arg7 harg7 x0 x5 (ix2 r d) = kqn x0 x5 r 2 d * eighth := by
  pointwise [kernelRun0_A.sl.v90, kernelRun0_A.sl.v89, kernelRun0_A.sl.v24, kernelRun0_A.sl.cst_15]
  rw [v87_at]
  rfl

/-- Head 2: the rotated query scaled. -/
theorem v104_at (T : Tables x2 x3 x4 cs sn) (r : Fin 256) (d : Fin 64) : kernelRun0_A.sl.v104 (F := Ideal) c arg2 harg2 arg4 harg4 arg5 harg5 arg6 harg6 arg7 harg7 x0 x2 x3 x4 x5 (ix2 r d) = kqr x0 x5 cs sn r 2 d * eighth := by
  pointwise [kernelRun0_A.sl.v104, kernelRun0_A.sl.v103, kernelRun0_A.sl.v24, kernelRun0_A.sl.cst_15, kernelRun0_A.sl.v101, kernelRun0_A.sl.v100, kernelRun0_A.sl.v8, kernelRun0_A.sl.v96, kernelRun0_A.sl.v95, kernelRun0_A.sl.v94, kernelRun0_A.sl.v99, kernelRun0_A.sl.v98, kernelRun0_A.sl.v6, kernelRun0_A.sl.v93, kernelRun0_A.sl.v92, kernelRun0_A.sl.v91, kernelRun0_A.sl.v97, kernelRun0_A.sl.v4]
  simp only [v87_at, whole3]
  refine congrArg (· * eighth) (turn (kqn x0 x5 r 2) (fun d => x2 (ix3 0 r d)) (fun d => x3 (ix3 0 r d)) (fun d => x4 (ix3 0 r d)) (cs r) (sn r) (T.ct r) (T.s1 r) (T.s2 r) d _ _ (fun hd => ?_) fun hd => ?_)
  · rw [dif_pos (by omega)]
    exact congrArg (kqn x0 x5 r 2) (Fin.ext (by dsimp only; omega))
  · rw [dif_neg (by omega)]

/-- Head 3: the normed query. -/
theorem v119_at (r : Fin 256) (d : Fin 64) : kernelRun0_A.sl.v119 (F := Ideal) c arg2 harg2 arg7 harg7 x0 x5 (ix2 r d) = kqn x0 x5 r 3 d := by
  pointwise [kernelRun0_A.sl.v119, kernelRun0_A.sl.v22, kernelRun0_A.sl.v11, kernelRun0_A.sl.v117, kernelRun0_A.sl.v116, kernelRun0_A.sl.v115, kernelRun0_A.sl.v114, kernelRun0_A.sl.v17, kernelRun0_A.sl.cst_14, kernelRun0_A.sl.v112, kernelRun0_A.sl.v15, kernelRun0_A.sl.cst_13, kernelRun0_A.sl.v110, kernelRun0_A.sl.v109, kernelRun0_A.sl.v108, kernelRun0_A.sl.v105, kernelRun0_A.sl.v2]
  simp only [whole3, whole2]
  rfl

/-- Head 3: the normed query scaled. -/
theorem v122_at (r : Fin 256) (d : Fin 64) : kernelRun0_A.sl.v122 (F := Ideal) c arg2 harg2 arg7 harg7 x0 x5 (ix2 r d) = kqn x0 x5 r 3 d * eighth := by
  pointwise [kernelRun0_A.sl.v122, kernelRun0_A.sl.v121, kernelRun0_A.sl.v24, kernelRun0_A.sl.cst_15]
  rw [v119_at]
  rfl

/-- Head 3: the rotated query scaled. -/
theorem v136_at (T : Tables x2 x3 x4 cs sn) (r : Fin 256) (d : Fin 64) : kernelRun0_A.sl.v136 (F := Ideal) c arg2 harg2 arg4 harg4 arg5 harg5 arg6 harg6 arg7 harg7 x0 x2 x3 x4 x5 (ix2 r d) = kqr x0 x5 cs sn r 3 d * eighth := by
  pointwise [kernelRun0_A.sl.v136, kernelRun0_A.sl.v135, kernelRun0_A.sl.v24, kernelRun0_A.sl.cst_15, kernelRun0_A.sl.v133, kernelRun0_A.sl.v132, kernelRun0_A.sl.v8, kernelRun0_A.sl.v128, kernelRun0_A.sl.v127, kernelRun0_A.sl.v126, kernelRun0_A.sl.v131, kernelRun0_A.sl.v130, kernelRun0_A.sl.v6, kernelRun0_A.sl.v125, kernelRun0_A.sl.v124, kernelRun0_A.sl.v123, kernelRun0_A.sl.v129, kernelRun0_A.sl.v4]
  simp only [v119_at, whole3]
  refine congrArg (· * eighth) (turn (kqn x0 x5 r 3) (fun d => x2 (ix3 0 r d)) (fun d => x3 (ix3 0 r d)) (fun d => x4 (ix3 0 r d)) (cs r) (sn r) (T.ct r) (T.s1 r) (T.s2 r) d _ _ (fun hd => ?_) fun hd => ?_)
  · rw [dif_pos (by omega)]
    exact congrArg (kqn x0 x5 r 3) (Fin.ext (by dsimp only; omega))
  · rw [dif_neg (by omega)]

end Cert.NsaKernelIdeal.Pure
-- ==== Proof.NsaImp.lean ====
module

public import proofs.«01_k».proof.Proof.NsaPre
public import proofs.«01_k».proof.Proof.NsaSpec
public import Idealize.ShloMosaic.Lib.Pointwise
public import Idealize.ShloMosaic.Lib.WordCmp

/-! The attention kernel before its loop: the compressed branch and the importance of the blocks. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- The word of the block's first position. -/
theorem v0_at (i : grid0.Coords) : kernelRun0_A.sl.v0 i = BitVec.ofNat 32 (256 * (i 1).val) := by
  show Scalar.muli _ _ = _
  rw [Nat.mul_comm]
  exact muli_nat _ _

/-- The mask is the bottom. -/
theorem mask_bot : (Named.named (F := Idealize.ShloMosaic.Ideal) κ "mask" (φ := .f32) 0xF149F2CA#32) = (⊥ : EReal) :=
  IdealRules.named_const.ideal_named_scalar _ _ _ _ rfl

/-- The low eight bits of a row's number. -/
theorem low_bits (h r : ℕ) (hr : r < 256) (hh : h < 4) : IntOp.andi (BitVec.ofNat 32 (256 * h + r)) 255#32 = BitVec.ofNat 32 r := by
  refine BitVec.eq_of_toNat_eq ?_
  show (BitVec.ofNat 32 (256 * h + r)).toNat &&& 255 = _
  rw [BitVec.toNat_ofNat, BitVec.toNat_ofNat, show 255 = 2 ^ 8 - 1 from rfl, Nat.and_two_pow_sub_one_eq_mod]
  omega

/-- The masked scores of one row over the 256 compressed positions. -/
def x256 (Q : Fin 64 → EReal) (K : Vec Ideal S1x256x64 .bf16) (t : ℕ) (n : Fin 256) : EReal :=
  if 16 * n.val + 31 ≤ t then ∑ k : Fin 64, Q k * K (ix3 0 n k) else ⊥

/-- The probabilities of one row of one head. -/
theorem pay67_at (T0 : ℕ) (hT : T0 ≤ 3840) (a0 a1 a2 a3 : FVec Ideal S256x64 .bf16) (K : Vec Ideal S1x256x64 .bf16) (Q : Fin 4 → Fin 64 → EReal) (r : Fin 256)
    (h0 : ∀ k, a0 (ix2 r k) = Q 0 k) (h1 : ∀ k, a1 (ix2 r k) = Q 1 k) (h2 : ∀ k, a2 (ix2 r k) = Q 2 k) (h3 : ∀ k, a3 (ix2 r k) = Q 3 k) (h : Fin 4) (n : Fin 256) :
    k0_pay67 (BitVec.ofNat 32 T0) a0 a1 a2 a3 K (ix2 ⟨256 * h.val + r.val, by omega⟩ n) = prob (x256 (Q h) K (T0 + r.val)) n := by
  pointwise [k0_pay67]
  have hcat : ∀ x : Fin 64, (if h_1 : 256 * h.val + r.val < 256 then a0 (ix2 ⟨256 * h.val + r.val, h_1⟩ x)
      else if h_2 : 256 * h.val + r.val - 256 < 256 then a1 (ix2 ⟨256 * h.val + r.val - 256, h_2⟩ x)
      else if h_3 : 256 * h.val + r.val - 256 - 256 < 256 then a2 (ix2 ⟨256 * h.val + r.val - 256 - 256, h_3⟩ x)
      else a3 (ix2 ⟨256 * h.val + r.val - 256 - 256 - 256, by omega⟩ x)) = Q h x := by
    intro x
    match h with
    | ⟨0, hh⟩ =>
      rw [dif_pos (by dsimp only; omega)]
      exact (congrArg (fun q => a0 (ix2 q x)) (Fin.ext (by dsimp only; omega))).trans (h0 x)
    | ⟨1, hh⟩ =>
      rw [dif_neg (by dsimp only; omega), dif_pos (by dsimp only; omega)]
      exact (congrArg (fun q => a1 (ix2 q x)) (Fin.ext (by dsimp only; omega))).trans (h1 x)
    | ⟨2, hh⟩ =>
      rw [dif_neg (by dsimp only; omega), dif_neg (by dsimp only; omega), dif_pos (by dsimp only; omega)]
      exact (congrArg (fun q => a2 (ix2 q x)) (Fin.ext (by dsimp only; omega))).trans (h2 x)
    | ⟨3, hh⟩ =>
      rw [dif_neg (by dsimp only; omega), dif_neg (by dsimp only; omega), dif_neg (by dsimp only; omega)]
      exact (congrArg (fun q => a3 (ix2 q x)) (Fin.ext (by dsimp only; omega))).trans (h3 x)
  have hsel : ∀ (n : Fin 256) (x y : EReal), Scalar.select (IntOp.cmpi .sle (IntOp.addi (IntOp.muli (BitVec.ofNat 32 n.val) 16#32) 31#32)
      (IntOp.addi (BitVec.ofNat 32 T0) (IntOp.andi (BitVec.ofNat 32 (256 * h.val + r.val)) 255#32))) x y = if 16 * n.val + 31 ≤ T0 + r.val then x else y := by
    intro n x y
    rw [low_bits h.val r.val r.isLt h.isLt, show (16#32) = BitVec.ofNat 32 16 from rfl, show (31#32) = BitVec.ofNat 32 31 from rfl, muli_nat, addi_nat, addi_nat,
      select_sle (by omega) (by omega), Nat.mul_comm n.val]
  simp only [hcat, hsel, mask_bot, bot_bits]
  refine congrArg₂ Ideal.div (masked_wt (16 * n.val + 31 ≤ T0 + r.val) (x256 (Q h) K (T0 + r.val)) n fun hn => if_neg hn) (congrArg (max · eps) (Finset.sum_congr rfl fun k _ =>
    masked_wt (16 * k.val + 31 ≤ T0 + r.val) (x256 (Q h) K (T0 + r.val)) k fun hn => if_neg hn))

/-- The last of the 256 compressed positions is never seen. -/
theorem x256_last (Q : Fin 64 → EReal) (K : Vec Ideal S1x256x64 .bf16) (t : ℕ) (ht : t < 4096) : x256 Q K t (Fin.last 255) = ⊥ :=
  if_neg (by show ¬ 16 * 255 + 31 ≤ t; omega)

/-- The 255 compressed positions and the 256 have the same highest score, and the same weighted sums. -/
theorem x256_sum (q : Fin 64 → EReal) (K : Vec Ideal S1x256x64 .bf16) (t : ℕ) (ht : t < 4096) (qn : Fin 4 → Fin 64 → EReal) (h : Fin 4) (v : Fin 256 → EReal) :
    top (x256 (fun k => qn h k * eighth) K t) = top (xc qn (fun n d => K (ix3 0 n d)) t h)
      ∧ (∑ i, wt (x256 (fun k => qn h k * eighth) K t) i * v i = ∑ j, wt (xc qn (fun n d => K (ix3 0 n d)) t h) j * v j.castSucc) := by
  refine transfer _ v _ (fun j => v j.castSucc) Fin.castSucc (fun j _ => ⟨rfl, rfl⟩) (fun j j' _ _ e => Fin.castSucc_injective _ e) fun i hi => ?_
  have hl : i ≠ Fin.last 255 := fun e => hi (e ▸ x256_last _ K t ht)
  exact ⟨i.castPred hl, fun e => hi (by rw [← e]; rfl), rfl⟩

/-- The probabilities of the 255 compressed positions. -/
theorem prob_x256 (K : Vec Ideal S1x256x64 .bf16) (t : ℕ) (ht : t < 4096) (qn : Fin 4 → Fin 64 → EReal) (h : Fin 4) (n : Fin 255) :
    prob (x256 (fun k => qn h k * eighth) K t) n.castSucc = prob (xc qn (fun n d => K (ix3 0 n d)) t h) n := by
  have e := x256_sum (qn h) K t ht qn h (fun _ => 1)
  simp only [mul_one] at e
  unfold prob den wt
  unfold wt at e
  rw [e.2, e.1]
  rfl

/-- The attention over the compressed positions. -/
theorem att_x256 (K V : Vec Ideal S1x256x64 .bf16) (t : ℕ) (ht : t < 4096) (qn : Fin 4 → Fin 64 → EReal) (h : Fin 4) (d : Fin 64) :
    ∑ n : Fin 256, prob (x256 (fun k => qn h k * eighth) K t) n * V (ix3 0 n d) = oc qn (fun n d => K (ix3 0 n d)) (fun n d => V (ix3 0 n d)) t h d := by
  have hp : prob (x256 (fun k => qn h k * eighth) K t) (Fin.last 255) = 0 := prob_bot _ _ (x256_last _ K t ht)
  rw [Fin.sum_univ_castSucc, hp, zero_mul, add_zero]
  show _ = ∑ n : Fin 255, prob (xc qn (fun n d => K (ix3 0 n d)) t h) n * V (ix3 0 n.castSucc d)
  exact Finset.sum_congr rfl fun n _ => by rw [prob_x256 K t ht qn h n]

section
variable (T0 : ℕ) (hT : T0 ≤ 3840) (a0 a1 a2 a3 : FVec Ideal S256x64 .bf16) (K V : Vec Ideal S1x256x64 .bf16) (qn : Fin 4 → Fin 64 → EReal) (r : Fin 256)
    (h0 : ∀ k, a0 (ix2 r k) = qn 0 k * eighth) (h1 : ∀ k, a1 (ix2 r k) = qn 1 k * eighth) (h2 : ∀ k, a2 (ix2 r k) = qn 2 k * eighth) (h3 : ∀ k, a3 (ix2 r k) = qn 3 k * eighth)

include hT h0 h1 h2 h3
/-- The compressed branch's output of one row of one head. -/
theorem pay68_at (h : Fin 4) (d : Fin 64) :
    k0_pay68 (BitVec.ofNat 32 T0) a0 a1 a2 a3 K V (ix2 ⟨256 * h.val + r.val, by omega⟩ d) = oc qn (fun n d => K (ix3 0 n d)) (fun n d => V (ix3 0 n d)) (T0 + r.val) h d := by
  rw [← att_x256 K V (T0 + r.val) (by omega)]
  pointwise [k0_pay68]
  exact Finset.sum_congr rfl fun n _ => congrArg (· * V (ix3 0 n d)) (pay67_at T0 hT a0 a1 a2 a3 K (fun h k => qn h k * eighth) r h0 h1 h2 h3 h n)

/-- The probabilities of one row summed over the heads. -/
theorem pay69_at (n : Fin 256) : k0_pay69 (BitVec.ofNat 32 T0) a0 a1 a2 a3 K (ix2 r n) = ∑ h : Fin 4, prob (x256 (fun k => qn h k * eighth) K (T0 + r.val)) n := by
  have e := fun h => pay67_at T0 hT a0 a1 a2 a3 K (fun h k => qn h k * eighth) r h0 h1 h2 h3 h n
  rw [Fin.sum_univ_four, ← e 0, ← e 1, ← e 2, ← e 3]
  pointwise [k0_pay69]

/-- What rounding the summed probabilities loses is nothing. -/
theorem pay71_at (n : Fin 256) : k0_pay71 (BitVec.ofNat 32 T0) a0 a1 a2 a3 K (ix2 r n) = 0 := by
  have e := pay69_at T0 hT a0 a1 a2 a3 K qn r h0 h1 h2 h3 n
  obtain ⟨a, _, ha⟩ := sum_real Finset.univ (fun h : Fin 4 => prob (x256 (fun k => qn h k * eighth) K (T0 + r.val)) n) fun h => prob_real _ _
  pointwise [k0_pay71, k0_pay70]
  rw [e, ha, ← EReal.coe_sub, sub_self, EReal.coe_zero]

/-- The importance of block `j` to one row. -/
theorem pay72_at (O : Vec Ideal S64x256 .bf16) (hO : ∀ (j : Fin 64) (n : Fin 256), O (ix2 j n) = if n.val < 255 then cover n.val j.val else 0) (j : Fin 64) :
    k0_pay72 (k0_pay70 (BitVec.ofNat 32 T0) a0 a1 a2 a3 K) (k0_pay71 (BitVec.ofNat 32 T0) a0 a1 a2 a3 K) O O (ix2 j r) = imp qn (fun n d => K (ix3 0 n d)) (T0 + r.val) j := by
  pointwise [k0_pay72, k0_pay70]
  have e := pay69_at T0 hT a0 a1 a2 a3 K qn r h0 h1 h2 h3
  have z := pay71_at T0 hT a0 a1 a2 a3 K qn r h0 h1 h2 h3
  simp only [z, e, mul_zero, Finset.sum_const_zero, add_zero]
  rw [Fin.sum_univ_castSucc, hO j (Fin.last 255), if_neg (by simp), zero_mul, add_zero]
  refine Finset.sum_congr rfl fun n _ => ?_
  rw [hO, if_pos (by simp), mul_comm]
  exact congrArg (· * cover n.val j.val) (Finset.sum_congr rfl fun h _ => prob_x256 K (T0 + r.val) (by omega) qn h n)
end

/-- Dividing a position by the block's length, in words. -/
theorem block_word (n : Fin 4096) : Scalar.select
            (IntOp.andi
              (IntOp.cmpi CmpIPredicate.ne
                (IntOp.subi
                  (BitVec.setWidth 32
                    (IntOp.cmpi CmpIPredicate.sgt (BitVec.ofNat 32 n.val) 0#32))
                  (BitVec.setWidth 32
                    (IntOp.cmpi CmpIPredicate.slt (BitVec.ofNat 32 n.val) 0#32)))
                (Scalar.subi (Scalar.extui (Scalar.cmpi CmpIPredicate.sgt 64#32 0#32))
                  (Scalar.extui (Scalar.cmpi CmpIPredicate.slt 64#32 0#32))))
              (IntOp.cmpi CmpIPredicate.ne
                (IntOp.remsi ArithUnit.vector (BitVec.ofNat 32 n.val) 64#32)
                0#32))
            (IntOp.subi
              (IntOp.divsi ArithUnit.vector (BitVec.ofNat 32 n.val) 64#32) 1#32)
            (IntOp.divsi ArithUnit.vector (BitVec.ofNat 32 n.val) 64#32) = BitVec.ofNat 32 (n.val / 64) := by
  revert n
  decide +kernel

/-- A choice between two words made on either of two conditions. -/
theorem select_or {α : Type} (p q : Prop) [Decidable p] [Decidable q] (x y : α) :
    Scalar.select (IntOp.ori (BitVec.ofBool (decide p)) (BitVec.ofBool (decide q))) x y = if p ∨ q then x else y := by
  by_cases hp : p <;> by_cases hq : q <;> simp [hp, hq, IntOp.ori, Scalar.select]

/-- A block is forced when it is the row's own or the first. -/
theorem pay74_at (T0 : ℕ) (hT : T0 ≤ 3840) (j : Fin 64) (r : Fin 256) (x y : EReal) :
    Scalar.select (k0_pay74 (BitVec.ofNat 32 T0) (ix2 j r)) x y = if j.val = (T0 + r.val) / 64 ∨ j.val = 0 then x else y := by
  pointwise [k0_pay74, k0_pay73]
  simp only [addi_nat]
  rw [block_word ⟨T0 + r.val, by omega⟩, WordCmp.cmpi_eq_ofNat (by omega) (by dsimp only; omega), WordCmp.cmpi_eq_ofNat (b := 0) (by omega) (by omega)]
  exact select_or _ _ _ _

/-- A block is seen when it begins no later than the row. -/
theorem pay75_at (T0 : ℕ) (hT : T0 ≤ 3840) (j : Fin 64) (r : Fin 256) (x y : EReal) :
    Scalar.select (k0_pay75 (BitVec.ofNat 32 T0) (ix2 j r)) x y = if 64 * j.val ≤ T0 + r.val then x else y := by
  pointwise [k0_pay75, k0_pay73]
  rw [show (64#32) = BitVec.ofNat 32 64 from rfl, muli_nat, addi_nat, select_sle (by omega) (by omega), Nat.mul_comm j.val]

section
variable (c : Dev nD) (i : grid0.Coords) (arg2 : Memref sig .tc .vmem S1x256x256 .f32) (harg2 : arg2.IsWhole) (arg7 : Memref sig .tc .vmem S1x64 .f32) (harg7 : arg7.IsWhole)
  (arg8 : Memref sig .tc .vmem S1x256x64 .bf16) (harg8 : arg8.IsWhole) (arg9 : Memref sig .tc .vmem S1x256x64 .bf16) (harg9 : arg9.IsWhole) (arg14 : Memref sig .tc .vmem S64x256 .bf16) (harg14 : arg14.IsWhole)
  (x0 : Vec Ideal S1x256x256 .f32) (x5 : Vec Ideal S1x64 .f32) (x6 x7 : Vec Ideal S1x256x64 .bf16) (x12 : Vec Ideal S64x256 .bf16)

/-- The compressed keys of the block's batch, and any array of 256 rows of 64. -/
def kkc (x6 : Vec Ideal S1x256x64 .bf16) : Fin 256 → Fin 64 → EReal := fun n d => x6 (ix3 0 n d)

/-- A load of a whole array of rank three is the array. -/
theorem whole3' {e : EltTy} {A B C : ℕ} (m : Memref sig .tc .vmem ⟨3, ![A, B, C]⟩ e) (h : m.IsWhole) (X : Vec Ideal ⟨3, ![A, B, C]⟩ e)
    (inb : ∀ a, (![0, 0, 0] : Fin 3 → ℕ) a + (![A, B, C] : Fin 3 → ℕ) a ≤ (⟨3, ![A, B, C]⟩ : Shape).size a) :
    View.readAt (Elt Ideal) m.view (Rect.unit (s := ⟨3, ![A, B, C]⟩) ![0, 0, 0] ![A, B, C] inb).toLoadRect (h.unread X) = X := by
  funext y
  exact (rd3 m.view _ _ _ inb y y (by simp) (by simp) (by simp)).trans (congrFun (h.read_unread X) y)

/-- A load of a whole array of rank two is the array. -/
theorem whole2' {e : EltTy} {A B : ℕ} (m : Memref sig .tc .vmem ⟨2, ![A, B]⟩ e) (h : m.IsWhole) (X : Vec Ideal ⟨2, ![A, B]⟩ e)
    (inb : ∀ a, (![0, 0] : Fin 2 → ℕ) a + (![A, B] : Fin 2 → ℕ) a ≤ (⟨2, ![A, B]⟩ : Shape).size a) :
    View.readAt (Elt Ideal) m.view (Rect.unit (s := ⟨2, ![A, B]⟩) ![0, 0] ![A, B] inb).toLoadRect (h.unread X) = X := by
  funext y
  exact (rd2 m.view _ _ _ inb y y (by simp) (by simp)).trans (congrFun (h.read_unread X) y)

/-- The kernel's compressed output. -/
theorem r_at (r : Fin 256) (h : Fin 4) (d : Fin 64) :
    kernelRun0_A.sl.r (F := Ideal) c i arg2 harg2 arg7 harg7 arg8 harg8 arg9 harg9 x0 x5 x6 x7 (ix2 ⟨256 * h.val + r.val, by omega⟩ d)
      = oc (kqn x0 x5 r) (kkc x6) (kkc x7) (256 * (i 1).val + r.val) h d := by
  have hi : (i 1).val < 16 := (i 1).isLt
  unfold kernelRun0_A.sl.r
  rw [v0_at, whole3' arg8 harg8 x6, whole3' arg9 harg9 x7]
  exact pay68_at _ (by omega) _ _ _ _ x6 x7 (kqn x0 x5 r) r (v26_at c arg2 harg2 arg7 harg7 x0 x5 r) (v58_at c arg2 harg2 arg7 harg7 x0 x5 r) (v90_at c arg2 harg2 arg7 harg7 x0 x5 r) (v122_at c arg2 harg2 arg7 harg7 x0 x5 r) h d

/-- The table of what each compressed key covers. -/
def Covers (x12 : Vec Ideal S64x256 .bf16) : Prop := ∀ (j : Fin 64) (n : Fin 256), x12 (ix2 j n) = if n.val < 255 then cover n.val j.val else 0

/-- The kernel's importance of each block. -/
theorem v227_at (hO : Covers x12) (r : Fin 256) (j : Fin 64) :
    kernelRun0_A.sl.v227 (F := Ideal) c i arg2 harg2 arg7 harg7 arg8 harg8 arg14 harg14 x0 x5 x6 x12 (ix2 j r) = imps (kqn x0 x5 r) (kkc x6) (256 * (i 1).val + r.val) j := by
  have hi : (i 1).val < 16 := (i 1).isLt
  pointwise [kernelRun0_A.sl.v227, kernelRun0_A.sl.v226, kernelRun0_A.sl.cst_64, kernelRun0_A.sl.v225, kernelRun0_A.sl.r_3, kernelRun0_A.sl.r_4, kernelRun0_A.sl.r_5, kernelRun0_A.sl.r_1, kernelRun0_A.sl.r_2, k0_pay76]
  rw [v0_at, whole3' arg8 harg8 x6, whole2' arg14 harg14 x12, pay74_at _ (by omega), pay75_at _ (by omega), mask_bot]
  rw [pay72_at _ (by omega) _ _ _ _ x6 (kqn x0 x5 r) r (v26_at c arg2 harg2 arg7 harg7 x0 x5 r) (v58_at c arg2 harg2 arg7 harg7 x0 x5 r) (v90_at c arg2 harg2 arg7 harg7 x0 x5 r) (v122_at c arg2 harg2 arg7 harg7 x0 x5 r) x12 hO j]
  rfl
end

end Cert.NsaKernelIdeal.Pure
-- ==== Proof.NsaRank.lean ====
module

public import proofs.«01_k».proof.Proof.NsaImp
public import proofs.«01_k».proof.Proof.NsaSpec
public import Idealize.ShloMosaic.Lib.Pointwise
public import Idealize.ShloMosaic.Lib.WordCmp
public import Idealize.ShloMosaic.Lib.WritesUnit

/-! The attention kernel before its loop: the number of blocks before each block, and the selection. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- One step of counting: which blocks row `n`'s block comes before. -/
def step (n : ℕ) (im cnt : FVec Ideal S64x256 .f32) (row : Vec Ideal S1x256 .f32) : FVec Ideal S64x256 .f32 :=
  addf cnt (select (cmpi .sgt kernelRun0_A.sl.v189 (broadcast S64x256 (BitVec.ofNat 32 n)))
    (select (cmpf .oge (broadcastTo S64x256 row broadcasts_S1x256_S64x256) im) kernelRun0_A.sl.v235 kernelRun0_A.sl.v231)
    (select (cmpf .ogt (broadcastTo S64x256 row broadcasts_S1x256_S64x256) im) kernelRun0_A.sl.v235 kernelRun0_A.sl.v231))

/-- The number one. -/
theorem one_bits : Ideal.ofBits .f32 0x3F800000#32 = 1 := by
  simp [Ideal.ofBits, Ideal.ieee]
  rw [← EReal.coe_mul]
  norm_num

/-- The number sixteen, as a real. -/
theorem sixteen_real : Ideal.ofBits .f32 0x41800000#32 = ((16 : ℝ) : EReal) := by
  simp [Ideal.ofBits, Ideal.ieee]
  rw [← EReal.coe_mul]
  norm_num

/-- The number sixteen. -/
theorem sixteen : Ideal.ofBits .f32 0x41800000#32 = ((16 : ℕ) : EReal) := by
  rw [sixteen_real, ← EReal.coe_natCast]
  norm_num

/-- A choice on "at least". -/
theorem sel_oge (a b x y : EReal) : Scalar.select (Ideal.cmp .oge a b) x y = if b ≤ a then x else y := by
  by_cases h : b ≤ a
  · rw [if_pos h]; simp [Ideal.cmp, Scalar.select, h]
  · rw [if_neg h]; simp [Ideal.cmp, Scalar.select, h]

/-- A choice on "more". -/
theorem sel_ogt (a b x y : EReal) : Scalar.select (Ideal.cmp .ogt a b) x y = if b < a then x else y := by
  by_cases h : b < a
  · rw [if_pos h]; simp [Ideal.cmp, Scalar.select, h]
  · rw [if_neg h]; simp [Ideal.cmp, Scalar.select, h]

/-- A choice on "less". -/
theorem sel_olt (a b x y : EReal) : Scalar.select (Ideal.cmp .olt a b) x y = if a < b then x else y := by
  by_cases h : a < b
  · rw [if_pos h]; simp [Ideal.cmp, Scalar.select, h]
  · rw [if_neg h]; simp [Ideal.cmp, Scalar.select, h]

/-- What one step adds, at any number. -/
def beats (s : Fin 64 → EReal) (j : Fin 64) (n : ℕ) : EReal := if h : n < 64 then beat s j ⟨n, h⟩ else 0

/-- One step adds its block's comparison. -/
theorem step_at (n : ℕ) (hn : n < 64) (im cnt : FVec Ideal S64x256 .f32) (row : Vec Ideal S1x256 .f32) (s : Fin 64 → EReal) (j : Fin 64) (r : Fin 256)
    (hi : im (ix2 j r) = s j) (hr : row (ix2 0 r) = s ⟨n, hn⟩) : step n im cnt row (ix2 j r) = cnt (ix2 j r) + beats s j n := by
  have hsel : ∀ x y : EReal, Scalar.select (IntOp.cmpi .sgt (BitVec.ofNat 32 j.val) (BitVec.ofNat 32 n)) x y = if n < j.val then x else y := by
    intro x y
    rw [WordCmp.cmpi_sgt_ofNat (by omega) (by omega)]
    exact select_bool _ x y
  pointwise [step, kernelRun0_A.sl.v189, kernelRun0_A.sl.v235, kernelRun0_A.sl.v231, kernelRun0_A.sl.cst_67, kernelRun0_A.sl.cst_70]
  simp only [hsel, hi, hr]
  rw [beats, dif_pos hn, beat, ← one_bits]

section
variable (c : Dev nD) (i : grid0.Coords) (arg2 : Memref sig .tc .vmem S1x256x256 .f32) (harg2 : arg2.IsWhole) (arg7 : Memref sig .tc .vmem S1x64 .f32) (harg7 : arg7.IsWhole)
  (arg8 : Memref sig .tc .vmem S1x256x64 .bf16) (harg8 : arg8.IsWhole) (arg14 : Memref sig .tc .vmem S64x256 .bf16) (harg14 : arg14.IsWhole) (arg17 : Memref sig .tc .vmem S64x256 .f32)
  (x0 : Vec Ideal S1x256x256 .f32) (x5 : Vec Ideal S1x64 .f32) (x6 : Vec Ideal S1x256x64 .bf16) (x12 : Vec Ideal S64x256 .bf16)

/-- Reading a row of the stored importances. -/
theorem row_at (n : ℕ) (hn : n < 64) (w : Vec Ideal S64x256 .f32) (q : ∀ a, (![0, 0] : Fin 2 → ℕ) a + S64x256.size a ≤ S64x256.size a) (q' : ∀ a, (![n, 0] : Fin 2 → ℕ) a + S1x256.size a ≤ S64x256.size a) (r : Fin 256) :
    arg17.view.readCov (Val := Elt Ideal) [⟨Rect.unit (s := S64x256) ![0, 0] S64x256.size q, w⟩] (Rect.unit (s := S64x256) ![n, 0] S1x256.size q').toLoadRect (ix2 (0 : Fin 1) r) = w (ix2 ⟨n, hn⟩ r) :=
  (rd2 arg17.view _ _ _ q' _ (ix2 ⟨n, hn⟩ r) (by simp) (by simp)).trans
    (View.read_writes_cons_unit_of_mem arg17.view _ q w [] (ix2 ⟨n, hn⟩ r) (ix2 ⟨n, hn⟩ r) rfl (fun a => by
      match a with
      | ⟨0, _⟩ => show n = 0 + n; omega
      | ⟨1, _⟩ => show r.val = 0 + r.val; omega))

/-- The importances stored and read back, row by row. -/
theorem stored_at (hO : Covers x12) (n : ℕ) (hn : n < 64) (q' : ∀ a, (![n, 0] : Fin 2 → ℕ) a + S1x256.size a ≤ S64x256.size a) (r : Fin 256) :
    arg17.view.readCov (Val := Elt Ideal) (kernelRun0_A.sl.HS0_1 (F := Ideal) c i arg2 harg2 arg7 harg7 arg8 harg8 arg14 harg14 x0 x5 x6 x12) (Rect.unit (s := S64x256) ![n, 0] S1x256.size q').toLoadRect (ix2 (0 : Fin 1) r) = imps (kqn x0 x5 r) (kkc x6) (256 * (i 1).val + r.val) ⟨n, hn⟩ := by
  refine (row_at arg17 n hn _ _ q' r).trans ?_
  pointwise [kernelRun0_A.sl.v230]
  exact v227_at c i arg2 harg2 arg7 harg7 arg8 harg8 arg14 harg14 x0 x5 x6 x12 hO r ⟨n, hn⟩

/-- No block counted. -/
theorem cnt0 (s : Fin 64 → EReal) (r : Fin 256) (j : Fin 64) : kernelRun0_A.sl.v231 (F := Ideal) (ix2 j r) = ∑ k ∈ Finset.range 0, beats s j k := by
  pointwise [kernelRun0_A.sl.v231, kernelRun0_A.sl.cst_67]
  rfl

/-- After 1 of the comparisons the count holds how many of the first 1 blocks beat block `j`. -/
theorem cnt1 (hO : Covers x12) (r : Fin 256) (j : Fin 64) : kernelRun0_A.sl.v246 (F := Ideal) c i arg2 harg2 arg7 harg7 arg8 harg8 arg14 harg14 arg17 x0 x5 x6 x12 (ix2 j r) = ∑ k ∈ Finset.range 1, beats (imps (kqn x0 x5 r) (kkc x6) (256 * (i 1).val + r.val)) j k := by
  rw [Finset.sum_range_succ, ← cnt0 _ r j]
  exact step_at 0 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 0 (by omega) _ r)

/-- After 2 of the comparisons the count holds how many of the first 2 blocks beat block `j`. -/
theorem cnt2 (hO : Covers x12) (r : Fin 256) (j : Fin 64) : kernelRun0_A.sl.v261 (F := Ideal) c i arg2 harg2 arg7 harg7 arg8 harg8 arg14 harg14 arg17 x0 x5 x6 x12 (ix2 j r) = ∑ k ∈ Finset.range 2, beats (imps (kqn x0 x5 r) (kkc x6) (256 * (i 1).val + r.val)) j k := by
  rw [Finset.sum_range_succ, ← cnt1 c i arg2 harg2 arg7 harg7 arg8 harg8 arg14 harg14 arg17 x0 x5 x6 x12 hO r j]
  exact step_at 1 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 1 (by omega) _ r)

/-- After 3 of the comparisons the count holds how many of the first 3 blocks beat block `j`. -/
theorem cnt3 (hO : Covers x12) (r : Fin 256) (j : Fin 64) : kernelRun0_A.sl.v276 (F := Ideal) c i arg2 harg2 arg7 harg7 arg8 harg8 arg14 harg14 arg17 x0 x5 x6 x12 (ix2 j r) = ∑ k ∈ Finset.range 3, beats (imps (kqn x0 x5 r) (kkc x6) (256 * (i 1).val + r.val)) j k := by
  rw [Finset.sum_range_succ, ← cnt2 c i arg2 harg2 arg7 harg7 arg8 harg8 arg14 harg14 arg17 x0 x5 x6 x12 hO r j]
  exact step_at 2 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 2 (by omega) _ r)

/-- After 4 of the comparisons the count holds how many of the first 4 blocks beat block `j`. -/
theorem cnt4 (hO : Covers x12) (r : Fin 256) (j : Fin 64) : kernelRun0_A.sl.v291 (F := Ideal) c i arg2 harg2 arg7 harg7 arg8 harg8 arg14 harg14 arg17 x0 x5 x6 x12 (ix2 j r) = ∑ k ∈ Finset.range 4, beats (imps (kqn x0 x5 r) (kkc x6) (256 * (i 1).val + r.val)) j k := by
  rw [Finset.sum_range_succ, ← cnt3 c i arg2 harg2 arg7 harg7 arg8 harg8 arg14 harg14 arg17 x0 x5 x6 x12 hO r j]
  exact step_at 3 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 3 (by omega) _ r)

/-- After 5 of the comparisons the count holds how many of the first 5 blocks beat block `j`. -/
theorem cnt5 (hO : Covers x12) (r : Fin 256) (j : Fin 64) : kernelRun0_A.sl.v306 (F := Ideal) c i arg2 harg2 arg7 harg7 arg8 harg8 arg14 harg14 arg17 x0 x5 x6 x12 (ix2 j r) = ∑ k ∈ Finset.range 5, beats (imps (kqn x0 x5 r) (kkc x6) (256 * (i 1).val + r.val)) j k := by
  rw [Finset.sum_range_succ, ← cnt4 c i arg2 harg2 arg7 harg7 arg8 harg8 arg14 harg14 arg17 x0 x5 x6 x12 hO r j]
  exact step_at 4 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 4 (by omega) _ r)

/-- After 6 of the comparisons the count holds how many of the first 6 blocks beat block `j`. -/
theorem cnt6 (hO : Covers x12) (r : Fin 256) (j : Fin 64) : kernelRun0_A.sl.v321 (F := Ideal) c i arg2 harg2 arg7 harg7 arg8 harg8 arg14 harg14 arg17 x0 x5 x6 x12 (ix2 j r) = ∑ k ∈ Finset.range 6, beats (imps (kqn x0 x5 r) (kkc x6) (256 * (i 1).val + r.val)) j k := by
  rw [Finset.sum_range_succ, ← cnt5 c i arg2 harg2 arg7 harg7 arg8 harg8 arg14 harg14 arg17 x0 x5 x6 x12 hO r j]
  exact step_at 5 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 5 (by omega) _ r)

/-- After 7 of the comparisons the count holds how many of the first 7 blocks beat block `j`. -/
theorem cnt7 (hO : Covers x12) (r : Fin 256) (j : Fin 64) : kernelRun0_A.sl.v336 (F := Ideal) c i arg2 harg2 arg7 harg7 arg8 harg8 arg14 harg14 arg17 x0 x5 x6 x12 (ix2 j r) = ∑ k ∈ Finset.range 7, beats (imps (kqn x0 x5 r) (kkc x6) (256 * (i 1).val + r.val)) j k := by
  rw [Finset.sum_range_succ, ← cnt6 c i arg2 harg2 arg7 harg7 arg8 harg8 arg14 harg14 arg17 x0 x5 x6 x12 hO r j]
  exact step_at 6 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 6 (by omega) _ r)

/-- After 8 of the comparisons the count holds how many of the first 8 blocks beat block `j`. -/
theorem cnt8 (hO : Covers x12) (r : Fin 256) (j : Fin 64) : kernelRun0_A.sl.v351 (F := Ideal) c i arg2 harg2 arg7 harg7 arg8 harg8 arg14 harg14 arg17 x0 x5 x6 x12 (ix2 j r) = ∑ k ∈ Finset.range 8, beats (imps (kqn x0 x5 r) (kkc x6) (256 * (i 1).val + r.val)) j k := by
  rw [Finset.sum_range_succ, ← cnt7 c i arg2 harg2 arg7 harg7 arg8 harg8 arg14 harg14 arg17 x0 x5 x6 x12 hO r j]
  exact step_at 7 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 7 (by omega) _ r)

/-- After 9 of the comparisons the count holds how many of the first 9 blocks beat block `j`. -/
theorem cnt9 (hO : Covers x12) (r : Fin 256) (j : Fin 64) : kernelRun0_A.sl.v366 (F := Ideal) c i arg2 harg2 arg7 harg7 arg8 harg8 arg14 harg14 arg17 x0 x5 x6 x12 (ix2 j r) = ∑ k ∈ Finset.range 9, beats (imps (kqn x0 x5 r) (kkc x6) (256 * (i 1).val + r.val)) j k := by
  rw [Finset.sum_range_succ, ← cnt8 c i arg2 harg2 arg7 harg7 arg8 harg8 arg14 harg14 arg17 x0 x5 x6 x12 hO r j]
  exact step_at 8 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 8 (by omega) _ r)

/-- After 10 of the comparisons the count holds how many of the first 10 blocks beat block `j`. -/
theorem cnt10 (hO : Covers x12) (r : Fin 256) (j : Fin 64) : kernelRun0_A.sl.v381 (F := Ideal) c i arg2 harg2 arg7 harg7 arg8 harg8 arg14 harg14 arg17 x0 x5 x6 x12 (ix2 j r) = ∑ k ∈ Finset.range 10, beats (imps (kqn x0 x5 r) (kkc x6) (256 * (i 1).val + r.val)) j k := by
  rw [Finset.sum_range_succ, ← cnt9 c i arg2 harg2 arg7 harg7 arg8 harg8 arg14 harg14 arg17 x0 x5 x6 x12 hO r j]
  exact step_at 9 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 9 (by omega) _ r)

/-- After 11 of the comparisons the count holds how many of the first 11 blocks beat block `j`. -/
theorem cnt11 (hO : Covers x12) (r : Fin 256) (j : Fin 64) : kernelRun0_A.sl.v396 (F := Ideal) c i arg2 harg2 arg7 harg7 arg8 harg8 arg14 harg14 arg17 x0 x5 x6 x12 (ix2 j r) = ∑ k ∈ Finset.range 11, beats (imps (kqn x0 x5 r) (kkc x6) (256 * (i 1).val + r.val)) j k := by
  rw [Finset.sum_range_succ, ← cnt10 c i arg2 harg2 arg7 harg7 arg8 harg8 arg14 harg14 arg17 x0 x5 x6 x12 hO r j]
  exact step_at 10 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 10 (by omega) _ r)

/-- After 12 of the comparisons the count holds how many of the first 12 blocks beat block `j`. -/
theorem cnt12 (hO : Covers x12) (r : Fin 256) (j : Fin 64) : kernelRun0_A.sl.v411 (F := Ideal) c i arg2 harg2 arg7 harg7 arg8 harg8 arg14 harg14 arg17 x0 x5 x6 x12 (ix2 j r) = ∑ k ∈ Finset.range 12, beats (imps (kqn x0 x5 r) (kkc x6) (256 * (i 1).val + r.val)) j k := by
  rw [Finset.sum_range_succ, ← cnt11 c i arg2 harg2 arg7 harg7 arg8 harg8 arg14 harg14 arg17 x0 x5 x6 x12 hO r j]
  exact step_at 11 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 11 (by omega) _ r)

/-- After 13 of the comparisons the count holds how many of the first 13 blocks beat block `j`. -/
theorem cnt13 (hO : Covers x12) (r : Fin 256) (j : Fin 64) : kernelRun0_A.sl.v426 (F := Ideal) c i arg2 harg2 arg7 harg7 arg8 harg8 arg14 harg14 arg17 x0 x5 x6 x12 (ix2 j r) = ∑ k ∈ Finset.range 13, beats (imps (kqn x0 x5 r) (kkc x6) (256 * (i 1).val + r.val)) j k := by
  rw [Finset.sum_range_succ, ← cnt12 c i arg2 harg2 arg7 harg7 arg8 harg8 arg14 harg14 arg17 x0 x5 x6 x12 hO r j]
  exact step_at 12 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 12 (by omega) _ r)

/-- After 14 of the comparisons the count holds how many of the first 14 blocks beat block `j`. -/
theorem cnt14 (hO : Covers x12) (r : Fin 256) (j : Fin 64) : kernelRun0_A.sl.v441 (F := Ideal) c i arg2 harg2 arg7 harg7 arg8 harg8 arg14 harg14 arg17 x0 x5 x6 x12 (ix2 j r) = ∑ k ∈ Finset.range 14, beats (imps (kqn x0 x5 r) (kkc x6) (256 * (i 1).val + r.val)) j k := by
  rw [Finset.sum_range_succ, ← cnt13 c i arg2 harg2 arg7 harg7 arg8 harg8 arg14 harg14 arg17 x0 x5 x6 x12 hO r j]
  exact step_at 13 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 13 (by omega) _ r)

/-- After 15 of the comparisons the count holds how many of the first 15 blocks beat block `j`. -/
theorem cnt15 (hO : Covers x12) (r : Fin 256) (j : Fin 64) : kernelRun0_A.sl.v456 (F := Ideal) c i arg2 harg2 arg7 harg7 arg8 harg8 arg14 harg14 arg17 x0 x5 x6 x12 (ix2 j r) = ∑ k ∈ Finset.range 15, beats (imps (kqn x0 x5 r) (kkc x6) (256 * (i 1).val + r.val)) j k := by
  rw [Finset.sum_range_succ, ← cnt14 c i arg2 harg2 arg7 harg7 arg8 harg8 arg14 harg14 arg17 x0 x5 x6 x12 hO r j]
  exact step_at 14 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 14 (by omega) _ r)

/-- After 16 of the comparisons the count holds how many of the first 16 blocks beat block `j`. -/
theorem cnt16 (hO : Covers x12) (r : Fin 256) (j : Fin 64) : kernelRun0_A.sl.v471 (F := Ideal) c i arg2 harg2 arg7 harg7 arg8 harg8 arg14 harg14 arg17 x0 x5 x6 x12 (ix2 j r) = ∑ k ∈ Finset.range 16, beats (imps (kqn x0 x5 r) (kkc x6) (256 * (i 1).val + r.val)) j k := by
  rw [Finset.sum_range_succ, ← cnt15 c i arg2 harg2 arg7 harg7 arg8 harg8 arg14 harg14 arg17 x0 x5 x6 x12 hO r j]
  exact step_at 15 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 15 (by omega) _ r)

/-- After 17 of the comparisons the count holds how many of the first 17 blocks beat block `j`. -/
theorem cnt17 (hO : Covers x12) (r : Fin 256) (j : Fin 64) : kernelRun0_A.sl.v486 (F := Ideal) c i arg2 harg2 arg7 harg7 arg8 harg8 arg14 harg14 arg17 x0 x5 x6 x12 (ix2 j r) = ∑ k ∈ Finset.range 17, beats (imps (kqn x0 x5 r) (kkc x6) (256 * (i 1).val + r.val)) j k := by
  rw [Finset.sum_range_succ, ← cnt16 c i arg2 harg2 arg7 harg7 arg8 harg8 arg14 harg14 arg17 x0 x5 x6 x12 hO r j]
  exact step_at 16 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 16 (by omega) _ r)

/-- After 18 of the comparisons the count holds how many of the first 18 blocks beat block `j`. -/
theorem cnt18 (hO : Covers x12) (r : Fin 256) (j : Fin 64) : kernelRun0_A.sl.v501 (F := Ideal) c i arg2 harg2 arg7 harg7 arg8 harg8 arg14 harg14 arg17 x0 x5 x6 x12 (ix2 j r) = ∑ k ∈ Finset.range 18, beats (imps (kqn x0 x5 r) (kkc x6) (256 * (i 1).val + r.val)) j k := by
  rw [Finset.sum_range_succ, ← cnt17 c i arg2 harg2 arg7 harg7 arg8 harg8 arg14 harg14 arg17 x0 x5 x6 x12 hO r j]
  exact step_at 17 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 17 (by omega) _ r)

/-- After 19 of the comparisons the count holds how many of the first 19 blocks beat block `j`. -/
theorem cnt19 (hO : Covers x12) (r : Fin 256) (j : Fin 64) : kernelRun0_A.sl.v516 (F := Ideal) c i arg2 harg2 arg7 harg7 arg8 harg8 arg14 harg14 arg17 x0 x5 x6 x12 (ix2 j r) = ∑ k ∈ Finset.range 19, beats (imps (kqn x0 x5 r) (kkc x6) (256 * (i 1).val + r.val)) j k := by
  rw [Finset.sum_range_succ, ← cnt18 c i arg2 harg2 arg7 harg7 arg8 harg8 arg14 harg14 arg17 x0 x5 x6 x12 hO r j]
  exact step_at 18 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 18 (by omega) _ r)

/-- After 20 of the comparisons the count holds how many of the first 20 blocks beat block `j`. -/
theorem cnt20 (hO : Covers x12) (r : Fin 256) (j : Fin 64) : kernelRun0_A.sl.v531 (F := Ideal) c i arg2 harg2 arg7 harg7 arg8 harg8 arg14 harg14 arg17 x0 x5 x6 x12 (ix2 j r) = ∑ k ∈ Finset.range 20, beats (imps (kqn x0 x5 r) (kkc x6) (256 * (i 1).val + r.val)) j k := by
  rw [Finset.sum_range_succ, ← cnt19 c i arg2 harg2 arg7 harg7 arg8 harg8 arg14 harg14 arg17 x0 x5 x6 x12 hO r j]
  exact step_at 19 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 19 (by omega) _ r)

/-- After 21 of the comparisons the count holds how many of the first 21 blocks beat block `j`. -/
theorem cnt21 (hO : Covers x12) (r : Fin 256) (j : Fin 64) : kernelRun0_A.sl.v546 (F := Ideal) c i arg2 harg2 arg7 harg7 arg8 harg8 arg14 harg14 arg17 x0 x5 x6 x12 (ix2 j r) = ∑ k ∈ Finset.range 21, beats (imps (kqn x0 x5 r) (kkc x6) (256 * (i 1).val + r.val)) j k := by
  rw [Finset.sum_range_succ, ← cnt20 c i arg2 harg2 arg7 harg7 arg8 harg8 arg14 harg14 arg17 x0 x5 x6 x12 hO r j]
  exact step_at 20 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 20 (by omega) _ r)

/-- After 22 of the comparisons the count holds how many of the first 22 blocks beat block `j`. -/
theorem cnt22 (hO : Covers x12) (r : Fin 256) (j : Fin 64) : kernelRun0_A.sl.v561 (F := Ideal) c i arg2 harg2 arg7 harg7 arg8 harg8 arg14 harg14 arg17 x0 x5 x6 x12 (ix2 j r) = ∑ k ∈ Finset.range 22, beats (imps (kqn x0 x5 r) (kkc x6) (256 * (i 1).val + r.val)) j k := by
  rw [Finset.sum_range_succ, ← cnt21 c i arg2 harg2 arg7 harg7 arg8 harg8 arg14 harg14 arg17 x0 x5 x6 x12 hO r j]
  exact step_at 21 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 21 (by omega) _ r)

/-- After 23 of the comparisons the count holds how many of the first 23 blocks beat block `j`. -/
theorem cnt23 (hO : Covers x12) (r : Fin 256) (j : Fin 64) : kernelRun0_A.sl.v576 (F := Ideal) c i arg2 harg2 arg7 harg7 arg8 harg8 arg14 harg14 arg17 x0 x5 x6 x12 (ix2 j r) = ∑ k ∈ Finset.range 23, beats (imps (kqn x0 x5 r) (kkc x6) (256 * (i 1).val + r.val)) j k := by
  rw [Finset.sum_range_succ, ← cnt22 c i arg2 harg2 arg7 harg7 arg8 harg8 arg14 harg14 arg17 x0 x5 x6 x12 hO r j]
  exact step_at 22 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 22 (by omega) _ r)

/-- After 24 of the comparisons the count holds how many of the first 24 blocks beat block `j`. -/
theorem cnt24 (hO : Covers x12) (r : Fin 256) (j : Fin 64) : kernelRun0_A.sl.v591 (F := Ideal) c i arg2 harg2 arg7 harg7 arg8 harg8 arg14 harg14 arg17 x0 x5 x6 x12 (ix2 j r) = ∑ k ∈ Finset.range 24, beats (imps (kqn x0 x5 r) (kkc x6) (256 * (i 1).val + r.val)) j k := by
  rw [Finset.sum_range_succ, ← cnt23 c i arg2 harg2 arg7 harg7 arg8 harg8 arg14 harg14 arg17 x0 x5 x6 x12 hO r j]
  exact step_at 23 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 23 (by omega) _ r)

/-- After 25 of the comparisons the count holds how many of the first 25 blocks beat block `j`. -/
theorem cnt25 (hO : Covers x12) (r : Fin 256) (j : Fin 64) : kernelRun0_A.sl.v606 (F := Ideal) c i arg2 harg2 arg7 harg7 arg8 harg8 arg14 harg14 arg17 x0 x5 x6 x12 (ix2 j r) = ∑ k ∈ Finset.range 25, beats (imps (kqn x0 x5 r) (kkc x6) (256 * (i 1).val + r.val)) j k := by
  rw [Finset.sum_range_succ, ← cnt24 c i arg2 harg2 arg7 harg7 arg8 harg8 arg14 harg14 arg17 x0 x5 x6 x12 hO r j]
  exact step_at 24 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 24 (by omega) _ r)

/-- After 26 of the comparisons the count holds how many of the first 26 blocks beat block `j`. -/
theorem cnt26 (hO : Covers x12) (r : Fin 256) (j : Fin 64) : kernelRun0_A.sl.v621 (F := Ideal) c i arg2 harg2 arg7 harg7 arg8 harg8 arg14 harg14 arg17 x0 x5 x6 x12 (ix2 j r) = ∑ k ∈ Finset.range 26, beats (imps (kqn x0 x5 r) (kkc x6) (256 * (i 1).val + r.val)) j k := by
  rw [Finset.sum_range_succ, ← cnt25 c i arg2 harg2 arg7 harg7 arg8 harg8 arg14 harg14 arg17 x0 x5 x6 x12 hO r j]
  exact step_at 25 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 25 (by omega) _ r)

/-- After 27 of the comparisons the count holds how many of the first 27 blocks beat block `j`. -/
theorem cnt27 (hO : Covers x12) (r : Fin 256) (j : Fin 64) : kernelRun0_A.sl.v636 (F := Ideal) c i arg2 harg2 arg7 harg7 arg8 harg8 arg14 harg14 arg17 x0 x5 x6 x12 (ix2 j r) = ∑ k ∈ Finset.range 27, beats (imps (kqn x0 x5 r) (kkc x6) (256 * (i 1).val + r.val)) j k := by
  rw [Finset.sum_range_succ, ← cnt26 c i arg2 harg2 arg7 harg7 arg8 harg8 arg14 harg14 arg17 x0 x5 x6 x12 hO r j]
  exact step_at 26 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 26 (by omega) _ r)

/-- After 28 of the comparisons the count holds how many of the first 28 blocks beat block `j`. -/
theorem cnt28 (hO : Covers x12) (r : Fin 256) (j : Fin 64) : kernelRun0_A.sl.v651 (F := Ideal) c i arg2 harg2 arg7 harg7 arg8 harg8 arg14 harg14 arg17 x0 x5 x6 x12 (ix2 j r) = ∑ k ∈ Finset.range 28, beats (imps (kqn x0 x5 r) (kkc x6) (256 * (i 1).val + r.val)) j k := by
  rw [Finset.sum_range_succ, ← cnt27 c i arg2 harg2 arg7 harg7 arg8 harg8 arg14 harg14 arg17 x0 x5 x6 x12 hO r j]
  exact step_at 27 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 27 (by omega) _ r)

/-- After 29 of the comparisons the count holds how many of the first 29 blocks beat block `j`. -/
theorem cnt29 (hO : Covers x12) (r : Fin 256) (j : Fin 64) : kernelRun0_A.sl.v666 (F := Ideal) c i arg2 harg2 arg7 harg7 arg8 harg8 arg14 harg14 arg17 x0 x5 x6 x12 (ix2 j r) = ∑ k ∈ Finset.range 29, beats (imps (kqn x0 x5 r) (kkc x6) (256 * (i 1).val + r.val)) j k := by
  rw [Finset.sum_range_succ, ← cnt28 c i arg2 harg2 arg7 harg7 arg8 harg8 arg14 harg14 arg17 x0 x5 x6 x12 hO r j]
  exact step_at 28 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 28 (by omega) _ r)

/-- After 30 of the comparisons the count holds how many of the first 30 blocks beat block `j`. -/
theorem cnt30 (hO : Covers x12) (r : Fin 256) (j : Fin 64) : kernelRun0_A.sl.v681 (F := Ideal) c i arg2 harg2 arg7 harg7 arg8 harg8 arg14 harg14 arg17 x0 x5 x6 x12 (ix2 j r) = ∑ k ∈ Finset.range 30, beats (imps (kqn x0 x5 r) (kkc x6) (256 * (i 1).val + r.val)) j k := by
  rw [Finset.sum_range_succ, ← cnt29 c i arg2 harg2 arg7 harg7 arg8 harg8 arg14 harg14 arg17 x0 x5 x6 x12 hO r j]
  exact step_at 29 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 29 (by omega) _ r)

/-- After 31 of the comparisons the count holds how many of the first 31 blocks beat block `j`. -/
theorem cnt31 (hO : Covers x12) (r : Fin 256) (j : Fin 64) : kernelRun0_A.sl.v696 (F := Ideal) c i arg2 harg2 arg7 harg7 arg8 harg8 arg14 harg14 arg17 x0 x5 x6 x12 (ix2 j r) = ∑ k ∈ Finset.range 31, beats (imps (kqn x0 x5 r) (kkc x6) (256 * (i 1).val + r.val)) j k := by
  rw [Finset.sum_range_succ, ← cnt30 c i arg2 harg2 arg7 harg7 arg8 harg8 arg14 harg14 arg17 x0 x5 x6 x12 hO r j]
  exact step_at 30 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 30 (by omega) _ r)

/-- After 32 of the comparisons the count holds how many of the first 32 blocks beat block `j`. -/
theorem cnt32 (hO : Covers x12) (r : Fin 256) (j : Fin 64) : kernelRun0_A.sl.v711 (F := Ideal) c i arg2 harg2 arg7 harg7 arg8 harg8 arg14 harg14 arg17 x0 x5 x6 x12 (ix2 j r) = ∑ k ∈ Finset.range 32, beats (imps (kqn x0 x5 r) (kkc x6) (256 * (i 1).val + r.val)) j k := by
  rw [Finset.sum_range_succ, ← cnt31 c i arg2 harg2 arg7 harg7 arg8 harg8 arg14 harg14 arg17 x0 x5 x6 x12 hO r j]
  exact step_at 31 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 31 (by omega) _ r)

/-- After 33 of the comparisons the count holds how many of the first 33 blocks beat block `j`. -/
theorem cnt33 (hO : Covers x12) (r : Fin 256) (j : Fin 64) : kernelRun0_A.sl.v726 (F := Ideal) c i arg2 harg2 arg7 harg7 arg8 harg8 arg14 harg14 arg17 x0 x5 x6 x12 (ix2 j r) = ∑ k ∈ Finset.range 33, beats (imps (kqn x0 x5 r) (kkc x6) (256 * (i 1).val + r.val)) j k := by
  rw [Finset.sum_range_succ, ← cnt32 c i arg2 harg2 arg7 harg7 arg8 harg8 arg14 harg14 arg17 x0 x5 x6 x12 hO r j]
  exact step_at 32 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 32 (by omega) _ r)

/-- After 34 of the comparisons the count holds how many of the first 34 blocks beat block `j`. -/
theorem cnt34 (hO : Covers x12) (r : Fin 256) (j : Fin 64) : kernelRun0_A.sl.v741 (F := Ideal) c i arg2 harg2 arg7 harg7 arg8 harg8 arg14 harg14 arg17 x0 x5 x6 x12 (ix2 j r) = ∑ k ∈ Finset.range 34, beats (imps (kqn x0 x5 r) (kkc x6) (256 * (i 1).val + r.val)) j k := by
  rw [Finset.sum_range_succ, ← cnt33 c i arg2 harg2 arg7 harg7 arg8 harg8 arg14 harg14 arg17 x0 x5 x6 x12 hO r j]
  exact step_at 33 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 33 (by omega) _ r)

/-- After 35 of the comparisons the count holds how many of the first 35 blocks beat block `j`. -/
theorem cnt35 (hO : Covers x12) (r : Fin 256) (j : Fin 64) : kernelRun0_A.sl.v756 (F := Ideal) c i arg2 harg2 arg7 harg7 arg8 harg8 arg14 harg14 arg17 x0 x5 x6 x12 (ix2 j r) = ∑ k ∈ Finset.range 35, beats (imps (kqn x0 x5 r) (kkc x6) (256 * (i 1).val + r.val)) j k := by
  rw [Finset.sum_range_succ, ← cnt34 c i arg2 harg2 arg7 harg7 arg8 harg8 arg14 harg14 arg17 x0 x5 x6 x12 hO r j]
  exact step_at 34 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 34 (by omega) _ r)

/-- After 36 of the comparisons the count holds how many of the first 36 blocks beat block `j`. -/
theorem cnt36 (hO : Covers x12) (r : Fin 256) (j : Fin 64) : kernelRun0_A.sl.v771 (F := Ideal) c i arg2 harg2 arg7 harg7 arg8 harg8 arg14 harg14 arg17 x0 x5 x6 x12 (ix2 j r) = ∑ k ∈ Finset.range 36, beats (imps (kqn x0 x5 r) (kkc x6) (256 * (i 1).val + r.val)) j k := by
  rw [Finset.sum_range_succ, ← cnt35 c i arg2 harg2 arg7 harg7 arg8 harg8 arg14 harg14 arg17 x0 x5 x6 x12 hO r j]
  exact step_at 35 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 35 (by omega) _ r)

/-- After 37 of the comparisons the count holds how many of the first 37 blocks beat block `j`. -/
theorem cnt37 (hO : Covers x12) (r : Fin 256) (j : Fin 64) : kernelRun0_A.sl.v786 (F := Ideal) c i arg2 harg2 arg7 harg7 arg8 harg8 arg14 harg14 arg17 x0 x5 x6 x12 (ix2 j r) = ∑ k ∈ Finset.range 37, beats (imps (kqn x0 x5 r) (kkc x6) (256 * (i 1).val + r.val)) j k := by
  rw [Finset.sum_range_succ, ← cnt36 c i arg2 harg2 arg7 harg7 arg8 harg8 arg14 harg14 arg17 x0 x5 x6 x12 hO r j]
  exact step_at 36 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 36 (by omega) _ r)

/-- After 38 of the comparisons the count holds how many of the first 38 blocks beat block `j`. -/
theorem cnt38 (hO : Covers x12) (r : Fin 256) (j : Fin 64) : kernelRun0_A.sl.v801 (F := Ideal) c i arg2 harg2 arg7 harg7 arg8 harg8 arg14 harg14 arg17 x0 x5 x6 x12 (ix2 j r) = ∑ k ∈ Finset.range 38, beats (imps (kqn x0 x5 r) (kkc x6) (256 * (i 1).val + r.val)) j k := by
  rw [Finset.sum_range_succ, ← cnt37 c i arg2 harg2 arg7 harg7 arg8 harg8 arg14 harg14 arg17 x0 x5 x6 x12 hO r j]
  exact step_at 37 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 37 (by omega) _ r)

/-- After 39 of the comparisons the count holds how many of the first 39 blocks beat block `j`. -/
theorem cnt39 (hO : Covers x12) (r : Fin 256) (j : Fin 64) : kernelRun0_A.sl.v816 (F := Ideal) c i arg2 harg2 arg7 harg7 arg8 harg8 arg14 harg14 arg17 x0 x5 x6 x12 (ix2 j r) = ∑ k ∈ Finset.range 39, beats (imps (kqn x0 x5 r) (kkc x6) (256 * (i 1).val + r.val)) j k := by
  rw [Finset.sum_range_succ, ← cnt38 c i arg2 harg2 arg7 harg7 arg8 harg8 arg14 harg14 arg17 x0 x5 x6 x12 hO r j]
  exact step_at 38 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 38 (by omega) _ r)

/-- After 40 of the comparisons the count holds how many of the first 40 blocks beat block `j`. -/
theorem cnt40 (hO : Covers x12) (r : Fin 256) (j : Fin 64) : kernelRun0_A.sl.v831 (F := Ideal) c i arg2 harg2 arg7 harg7 arg8 harg8 arg14 harg14 arg17 x0 x5 x6 x12 (ix2 j r) = ∑ k ∈ Finset.range 40, beats (imps (kqn x0 x5 r) (kkc x6) (256 * (i 1).val + r.val)) j k := by
  rw [Finset.sum_range_succ, ← cnt39 c i arg2 harg2 arg7 harg7 arg8 harg8 arg14 harg14 arg17 x0 x5 x6 x12 hO r j]
  exact step_at 39 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 39 (by omega) _ r)

/-- After 41 of the comparisons the count holds how many of the first 41 blocks beat block `j`. -/
theorem cnt41 (hO : Covers x12) (r : Fin 256) (j : Fin 64) : kernelRun0_A.sl.v846 (F := Ideal) c i arg2 harg2 arg7 harg7 arg8 harg8 arg14 harg14 arg17 x0 x5 x6 x12 (ix2 j r) = ∑ k ∈ Finset.range 41, beats (imps (kqn x0 x5 r) (kkc x6) (256 * (i 1).val + r.val)) j k := by
  rw [Finset.sum_range_succ, ← cnt40 c i arg2 harg2 arg7 harg7 arg8 harg8 arg14 harg14 arg17 x0 x5 x6 x12 hO r j]
  exact step_at 40 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 40 (by omega) _ r)

/-- After 42 of the comparisons the count holds how many of the first 42 blocks beat block `j`. -/
theorem cnt42 (hO : Covers x12) (r : Fin 256) (j : Fin 64) : kernelRun0_A.sl.v861 (F := Ideal) c i arg2 harg2 arg7 harg7 arg8 harg8 arg14 harg14 arg17 x0 x5 x6 x12 (ix2 j r) = ∑ k ∈ Finset.range 42, beats (imps (kqn x0 x5 r) (kkc x6) (256 * (i 1).val + r.val)) j k := by
  rw [Finset.sum_range_succ, ← cnt41 c i arg2 harg2 arg7 harg7 arg8 harg8 arg14 harg14 arg17 x0 x5 x6 x12 hO r j]
  exact step_at 41 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 41 (by omega) _ r)

/-- After 43 of the comparisons the count holds how many of the first 43 blocks beat block `j`. -/
theorem cnt43 (hO : Covers x12) (r : Fin 256) (j : Fin 64) : kernelRun0_A.sl.v876 (F := Ideal) c i arg2 harg2 arg7 harg7 arg8 harg8 arg14 harg14 arg17 x0 x5 x6 x12 (ix2 j r) = ∑ k ∈ Finset.range 43, beats (imps (kqn x0 x5 r) (kkc x6) (256 * (i 1).val + r.val)) j k := by
  rw [Finset.sum_range_succ, ← cnt42 c i arg2 harg2 arg7 harg7 arg8 harg8 arg14 harg14 arg17 x0 x5 x6 x12 hO r j]
  exact step_at 42 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 42 (by omega) _ r)

/-- After 44 of the comparisons the count holds how many of the first 44 blocks beat block `j`. -/
theorem cnt44 (hO : Covers x12) (r : Fin 256) (j : Fin 64) : kernelRun0_A.sl.v891 (F := Ideal) c i arg2 harg2 arg7 harg7 arg8 harg8 arg14 harg14 arg17 x0 x5 x6 x12 (ix2 j r) = ∑ k ∈ Finset.range 44, beats (imps (kqn x0 x5 r) (kkc x6) (256 * (i 1).val + r.val)) j k := by
  rw [Finset.sum_range_succ, ← cnt43 c i arg2 harg2 arg7 harg7 arg8 harg8 arg14 harg14 arg17 x0 x5 x6 x12 hO r j]
  exact step_at 43 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 43 (by omega) _ r)

/-- After 45 of the comparisons the count holds how many of the first 45 blocks beat block `j`. -/
theorem cnt45 (hO : Covers x12) (r : Fin 256) (j : Fin 64) : kernelRun0_A.sl.v906 (F := Ideal) c i arg2 harg2 arg7 harg7 arg8 harg8 arg14 harg14 arg17 x0 x5 x6 x12 (ix2 j r) = ∑ k ∈ Finset.range 45, beats (imps (kqn x0 x5 r) (kkc x6) (256 * (i 1).val + r.val)) j k := by
  rw [Finset.sum_range_succ, ← cnt44 c i arg2 harg2 arg7 harg7 arg8 harg8 arg14 harg14 arg17 x0 x5 x6 x12 hO r j]
  exact step_at 44 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 44 (by omega) _ r)

/-- After 46 of the comparisons the count holds how many of the first 46 blocks beat block `j`. -/
theorem cnt46 (hO : Covers x12) (r : Fin 256) (j : Fin 64) : kernelRun0_A.sl.v921 (F := Ideal) c i arg2 harg2 arg7 harg7 arg8 harg8 arg14 harg14 arg17 x0 x5 x6 x12 (ix2 j r) = ∑ k ∈ Finset.range 46, beats (imps (kqn x0 x5 r) (kkc x6) (256 * (i 1).val + r.val)) j k := by
  rw [Finset.sum_range_succ, ← cnt45 c i arg2 harg2 arg7 harg7 arg8 harg8 arg14 harg14 arg17 x0 x5 x6 x12 hO r j]
  exact step_at 45 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 45 (by omega) _ r)

/-- After 47 of the comparisons the count holds how many of the first 47 blocks beat block `j`. -/
theorem cnt47 (hO : Covers x12) (r : Fin 256) (j : Fin 64) : kernelRun0_A.sl.v936 (F := Ideal) c i arg2 harg2 arg7 harg7 arg8 harg8 arg14 harg14 arg17 x0 x5 x6 x12 (ix2 j r) = ∑ k ∈ Finset.range 47, beats (imps (kqn x0 x5 r) (kkc x6) (256 * (i 1).val + r.val)) j k := by
  rw [Finset.sum_range_succ, ← cnt46 c i arg2 harg2 arg7 harg7 arg8 harg8 arg14 harg14 arg17 x0 x5 x6 x12 hO r j]
  exact step_at 46 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 46 (by omega) _ r)

/-- After 48 of the comparisons the count holds how many of the first 48 blocks beat block `j`. -/
theorem cnt48 (hO : Covers x12) (r : Fin 256) (j : Fin 64) : kernelRun0_A.sl.v951 (F := Ideal) c i arg2 harg2 arg7 harg7 arg8 harg8 arg14 harg14 arg17 x0 x5 x6 x12 (ix2 j r) = ∑ k ∈ Finset.range 48, beats (imps (kqn x0 x5 r) (kkc x6) (256 * (i 1).val + r.val)) j k := by
  rw [Finset.sum_range_succ, ← cnt47 c i arg2 harg2 arg7 harg7 arg8 harg8 arg14 harg14 arg17 x0 x5 x6 x12 hO r j]
  exact step_at 47 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 47 (by omega) _ r)

/-- After 49 of the comparisons the count holds how many of the first 49 blocks beat block `j`. -/
theorem cnt49 (hO : Covers x12) (r : Fin 256) (j : Fin 64) : kernelRun0_A.sl.v966 (F := Ideal) c i arg2 harg2 arg7 harg7 arg8 harg8 arg14 harg14 arg17 x0 x5 x6 x12 (ix2 j r) = ∑ k ∈ Finset.range 49, beats (imps (kqn x0 x5 r) (kkc x6) (256 * (i 1).val + r.val)) j k := by
  rw [Finset.sum_range_succ, ← cnt48 c i arg2 harg2 arg7 harg7 arg8 harg8 arg14 harg14 arg17 x0 x5 x6 x12 hO r j]
  exact step_at 48 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 48 (by omega) _ r)

/-- After 50 of the comparisons the count holds how many of the first 50 blocks beat block `j`. -/
theorem cnt50 (hO : Covers x12) (r : Fin 256) (j : Fin 64) : kernelRun0_A.sl.v981 (F := Ideal) c i arg2 harg2 arg7 harg7 arg8 harg8 arg14 harg14 arg17 x0 x5 x6 x12 (ix2 j r) = ∑ k ∈ Finset.range 50, beats (imps (kqn x0 x5 r) (kkc x6) (256 * (i 1).val + r.val)) j k := by
  rw [Finset.sum_range_succ, ← cnt49 c i arg2 harg2 arg7 harg7 arg8 harg8 arg14 harg14 arg17 x0 x5 x6 x12 hO r j]
  exact step_at 49 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 49 (by omega) _ r)

/-- After 51 of the comparisons the count holds how many of the first 51 blocks beat block `j`. -/
theorem cnt51 (hO : Covers x12) (r : Fin 256) (j : Fin 64) : kernelRun0_A.sl.v996 (F := Ideal) c i arg2 harg2 arg7 harg7 arg8 harg8 arg14 harg14 arg17 x0 x5 x6 x12 (ix2 j r) = ∑ k ∈ Finset.range 51, beats (imps (kqn x0 x5 r) (kkc x6) (256 * (i 1).val + r.val)) j k := by
  rw [Finset.sum_range_succ, ← cnt50 c i arg2 harg2 arg7 harg7 arg8 harg8 arg14 harg14 arg17 x0 x5 x6 x12 hO r j]
  exact step_at 50 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 50 (by omega) _ r)

/-- After 52 of the comparisons the count holds how many of the first 52 blocks beat block `j`. -/
theorem cnt52 (hO : Covers x12) (r : Fin 256) (j : Fin 64) : kernelRun0_A.sl.v1011 (F := Ideal) c i arg2 harg2 arg7 harg7 arg8 harg8 arg14 harg14 arg17 x0 x5 x6 x12 (ix2 j r) = ∑ k ∈ Finset.range 52, beats (imps (kqn x0 x5 r) (kkc x6) (256 * (i 1).val + r.val)) j k := by
  rw [Finset.sum_range_succ, ← cnt51 c i arg2 harg2 arg7 harg7 arg8 harg8 arg14 harg14 arg17 x0 x5 x6 x12 hO r j]
  exact step_at 51 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 51 (by omega) _ r)

/-- After 53 of the comparisons the count holds how many of the first 53 blocks beat block `j`. -/
theorem cnt53 (hO : Covers x12) (r : Fin 256) (j : Fin 64) : kernelRun0_A.sl.v1026 (F := Ideal) c i arg2 harg2 arg7 harg7 arg8 harg8 arg14 harg14 arg17 x0 x5 x6 x12 (ix2 j r) = ∑ k ∈ Finset.range 53, beats (imps (kqn x0 x5 r) (kkc x6) (256 * (i 1).val + r.val)) j k := by
  rw [Finset.sum_range_succ, ← cnt52 c i arg2 harg2 arg7 harg7 arg8 harg8 arg14 harg14 arg17 x0 x5 x6 x12 hO r j]
  exact step_at 52 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 52 (by omega) _ r)

/-- After 54 of the comparisons the count holds how many of the first 54 blocks beat block `j`. -/
theorem cnt54 (hO : Covers x12) (r : Fin 256) (j : Fin 64) : kernelRun0_A.sl.v1041 (F := Ideal) c i arg2 harg2 arg7 harg7 arg8 harg8 arg14 harg14 arg17 x0 x5 x6 x12 (ix2 j r) = ∑ k ∈ Finset.range 54, beats (imps (kqn x0 x5 r) (kkc x6) (256 * (i 1).val + r.val)) j k := by
  rw [Finset.sum_range_succ, ← cnt53 c i arg2 harg2 arg7 harg7 arg8 harg8 arg14 harg14 arg17 x0 x5 x6 x12 hO r j]
  exact step_at 53 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 53 (by omega) _ r)

/-- After 55 of the comparisons the count holds how many of the first 55 blocks beat block `j`. -/
theorem cnt55 (hO : Covers x12) (r : Fin 256) (j : Fin 64) : kernelRun0_A.sl.v1056 (F := Ideal) c i arg2 harg2 arg7 harg7 arg8 harg8 arg14 harg14 arg17 x0 x5 x6 x12 (ix2 j r) = ∑ k ∈ Finset.range 55, beats (imps (kqn x0 x5 r) (kkc x6) (256 * (i 1).val + r.val)) j k := by
  rw [Finset.sum_range_succ, ← cnt54 c i arg2 harg2 arg7 harg7 arg8 harg8 arg14 harg14 arg17 x0 x5 x6 x12 hO r j]
  exact step_at 54 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 54 (by omega) _ r)

/-- After 56 of the comparisons the count holds how many of the first 56 blocks beat block `j`. -/
theorem cnt56 (hO : Covers x12) (r : Fin 256) (j : Fin 64) : kernelRun0_A.sl.v1071 (F := Ideal) c i arg2 harg2 arg7 harg7 arg8 harg8 arg14 harg14 arg17 x0 x5 x6 x12 (ix2 j r) = ∑ k ∈ Finset.range 56, beats (imps (kqn x0 x5 r) (kkc x6) (256 * (i 1).val + r.val)) j k := by
  rw [Finset.sum_range_succ, ← cnt55 c i arg2 harg2 arg7 harg7 arg8 harg8 arg14 harg14 arg17 x0 x5 x6 x12 hO r j]
  exact step_at 55 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 55 (by omega) _ r)

/-- After 57 of the comparisons the count holds how many of the first 57 blocks beat block `j`. -/
theorem cnt57 (hO : Covers x12) (r : Fin 256) (j : Fin 64) : kernelRun0_A.sl.v1086 (F := Ideal) c i arg2 harg2 arg7 harg7 arg8 harg8 arg14 harg14 arg17 x0 x5 x6 x12 (ix2 j r) = ∑ k ∈ Finset.range 57, beats (imps (kqn x0 x5 r) (kkc x6) (256 * (i 1).val + r.val)) j k := by
  rw [Finset.sum_range_succ, ← cnt56 c i arg2 harg2 arg7 harg7 arg8 harg8 arg14 harg14 arg17 x0 x5 x6 x12 hO r j]
  exact step_at 56 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 56 (by omega) _ r)

/-- After 58 of the comparisons the count holds how many of the first 58 blocks beat block `j`. -/
theorem cnt58 (hO : Covers x12) (r : Fin 256) (j : Fin 64) : kernelRun0_A.sl.v1101 (F := Ideal) c i arg2 harg2 arg7 harg7 arg8 harg8 arg14 harg14 arg17 x0 x5 x6 x12 (ix2 j r) = ∑ k ∈ Finset.range 58, beats (imps (kqn x0 x5 r) (kkc x6) (256 * (i 1).val + r.val)) j k := by
  rw [Finset.sum_range_succ, ← cnt57 c i arg2 harg2 arg7 harg7 arg8 harg8 arg14 harg14 arg17 x0 x5 x6 x12 hO r j]
  exact step_at 57 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 57 (by omega) _ r)

/-- After 59 of the comparisons the count holds how many of the first 59 blocks beat block `j`. -/
theorem cnt59 (hO : Covers x12) (r : Fin 256) (j : Fin 64) : kernelRun0_A.sl.v1116 (F := Ideal) c i arg2 harg2 arg7 harg7 arg8 harg8 arg14 harg14 arg17 x0 x5 x6 x12 (ix2 j r) = ∑ k ∈ Finset.range 59, beats (imps (kqn x0 x5 r) (kkc x6) (256 * (i 1).val + r.val)) j k := by
  rw [Finset.sum_range_succ, ← cnt58 c i arg2 harg2 arg7 harg7 arg8 harg8 arg14 harg14 arg17 x0 x5 x6 x12 hO r j]
  exact step_at 58 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 58 (by omega) _ r)

/-- After 60 of the comparisons the count holds how many of the first 60 blocks beat block `j`. -/
theorem cnt60 (hO : Covers x12) (r : Fin 256) (j : Fin 64) : kernelRun0_A.sl.v1131 (F := Ideal) c i arg2 harg2 arg7 harg7 arg8 harg8 arg14 harg14 arg17 x0 x5 x6 x12 (ix2 j r) = ∑ k ∈ Finset.range 60, beats (imps (kqn x0 x5 r) (kkc x6) (256 * (i 1).val + r.val)) j k := by
  rw [Finset.sum_range_succ, ← cnt59 c i arg2 harg2 arg7 harg7 arg8 harg8 arg14 harg14 arg17 x0 x5 x6 x12 hO r j]
  exact step_at 59 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 59 (by omega) _ r)

/-- After 61 of the comparisons the count holds how many of the first 61 blocks beat block `j`. -/
theorem cnt61 (hO : Covers x12) (r : Fin 256) (j : Fin 64) : kernelRun0_A.sl.v1146 (F := Ideal) c i arg2 harg2 arg7 harg7 arg8 harg8 arg14 harg14 arg17 x0 x5 x6 x12 (ix2 j r) = ∑ k ∈ Finset.range 61, beats (imps (kqn x0 x5 r) (kkc x6) (256 * (i 1).val + r.val)) j k := by
  rw [Finset.sum_range_succ, ← cnt60 c i arg2 harg2 arg7 harg7 arg8 harg8 arg14 harg14 arg17 x0 x5 x6 x12 hO r j]
  exact step_at 60 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 60 (by omega) _ r)

/-- After 62 of the comparisons the count holds how many of the first 62 blocks beat block `j`. -/
theorem cnt62 (hO : Covers x12) (r : Fin 256) (j : Fin 64) : kernelRun0_A.sl.v1161 (F := Ideal) c i arg2 harg2 arg7 harg7 arg8 harg8 arg14 harg14 arg17 x0 x5 x6 x12 (ix2 j r) = ∑ k ∈ Finset.range 62, beats (imps (kqn x0 x5 r) (kkc x6) (256 * (i 1).val + r.val)) j k := by
  rw [Finset.sum_range_succ, ← cnt61 c i arg2 harg2 arg7 harg7 arg8 harg8 arg14 harg14 arg17 x0 x5 x6 x12 hO r j]
  exact step_at 61 (by omega) _ _ _ _ j r (v227_at c i arg2 harg2 arg7 harg7 arg8 harg8 arg14 harg14 x0 x5 x6 x12 hO r j) (stored_at c i arg2 harg2 arg7 harg7 arg8 harg8 arg14 harg14 arg17 x0 x5 x6 x12 hO 61 (by omega) _ r)

/-- Whether a block is selected. -/
theorem r_6_at (hO : Covers x12) (r : Fin 256) (j : Fin 64) : kernelRun0_A.sl.r_6 (F := Ideal) c i arg2 harg2 arg7 harg7 arg8 harg8 arg14 harg14 arg17 x0 x5 x6 x12 (ix2 r j) = if rank (imps (kqn x0 x5 r) (kkc x6) (256 * (i 1).val + r.val)) j < 16 then 1 else 0 := by
  have e : kernelRun0_A.sl.r_6 (F := Ideal) c i arg2 harg2 arg7 harg7 arg8 harg8 arg14 harg14 arg17 x0 x5 x6 x12 (ix2 r j) = Scalar.select (Ideal.cmp .olt (step 63 (kernelRun0_A.sl.v227 (F := Ideal) c i arg2 harg2 arg7 harg7 arg8 harg8 arg14 harg14 x0 x5 x6 x12) (step 62 (kernelRun0_A.sl.v227 (F := Ideal) c i arg2 harg2 arg7 harg7 arg8 harg8 arg14 harg14 x0 x5 x6 x12) (kernelRun0_A.sl.v1161 (F := Ideal) c i arg2 harg2 arg7 harg7 arg8 harg8 arg14 harg14 arg17 x0 x5 x6 x12) (kernelRun0_A.sl.v1162 (F := Ideal) c i arg2 harg2 arg7 harg7 arg8 harg8 arg14 harg14 arg17 x0 x5 x6 x12)) (kernelRun0_A.sl.v1177 (F := Ideal) c i arg2 harg2 arg7 harg7 arg8 harg8 arg14 harg14 arg17 x0 x5 x6 x12) (ix2 j r)) (Ideal.ofBits .f32 0x41800000#32)) (Ideal.ofBits .f32 0x3F800000#32) 0 := by
    pointwise [kernelRun0_A.sl.r_6, k0_pay139, step, kernelRun0_A.sl.v189, kernelRun0_A.sl.v235, kernelRun0_A.sl.v231, kernelRun0_A.sl.cst_67, kernelRun0_A.sl.cst_70, kernelRun0_A.sl.v1163]
  rw [e, step_at 63 (by omega) _ _ (kernelRun0_A.sl.v1177 (F := Ideal) c i arg2 harg2 arg7 harg7 arg8 harg8 arg14 harg14 arg17 x0 x5 x6 x12) _ j r (v227_at c i arg2 harg2 arg7 harg7 arg8 harg8 arg14 harg14 x0 x5 x6 x12 hO r j) (stored_at c i arg2 harg2 arg7 harg7 arg8 harg8 arg14 harg14 arg17 x0 x5 x6 x12 hO 63 (by omega) _ r),
    step_at 62 (by omega) _ _ (kernelRun0_A.sl.v1162 (F := Ideal) c i arg2 harg2 arg7 harg7 arg8 harg8 arg14 harg14 arg17 x0 x5 x6 x12) _ j r (v227_at c i arg2 harg2 arg7 harg7 arg8 harg8 arg14 harg14 x0 x5 x6 x12 hO r j) (stored_at c i arg2 harg2 arg7 harg7 arg8 harg8 arg14 harg14 arg17 x0 x5 x6 x12 hO 62 (by omega) _ r), cnt62 c i arg2 harg2 arg7 harg7 arg8 harg8 arg14 harg14 arg17 x0 x5 x6 x12 hO r j,
    ← Finset.sum_range_succ, ← Finset.sum_range_succ, Finset.sum_range, sel_olt, sixteen, one_bits]
  rw [Finset.sum_congr rfl fun k _ => show beats _ j k.val = beat _ j k from dif_pos k.isLt, sum_beat]
  refine if_congr ?_ rfl rfl
  exact_mod_cast Iff.rfl
end
end Cert.NsaKernelIdeal.Pure
-- ==== Proof.NsaLoop.lean ====
module

public import proofs.«01_k».proof.Proof.NsaRank
public import proofs.«01_k».proof.Proof.NsaSpec
public import Idealize.ShloMosaic.Lib.Pointwise
public import Idealize.ShloMosaic.Lib.WordCmp

/-! The loop over the earlier tiles of keys: after every trip the running maximum and the running sums are those of the keys so far. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- Four blocks written one per head read back each at its head. -/
theorem four {sp : Space} {e : EltTy} {M N : ℕ} (v : View sig .tc sp ⟨3, ![4, M, N]⟩ e) (f : v.ty.Contents (Elt Ideal))
    (b0 : ∀ a, (![0, 0, 0] : Fin 3 → ℕ) a + (![1, M, N] : Fin 3 → ℕ) a ≤ (⟨3, ![4, M, N]⟩ : Shape).size a)
    (b1 : ∀ a, (![1, 0, 0] : Fin 3 → ℕ) a + (![1, M, N] : Fin 3 → ℕ) a ≤ (⟨3, ![4, M, N]⟩ : Shape).size a)
    (b2 : ∀ a, (![2, 0, 0] : Fin 3 → ℕ) a + (![1, M, N] : Fin 3 → ℕ) a ≤ (⟨3, ![4, M, N]⟩ : Shape).size a)
    (b3 : ∀ a, (![3, 0, 0] : Fin 3 → ℕ) a + (![1, M, N] : Fin 3 → ℕ) a ≤ (⟨3, ![4, M, N]⟩ : Shape).size a)
    (w0 w1 w2 w3 : Shape.Idx ⟨3, ![1, M, N]⟩ → Elt Ideal e) (L : List (View.Piece (Elt Ideal) ⟨3, ![4, M, N]⟩ e))
    (h : Fin 4) (r : Fin M) (d : Fin N) :
    v.read (Elt Ideal) (v.writes (Elt Ideal) f
        ((⟨Rect.unit (s := ⟨3, ![4, M, N]⟩) ![3, 0, 0] ![1, M, N] b3, w3⟩ : View.Piece (Elt Ideal) ⟨3, ![4, M, N]⟩ e)
          :: ⟨Rect.unit (s := ⟨3, ![4, M, N]⟩) ![2, 0, 0] ![1, M, N] b2, w2⟩
          :: ⟨Rect.unit (s := ⟨3, ![4, M, N]⟩) ![1, 0, 0] ![1, M, N] b1, w1⟩
          :: ⟨Rect.unit (s := ⟨3, ![4, M, N]⟩) ![0, 0, 0] ![1, M, N] b0, w0⟩ :: L)) (ix3 h r d)
      = (match h with | 0 => w0 | 1 => w1 | 2 => w2 | 3 => w3) (ix3 0 r d) := by
  have hit : ∀ (q : ℕ) (bq : ∀ a, (![q, 0, 0] : Fin 3 → ℕ) a + (![1, M, N] : Fin 3 → ℕ) a ≤ (⟨3, ![4, M, N]⟩ : Shape).size a)
      (w : Shape.Idx ⟨3, ![1, M, N]⟩ → Elt Ideal e) (L : List (View.Piece (Elt Ideal) ⟨3, ![4, M, N]⟩ e)) (h : Fin 4), h.val = q →
      v.read (Elt Ideal) (v.writes (Elt Ideal) f ((⟨Rect.unit (s := ⟨3, ![4, M, N]⟩) ![q, 0, 0] ![1, M, N] bq, w⟩ : View.Piece (Elt Ideal) ⟨3, ![4, M, N]⟩ e) :: L)) (ix3 h r d)
        = w (ix3 0 r d) := fun q bq w L h hq =>
    View.read_writes_cons_unit_of_mem v f bq w L (ix3 h r d) (ix3 0 r d) rfl (fun a => by
      match a with
      | ⟨0, _⟩ => show h.val = q + 0; omega
      | ⟨1, _⟩ => show r.val = 0 + r.val; omega
      | ⟨2, _⟩ => show d.val = 0 + d.val; omega)
  have miss : ∀ (q : ℕ) (bq : ∀ a, (![q, 0, 0] : Fin 3 → ℕ) a + (![1, M, N] : Fin 3 → ℕ) a ≤ (⟨3, ![4, M, N]⟩ : Shape).size a)
      (w : Shape.Idx ⟨3, ![1, M, N]⟩ → Elt Ideal e) (L : List (View.Piece (Elt Ideal) ⟨3, ![4, M, N]⟩ e)) (h : Fin 4), h.val < q →
      v.read (Elt Ideal) (v.writes (Elt Ideal) f ((⟨Rect.unit (s := ⟨3, ![4, M, N]⟩) ![q, 0, 0] ![1, M, N] bq, w⟩ : View.Piece (Elt Ideal) ⟨3, ![4, M, N]⟩ e) :: L)) (ix3 h r d)
        = v.read (Elt Ideal) (v.writes (Elt Ideal) f L) (ix3 h r d) := fun q bq w L h hq =>
    View.read_writes_cons_unit_of_not_mem v f bq w L (ix3 h r d) rfl 0 (Or.inl hq)
  match h with
  | 3 => exact hit 3 b3 w3 _ 3 rfl
  | 2 => rw [miss 3 b3 w3 _ 2 (by decide)]; exact hit 2 b2 w2 _ 2 rfl
  | 1 => rw [miss 3 b3 w3 _ 1 (by decide), miss 2 b2 w2 _ 1 (by decide)]; exact hit 1 b1 w1 _ 1 rfl
  | 0 => rw [miss 3 b3 w3 _ 0 (by decide), miss 2 b2 w2 _ 0 (by decide), miss 1 b1 w1 _ 0 (by decide)]; exact hit 0 b0 w0 _ 0 rfl

/-- A block of 256 rows of one head. -/
theorem rdh {sp : Space} {e : EltTy} {M N : ℕ} (v : View sig .tc sp ⟨3, ![4, M, N]⟩ e) (X : v.ty.Contents (Elt Ideal)) (off : Fin 3 → ℕ) (h : Fin 4) (a : ℕ)
    (eo : off = ![h.val, a, 0]) (inb : ∀ x, off x + (![1, 256, N] : Fin 3 → ℕ) x ≤ (⟨3, ![4, M, N]⟩ : Shape).size x) (r : Fin 256) (ha : a + r.val < M) (d : Fin N) :
    v.readAt (Elt Ideal) (Rect.unit (s := ⟨3, ![4, M, N]⟩) off ![1, 256, N] inb).toLoadRect X (ix3 0 r d) = v.read (Elt Ideal) X (ix3 h ⟨a + r.val, ha⟩ d) := by
  subst eo
  exact rd3 v X _ _ inb (ix3 0 r d) (ix3 h ⟨a + r.val, ha⟩ d) (by show h.val = h.val + 0; omega) rfl (by show d.val = 0 + d.val; omega)

/-- Reading one head of a four-head scratch array gives that head's rows. -/
theorem rdh0 {sp : Space} {e : EltTy} {N : ℕ} (v : View sig .tc sp ⟨3, ![4, 256, N]⟩ e) (X : v.ty.Contents (Elt Ideal)) (off : Fin 3 → ℕ) (h : Fin 4)
    (eo : off = ![h.val, 0, 0]) (inb : ∀ x, off x + (![1, 256, N] : Fin 3 → ℕ) x ≤ (⟨3, ![4, 256, N]⟩ : Shape).size x) (r : Fin 256) (d : Fin N) :
    v.readAt (Elt Ideal) (Rect.unit (s := ⟨3, ![4, 256, N]⟩) off ![1, 256, N] inb).toLoadRect X (ix3 0 r d) = v.read (Elt Ideal) X (ix3 h r d) := by
  rw [rdh v X off h 0 eo inb r (by omega) d]
  exact congrArg (fun n => v.read (Elt Ideal) X (ix3 h n d)) (Fin.ext (Nat.zero_add _))

/-- The largest number stands for a key that is not masked, and is the top. -/
theorem unmask_top : (Named.named (F := Idealize.ShloMosaic.Ideal) κ "unmask" (φ := .f32) 0x7149F2CA#32) = (⊤ : EReal) :=
  IdealRules.named_const.ideal_named_scalar _ _ _ _ rfl

/-- The bias of a key: nothing when its block is selected, the bottom when not. -/
theorem bias_eq (rk : Fin 64 → ℕ) (n : ℕ) (hn : n < 4096) (e : Fin 64 → EReal) (he : ∀ j : Fin 64, e j = if n / 64 = j.val then 1 else 0) :
    ((∑ j : Fin 64, (if rk j < 16 then (1 : EReal) else 0) * e j) - 1) * ⊤ = if rk ⟨n / 64, by omega⟩ < 16 then 0 else ⊥ := by
  rw [Finset.sum_eq_single ⟨n / 64, by omega⟩ (fun j _ hj => by rw [he, if_neg (show ¬ n / 64 = j.val from fun h => hj (Fin.ext h.symm)), mul_zero]) (fun h => absurd (Finset.mem_univ _) h),
    he, if_pos rfl, mul_one]
  by_cases h : rk ⟨n / 64, by omega⟩ < 16
  · rw [if_pos h, if_pos h]
    rw [show (1 : EReal) - 1 = 0 from by rw [← EReal.coe_one, ← EReal.coe_sub, sub_self, EReal.coe_zero], zero_mul]
  · rw [if_neg h, if_neg h, zero_sub]
    exact EReal.coe_mul_top_of_neg (x := -1) (by norm_num)

/-- The selected scores of a row, at any key's number. -/
def xsn (rk : Fin 64 → ℕ) (t : ℕ) (q : Fin 64 → EReal) (ks : Fin 4096 → Fin 64 → EReal) (k : ℕ) : EReal :=
  if h : k < 4096 then (if rk ⟨k / 64, by omega⟩ < 16 ∧ k ≤ t then score q (ks ⟨k, h⟩) else ⊥) else ⊥

/-- The values at any key's number. -/
def vsn (v : Fin 4096 → Fin 128 → EReal) (k : ℕ) (e : Fin 128) : EReal := if h : k < 4096 then v ⟨k, h⟩ e else 0

/-- A seen key's score with its bias. -/
theorem score_bias (rk : Fin 64 → ℕ) (t : ℕ) (q : Fin 64 → EReal) (ks : Fin 4096 → Fin 64 → EReal) (k : ℕ) (hk : k < 4096) (b : EReal)
    (hb : b = if rk ⟨k / 64, by omega⟩ < 16 ∧ k ≤ t then 0 else ⊥) : score q (ks ⟨k, hk⟩) + b = xsn rk t q ks k := by
  rw [hb, xsn, dif_pos hk]
  by_cases h : rk ⟨k / 64, by omega⟩ < 16 ∧ k ≤ t
  · rw [if_pos h, if_pos h, add_zero]
  · rw [if_neg h, if_neg h, EReal.add_bot]

/-- What the running maximum and the running sums hold after the first n keys. -/
structure Inv (X : Fin 256 → Fin 4 → ℕ → EReal) (V : ℕ → Fin 128 → EReal) {arg19 : Memref sig .tc .vmem S4x256x1 .f32} {arg20 : Memref sig .tc .vmem S4x256x128 .f32} (n : ℕ)
    (f : BufTy.Contents (Elt Ideal) arg19.view.ty) (g : BufTy.Contents (Elt Ideal) arg20.view.ty) : Prop where
  m : ∀ (h : Fin 4) (r : Fin 256), arg19.view.read (Elt Ideal) f (ix3 h r 0) = topN (X r h) n
  acc : ∀ (h : Fin 4) (r : Fin 256) (e : Fin 128), arg20.view.read (Elt Ideal) g (ix3 h r e) = accN (X r h) (fun k => V k e) n

/-- What the point holds in the operands of the loop. -/
structure Ops (rk : Fin 256 → Fin 64 → ℕ) (qr : Fin 256 → Fin 4 → Fin 64 → EReal) (ks : Fin 4096 → Fin 64 → EReal) (vs : Fin 4096 → Fin 128 → EReal)
    {arg10 : Memref sig .tc .vmem S1x4096x64 .bf16} {arg11 : Memref sig .tc .vmem S1x4096x128 .bf16} {arg15 : Memref sig .tc .vmem S4x64x1024 .bf16} {arg18 : Memref sig .tc .vmem S4x256x64 .bf16}
    (v1198 : FVec Ideal S256x64 .bf16) (X10 : BufTy.Contents (Elt Ideal) arg10.view.ty) (X11 : BufTy.Contents (Elt Ideal) arg11.view.ty)
    (X15 : BufTy.Contents (Elt Ideal) arg15.view.ty) (X18 : BufTy.Contents (Elt Ideal) arg18.view.ty) : Prop where
  sel : ∀ r j, v1198 (ix2 r j) = if rk r j < 16 then 1 else 0
  k : ∀ (k : Fin 4096) (d : Fin 64), arg10.view.read (Elt Ideal) X10 (ix3 0 k d) = ks k d
  v : ∀ (k : Fin 4096) (e : Fin 128), arg11.view.read (Elt Ideal) X11 (ix3 0 k e) = vs k e
  e : ∀ (a : Fin 4) (j : Fin 64) (b : Fin 1024), arg15.view.read (Elt Ideal) X15 (ix3 a j b) = if (1024 * a.val + b.val) / 64 = j.val then 1 else 0
  q : ∀ (h : Fin 4) (r : Fin 256) (d : Fin 64), arg18.view.read (Elt Ideal) X18 (ix3 h r d) = qr r h d * eighth

/-- A row's maximum after one more tile. -/
theorem m_step (X : ℕ → EReal) (n : ℕ) (S : Fin 1024 → EReal) (hS : ∀ k, S k = X (n + k.val)) (m : EReal) (hm : m = topN X n) :
    max m (Finset.fold max ⊥ S Finset.univ) = topN X (n + 1024) := by
  rw [topN_add, hm, show S = fun k => X (n + k.val) from funext hS]
  rfl

/-- A row's sums after one more tile. -/
theorem acc_step (X V : ℕ → EReal) (n : ℕ) (S W : Fin 1024 → EReal) (hS : ∀ k, S k = X (n + k.val)) (hW : ∀ k, W k = V (n + k.val)) (m m' a : EReal)
    (hm : m = topN X n) (hm' : m' = topN X (n + 1024)) (ha : a = accN X V n) :
    Ideal.exp (m - m') * a + ∑ k, Ideal.exp (S k - m') * W k = accN X V (n + 1024) := by
  rw [accN_add, hm, hm', ha]
  exact congrArg _ (Finset.sum_congr rfl fun k _ => by rw [hS, hW])

section Loop

variable (𝒱 : Variants) (c : Dev nD) (bd : Option 𝒱.V) (i : grid0.Coords) (arg2 : Memref sig .tc .vmem S1x256x256 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole) (arg8 : Memref sig .tc .vmem S1x256x64 .bf16) (harg8 : arg8.IsWhole) (arg9 : Memref sig .tc .vmem S1x256x64 .bf16) (harg9 : arg9.IsWhole) (arg10 : Memref sig .tc .vmem S1x4096x64 .bf16) (harg10 : arg10.IsWhole) (arg11 : Memref sig .tc .vmem S1x4096x128 .bf16) (harg11 : arg11.IsWhole) (arg12 : Memref sig .tc .vmem S1x4096x64 .bf16) (harg12 : arg12.IsWhole) (arg13 : Memref sig .tc .vmem S1x4096x128 .bf16) (harg13 : arg13.IsWhole) (arg14 : Memref sig .tc .vmem S64x256 .bf16) (harg14 : arg14.IsWhole) (arg15 : Memref sig .tc .vmem S4x64x1024 .bf16) (harg15 : arg15.IsWhole) (arg16 : Memref sig .tc .vmem S1x256x256 .f32) (harg16 : arg16.IsWhole) (arg17 : Memref sig .tc .vmem S64x256 .f32) (harg17 : arg17.IsWhole) (arg18 : Memref sig .tc .vmem S4x256x64 .bf16) (harg18 : arg18.IsWhole) (arg19 : Memref sig .tc .vmem S4x256x1 .f32) (harg19 : arg19.IsWhole) (arg20 : Memref sig .tc .vmem S4x256x128 .f32) (harg20 : arg20.IsWhole) (v0 : BitVec 32) (v1198 : FVec Ideal S256x64 .bf16) (v1235 : BitVec 32) (X_arg10 : BufTy.Contents (Elt Ideal) arg10.view.ty) (X_arg11 : BufTy.Contents (Elt Ideal) arg11.view.ty) (X_arg15 : BufTy.Contents (Elt Ideal) arg15.view.ty) (X_arg18 : BufTy.Contents (Elt Ideal) arg18.view.ty)

/-- A grid point of the first sequence. -/
def crd (j : Fin 16) : grid0.Coords := fun a => match a with | ⟨0, _⟩ => (⟨0, by decide⟩ : Fin 8) | ⟨1, _⟩ => j

/-- The trips of the loop: one per full tile before the block. -/
theorem trips_eq (i : grid0.Coords) : (k0_t1_loop i).trips = (i 1).val / 4 := by
  have h : ∀ j : Fin 16, (k0_t1_loop (crd j)).trips = j.val / 4 := by decide +kernel
  exact h (i 1)

/-- A tile's number and its first key, as words. -/
theorem tile_word : ∀ k : Fin 4, (Scf.iv 0#32 1#32 k.val).toNat = k.val ∧ (Scalar.muli (Scf.iv 0#32 1#32 k.val) 1024#32).toNat = 1024 * k.val := by
  decide +kernel

/-- There are at most four tiles. -/
theorem trip_lt (k : Fin (k0_t1_loop i).trips) : k.val < 4 := by
  have h := lt_of_lt_of_eq k.isLt (trips_eq i)
  have h16 : (i 1).val < 16 := (i 1).isLt
  omega

/-- Trip `k` reads tile `k` of the selection table. -/
theorem off1_eq (k : Fin (k0_t1_loop i).trips) : k0_off1 i k = ![k.val, 0, 0] :=
  congrArg (fun n => ![n, 0, 0]) (tile_word ⟨k.val, trip_lt i k⟩).1
/-- Trip `k` reads the keys from row `1024 k` on. -/
theorem off2_eq (k : Fin (k0_t1_loop i).trips) : k0_off2 i k = ![0, 1024 * k.val, 0] :=
  congrArg (fun n => ![0, n, 0]) (tile_word ⟨k.val, trip_lt i k⟩).2
/-- Trip `k` reads the values from row `1024 k` on. -/
theorem off3_eq (k : Fin (k0_t1_loop i).trips) : k0_off3 i k = ![0, 1024 * k.val, 0] :=
  congrArg (fun n => ![0, n, 0]) (tile_word ⟨k.val, trip_lt i k⟩).2

/-- The keys and the values as a tile reads them. -/
theorem rd_k (off : Fin 3 → ℕ) (a : ℕ) (ha : a + 1024 ≤ 4096) (eo : off = ![0, a, 0]) {N : ℕ} {e : EltTy} (v : View sig .tc .vmem ⟨3, ![1, 4096, N]⟩ e) (X : v.ty.Contents (Elt Ideal))
    (inb : ∀ x, off x + (![1, 1024, N] : Fin 3 → ℕ) x ≤ (⟨3, ![1, 4096, N]⟩ : Shape).size x) (b : Fin 1024) (d : Fin N) :
    v.readAt (Elt Ideal) (Rect.unit (s := ⟨3, ![1, 4096, N]⟩) off ![1, 1024, N] inb).toLoadRect X (ix3 0 b d) = v.read (Elt Ideal) X (ix3 0 ⟨a + b.val, by omega⟩ d) := by
  subst eo
  exact rd3 v X _ _ inb (ix3 0 b d) (ix3 0 ⟨a + b.val, by omega⟩ d) (by show 0 = 0 + 0; omega) rfl (by show d.val = 0 + d.val; omega)

/-- The table of blocks as a tile reads it. -/
theorem rd_e (off : Fin 3 → ℕ) (a : Fin 4) (eo : off = ![a.val, 0, 0]) {e : EltTy} (v : View sig .tc .vmem ⟨3, ![4, 64, 1024]⟩ e) (X : v.ty.Contents (Elt Ideal))
    (inb : ∀ x, off x + (![1, 64, 1024] : Fin 3 → ℕ) x ≤ (⟨3, ![4, 64, 1024]⟩ : Shape).size x) (j : Fin 64) (b : Fin 1024) :
    v.readAt (Elt Ideal) (Rect.unit (s := ⟨3, ![4, 64, 1024]⟩) off ![1, 64, 1024] inb).toLoadRect X (ix3 0 j b) = v.read (Elt Ideal) X (ix3 a j b) := by
  subst eo
  exact rd3 v X _ _ inb (ix3 0 j b) (ix3 a j b) (by show a.val = a.val + 0; omega) (by show j.val = 0 + j.val; omega) (by show b.val = 0 + b.val; omega)

/-- A tile's scores with their bias. -/
theorem S_eq (rk : Fin 64 → ℕ) (t : ℕ) (q : Fin 64 → EReal) (ks : Fin 4096 → Fin 64 → EReal) (n : ℕ) (hn : n < 4096) (hnt : n ≤ t) :
    (∑ d, q d * eighth * ks ⟨n, hn⟩ d) + ((∑ j : Fin 64, (if rk j < 16 then (1 : EReal) else 0) * (if n / 64 = j.val then 1 else 0)) - 1) * ⊤ = xsn rk t q ks n :=
  score_bias rk t q ks n hn _ ((bias_eq rk n hn _ fun _ => rfl).trans (if_congr (by simp [hnt]) rfl rfl))

/-- Head 0 after one more tile. -/
theorem head0_step (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (k : Fin (k0_t1_loop i).trips) (ht : ∀ r, 1024 * k.val + 1024 ≤ t r)
    (f : BufTy.Contents (Elt Ideal) arg19.view.ty) (g : BufTy.Contents (Elt Ideal) arg20.view.ty)
    (hi : Inv (fun r h => xsn (rk r) (t r) (qr r h) ks) (vsn vs) (1024 * k.val) f g) (r : Fin 256) :
    trip_k0_t1.sl.v1810 (F := Ideal) i arg10 arg15 arg18 arg19 v1198 X_arg10 X_arg15 X_arg18 k f (ix3 0 r 0) = topN (xsn (rk r) (t r) (qr r 0) ks) (1024 * k.val + 1024)
      ∧ ∀ e, trip_k0_t1.sl.v1807 (F := Ideal) i arg10 arg11 arg15 arg18 arg19 arg20 v1198 X_arg10 X_arg11 X_arg15 X_arg18 k f g (ix3 0 r e) = accN (xsn (rk r) (t r) (qr r 0) ks) (fun k => vsn vs k e) (1024 * k.val + 1024) := by
  have hk4 := trip_lt i k
  have rq : ∀ inb r d, View.readAt (Elt Ideal) arg18.view (Rect.unit (s := S4x256x64) ![0, 0, 0] ![1, 256, 64] inb).toLoadRect X_arg18 (ix3 0 r d) = qr r 0 d * eighth :=
    fun inb r d => (rdh0 arg18.view X_arg18 _ 0 rfl inb r d).trans (ho.q 0 r d)
  have rm : ∀ inb r, View.readAt (Elt Ideal) arg19.view (Rect.unit (s := S4x256x1) ![0, 0, 0] ![1, 256, 1] inb).toLoadRect f (ix3 0 r 0) = topN (xsn (rk r) (t r) (qr r 0) ks) (1024 * k.val) :=
    fun inb r => (rdh0 arg19.view f _ 0 rfl inb r 0).trans (hi.m 0 r)
  have ra : ∀ inb r e, View.readAt (Elt Ideal) arg20.view (Rect.unit (s := S4x256x128) ![0, 0, 0] ![1, 256, 128] inb).toLoadRect g (ix3 0 r e) = accN (xsn (rk r) (t r) (qr r 0) ks) (fun k => vsn vs k e) (1024 * k.val) :=
    fun inb r e => (rdh0 arg20.view g _ 0 rfl inb r e).trans (hi.acc 0 r e)
  have rk' : ∀ inb b d, View.readAt (Elt Ideal) arg10.view (Rect.unit (s := S1x4096x64) (k0_off2 i k) ![1, 1024, 64] inb).toLoadRect X_arg10 (ix3 0 b d) = ks ⟨1024 * k.val + b.val, by omega⟩ d :=
    fun inb b d => (rd_k _ _ (by omega) (off2_eq i k) arg10.view X_arg10 inb b d).trans (ho.k _ d)
  have rv : ∀ inb b e, View.readAt (Elt Ideal) arg11.view (Rect.unit (s := S1x4096x128) (k0_off3 i k) ![1, 1024, 128] inb).toLoadRect X_arg11 (ix3 0 b e) = vs ⟨1024 * k.val + b.val, by omega⟩ e :=
    fun inb b e => (rd_k _ _ (by omega) (off3_eq i k) arg11.view X_arg11 inb b e).trans (ho.v _ e)
  have re : ∀ inb j b, View.readAt (Elt Ideal) arg15.view (Rect.unit (s := S4x64x1024) (k0_off1 i k) ![1, 64, 1024] inb).toLoadRect X_arg15 (ix3 0 j b) = if (1024 * k.val + b.val) / 64 = j.val then 1 else 0 :=
    fun inb j b => (rd_e _ ⟨k.val, hk4⟩ (off1_eq i k) arg15.view X_arg15 inb j b).trans (ho.e _ j b)
  have hS : ∀ (r : Fin 256) (b : Fin 1024), (∑ d, qr r 0 d * eighth * ks ⟨1024 * k.val + b.val, by omega⟩ d)
      + ((∑ j : Fin 64, (if rk r j < 16 then (1 : EReal) else 0) * (if (1024 * k.val + b.val) / 64 = j.val then 1 else 0)) - 1) * ⊤
      = xsn (rk r) (t r) (qr r 0) ks (1024 * k.val + b.val) := fun r b => S_eq _ _ _ _ _ _ (by have := ht r; omega)
  constructor
  · pointwise [trip_k0_t1.sl.v1810, trip_k0_t1.sl.r_5, k0_pay8, k0_pay5, k0_pay7, k0_pay3, k0_pay2]
    simp only [rq, rm, rk', re, ho.sel, unmask_top, bot_bits, hS]
    exact m_step _ _ _ (fun _ => rfl) _ rfl
  · intro e
    pointwise [trip_k0_t1.sl.v1810, trip_k0_t1.sl.r_5, k0_pay8, k0_pay5, k0_pay7, k0_pay3, k0_pay2, trip_k0_t1.sl.v1807, trip_k0_t1.sl.v1804, trip_k0_t1.sl.v1802, trip_k0_t1.sl.v1803, trip_k0_t1.sl.r_6, trip_k0_t1.sl.r_2, trip_k0_t1.sl.cst_703, k0_pay4, k0_pay9, trip_k0_t1.sl.v1801, trip_k0_t1.sl.v1800, trip_k0_t1.sl.v1798, trip_k0_t1.sl.v1797, trip_k0_t1.sl.r_4]
    simp only [rq, rm, ra, rk', rv, re, ho.sel, unmask_top, bot_bits, hS]
    exact acc_step _ (fun k => vsn vs k e) _ _ _ (fun _ => rfl) (fun b => (dif_pos (show 1024 * k.val + b.val < 4096 by omega)).symm) _ _ _ rfl (m_step _ _ _ (fun _ => rfl) _ rfl) rfl

/-- Head 1 after one more tile. -/
theorem head1_step (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (k : Fin (k0_t1_loop i).trips) (ht : ∀ r, 1024 * k.val + 1024 ≤ t r)
    (f : BufTy.Contents (Elt Ideal) arg19.view.ty) (g : BufTy.Contents (Elt Ideal) arg20.view.ty)
    (hi : Inv (fun r h => xsn (rk r) (t r) (qr r h) ks) (vsn vs) (1024 * k.val) f g) (r : Fin 256) :
    trip_k0_t1.sl.v1837 (F := Ideal) i arg10 arg15 arg18 arg19 v1198 X_arg10 X_arg15 X_arg18 k f (ix3 0 r 0) = topN (xsn (rk r) (t r) (qr r 1) ks) (1024 * k.val + 1024)
      ∧ ∀ e, trip_k0_t1.sl.v1834 (F := Ideal) i arg10 arg11 arg15 arg18 arg19 arg20 v1198 X_arg10 X_arg11 X_arg15 X_arg18 k f g (ix3 0 r e) = accN (xsn (rk r) (t r) (qr r 1) ks) (fun k => vsn vs k e) (1024 * k.val + 1024) := by
  have hk4 := trip_lt i k
  have rq : ∀ inb r d, View.readAt (Elt Ideal) arg18.view (Rect.unit (s := S4x256x64) ![1, 0, 0] ![1, 256, 64] inb).toLoadRect X_arg18 (ix3 0 r d) = qr r 1 d * eighth :=
    fun inb r d => (rdh0 arg18.view X_arg18 _ 1 rfl inb r d).trans (ho.q 1 r d)
  have rm : ∀ inb r, View.readAt (Elt Ideal) arg19.view (Rect.unit (s := S4x256x1) ![1, 0, 0] ![1, 256, 1] inb).toLoadRect f (ix3 0 r 0) = topN (xsn (rk r) (t r) (qr r 1) ks) (1024 * k.val) :=
    fun inb r => (rdh0 arg19.view f _ 1 rfl inb r 0).trans (hi.m 1 r)
  have ra : ∀ inb r e, View.readAt (Elt Ideal) arg20.view (Rect.unit (s := S4x256x128) ![1, 0, 0] ![1, 256, 128] inb).toLoadRect g (ix3 0 r e) = accN (xsn (rk r) (t r) (qr r 1) ks) (fun k => vsn vs k e) (1024 * k.val) :=
    fun inb r e => (rdh0 arg20.view g _ 1 rfl inb r e).trans (hi.acc 1 r e)
  have rk' : ∀ inb b d, View.readAt (Elt Ideal) arg10.view (Rect.unit (s := S1x4096x64) (k0_off2 i k) ![1, 1024, 64] inb).toLoadRect X_arg10 (ix3 0 b d) = ks ⟨1024 * k.val + b.val, by omega⟩ d :=
    fun inb b d => (rd_k _ _ (by omega) (off2_eq i k) arg10.view X_arg10 inb b d).trans (ho.k _ d)
  have rv : ∀ inb b e, View.readAt (Elt Ideal) arg11.view (Rect.unit (s := S1x4096x128) (k0_off3 i k) ![1, 1024, 128] inb).toLoadRect X_arg11 (ix3 0 b e) = vs ⟨1024 * k.val + b.val, by omega⟩ e :=
    fun inb b e => (rd_k _ _ (by omega) (off3_eq i k) arg11.view X_arg11 inb b e).trans (ho.v _ e)
  have re : ∀ inb j b, View.readAt (Elt Ideal) arg15.view (Rect.unit (s := S4x64x1024) (k0_off1 i k) ![1, 64, 1024] inb).toLoadRect X_arg15 (ix3 0 j b) = if (1024 * k.val + b.val) / 64 = j.val then 1 else 0 :=
    fun inb j b => (rd_e _ ⟨k.val, hk4⟩ (off1_eq i k) arg15.view X_arg15 inb j b).trans (ho.e _ j b)
  have hS : ∀ (r : Fin 256) (b : Fin 1024), (∑ d, qr r 1 d * eighth * ks ⟨1024 * k.val + b.val, by omega⟩ d)
      + ((∑ j : Fin 64, (if rk r j < 16 then (1 : EReal) else 0) * (if (1024 * k.val + b.val) / 64 = j.val then 1 else 0)) - 1) * ⊤
      = xsn (rk r) (t r) (qr r 1) ks (1024 * k.val + b.val) := fun r b => S_eq _ _ _ _ _ _ (by have := ht r; omega)
  constructor
  · pointwise [trip_k0_t1.sl.v1837, trip_k0_t1.sl.v1792, trip_k0_t1.sl.v1789, trip_k0_t1.sl.v1791, trip_k0_t1.sl.v1790, trip_k0_t1.sl.r_3, k0_pay6, k0_pay3, k0_pay2]
    simp only [rq, rm, rk', re, ho.sel, unmask_top, bot_bits, hS]
    exact m_step _ _ _ (fun _ => rfl) _ rfl
  · intro e
    pointwise [trip_k0_t1.sl.v1837, trip_k0_t1.sl.v1792, trip_k0_t1.sl.v1789, trip_k0_t1.sl.v1791, trip_k0_t1.sl.v1790, trip_k0_t1.sl.r_3, k0_pay6, k0_pay3, k0_pay2, trip_k0_t1.sl.v1834, trip_k0_t1.sl.v1831, trip_k0_t1.sl.v1829, trip_k0_t1.sl.v1830, trip_k0_t1.sl.v1796, trip_k0_t1.sl.r_2, trip_k0_t1.sl.cst_703, k0_pay4, trip_k0_t1.sl.v1795, trip_k0_t1.sl.v1794, trip_k0_t1.sl.v1793, trip_k0_t1.sl.v1828, trip_k0_t1.sl.v1827, trip_k0_t1.sl.v1826, trip_k0_t1.sl.v1825, trip_k0_t1.sl.v1824]
    simp only [rq, rm, ra, rk', rv, re, ho.sel, unmask_top, bot_bits, hS]
    exact acc_step _ (fun k => vsn vs k e) _ _ _ (fun _ => rfl) (fun b => (dif_pos (show 1024 * k.val + b.val < 4096 by omega)).symm) _ _ _ rfl (m_step _ _ _ (fun _ => rfl) _ rfl) rfl

/-- Head 2 after one more tile. -/
theorem head2_step (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (k : Fin (k0_t1_loop i).trips) (ht : ∀ r, 1024 * k.val + 1024 ≤ t r)
    (f : BufTy.Contents (Elt Ideal) arg19.view.ty) (g : BufTy.Contents (Elt Ideal) arg20.view.ty)
    (hi : Inv (fun r h => xsn (rk r) (t r) (qr r h) ks) (vsn vs) (1024 * k.val) f g) (r : Fin 256) :
    k0_pay147 (F := Ideal) (trip_k0_t1.sl.v1819 (F := Ideal) i arg10 arg15 arg18 arg19 v1198 X_arg10 X_arg15 X_arg18 k f) (ix3 0 r 0) = topN (xsn (rk r) (t r) (qr r 2) ks) (1024 * k.val + 1024)
      ∧ ∀ e, k0_pay146 (F := Ideal) (trip_k0_t1.sl.v1854 (F := Ideal) i arg10 arg11 arg15 arg18 arg19 arg20 v1198 X_arg10 X_arg11 X_arg15 X_arg18 k f g) (ix3 0 r e) = accN (xsn (rk r) (t r) (qr r 2) ks) (fun k => vsn vs k e) (1024 * k.val + 1024) := by
  have hk4 := trip_lt i k
  have rq : ∀ inb r d, View.readAt (Elt Ideal) arg18.view (Rect.unit (s := S4x256x64) ![2, 0, 0] ![1, 256, 64] inb).toLoadRect X_arg18 (ix3 0 r d) = qr r 2 d * eighth :=
    fun inb r d => (rdh0 arg18.view X_arg18 _ 2 rfl inb r d).trans (ho.q 2 r d)
  have rm : ∀ inb r, View.readAt (Elt Ideal) arg19.view (Rect.unit (s := S4x256x1) ![2, 0, 0] ![1, 256, 1] inb).toLoadRect f (ix3 0 r 0) = topN (xsn (rk r) (t r) (qr r 2) ks) (1024 * k.val) :=
    fun inb r => (rdh0 arg19.view f _ 2 rfl inb r 0).trans (hi.m 2 r)
  have ra : ∀ inb r e, View.readAt (Elt Ideal) arg20.view (Rect.unit (s := S4x256x128) ![2, 0, 0] ![1, 256, 128] inb).toLoadRect g (ix3 0 r e) = accN (xsn (rk r) (t r) (qr r 2) ks) (fun k => vsn vs k e) (1024 * k.val) :=
    fun inb r e => (rdh0 arg20.view g _ 2 rfl inb r e).trans (hi.acc 2 r e)
  have rk' : ∀ inb b d, View.readAt (Elt Ideal) arg10.view (Rect.unit (s := S1x4096x64) (k0_off2 i k) ![1, 1024, 64] inb).toLoadRect X_arg10 (ix3 0 b d) = ks ⟨1024 * k.val + b.val, by omega⟩ d :=
    fun inb b d => (rd_k _ _ (by omega) (off2_eq i k) arg10.view X_arg10 inb b d).trans (ho.k _ d)
  have rv : ∀ inb b e, View.readAt (Elt Ideal) arg11.view (Rect.unit (s := S1x4096x128) (k0_off3 i k) ![1, 1024, 128] inb).toLoadRect X_arg11 (ix3 0 b e) = vs ⟨1024 * k.val + b.val, by omega⟩ e :=
    fun inb b e => (rd_k _ _ (by omega) (off3_eq i k) arg11.view X_arg11 inb b e).trans (ho.v _ e)
  have re : ∀ inb j b, View.readAt (Elt Ideal) arg15.view (Rect.unit (s := S4x64x1024) (k0_off1 i k) ![1, 64, 1024] inb).toLoadRect X_arg15 (ix3 0 j b) = if (1024 * k.val + b.val) / 64 = j.val then 1 else 0 :=
    fun inb j b => (rd_e _ ⟨k.val, hk4⟩ (off1_eq i k) arg15.view X_arg15 inb j b).trans (ho.e _ j b)
  have hS : ∀ (r : Fin 256) (b : Fin 1024), (∑ d, qr r 2 d * eighth * ks ⟨1024 * k.val + b.val, by omega⟩ d)
      + ((∑ j : Fin 64, (if rk r j < 16 then (1 : EReal) else 0) * (if (1024 * k.val + b.val) / 64 = j.val then 1 else 0)) - 1) * ⊤
      = xsn (rk r) (t r) (qr r 2) ks (1024 * k.val + b.val) := fun r b => S_eq _ _ _ _ _ _ (by have := ht r; omega)
  constructor
  · pointwise [trip_k0_t1.sl.v1819, k0_pay147, trip_k0_t1.sl.v1816, trip_k0_t1.sl.v1818, trip_k0_t1.sl.v1817, trip_k0_t1.sl.v1787, trip_k0_t1.sl.v1786, trip_k0_t1.sl.r, k0_pay2, trip_k0_t1.sl.v1785, trip_k0_t1.sl.r_1, trip_k0_t1.sl.cst_695, k0_pay3, trip_k0_t1.sl.r_7, trip_k0_t1.sl.v1815]
    simp only [rq, rm, rk', re, ho.sel, unmask_top, bot_bits, hS]
    exact m_step _ _ _ (fun _ => rfl) _ rfl
  · intro e
    pointwise [trip_k0_t1.sl.v1819, k0_pay147, trip_k0_t1.sl.v1816, trip_k0_t1.sl.v1818, trip_k0_t1.sl.v1817, trip_k0_t1.sl.v1787, trip_k0_t1.sl.v1786, trip_k0_t1.sl.r, k0_pay2, trip_k0_t1.sl.v1785, trip_k0_t1.sl.r_1, trip_k0_t1.sl.cst_695, k0_pay3, trip_k0_t1.sl.r_7, trip_k0_t1.sl.v1815, trip_k0_t1.sl.v1854, k0_pay146, trip_k0_t1.sl.v1852, trip_k0_t1.sl.v1853, trip_k0_t1.sl.v1823, trip_k0_t1.sl.r_2, trip_k0_t1.sl.cst_703, k0_pay4, trip_k0_t1.sl.v1822, trip_k0_t1.sl.v1821, trip_k0_t1.sl.v1820, trip_k0_t1.sl.v1851, trip_k0_t1.sl.v1850, trip_k0_t1.sl.v1849, trip_k0_t1.sl.v1848, trip_k0_t1.sl.v1847]
    simp only [rq, rm, ra, rk', rv, re, ho.sel, unmask_top, bot_bits, hS]
    exact acc_step _ (fun k => vsn vs k e) _ _ _ (fun _ => rfl) (fun b => (dif_pos (show 1024 * k.val + b.val < 4096 by omega)).symm) _ _ _ rfl (m_step _ _ _ (fun _ => rfl) _ rfl) rfl

/-- Head 3 after one more tile. -/
theorem head3_step (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (k : Fin (k0_t1_loop i).trips) (ht : ∀ r, 1024 * k.val + 1024 ≤ t r)
    (f : BufTy.Contents (Elt Ideal) arg19.view.ty) (g : BufTy.Contents (Elt Ideal) arg20.view.ty)
    (hi : Inv (fun r h => xsn (rk r) (t r) (qr r h) ks) (vsn vs) (1024 * k.val) f g) (r : Fin 256) :
    k0_pay149 (F := Ideal) (trip_k0_t1.sl.v1842 (F := Ideal) i arg10 arg15 arg18 arg19 v1198 X_arg10 X_arg15 X_arg18 k f) (ix3 0 r 0) = topN (xsn (rk r) (t r) (qr r 3) ks) (1024 * k.val + 1024)
      ∧ ∀ e, k0_pay148 (F := Ideal) (trip_k0_t1.sl.r_2 (F := Ideal) i arg11 X_arg11 k) (trip_k0_t1.sl.v1839 (F := Ideal) arg19 f) (trip_k0_t1.sl.v1842 (F := Ideal) i arg10 arg15 arg18 arg19 v1198 X_arg10 X_arg15 X_arg18 k f) (trip_k0_t1.sl.v1846 (F := Ideal) i arg10 arg15 arg18 arg19 v1198 X_arg10 X_arg15 X_arg18 k f) (trip_k0_t1.sl.v1863 (F := Ideal) arg20 g) (ix3 0 r e) = accN (xsn (rk r) (t r) (qr r 3) ks) (fun k => vsn vs k e) (1024 * k.val + 1024) := by
  have hk4 := trip_lt i k
  have rq : ∀ inb r d, View.readAt (Elt Ideal) arg18.view (Rect.unit (s := S4x256x64) ![3, 0, 0] ![1, 256, 64] inb).toLoadRect X_arg18 (ix3 0 r d) = qr r 3 d * eighth :=
    fun inb r d => (rdh0 arg18.view X_arg18 _ 3 rfl inb r d).trans (ho.q 3 r d)
  have rm : ∀ inb r, View.readAt (Elt Ideal) arg19.view (Rect.unit (s := S4x256x1) ![3, 0, 0] ![1, 256, 1] inb).toLoadRect f (ix3 0 r 0) = topN (xsn (rk r) (t r) (qr r 3) ks) (1024 * k.val) :=
    fun inb r => (rdh0 arg19.view f _ 3 rfl inb r 0).trans (hi.m 3 r)
  have ra : ∀ inb r e, View.readAt (Elt Ideal) arg20.view (Rect.unit (s := S4x256x128) ![3, 0, 0] ![1, 256, 128] inb).toLoadRect g (ix3 0 r e) = accN (xsn (rk r) (t r) (qr r 3) ks) (fun k => vsn vs k e) (1024 * k.val) :=
    fun inb r e => (rdh0 arg20.view g _ 3 rfl inb r e).trans (hi.acc 3 r e)
  have rk' : ∀ inb b d, View.readAt (Elt Ideal) arg10.view (Rect.unit (s := S1x4096x64) (k0_off2 i k) ![1, 1024, 64] inb).toLoadRect X_arg10 (ix3 0 b d) = ks ⟨1024 * k.val + b.val, by omega⟩ d :=
    fun inb b d => (rd_k _ _ (by omega) (off2_eq i k) arg10.view X_arg10 inb b d).trans (ho.k _ d)
  have rv : ∀ inb b e, View.readAt (Elt Ideal) arg11.view (Rect.unit (s := S1x4096x128) (k0_off3 i k) ![1, 1024, 128] inb).toLoadRect X_arg11 (ix3 0 b e) = vs ⟨1024 * k.val + b.val, by omega⟩ e :=
    fun inb b e => (rd_k _ _ (by omega) (off3_eq i k) arg11.view X_arg11 inb b e).trans (ho.v _ e)
  have re : ∀ inb j b, View.readAt (Elt Ideal) arg15.view (Rect.unit (s := S4x64x1024) (k0_off1 i k) ![1, 64, 1024] inb).toLoadRect X_arg15 (ix3 0 j b) = if (1024 * k.val + b.val) / 64 = j.val then 1 else 0 :=
    fun inb j b => (rd_e _ ⟨k.val, hk4⟩ (off1_eq i k) arg15.view X_arg15 inb j b).trans (ho.e _ j b)
  have hS : ∀ (r : Fin 256) (b : Fin 1024), (∑ d, qr r 3 d * eighth * ks ⟨1024 * k.val + b.val, by omega⟩ d)
      + ((∑ j : Fin 64, (if rk r j < 16 then (1 : EReal) else 0) * (if (1024 * k.val + b.val) / 64 = j.val then 1 else 0)) - 1) * ⊤
      = xsn (rk r) (t r) (qr r 3) ks (1024 * k.val + b.val) := fun r b => S_eq _ _ _ _ _ _ (by have := ht r; omega)
  constructor
  · pointwise [trip_k0_t1.sl.v1842, k0_pay149, trip_k0_t1.sl.v1839, trip_k0_t1.sl.v1841, trip_k0_t1.sl.v1840, trip_k0_t1.sl.v1814, trip_k0_t1.sl.v1813, trip_k0_t1.sl.r, k0_pay2, trip_k0_t1.sl.v1812, trip_k0_t1.sl.r_1, trip_k0_t1.sl.cst_695, k0_pay3, trip_k0_t1.sl.v1838]
    simp only [rq, rm, rk', re, ho.sel, unmask_top, bot_bits, hS]
    exact m_step _ _ _ (fun _ => rfl) _ rfl
  · intro e
    pointwise [trip_k0_t1.sl.v1842, k0_pay149, trip_k0_t1.sl.v1839, trip_k0_t1.sl.v1841, trip_k0_t1.sl.v1840, trip_k0_t1.sl.v1814, trip_k0_t1.sl.v1813, trip_k0_t1.sl.r, k0_pay2, trip_k0_t1.sl.v1812, trip_k0_t1.sl.r_1, trip_k0_t1.sl.cst_695, k0_pay3, trip_k0_t1.sl.v1838, trip_k0_t1.sl.r_2, trip_k0_t1.sl.v1846, trip_k0_t1.sl.v1863, k0_pay148, trip_k0_t1.sl.v1845, trip_k0_t1.sl.v1844, trip_k0_t1.sl.v1843, k0_pay4]
    simp only [rq, rm, ra, rk', rv, re, ho.sel, unmask_top, bot_bits, hS]
    exact acc_step _ (fun k => vsn vs k e) _ _ _ (fun _ => rfl) (fun b => (dif_pos (show 1024 * k.val + b.val < 4096 by omega)).symm) _ _ _ rfl (m_step _ _ _ (fun _ => rfl) _ rfl) rfl

/-- What one trip writes. -/
theorem tripL_eq (k : Fin (k0_t1_loop i).trips) (w : BitVec 32) (f : BufTy.Contents (Elt Ideal) arg19.view.ty) (g : BufTy.Contents (Elt Ideal) arg20.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 k w f g
      = ([⟨Rect.unit ![3, 0, 0] ![1, 256, 1] inb_S4x256x1_S1x256x1_3_0_0, k0_pay149 (F := Ideal) (trip_k0_t1.sl.v1842 (F := Ideal) i arg10 arg15 arg18 arg19 v1198 X_arg10 X_arg15 X_arg18 k f)⟩, ⟨Rect.unit ![2, 0, 0] ![1, 256, 1] inb_S4x256x1_S1x256x1_2_0_0, k0_pay147 (F := Ideal) (trip_k0_t1.sl.v1819 (F := Ideal) i arg10 arg15 arg18 arg19 v1198 X_arg10 X_arg15 X_arg18 k f)⟩,
          ⟨Rect.unit ![1, 0, 0] ![1, 256, 1] inb_S4x256x1_S1x256x1_1_0_0, trip_k0_t1.sl.v1837 (F := Ideal) i arg10 arg15 arg18 arg19 v1198 X_arg10 X_arg15 X_arg18 k f⟩, ⟨Rect.unit ![0, 0, 0] ![1, 256, 1] inb_S4x256x1_S1x256x1_0_0_0, trip_k0_t1.sl.v1810 (F := Ideal) i arg10 arg15 arg18 arg19 v1198 X_arg10 X_arg15 X_arg18 k f⟩],
         [⟨Rect.unit ![3, 0, 0] ![1, 256, 128] inb_S4x256x128_S1x256x128_3_0_0, k0_pay148 (F := Ideal) (trip_k0_t1.sl.r_2 (F := Ideal) i arg11 X_arg11 k) (trip_k0_t1.sl.v1839 (F := Ideal) arg19 f) (trip_k0_t1.sl.v1842 (F := Ideal) i arg10 arg15 arg18 arg19 v1198 X_arg10 X_arg15 X_arg18 k f) (trip_k0_t1.sl.v1846 (F := Ideal) i arg10 arg15 arg18 arg19 v1198 X_arg10 X_arg15 X_arg18 k f) (trip_k0_t1.sl.v1863 (F := Ideal) arg20 g)⟩, ⟨Rect.unit ![2, 0, 0] ![1, 256, 128] inb_S4x256x128_S1x256x128_2_0_0, k0_pay146 (F := Ideal) (trip_k0_t1.sl.v1854 (F := Ideal) i arg10 arg11 arg15 arg18 arg19 arg20 v1198 X_arg10 X_arg11 X_arg15 X_arg18 k f g)⟩,
          ⟨Rect.unit ![1, 0, 0] ![1, 256, 128] inb_S4x256x128_S1x256x128_1_0_0, trip_k0_t1.sl.v1834 (F := Ideal) i arg10 arg11 arg15 arg18 arg19 arg20 v1198 X_arg10 X_arg11 X_arg15 X_arg18 k f g⟩, ⟨Rect.unit ![0, 0, 0] ![1, 256, 128] inb_S4x256x128_S1x256x128_0_0_0, trip_k0_t1.sl.v1807 (F := Ideal) i arg10 arg11 arg15 arg18 arg19 arg20 v1198 X_arg10 X_arg11 X_arg15 X_arg18 k f g⟩]) := by
  unfold tripL_k0_t1 trip_k0_t1
  dsimp only

/-- One trip adds one tile. -/
theorem trip_inv (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (k : Fin (k0_t1_loop i).trips) (ht : ∀ r, 1024 * k.val + 1024 ≤ t r)
    (f : BufTy.Contents (Elt Ideal) arg19.view.ty) (g : BufTy.Contents (Elt Ideal) arg20.view.ty)
    (hi : Inv (fun r h => xsn (rk r) (t r) (qr r h) ks) (vsn vs) (1024 * k.val) f g) (w : BitVec 32) :
    Inv (fun r h => xsn (rk r) (t r) (qr r h) ks) (vsn vs) (1024 * k.val + 1024)
      (arg19.view.writes (Elt Ideal) f (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 k w f g).1)
      (arg20.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 k w f g).2) := by
  rw [tripL_eq]
  refine ⟨fun h r => ?_, fun h r e => ?_⟩
  · refine (four arg19.view f _ _ _ _ _ _ _ _ [] h r 0).trans ?_
    match h with
    | 0 => exact (head0_step i arg10 arg11 arg15 arg18 arg19 arg20 v1198 X_arg10 X_arg11 X_arg15 X_arg18 rk t qr ks vs ho k ht f g hi r).1
    | 1 => exact (head1_step i arg10 arg11 arg15 arg18 arg19 arg20 v1198 X_arg10 X_arg11 X_arg15 X_arg18 rk t qr ks vs ho k ht f g hi r).1
    | 2 => exact (head2_step i arg10 arg11 arg15 arg18 arg19 arg20 v1198 X_arg10 X_arg11 X_arg15 X_arg18 rk t qr ks vs ho k ht f g hi r).1
    | 3 => exact (head3_step i arg10 arg11 arg15 arg18 arg19 arg20 v1198 X_arg10 X_arg11 X_arg15 X_arg18 rk t qr ks vs ho k ht f g hi r).1
  · refine (four arg20.view g _ _ _ _ _ _ _ _ [] h r e).trans ?_
    match h with
    | 0 => exact (head0_step i arg10 arg11 arg15 arg18 arg19 arg20 v1198 X_arg10 X_arg11 X_arg15 X_arg18 rk t qr ks vs ho k ht f g hi r).2 e
    | 1 => exact (head1_step i arg10 arg11 arg15 arg18 arg19 arg20 v1198 X_arg10 X_arg11 X_arg15 X_arg18 rk t qr ks vs ho k ht f g hi r).2 e
    | 2 => exact (head2_step i arg10 arg11 arg15 arg18 arg19 arg20 v1198 X_arg10 X_arg11 X_arg15 X_arg18 rk t qr ks vs ho k ht f g hi r).2 e
    | 3 => exact (head3_step i arg10 arg11 arg15 arg18 arg19 arg20 v1198 X_arg10 X_arg11 X_arg15 X_arg18 rk t qr ks vs ho k ht f g hi r).2 e

/-- After n trips the first n tiles are in. -/
theorem loop_inv (rk : Fin 256 → Fin 64 → ℕ) (t : Fin 256 → ℕ) (qr : Fin 256 → Fin 4 → Fin 64 → EReal) (ks : Fin 4096 → Fin 64 → EReal) (vs : Fin 4096 → Fin 128 → EReal)
    (ho : Ops rk qr ks vs v1198 X_arg10 X_arg11 X_arg15 X_arg18) (ht : ∀ r, 1024 * ((i 1).val / 4) ≤ t r)
    (G19 : BufTy.Contents (Elt Ideal) arg19.view.ty) (G20 : BufTy.Contents (Elt Ideal) arg20.view.ty) (init : BitVec 32)
    (hi : Inv (fun r h => xsn (rk r) (t r) (qr r h) ks) (vsn vs) 0 G19 G20) : ∀ n : ℕ, n ≤ (i 1).val / 4 →
    Inv (fun r h => xsn (rk r) (t r) (qr r h) ks) (vsn vs) (1024 * n)
      (arg19.view.writes (Elt Ideal) G19 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 G19 G20 init n).2.1)
      (arg20.view.writes (Elt Ideal) G20 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 G19 G20 init n).2.2)
  | 0, _ => hi
  | n + 1, hn => by
    have hk : n < (k0_t1_loop i).trips := by rw [trips_eq]; omega
    have ih := loop_inv rk t qr ks vs ho ht G19 G20 init hi n (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 G19 G20 init ⟨n, hk⟩
    rw [show n + 1 = (⟨n, hk⟩ : Fin (k0_t1_loop i).trips).val + 1 from rfl, e]
    dsimp only
    rw [View.writes_append, View.writes_append]
    exact trip_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1198 v1235 X_arg10 X_arg11 X_arg15 X_arg18 rk t qr ks vs ho ⟨n, hk⟩ (fun r => by have := ht r; dsimp only; omega) _ _ ih _

end Loop

end Cert.NsaKernelIdeal.Pure
-- ==== Proof.NsaDiag.lean ====
module

public import proofs.«01_k».proof.Proof.NsaLoop
public import proofs.«01_k».proof.Proof.NsaSpec
public import Idealize.ShloMosaic.Lib.Pointwise
public import Idealize.ShloMosaic.Lib.WordCmp

/-! The tile of keys the block lies in, and the selected branch of a grid point. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- A block written at another head leaves this head's. -/
theorem other_head {sp : Space} {e : EltTy} {N : ℕ} (v : View sig .tc sp ⟨3, ![4, 256, N]⟩ e) (f : v.ty.Contents (Elt Ideal)) (q : ℕ)
    (bq : ∀ a, (![q, 0, 0] : Fin 3 → ℕ) a + (![1, 256, N] : Fin 3 → ℕ) a ≤ (⟨3, ![4, 256, N]⟩ : Shape).size a)
    (w : Shape.Idx ⟨3, ![1, 256, N]⟩ → Elt Ideal e) (L : List (View.Piece (Elt Ideal) ⟨3, ![4, 256, N]⟩ e)) (h : Fin 4) (hq : q < h.val) (r : Fin 256) (d : Fin N) :
    v.read (Elt Ideal) (v.writes (Elt Ideal) f ((⟨Rect.unit (s := ⟨3, ![4, 256, N]⟩) ![q, 0, 0] ![1, 256, N] bq, w⟩ : View.Piece (Elt Ideal) ⟨3, ![4, 256, N]⟩ e) :: L)) (ix3 h r d)
      = v.read (Elt Ideal) (v.writes (Elt Ideal) f L) (ix3 h r d) :=
  View.read_writes_cons_unit_of_not_mem v f bq w L (ix3 h r d) rfl 0 (Or.inr (by show q + 1 ≤ h.val; omega))

/-- A whole write reads back. -/
theorem whole_write {sp : Space} {e : EltTy} {N : ℕ} (v : View sig .tc sp ⟨3, ![4, 256, N]⟩ e) (f : v.ty.Contents (Elt Ideal))
    (bq : ∀ a, (![0, 0, 0] : Fin 3 → ℕ) a + (![4, 256, N] : Fin 3 → ℕ) a ≤ (⟨3, ![4, 256, N]⟩ : Shape).size a)
    (w : Shape.Idx ⟨3, ![4, 256, N]⟩ → Elt Ideal e) (h : Fin 4) (r : Fin 256) (d : Fin N) :
    v.read (Elt Ideal) (v.writes (Elt Ideal) f [(⟨Rect.unit (s := ⟨3, ![4, 256, N]⟩) ![0, 0, 0] ![4, 256, N] bq, w⟩ : View.Piece (Elt Ideal) ⟨3, ![4, 256, N]⟩ e)]) (ix3 h r d)
      = w (ix3 h r d) :=
  View.read_writes_cons_unit_of_mem v f bq w [] (ix3 h r d) (ix3 h r d) rfl (fun a => by
    match a with
    | ⟨0, _⟩ => show h.val = 0 + h.val; omega
    | ⟨1, _⟩ => show r.val = 0 + r.val; omega
    | ⟨2, _⟩ => show d.val = 0 + d.val; omega)

section Diag

variable (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole) (arg8 : Memref sig .tc .vmem S1x256x64 .bf16) (harg8 : arg8.IsWhole) (arg9 : Memref sig .tc .vmem S1x256x64 .bf16) (harg9 : arg9.IsWhole) (arg10 : Memref sig .tc .vmem S1x4096x64 .bf16) (harg10 : arg10.IsWhole) (arg11 : Memref sig .tc .vmem S1x4096x128 .bf16) (harg11 : arg11.IsWhole) (arg12 : Memref sig .tc .vmem S1x4096x64 .bf16) (harg12 : arg12.IsWhole) (arg13 : Memref sig .tc .vmem S1x4096x128 .bf16) (harg13 : arg13.IsWhole) (arg14 : Memref sig .tc .vmem S64x256 .bf16) (harg14 : arg14.IsWhole) (arg15 : Memref sig .tc .vmem S4x64x1024 .bf16) (harg15 : arg15.IsWhole) (arg16 : Memref sig .tc .vmem S1x256x256 .f32) (harg16 : arg16.IsWhole) (arg17 : Memref sig .tc .vmem S64x256 .f32) (harg17 : arg17.IsWhole) (arg18 : Memref sig .tc .vmem S4x256x64 .bf16) (harg18 : arg18.IsWhole) (arg19 : Memref sig .tc .vmem S4x256x1 .f32) (harg19 : arg19.IsWhole) (arg20 : Memref sig .tc .vmem S4x256x128 .f32) (harg20 : arg20.IsWhole)
  (x0 : Vec Ideal S1x256x256 .f32) (x1 : Vec Ideal S1x256x128 .f32) (x2 : Vec Ideal S1x256x64 .f32) (x3 : Vec Ideal S1x256x64 .f32) (x4 : Vec Ideal S1x256x64 .f32) (x5 : Vec Ideal S1x64 .f32) (x6 : Vec Ideal S1x256x64 .bf16) (x7 : Vec Ideal S1x256x64 .bf16) (x8 : Vec Ideal S1x4096x64 .bf16) (x9 : Vec Ideal S1x4096x128 .bf16) (x10 : Vec Ideal S1x4096x64 .bf16) (x11 : Vec Ideal S1x4096x128 .bf16) (x12 : Vec Ideal S64x256 .bf16) (x13 : Vec Ideal S4x64x1024 .bf16)
  (cs sn : Fin 256 → Fin 8 → EReal)

/-- The tile the block lies in, as a word. -/
theorem v1235_at : kernelRun0_A.sl.v1235 i = BitVec.ofNat 32 ((i 1).val / 4) := by
  have h : ∀ j : Fin 16, kernelRun0_A.sl.v1235 (crd j) = BitVec.ofNat 32 (j.val / 4) := by decide +kernel
  exact h (i 1)

/-- The second loop makes no trip. -/
theorem trips2_eq : (k0_t2_loop i).trips = 0 := by
  have h : ∀ j : Fin 16, (k0_t2_loop (crd j)).trips = 0 := by decide +kernel
  exact h (i 1)

/-- The last tile's rows of the selection table start at the tile `c / 4`. -/
theorem off7_eq : k0_off7 i = ![(i 1).val / 4, 0, 0] := by
  have h : ∀ j : Fin 16, k0_off7 (crd j) = ![j.val / 4, 0, 0] := by decide +kernel
  exact h (i 1)

/-- The last tile's selected keys start at row `1024 · (c / 4)`. -/
theorem off8_eq : k0_off8 i = ![0, 1024 * ((i 1).val / 4), 0] := by
  have h : ∀ j : Fin 16, k0_off8 (crd j) = ![0, 1024 * (j.val / 4), 0] := by decide +kernel
  exact h (i 1)

/-- The last tile's selected values start at row `1024 · (c / 4)`. -/
theorem off9_eq : k0_off9 i = ![0, 1024 * ((i 1).val / 4), 0] := by
  have h : ∀ j : Fin 16, k0_off9 (crd j) = ![0, 1024 * (j.val / 4), 0] := by decide +kernel
  exact h (i 1)

/-- The queries' store holds the turned queries. -/
theorem qr_fill (T : Tables x2 x3 x4 cs sn) (h : Fin 4) (r : Fin 256) (d : Fin 64) :
    arg18.view.read (Elt Ideal) (arg18.view.writes (Elt Ideal) arg18.view.junk (kernelRun0_A.sl.HS1_4 (F := Ideal) c arg2 harg2 arg4 harg4 arg5 harg5 arg6 harg6 arg7 harg7 x0 x2 x3 x4 x5)) (ix3 h r d) = kqr x0 x5 cs sn r h d * eighth := by
  dsimp only [kernelRun0_A.sl.HS1_4]
  refine (four arg18.view _ _ _ _ _ _ _ _ _ [] h r d).trans ?_
  match h with
  | 0 =>
    refine Eq.trans ?_ (v40_at c arg2 harg2 arg4 harg4 arg5 harg5 arg6 harg6 arg7 harg7 x0 x2 x3 x4 x5 cs sn T r d)
    pointwise [kernelRun0_A.sl.v1209, k0_pay142, k0_pay143, k0_pay144, k0_pay145]
  | 1 =>
    refine Eq.trans ?_ (v72_at c arg2 harg2 arg4 harg4 arg5 harg5 arg6 harg6 arg7 harg7 x0 x2 x3 x4 x5 cs sn T r d)
    pointwise [kernelRun0_A.sl.v1212, k0_pay142, k0_pay143, k0_pay144, k0_pay145]
  | 2 =>
    refine Eq.trans ?_ (v104_at c arg2 harg2 arg4 harg4 arg5 harg5 arg6 harg6 arg7 harg7 x0 x2 x3 x4 x5 cs sn T r d)
    pointwise [kernelRun0_A.sl.v1215, k0_pay142, k0_pay143, k0_pay144, k0_pay145]
  | 3 =>
    refine Eq.trans ?_ (v136_at c arg2 harg2 arg4 harg4 arg5 harg5 arg6 harg6 arg7 harg7 x0 x2 x3 x4 x5 cs sn T r d)
    pointwise [kernelRun0_A.sl.v1218, k0_pay142, k0_pay143, k0_pay144, k0_pay145]

/-- The number of a block in its row's ranking. -/
abbrev krk (x0 : Vec Ideal S1x256x256 .f32) (x5 : Vec Ideal S1x64 .f32) (x6 : Vec Ideal S1x256x64 .bf16) (i : grid0.Coords) (r : Fin 256) (j : Fin 64) : ℕ := rank (imps (kqn x0 x5 r) (kkc x6) (256 * (i 1).val + r.val)) j

/-- The keys and the values, by number. -/
abbrev kks (x8 : Vec Ideal S1x4096x64 .bf16) (k : Fin 4096) (d : Fin 64) : EReal := x8 (ix3 0 k d)
/-- Row `k` of the selected values with their column of ones. -/
abbrev kvs (x9 : Vec Ideal S1x4096x128 .bf16) (k : Fin 4096) (e : Fin 128) : EReal := x9 (ix3 0 k e)

/-- The operands of the loop at this grid point. -/
theorem ops (hO : Covers x12) (T : Tables x2 x3 x4 cs sn) (hE : ∀ (a : Fin 4) (j : Fin 64) (b : Fin 1024), x13 (ix3 a j b) = if (1024 * a.val + b.val) / 64 = j.val then 1 else 0) :
    Ops (krk x0 x5 x6 i) (kqr x0 x5 cs sn) (kks x8) (kvs x9) (kernelRun0_A.sl.r_6 (F := Ideal) c i arg2 harg2 arg7 harg7 arg8 harg8 arg14 harg14 arg17 x0 x5 x6 x12) (harg10.unread x8) (harg11.unread x9) (harg15.unread x13)
      (arg18.view.writes (Elt Ideal) arg18.view.junk (kernelRun0_A.sl.HS1_4 (F := Ideal) c arg2 harg2 arg4 harg4 arg5 harg5 arg6 harg6 arg7 harg7 x0 x2 x3 x4 x5)) where
  sel := r_6_at c i arg2 harg2 arg7 harg7 arg8 harg8 arg14 harg14 arg17 x0 x5 x6 x12 hO
  k k d := congrFun (harg10.read_unread x8) (ix3 0 k d)
  v k d := congrFun (harg11.read_unread x9) (ix3 0 k d)
  e a j b := (congrFun (harg15.read_unread x13) (ix3 a j b)).trans (hE a j b)
  q := qr_fill c arg2 harg2 arg4 harg4 arg5 harg5 arg6 harg6 arg7 harg7 arg18 x0 x2 x3 x4 x5 cs sn T

/-- Before the loop nothing is in. -/
theorem start (X : Fin 256 → Fin 4 → ℕ → EReal) (V : ℕ → Fin 128 → EReal) : Inv X V (arg19 := arg19) (arg20 := arg20) 0
    (arg19.view.writes (Elt Ideal) arg19.view.junk (kernelRun0_A.sl.HS2_1 (F := Ideal))) (arg20.view.writes (Elt Ideal) arg20.view.junk (kernelRun0_A.sl.HS3_1 (F := Ideal))) := by
  refine ⟨fun h r => ?_, fun h r e => ?_⟩
  · dsimp only [kernelRun0_A.sl.HS2_1]
    refine (whole_write arg19.view _ _ _ h r 0).trans ?_
    rw [topN_zero]
    pointwise [k0_pay140]
    exact mask_bot
  · dsimp only [kernelRun0_A.sl.HS3_1]
    refine (whole_write arg20.view _ _ _ h r e).trans ?_
    rw [accN_zero]
    pointwise [kernelRun0_A.sl.v1206, kernelRun0_A.sl.v1203, kernelRun0_A.sl.cst_67]

/-- No pieces and then two lists of pieces written. -/
theorem st_writes {sp : Space} {e : EltTy} {sh : Shape} (v : View sig .tc sp sh e) (f : v.ty.Contents (Elt Ideal)) (a b c : List (View.Piece (Elt Ideal) sh e)) (ha : a = []) :
    v.writes (Elt Ideal) f (a ++ (b ++ c)) = v.writes (Elt Ideal) (v.writes (Elt Ideal) f c) b := by
  rw [ha, List.nil_append, View.writes_append]

/-- What the two stores hold before the tile the block lies in. -/
theorem state (hO : Covers x12) (T : Tables x2 x3 x4 cs sn) (hE : ∀ (a : Fin 4) (j : Fin 64) (b : Fin 1024), x13 (ix3 a j b) = if (1024 * a.val + b.val) / 64 = j.val then 1 else 0) :
    Inv (fun r h => xsn (krk x0 x5 x6 i r) (256 * (i 1).val + r.val) (kqr x0 x5 cs sn r h) (kks x8)) (vsn (kvs x9)) (1024 * ((i 1).val / 4))
      (arg19.view.writes (Elt Ideal) arg19.view.junk (((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (kernelRun0_A.sl.v1240 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.1 ++ (kernelRun0_A.sl.HS2_1 (F := Ideal)))) (arg20.view.writes (Elt Ideal) arg20.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.2 ++ (kernelRun0_A.sl.HS3_1 (F := Ideal)))) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).1 (Scf.trips (k0_t2_loop i).lb (k0_t2_loop i).ub (k0_t2_loop i).st)).2.1 ++ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.1 ++ (kernelRun0_A.sl.HS2_1 (F := Ideal))))))
      (arg20.view.writes (Elt Ideal) arg20.view.junk (((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (kernelRun0_A.sl.v1240 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.1 ++ (kernelRun0_A.sl.HS2_1 (F := Ideal)))) (arg20.view.writes (Elt Ideal) arg20.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.2 ++ (kernelRun0_A.sl.HS3_1 (F := Ideal)))) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).1 (Scf.trips (k0_t2_loop i).lb (k0_t2_loop i).ub (k0_t2_loop i).st)).2.2 ++ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (arg19.view.writes (Elt Ideal) arg19.view.junk (kernelRun0_A.sl.HS2_1 (F := Ideal))) (arg20.view.writes (Elt Ideal) arg20.view.junk (kernelRun0_A.sl.HS3_1 (F := Ideal))) (0#32) (Scf.trips (k0_t1_loop i).lb (k0_t1_loop i).ub (k0_t1_loop i).st)).2.2 ++ (kernelRun0_A.sl.HS3_1 (F := Ideal)))))) := by
  have h := loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun0_A.sl.v0 i) (kernelRun0_A.sl.r_6 (F := Ideal) c i arg2 harg2 arg7 harg7 arg8 harg8 arg14 harg14 arg17 x0 x5 x6 x12) (kernelRun0_A.sl.v1235 i) (harg10.unread x8) (harg11.unread x9) (harg15.unread x13) (arg18.view.writes (Elt Ideal) arg18.view.junk (kernelRun0_A.sl.HS1_4 (F := Ideal) c arg2 harg2 arg4 harg4 arg5 harg5 arg6 harg6 arg7 harg7 x0 x2 x3 x4 x5)) (krk x0 x5 x6 i) (fun r => 256 * (i 1).val + r.val) (kqr x0 x5 cs sn) (kks x8) (kvs x9)
    (ops c i arg2 harg2 arg4 harg4 arg5 harg5 arg6 harg6 arg7 harg7 arg8 harg8 arg10 harg10 arg11 harg11 arg14 harg14 arg15 harg15 arg17 arg18 x0 x2 x3 x4 x5 x6 x8 x9 x12 x13 cs sn hO T hE) (fun r => by omega) _ _ 0#32 (start arg19 arg20 _ _) ((i 1).val / 4) le_rfl
  rw [show Scf.trips (k0_t2_loop i).lb (k0_t2_loop i).ub (k0_t2_loop i).st = 0 from trips2_eq i,
    show Scf.trips (k0_t1_loop i).lb (k0_t1_loop i).ub (k0_t1_loop i).st = (i 1).val / 4 from trips_eq i]
  rw [st_writes, st_writes]
  · exact h
  · rfl
  · rfl

/-- The causal tile's bias. -/
theorem bias_causal (rk : Fin 64 → ℕ) (t : ℕ) (q : Fin 64 → EReal) (ks : Fin 4096 → Fin 64 → EReal) (n : ℕ) (hn : n < 4096) :
    (∑ d, q d * eighth * ks ⟨n, hn⟩ d) + (if n ≤ t then ((∑ j : Fin 64, (if rk j < 16 then (1 : EReal) else 0) * (if n / 64 = j.val then 1 else 0)) - 1) * ⊤ else ⊥) = xsn rk t q ks n := by
  refine score_bias rk t q ks n hn _ ?_
  by_cases h : n ≤ t
  · rw [if_pos h]
    exact (bias_eq rk n hn _ fun _ => rfl).trans (if_congr (by simp [h]) rfl rfl)
  · rw [if_neg h, if_neg fun hh => h hh.2]

/-- Head 0's stored queries are its rotated, scaled queries. -/
theorem q0_read (T : Tables x2 x3 x4 cs sn) (r : Fin 256) (d : Fin 64) : kernelRun0_A.sl.v1268 (F := Ideal) c arg2 harg2 arg4 harg4 arg5 harg5 arg6 harg6 arg7 harg7 arg18 x0 x2 x3 x4 x5 (ix3 0 r d) = kqr x0 x5 cs sn r 0 d * eighth := by
  dsimp only [kernelRun0_A.sl.v1268, View.readCov]
  exact (rdh0 arg18.view _ _ 0 rfl _ r d).trans (qr_fill c arg2 harg2 arg4 harg4 arg5 harg5 arg6 harg6 arg7 harg7 arg18 x0 x2 x3 x4 x5 cs sn T 0 r d)

/-- Head 0's running maximum, read before the last tile, is the largest score over the whole tiles before it. -/
theorem m0_read (hO : Covers x12) (T : Tables x2 x3 x4 cs sn) (hE : ∀ (a : Fin 4) (j : Fin 64) (b : Fin 1024), x13 (ix3 a j b) = if (1024 * a.val + b.val) / 64 = j.val then 1 else 0) (r : Fin 256) : kernelRun0_A.sl.v1276 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r 0) = topN (xsn (krk x0 x5 x6 i r) (256 * (i 1).val + r.val) (kqr x0 x5 cs sn r 0) (kks x8)) (1024 * ((i 1).val / 4)) := by
  dsimp only [kernelRun0_A.sl.v1276, View.readCov]
  refine (rdh0 arg19.view _ _ 0 rfl _ r 0).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).m 0 r

/-- Head 0's running sum, read before the last tile, is the weighted sum over the whole tiles before it. -/
theorem a0_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1300 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 0) (kks x8)) (fun k => vsn (kvs x9) k e) (1024 * ((i 1).val / 4)) := by
  dsimp only [kernelRun0_A.sl.v1300, View.readCov]
  refine (rdh0 arg20.view _ _ 0 rfl _ r e).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).acc 0 r e

/-- Head 1's stored queries are its rotated, scaled queries. -/
theorem q1_read (T : Tables x2 x3 x4 cs sn) (r : Fin 256) (d : Fin 64) : kernelRun0_A.sl.v1272 (F := Ideal) c arg2 harg2 arg4 harg4 arg5 harg5 arg6 harg6 arg7 harg7 arg18 x0 x2 x3 x4 x5 (ix3 0 r d) = kqr x0 x5 cs sn r 1 d * eighth := by
  dsimp only [kernelRun0_A.sl.v1272, View.readCov]
  exact (rdh0 arg18.view _ _ 1 rfl _ r d).trans (qr_fill c arg2 harg2 arg4 harg4 arg5 harg5 arg6 harg6 arg7 harg7 arg18 x0 x2 x3 x4 x5 cs sn T 1 r d)

/-- Head 1's running maximum, read before the last tile, is the largest score over the whole tiles before it. -/
theorem m1_read (hO : Covers x12) (T : Tables x2 x3 x4 cs sn) (hE : ∀ (a : Fin 4) (j : Fin 64) (b : Fin 1024), x13 (ix3 a j b) = if (1024 * a.val + b.val) / 64 = j.val then 1 else 0) (r : Fin 256) : kernelRun0_A.sl.v1289 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r 0) = topN (xsn (krk x0 x5 x6 i r) (256 * (i 1).val + r.val) (kqr x0 x5 cs sn r 1) (kks x8)) (1024 * ((i 1).val / 4)) := by
  dsimp only [kernelRun0_A.sl.v1289, View.readCov]
  refine (rdh0 arg19.view _ _ 1 rfl _ r 0).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).m 1 r

/-- Head 1's running sum, read before the last tile, is the weighted sum over the whole tiles before it. -/
theorem a1_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1327 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 1) (kks x8)) (fun k => vsn (kvs x9) k e) (1024 * ((i 1).val / 4)) := by
  dsimp only [kernelRun0_A.sl.v1327, kernelRun0_A.sl.HS3_1_1, View.readCov]
  refine (rdh0 arg20.view _ _ 1 rfl _ r e).trans ?_
  refine (other_head arg20.view _ 0 _ _ _ 1 (by decide) r e).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).acc 1 r e

/-- Head 2's stored queries are its rotated, scaled queries. -/
theorem q2_read (T : Tables x2 x3 x4 cs sn) (r : Fin 256) (d : Fin 64) : kernelRun0_A.sl.v1285 (F := Ideal) c arg2 harg2 arg4 harg4 arg5 harg5 arg6 harg6 arg7 harg7 arg18 x0 x2 x3 x4 x5 (ix3 0 r d) = kqr x0 x5 cs sn r 2 d * eighth := by
  dsimp only [kernelRun0_A.sl.v1285, View.readCov]
  exact (rdh0 arg18.view _ _ 2 rfl _ r d).trans (qr_fill c arg2 harg2 arg4 harg4 arg5 harg5 arg6 harg6 arg7 harg7 arg18 x0 x2 x3 x4 x5 cs sn T 2 r d)

/-- Head 2's running maximum, read before the last tile, is the largest score over the whole tiles before it. -/
theorem m2_read (hO : Covers x12) (T : Tables x2 x3 x4 cs sn) (hE : ∀ (a : Fin 4) (j : Fin 64) (b : Fin 1024), x13 (ix3 a j b) = if (1024 * a.val + b.val) / 64 = j.val then 1 else 0) (r : Fin 256) : kernelRun0_A.sl.v1316 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r 0) = topN (xsn (krk x0 x5 x6 i r) (256 * (i 1).val + r.val) (kqr x0 x5 cs sn r 2) (kks x8)) (1024 * ((i 1).val / 4)) := by
  dsimp only [kernelRun0_A.sl.v1316, kernelRun0_A.sl.HS2_1_1, View.readCov]
  refine (rdh0 arg19.view _ _ 2 rfl _ r 0).trans ?_
  refine (other_head arg19.view _ 0 _ _ _ 2 (by decide) r 0).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).m 2 r

/-- Head 2's running sum, read before the last tile, is the weighted sum over the whole tiles before it. -/
theorem a2_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1350 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 2) (kks x8)) (fun k => vsn (kvs x9) k e) (1024 * ((i 1).val / 4)) := by
  dsimp only [kernelRun0_A.sl.v1350, kernelRun0_A.sl.HS3_2, kernelRun0_A.sl.HS3_1_1, View.readCov]
  refine (rdh0 arg20.view _ _ 2 rfl _ r e).trans ?_
  refine (other_head arg20.view _ 1 _ _ _ 2 (by decide) r e).trans ?_
  refine (other_head arg20.view _ 0 _ _ _ 2 (by decide) r e).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).acc 2 r e

/-- Head 3's stored queries are its rotated, scaled queries. -/
theorem q3_read (T : Tables x2 x3 x4 cs sn) (r : Fin 256) (d : Fin 64) : kernelRun0_A.sl.v1312 (F := Ideal) c arg2 harg2 arg4 harg4 arg5 harg5 arg6 harg6 arg7 harg7 arg18 x0 x2 x3 x4 x5 (ix3 0 r d) = kqr x0 x5 cs sn r 3 d * eighth := by
  dsimp only [kernelRun0_A.sl.v1312, View.readCov]
  exact (rdh0 arg18.view _ _ 3 rfl _ r d).trans (qr_fill c arg2 harg2 arg4 harg4 arg5 harg5 arg6 harg6 arg7 harg7 arg18 x0 x2 x3 x4 x5 cs sn T 3 r d)

/-- Head 3's running maximum, read before the last tile, is the largest score over the whole tiles before it. -/
theorem m3_read (hO : Covers x12) (T : Tables x2 x3 x4 cs sn) (hE : ∀ (a : Fin 4) (j : Fin 64) (b : Fin 1024), x13 (ix3 a j b) = if (1024 * a.val + b.val) / 64 = j.val then 1 else 0) (r : Fin 256) : kernelRun0_A.sl.v1339 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r 0) = topN (xsn (krk x0 x5 x6 i r) (256 * (i 1).val + r.val) (kqr x0 x5 cs sn r 3) (kks x8)) (1024 * ((i 1).val / 4)) := by
  dsimp only [kernelRun0_A.sl.v1339, kernelRun0_A.sl.HS2_2, kernelRun0_A.sl.HS2_1_1, View.readCov]
  refine (rdh0 arg19.view _ _ 3 rfl _ r 0).trans ?_
  refine (other_head arg19.view _ 1 _ _ _ 3 (by decide) r 0).trans ?_
  refine (other_head arg19.view _ 0 _ _ _ 3 (by decide) r 0).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).m 3 r

/-- Head 3's running sum, read before the last tile, is the weighted sum over the whole tiles before it. -/
theorem a3_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1364 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 3) (kks x8)) (fun k => vsn (kvs x9) k e) (1024 * ((i 1).val / 4)) := by
  dsimp only [kernelRun0_A.sl.v1364, kernelRun0_A.sl.HS3_3, kernelRun0_A.sl.HS3_2, kernelRun0_A.sl.HS3_1_1, View.readCov]
  refine (rdh0 arg20.view _ _ 3 rfl _ r e).trans ?_
  refine (other_head arg20.view _ 2 _ _ _ 3 (by decide) r e).trans ?_
  refine (other_head arg20.view _ 1 _ _ _ 3 (by decide) r e).trans ?_
  refine (other_head arg20.view _ 0 _ _ _ 3 (by decide) r e).trans ?_
  exact (state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE).acc 3 r e

end Diag

end Cert.NsaKernelIdeal.Pure
-- ==== Proof.NsaTile.lean ====
module

public import proofs.«01_k».proof.Proof.NsaDiag
public import proofs.«01_k».proof.Proof.NsaSpec
public import Idealize.ShloMosaic.Lib.Pointwise
public import Idealize.ShloMosaic.Lib.WordCmp

/-! The selected branch of a grid point, after the tile the block lies in. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

section Tile

variable (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole) (arg8 : Memref sig .tc .vmem S1x256x64 .bf16) (harg8 : arg8.IsWhole) (arg9 : Memref sig .tc .vmem S1x256x64 .bf16) (harg9 : arg9.IsWhole) (arg10 : Memref sig .tc .vmem S1x4096x64 .bf16) (harg10 : arg10.IsWhole) (arg11 : Memref sig .tc .vmem S1x4096x128 .bf16) (harg11 : arg11.IsWhole) (arg12 : Memref sig .tc .vmem S1x4096x64 .bf16) (harg12 : arg12.IsWhole) (arg13 : Memref sig .tc .vmem S1x4096x128 .bf16) (harg13 : arg13.IsWhole) (arg14 : Memref sig .tc .vmem S64x256 .bf16) (harg14 : arg14.IsWhole) (arg15 : Memref sig .tc .vmem S4x64x1024 .bf16) (harg15 : arg15.IsWhole) (arg16 : Memref sig .tc .vmem S1x256x256 .f32) (harg16 : arg16.IsWhole) (arg17 : Memref sig .tc .vmem S64x256 .f32) (harg17 : arg17.IsWhole) (arg18 : Memref sig .tc .vmem S4x256x64 .bf16) (harg18 : arg18.IsWhole) (arg19 : Memref sig .tc .vmem S4x256x1 .f32) (harg19 : arg19.IsWhole) (arg20 : Memref sig .tc .vmem S4x256x128 .f32) (harg20 : arg20.IsWhole)
  (x0 : Vec Ideal S1x256x256 .f32) (x1 : Vec Ideal S1x256x128 .f32) (x2 : Vec Ideal S1x256x64 .f32) (x3 : Vec Ideal S1x256x64 .f32) (x4 : Vec Ideal S1x256x64 .f32) (x5 : Vec Ideal S1x64 .f32) (x6 : Vec Ideal S1x256x64 .bf16) (x7 : Vec Ideal S1x256x64 .bf16) (x8 : Vec Ideal S1x4096x64 .bf16) (x9 : Vec Ideal S1x4096x128 .bf16) (x10 : Vec Ideal S1x4096x64 .bf16) (x11 : Vec Ideal S1x4096x128 .bf16) (x12 : Vec Ideal S64x256 .bf16) (x13 : Vec Ideal S4x64x1024 .bf16)
  (cs sn : Fin 256 → Fin 8 → EReal)

/-- Head 0 after the last tile: the sums. -/
theorem w0_at (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1308 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 0) (kks x8)) (fun k => vsn (kvs x9) k e) (1024 * ((i 1).val / 4) + 1024) := by
  have h16 : (i 1).val < 16 := (i 1).isLt
  have hk4 : (i 1).val / 4 < 4 := by omega
  have ho := ops c i arg2 harg2 arg4 harg4 arg5 harg5 arg6 harg6 arg7 harg7 arg8 harg8 arg10 harg10 arg11 harg11 arg14 harg14 arg15 harg15 arg17 arg18 x0 x2 x3 x4 x5 x6 x8 x9 x12 x13 cs sn hO T hE
  have rq := q0_read c arg2 harg2 arg4 harg4 arg5 harg5 arg6 harg6 arg7 harg7 arg18 x0 x2 x3 x4 x5 cs sn T
  have rm := m0_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have ra := a0_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have rs := r_6_at c i arg2 harg2 arg7 harg7 arg8 harg8 arg14 harg14 arg17 x0 x5 x6 x12 hO
  have rk' : ∀ inb b d, View.readAt (Elt Ideal) arg10.view (Rect.unit (s := S1x4096x64) (k0_off8 i) ![1, 1024, 64] inb).toLoadRect (harg10.unread x8) (ix3 0 b d) = kks x8 ⟨1024 * ((i 1).val / 4) + b.val, by omega⟩ d :=
    fun inb b d => (rd_k _ _ (by omega) (off8_eq i) arg10.view (harg10.unread x8) inb b d).trans (ho.k _ d)
  have rv : ∀ inb b e, View.readAt (Elt Ideal) arg11.view (Rect.unit (s := S1x4096x128) (k0_off9 i) ![1, 1024, 128] inb).toLoadRect (harg11.unread x9) (ix3 0 b e) = kvs x9 ⟨1024 * ((i 1).val / 4) + b.val, by omega⟩ e :=
    fun inb b e => (rd_k _ _ (by omega) (off9_eq i) arg11.view (harg11.unread x9) inb b e).trans (ho.v _ e)
  have re : ∀ inb j b, View.readAt (Elt Ideal) arg15.view (Rect.unit (s := S4x64x1024) (k0_off7 i) ![1, 64, 1024] inb).toLoadRect (harg15.unread x13) (ix3 0 j b) = if (1024 * ((i 1).val / 4) + b.val) / 64 = j.val then 1 else 0 :=
    fun inb j b => (rd_e _ ⟨(i 1).val / 4, hk4⟩ (off7_eq i) arg15.view (harg15.unread x13) inb j b).trans (ho.e _ j b)
  have hS : ∀ (b : Fin 1024), (∑ d, kqr x0 x5 cs sn r 0 d * eighth * kks x8 ⟨1024 * ((i 1).val / 4) + b.val, by omega⟩ d)
      + (if 1024 * ((i 1).val / 4) + b.val ≤ 256 * (i 1).val + r.val then ((∑ j : Fin 64, (if rank (imps (kqn x0 x5 r) (kkc x6) (256 * (i 1).val + r.val)) j < 16 then (1 : EReal) else 0) * (if (1024 * ((i 1).val / 4) + b.val) / 64 = j.val then 1 else 0)) - 1) * ⊤ else ⊥)
      = xsn (krk x0 x5 x6 i r) (256 * (i 1).val + r.val) (kqr x0 x5 cs sn r 0) (kks x8) (1024 * ((i 1).val / 4) + b.val) := fun b => bias_causal _ _ _ _ _ _
  have hC : ∀ (b : Fin 1024) (x y : EReal), Scalar.select (IntOp.cmpi CmpIPredicate.sle (IntOp.addi (Scalar.muli (BitVec.ofNat 32 ((i 1).val / 4)) 1024#32) (BitVec.ofNat 32 b.val)) (BitVec.ofNat 32 (256 * (i 1).val + r.val))) x y
      = if 1024 * ((i 1).val / 4) + b.val ≤ 256 * (i 1).val + r.val then x else y := fun b x y => by
    rw [show Scalar.muli (BitVec.ofNat 32 ((i 1).val / 4)) 1024#32 = BitVec.ofNat 32 (1024 * ((i 1).val / 4)) from (muli_nat _ 1024).trans (by rw [Nat.mul_comm]), addi_nat]
    exact select_sle (by omega) (by omega) x y
  pointwise [kernelRun0_A.sl.v1308, kernelRun0_A.sl.v1305, kernelRun0_A.sl.v1303, kernelRun0_A.sl.v1304, kernelRun0_A.sl.v1284, kernelRun0_A.sl.r_9, kernelRun0_A.sl.cst_461, k0_pay156, kernelRun0_A.sl.v1283, kernelRun0_A.sl.v1282, kernelRun0_A.sl.r_10, kernelRun0_A.sl.v1281, kernelRun0_A.sl.v1280, kernelRun0_A.sl.v1277, kernelRun0_A.sl.v1279, kernelRun0_A.sl.v1278, k0_pay157, k0_pay155, k0_pay154, kernelRun0_A.sl.v1302, kernelRun0_A.sl.v1301, kernelRun0_A.sl.v1299, kernelRun0_A.sl.v1298]
  simp only [rq, rm, ra, rk', rv, re, rs, unmask_top, bot_bits, mask_bot, v0_at, v1235_at, addi_nat, hC, hS]
  exact acc_step _ (fun k => vsn (kvs x9) k e) _ _ _ (fun _ => rfl) (fun b => (dif_pos (show 1024 * ((i 1).val / 4) + b.val < 4096 by omega)).symm) _ _ _ rfl (m_step _ _ _ (fun _ => rfl) _ rfl) rfl

/-- Head 1 after the last tile: the sums. -/
theorem w1_at (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1335 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 1) (kks x8)) (fun k => vsn (kvs x9) k e) (1024 * ((i 1).val / 4) + 1024) := by
  have h16 : (i 1).val < 16 := (i 1).isLt
  have hk4 : (i 1).val / 4 < 4 := by omega
  have ho := ops c i arg2 harg2 arg4 harg4 arg5 harg5 arg6 harg6 arg7 harg7 arg8 harg8 arg10 harg10 arg11 harg11 arg14 harg14 arg15 harg15 arg17 arg18 x0 x2 x3 x4 x5 x6 x8 x9 x12 x13 cs sn hO T hE
  have rq := q1_read c arg2 harg2 arg4 harg4 arg5 harg5 arg6 harg6 arg7 harg7 arg18 x0 x2 x3 x4 x5 cs sn T
  have rm := m1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have ra := a1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have rs := r_6_at c i arg2 harg2 arg7 harg7 arg8 harg8 arg14 harg14 arg17 x0 x5 x6 x12 hO
  have rk' : ∀ inb b d, View.readAt (Elt Ideal) arg10.view (Rect.unit (s := S1x4096x64) (k0_off8 i) ![1, 1024, 64] inb).toLoadRect (harg10.unread x8) (ix3 0 b d) = kks x8 ⟨1024 * ((i 1).val / 4) + b.val, by omega⟩ d :=
    fun inb b d => (rd_k _ _ (by omega) (off8_eq i) arg10.view (harg10.unread x8) inb b d).trans (ho.k _ d)
  have rv : ∀ inb b e, View.readAt (Elt Ideal) arg11.view (Rect.unit (s := S1x4096x128) (k0_off9 i) ![1, 1024, 128] inb).toLoadRect (harg11.unread x9) (ix3 0 b e) = kvs x9 ⟨1024 * ((i 1).val / 4) + b.val, by omega⟩ e :=
    fun inb b e => (rd_k _ _ (by omega) (off9_eq i) arg11.view (harg11.unread x9) inb b e).trans (ho.v _ e)
  have re : ∀ inb j b, View.readAt (Elt Ideal) arg15.view (Rect.unit (s := S4x64x1024) (k0_off7 i) ![1, 64, 1024] inb).toLoadRect (harg15.unread x13) (ix3 0 j b) = if (1024 * ((i 1).val / 4) + b.val) / 64 = j.val then 1 else 0 :=
    fun inb j b => (rd_e _ ⟨(i 1).val / 4, hk4⟩ (off7_eq i) arg15.view (harg15.unread x13) inb j b).trans (ho.e _ j b)
  have hS : ∀ (b : Fin 1024), (∑ d, kqr x0 x5 cs sn r 1 d * eighth * kks x8 ⟨1024 * ((i 1).val / 4) + b.val, by omega⟩ d)
      + (if 1024 * ((i 1).val / 4) + b.val ≤ 256 * (i 1).val + r.val then ((∑ j : Fin 64, (if rank (imps (kqn x0 x5 r) (kkc x6) (256 * (i 1).val + r.val)) j < 16 then (1 : EReal) else 0) * (if (1024 * ((i 1).val / 4) + b.val) / 64 = j.val then 1 else 0)) - 1) * ⊤ else ⊥)
      = xsn (krk x0 x5 x6 i r) (256 * (i 1).val + r.val) (kqr x0 x5 cs sn r 1) (kks x8) (1024 * ((i 1).val / 4) + b.val) := fun b => bias_causal _ _ _ _ _ _
  have hC : ∀ (b : Fin 1024) (x y : EReal), Scalar.select (IntOp.cmpi CmpIPredicate.sle (IntOp.addi (Scalar.muli (BitVec.ofNat 32 ((i 1).val / 4)) 1024#32) (BitVec.ofNat 32 b.val)) (BitVec.ofNat 32 (256 * (i 1).val + r.val))) x y
      = if 1024 * ((i 1).val / 4) + b.val ≤ 256 * (i 1).val + r.val then x else y := fun b x y => by
    rw [show Scalar.muli (BitVec.ofNat 32 ((i 1).val / 4)) 1024#32 = BitVec.ofNat 32 (1024 * ((i 1).val / 4)) from (muli_nat _ 1024).trans (by rw [Nat.mul_comm]), addi_nat]
    exact select_sle (by omega) (by omega) x y
  pointwise [kernelRun0_A.sl.v1335, kernelRun0_A.sl.v1332, kernelRun0_A.sl.v1330, kernelRun0_A.sl.v1331, kernelRun0_A.sl.v1297, kernelRun0_A.sl.r_9, kernelRun0_A.sl.cst_461, k0_pay156, kernelRun0_A.sl.v1296, kernelRun0_A.sl.v1295, kernelRun0_A.sl.v1275, kernelRun0_A.sl.v1294, kernelRun0_A.sl.v1293, kernelRun0_A.sl.v1290, kernelRun0_A.sl.v1292, kernelRun0_A.sl.v1291, kernelRun0_A.sl.v1274, kernelRun0_A.sl.r_7, k0_pay154, kernelRun0_A.sl.v1273, kernelRun0_A.sl.r_8, kernelRun0_A.sl.cst_445, k0_pay155, kernelRun0_A.sl.v1329, kernelRun0_A.sl.v1328, kernelRun0_A.sl.v1326, kernelRun0_A.sl.v1325]
  simp only [rq, rm, ra, rk', rv, re, rs, unmask_top, bot_bits, mask_bot, v0_at, v1235_at, addi_nat, hC, hS]
  exact acc_step _ (fun k => vsn (kvs x9) k e) _ _ _ (fun _ => rfl) (fun b => (dif_pos (show 1024 * ((i 1).val / 4) + b.val < 4096 by omega)).symm) _ _ _ rfl (m_step _ _ _ (fun _ => rfl) _ rfl) rfl

/-- Head 2 after the last tile: the sums. -/
theorem w2_at (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1358 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 2) (kks x8)) (fun k => vsn (kvs x9) k e) (1024 * ((i 1).val / 4) + 1024) := by
  have h16 : (i 1).val < 16 := (i 1).isLt
  have hk4 : (i 1).val / 4 < 4 := by omega
  have ho := ops c i arg2 harg2 arg4 harg4 arg5 harg5 arg6 harg6 arg7 harg7 arg8 harg8 arg10 harg10 arg11 harg11 arg14 harg14 arg15 harg15 arg17 arg18 x0 x2 x3 x4 x5 x6 x8 x9 x12 x13 cs sn hO T hE
  have rq := q2_read c arg2 harg2 arg4 harg4 arg5 harg5 arg6 harg6 arg7 harg7 arg18 x0 x2 x3 x4 x5 cs sn T
  have rm := m2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have ra := a2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have rs := r_6_at c i arg2 harg2 arg7 harg7 arg8 harg8 arg14 harg14 arg17 x0 x5 x6 x12 hO
  have rk' : ∀ inb b d, View.readAt (Elt Ideal) arg10.view (Rect.unit (s := S1x4096x64) (k0_off8 i) ![1, 1024, 64] inb).toLoadRect (harg10.unread x8) (ix3 0 b d) = kks x8 ⟨1024 * ((i 1).val / 4) + b.val, by omega⟩ d :=
    fun inb b d => (rd_k _ _ (by omega) (off8_eq i) arg10.view (harg10.unread x8) inb b d).trans (ho.k _ d)
  have rv : ∀ inb b e, View.readAt (Elt Ideal) arg11.view (Rect.unit (s := S1x4096x128) (k0_off9 i) ![1, 1024, 128] inb).toLoadRect (harg11.unread x9) (ix3 0 b e) = kvs x9 ⟨1024 * ((i 1).val / 4) + b.val, by omega⟩ e :=
    fun inb b e => (rd_k _ _ (by omega) (off9_eq i) arg11.view (harg11.unread x9) inb b e).trans (ho.v _ e)
  have re : ∀ inb j b, View.readAt (Elt Ideal) arg15.view (Rect.unit (s := S4x64x1024) (k0_off7 i) ![1, 64, 1024] inb).toLoadRect (harg15.unread x13) (ix3 0 j b) = if (1024 * ((i 1).val / 4) + b.val) / 64 = j.val then 1 else 0 :=
    fun inb j b => (rd_e _ ⟨(i 1).val / 4, hk4⟩ (off7_eq i) arg15.view (harg15.unread x13) inb j b).trans (ho.e _ j b)
  have hS : ∀ (b : Fin 1024), (∑ d, kqr x0 x5 cs sn r 2 d * eighth * kks x8 ⟨1024 * ((i 1).val / 4) + b.val, by omega⟩ d)
      + (if 1024 * ((i 1).val / 4) + b.val ≤ 256 * (i 1).val + r.val then ((∑ j : Fin 64, (if rank (imps (kqn x0 x5 r) (kkc x6) (256 * (i 1).val + r.val)) j < 16 then (1 : EReal) else 0) * (if (1024 * ((i 1).val / 4) + b.val) / 64 = j.val then 1 else 0)) - 1) * ⊤ else ⊥)
      = xsn (krk x0 x5 x6 i r) (256 * (i 1).val + r.val) (kqr x0 x5 cs sn r 2) (kks x8) (1024 * ((i 1).val / 4) + b.val) := fun b => bias_causal _ _ _ _ _ _
  have hC : ∀ (b : Fin 1024) (x y : EReal), Scalar.select (IntOp.cmpi CmpIPredicate.sle (IntOp.addi (Scalar.muli (BitVec.ofNat 32 ((i 1).val / 4)) 1024#32) (BitVec.ofNat 32 b.val)) (BitVec.ofNat 32 (256 * (i 1).val + r.val))) x y
      = if 1024 * ((i 1).val / 4) + b.val ≤ 256 * (i 1).val + r.val then x else y := fun b x y => by
    rw [show Scalar.muli (BitVec.ofNat 32 ((i 1).val / 4)) 1024#32 = BitVec.ofNat 32 (1024 * ((i 1).val / 4)) from (muli_nat _ 1024).trans (by rw [Nat.mul_comm]), addi_nat]
    exact select_sle (by omega) (by omega) x y
  pointwise [kernelRun0_A.sl.v1358, kernelRun0_A.sl.v1355, kernelRun0_A.sl.v1353, kernelRun0_A.sl.v1354, kernelRun0_A.sl.v1324, kernelRun0_A.sl.r_9, kernelRun0_A.sl.cst_461, k0_pay156, kernelRun0_A.sl.v1323, kernelRun0_A.sl.v1322, kernelRun0_A.sl.v1288, kernelRun0_A.sl.v1321, kernelRun0_A.sl.v1320, kernelRun0_A.sl.v1317, kernelRun0_A.sl.v1319, kernelRun0_A.sl.v1318, kernelRun0_A.sl.v1287, kernelRun0_A.sl.r_7, k0_pay154, kernelRun0_A.sl.v1286, kernelRun0_A.sl.r_8, kernelRun0_A.sl.cst_445, k0_pay155, kernelRun0_A.sl.v1352, kernelRun0_A.sl.v1351, kernelRun0_A.sl.v1349, kernelRun0_A.sl.v1348]
  simp only [rq, rm, ra, rk', rv, re, rs, unmask_top, bot_bits, mask_bot, v0_at, v1235_at, addi_nat, hC, hS]
  exact acc_step _ (fun k => vsn (kvs x9) k e) _ _ _ (fun _ => rfl) (fun b => (dif_pos (show 1024 * ((i 1).val / 4) + b.val < 4096 by omega)).symm) _ _ _ rfl (m_step _ _ _ (fun _ => rfl) _ rfl) rfl

/-- Head 3 after the last tile: the sums. -/
theorem w3_at (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1372 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 3) (kks x8)) (fun k => vsn (kvs x9) k e) (1024 * ((i 1).val / 4) + 1024) := by
  have h16 : (i 1).val < 16 := (i 1).isLt
  have hk4 : (i 1).val / 4 < 4 := by omega
  have ho := ops c i arg2 harg2 arg4 harg4 arg5 harg5 arg6 harg6 arg7 harg7 arg8 harg8 arg10 harg10 arg11 harg11 arg14 harg14 arg15 harg15 arg17 arg18 x0 x2 x3 x4 x5 x6 x8 x9 x12 x13 cs sn hO T hE
  have rq := q3_read c arg2 harg2 arg4 harg4 arg5 harg5 arg6 harg6 arg7 harg7 arg18 x0 x2 x3 x4 x5 cs sn T
  have rm := m3_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have ra := a3_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE
  have rs := r_6_at c i arg2 harg2 arg7 harg7 arg8 harg8 arg14 harg14 arg17 x0 x5 x6 x12 hO
  have rk' : ∀ inb b d, View.readAt (Elt Ideal) arg10.view (Rect.unit (s := S1x4096x64) (k0_off8 i) ![1, 1024, 64] inb).toLoadRect (harg10.unread x8) (ix3 0 b d) = kks x8 ⟨1024 * ((i 1).val / 4) + b.val, by omega⟩ d :=
    fun inb b d => (rd_k _ _ (by omega) (off8_eq i) arg10.view (harg10.unread x8) inb b d).trans (ho.k _ d)
  have rv : ∀ inb b e, View.readAt (Elt Ideal) arg11.view (Rect.unit (s := S1x4096x128) (k0_off9 i) ![1, 1024, 128] inb).toLoadRect (harg11.unread x9) (ix3 0 b e) = kvs x9 ⟨1024 * ((i 1).val / 4) + b.val, by omega⟩ e :=
    fun inb b e => (rd_k _ _ (by omega) (off9_eq i) arg11.view (harg11.unread x9) inb b e).trans (ho.v _ e)
  have re : ∀ inb j b, View.readAt (Elt Ideal) arg15.view (Rect.unit (s := S4x64x1024) (k0_off7 i) ![1, 64, 1024] inb).toLoadRect (harg15.unread x13) (ix3 0 j b) = if (1024 * ((i 1).val / 4) + b.val) / 64 = j.val then 1 else 0 :=
    fun inb j b => (rd_e _ ⟨(i 1).val / 4, hk4⟩ (off7_eq i) arg15.view (harg15.unread x13) inb j b).trans (ho.e _ j b)
  have hS : ∀ (b : Fin 1024), (∑ d, kqr x0 x5 cs sn r 3 d * eighth * kks x8 ⟨1024 * ((i 1).val / 4) + b.val, by omega⟩ d)
      + (if 1024 * ((i 1).val / 4) + b.val ≤ 256 * (i 1).val + r.val then ((∑ j : Fin 64, (if rank (imps (kqn x0 x5 r) (kkc x6) (256 * (i 1).val + r.val)) j < 16 then (1 : EReal) else 0) * (if (1024 * ((i 1).val / 4) + b.val) / 64 = j.val then 1 else 0)) - 1) * ⊤ else ⊥)
      = xsn (krk x0 x5 x6 i r) (256 * (i 1).val + r.val) (kqr x0 x5 cs sn r 3) (kks x8) (1024 * ((i 1).val / 4) + b.val) := fun b => bias_causal _ _ _ _ _ _
  have hC : ∀ (b : Fin 1024) (x y : EReal), Scalar.select (IntOp.cmpi CmpIPredicate.sle (IntOp.addi (Scalar.muli (BitVec.ofNat 32 ((i 1).val / 4)) 1024#32) (BitVec.ofNat 32 b.val)) (BitVec.ofNat 32 (256 * (i 1).val + r.val))) x y
      = if 1024 * ((i 1).val / 4) + b.val ≤ 256 * (i 1).val + r.val then x else y := fun b x y => by
    rw [show Scalar.muli (BitVec.ofNat 32 ((i 1).val / 4)) 1024#32 = BitVec.ofNat 32 (1024 * ((i 1).val / 4)) from (muli_nat _ 1024).trans (by rw [Nat.mul_comm]), addi_nat]
    exact select_sle (by omega) (by omega) x y
  pointwise [kernelRun0_A.sl.v1372, kernelRun0_A.sl.v1369, kernelRun0_A.sl.v1367, kernelRun0_A.sl.v1368, kernelRun0_A.sl.v1347, kernelRun0_A.sl.r_9, kernelRun0_A.sl.cst_461, k0_pay156, kernelRun0_A.sl.v1346, kernelRun0_A.sl.v1345, kernelRun0_A.sl.v1315, kernelRun0_A.sl.v1344, kernelRun0_A.sl.v1343, kernelRun0_A.sl.v1340, kernelRun0_A.sl.v1342, kernelRun0_A.sl.v1341, kernelRun0_A.sl.v1314, kernelRun0_A.sl.r_7, k0_pay154, kernelRun0_A.sl.v1313, kernelRun0_A.sl.r_8, kernelRun0_A.sl.cst_445, k0_pay155, kernelRun0_A.sl.v1366, kernelRun0_A.sl.v1365, kernelRun0_A.sl.v1363, kernelRun0_A.sl.v1362]
  simp only [rq, rm, ra, rk', rv, re, rs, unmask_top, bot_bits, mask_bot, v0_at, v1235_at, addi_nat, hC, hS]
  exact acc_step _ (fun k => vsn (kvs x9) k e) _ _ _ (fun _ => rfl) (fun b => (dif_pos (show 1024 * ((i 1).val / 4) + b.val < 4096 by omega)).symm) _ _ _ rfl (m_step _ _ _ (fun _ => rfl) _ rfl) rfl

/-- The running sums over all the tiles are the selected branch. -/
theorem sel_out (qn qr : Fin 4 → Fin 64 → EReal) (ks : Fin 4096 → Fin 64 → EReal) (kcc : Fin 256 → Fin 64 → EReal) (V : Fin 4096 → Fin 128 → EReal) (h1 : ∀ k, V k ⟨64, by omega⟩ = 1)
    (t n : ℕ) (hn : n ≤ 4096) (ht : t < n) (h : Fin 4) (d : Fin 64) :
    Ideal.div (accN (xsn (fun j => rank (imps qn kcc t) j) t (qr h) ks) (fun k => vsn V k ⟨d.val, by omega⟩) n) (max (accN (xsn (fun j => rank (imps qn kcc t) j) t (qr h) ks) (fun k => vsn V k ⟨64, by omega⟩) n) eps)
      = os qn qr kcc ks (fun k d => V k ⟨d.val, by omega⟩) t h d := by
  have e1 : accN (xsn (fun j => rank (imps qn kcc t) j) t (qr h) ks) (fun k => vsn V k ⟨64, by omega⟩) n = accN (xsn (fun j => rank (imps qn kcc t) j) t (qr h) ks) (fun _ => 1) n :=
    Finset.sum_congr rfl fun k hk => by
      have hk' : k < 4096 := lt_of_lt_of_le (Finset.mem_range.mp hk) hn
      show _ * vsn V k ⟨64, by omega⟩ = _ * 1
      rw [vsn, dif_pos hk', h1]
  rw [e1, accN_att]
  refine (att_transfer _ _ _ _ (fun k : Fin n => (⟨k.val, by omega⟩ : Fin 4096)) (fun k _ => ⟨?_, ?_⟩) (fun k k' _ _ e => Fin.ext (show k.val = k'.val from congrArg (Fin.val (n := 4096)) e)) fun k hk => ?_).symm
  · show xs qn qr kcc ks t h ⟨k.val, by omega⟩ = xsn _ t (qr h) ks k.val
    rw [xsn, dif_pos (show k.val < 4096 by omega)]
    rfl
  · show _ = vsn V k.val ⟨d.val, by omega⟩
    rw [vsn, dif_pos (show k.val < 4096 by omega)]
  · have hc : k.val ≤ t := by
      by_contra hc
      exact hk (if_neg fun hh => hc hh.2)
    refine ⟨⟨k.val, by omega⟩, ?_, rfl⟩
    show xsn _ t (qr h) ks k.val ≠ ⊥
    rw [xsn, dif_pos k.isLt]
    exact hk

/-- Head 0's sum after the last tile is the weighted sum over all its tiles, read for the final quotient. -/
theorem f0_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 0) (kks x8)) (fun k => vsn (kvs x9) k e) (1024 * ((i 1).val / 4) + 1024) := by
  dsimp only [kernelRun0_A.sl.v, kernelRun0_A.sl.HS3_4, kernelRun0_A.sl.HS3_3, kernelRun0_A.sl.HS3_2, kernelRun0_A.sl.HS3_1_1, View.readCov]
  refine (rdh0 arg20.view _ _ 0 rfl _ r e).trans ((four arg20.view _ _ _ _ _ _ _ _ _ _ 0 r e).trans ?_)
  exact w0_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE r e

/-- The selected branch of head 0. -/
theorem s0_at (hO : Covers x12) (T : Tables x2 x3 x4 cs sn) (hE : ∀ (a : Fin 4) (j : Fin 64) (b : Fin 1024), x13 (ix3 a j b) = if (1024 * a.val + b.val) / 64 = j.val then 1 else 0) (h1 : ∀ k : Fin 4096, x9 (ix3 0 k ⟨64, by omega⟩) = 1) (r : Fin 256) (d : Fin 64) :
    kernelRun0_A.sl.v1383 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix2 r d) = os (kqn x0 x5 r) (kqr x0 x5 cs sn r) (kkc x6) (kks x8) (fun k d => kvs x9 k ⟨d.val, by omega⟩) (256 * (i 1).val + r.val) 0 d := by
  have h16 : (i 1).val < 16 := (i 1).isLt
  refine Eq.trans ?_ (sel_out (kqn x0 x5 r) (kqr x0 x5 cs sn r) (kks x8) (kkc x6) (kvs x9) h1 (256 * (i 1).val + r.val) (1024 * ((i 1).val / 4) + 1024) (by omega) (by omega) 0 d)
  pointwise [kernelRun0_A.sl.v1383, kernelRun0_A.sl.v1382, kernelRun0_A.sl.v1381, kernelRun0_A.sl.v1380, kernelRun0_A.sl.cst_513, kernelRun0_A.sl.v1379, kernelRun0_A.sl.v1377, kernelRun0_A.sl.v1378]
  simp only [f0_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE]
  rfl

/-- Head 1's sum after the last tile is the weighted sum over all its tiles, read for the final quotient. -/
theorem f1_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1384 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 1) (kks x8)) (fun k => vsn (kvs x9) k e) (1024 * ((i 1).val / 4) + 1024) := by
  dsimp only [kernelRun0_A.sl.v1384, kernelRun0_A.sl.HS3_4, kernelRun0_A.sl.HS3_3, kernelRun0_A.sl.HS3_2, kernelRun0_A.sl.HS3_1_1, View.readCov]
  refine (rdh0 arg20.view _ _ 1 rfl _ r e).trans ((four arg20.view _ _ _ _ _ _ _ _ _ _ 1 r e).trans ?_)
  exact w1_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE r e

/-- The selected branch of head 1. -/
theorem s1_at (hO : Covers x12) (T : Tables x2 x3 x4 cs sn) (hE : ∀ (a : Fin 4) (j : Fin 64) (b : Fin 1024), x13 (ix3 a j b) = if (1024 * a.val + b.val) / 64 = j.val then 1 else 0) (h1 : ∀ k : Fin 4096, x9 (ix3 0 k ⟨64, by omega⟩) = 1) (r : Fin 256) (d : Fin 64) :
    kernelRun0_A.sl.v1391 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix2 r d) = os (kqn x0 x5 r) (kqr x0 x5 cs sn r) (kkc x6) (kks x8) (fun k d => kvs x9 k ⟨d.val, by omega⟩) (256 * (i 1).val + r.val) 1 d := by
  have h16 : (i 1).val < 16 := (i 1).isLt
  refine Eq.trans ?_ (sel_out (kqn x0 x5 r) (kqr x0 x5 cs sn r) (kks x8) (kkc x6) (kvs x9) h1 (256 * (i 1).val + r.val) (1024 * ((i 1).val / 4) + 1024) (by omega) (by omega) 1 d)
  pointwise [kernelRun0_A.sl.v1391, kernelRun0_A.sl.v1390, kernelRun0_A.sl.v1389, kernelRun0_A.sl.v1380, kernelRun0_A.sl.cst_513, kernelRun0_A.sl.v1387, kernelRun0_A.sl.v1385, kernelRun0_A.sl.v1386]
  simp only [f1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE]
  rfl

/-- Head 2's sum after the last tile is the weighted sum over all its tiles, read for the final quotient. -/
theorem f2_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1392 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 2) (kks x8)) (fun k => vsn (kvs x9) k e) (1024 * ((i 1).val / 4) + 1024) := by
  dsimp only [kernelRun0_A.sl.v1392, kernelRun0_A.sl.HS3_4, kernelRun0_A.sl.HS3_3, kernelRun0_A.sl.HS3_2, kernelRun0_A.sl.HS3_1_1, View.readCov]
  refine (rdh0 arg20.view _ _ 2 rfl _ r e).trans ((four arg20.view _ _ _ _ _ _ _ _ _ _ 2 r e).trans ?_)
  exact w2_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE r e

/-- The selected branch of head 2. -/
theorem s2_at (hO : Covers x12) (T : Tables x2 x3 x4 cs sn) (hE : ∀ (a : Fin 4) (j : Fin 64) (b : Fin 1024), x13 (ix3 a j b) = if (1024 * a.val + b.val) / 64 = j.val then 1 else 0) (h1 : ∀ k : Fin 4096, x9 (ix3 0 k ⟨64, by omega⟩) = 1) (r : Fin 256) (d : Fin 64) :
    kernelRun0_A.sl.v1399 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix2 r d) = os (kqn x0 x5 r) (kqr x0 x5 cs sn r) (kkc x6) (kks x8) (fun k d => kvs x9 k ⟨d.val, by omega⟩) (256 * (i 1).val + r.val) 2 d := by
  have h16 : (i 1).val < 16 := (i 1).isLt
  refine Eq.trans ?_ (sel_out (kqn x0 x5 r) (kqr x0 x5 cs sn r) (kks x8) (kkc x6) (kvs x9) h1 (256 * (i 1).val + r.val) (1024 * ((i 1).val / 4) + 1024) (by omega) (by omega) 2 d)
  pointwise [kernelRun0_A.sl.v1399, kernelRun0_A.sl.v1398, kernelRun0_A.sl.v1397, kernelRun0_A.sl.v1380, kernelRun0_A.sl.cst_513, kernelRun0_A.sl.v1395, kernelRun0_A.sl.v1393, kernelRun0_A.sl.v1394]
  simp only [f2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE]
  rfl

/-- Head 3's sum after the last tile is the weighted sum over all its tiles, read for the final quotient. -/
theorem f3_read (hO : Covers x12) (T : Tables x2 x3 x4 cs sn) (hE : ∀ (a : Fin 4) (j : Fin 64) (b : Fin 1024), x13 (ix3 a j b) = if (1024 * a.val + b.val) / 64 = j.val then 1 else 0) (r : Fin 256) (e : Fin 128) : kernelRun0_A.sl.v1400 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix3 0 r e) = accN (xsn (krk x0 x5 x6 i r) (256 * (i 1).val + r.val) (kqr x0 x5 cs sn r 3) (kks x8)) (fun k => vsn (kvs x9) k e) (1024 * ((i 1).val / 4) + 1024) := by
  dsimp only [kernelRun0_A.sl.v1400, kernelRun0_A.sl.HS3_4, kernelRun0_A.sl.HS3_3, kernelRun0_A.sl.HS3_2, kernelRun0_A.sl.HS3_1_1, View.readCov]
  refine (rdh0 arg20.view _ _ 3 rfl _ r e).trans ((four arg20.view _ _ _ _ _ _ _ _ _ _ 3 r e).trans ?_)
  exact w3_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE r e

/-- The selected branch of head 3. -/
theorem s3_at (hO : Covers x12) (T : Tables x2 x3 x4 cs sn) (hE : ∀ (a : Fin 4) (j : Fin 64) (b : Fin 1024), x13 (ix3 a j b) = if (1024 * a.val + b.val) / 64 = j.val then 1 else 0) (h1 : ∀ k : Fin 4096, x9 (ix3 0 k ⟨64, by omega⟩) = 1) (r : Fin 256) (d : Fin 64) :
    kernelRun0_A.sl.v1407 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 (ix2 r d) = os (kqn x0 x5 r) (kqr x0 x5 cs sn r) (kkc x6) (kks x8) (fun k d => kvs x9 k ⟨d.val, by omega⟩) (256 * (i 1).val + r.val) 3 d := by
  have h16 : (i 1).val < 16 := (i 1).isLt
  refine Eq.trans ?_ (sel_out (kqn x0 x5 r) (kqr x0 x5 cs sn r) (kks x8) (kkc x6) (kvs x9) h1 (256 * (i 1).val + r.val) (1024 * ((i 1).val / 4) + 1024) (by omega) (by omega) 3 d)
  pointwise [kernelRun0_A.sl.v1407, kernelRun0_A.sl.v1406, kernelRun0_A.sl.v1405, kernelRun0_A.sl.v1380, kernelRun0_A.sl.cst_513, kernelRun0_A.sl.v1403, kernelRun0_A.sl.v1401, kernelRun0_A.sl.v1402]
  simp only [f3_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE]
  rfl

end Tile

end Cert.NsaKernelIdeal.Pure
-- ==== Proof.NsaWin.lean ====
module

public import proofs.«01_k».proof.Proof.NsaTile
public import proofs.«01_k».proof.Proof.NsaSpec
public import Idealize.ShloMosaic.Lib.Pointwise
public import Idealize.ShloMosaic.Lib.WordCmp

/-! The window branch of a grid point. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- A small integer's word reads back as the integer. -/
theorem toInt_small (z : ℤ) (h1 : -2147483648 ≤ z) (h2 : z < 2147483648) : (BitVec.ofInt 32 z).toInt = z := by
  rw [BitVec.toInt_ofInt]
  unfold Int.bmod
  norm_num
  split_ifs <;> omega

/-- Differences of words. -/
theorem sub_word (a b : ℤ) : BitVec.ofInt 32 (a - b) = BitVec.ofInt 32 a - BitVec.ofInt 32 b := by
  rw [show BitVec.ofInt 32 a = BitVec.ofInt 32 (a - b) + BitVec.ofInt 32 b from by rw [← BitVec.ofInt_add, Int.sub_add_cancel], BitVec.add_sub_cancel]

/-- The window's test, by words that may be negative. -/
theorem select_win {α : Type} (j w x r : ℕ) (hj : j < 16) (hw : w ≤ 512) (hx : x < 256) (hr : r < 256) (hm : w % 256 = 0) (a b : α) :
    Scalar.select (IntOp.andi
        (IntOp.cmpi CmpIPredicate.sge (IntOp.addi (Scalar.addi (Scalar.subi (BitVec.ofNat 32 (256 * j)) 512#32) (BitVec.ofNat 32 w)) (BitVec.ofNat 32 x))
          (IntOp.maxsi (IntOp.subi (IntOp.addi (BitVec.ofNat 32 (256 * j)) (BitVec.ofNat 32 r)) 511#32) 0#32))
        (IntOp.cmpi CmpIPredicate.sle (IntOp.addi (Scalar.addi (Scalar.subi (BitVec.ofNat 32 (256 * j)) 512#32) (BitVec.ofNat 32 w)) (BitVec.ofNat 32 x))
          (IntOp.addi (BitVec.ofNat 32 (256 * j)) (BitVec.ofNat 32 r)))) a b
      = if 512 ≤ 256 * j + w ∧ 256 * j + w - 512 + x ≤ 256 * j + r ∧ 256 * j + r < 256 * j + w - 512 + x + 512 then a else b := by
  have e1 : IntOp.addi (Scalar.addi (Scalar.subi (BitVec.ofNat 32 (256 * j)) 512#32) (BitVec.ofNat 32 w)) (BitVec.ofNat 32 x) = BitVec.ofInt 32 (256 * j - 512 + w + x) := by
    show BitVec.ofNat 32 (256 * j) - BitVec.ofNat 32 512 + BitVec.ofNat 32 w + BitVec.ofNat 32 x = _
    rw [← BitVec.ofInt_natCast, ← BitVec.ofInt_natCast, ← BitVec.ofInt_natCast, ← BitVec.ofInt_natCast, ← sub_word, ← BitVec.ofInt_add, ← BitVec.ofInt_add]
    push_cast
    rfl
  have e2 : IntOp.addi (BitVec.ofNat 32 (256 * j)) (BitVec.ofNat 32 r) = BitVec.ofInt 32 (256 * j + r) := by
    show BitVec.ofNat 32 (256 * j) + BitVec.ofNat 32 r = _
    rw [← BitVec.ofInt_natCast, ← BitVec.ofInt_natCast, ← BitVec.ofInt_add]
    push_cast
    rfl
  have e3 : IntOp.subi (BitVec.ofInt 32 (256 * j + r)) 511#32 = BitVec.ofInt 32 (256 * j + r - 511) := by
    show BitVec.ofInt 32 _ - BitVec.ofNat 32 511 = _
    rw [← BitVec.ofInt_natCast, ← sub_word]
    rfl
  have e4 : IntOp.maxsi (BitVec.ofInt 32 (256 * j + r - 511)) 0#32 = BitVec.ofInt 32 (max (256 * j + r - 511) 0) := by
    show (if BitVec.slt (BitVec.ofInt 32 0) (BitVec.ofInt 32 (256 * j + r - 511)) = true then _ else BitVec.ofInt 32 0) = _
    rw [show BitVec.slt (BitVec.ofInt 32 0) (BitVec.ofInt 32 (256 * j + r - 511)) = decide ((BitVec.ofInt 32 0).toInt < (BitVec.ofInt 32 (256 * j + r - 511)).toInt) from rfl,
      toInt_small _ (by omega) (by omega), toInt_small _ (by omega) (by omega)]
    by_cases h : (0 : ℤ) < 256 * j + r - 511
    · rw [if_pos (decide_eq_true h), max_eq_left h.le]
    · rw [if_neg (by simpa using h), max_eq_right (not_lt.mp h)]
  rw [e1, e2, e3, e4]
  have c1 : IntOp.cmpi CmpIPredicate.sge (BitVec.ofInt 32 (256 * j - 512 + w + x)) (BitVec.ofInt 32 (max (256 * j + r - 511) 0)) = BitVec.ofBool (decide (max (256 * (j : ℤ) + r - 511) 0 ≤ 256 * j - 512 + w + x)) := by
    show BitVec.ofBool (decide ((BitVec.ofInt 32 (max (256 * (j : ℤ) + r - 511) 0)).toInt ≤ (BitVec.ofInt 32 (256 * j - 512 + w + x)).toInt)) = _
    rw [toInt_small _ (by omega) (by omega), toInt_small _ (by omega) (by omega)]
  have c2 : IntOp.cmpi CmpIPredicate.sle (BitVec.ofInt 32 (256 * j - 512 + w + x)) (BitVec.ofInt 32 (256 * j + r)) = BitVec.ofBool (decide (256 * (j : ℤ) - 512 + w + x ≤ 256 * j + r)) := by
    show BitVec.ofBool (decide ((BitVec.ofInt 32 (256 * (j : ℤ) - 512 + w + x)).toInt ≤ (BitVec.ofInt 32 (256 * (j : ℤ) + r)).toInt)) = _
    rw [toInt_small _ (by omega) (by omega), toInt_small _ (by omega) (by omega)]
  rw [c1, c2]
  by_cases h : 512 ≤ 256 * j + w ∧ 256 * j + w - 512 + x ≤ 256 * j + r ∧ 256 * j + r < 256 * j + w - 512 + x + 512
  · rw [if_pos h, decide_eq_true (show max (256 * (j : ℤ) + r - 511) 0 ≤ 256 * j - 512 + w + x by omega), decide_eq_true (show 256 * (j : ℤ) - 512 + w + x ≤ 256 * j + r by omega)]
    rfl
  · rw [if_neg h]
    by_cases h1 : max (256 * (j : ℤ) + r - 511) 0 ≤ 256 * j - 512 + w + x
    · rw [decide_eq_true h1, decide_eq_false (show ¬ 256 * (j : ℤ) - 512 + w + x ≤ 256 * j + r by omega)]
      rfl
    · rw [decide_eq_false h1]
      by_cases h2 : 256 * (j : ℤ) - 512 + w + x ≤ 256 * j + r
      · rw [decide_eq_true h2]
        rfl
      · rw [decide_eq_false h2]
        rfl

/-- One tile's scores in the window. -/
def xt (q : Fin 64 → EReal) (kw : Fin 4096 → Fin 64 → EReal) (j r : ℕ) (hj : j < 16) (w : ℕ) (hw : w ≤ 512) (x : Fin 256) : EReal :=
  if 512 ≤ 256 * j + w ∧ 256 * j + w - 512 + x.val ≤ 256 * j + r ∧ 256 * j + r < 256 * j + w - 512 + x.val + 512 then score q (kw ⟨256 * j + w - 512 + x.val, by omega⟩) else ⊥

/-- A window tile's score with its bias is the masked score of the key at that position, and minus infinity before the first key. -/
theorem xt_eq (q : Fin 64 → EReal) (kw : Fin 4096 → Fin 64 → EReal) (j r : ℕ) (hj : j < 16) (w : ℕ) (hw : w ≤ 512) (x : Fin 256) :
    (∑ d, q d * eighth * kw ⟨256 * j + w - 512 + x.val, by omega⟩ d) + (if 512 ≤ 256 * j + w ∧ 256 * j + w - 512 + x.val ≤ 256 * j + r ∧ 256 * j + r < 256 * j + w - 512 + x.val + 512 then (0 : EReal) else ⊥)
      = xt q kw j r hj w hw x := by
  unfold xt
  by_cases h : 512 ≤ 256 * j + w ∧ 256 * j + w - 512 + x.val ≤ 256 * j + r ∧ 256 * j + r < 256 * j + w - 512 + x.val + 512
  · rw [if_pos h, if_pos h, add_zero]
    rfl
  · rw [if_neg h, if_neg h, EReal.add_bot]

/-- Three tiles together. -/
theorem three (S V : Fin 3 → Fin 256 → EReal) (m : EReal) (hm : m = Finset.fold max ⊥ (fun x => max (max (S 0 x) (S 1 x)) (S 2 x)) Finset.univ) :
    Ideal.div (∑ x, Ideal.exp (S 0 x - m) * V 0 x + ∑ x, Ideal.exp (S 1 x - m) * V 1 x + ∑ x, Ideal.exp (S 2 x - m) * V 2 x)
        (max (∑ x, Ideal.exp (S 0 x - m) + ∑ x, Ideal.exp (S 1 x - m) + ∑ x, Ideal.exp (S 2 x - m)) eps)
      = att (fun p : Fin 3 × Fin 256 => S p.1 p.2) fun p => V p.1 p.2 := by
  have ht : m = top fun p : Fin 3 × Fin 256 => S p.1 p.2 := by
    rw [hm]
    show (Finset.univ.sup fun x => max (max (S 0 x) (S 1 x)) (S 2 x)) = _
    refine le_antisymm (Finset.sup_le fun x _ => max_le (max_le (le_top (fun p : Fin 3 × Fin 256 => S p.1 p.2) (0, x)) (le_top (fun p : Fin 3 × Fin 256 => S p.1 p.2) (1, x))) (le_top (fun p : Fin 3 × Fin 256 => S p.1 p.2) (2, x)))
      (Finset.sup_le fun p _ => ?_)
    have hp := Finset.le_sup (f := fun x => max (max (S 0 x) (S 1 x)) (S 2 x)) (Finset.mem_univ p.2)
    obtain ⟨k, x⟩ := p
    refine le_trans ?_ hp
    match k with
    | 0 => exact (le_max_left _ _).trans (le_max_left _ _)
    | 1 => exact (le_max_right _ _).trans (le_max_left _ _)
    | 2 => exact le_max_right _ _
  rw [att_eq]
  unfold den wt
  rw [← ht, Fintype.sum_prod_type, Fintype.sum_prod_type, Fin.sum_univ_three, Fin.sum_univ_three]

/-- The offset of a tile in the window. -/
def off (k : Fin 3) : ℕ := 256 * k.val

/-- The three tiles are the window. -/
theorem win_out (qr : Fin 4 → Fin 64 → EReal) (kw vw : Fin 4096 → Fin 64 → EReal) (j r : ℕ) (hj : j < 16) (hr : r < 256) (h : Fin 4) (d : Fin 64) (m : EReal)
    (hm : m = Finset.fold max ⊥ (fun x => max (max (xt (qr h) kw j r hj 0 (by omega) x) (xt (qr h) kw j r hj 256 (by omega) x)) (xt (qr h) kw j r hj 512 (by omega) x)) Finset.univ) :
    Ideal.div (∑ x : Fin 256, Ideal.exp (xt (qr h) kw j r hj 0 (by omega) x - m) * vw ⟨256 * j + 0 - 512 + x.val, by omega⟩ d
          + ∑ x : Fin 256, Ideal.exp (xt (qr h) kw j r hj 256 (by omega) x - m) * vw ⟨256 * j + 256 - 512 + x.val, by omega⟩ d
          + ∑ x : Fin 256, Ideal.exp (xt (qr h) kw j r hj 512 (by omega) x - m) * vw ⟨256 * j + 512 - 512 + x.val, by omega⟩ d)
        (max (∑ x : Fin 256, Ideal.exp (xt (qr h) kw j r hj 0 (by omega) x - m) + ∑ x : Fin 256, Ideal.exp (xt (qr h) kw j r hj 256 (by omega) x - m)
          + ∑ x : Fin 256, Ideal.exp (xt (qr h) kw j r hj 512 (by omega) x - m)) eps)
      = ow qr kw vw (256 * j + r) h d := by
  have hk : ∀ k : Fin 3, 256 * k.val ≤ 512 := fun k => by omega
  refine (three (fun k x => xt (qr h) kw j r hj (256 * k.val) (hk k) x) (fun k x => vw ⟨256 * j + 256 * k.val - 512 + x.val, by omega⟩ d) m hm).trans ?_
  have hx : ∀ p : Fin 3 × Fin 256, xt (qr h) kw j r hj (256 * p.1.val) (hk p.1) p.2 ≠ ⊥ → 512 ≤ 256 * j + 256 * p.1.val ∧ 256 * j + 256 * p.1.val - 512 + p.2.val ≤ 256 * j + r ∧ 256 * j + r < 256 * j + 256 * p.1.val - 512 + p.2.val + 512 := fun p hp => by
    by_contra hc
    exact hp (if_neg hc)
  refine (att_transfer (fun k => xw qr kw (256 * j + r) h k) (fun k => vw k d) (fun p : Fin 3 × Fin 256 => xt (qr h) kw j r hj (256 * p.1.val) (hk p.1) p.2) (fun p : Fin 3 × Fin 256 => vw ⟨256 * j + 256 * p.1.val - 512 + p.2.val, by omega⟩ d) (fun p : Fin 3 × Fin 256 => (⟨256 * j + 256 * p.1.val - 512 + p.2.val, by omega⟩ : Fin 4096)) (fun p hp => ⟨?_, rfl⟩) (fun p p' hp hp' e => ?_) fun k hk' => ?_).symm
  · have hc := hx p hp
    show xw qr kw (256 * j + r) h ⟨256 * j + 256 * p.1.val - 512 + p.2.val, by omega⟩ = xt (qr h) kw j r hj (256 * p.1.val) (hk p.1) p.2
    rw [xt, if_pos hc, xw, if_pos hc.2]
  · have hc := hx p hp
    have hc' := hx p' hp'
    have e' := congrArg (Fin.val (n := 4096)) e
    dsimp only at e'
    exact Prod.ext (Fin.ext (by omega)) (Fin.ext (by omega))
  · have hc : k.val ≤ 256 * j + r ∧ 256 * j + r < k.val + 512 := by
      by_contra hc
      exact hk' (if_neg hc)
    have hq : (⟨256 * j + 256 * ((k.val + 512 - 256 * j) / 256) - 512 + k.val % 256, by omega⟩ : Fin 4096) = k := Fin.ext (by dsimp only; omega)
    refine ⟨(⟨(k.val + 512 - 256 * j) / 256, by omega⟩, ⟨k.val % 256, by omega⟩), ?_, hq⟩
    show xt (qr h) kw j r hj (256 * ((k.val + 512 - 256 * j) / 256)) _ ⟨k.val % 256, by omega⟩ ≠ ⊥
    rw [xt, if_pos (by dsimp only; omega), hq]
    rw [xw, if_pos hc] at hk'
    exact hk'

section Win

variable (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole) (arg8 : Memref sig .tc .vmem S1x256x64 .bf16) (harg8 : arg8.IsWhole) (arg9 : Memref sig .tc .vmem S1x256x64 .bf16) (harg9 : arg9.IsWhole) (arg10 : Memref sig .tc .vmem S1x4096x64 .bf16) (harg10 : arg10.IsWhole) (arg11 : Memref sig .tc .vmem S1x4096x128 .bf16) (harg11 : arg11.IsWhole) (arg12 : Memref sig .tc .vmem S1x4096x64 .bf16) (harg12 : arg12.IsWhole) (arg13 : Memref sig .tc .vmem S1x4096x128 .bf16) (harg13 : arg13.IsWhole) (arg14 : Memref sig .tc .vmem S64x256 .bf16) (harg14 : arg14.IsWhole) (arg15 : Memref sig .tc .vmem S4x64x1024 .bf16) (harg15 : arg15.IsWhole) (arg16 : Memref sig .tc .vmem S1x256x256 .f32) (harg16 : arg16.IsWhole) (arg17 : Memref sig .tc .vmem S64x256 .f32) (harg17 : arg17.IsWhole) (arg18 : Memref sig .tc .vmem S4x256x64 .bf16) (harg18 : arg18.IsWhole) (arg19 : Memref sig .tc .vmem S4x256x1 .f32) (harg19 : arg19.IsWhole) (arg20 : Memref sig .tc .vmem S4x256x128 .f32) (harg20 : arg20.IsWhole)
  (x0 : Vec Ideal S1x256x256 .f32) (x1 : Vec Ideal S1x256x128 .f32) (x2 : Vec Ideal S1x256x64 .f32) (x3 : Vec Ideal S1x256x64 .f32) (x4 : Vec Ideal S1x256x64 .f32) (x5 : Vec Ideal S1x64 .f32) (x6 : Vec Ideal S1x256x64 .bf16) (x7 : Vec Ideal S1x256x64 .bf16) (x8 : Vec Ideal S1x4096x64 .bf16) (x9 : Vec Ideal S1x4096x128 .bf16) (x10 : Vec Ideal S1x4096x64 .bf16) (x11 : Vec Ideal S1x4096x128 .bf16) (x12 : Vec Ideal S64x256 .bf16) (x13 : Vec Ideal S4x64x1024 .bf16)
  (cs sn : Fin 256 → Fin 8 → EReal)

/-- Where a tile of the window begins. -/
theorem off10_0 : k0_off10 i 0#32 = ![0, 256 * (i 1).val + 0 - 512, 0] := by
  have h : ∀ j : Fin 16, k0_off10 (crd j) 0#32 = ![0, 256 * j.val + 0 - 512, 0] := by decide +kernel
  exact h (i 1)

/-- Where a tile of the window begins. -/
theorem off10_256 : k0_off10 i 256#32 = ![0, 256 * (i 1).val + 256 - 512, 0] := by
  have h : ∀ j : Fin 16, k0_off10 (crd j) 256#32 = ![0, 256 * j.val + 256 - 512, 0] := by decide +kernel
  exact h (i 1)

/-- Where a tile of the window begins. -/
theorem off10_512 : k0_off10 i 512#32 = ![0, 256 * (i 1).val + 512 - 512, 0] := by
  have h : ∀ j : Fin 16, k0_off10 (crd j) 512#32 = ![0, 256 * j.val + 512 - 512, 0] := by decide +kernel
  exact h (i 1)

/-- Where a tile of the window begins. -/
theorem off11_0 : k0_off11 i 0#32 = ![0, 256 * (i 1).val + 0 - 512, 0] := by
  have h : ∀ j : Fin 16, k0_off11 (crd j) 0#32 = ![0, 256 * j.val + 0 - 512, 0] := by decide +kernel
  exact h (i 1)

/-- Where a tile of the window begins. -/
theorem off11_256 : k0_off11 i 256#32 = ![0, 256 * (i 1).val + 256 - 512, 0] := by
  have h : ∀ j : Fin 16, k0_off11 (crd j) 256#32 = ![0, 256 * j.val + 256 - 512, 0] := by decide +kernel
  exact h (i 1)

/-- Where a tile of the window begins. -/
theorem off11_512 : k0_off11 i 512#32 = ![0, 256 * (i 1).val + 512 - 512, 0] := by
  have h : ∀ j : Fin 16, k0_off11 (crd j) 512#32 = ![0, 256 * j.val + 512 - 512, 0] := by decide +kernel
  exact h (i 1)

/-- The keys and the values as a tile of the window reads them. -/
theorem rd_w (off : Fin 3 → ℕ) (a : ℕ) (ha : a + 256 ≤ 4096) (eo : off = ![0, a, 0]) {N : ℕ} {e : EltTy} (m : Memref sig .tc .vmem ⟨3, ![1, 4096, N]⟩ e) (hm : m.IsWhole) (X : Vec Ideal ⟨3, ![1, 4096, N]⟩ e)
    (inb : ∀ x, off x + (![1, 256, N] : Fin 3 → ℕ) x ≤ (⟨3, ![1, 4096, N]⟩ : Shape).size x) (b : Fin 256) (d : Fin N) :
    m.view.readAt (Elt Ideal) (Rect.unit (s := ⟨3, ![1, 4096, N]⟩) off ![1, 256, N] inb).toLoadRect (hm.unread X) (ix3 0 b d) = X (ix3 0 ⟨a + b.val, by omega⟩ d) := by
  subst eo
  exact (rd3 m.view _ _ _ inb (ix3 0 b d) (ix3 0 ⟨a + b.val, by omega⟩ d) (by show 0 = 0 + 0; omega) rfl (by show d.val = 0 + d.val; omega)).trans (congrFun (hm.read_unread X) _)

/-- Head 0's queries as the window reads them. -/
theorem qw0_read (T : Tables x2 x3 x4 cs sn) (r : Fin 256) (d : Fin 64) : kernelRun0_A.sl.v1462 (F := Ideal) c arg2 harg2 arg4 harg4 arg5 harg5 arg6 harg6 arg7 harg7 arg18 x0 x2 x3 x4 x5 (ix3 0 r d) = kqr x0 x5 cs sn r 0 d * eighth := by
  dsimp only [kernelRun0_A.sl.v1462, View.readCov]
  exact (rdh0 arg18.view _ _ 0 rfl _ r d).trans (qr_fill c arg2 harg2 arg4 harg4 arg5 harg5 arg6 harg6 arg7 harg7 arg18 x0 x2 x3 x4 x5 cs sn T 0 r d)

/-- Head 1's queries as the window reads them. -/
theorem qw1_read (T : Tables x2 x3 x4 cs sn) (r : Fin 256) (d : Fin 64) : kernelRun0_A.sl.v1483 (F := Ideal) c arg2 harg2 arg4 harg4 arg5 harg5 arg6 harg6 arg7 harg7 arg18 x0 x2 x3 x4 x5 (ix3 0 r d) = kqr x0 x5 cs sn r 1 d * eighth := by
  dsimp only [kernelRun0_A.sl.v1483, View.readCov]
  exact (rdh0 arg18.view _ _ 1 rfl _ r d).trans (qr_fill c arg2 harg2 arg4 harg4 arg5 harg5 arg6 harg6 arg7 harg7 arg18 x0 x2 x3 x4 x5 cs sn T 1 r d)

/-- The window's keys and values, by number. -/
abbrev kkw (x10 : Vec Ideal S1x4096x64 .bf16) (k : Fin 4096) (d : Fin 64) : EReal := x10 (ix3 0 k d)
/-- Row `k` of the window values with their column of ones. -/
abbrev kvw (x11 : Vec Ideal S1x4096x128 .bf16) (k : Fin 4096) (e : Fin 128) : EReal := x11 (ix3 0 k e)

/-- The window branch of head 0. -/
theorem win0_at (T : Tables x2 x3 x4 cs sn) (h1 : ∀ k : Fin 4096, x11 (ix3 0 k ⟨64, by omega⟩) = 1) (r : Fin 256) (d : Fin 64) :
    kernelRun0_A.sl.v1593 (F := Ideal) c i arg2 harg2 arg4 harg4 arg5 harg5 arg6 harg6 arg7 harg7 arg12 harg12 arg13 harg13 arg18 x0 x2 x3 x4 x5 x10 x11 (ix2 r d) = ow (kqr x0 x5 cs sn r) (kkw x10) (fun k d => kvw x11 k ⟨d.val, by omega⟩) (256 * (i 1).val + r.val) 0 d := by
  have h16 : (i 1).val < 16 := (i 1).isLt
  have rk0 : ∀ inb b d, View.readAt (Elt Ideal) arg12.view (Rect.unit (s := S1x4096x64) (k0_off10 i 0#32) ![1, 256, 64] inb).toLoadRect (harg12.unread x10) (ix3 0 b d) = kkw x10 ⟨256 * (i 1).val + 0 - 512 + b.val, by omega⟩ d :=
    fun inb b d => rd_w _ _ (by omega) (off10_0 i) arg12 harg12 x10 inb b d
  have rv0 : ∀ inb b e, View.readAt (Elt Ideal) arg13.view (Rect.unit (s := S1x4096x128) (k0_off11 i 0#32) ![1, 256, 128] inb).toLoadRect (harg13.unread x11) (ix3 0 b e) = kvw x11 ⟨256 * (i 1).val + 0 - 512 + b.val, by omega⟩ e :=
    fun inb b e => rd_w _ _ (by omega) (off11_0 i) arg13 harg13 x11 inb b e
  have hs0 := fun x : Fin 256 => xt_eq (kqr x0 x5 cs sn r 0) (kkw x10) (i 1).val r.val h16 0 (by omega) x
  have hc0 : ∀ (x : Fin 256) (a b : EReal), _ := fun x a b => select_win (i 1).val 0 x.val r.val h16 (by omega) x.isLt r.isLt rfl a b
  have rk256 : ∀ inb b d, View.readAt (Elt Ideal) arg12.view (Rect.unit (s := S1x4096x64) (k0_off10 i 256#32) ![1, 256, 64] inb).toLoadRect (harg12.unread x10) (ix3 0 b d) = kkw x10 ⟨256 * (i 1).val + 256 - 512 + b.val, by omega⟩ d :=
    fun inb b d => rd_w _ _ (by omega) (off10_256 i) arg12 harg12 x10 inb b d
  have rv256 : ∀ inb b e, View.readAt (Elt Ideal) arg13.view (Rect.unit (s := S1x4096x128) (k0_off11 i 256#32) ![1, 256, 128] inb).toLoadRect (harg13.unread x11) (ix3 0 b e) = kvw x11 ⟨256 * (i 1).val + 256 - 512 + b.val, by omega⟩ e :=
    fun inb b e => rd_w _ _ (by omega) (off11_256 i) arg13 harg13 x11 inb b e
  have hs256 := fun x : Fin 256 => xt_eq (kqr x0 x5 cs sn r 0) (kkw x10) (i 1).val r.val h16 256 (by omega) x
  have hc256 : ∀ (x : Fin 256) (a b : EReal), _ := fun x a b => select_win (i 1).val 256 x.val r.val h16 (by omega) x.isLt r.isLt rfl a b
  have rk512 : ∀ inb b d, View.readAt (Elt Ideal) arg12.view (Rect.unit (s := S1x4096x64) (k0_off10 i 512#32) ![1, 256, 64] inb).toLoadRect (harg12.unread x10) (ix3 0 b d) = kkw x10 ⟨256 * (i 1).val + 512 - 512 + b.val, by omega⟩ d :=
    fun inb b d => rd_w _ _ (by omega) (off10_512 i) arg12 harg12 x10 inb b d
  have rv512 : ∀ inb b e, View.readAt (Elt Ideal) arg13.view (Rect.unit (s := S1x4096x128) (k0_off11 i 512#32) ![1, 256, 128] inb).toLoadRect (harg13.unread x11) (ix3 0 b e) = kvw x11 ⟨256 * (i 1).val + 512 - 512 + b.val, by omega⟩ e :=
    fun inb b e => rd_w _ _ (by omega) (off11_512 i) arg13 harg13 x11 inb b e
  have hs512 := fun x : Fin 256 => xt_eq (kqr x0 x5 cs sn r 0) (kkw x10) (i 1).val r.val h16 512 (by omega) x
  have hc512 : ∀ (x : Fin 256) (a b : EReal), _ := fun x a b => select_win (i 1).val 512 x.val r.val h16 (by omega) x.isLt r.isLt rfl a b
  have h1' : ∀ k : Fin 4096, kvw x11 k 64 = 1 := h1
  refine Eq.trans ?_ (win_out (kqr x0 x5 cs sn r) (kkw x10) (fun k d => kvw x11 k ⟨d.val, by omega⟩) (i 1).val r.val h16 r.isLt 0 d _ rfl)
  pointwise [kernelRun0_A.sl.v1593, kernelRun0_A.sl.v1588, kernelRun0_A.sl.v1592, kernelRun0_A.sl.v1591, kernelRun0_A.sl.v1589, kernelRun0_A.sl.v1380, kernelRun0_A.sl.cst_513, kernelRun0_A.sl.v1587, kernelRun0_A.sl.v1578, kernelRun0_A.sl.v1586, kernelRun0_A.sl.v1582, kernelRun0_A.sl.v1585, kernelRun0_A.sl.cst_461, kernelRun0_A.sl.v1581, kernelRun0_A.sl.v1580, kernelRun0_A.sl.v1482, kernelRun0_A.sl.v1562, kernelRun0_A.sl.v1549, kernelRun0_A.sl.v1548, kernelRun0_A.sl.v1547, kernelRun0_A.sl.v1546, kernelRun0_A.sl.v1468, kernelRun0_A.sl.v1475, kernelRun0_A.sl.v1474, kernelRun0_A.sl.r_12, kernelRun0_A.sl.v1410, k0_pay187, kernelRun0_A.sl.v1409, kernelRun0_A.sl.v1408, kernelRun0_A.sl.v1463, kernelRun0_A.sl.v1473, kernelRun0_A.sl.cst_550, kernelRun0_A.sl.v1467, kernelRun0_A.sl.r_11, kernelRun0_A.sl.v1415, kernelRun0_A.sl.v1419, k0_pay186, kernelRun0_A.sl.v1417, kernelRun0_A.sl.v1418, kernelRun0_A.sl.v1416, kernelRun0_A.sl.v1414, kernelRun0_A.sl.v1413, kernelRun0_A.sl.v1412, kernelRun0_A.sl.v1411, kernelRun0_A.sl.v1466, kernelRun0_A.sl.v1481, kernelRun0_A.sl.r_13, k0_pay188, kernelRun0_A.sl.v1480, kernelRun0_A.sl.v1569, kernelRun0_A.sl.v1577, kernelRun0_A.sl.v1573, kernelRun0_A.sl.v1576, kernelRun0_A.sl.v1572, kernelRun0_A.sl.v1571, kernelRun0_A.sl.v1565, kernelRun0_A.sl.v1568, kernelRun0_A.sl.v1564, kernelRun0_A.sl.v1563]
  simp only [qw0_read c arg2 harg2 arg4 harg4 arg5 harg5 arg6 harg6 arg7 harg7 arg18 x0 x2 x3 x4 x5 cs sn T, rk0, rk256, rk512, rv0, rv256, rv512, v0_at, hc0, hc256, hc512, mask_bot, bot_bits, hs0, hs256, hs512, h1', mul_one]
  rfl

/-- The window branch of head 1. -/
theorem win1_at (T : Tables x2 x3 x4 cs sn) (h1 : ∀ k : Fin 4096, x11 (ix3 0 k ⟨64, by omega⟩) = 1) (r : Fin 256) (d : Fin 64) :
    kernelRun0_A.sl.v1625 (F := Ideal) c i arg2 harg2 arg4 harg4 arg5 harg5 arg6 harg6 arg7 harg7 arg12 harg12 arg13 harg13 arg18 x0 x2 x3 x4 x5 x10 x11 (ix2 r d) = ow (kqr x0 x5 cs sn r) (kkw x10) (fun k d => kvw x11 k ⟨d.val, by omega⟩) (256 * (i 1).val + r.val) 1 d := by
  have h16 : (i 1).val < 16 := (i 1).isLt
  have rk0 : ∀ inb b d, View.readAt (Elt Ideal) arg12.view (Rect.unit (s := S1x4096x64) (k0_off10 i 0#32) ![1, 256, 64] inb).toLoadRect (harg12.unread x10) (ix3 0 b d) = kkw x10 ⟨256 * (i 1).val + 0 - 512 + b.val, by omega⟩ d :=
    fun inb b d => rd_w _ _ (by omega) (off10_0 i) arg12 harg12 x10 inb b d
  have rv0 : ∀ inb b e, View.readAt (Elt Ideal) arg13.view (Rect.unit (s := S1x4096x128) (k0_off11 i 0#32) ![1, 256, 128] inb).toLoadRect (harg13.unread x11) (ix3 0 b e) = kvw x11 ⟨256 * (i 1).val + 0 - 512 + b.val, by omega⟩ e :=
    fun inb b e => rd_w _ _ (by omega) (off11_0 i) arg13 harg13 x11 inb b e
  have hs0 := fun x : Fin 256 => xt_eq (kqr x0 x5 cs sn r 1) (kkw x10) (i 1).val r.val h16 0 (by omega) x
  have hc0 : ∀ (x : Fin 256) (a b : EReal), _ := fun x a b => select_win (i 1).val 0 x.val r.val h16 (by omega) x.isLt r.isLt rfl a b
  have rk256 : ∀ inb b d, View.readAt (Elt Ideal) arg12.view (Rect.unit (s := S1x4096x64) (k0_off10 i 256#32) ![1, 256, 64] inb).toLoadRect (harg12.unread x10) (ix3 0 b d) = kkw x10 ⟨256 * (i 1).val + 256 - 512 + b.val, by omega⟩ d :=
    fun inb b d => rd_w _ _ (by omega) (off10_256 i) arg12 harg12 x10 inb b d
  have rv256 : ∀ inb b e, View.readAt (Elt Ideal) arg13.view (Rect.unit (s := S1x4096x128) (k0_off11 i 256#32) ![1, 256, 128] inb).toLoadRect (harg13.unread x11) (ix3 0 b e) = kvw x11 ⟨256 * (i 1).val + 256 - 512 + b.val, by omega⟩ e :=
    fun inb b e => rd_w _ _ (by omega) (off11_256 i) arg13 harg13 x11 inb b e
  have hs256 := fun x : Fin 256 => xt_eq (kqr x0 x5 cs sn r 1) (kkw x10) (i 1).val r.val h16 256 (by omega) x
  have hc256 : ∀ (x : Fin 256) (a b : EReal), _ := fun x a b => select_win (i 1).val 256 x.val r.val h16 (by omega) x.isLt r.isLt rfl a b
  have rk512 : ∀ inb b d, View.readAt (Elt Ideal) arg12.view (Rect.unit (s := S1x4096x64) (k0_off10 i 512#32) ![1, 256, 64] inb).toLoadRect (harg12.unread x10) (ix3 0 b d) = kkw x10 ⟨256 * (i 1).val + 512 - 512 + b.val, by omega⟩ d :=
    fun inb b d => rd_w _ _ (by omega) (off10_512 i) arg12 harg12 x10 inb b d
  have rv512 : ∀ inb b e, View.readAt (Elt Ideal) arg13.view (Rect.unit (s := S1x4096x128) (k0_off11 i 512#32) ![1, 256, 128] inb).toLoadRect (harg13.unread x11) (ix3 0 b e) = kvw x11 ⟨256 * (i 1).val + 512 - 512 + b.val, by omega⟩ e :=
    fun inb b e => rd_w _ _ (by omega) (off11_512 i) arg13 harg13 x11 inb b e
  have hs512 := fun x : Fin 256 => xt_eq (kqr x0 x5 cs sn r 1) (kkw x10) (i 1).val r.val h16 512 (by omega) x
  have hc512 : ∀ (x : Fin 256) (a b : EReal), _ := fun x a b => select_win (i 1).val 512 x.val r.val h16 (by omega) x.isLt r.isLt rfl a b
  have h1' : ∀ k : Fin 4096, kvw x11 k 64 = 1 := h1
  refine Eq.trans ?_ (win_out (kqr x0 x5 cs sn r) (kkw x10) (fun k d => kvw x11 k ⟨d.val, by omega⟩) (i 1).val r.val h16 r.isLt 1 d _ rfl)
  pointwise [kernelRun0_A.sl.v1625, kernelRun0_A.sl.v1620, kernelRun0_A.sl.v1624, kernelRun0_A.sl.v1623, kernelRun0_A.sl.v1621, kernelRun0_A.sl.v1380, kernelRun0_A.sl.cst_513, kernelRun0_A.sl.v1619, kernelRun0_A.sl.v1610, kernelRun0_A.sl.v1618, kernelRun0_A.sl.v1614, kernelRun0_A.sl.v1585, kernelRun0_A.sl.cst_461, kernelRun0_A.sl.v1613, kernelRun0_A.sl.v1612, kernelRun0_A.sl.v1503, kernelRun0_A.sl.v1594, kernelRun0_A.sl.v1553, kernelRun0_A.sl.v1552, kernelRun0_A.sl.v1551, kernelRun0_A.sl.v1550, kernelRun0_A.sl.v1489, kernelRun0_A.sl.v1496, kernelRun0_A.sl.v1495, kernelRun0_A.sl.r_12, kernelRun0_A.sl.v1410, k0_pay187, kernelRun0_A.sl.v1409, kernelRun0_A.sl.v1408, kernelRun0_A.sl.v1484, kernelRun0_A.sl.v1494, kernelRun0_A.sl.cst_550, kernelRun0_A.sl.r_14, kernelRun0_A.sl.v1488, kernelRun0_A.sl.r_11, kernelRun0_A.sl.v1415, kernelRun0_A.sl.v1419, k0_pay186, kernelRun0_A.sl.v1417, kernelRun0_A.sl.v1418, kernelRun0_A.sl.v1416, kernelRun0_A.sl.v1414, kernelRun0_A.sl.v1413, kernelRun0_A.sl.v1412, kernelRun0_A.sl.v1411, kernelRun0_A.sl.v1466, kernelRun0_A.sl.v1502, kernelRun0_A.sl.r_13, k0_pay188, kernelRun0_A.sl.v1480, kernelRun0_A.sl.v1601, kernelRun0_A.sl.v1609, kernelRun0_A.sl.v1605, kernelRun0_A.sl.v1576, kernelRun0_A.sl.v1604, kernelRun0_A.sl.v1603, kernelRun0_A.sl.v1597, kernelRun0_A.sl.v1568, kernelRun0_A.sl.v1596, kernelRun0_A.sl.v1595]
  simp only [qw1_read c arg2 harg2 arg4 harg4 arg5 harg5 arg6 harg6 arg7 harg7 arg18 x0 x2 x3 x4 x5 cs sn T, rk0, rk256, rk512, rv0, rv256, rv512, v0_at, hc0, hc256, hc512, mask_bot, bot_bits, hs0, hs256, hs512, h1', mul_one]
  rfl

/-- The window branch of head 2. -/
theorem win2_at (T : Tables x2 x3 x4 cs sn) (h1 : ∀ k : Fin 4096, x11 (ix3 0 k ⟨64, by omega⟩) = 1) (r : Fin 256) (d : Fin 64) :
    kernelRun0_A.sl.v1657 (F := Ideal) c i arg2 harg2 arg4 harg4 arg5 harg5 arg6 harg6 arg7 harg7 arg12 harg12 arg13 harg13 arg18 x0 x2 x3 x4 x5 x10 x11 (ix2 r d) = ow (kqr x0 x5 cs sn r) (kkw x10) (fun k d => kvw x11 k ⟨d.val, by omega⟩) (256 * (i 1).val + r.val) 2 d := by
  have h16 : (i 1).val < 16 := (i 1).isLt
  have rk0 : ∀ inb b d, View.readAt (Elt Ideal) arg12.view (Rect.unit (s := S1x4096x64) (k0_off10 i 0#32) ![1, 256, 64] inb).toLoadRect (harg12.unread x10) (ix3 0 b d) = kkw x10 ⟨256 * (i 1).val + 0 - 512 + b.val, by omega⟩ d :=
    fun inb b d => rd_w _ _ (by omega) (off10_0 i) arg12 harg12 x10 inb b d
  have rv0 : ∀ inb b e, View.readAt (Elt Ideal) arg13.view (Rect.unit (s := S1x4096x128) (k0_off11 i 0#32) ![1, 256, 128] inb).toLoadRect (harg13.unread x11) (ix3 0 b e) = kvw x11 ⟨256 * (i 1).val + 0 - 512 + b.val, by omega⟩ e :=
    fun inb b e => rd_w _ _ (by omega) (off11_0 i) arg13 harg13 x11 inb b e
  have hs0 := fun x : Fin 256 => xt_eq (kqr x0 x5 cs sn r 2) (kkw x10) (i 1).val r.val h16 0 (by omega) x
  have hc0 : ∀ (x : Fin 256) (a b : EReal), _ := fun x a b => select_win (i 1).val 0 x.val r.val h16 (by omega) x.isLt r.isLt rfl a b
  have rk256 : ∀ inb b d, View.readAt (Elt Ideal) arg12.view (Rect.unit (s := S1x4096x64) (k0_off10 i 256#32) ![1, 256, 64] inb).toLoadRect (harg12.unread x10) (ix3 0 b d) = kkw x10 ⟨256 * (i 1).val + 256 - 512 + b.val, by omega⟩ d :=
    fun inb b d => rd_w _ _ (by omega) (off10_256 i) arg12 harg12 x10 inb b d
  have rv256 : ∀ inb b e, View.readAt (Elt Ideal) arg13.view (Rect.unit (s := S1x4096x128) (k0_off11 i 256#32) ![1, 256, 128] inb).toLoadRect (harg13.unread x11) (ix3 0 b e) = kvw x11 ⟨256 * (i 1).val + 256 - 512 + b.val, by omega⟩ e :=
    fun inb b e => rd_w _ _ (by omega) (off11_256 i) arg13 harg13 x11 inb b e
  have hs256 := fun x : Fin 256 => xt_eq (kqr x0 x5 cs sn r 2) (kkw x10) (i 1).val r.val h16 256 (by omega) x
  have hc256 : ∀ (x : Fin 256) (a b : EReal), _ := fun x a b => select_win (i 1).val 256 x.val r.val h16 (by omega) x.isLt r.isLt rfl a b
  have rk512 : ∀ inb b d, View.readAt (Elt Ideal) arg12.view (Rect.unit (s := S1x4096x64) (k0_off10 i 512#32) ![1, 256, 64] inb).toLoadRect (harg12.unread x10) (ix3 0 b d) = kkw x10 ⟨256 * (i 1).val + 512 - 512 + b.val, by omega⟩ d :=
    fun inb b d => rd_w _ _ (by omega) (off10_512 i) arg12 harg12 x10 inb b d
  have rv512 : ∀ inb b e, View.readAt (Elt Ideal) arg13.view (Rect.unit (s := S1x4096x128) (k0_off11 i 512#32) ![1, 256, 128] inb).toLoadRect (harg13.unread x11) (ix3 0 b e) = kvw x11 ⟨256 * (i 1).val + 512 - 512 + b.val, by omega⟩ e :=
    fun inb b e => rd_w _ _ (by omega) (off11_512 i) arg13 harg13 x11 inb b e
  have hs512 := fun x : Fin 256 => xt_eq (kqr x0 x5 cs sn r 2) (kkw x10) (i 1).val r.val h16 512 (by omega) x
  have hc512 : ∀ (x : Fin 256) (a b : EReal), _ := fun x a b => select_win (i 1).val 512 x.val r.val h16 (by omega) x.isLt r.isLt rfl a b
  have h1' : ∀ k : Fin 4096, kvw x11 k 64 = 1 := h1
  refine Eq.trans ?_ (win_out (kqr x0 x5 cs sn r) (kkw x10) (fun k d => kvw x11 k ⟨d.val, by omega⟩) (i 1).val r.val h16 r.isLt 2 d _ rfl)
  pointwise [kernelRun0_A.sl.v1657, kernelRun0_A.sl.v1652, kernelRun0_A.sl.v1656, kernelRun0_A.sl.v1655, kernelRun0_A.sl.v1653, kernelRun0_A.sl.v1380, kernelRun0_A.sl.cst_513, kernelRun0_A.sl.v1651, kernelRun0_A.sl.v1642, kernelRun0_A.sl.v1650, kernelRun0_A.sl.v1646, kernelRun0_A.sl.v1585, kernelRun0_A.sl.cst_461, kernelRun0_A.sl.v1645, kernelRun0_A.sl.v1644, kernelRun0_A.sl.v1524, kernelRun0_A.sl.v1626, kernelRun0_A.sl.v1557, kernelRun0_A.sl.v1556, kernelRun0_A.sl.v1555, kernelRun0_A.sl.v1554, kernelRun0_A.sl.v1510, kernelRun0_A.sl.v1517, kernelRun0_A.sl.v1516, kernelRun0_A.sl.r_12, kernelRun0_A.sl.v1410, k0_pay187, kernelRun0_A.sl.v1409, kernelRun0_A.sl.v1408, kernelRun0_A.sl.v1286, kernelRun0_A.sl.v1473, kernelRun0_A.sl.cst_550, kernelRun0_A.sl.v1509, kernelRun0_A.sl.r_11, kernelRun0_A.sl.v1415, kernelRun0_A.sl.v1419, k0_pay186, kernelRun0_A.sl.v1417, kernelRun0_A.sl.v1418, kernelRun0_A.sl.v1416, kernelRun0_A.sl.v1414, kernelRun0_A.sl.v1413, kernelRun0_A.sl.v1412, kernelRun0_A.sl.v1411, kernelRun0_A.sl.v1466, kernelRun0_A.sl.v1523, kernelRun0_A.sl.r_13, k0_pay188, kernelRun0_A.sl.v1480, kernelRun0_A.sl.v1633, kernelRun0_A.sl.v1641, kernelRun0_A.sl.v1637, kernelRun0_A.sl.v1576, kernelRun0_A.sl.v1636, kernelRun0_A.sl.v1635, kernelRun0_A.sl.v1629, kernelRun0_A.sl.v1568, kernelRun0_A.sl.v1628, kernelRun0_A.sl.v1627]
  simp only [q2_read c arg2 harg2 arg4 harg4 arg5 harg5 arg6 harg6 arg7 harg7 arg18 x0 x2 x3 x4 x5 cs sn T, rk0, rk256, rk512, rv0, rv256, rv512, v0_at, hc0, hc256, hc512, mask_bot, bot_bits, hs0, hs256, hs512, h1', mul_one]
  rfl

/-- The window branch of head 3. -/
theorem win3_at (T : Tables x2 x3 x4 cs sn) (h1 : ∀ k : Fin 4096, x11 (ix3 0 k ⟨64, by omega⟩) = 1) (r : Fin 256) (d : Fin 64) :
    kernelRun0_A.sl.v1689 (F := Ideal) c i arg2 harg2 arg4 harg4 arg5 harg5 arg6 harg6 arg7 harg7 arg12 harg12 arg13 harg13 arg18 x0 x2 x3 x4 x5 x10 x11 (ix2 r d) = ow (kqr x0 x5 cs sn r) (kkw x10) (fun k d => kvw x11 k ⟨d.val, by omega⟩) (256 * (i 1).val + r.val) 3 d := by
  have h16 : (i 1).val < 16 := (i 1).isLt
  have rk0 : ∀ inb b d, View.readAt (Elt Ideal) arg12.view (Rect.unit (s := S1x4096x64) (k0_off10 i 0#32) ![1, 256, 64] inb).toLoadRect (harg12.unread x10) (ix3 0 b d) = kkw x10 ⟨256 * (i 1).val + 0 - 512 + b.val, by omega⟩ d :=
    fun inb b d => rd_w _ _ (by omega) (off10_0 i) arg12 harg12 x10 inb b d
  have rv0 : ∀ inb b e, View.readAt (Elt Ideal) arg13.view (Rect.unit (s := S1x4096x128) (k0_off11 i 0#32) ![1, 256, 128] inb).toLoadRect (harg13.unread x11) (ix3 0 b e) = kvw x11 ⟨256 * (i 1).val + 0 - 512 + b.val, by omega⟩ e :=
    fun inb b e => rd_w _ _ (by omega) (off11_0 i) arg13 harg13 x11 inb b e
  have hs0 := fun x : Fin 256 => xt_eq (kqr x0 x5 cs sn r 3) (kkw x10) (i 1).val r.val h16 0 (by omega) x
  have hc0 : ∀ (x : Fin 256) (a b : EReal), _ := fun x a b => select_win (i 1).val 0 x.val r.val h16 (by omega) x.isLt r.isLt rfl a b
  have rk256 : ∀ inb b d, View.readAt (Elt Ideal) arg12.view (Rect.unit (s := S1x4096x64) (k0_off10 i 256#32) ![1, 256, 64] inb).toLoadRect (harg12.unread x10) (ix3 0 b d) = kkw x10 ⟨256 * (i 1).val + 256 - 512 + b.val, by omega⟩ d :=
    fun inb b d => rd_w _ _ (by omega) (off10_256 i) arg12 harg12 x10 inb b d
  have rv256 : ∀ inb b e, View.readAt (Elt Ideal) arg13.view (Rect.unit (s := S1x4096x128) (k0_off11 i 256#32) ![1, 256, 128] inb).toLoadRect (harg13.unread x11) (ix3 0 b e) = kvw x11 ⟨256 * (i 1).val + 256 - 512 + b.val, by omega⟩ e :=
    fun inb b e => rd_w _ _ (by omega) (off11_256 i) arg13 harg13 x11 inb b e
  have hs256 := fun x : Fin 256 => xt_eq (kqr x0 x5 cs sn r 3) (kkw x10) (i 1).val r.val h16 256 (by omega) x
  have hc256 : ∀ (x : Fin 256) (a b : EReal), _ := fun x a b => select_win (i 1).val 256 x.val r.val h16 (by omega) x.isLt r.isLt rfl a b
  have rk512 : ∀ inb b d, View.readAt (Elt Ideal) arg12.view (Rect.unit (s := S1x4096x64) (k0_off10 i 512#32) ![1, 256, 64] inb).toLoadRect (harg12.unread x10) (ix3 0 b d) = kkw x10 ⟨256 * (i 1).val + 512 - 512 + b.val, by omega⟩ d :=
    fun inb b d => rd_w _ _ (by omega) (off10_512 i) arg12 harg12 x10 inb b d
  have rv512 : ∀ inb b e, View.readAt (Elt Ideal) arg13.view (Rect.unit (s := S1x4096x128) (k0_off11 i 512#32) ![1, 256, 128] inb).toLoadRect (harg13.unread x11) (ix3 0 b e) = kvw x11 ⟨256 * (i 1).val + 512 - 512 + b.val, by omega⟩ e :=
    fun inb b e => rd_w _ _ (by omega) (off11_512 i) arg13 harg13 x11 inb b e
  have hs512 := fun x : Fin 256 => xt_eq (kqr x0 x5 cs sn r 3) (kkw x10) (i 1).val r.val h16 512 (by omega) x
  have hc512 : ∀ (x : Fin 256) (a b : EReal), _ := fun x a b => select_win (i 1).val 512 x.val r.val h16 (by omega) x.isLt r.isLt rfl a b
  have h1' : ∀ k : Fin 4096, kvw x11 k 64 = 1 := h1
  refine Eq.trans ?_ (win_out (kqr x0 x5 cs sn r) (kkw x10) (fun k d => kvw x11 k ⟨d.val, by omega⟩) (i 1).val r.val h16 r.isLt 3 d _ rfl)
  pointwise [kernelRun0_A.sl.v1689, kernelRun0_A.sl.v1684, kernelRun0_A.sl.v1688, kernelRun0_A.sl.v1687, kernelRun0_A.sl.v1685, kernelRun0_A.sl.v1380, kernelRun0_A.sl.cst_513, kernelRun0_A.sl.v1683, kernelRun0_A.sl.v1674, kernelRun0_A.sl.v1682, kernelRun0_A.sl.v1678, kernelRun0_A.sl.v1585, kernelRun0_A.sl.cst_461, kernelRun0_A.sl.v1677, kernelRun0_A.sl.v1676, kernelRun0_A.sl.v1545, kernelRun0_A.sl.v1658, kernelRun0_A.sl.v1561, kernelRun0_A.sl.v1560, kernelRun0_A.sl.v1559, kernelRun0_A.sl.v1558, kernelRun0_A.sl.v1531, kernelRun0_A.sl.v1538, kernelRun0_A.sl.v1537, kernelRun0_A.sl.r_12, kernelRun0_A.sl.v1410, k0_pay187, kernelRun0_A.sl.v1409, kernelRun0_A.sl.v1408, kernelRun0_A.sl.v1313, kernelRun0_A.sl.v1473, kernelRun0_A.sl.cst_550, kernelRun0_A.sl.v1530, kernelRun0_A.sl.r_11, kernelRun0_A.sl.v1415, kernelRun0_A.sl.v1419, k0_pay186, kernelRun0_A.sl.v1417, kernelRun0_A.sl.v1418, kernelRun0_A.sl.v1416, kernelRun0_A.sl.v1414, kernelRun0_A.sl.v1413, kernelRun0_A.sl.v1412, kernelRun0_A.sl.v1411, kernelRun0_A.sl.v1466, kernelRun0_A.sl.v1544, kernelRun0_A.sl.r_13, k0_pay188, kernelRun0_A.sl.v1480, kernelRun0_A.sl.v1665, kernelRun0_A.sl.v1673, kernelRun0_A.sl.v1669, kernelRun0_A.sl.v1576, kernelRun0_A.sl.v1668, kernelRun0_A.sl.v1667, kernelRun0_A.sl.v1661, kernelRun0_A.sl.v1568, kernelRun0_A.sl.v1660, kernelRun0_A.sl.v1659]
  simp only [q3_read c arg2 harg2 arg4 harg4 arg5 harg5 arg6 harg6 arg7 harg7 arg18 x0 x2 x3 x4 x5 cs sn T, rk0, rk256, rk512, rv0, rv256, rv512, v0_at, hc0, hc256, hc512, mask_bot, bot_bits, hs0, hs256, hs512, h1', mul_one]
  rfl

end Win

end Cert.NsaKernelIdeal.Pure
-- ==== Proof.NsaPoint.lean ====
module

public import proofs.«01_k».proof.Proof.NsaWin
public import proofs.«01_k».proof.Proof.NsaSpec
public import Idealize.ShloMosaic.Lib.Pointwise
public import Idealize.ShloMosaic.Lib.WordCmp
public import Idealize.ShloMosaic.Lib.WritesUnit

/-! The value a grid point stores. -/

@[expose] public section

set_option maxRecDepth 16384
noncomputable section

namespace Cert.NsaKernelIdeal.Pure

open Idealize.ShloMosaic Idealize.ShloMosaic.TcCoe Idealize.SL.Sem Cert.NsaKernelIdeal Cert.NsaKernelIdeal.Gen Cert.Layer.Nsa

/-- The gated sum of head 0. -/
theorem pay0_at (R : FVec Ideal S1024x64 .f32) (s0 s1 s2 s3 w0 w1 w2 w3 : FVec Ideal S256x64 .f32) (g : FVec Ideal S256x128 .f32) (r e : Fin 256) (d : Fin 64) (he : e.val = 0 + d.val) :
    k0_pay1 (F := Ideal) R s2 s3 w1 w2 w3 g (k0_pay218 (F := Ideal) s0 w0 g (extractStridedSlice S256x1 ![0, 0] g slices_S256x128_o0_0_S256x1) (extractStridedSlice S256x64 ![0, 0] R slices_S1024x64_o0_0_S256x64)) (k0_pay219 (F := Ideal) R s1 g) (ix3 0 r e)
      = g (ix2 r 0) * R (ix2 ⟨r.val, by omega⟩ d) + g (ix2 r 1) * s0 (ix2 r d) + g (ix2 r 2) * w0 (ix2 r d) := by
  have hd : (⟨e.val, by omega⟩ : Fin 64) = d := Fin.ext (by dsimp only; omega)
  pointwise [k0_pay1, k0_pay218, k0_pay219]
  rw [dif_pos (show e.val < 64 by omega), hd]

/-- The gated sum of head 1. -/
theorem pay1_at (R : FVec Ideal S1024x64 .f32) (s0 s1 s2 s3 w0 w1 w2 w3 : FVec Ideal S256x64 .f32) (g : FVec Ideal S256x128 .f32) (r e : Fin 256) (d : Fin 64) (he : e.val = 64 + d.val) :
    k0_pay1 (F := Ideal) R s2 s3 w1 w2 w3 g (k0_pay218 (F := Ideal) s0 w0 g (extractStridedSlice S256x1 ![0, 0] g slices_S256x128_o0_0_S256x1) (extractStridedSlice S256x64 ![0, 0] R slices_S1024x64_o0_0_S256x64)) (k0_pay219 (F := Ideal) R s1 g) (ix3 0 r e)
      = g (ix2 r 3) * R (ix2 ⟨256 + r.val, by omega⟩ d) + g (ix2 r 4) * s1 (ix2 r d) + g (ix2 r 5) * w1 (ix2 r d) := by
  have hd : (⟨e.val - 64, by omega⟩ : Fin 64) = d := Fin.ext (by dsimp only; omega)
  pointwise [k0_pay1, k0_pay218, k0_pay219]
  rw [dif_neg (show ¬ e.val < 64 by omega), dif_pos (show e.val - 64 < 64 by omega), hd]

/-- The gated sum of head 2. -/
theorem pay2_at (R : FVec Ideal S1024x64 .f32) (s0 s1 s2 s3 w0 w1 w2 w3 : FVec Ideal S256x64 .f32) (g : FVec Ideal S256x128 .f32) (r e : Fin 256) (d : Fin 64) (he : e.val = 128 + d.val) :
    k0_pay1 (F := Ideal) R s2 s3 w1 w2 w3 g (k0_pay218 (F := Ideal) s0 w0 g (extractStridedSlice S256x1 ![0, 0] g slices_S256x128_o0_0_S256x1) (extractStridedSlice S256x64 ![0, 0] R slices_S1024x64_o0_0_S256x64)) (k0_pay219 (F := Ideal) R s1 g) (ix3 0 r e)
      = g (ix2 r 6) * R (ix2 ⟨512 + r.val, by omega⟩ d) + g (ix2 r 7) * s2 (ix2 r d) + g (ix2 r 8) * w2 (ix2 r d) := by
  have hd : (⟨e.val - 64 - 64, by omega⟩ : Fin 64) = d := Fin.ext (by dsimp only; omega)
  pointwise [k0_pay1, k0_pay218, k0_pay219]
  rw [dif_neg (show ¬ e.val < 64 by omega), dif_neg (show ¬ e.val - 64 < 64 by omega), dif_pos (show e.val - 64 - 64 < 64 by omega), hd]

/-- The gated sum of head 3. -/
theorem pay3_at (R : FVec Ideal S1024x64 .f32) (s0 s1 s2 s3 w0 w1 w2 w3 : FVec Ideal S256x64 .f32) (g : FVec Ideal S256x128 .f32) (r e : Fin 256) (d : Fin 64) (he : e.val = 192 + d.val) :
    k0_pay1 (F := Ideal) R s2 s3 w1 w2 w3 g (k0_pay218 (F := Ideal) s0 w0 g (extractStridedSlice S256x1 ![0, 0] g slices_S256x128_o0_0_S256x1) (extractStridedSlice S256x64 ![0, 0] R slices_S1024x64_o0_0_S256x64)) (k0_pay219 (F := Ideal) R s1 g) (ix3 0 r e)
      = g (ix2 r 9) * R (ix2 ⟨768 + r.val, by omega⟩ d) + g (ix2 r 10) * s3 (ix2 r d) + g (ix2 r 11) * w3 (ix2 r d) := by
  have hd : (⟨e.val - 64 - 64 - 64, by omega⟩ : Fin 64) = d := Fin.ext (by dsimp only; omega)
  pointwise [k0_pay1, k0_pay218, k0_pay219]
  rw [dif_neg (show ¬ e.val < 64 by omega), dif_neg (show ¬ e.val - 64 < 64 by omega), dif_neg (show ¬ e.val - 64 - 64 < 64 by omega), hd]

section Point

variable (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x64 .f32) (harg7 : arg7.IsWhole) (arg8 : Memref sig .tc .vmem S1x256x64 .bf16) (harg8 : arg8.IsWhole) (arg9 : Memref sig .tc .vmem S1x256x64 .bf16) (harg9 : arg9.IsWhole) (arg10 : Memref sig .tc .vmem S1x4096x64 .bf16) (harg10 : arg10.IsWhole) (arg11 : Memref sig .tc .vmem S1x4096x128 .bf16) (harg11 : arg11.IsWhole) (arg12 : Memref sig .tc .vmem S1x4096x64 .bf16) (harg12 : arg12.IsWhole) (arg13 : Memref sig .tc .vmem S1x4096x128 .bf16) (harg13 : arg13.IsWhole) (arg14 : Memref sig .tc .vmem S64x256 .bf16) (harg14 : arg14.IsWhole) (arg15 : Memref sig .tc .vmem S4x64x1024 .bf16) (harg15 : arg15.IsWhole) (arg16 : Memref sig .tc .vmem S1x256x256 .f32) (harg16 : arg16.IsWhole) (arg17 : Memref sig .tc .vmem S64x256 .f32) (harg17 : arg17.IsWhole) (arg18 : Memref sig .tc .vmem S4x256x64 .bf16) (harg18 : arg18.IsWhole) (arg19 : Memref sig .tc .vmem S4x256x1 .f32) (harg19 : arg19.IsWhole) (arg20 : Memref sig .tc .vmem S4x256x128 .f32) (harg20 : arg20.IsWhole)
  (x0 : Vec Ideal S1x256x256 .f32) (x1 : Vec Ideal S1x256x128 .f32) (x2 : Vec Ideal S1x256x64 .f32) (x3 : Vec Ideal S1x256x64 .f32) (x4 : Vec Ideal S1x256x64 .f32) (x5 : Vec Ideal S1x64 .f32) (x6 : Vec Ideal S1x256x64 .bf16) (x7 : Vec Ideal S1x256x64 .bf16) (x8 : Vec Ideal S1x4096x64 .bf16) (x9 : Vec Ideal S1x4096x128 .bf16) (x10 : Vec Ideal S1x4096x64 .bf16) (x11 : Vec Ideal S1x4096x128 .bf16) (x12 : Vec Ideal S64x256 .bf16) (x13 : Vec Ideal S4x64x1024 .bf16)
  (cs sn : Fin 256 → Fin 8 → EReal)

/-- The gates of a row. -/
theorem g_at (r : Fin 256) (e : Fin 128) : kernelRun0_A.sl.v1698 (F := Ideal) c arg3 harg3 x1 (ix2 r e) = gate (x1 (ix3 0 r e)) := by
  pointwise [kernelRun0_A.sl.v1698, kernelRun0_A.sl.v1695, kernelRun0_A.sl.v1696, kernelRun0_A.sl.v1694, kernelRun0_A.sl.v1693, kernelRun0_A.sl.v1692, kernelRun0_A.sl.v1691, kernelRun0_A.sl.cst_664, kernelRun0_A.sl.cst_665]
  simp only [whole3]
  unfold gate
  rw [one_bits, zero_sub]

/-- The stored block is the gated sum. -/
theorem point_eq (y : Shape.Idx S1x256x256) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 y
    = k0_pay1 (F := Ideal) (kernelRun0_A.sl.r (F := Ideal) c i arg2 harg2 arg7 harg7 arg8 harg8 arg9 harg9 x0 x5 x6 x7) (kernelRun0_A.sl.v1399 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13) (kernelRun0_A.sl.v1407 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13) (kernelRun0_A.sl.v1625 (F := Ideal) c i arg2 harg2 arg4 harg4 arg5 harg5 arg6 harg6 arg7 harg7 arg12 harg12 arg13 harg13 arg18 x0 x2 x3 x4 x5 x10 x11) (kernelRun0_A.sl.v1657 (F := Ideal) c i arg2 harg2 arg4 harg4 arg5 harg5 arg6 harg6 arg7 harg7 arg12 harg12 arg13 harg13 arg18 x0 x2 x3 x4 x5 x10 x11) (kernelRun0_A.sl.v1689 (F := Ideal) c i arg2 harg2 arg4 harg4 arg5 harg5 arg6 harg6 arg7 harg7 arg12 harg12 arg13 harg13 arg18 x0 x2 x3 x4 x5 x10 x11) (kernelRun0_A.sl.v1698 (F := Ideal) c arg3 harg3 x1)
        (k0_pay218 (F := Ideal) (kernelRun0_A.sl.v1383 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13) (kernelRun0_A.sl.v1593 (F := Ideal) c i arg2 harg2 arg4 harg4 arg5 harg5 arg6 harg6 arg7 harg7 arg12 harg12 arg13 harg13 arg18 x0 x2 x3 x4 x5 x10 x11) (kernelRun0_A.sl.v1698 (F := Ideal) c arg3 harg3 x1) (extractStridedSlice S256x1 ![0, 0] (kernelRun0_A.sl.v1698 (F := Ideal) c arg3 harg3 x1) slices_S256x128_o0_0_S256x1) (extractStridedSlice S256x64 ![0, 0] (kernelRun0_A.sl.r (F := Ideal) c i arg2 harg2 arg7 harg7 arg8 harg8 arg9 harg9 x0 x5 x6 x7) slices_S1024x64_o0_0_S256x64))
        (k0_pay219 (F := Ideal) (kernelRun0_A.sl.r (F := Ideal) c i arg2 harg2 arg7 harg7 arg8 harg8 arg9 harg9 x0 x5 x6 x7) (kernelRun0_A.sl.v1391 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13) (kernelRun0_A.sl.v1698 (F := Ideal) c arg3 harg3 x1)) y := by
  unfold out0_A_14 kernelRun0_A
  dsimp only
  refine (View.read_writes_cons_unit_of_mem VO0_14 VO0_14.junk _ _ [] y y rfl (fun a => by
    match a with
    | ⟨0, _⟩ => exact (Nat.zero_add _).symm
    | ⟨1, _⟩ => exact (Nat.zero_add _).symm
    | ⟨2, _⟩ => exact (Nat.zero_add _).symm)).trans ?_
  rfl

/-- The value of head 0 at a grid point. -/
theorem head0_at (hO : Covers x12) (T : Tables x2 x3 x4 cs sn) (hE : ∀ (a : Fin 4) (j : Fin 64) (b : Fin 1024), x13 (ix3 a j b) = if (1024 * a.val + b.val) / 64 = j.val then 1 else 0)
    (h1 : ∀ k : Fin 4096, x9 (ix3 0 k ⟨64, by omega⟩) = 1) (h2 : ∀ k : Fin 4096, x11 (ix3 0 k ⟨64, by omega⟩) = 1)
    (r : Fin 256) (d : Fin 64) (e : Fin 256) (he : e.val = 0 + d.val) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 (ix3 0 r e)
      = out (kqn x0 x5 r) (kqr x0 x5 cs sn r) (kkc x6) (kkc x7) (kks x8) (fun k d => kvs x9 k ⟨d.val, by omega⟩) (kkw x10) (fun k d => kvw x11 k ⟨d.val, by omega⟩) (256 * (i 1).val + r.val) (fun g => x1 (ix3 0 r ⟨3 * 0 + g.val, by omega⟩)) 0 d := by
  refine (point_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 _).trans ?_
  refine (pay0_at _ _ _ _ _ _ _ _ _ _ r e d he).trans ?_
  have hr : kernelRun0_A.sl.r (F := Ideal) c i arg2 harg2 arg7 harg7 arg8 harg8 arg9 harg9 x0 x5 x6 x7 (ix2 ⟨r.val, by omega⟩ d) = oc (kqn x0 x5 r) (kkc x6) (kkc x7) (256 * (i 1).val + r.val) 0 d :=
    (congrArg (fun q => kernelRun0_A.sl.r (F := Ideal) c i arg2 harg2 arg7 harg7 arg8 harg8 arg9 harg9 x0 x5 x6 x7 (ix2 q d)) (Fin.ext (by show r.val = 256 * 0 + r.val; omega))).trans (r_at c i arg2 harg2 arg7 harg7 arg8 harg8 arg9 harg9 x0 x5 x6 x7 r 0 d)
  rw [g_at, g_at, g_at, s0_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE h1 r d, win0_at c i arg2 harg2 arg4 harg4 arg5 harg5 arg6 harg6 arg7 harg7 arg12 harg12 arg13 harg13 arg18 x0 x2 x3 x4 x5 x10 x11 cs sn T h2 r d, hr]
  rfl

/-- The value of head 1 at a grid point. -/
theorem head1_at (hO : Covers x12) (T : Tables x2 x3 x4 cs sn) (hE : ∀ (a : Fin 4) (j : Fin 64) (b : Fin 1024), x13 (ix3 a j b) = if (1024 * a.val + b.val) / 64 = j.val then 1 else 0)
    (h1 : ∀ k : Fin 4096, x9 (ix3 0 k ⟨64, by omega⟩) = 1) (h2 : ∀ k : Fin 4096, x11 (ix3 0 k ⟨64, by omega⟩) = 1)
    (r : Fin 256) (d : Fin 64) (e : Fin 256) (he : e.val = 64 + d.val) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 (ix3 0 r e)
      = out (kqn x0 x5 r) (kqr x0 x5 cs sn r) (kkc x6) (kkc x7) (kks x8) (fun k d => kvs x9 k ⟨d.val, by omega⟩) (kkw x10) (fun k d => kvw x11 k ⟨d.val, by omega⟩) (256 * (i 1).val + r.val) (fun g => x1 (ix3 0 r ⟨3 * 1 + g.val, by omega⟩)) 1 d := by
  refine (point_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 _).trans ?_
  refine (pay1_at _ _ _ _ _ _ _ _ _ _ r e d he).trans ?_
  have hr : kernelRun0_A.sl.r (F := Ideal) c i arg2 harg2 arg7 harg7 arg8 harg8 arg9 harg9 x0 x5 x6 x7 (ix2 ⟨256 + r.val, by omega⟩ d) = oc (kqn x0 x5 r) (kkc x6) (kkc x7) (256 * (i 1).val + r.val) 1 d :=
    (congrArg (fun q => kernelRun0_A.sl.r (F := Ideal) c i arg2 harg2 arg7 harg7 arg8 harg8 arg9 harg9 x0 x5 x6 x7 (ix2 q d)) (Fin.ext (by show 256 + r.val = 256 * 1 + r.val; omega))).trans (r_at c i arg2 harg2 arg7 harg7 arg8 harg8 arg9 harg9 x0 x5 x6 x7 r 1 d)
  rw [g_at, g_at, g_at, s1_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE h1 r d, win1_at c i arg2 harg2 arg4 harg4 arg5 harg5 arg6 harg6 arg7 harg7 arg12 harg12 arg13 harg13 arg18 x0 x2 x3 x4 x5 x10 x11 cs sn T h2 r d, hr]
  rfl

/-- The value of head 2 at a grid point. -/
theorem head2_at (hO : Covers x12) (T : Tables x2 x3 x4 cs sn) (hE : ∀ (a : Fin 4) (j : Fin 64) (b : Fin 1024), x13 (ix3 a j b) = if (1024 * a.val + b.val) / 64 = j.val then 1 else 0)
    (h1 : ∀ k : Fin 4096, x9 (ix3 0 k ⟨64, by omega⟩) = 1) (h2 : ∀ k : Fin 4096, x11 (ix3 0 k ⟨64, by omega⟩) = 1)
    (r : Fin 256) (d : Fin 64) (e : Fin 256) (he : e.val = 128 + d.val) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 (ix3 0 r e)
      = out (kqn x0 x5 r) (kqr x0 x5 cs sn r) (kkc x6) (kkc x7) (kks x8) (fun k d => kvs x9 k ⟨d.val, by omega⟩) (kkw x10) (fun k d => kvw x11 k ⟨d.val, by omega⟩) (256 * (i 1).val + r.val) (fun g => x1 (ix3 0 r ⟨3 * 2 + g.val, by omega⟩)) 2 d := by
  refine (point_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 _).trans ?_
  refine (pay2_at _ _ _ _ _ _ _ _ _ _ r e d he).trans ?_
  have hr : kernelRun0_A.sl.r (F := Ideal) c i arg2 harg2 arg7 harg7 arg8 harg8 arg9 harg9 x0 x5 x6 x7 (ix2 ⟨512 + r.val, by omega⟩ d) = oc (kqn x0 x5 r) (kkc x6) (kkc x7) (256 * (i 1).val + r.val) 2 d :=
    (congrArg (fun q => kernelRun0_A.sl.r (F := Ideal) c i arg2 harg2 arg7 harg7 arg8 harg8 arg9 harg9 x0 x5 x6 x7 (ix2 q d)) (Fin.ext (by show 512 + r.val = 256 * 2 + r.val; omega))).trans (r_at c i arg2 harg2 arg7 harg7 arg8 harg8 arg9 harg9 x0 x5 x6 x7 r 2 d)
  rw [g_at, g_at, g_at, s2_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE h1 r d, win2_at c i arg2 harg2 arg4 harg4 arg5 harg5 arg6 harg6 arg7 harg7 arg12 harg12 arg13 harg13 arg18 x0 x2 x3 x4 x5 x10 x11 cs sn T h2 r d, hr]
  rfl

/-- The value of head 3 at a grid point. -/
theorem head3_at (hO : Covers x12) (T : Tables x2 x3 x4 cs sn) (hE : ∀ (a : Fin 4) (j : Fin 64) (b : Fin 1024), x13 (ix3 a j b) = if (1024 * a.val + b.val) / 64 = j.val then 1 else 0)
    (h1 : ∀ k : Fin 4096, x9 (ix3 0 k ⟨64, by omega⟩) = 1) (h2 : ∀ k : Fin 4096, x11 (ix3 0 k ⟨64, by omega⟩) = 1)
    (r : Fin 256) (d : Fin 64) (e : Fin 256) (he : e.val = 192 + d.val) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 (ix3 0 r e)
      = out (kqn x0 x5 r) (kqr x0 x5 cs sn r) (kkc x6) (kkc x7) (kks x8) (fun k d => kvs x9 k ⟨d.val, by omega⟩) (kkw x10) (fun k d => kvw x11 k ⟨d.val, by omega⟩) (256 * (i 1).val + r.val) (fun g => x1 (ix3 0 r ⟨3 * 3 + g.val, by omega⟩)) 3 d := by
  refine (point_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 _).trans ?_
  refine (pay3_at _ _ _ _ _ _ _ _ _ _ r e d he).trans ?_
  have hr : kernelRun0_A.sl.r (F := Ideal) c i arg2 harg2 arg7 harg7 arg8 harg8 arg9 harg9 x0 x5 x6 x7 (ix2 ⟨768 + r.val, by omega⟩ d) = oc (kqn x0 x5 r) (kkc x6) (kkc x7) (256 * (i 1).val + r.val) 3 d :=
    (congrArg (fun q => kernelRun0_A.sl.r (F := Ideal) c i arg2 harg2 arg7 harg7 arg8 harg8 arg9 harg9 x0 x5 x6 x7 (ix2 q d)) (Fin.ext (by show 768 + r.val = 256 * 3 + r.val; omega))).trans (r_at c i arg2 harg2 arg7 harg7 arg8 harg8 arg9 harg9 x0 x5 x6 x7 r 3 d)
  rw [g_at, g_at, g_at, s3_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x3 x4 x5 x6 x8 x9 x12 x13 cs sn hO T hE h1 r d, win3_at c i arg2 harg2 arg4 harg4 arg5 harg5 arg6 harg6 arg7 harg7 arg12 harg12 arg13 harg13 arg18 x0 x2 x3 x4 x5 x10 x11 cs sn T h2 r d, hr]
  rfl

end Point

end Cert.NsaKernelIdeal.Pure
-- ==== Proof.NsaRef.lean ====
module

public import proofs.«01_k».proof.Proof.Gen.NsaReferenceIdeal.Read
public import proofs.«01_k».proof.Proof.NsaSpec
public import Idealize.ShloMosaic.Lib.Pointwise
public import Idealize.ShloMosaic.Lib.WordCmp

/-! What the reference of the three-branch attention holds at one element. -/

@[expose] public section

set_option maxRecDepth 16384
noncomputable section

namespace Cert.NsaReferenceIdeal.Read

open Idealize.ShloMosaic Idealize.ShloMosaic.TcCoe Cert.NsaReferenceIdeal Cert.NsaReferenceIdeal.Gen Cert.Layer.Nsa

/-- The projected queries. -/
abbrev A0 := (⟨S8x4096x256, .f32⟩ : BufTy).Contents (Elt Ideal)
/-- The gate logits. -/
abbrev A1 := (⟨S8x4096x12, .f32⟩ : BufTy).Contents (Elt Ideal)
/-- The cosines or sines of the rotation. -/
abbrev A2 := (⟨S8x4096x8, .f32⟩ : BufTy).Contents (Elt Ideal)
/-- The weight of the queries' norm. -/
abbrev A4 := (⟨S64, .f32⟩ : BufTy).Contents (Elt Ideal)
/-- The compressed keys or values. -/
abbrev A5 := (⟨S8x256x64, .f32⟩ : BufTy).Contents (Elt Ideal)
/-- Keys or values, one row per position. -/
abbrev A7 := (⟨S8x4096x64, .f32⟩ : BufTy).Contents (Elt Ideal)

variable (x0 : A0) (x1 : A1) (x2 x3 : A2) (x4 : A4) (x5 x6 : A5) (x7 x8 x9 x10 : A7)

/-- One head's normed query. -/
def qn (b : Fin 8) (t : Fin 4096) (h : Fin 4) : Fin 64 → EReal := rms (fun d => x0 (ix3 b t ⟨64 * h.val + d.val, by omega⟩)) fun d => x4 (ix1 d)

/-- One head's rotated query. -/
def qr (b : Fin 8) (t : Fin 4096) (h : Fin 4) : Fin 64 → EReal := rope (qn x0 x4 b t h) (fun d => x2 (ix3 b t d)) fun d => x3 (ix3 b t d)

/-- The queries split into heads. -/
theorem v0_at (b : Fin 8) (t : Fin 4096) (h : Fin 4) (d : Fin 64) : val_main_v0 (F := Ideal) x0 (ix4 b t h d) = x0 (ix3 b t ⟨64 * h.val + d.val, by omega⟩) := by
  rw [val_main_v0_apply]
  refine congrArg x0 (funext fun a => Fin.ext ?_)
  match a with
  | ⟨0, _⟩ => show (((b.val * 4096 + t.val) * 4 + h.val) * 64 + d.val) / 1048576 = b.val; omega
  | ⟨1, _⟩ => show (((b.val * 4096 + t.val) * 4 + h.val) * 64 + d.val) / 256 % 4096 = t.val; omega
  | ⟨2, _⟩ => show (((b.val * 4096 + t.val) * 4 + h.val) * 64 + d.val) % 256 = 64 * h.val + d.val; omega

/-- The normalised queries. -/
theorem v13_at (b : Fin 8) (t : Fin 4096) (h : Fin 4) (d : Fin 64) : val_main_v13 (F := Ideal) x0 x4 (ix4 b t h d) = qn x0 x4 b t h d := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  simp only [v0_at]
  rfl

/-- The rotated queries. -/
theorem v29_at (b : Fin 8) (t : Fin 4096) (h : Fin 4) (d : Fin 64) : val_main_v29 (F := Ideal) x0 x2 x3 x4 (ix4 b t h d) = qr x0 x2 x3 x4 b t h d := by
  pointwise [val_main_v29, val_main_v28, val_main_v27, val_main_v26, val_main_v25, val_main_v24, val_main_v23, val_main_v22, val_main_v21, val_main_v20, val_main_v19, val_main_v18, val_main_v17, val_main_v16, val_main_v15, val_main_v14]
  simp only [v13_at]
  unfold qr rope
  by_cases h1 : d.val < 8
  · rw [dif_pos h1, dif_pos h1]
    simp only [Nat.add_comm 8]
  · rw [dif_neg h1, dif_neg h1]
    by_cases h2 : d.val - 8 < 8
    · rw [dif_pos h2, dif_pos (by omega)]
      simp only [show 8 + (d.val - 8) = d.val by omega]
    · rw [dif_neg h2, dif_neg (by omega)]
      exact congrArg _ (Fin.ext (by show 16 + (d.val - 8 - 8) = d.val; omega))

/-- The compressed rows of one sequence. -/
abbrev kc (b : Fin 8) : Fin 256 → Fin 64 → EReal := fun n d => x5 (ix3 b n d)
/-- The rows of one sequence, by position. -/
abbrev ks (b : Fin 8) : Fin 4096 → Fin 64 → EReal := fun n d => x7 (ix3 b n d)

/-- Products of queries and compressed keys. -/
theorem v71_at (b : Fin 8) (t : Fin 4096) (h : Fin 4) (n : Fin 255) :
    val_main_v71 (F := Ideal) x0 x4 x5 (ix4 b n t h) = ∑ d : Fin 64, kc x5 b n.castSucc d * qn x0 x4 b t h d := by
  pointwise [val_main_v71, val_main_v30]
  simp only [v13_at]
  rfl

/-- The masked compressed scores. -/
theorem v82_at (b : Fin 8) (t : Fin 4096) (h : Fin 4) (n : Fin 255) :
    val_main_v82 (F := Ideal) x0 x4 x5 (ix4 b h t n) = xc (qn x0 x4 b t) (kc x5 b) t.val h n := by
  pointwise [val_main_v82, val_main_v81, val_main_cst_10, val_main_v80, val_main_v79, val_main_v78, val_main_v77, val_main_v76, val_main_v75, val_main_v74, val_main_v73, val_main_cst_9, val_main_v72, val_main_v70, val_main_v38, val_main_v37, val_main_v36, val_main_v35, val_main_v34, val_main_v33, val_main_v32, val_main_c, val_main_c_2, val_main_c_3]
  rw [v71_at, muli_nat, addi_nat, subi_nat _ _ (by omega), select_sle (by omega) (by omega), bot_bits]
  show (if _ then _ * eighth else _) = _
  rw [score_eq, xc]
  exact if_congr (by omega) rfl rfl

/-- The largest compressed score of a row. -/
theorem v83_at (b : Fin 8) (t : Fin 4096) (h : Fin 4) :
    val_main_v83 (F := Ideal) x0 x4 x5 (ix3 b h t) = top (xc (qn x0 x4 b t) (kc x5 b) t.val h) := by
  pointwise [val_main_v83, val_main_cst_11]
  simp only [v82_at, bot_bits]
  rfl

/-- The weights of the compressed branch. -/
theorem v90_at (b : Fin 8) (t : Fin 4096) (h : Fin 4) (n : Fin 255) :
    val_main_v90 (F := Ideal) x0 x4 x5 (ix4 b h t n) = wt (xc (qn x0 x4 b t) (kc x5 b) t.val h) n := by
  pointwise [val_main_v90, val_main_v89, val_main_v88, val_main_v87, val_main_v86, val_main_v85, val_main_v84, val_main_cst_12, val_main_v79, val_main_v78, val_main_v77, val_main_v76, val_main_v75, val_main_v70, val_main_v38, val_main_v37, val_main_v36, val_main_v35, val_main_v34, val_main_v33, val_main_v32, val_main_c, val_main_c_2, val_main_c_3]
  rw [v82_at, v83_at, muli_nat, addi_nat, subi_nat _ _ (by omega), select_sle (by omega) (by omega)]
  refine masked_wt (n.val * 16 + 32 - 1 ≤ t.val) (xc (qn x0 x4 b t) (kc x5 b) t.val h) n fun hc => ?_
  rw [xc, if_neg (by omega)]

/-- The probabilities of the compressed branch. -/
theorem v96_at (b : Fin 8) (t : Fin 4096) (h : Fin 4) (n : Fin 255) :
    val_main_v96 (F := Ideal) x0 x4 x5 (ix4 b h t n) = prob (xc (qn x0 x4 b t) (kc x5 b) t.val h) n := by
  pointwise [val_main_v96, val_main_v95, val_main_v94, val_main_v93, val_main_v92, val_main_v91, val_main_cst_13, val_main_cst_14]
  simp only [v90_at]
  rfl

/-- The compressed branch's output. -/
theorem v98_at (b : Fin 8) (t : Fin 4096) (h : Fin 4) (d : Fin 64) :
    val_main_v98 (F := Ideal) x0 x4 x5 x6 (ix4 b t h d) = oc (qn x0 x4 b t) (kc x5 b) (kc x6 b) t.val h d := by
  pointwise [val_main_v98, val_main_v97, val_main_v31]
  simp only [v96_at]
  exact Finset.sum_congr rfl fun n _ => mul_comm _ _

/-- The table of overlaps: whether compressed block `n` overlaps selected block `j`. -/
theorem v57_at (n : Fin 255) (j : Fin 64) : val_main_v57 (F := Ideal) (ix2 n j) = cover n.val j.val := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_c, val_main_c_2, val_main_c_3, val_main_c_4, val_main_c_5, val_main_c_6]
  simp only [muli_nat, addi_nat]
  rw [WordCmp.cmpi_slt_ofNat (by omega) (by omega), WordCmp.cmpi_sgt_ofNat (by omega) (by omega), cover]
  by_cases h1 : 16 * n.val < 64 * j.val + 64
  · by_cases h2 : 64 * j.val < 16 * n.val + 32
    · rw [if_pos ⟨h1, h2⟩, decide_eq_true (by omega), decide_eq_true (by omega)]
      show ((1 : ℕ) : EReal) = 1
      simp
    · rw [if_neg fun h => h2 h.2, decide_eq_true (by omega), decide_eq_false (by omega)]
      show ((0 : ℕ) : EReal) = 0
      simp
  · rw [if_neg fun h => h1 h.1, decide_eq_false (by omega)]
    by_cases h2 : 64 * j.val < 16 * n.val + 32
    · rw [decide_eq_true (by omega)]
      show ((0 : ℕ) : EReal) = 0
      simp
    · rw [decide_eq_false (by omega)]
      show ((0 : ℕ) : EReal) = 0
      simp

/-- The importance of a block before forcing and masking. -/
theorem v100_at (b : Fin 8) (t : Fin 4096) (j : Fin 64) :
    val_main_v100 (F := Ideal) x0 x4 x5 (ix3 b t j) = imp (qn x0 x4 b t) (kc x5 b) t.val j := by
  pointwise [val_main_v100, val_main_v99, val_main_cst_15]
  simp only [v96_at, v57_at]
  rfl

/-- The block in which query `t` lies. -/
theorem v102_at (t : Fin 4096) : val_main_v102 (F := Ideal) (ix1 t) = BitVec.ofNat 32 (t.val / 64) := by
  revert t
  decide +kernel

/-- Selecting by the negation of a disjunction of two decided bits. -/
theorem select_not_or {α : Type} (p q : Prop) [Decidable p] [Decidable q] (x y : α) :
    Scalar.select (~~~IntOp.ori (BitVec.ofBool (decide p)) (BitVec.ofBool (decide q))) x y = if p ∨ q then y else x := by
  by_cases hp : p
  · rw [if_pos (Or.inl hp), decide_eq_true hp]
    by_cases hq : q
    · rw [decide_eq_true hq]; rfl
    · rw [decide_eq_false hq]; rfl
  · rw [decide_eq_false hp]
    by_cases hq : q
    · rw [if_pos (Or.inr hq), decide_eq_true hq]; rfl
    · rw [if_neg (by tauto), decide_eq_false hq]; rfl

/-- The importance of a block as it is ranked. -/
theorem v125_at (b : Fin 8) (t : Fin 4096) (j : Fin 64) :
    val_main_v125 (F := Ideal) x0 x4 x5 (ix3 b t j) = imps (qn x0 x4 b t) (kc x5 b) t.val j := by
  pointwise [val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v101, val_main_c_17, val_main_c_18, val_main_cst_19, val_main_cst_20, val_main_c_4, val_main_v70, val_main_v41, val_main_v40, val_main_v39]
  rw [v100_at, v102_at, muli_nat, muli_nat, select_sle (by omega) (by omega), WordCmp.cmpi_eq_ofNat (by omega) (by omega), WordCmp.cmpi_eq_ofNat (by omega) (by omega), bot_bits, imps]
  refine (select_not_or (j.val * 64 = t.val / 64 * 64) (j.val * 64 = 0) _ _).trans ?_
  refine if_congr (by omega) rfl (if_congr (by omega) rfl rfl)

/-- The sort's total comparison of two extended reals is their strict order. -/
theorem total_gt (a b : EReal) : FloatOps.cmpfTotal (F := Ideal) (φ := .f32) .gt a b = 1#1 ↔ b < a := by
  show Ideal.cmp .ogt a b = 1#1 ↔ _
  by_cases h : b < a
  · simp [Ideal.cmp, h]
  · simp [Ideal.cmp, h]

/-- The block at a place of a row's ranking. -/
def J (b : Fin 8) (t : Fin 4096) (r : Fin 16) : Fin 64 :=
  place (FloatOps.cmpfTotal (F := Ideal) (φ := .f32) .gt) (imps (qn x0 x4 b t) (kc x5 b) t.val) (r.castLE (by omega))

/-- The index in place `r` of the sixteen best blocks. -/
theorem indices_at (b : Fin 8) (t : Fin 4096) (r : Fin 16) : val_main_indices (F := Ideal) x0 x4 x5 (ix3 b t r) = BitVec.ofNat 32 (J x0 x4 x5 b t r).val := by
  unfold val_main_indices Host.topK Host.sort2
  pointwise []
  have e : ∀ k : Fin 64, (ix3 b t (⟨r.val, by omega⟩ : Fin 64)).along 2 k = ix3 b t k := fun k => funext fun a => by
    match a with
    | ⟨0, _⟩ => rfl
    | ⟨1, _⟩ => rfl
    | ⟨2, _⟩ => rfl
  refine congrArg (fun k : Fin 64 => BitVec.ofNat 32 k.val) (?_ : sortedFrom _ _ = _)
  unfold J place
  refine congrArg (fun f : Fin 64 → Fin 64 → Bool => sortedFrom f (⟨r.val, by omega⟩ : Fin 64)) (funext fun k => funext fun k' => ?_)
  rw [e k, e k', v125_at, v125_at]

/-- A small natural number is not negative as a word, so the wrap of negative indices leaves it. -/
theorem wrap_nat (a : ℕ) (y : BitVec 32) (h : a < 2 ^ 31) :
    Scalar.select (IntOp.cmpi CmpIPredicate.slt (BitVec.ofNat 32 a) 0#32) y (BitVec.ofNat 32 a) = BitVec.ofNat 32 a := by
  rw [WordCmp.cmpi_slt_ofNat h (by omega), decide_eq_false (by omega)]
  rfl

/-- The gather reads the block whose number stands in the index array. -/
theorem gather_at (x : (⟨S8x64x64x64, .f32⟩ : BufTy).Contents (Elt Ideal)) (idx : (⟨S8x4096x16x2, .i32⟩ : BufTy).Contents (Elt Ideal))
    (b : Fin 8) (t : Fin 4096) (r : Fin 16) (w d : Fin 64) (j : Fin 64) (h0 : idx (ix4 b t r 0) = BitVec.ofNat 32 b.val) (h1 : idx (ix4 b t r 1) = BitVec.ofNat 32 j.val) :
    Host.gather gather_S8x64x64x64_S8x4096x16x2_S8x4096x16x64x64_34_01_n_n_01_3_116464 x idx (ix5 b t r w d) = x (ix4 b j w d) := by
  unfold Host.gather
  refine congrArg x (funext fun a => Fin.ext ?_)
  match a with
  | ⟨0, _⟩ =>
    refine (show _ = min (idx (GatherDims.siIdx gather_S8x64x64x64_S8x4096x16x2_S8x4096x16x64x64_34_01_n_n_01_3_116464 (ix5 b t r w d) ⟨0, by decide⟩)).toInt.toNat 7 + 0 + 0 from rfl).trans ?_
    rw [show GatherDims.siIdx gather_S8x64x64x64_S8x4096x16x2_S8x4096x16x64x64_34_01_n_n_01_3_116464 (ix5 b t r w d) ⟨0, by decide⟩ = ix4 b t r 0 from
      funext fun a => by match a with | ⟨0, _⟩ => rfl | ⟨1, _⟩ => rfl | ⟨2, _⟩ => rfl | ⟨3, _⟩ => rfl, h0, WordCmp.toInt_ofNat_of_lt (by omega)]
    show min b.val 7 + 0 + 0 = b.val
    omega
  | ⟨1, _⟩ =>
    refine (show _ = min (idx (GatherDims.siIdx gather_S8x64x64x64_S8x4096x16x2_S8x4096x16x64x64_34_01_n_n_01_3_116464 (ix5 b t r w d) ⟨1, by decide⟩)).toInt.toNat 63 + 0 + 0 from rfl).trans ?_
    rw [show GatherDims.siIdx gather_S8x64x64x64_S8x4096x16x2_S8x4096x16x64x64_34_01_n_n_01_3_116464 (ix5 b t r w d) ⟨1, by decide⟩ = ix4 b t r 1 from
      funext fun a => by match a with | ⟨0, _⟩ => rfl | ⟨1, _⟩ => rfl | ⟨2, _⟩ => rfl | ⟨3, _⟩ => rfl, h1, WordCmp.toInt_ofNat_of_lt (by omega)]
    show min j.val 63 + 0 + 0 = j.val
    omega
  | ⟨2, _⟩ => exact Nat.zero_add _
  | ⟨3, _⟩ => exact Nat.zero_add _

/-- First index of the gather of keys: the sequence. -/
theorem v139_0 (b : Fin 8) (t : Fin 4096) (r : Fin 16) : val_main_v139 (F := Ideal) x0 x4 x5 (ix4 b t r 0) = BitVec.ofNat 32 b.val := by
  pointwise [val_main_v139, val_main_v138, val_main_v137, val_main_v136, val_main_v135, val_main_v134, val_main_v133, val_main_v132, val_main_v131, val_main_v130, val_main_v129, val_main_v128, val_main_v127, val_main_v126, val_main_v68, val_main_v67, val_main_c_21, val_main_c_22, val_main_c_23, val_main_c_24]
  exact wrap_nat _ _ (by omega)

/-- Second index of the gather of keys: the block. -/
theorem v139_1 (b : Fin 8) (t : Fin 4096) (r : Fin 16) : val_main_v139 (F := Ideal) x0 x4 x5 (ix4 b t r 1) = BitVec.ofNat 32 (J x0 x4 x5 b t r).val := by
  pointwise [val_main_v139, val_main_v138, val_main_v137, val_main_v136, val_main_v135, val_main_v134, val_main_v133, val_main_v132, val_main_v131, val_main_v130, val_main_v129, val_main_v128, val_main_v127, val_main_v126, val_main_v68, val_main_v67, val_main_c_21, val_main_c_22, val_main_c_23, val_main_c_24]
  rw [indices_at]
  exact wrap_nat _ _ (by omega)

/-- First index of the gather of values: the sequence. -/
theorem v155_0 (b : Fin 8) (t : Fin 4096) (r : Fin 16) : val_main_v155 (F := Ideal) x0 x4 x5 (ix4 b t r 0) = BitVec.ofNat 32 b.val := by
  pointwise [val_main_v155, val_main_v154, val_main_v153, val_main_v152, val_main_v151, val_main_v150, val_main_v149, val_main_v148, val_main_v147, val_main_v146, val_main_v145, val_main_v144, val_main_v143, val_main_v142, val_main_v68, val_main_v67, val_main_c_25, val_main_c_26, val_main_c_27, val_main_c_28]
  exact wrap_nat _ _ (by omega)

/-- Second index of the gather of values: the block. -/
theorem v155_1 (b : Fin 8) (t : Fin 4096) (r : Fin 16) : val_main_v155 (F := Ideal) x0 x4 x5 (ix4 b t r 1) = BitVec.ofNat 32 (J x0 x4 x5 b t r).val := by
  pointwise [val_main_v155, val_main_v154, val_main_v153, val_main_v152, val_main_v151, val_main_v150, val_main_v149, val_main_v148, val_main_v147, val_main_v146, val_main_v145, val_main_v144, val_main_v143, val_main_v142, val_main_v68, val_main_v67, val_main_c_25, val_main_c_26, val_main_c_27, val_main_c_28]
  rw [indices_at]
  exact wrap_nat _ _ (by omega)

/-- The position of a gathered key. -/
def pos (b : Fin 8) (t : Fin 4096) (m : Fin 1024) : Fin 4096 := ⟨64 * (J x0 x4 x5 b t ⟨m.val / 64, by omega⟩).val + m.val % 64, by omega⟩

/-- The gathered keys are the keys at the gathered positions. -/
theorem v141_at (b : Fin 8) (t : Fin 4096) (m : Fin 1024) (d : Fin 64) :
    val_main_v141 (F := Ideal) x0 x4 x5 x7 (ix4 b t m d) = ks x7 b (pos x0 x4 x5 b t m) d := by
  have e : idx_main_v141 (ix4 b t m d) = ix5 b t ⟨m.val / 64, by omega⟩ ⟨m.val % 64, by omega⟩ d := funext fun a => Fin.ext <| by
    match a with
    | ⟨0, _⟩ => show (((b.val * 4096 + t.val) * 1024 + m.val) * 64 + d.val) / 268435456 = b.val; omega
    | ⟨1, _⟩ => show (((b.val * 4096 + t.val) * 1024 + m.val) * 64 + d.val) / 65536 % 4096 = t.val; omega
    | ⟨2, _⟩ => show (((b.val * 4096 + t.val) * 1024 + m.val) * 64 + d.val) / 4096 % 16 = m.val / 64; omega
    | ⟨3, _⟩ => show (((b.val * 4096 + t.val) * 1024 + m.val) * 64 + d.val) / 64 % 64 = m.val % 64; omega
    | ⟨4, _⟩ => show (((b.val * 4096 + t.val) * 1024 + m.val) * 64 + d.val) % 64 = d.val; omega
  rw [val_main_v141_apply, e, val_main_v140]
  refine (gather_at _ _ _ _ _ _ _ _ (v139_0 x0 x4 x5 _ _ _) (v139_1 x0 x4 x5 _ _ _)).trans ?_
  rw [val_main_v58_apply]
  refine congrArg x7 (funext fun a => Fin.ext ?_)
  match a with
  | ⟨0, _⟩ => show (((b.val * 64 + (J x0 x4 x5 b t ⟨m.val / 64, by omega⟩).val) * 64 + m.val % 64) * 64 + d.val) / 262144 = b.val; omega
  | ⟨1, _⟩ =>
    show (((b.val * 64 + (J x0 x4 x5 b t ⟨m.val / 64, by omega⟩).val) * 64 + m.val % 64) * 64 + d.val) / 64 % 4096 = 64 * (J x0 x4 x5 b t ⟨m.val / 64, by omega⟩).val + m.val % 64
    omega
  | ⟨2, _⟩ => show (((b.val * 64 + (J x0 x4 x5 b t ⟨m.val / 64, by omega⟩).val) * 64 + m.val % 64) * 64 + d.val) % 64 = d.val; omega

/-- The gathered values are the values at the gathered positions. -/
theorem v157_at (b : Fin 8) (t : Fin 4096) (m : Fin 1024) (d : Fin 64) :
    val_main_v157 (F := Ideal) x0 x4 x5 x8 (ix4 b t m d) = ks x8 b (pos x0 x4 x5 b t m) d := by
  have e : idx_main_v157 (ix4 b t m d) = ix5 b t ⟨m.val / 64, by omega⟩ ⟨m.val % 64, by omega⟩ d := funext fun a => Fin.ext <| by
    match a with
    | ⟨0, _⟩ => show (((b.val * 4096 + t.val) * 1024 + m.val) * 64 + d.val) / 268435456 = b.val; omega
    | ⟨1, _⟩ => show (((b.val * 4096 + t.val) * 1024 + m.val) * 64 + d.val) / 65536 % 4096 = t.val; omega
    | ⟨2, _⟩ => show (((b.val * 4096 + t.val) * 1024 + m.val) * 64 + d.val) / 4096 % 16 = m.val / 64; omega
    | ⟨3, _⟩ => show (((b.val * 4096 + t.val) * 1024 + m.val) * 64 + d.val) / 64 % 64 = m.val % 64; omega
    | ⟨4, _⟩ => show (((b.val * 4096 + t.val) * 1024 + m.val) * 64 + d.val) % 64 = d.val; omega
  rw [val_main_v157_apply, e, val_main_v156]
  refine (gather_at _ _ _ _ _ _ _ _ (v155_0 x0 x4 x5 _ _ _) (v155_1 x0 x4 x5 _ _ _)).trans ?_
  rw [val_main_v59_apply]
  refine congrArg x8 (funext fun a => Fin.ext ?_)
  match a with
  | ⟨0, _⟩ => show (((b.val * 64 + (J x0 x4 x5 b t ⟨m.val / 64, by omega⟩).val) * 64 + m.val % 64) * 64 + d.val) / 262144 = b.val; omega
  | ⟨1, _⟩ =>
    show (((b.val * 64 + (J x0 x4 x5 b t ⟨m.val / 64, by omega⟩).val) * 64 + m.val % 64) * 64 + d.val) / 64 % 4096 = 64 * (J x0 x4 x5 b t ⟨m.val / 64, by omega⟩).val + m.val % 64
    omega
  | ⟨2, _⟩ => show (((b.val * 64 + (J x0 x4 x5 b t ⟨m.val / 64, by omega⟩).val) * 64 + m.val % 64) * 64 + d.val) % 64 = d.val; omega

/-- The position of gathered key `m`. -/
theorem v165_at (b : Fin 8) (t : Fin 4096) (m : Fin 1024) : val_main_v165 (F := Ideal) x0 x4 x5 (ix3 b t m) = BitVec.ofNat 32 (pos x0 x4 x5 b t m).val := by
  have e : idx_main_v165 (ix3 b t m) = ix4 b t ⟨m.val / 64, by omega⟩ ⟨m.val % 64, by omega⟩ := funext fun a => Fin.ext <| by
    match a with
    | ⟨0, _⟩ => show ((b.val * 4096 + t.val) * 1024 + m.val) / 4194304 = b.val; omega
    | ⟨1, _⟩ => show ((b.val * 4096 + t.val) * 1024 + m.val) / 1024 % 4096 = t.val; omega
    | ⟨2, _⟩ => show ((b.val * 4096 + t.val) * 1024 + m.val) / 64 % 16 = m.val / 64; omega
    | ⟨3, _⟩ => show ((b.val * 4096 + t.val) * 1024 + m.val) % 64 = m.val % 64; omega
  rw [val_main_v165_apply, e]
  pointwise [val_main_v164, val_main_v163, val_main_v162, val_main_v161, val_main_v160, val_main_v159, val_main_v158, val_main_c_29, val_main_v69]
  rw [indices_at, muli_nat, addi_nat, Nat.mul_comm]
  rfl

/-- The gathered keys' masked scores. -/
def xg (b : Fin 8) (t : Fin 4096) (h : Fin 4) (m : Fin 1024) : EReal :=
  if (pos x0 x4 x5 b t m).val ≤ t.val then score (qr x0 x2 x3 x4 b t h) (ks x7 b (pos x0 x4 x5 b t m)) else ⊥

/-- Products of rotated queries and gathered keys. -/
theorem v166_at (b : Fin 8) (t : Fin 4096) (h : Fin 4) (m : Fin 1024) :
    val_main_v166 (F := Ideal) x0 x2 x3 x4 x5 x7 (ix4 b t m h) = ∑ d : Fin 64, ks x7 b (pos x0 x4 x5 b t m) d * qr x0 x2 x3 x4 b t h d := by
  pointwise [val_main_v166]
  simp only [v141_at, v29_at]

/-- The masked scores of the gathered keys. -/
theorem v176_at (b : Fin 8) (t : Fin 4096) (h : Fin 4) (m : Fin 1024) :
    val_main_v176 (F := Ideal) x0 x2 x3 x4 x5 x7 (ix4 b h t m) = xg x0 x2 x3 x4 x5 x7 b t h m := by
  pointwise [val_main_v176, val_main_v175, val_main_v174, val_main_v173, val_main_v172, val_main_v171, val_main_v170, val_main_v169, val_main_v168, val_main_v167, val_main_v70, val_main_cst_30, val_main_cst_31]
  rw [v166_at, v165_at, select_sle (by omega) (by omega), bot_bits]
  show (if _ then _ * eighth else _) = _
  rw [score_eq]
  rfl

/-- The largest score among the gathered keys. -/
theorem v177_at (b : Fin 8) (t : Fin 4096) (h : Fin 4) :
    val_main_v177 (F := Ideal) x0 x2 x3 x4 x5 x7 (ix3 b h t) = top (xg x0 x2 x3 x4 x5 x7 b t h) := by
  pointwise [val_main_v177, val_main_cst_32]
  simp only [v176_at, bot_bits]
  rfl

/-- The weights of the gathered keys. -/
theorem v184_at (b : Fin 8) (t : Fin 4096) (h : Fin 4) (m : Fin 1024) :
    val_main_v184 (F := Ideal) x0 x2 x3 x4 x5 x7 (ix4 b h t m) = wt (xg x0 x2 x3 x4 x5 x7 b t h) m := by
  pointwise [val_main_v184, val_main_v183, val_main_v182, val_main_v181, val_main_v180, val_main_v179, val_main_v178, val_main_v173, val_main_v172, val_main_v171, val_main_v170, val_main_v70, val_main_cst_33]
  rw [v176_at, v177_at, v165_at, select_sle (by omega) (by omega)]
  refine masked_wt ((pos x0 x4 x5 b t m).val ≤ t.val) (xg x0 x2 x3 x4 x5 x7 b t h) m fun hc => ?_
  rw [xg, if_neg hc]

/-- The probabilities of the gathered keys. -/
theorem v190_at (b : Fin 8) (t : Fin 4096) (h : Fin 4) (m : Fin 1024) :
    val_main_v190 (F := Ideal) x0 x2 x3 x4 x5 x7 (ix4 b h t m) = prob (xg x0 x2 x3 x4 x5 x7 b t h) m := by
  pointwise [val_main_v190, val_main_v189, val_main_v188, val_main_v187, val_main_v186, val_main_v185, val_main_cst_34, val_main_cst_35]
  simp only [v184_at]
  rfl

/-- The selected branch's output. -/
theorem v191_at (b : Fin 8) (t : Fin 4096) (h : Fin 4) (d : Fin 64) :
    val_main_v191 (F := Ideal) x0 x2 x3 x4 x5 x7 x8 (ix4 b t h d) = os (qn x0 x4 b t) (qr x0 x2 x3 x4 b t) (kc x5 b) (ks x7 b) (ks x8 b) t.val h d := by
  pointwise [val_main_v191]
  simp only [v190_at, v157_at]
  refine (gathered (imps (qn x0 x4 b t) (kc x5 b) t.val) (J x0 x4 x5 b t) (fun r => rank_place _ total_gt _ _) (fun j hj => ?_)
    (fun k => score (qr x0 x2 x3 x4 b t h) (ks x7 b k)) (fun k => ks x8 b k d) t.val (pos x0 x4 x5 b t) fun m => rfl).symm
  obtain ⟨r, e⟩ := place_surjective (FloatOps.cmpfTotal (F := Ideal) (φ := .f32) .gt) (imps (qn x0 x4 b t) (kc x5 b) t.val) j
  have e' := rank_place (FloatOps.cmpfTotal (F := Ideal) (φ := .f32) .gt) total_gt (imps (qn x0 x4 b t) (kc x5 b) t.val) r
  rw [e] at e'
  exact ⟨⟨r.val, by omega⟩, e⟩

/-- Selecting by a conjunction of two decided bits. -/
theorem select_and {α : Type} (p q : Prop) [Decidable p] [Decidable q] (x y : α) :
    Scalar.select (IntOp.andi (BitVec.ofBool (decide p)) (BitVec.ofBool (decide q))) x y = if p ∧ q then x else y := by
  by_cases hp : p
  · rw [decide_eq_true hp]
    by_cases hq : q
    · rw [if_pos ⟨hp, hq⟩, decide_eq_true hq]; rfl
    · rw [if_neg (by tauto), decide_eq_false hq]; rfl
  · rw [if_neg (by tauto), decide_eq_false hp]
    by_cases hq : q
    · rw [decide_eq_true hq]; rfl
    · rw [decide_eq_false hq]; rfl

/-- The difference of two positions as a signed word is their integer difference. -/
theorem diff_int (t k : Fin 4096) : (IntOp.subi (BitVec.ofNat 32 t.val) (BitVec.ofNat 32 k.val)).toInt = (t.val : Int) - k.val := by
  show (BitVec.ofNat 32 t.val - BitVec.ofNat 32 k.val).toInt = _
  rw [BitVec.toInt_sub, WordCmp.toInt_ofNat_of_lt (by omega), WordCmp.toInt_ofNat_of_lt (by omega)]
  exact Int.bmod_eq_of_le (by omega) (by omega)

/-- The window's mask in terms of the two positions. -/
theorem band {α : Type} (t k : Fin 4096) (x y : α) :
    Scalar.select (IntOp.andi (IntOp.cmpi .sge (IntOp.subi (BitVec.ofNat 32 t.val) (BitVec.ofNat 32 k.val)) 0#32)
      (IntOp.cmpi .slt (IntOp.subi (BitVec.ofNat 32 t.val) (BitVec.ofNat 32 k.val)) 512#32)) x y = if k.val ≤ t.val ∧ t.val < k.val + 512 then x else y := by
  rw [WordCmp.cmpi_sge_eq, WordCmp.cmpi_slt_eq, diff_int, show (0#32 : BitVec 32).toInt = 0 from rfl, show (512#32 : BitVec 32).toInt = 512 from rfl]
  refine (select_and ((0 : Int) ≤ (t.val : Int) - k.val) ((t.val : Int) - k.val < 512) x y).trans (if_congr (by omega) rfl rfl)

/-- Products of rotated queries and window keys. -/
theorem v202_at (b : Fin 8) (t k : Fin 4096) (h : Fin 4) :
    val_main_v202 (F := Ideal) x0 x2 x3 x4 x9 (ix4 b k t h) = ∑ d : Fin 64, ks x9 b k d * qr x0 x2 x3 x4 b t h d := by
  pointwise [val_main_v202]
  simp only [v29_at]

/-- The masked window scores. -/
theorem v208_at (b : Fin 8) (t k : Fin 4096) (h : Fin 4) :
    val_main_v208 (F := Ideal) x0 x2 x3 x4 x9 (ix4 b h t k) = xw (qr x0 x2 x3 x4 b t) (ks x9 b) t.val h k := by
  pointwise [val_main_v208, val_main_v207, val_main_v206, val_main_v205, val_main_v204, val_main_v203, val_main_v201, val_main_v200, val_main_v199, val_main_v198, val_main_v197, val_main_v196, val_main_v195, val_main_v194, val_main_v193, val_main_v192, val_main_v70, val_main_c_36, val_main_c_37, val_main_cst_38, val_main_cst_39]
  rw [v202_at, band, bot_bits]
  show (if _ then _ * eighth else _) = _
  rw [score_eq]
  rfl

/-- The largest window score. -/
theorem v209_at (b : Fin 8) (t : Fin 4096) (h : Fin 4) :
    val_main_v209 (F := Ideal) x0 x2 x3 x4 x9 (ix3 b h t) = top (xw (qr x0 x2 x3 x4 b t) (ks x9 b) t.val h) := by
  pointwise [val_main_v209, val_main_cst_40]
  simp only [v208_at, bot_bits]
  rfl

/-- The weights of the window branch. -/
theorem v216_at (b : Fin 8) (t k : Fin 4096) (h : Fin 4) :
    val_main_v216 (F := Ideal) x0 x2 x3 x4 x9 (ix4 b h t k) = wt (xw (qr x0 x2 x3 x4 b t) (ks x9 b) t.val h) k := by
  pointwise [val_main_v216, val_main_v215, val_main_v214, val_main_v213, val_main_v212, val_main_v211, val_main_v210, val_main_v201, val_main_v200, val_main_v199, val_main_v198, val_main_v197, val_main_v196, val_main_v195, val_main_v194, val_main_v193, val_main_v192, val_main_v70, val_main_c_36, val_main_c_37, val_main_cst_41]
  rw [v208_at, v209_at, band]
  refine masked_wt (k.val ≤ t.val ∧ t.val < k.val + 512) (xw (qr x0 x2 x3 x4 b t) (ks x9 b) t.val h) k fun hc => ?_
  rw [xw, if_neg hc]

/-- The probabilities of the window branch. -/
theorem v222_at (b : Fin 8) (t k : Fin 4096) (h : Fin 4) :
    val_main_v222 (F := Ideal) x0 x2 x3 x4 x9 (ix4 b h t k) = prob (xw (qr x0 x2 x3 x4 b t) (ks x9 b) t.val h) k := by
  pointwise [val_main_v222, val_main_v221, val_main_v220, val_main_v219, val_main_v218, val_main_v217, val_main_cst_42, val_main_cst_43]
  simp only [v216_at]
  rfl

/-- The window branch's output. -/
theorem v224_at (b : Fin 8) (t : Fin 4096) (h : Fin 4) (d : Fin 64) :
    val_main_v224 (F := Ideal) x0 x2 x3 x4 x9 x10 (ix4 b t h d) = ow (qr x0 x2 x3 x4 b t) (ks x9 b) (ks x10 b) t.val h d := by
  pointwise [val_main_v224, val_main_v223]
  simp only [v222_at]
  exact Finset.sum_congr rfl fun n _ => mul_comm _ _

/-- The gates. -/
theorem v66_at (b : Fin 8) (t : Fin 4096) (h : Fin 4) (g : Fin 3) :
    val_main_v66 (F := Ideal) x1 (ix4 b t h g) = gate (x1 (ix3 b t ⟨3 * h.val + g.val, by omega⟩)) := by
  have e : idx_main_v66 (ix4 b t h g) = ix3 b t ⟨3 * h.val + g.val, by omega⟩ := funext fun a => Fin.ext <| by
    match a with
    | ⟨0, _⟩ => show (((b.val * 4096 + t.val) * 4 + h.val) * 3 + g.val) / 49152 = b.val; omega
    | ⟨1, _⟩ => show (((b.val * 4096 + t.val) * 4 + h.val) * 3 + g.val) / 12 % 4096 = t.val; omega
    | ⟨2, _⟩ => show (((b.val * 4096 + t.val) * 4 + h.val) * 3 + g.val) % 12 = 3 * h.val + g.val; omega
  rw [val_main_v66_apply, e]
  rfl

/-- The reference's output by head: the three branches, each times its gate. -/
theorem v235_at (b : Fin 8) (t : Fin 4096) (h : Fin 4) (d : Fin 64) :
    val_main_v235 (F := Ideal) x0 x1 x2 x3 x4 x5 x6 x7 x8 x9 x10 (ix4 b t h d)
      = out (qn x0 x4 b t) (qr x0 x2 x3 x4 b t) (kc x5 b) (kc x6 b) (ks x7 b) (ks x8 b) (ks x9 b) (ks x10 b) t.val
        (fun g => x1 (ix3 b t ⟨3 * h.val + g.val, by omega⟩)) h d := by
  pointwise [val_main_v235, val_main_v234, val_main_v233, val_main_v232, val_main_v231, val_main_v230, val_main_v229, val_main_v228, val_main_v227, val_main_v226, val_main_v225]
  rw [v98_at, v191_at, v224_at, v66_at, v66_at, v66_at]
  rfl

/-- The reference's result at one element. -/
theorem v236_at (b : Fin 8) (t : Fin 4096) (h : Fin 4) (d : Fin 64) :
    val_main_v236 (F := Ideal) x0 x1 x2 x3 x4 x5 x6 x7 x8 x9 x10 (ix3 b t ⟨64 * h.val + d.val, by omega⟩)
      = out (qn x0 x4 b t) (qr x0 x2 x3 x4 b t) (kc x5 b) (kc x6 b) (ks x7 b) (ks x8 b) (ks x9 b) (ks x10 b) t.val
        (fun g => x1 (ix3 b t ⟨3 * h.val + g.val, by omega⟩)) h d := by
  have e : idx_main_v236 (ix3 b t ⟨64 * h.val + d.val, by omega⟩) = ix4 b t h d := funext fun a => Fin.ext <| by
    match a with
    | ⟨0, _⟩ => show ((b.val * 4096 + t.val) * 256 + (64 * h.val + d.val)) / 1048576 = b.val; omega
    | ⟨1, _⟩ => show ((b.val * 4096 + t.val) * 256 + (64 * h.val + d.val)) / 256 % 4096 = t.val; omega
    | ⟨2, _⟩ => show ((b.val * 4096 + t.val) * 256 + (64 * h.val + d.val)) / 64 % 4 = h.val; omega
    | ⟨3, _⟩ => show ((b.val * 4096 + t.val) * 256 + (64 * h.val + d.val)) % 64 = d.val; omega
  rw [val_main_v236_apply, e, v235_at]

end Cert.NsaReferenceIdeal.Read
-- ==== Proof.NsaValue.lean ====
module

public import proofs.«01_k».proof.Proof.NsaPoint
public import proofs.«01_k».proof.Proof.NsaRef
public import Idealize.ShloMosaic.Lib.Pipeline.ValueKit
public import Idealize.ShloMosaic.Lib.Pipeline.ReadBack

/-! The three-branch attention's result array after the run is the reference's. -/

@[expose] public section

set_option maxRecDepth 16384
noncomputable section

namespace Cert.NsaKernelIdeal.Bridge

open Idealize.ShloMosaic Idealize.ShloMosaic.TcCoe Idealize.SL.Sem Cert.NsaKernelIdeal Cert.NsaKernelIdeal.Gen Cert.NsaKernelIdeal.Pure Cert.Layer.Nsa
open Idealize.ShloMosaic.Pipeline (Dat)

variable (m : (ℓ : Loc nD τ sig) → Buf (Elt Ideal) ℓ)

/-- The argument that holds the queries. -/
abbrev a0 (c : Dev nD) : Cert.NsaReferenceIdeal.Read.A0 := m ((c : Thread nD τ).loc main_arg0)

/-- The argument that holds the gates. -/
abbrev a1 (c : Dev nD) : Cert.NsaReferenceIdeal.Read.A1 := m ((c : Thread nD τ).loc main_arg1)

/-- The argument that holds the cosines. -/
abbrev a2 (c : Dev nD) : Cert.NsaReferenceIdeal.Read.A2 := m ((c : Thread nD τ).loc main_arg2)

/-- The argument that holds the sines. -/
abbrev a3 (c : Dev nD) : Cert.NsaReferenceIdeal.Read.A2 := m ((c : Thread nD τ).loc main_arg3)

/-- The argument that holds the queries' gain. -/
abbrev a4 (c : Dev nD) : Cert.NsaReferenceIdeal.Read.A4 := m ((c : Thread nD τ).loc main_arg4)

/-- The argument that holds the compressed keys. -/
abbrev a5 (c : Dev nD) : Cert.NsaReferenceIdeal.Read.A5 := m ((c : Thread nD τ).loc main_arg5)

/-- The argument that holds the compressed values. -/
abbrev a6 (c : Dev nD) : Cert.NsaReferenceIdeal.Read.A5 := m ((c : Thread nD τ).loc main_arg6)

/-- The argument that holds the selected keys. -/
abbrev a7 (c : Dev nD) : Cert.NsaReferenceIdeal.Read.A7 := m ((c : Thread nD τ).loc main_arg7)

/-- The argument that holds the selected values. -/
abbrev a8 (c : Dev nD) : Cert.NsaReferenceIdeal.Read.A7 := m ((c : Thread nD τ).loc main_arg8)

/-- The argument that holds the window's keys. -/
abbrev a9 (c : Dev nD) : Cert.NsaReferenceIdeal.Read.A7 := m ((c : Thread nD τ).loc main_arg9)

/-- The argument that holds the window's values. -/
abbrev a10 (c : Dev nD) : Cert.NsaReferenceIdeal.Read.A7 := m ((c : Thread nD τ).loc main_arg10)

/-- The cosines twice, then ones. -/
def ct (x : FVec Ideal S8x4096x8 .f32) : FVec Ideal S8x4096x64 .f32 :=
  concatenate S8x4096x64 2 [⟨S8x4096x8, x⟩, ⟨S8x4096x8, x⟩, ⟨S8x4096x48, broadcastInDim S8x4096x48 ![] bcast_S_S8x4096x48 (constant (F := Ideal) S_ .f32 0x3F800000#32)⟩] concatenates_S8x4096x8_S8x4096x8_S8x4096x48_S8x4096x64_d2

/-- The table of cosines: twice the eight cosines, then ones. -/
theorem ct_at (x : FVec Ideal S8x4096x8 .f32) (b : Fin 8) (t : Fin 4096) (e : Fin 64) : ct x (ix3 b t e) = if h : e.val < 8 then x (ix3 b t ⟨e.val, h⟩) else if h : e.val < 16 then x (ix3 b t ⟨e.val - 8, by omega⟩) else 1 := by
  pointwise [ct]
  by_cases h0 : e.val < 8
  · rw [dif_pos h0, dif_pos h0]
  · rw [dif_neg h0, dif_neg h0]
    by_cases h1 : e.val < 16
    · rw [dif_pos (show e.val - 8 < 8 by omega), dif_pos h1]
    · rw [dif_neg (show ¬ e.val - 8 < 8 by omega), dif_neg h1]

/-- The call is entered with that table. -/
theorem V_v3 (c : Dev nD) : V m c main_v3 = ct (m ((c : Thread nD τ).loc main_arg2)) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- The sines negated, then zeros. -/
def s1 (x : FVec Ideal S8x4096x8 .f32) : FVec Ideal S8x4096x64 .f32 :=
  concatenate S8x4096x64 2 [⟨S8x4096x8, Host.negf x⟩, ⟨S8x4096x8, broadcastInDim S8x4096x8 ![] bcast_S_S8x4096x8 (constant (F := Ideal) S_ .f32 0x00000000#32)⟩, ⟨S8x4096x48, broadcastInDim S8x4096x48 ![] bcast_S_S8x4096x48 (constant (F := Ideal) S_ .f32 0x00000000#32)⟩] concatenates_S8x4096x8_S8x4096x8_S8x4096x48_S8x4096x64_d2

/-- The first table of sines: the eight sines negated, then zeros. -/
theorem s1_at (x : FVec Ideal S8x4096x8 .f32) (b : Fin 8) (t : Fin 4096) (e : Fin 64) : s1 x (ix3 b t e) = if h : e.val < 8 then - x (ix3 b t ⟨e.val, h⟩) else 0 := by
  pointwise [s1]
  by_cases h0 : e.val < 8
  · rw [dif_pos h0, dif_pos h0]
  · rw [dif_neg h0, dif_neg h0]
    split <;> rfl

/-- The call is entered with that table. -/
theorem V_v5 (c : Dev nD) : V m c main_v5 = s1 (m ((c : Thread nD τ).loc main_arg3)) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- Zeros, the sines, then zeros. -/
def s2 (x : FVec Ideal S8x4096x8 .f32) : FVec Ideal S8x4096x64 .f32 :=
  concatenate S8x4096x64 2 [⟨S8x4096x8, broadcastInDim S8x4096x8 ![] bcast_S_S8x4096x8 (constant (F := Ideal) S_ .f32 0x00000000#32)⟩, ⟨S8x4096x8, x⟩, ⟨S8x4096x48, broadcastInDim S8x4096x48 ![] bcast_S_S8x4096x48 (constant (F := Ideal) S_ .f32 0x00000000#32)⟩] concatenates_S8x4096x8_S8x4096x8_S8x4096x48_S8x4096x64_d2

/-- The second table of sines: eight zeros, the eight sines, then zeros. -/
theorem s2_at (x : FVec Ideal S8x4096x8 .f32) (b : Fin 8) (t : Fin 4096) (e : Fin 64) : s2 x (ix3 b t e) = if h : 8 ≤ e.val ∧ e.val < 16 then x (ix3 b t ⟨e.val - 8, by omega⟩) else 0 := by
  pointwise [s2]
  by_cases h0 : e.val < 8
  · rw [dif_pos h0, dif_neg (show ¬ (8 ≤ e.val ∧ e.val < 16) by omega)]
  · rw [dif_neg h0]
    by_cases h1 : e.val < 16
    · rw [dif_pos (show e.val - 8 < 8 by omega), dif_pos (show 8 ≤ e.val ∧ e.val < 16 by omega)]
    · rw [dif_neg (show ¬ e.val - 8 < 8 by omega), dif_neg (show ¬ (8 ≤ e.val ∧ e.val < 16) by omega)]

/-- The call is entered with that table. -/
theorem V_v6 (c : Dev nD) : V m c main_v6 = s2 (m ((c : Thread nD τ).loc main_arg3)) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- The gates the call is entered with. -/
theorem V_v7 (c : Dev nD) (b : Fin 8) (t : Fin 4096) (e : Fin 128) (he : e.val < 12) : V m c main_v7 (ix3 b t e) = a1 m c (ix3 b t ⟨e.val, he⟩) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rw [dif_pos he]

/-- The gain the call is entered with. -/
theorem V_v12 (c : Dev nD) (e : Fin 64) : V m c main_v12 (ix2 0 e) = a4 m c (ix1 e) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise

/-- The call is entered with the compressed keys. -/
theorem V_v13 (c : Dev nD) (b : Fin 8) (t : Fin 256) (e : Fin 64) : V m c main_v13 (ix3 b t e) = a5 m c (ix3 b t e) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise

/-- The call is entered with the compressed values. -/
theorem V_v14 (c : Dev nD) (b : Fin 8) (t : Fin 256) (e : Fin 64) : V m c main_v14 (ix3 b t e) = a6 m c (ix3 b t e) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise

/-- The call is entered with the selected keys. -/
theorem V_v15 (c : Dev nD) (b : Fin 8) (t : Fin 4096) (e : Fin 64) : V m c main_v15 (ix3 b t e) = a7 m c (ix3 b t e) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise

/-- The call is entered with the window's keys. -/
theorem V_v17 (c : Dev nD) (b : Fin 8) (t : Fin 4096) (e : Fin 64) : V m c main_v17 (ix3 b t e) = a9 m c (ix3 b t e) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise

/-- The call is entered with the selected values … -/
theorem V_v16 (c : Dev nD) (b : Fin 8) (t : Fin 4096) (e : Fin 128) (he : e.val < 64) : V m c main_v16 (ix3 b t e) = a8 m c (ix3 b t ⟨e.val, he⟩) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rw [dif_pos he]

/-- … and a column of ones after them. -/
theorem V_v16_one (c : Dev nD) (b : Fin 8) (t : Fin 4096) : V m c main_v16 (ix3 b t ⟨64, by omega⟩) = (1 : EReal) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rfl

/-- The call is entered with the window's values … -/
theorem V_v18 (c : Dev nD) (b : Fin 8) (t : Fin 4096) (e : Fin 128) (he : e.val < 64) : V m c main_v18 (ix3 b t e) = a10 m c (ix3 b t ⟨e.val, he⟩) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rw [dif_pos he]

/-- … and a column of ones after them. -/
theorem V_v18_one (c : Dev nD) (b : Fin 8) (t : Fin 4096) : V m c main_v18 (ix3 b t ⟨64, by omega⟩) = (1 : EReal) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rfl

/-- Two tests together. -/
theorem andi_bool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

/-- A test as a number. -/
theorem uitofp_bool (p : Prop) [Decidable p] : (FloatOps.uitofp (F := Ideal) .f32 (BitVec.ofBool (decide p)) : EReal) = if p then 1 else 0 := by
  by_cases h : p
  · rw [if_pos h, decide_eq_true h]
    show ((1 : ℕ) : EReal) = 1
    simp
  · rw [if_neg h, decide_eq_false h]
    show ((0 : ℕ) : EReal) = 0
    simp

/-- Which compressed keys cover a block, as the call is entered. -/
theorem V_v68 (c : Dev nD) (j : Fin 64) (n : Fin 256) : V m c main_v68 (ix2 j n) = if n.val < 255 then cover n.val j.val else 0 := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rw [muli_nat, muli_nat, addi_nat, addi_nat, WordCmp.cmpi_slt_ofNat (by omega) (by omega), WordCmp.cmpi_sgt_ofNat (by omega) (by omega), WordCmp.cmpi_slt_ofNat (by omega) (by omega), andi_bool, andi_bool]
  refine (uitofp_bool _).trans ?_
  unfold cover
  by_cases h : n.val < 255
  · rw [if_pos h]
    exact if_congr (by omega) rfl rfl
  · rw [if_neg h]
    exact if_neg (by omega)

/-- Which block a key lies in, as the call is entered. -/
theorem V_v69 (c : Dev nD) (a : Fin 4) (j : Fin 64) (d : Fin 1024) : V m c main_v69 (ix3 a j d) = (if (1024 * a.val + d.val) / 64 = j.val then 1 else 0 : EReal) := by
  unfold_abbrev_sides
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results
  pointwise
  rw [muli_nat, muli_nat, addi_nat, addi_nat, WordCmp.cmpi_sge_ofNat (by omega) (by omega), WordCmp.cmpi_slt_ofNat (by omega) (by omega), andi_bool]
  refine (uitofp_bool _).trans ?_
  exact if_congr (by omega) rfl rfl

/-- Which block of its array each window holds at point t, and the point's chunk. -/
theorem idx : ∀ t : Fin cfg0.N, win0_0.index t = ![t.val / 16, t.val % 16, 0] ∧ win0_1.index t = ![t.val / 16, t.val % 16, 0] ∧ win0_2.index t = ![t.val / 16, t.val % 16, 0] ∧ win0_3.index t = ![t.val / 16, t.val % 16, 0] ∧ win0_4.index t = ![t.val / 16, t.val % 16, 0] ∧ win0_5.index t = ![0, 0] ∧ win0_6.index t = ![t.val / 16, 0, 0] ∧ win0_7.index t = ![t.val / 16, 0, 0] ∧ win0_8.index t = ![t.val / 16, 0, 0] ∧ win0_9.index t = ![t.val / 16, 0, 0] ∧ win0_10.index t = ![t.val / 16, 0, 0] ∧ win0_11.index t = ![t.val / 16, 0, 0] ∧ win0_12.index t = ![0, 0] ∧ win0_13.index t = ![0, 0, 0] ∧ win0_14.index t = ![t.val / 16, t.val % 16, 0] ∧ (grid0.coords t 1).val = t.val % 16 :=
  (by decide +kernel : ∀ t : Fin grid0.N, _)

/-- The sequence of a point. -/
def bOf (t : Fin cfg0.N) : Fin 8 := ⟨t.val / 16, by have := lt_of_lt_of_eq t.isLt N_0; omega⟩

/-- The position of a row of a point. -/
def tOf (t : Fin cfg0.N) (r : Fin 256) : Fin 4096 := ⟨256 * (t.val % 16) + r.val, by omega⟩

/-- The point's queries. -/
theorem b0 (c : Dev nD) (t : Fin cfg0.N) (r e : Fin 256) : iblk m c 0 t (ix3 0 r e) = a0 m c (ix3 (bOf t) (tOf t r) e) := by
  have htN : t.val < 128 := lt_of_lt_of_eq t.isLt N_0
  have hb : (bOf t).val = t.val / 16 := rfl
  have ht : (tOf t r).val = 256 * (t.val % 16) + r.val := rfl
  have hemb : (win0_0.blk t).view.emb (ix3 0 r e) = ix3 (bOf t) (tOf t r) e := by
    blk_ext [idx t]
    all_goals omega
  show V m c main_arg0 ((win0_0.blk t).view.emb (ix3 0 r e)) = _
  rw [hemb, V_main_arg0]

/-- The point's gates. -/
theorem b1 (c : Dev nD) (t : Fin cfg0.N) (r : Fin 256) (e : Fin 128) (he : e.val < 12) : iblk m c 1 t (ix3 0 r e) = a1 m c (ix3 (bOf t) (tOf t r) ⟨e.val, he⟩) := by
  have htN : t.val < 128 := lt_of_lt_of_eq t.isLt N_0
  have hb : (bOf t).val = t.val / 16 := rfl
  have ht : (tOf t r).val = 256 * (t.val % 16) + r.val := rfl
  have hemb : (win0_1.blk t).view.emb (ix3 0 r e) = ix3 (bOf t) (tOf t r) e := by
    blk_ext [idx t]
    all_goals omega
  show V m c main_v7 ((win0_1.blk t).view.emb (ix3 0 r e)) = _
  rw [hemb, V_v7 m c _ _ _ he]

/-- The point's table of the rotation. -/
theorem b2 (c : Dev nD) (t : Fin cfg0.N) (r : Fin 256) (e : Fin 64) : iblk m c 2 t (ix3 0 r e) = ct (a2 m c) (ix3 (bOf t) (tOf t r) e) := by
  have htN : t.val < 128 := lt_of_lt_of_eq t.isLt N_0
  have hb : (bOf t).val = t.val / 16 := rfl
  have ht : (tOf t r).val = 256 * (t.val % 16) + r.val := rfl
  have hemb : (win0_2.blk t).view.emb (ix3 0 r e) = ix3 (bOf t) (tOf t r) e := by
    blk_ext [idx t]
    all_goals omega
  show V m c main_v3 ((win0_2.blk t).view.emb (ix3 0 r e)) = _
  rw [hemb, V_v3]

/-- The point's table of the rotation. -/
theorem b3 (c : Dev nD) (t : Fin cfg0.N) (r : Fin 256) (e : Fin 64) : iblk m c 3 t (ix3 0 r e) = s1 (a3 m c) (ix3 (bOf t) (tOf t r) e) := by
  have htN : t.val < 128 := lt_of_lt_of_eq t.isLt N_0
  have hb : (bOf t).val = t.val / 16 := rfl
  have ht : (tOf t r).val = 256 * (t.val % 16) + r.val := rfl
  have hemb : (win0_3.blk t).view.emb (ix3 0 r e) = ix3 (bOf t) (tOf t r) e := by
    blk_ext [idx t]
    all_goals omega
  show V m c main_v5 ((win0_3.blk t).view.emb (ix3 0 r e)) = _
  rw [hemb, V_v5]

/-- The point's table of the rotation. -/
theorem b4 (c : Dev nD) (t : Fin cfg0.N) (r : Fin 256) (e : Fin 64) : iblk m c 4 t (ix3 0 r e) = s2 (a3 m c) (ix3 (bOf t) (tOf t r) e) := by
  have htN : t.val < 128 := lt_of_lt_of_eq t.isLt N_0
  have hb : (bOf t).val = t.val / 16 := rfl
  have ht : (tOf t r).val = 256 * (t.val % 16) + r.val := rfl
  have hemb : (win0_4.blk t).view.emb (ix3 0 r e) = ix3 (bOf t) (tOf t r) e := by
    blk_ext [idx t]
    all_goals omega
  show V m c main_v6 ((win0_4.blk t).view.emb (ix3 0 r e)) = _
  rw [hemb, V_v6]

/-- The point's gain. -/
theorem b5 (c : Dev nD) (t : Fin cfg0.N) (e : Fin 64) : iblk m c 5 t (ix2 0 e) = a4 m c (ix1 e) := by
  have htN : t.val < 128 := lt_of_lt_of_eq t.isLt N_0
  have hb : (bOf t).val = t.val / 16 := rfl
  have hemb : (win0_5.blk t).view.emb (ix2 0 e) = ix2 0 e := by
    blk_ext [idx t]
    all_goals omega
  show V m c main_v12 ((win0_5.blk t).view.emb (ix2 0 e)) = _
  rw [hemb, V_v12]

/-- The point holds the compressed keys of its sequence. -/
theorem b6 (c : Dev nD) (t : Fin cfg0.N) (j : Fin 256) (e : Fin 64) : iblk m c 6 t (ix3 0 j e) = a5 m c (ix3 (bOf t) j e) := by
  have htN : t.val < 128 := lt_of_lt_of_eq t.isLt N_0
  have hb : (bOf t).val = t.val / 16 := rfl
  have hemb : (win0_6.blk t).view.emb (ix3 0 j e) = ix3 (bOf t) j e := by
    blk_ext [idx t]
    all_goals omega
  show V m c main_v13 ((win0_6.blk t).view.emb (ix3 0 j e)) = _
  rw [hemb, V_v13]

/-- The point holds the compressed values of its sequence. -/
theorem b7 (c : Dev nD) (t : Fin cfg0.N) (j : Fin 256) (e : Fin 64) : iblk m c 7 t (ix3 0 j e) = a6 m c (ix3 (bOf t) j e) := by
  have htN : t.val < 128 := lt_of_lt_of_eq t.isLt N_0
  have hb : (bOf t).val = t.val / 16 := rfl
  have hemb : (win0_7.blk t).view.emb (ix3 0 j e) = ix3 (bOf t) j e := by
    blk_ext [idx t]
    all_goals omega
  show V m c main_v14 ((win0_7.blk t).view.emb (ix3 0 j e)) = _
  rw [hemb, V_v14]

/-- The point holds the selected keys of its sequence. -/
theorem b8 (c : Dev nD) (t : Fin cfg0.N) (j : Fin 4096) (e : Fin 64) : iblk m c 8 t (ix3 0 j e) = a7 m c (ix3 (bOf t) j e) := by
  have htN : t.val < 128 := lt_of_lt_of_eq t.isLt N_0
  have hb : (bOf t).val = t.val / 16 := rfl
  have hemb : (win0_8.blk t).view.emb (ix3 0 j e) = ix3 (bOf t) j e := by
    blk_ext [idx t]
    all_goals omega
  show V m c main_v15 ((win0_8.blk t).view.emb (ix3 0 j e)) = _
  rw [hemb, V_v15]

/-- The point holds the window's keys of its sequence. -/
theorem b10 (c : Dev nD) (t : Fin cfg0.N) (j : Fin 4096) (e : Fin 64) : iblk m c 10 t (ix3 0 j e) = a9 m c (ix3 (bOf t) j e) := by
  have htN : t.val < 128 := lt_of_lt_of_eq t.isLt N_0
  have hb : (bOf t).val = t.val / 16 := rfl
  have hemb : (win0_10.blk t).view.emb (ix3 0 j e) = ix3 (bOf t) j e := by
    blk_ext [idx t]
    all_goals omega
  show V m c main_v17 ((win0_10.blk t).view.emb (ix3 0 j e)) = _
  rw [hemb, V_v17]

/-- The point holds the selected values of its sequence … -/
theorem b9 (c : Dev nD) (t : Fin cfg0.N) (j : Fin 4096) (e : Fin 128) (he : e.val < 64) : iblk m c 9 t (ix3 0 j e) = a8 m c (ix3 (bOf t) j ⟨e.val, he⟩) := by
  have htN : t.val < 128 := lt_of_lt_of_eq t.isLt N_0
  have hb : (bOf t).val = t.val / 16 := rfl
  have hemb : (win0_9.blk t).view.emb (ix3 0 j e) = ix3 (bOf t) j e := by
    blk_ext [idx t]
    all_goals omega
  show V m c main_v16 ((win0_9.blk t).view.emb (ix3 0 j e)) = _
  rw [hemb, V_v16 m c _ _ _ he]

/-- … and the column of ones. -/
theorem b9_one (c : Dev nD) (t : Fin cfg0.N) (j : Fin 4096) : iblk m c 9 t (ix3 0 j ⟨64, by omega⟩) = (1 : EReal) := by
  have htN : t.val < 128 := lt_of_lt_of_eq t.isLt N_0
  have hb : (bOf t).val = t.val / 16 := rfl
  have hemb : (win0_9.blk t).view.emb (ix3 0 j ⟨64, by omega⟩) = ix3 (bOf t) j ⟨64, by omega⟩ := by
    blk_ext [idx t]
    all_goals omega
  show V m c main_v16 ((win0_9.blk t).view.emb (ix3 0 j ⟨64, by omega⟩)) = _
  rw [hemb, V_v16_one]

/-- The point holds the window's values of its sequence … -/
theorem b11 (c : Dev nD) (t : Fin cfg0.N) (j : Fin 4096) (e : Fin 128) (he : e.val < 64) : iblk m c 11 t (ix3 0 j e) = a10 m c (ix3 (bOf t) j ⟨e.val, he⟩) := by
  have htN : t.val < 128 := lt_of_lt_of_eq t.isLt N_0
  have hb : (bOf t).val = t.val / 16 := rfl
  have hemb : (win0_11.blk t).view.emb (ix3 0 j e) = ix3 (bOf t) j e := by
    blk_ext [idx t]
    all_goals omega
  show V m c main_v18 ((win0_11.blk t).view.emb (ix3 0 j e)) = _
  rw [hemb, V_v18 m c _ _ _ he]

/-- … and the column of ones. -/
theorem b11_one (c : Dev nD) (t : Fin cfg0.N) (j : Fin 4096) : iblk m c 11 t (ix3 0 j ⟨64, by omega⟩) = (1 : EReal) := by
  have htN : t.val < 128 := lt_of_lt_of_eq t.isLt N_0
  have hb : (bOf t).val = t.val / 16 := rfl
  have hemb : (win0_11.blk t).view.emb (ix3 0 j ⟨64, by omega⟩) = ix3 (bOf t) j ⟨64, by omega⟩ := by
    blk_ext [idx t]
    all_goals omega
  show V m c main_v18 ((win0_11.blk t).view.emb (ix3 0 j ⟨64, by omega⟩)) = _
  rw [hemb, V_v18_one]

/-- The point's table of covers. -/
theorem b12 (c : Dev nD) (t : Fin cfg0.N) (j : Fin 64) (n : Fin 256) : iblk m c 12 t (ix2 j n) = if n.val < 255 then cover n.val j.val else 0 := by
  have htN : t.val < 128 := lt_of_lt_of_eq t.isLt N_0
  have hb : (bOf t).val = t.val / 16 := rfl
  have hemb : (win0_12.blk t).view.emb (ix2 j n) = ix2 j n := by
    blk_ext [idx t]
    all_goals omega
  show V m c main_v68 ((win0_12.blk t).view.emb (ix2 j n)) = _
  rw [hemb, V_v68]

/-- The point's table of blocks. -/
theorem b13 (c : Dev nD) (t : Fin cfg0.N) (a : Fin 4) (j : Fin 64) (d : Fin 1024) : iblk m c 13 t (ix3 a j d) = (if (1024 * a.val + d.val) / 64 = j.val then 1 else 0 : EReal) := by
  have htN : t.val < 128 := lt_of_lt_of_eq t.isLt N_0
  have hb : (bOf t).val = t.val / 16 := rfl
  have hemb : (win0_13.blk t).view.emb (ix3 a j d) = ix3 a j d := by
    blk_ext [idx t]
    all_goals omega
  show V m c main_v69 ((win0_13.blk t).view.emb (ix3 a j d)) = _
  rw [hemb, V_v69]

/-- The point's tables of the rotation hold the cosines and the sines. -/
theorem tables (c : Dev nD) (t : Fin cfg0.N) : Tables (iblk m c 2 t) (iblk m c 3 t) (iblk m c 4 t) (fun r d => a2 m c (ix3 (bOf t) (tOf t r) d)) (fun r d => a3 m c (ix3 (bOf t) (tOf t r) d)) :=
  ⟨fun r d => (b2 m c t r d).trans (ct_at _ _ _ _), fun r d => (b3 m c t r d).trans (s1_at _ _ _ _), fun r d => (b4 m c t r d).trans (s2_at _ _ _ _)⟩

/-- The point's normed queries are the reference's. -/
theorem qn_eq (c : Dev nD) (t : Fin cfg0.N) (r : Fin 256) : kqn (iblk m c 0 t) (iblk m c 5 t) r = Cert.NsaReferenceIdeal.Read.qn (a0 m c) (a4 m c) (bOf t) (tOf t r) :=
  funext fun h => congrArg₂ rms (funext fun d => b0 m c t r _) (funext fun d => b5 m c t d)

/-- The point's rotated queries are the reference's. -/
theorem qr_eq (c : Dev nD) (t : Fin cfg0.N) (r : Fin 256) : kqr (iblk m c 0 t) (iblk m c 5 t) (fun r d => a2 m c (ix3 (bOf t) (tOf t r) d)) (fun r d => a3 m c (ix3 (bOf t) (tOf t r) d)) r
    = Cert.NsaReferenceIdeal.Read.qr (a0 m c) (a2 m c) (a3 m c) (a4 m c) (bOf t) (tOf t r) :=
  funext fun h => congrArg (fun q => rope q (fun d => a2 m c (ix3 (bOf t) (tOf t r) d)) fun d => a3 m c (ix3 (bOf t) (tOf t r) d)) (congrFun (qn_eq m c t r) h)

/-- The result array after the run. -/
theorem final (c : Dev nD) : (dats m 0 c).arrAt 14 (cfgs 0).N
    = Cert.NsaReferenceIdeal.Read.val_main_v236 (F := Ideal) (a0 m c) (a1 m c) (a2 m c) (a3 m c) (a4 m c) (a5 m c) (a6 m c) (a7 m c) (a8 m c) (a9 m c) (a10 m c) := by
  refine (dats m 0 c).arrAt_eq_of_covers 14 _ (by decide +kernel) fun t hf y => ?_
  blk_simp
  rw [after0_14]
  idx_vars y
  have htN : t.val < 128 := lt_of_lt_of_eq t.isLt N_0
  have hi : (grid0.coords t 1).val = t.val % 16 := (idx t).2.2.2.2.2.2.2.2.2.2.2.2.2.2.2
  obtain rfl : y0 = 0 := Subsingleton.elim _ _
  have hb : (bOf t).val = t.val / 16 := rfl
  have ht : (tOf t y1).val = 256 * (t.val % 16) + y1.val := rfl
  have hcut : y2.val / 64 < 4 := by omega
  have hemb : (win0_14.blk t).view.emb (ix3 0 y1 y2) = ix3 (bOf t) (tOf t y1) (⟨64 * (⟨y2.val / 64, hcut⟩ : Fin 4).val + (⟨y2.val % 64, by omega⟩ : Fin 64).val, by dsimp only; omega⟩ : Fin 256) := by
    blk_ext [idx t]
    all_goals omega
  rw [hemb, Cert.NsaReferenceIdeal.Read.v236_at]
  have key : ∀ (h : Fin 4) (d : Fin 64), y2.val = 64 * h.val + d.val → outsAt0 m c t (ix3 0 y1 y2)
      = out (kqn (iblk m c 0 t) (iblk m c 5 t) y1) (kqr (iblk m c 0 t) (iblk m c 5 t) (fun r d => a2 m c (ix3 (bOf t) (tOf t r) d)) (fun r d => a3 m c (ix3 (bOf t) (tOf t r) d)) y1)
        (kkc (iblk m c 6 t)) (kkc (iblk m c 7 t)) (kks (iblk m c 8 t)) (fun k d => kvs (iblk m c 9 t) k ⟨d.val, by omega⟩) (kkw (iblk m c 10 t)) (fun k d => kvw (iblk m c 11 t) k ⟨d.val, by omega⟩)
        (256 * (grid0.coords t 1).val + y1.val) (fun g => iblk m c 1 t (ix3 0 y1 ⟨3 * h.val + g.val, by omega⟩)) h d := by
    intro h d he
    unfold outsAt0
    match h with
    | 0 => exact head0_at c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (b12 m c t) (tables m c t) (b13 m c t) (b9_one m c t) (b11_one m c t) y1 d y2 he
    | 1 => exact head1_at c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (b12 m c t) (tables m c t) (b13 m c t) (b9_one m c t) (b11_one m c t) y1 d y2 he
    | 2 => exact head2_at c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (b12 m c t) (tables m c t) (b13 m c t) (b9_one m c t) (b11_one m c t) y1 d y2 he
    | 3 => exact head3_at c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (b12 m c t) (tables m c t) (b13 m c t) (b9_one m c t) (b11_one m c t) y1 d y2 he
  refine (key ⟨y2.val / 64, hcut⟩ ⟨y2.val % 64, by omega⟩ (by dsimp only; omega)).trans ?_
  rw [qn_eq, qr_eq, hi, show kkc (iblk m c 6 t) = Cert.NsaReferenceIdeal.Read.kc (a5 m c) (bOf t) from funext fun n => funext fun d => b6 m c t n d,
    show kkc (iblk m c 7 t) = Cert.NsaReferenceIdeal.Read.kc (a6 m c) (bOf t) from funext fun n => funext fun d => b7 m c t n d,
    show kks (iblk m c 8 t) = Cert.NsaReferenceIdeal.Read.ks (a7 m c) (bOf t) from funext fun n => funext fun d => b8 m c t n d,
    show (fun (k : Fin 4096) (d : Fin 64) => kvs (iblk m c 9 t) k ⟨d.val, by omega⟩) = Cert.NsaReferenceIdeal.Read.ks (a8 m c) (bOf t) from funext fun n => funext fun d => b9 m c t n _ d.isLt,
    show kkw (iblk m c 10 t) = Cert.NsaReferenceIdeal.Read.ks (a9 m c) (bOf t) from funext fun n => funext fun d => b10 m c t n d,
    show (fun (k : Fin 4096) (d : Fin 64) => kvw (iblk m c 11 t) k ⟨d.val, by omega⟩) = Cert.NsaReferenceIdeal.Read.ks (a10 m c) (bOf t) from funext fun n => funext fun d => b11 m c t n _ d.isLt,
    show (fun g : Fin 3 => iblk m c 1 t (ix3 0 y1 ⟨3 * (y2.val / 64) + g.val, by omega⟩)) = fun g : Fin 3 => a1 m c (ix3 (bOf t) (tOf t y1) ⟨3 * (y2.val / 64) + g.val, by omega⟩) from funext fun g => b1 m c t y1 _ (by dsimp only; omega)]
  rfl

end Cert.NsaKernelIdeal.Bridge
-- ==== Proof.NsaClaims.lean ====
module

public import proofs.«01_k».proof.Defs
public import proofs.«01_k».proof.Proof.Gen.NsaKernel.Frame
public import proofs.«01_k».proof.Proof.Gen.NsaKernelIdeal.Value
public import proofs.«01_k».proof.Proof.NsaValue
public import Idealize.ShloMosaic.Lib.Quiescent
/-! The five claims of the `Nsa` pair of programs. -/

@[expose] public section

set_option maxRecDepth 16384
noncomputable section
open Idealize.ShloMosaic Idealize.ShloMosaic.TcCoe Idealize.SL.Sem
namespace Cert.NsaClaims

/-- The printed kernel runs, leaves its arguments and ends with every counter at zero. -/
theorem frame_p : Cert.quiescent_NsaKernel := fun m ρ _ => Cert.NsaKernel.Gen.frame m ρ

/-- The idealized kernel runs, leaves its arguments and ends with every counter at zero. -/
theorem frame_pi : Cert.quiescent_NsaKernelIdeal := fun m ρ _ => Cert.NsaKernelIdeal.Gen.frame m ρ

/-- The reference runs, leaves its arguments and ends with every counter at zero. -/
theorem frame_ri : Cert.quiescent_NsaReferenceIdeal := fun m ρ _ =>
  (θ_run Cert.NsaReferenceIdeal.defs _ _).mono (fun r h => ⟨fun c => (h c).2,
      Idealize.ShloMosaic.sem_eq_zero_of_no_sems (by decide) r.2⟩)
    (Cert.NsaReferenceIdeal.Value.run (F := Ideal) m ρ)

/-- The two named constants stand for the literals the idealization replaced. -/
theorem preserves : Cert.preserves_NsaKernel_NsaKernelIdeal :=
  ⟨IdealRules.named_const.statement Cert.NsaKernelIdeal.κ "mask" .f32 0xF149F2CA#32 (⊥ : EReal) rfl,
    IdealRules.named_const.statement Cert.NsaKernelIdeal.κ "unmask" .f32 0x7149F2CA#32 (⊤ : EReal) rfl⟩

/-- From agreeing arguments the kernel's result array ends holding what the reference's does. -/
theorem algebraic : Cert.algebraic_NsaKernelIdeal_NsaReferenceIdeal := by
  intro m ρ m' ρ' _ hag
  refine ⟨_, Cert.NsaKernelIdeal.Value.run_blocks (F := Ideal) m ρ, ?_⟩
  refine (θ_run Cert.NsaReferenceIdeal.defs _ _).mono (fun _ h c => ⟨(h c).1.trans ?_, (h c).2⟩)
    (Cert.NsaReferenceIdeal.Value.run (F := Ideal) m' ρ')
  obtain ⟨h0, h1, h2, h3, h4, h5, h6, h7, h8, h9, h10⟩ := hag c
  refine Eq.trans ?_ (Cert.NsaKernelIdeal.Bridge.final m c).symm
  refine (Cert.NsaReferenceIdeal.Read.val_main_v236_eq (F := Ideal) (StableHlo.launchContents m' c)).trans ?_
  have e0 : StableHlo.launchContents m' c (Proc.devRef .tc Cert.NsaReferenceIdeal.main_arg0) = Cert.NsaKernelIdeal.Bridge.a0 m c := h0
  have e1 : StableHlo.launchContents m' c (Proc.devRef .tc Cert.NsaReferenceIdeal.main_arg1) = Cert.NsaKernelIdeal.Bridge.a1 m c := h1
  have e2 : StableHlo.launchContents m' c (Proc.devRef .tc Cert.NsaReferenceIdeal.main_arg2) = Cert.NsaKernelIdeal.Bridge.a2 m c := h2
  have e3 : StableHlo.launchContents m' c (Proc.devRef .tc Cert.NsaReferenceIdeal.main_arg3) = Cert.NsaKernelIdeal.Bridge.a3 m c := h3
  have e4 : StableHlo.launchContents m' c (Proc.devRef .tc Cert.NsaReferenceIdeal.main_arg4) = Cert.NsaKernelIdeal.Bridge.a4 m c := h4
  have e5 : StableHlo.launchContents m' c (Proc.devRef .tc Cert.NsaReferenceIdeal.main_arg5) = Cert.NsaKernelIdeal.Bridge.a5 m c := h5
  have e6 : StableHlo.launchContents m' c (Proc.devRef .tc Cert.NsaReferenceIdeal.main_arg6) = Cert.NsaKernelIdeal.Bridge.a6 m c := h6
  have e7 : StableHlo.launchContents m' c (Proc.devRef .tc Cert.NsaReferenceIdeal.main_arg7) = Cert.NsaKernelIdeal.Bridge.a7 m c := h7
  have e8 : StableHlo.launchContents m' c (Proc.devRef .tc Cert.NsaReferenceIdeal.main_arg8) = Cert.NsaKernelIdeal.Bridge.a8 m c := h8
  have e9 : StableHlo.launchContents m' c (Proc.devRef .tc Cert.NsaReferenceIdeal.main_arg9) = Cert.NsaKernelIdeal.Bridge.a9 m c := h9
  have e10 : StableHlo.launchContents m' c (Proc.devRef .tc Cert.NsaReferenceIdeal.main_arg10) = Cert.NsaKernelIdeal.Bridge.a10 m c := h10
  rw [e0, e1, e2, e3, e4, e5, e6, e7, e8, e9, e10]

end Cert.NsaClaims
-- ==== Proof.PrepSpec.lean ====
module

public import proofs.«01_k».proof.Proof.NsaSpec
/-! The mathematics of the preparation of the sparse attention's keys and values. -/

@[expose] public section

set_option maxRecDepth 16384
noncomputable section
open Idealize.ShloMosaic
namespace Cert.Layer.Prep

/-- The activation both programs compute, with the two literals of its inner polynomial. -/
def gelu (x : EReal) : EReal :=
  Ideal.ofBits .f32 0x3F000000#32 * x * (1 + Ideal.tanh (Ideal.ofBits .f32 0x3F4C422A#32 * (x + Ideal.ofBits .f32 0x3D372713#32 * (x * x * x))))

/-- A row followed by a one and zeros. -/
def ones (x : Fin 64 → EReal) (e : Fin 128) : EReal :=
  if h : e.val < 64 then x ⟨e.val, h⟩ else if e.val = 64 then 1 else 0

/-- One entry of the block of thirty-two rows beginning at row `16 n`, with its place added; rows past the end are zero. -/
def block (x : Fin 4096 → Fin 64 → EReal) (pos : Fin 32 → Fin 64 → EReal) (n : Fin 256) (p : Fin 2048) : EReal :=
  if h : 16 * n.val + p.val / 64 < 4096 then x ⟨16 * n.val + p.val / 64, h⟩ ⟨p.val % 64, by omega⟩ + pos ⟨p.val / 64, by omega⟩ ⟨p.val % 64, by omega⟩ else 0

/-- The block of number `n` compressed to one row by two layers. -/
def comp (x : Fin 4096 → Fin 64 → EReal) (pos : Fin 32 → Fin 64 → EReal) (w1 : Fin 2048 → Fin 256 → EReal) (w2 : Fin 256 → Fin 64 → EReal) (n : Fin 256) (d : Fin 64) : EReal :=
  ∑ j : Fin 256, gelu (∑ p : Fin 2048, block x pos n p * w1 p j) * w2 j d

/-- A block's product with the first layer is the sum over its upper sixteen rows and over its lower sixteen, which are the upper sixteen of the next block and absent from the last. -/
theorem halves (x : Fin 4096 → Fin 64 → EReal) (pos : Fin 32 → Fin 64 → EReal) (w : Fin 2048 → EReal) (n : Fin 256)
    (g : Fin 256 → Fin 1024 → EReal) (hg : ∀ n q, g n q = x ⟨16 * n.val + q.val / 64, by omega⟩ ⟨q.val % 64, by omega⟩) :
    ∑ p : Fin 2048, block x pos n p * w p
      = (∑ q : Fin 1024, (g n q + pos ⟨q.val / 64, by omega⟩ ⟨q.val % 64, by omega⟩) * w ⟨q.val, by omega⟩)
        + if h : n.val < 255 then ∑ q : Fin 1024, (g ⟨n.val + 1, by omega⟩ q + pos ⟨16 + q.val / 64, by omega⟩ ⟨q.val % 64, by omega⟩) * w ⟨1024 + q.val, by omega⟩ else 0 := by
  refine (Fin.sum_univ_add (a := 1024) (b := 1024) fun p : Fin (1024 + 1024) => block x pos n p * w p).trans (congrArg₂ (· + ·) ?_ ?_)
  · refine Finset.sum_congr rfl fun q _ => ?_
    refine congrArg₂ (· * ·) ?_ rfl
    rw [hg]
    exact dif_pos (show 16 * n.val + q.val / 64 < 4096 by omega)
  · by_cases h : n.val < 255
    · rw [dif_pos h]
      refine Finset.sum_congr rfl fun q _ => congrArg₂ (· * ·) ?_ rfl
      rw [hg]
      refine (dif_pos (show 16 * n.val + (1024 + q.val) / 64 < 4096 by omega)).trans (congrArg₂ (· + ·) (congrArg₂ x ?_ ?_) (congrArg₂ pos ?_ ?_)) <;>
        exact Fin.ext (by simp only [Fin.val_natAdd]; omega)
    · rw [dif_neg h]
      refine Finset.sum_eq_zero fun q _ => ?_
      rw [show block x pos n (Fin.natAdd 1024 q) = 0 from dif_neg (show ¬ 16 * n.val + (1024 + q.val) / 64 < 4096 by omega), zero_mul]

end Cert.Layer.Prep
-- ==== Proof.PrepPure.lean ====
module

public import proofs.«01_k».proof.Proof.Gen.PrepKernelIdeal.Frame
public import proofs.«01_k».proof.Proof.NsaPre
public import proofs.«01_k».proof.Proof.PrepSpec
public import Idealize.ShloMosaic.Lib.Pointwise
public import Idealize.ShloMosaic.Lib.WordCmp
/-! The preparation of the sparse attention's keys and values at one element: what each payload of the kernel's body holds. -/

@[expose] public section

set_option maxRecDepth 16384
noncomputable section
open Idealize.ShloMosaic Idealize.ShloMosaic.TcCoe Idealize.SL.Sem
namespace Cert.PrepKernelIdeal.Pure
open Cert.PrepKernelIdeal Cert.PrepKernelIdeal.Gen Cert.Layer.Nsa Cert.Layer.Prep

/-- The row below in the rolled array, where there is one. -/
theorem below (r : Fin 256) (f : Fin 256 → EReal) (h0 : (r.val + 256 - 255) % 256 < 256) :
    Scalar.select (IntOp.cmpi CmpIPredicate.slt (BitVec.ofNat 32 r.val) 255#32) (f ⟨(r.val + 256 - 255) % 256, h0⟩) 0
      = if h : r.val < 255 then f ⟨r.val + 1, by omega⟩ else 0 := by
  rw [show (255#32 : BitVec 32) = BitVec.ofNat 32 255 from rfl, WordCmp.cmpi_slt_ofNat (by omega) (by omega)]
  by_cases h : r.val < 255
  · rw [dif_pos h, decide_eq_true h]
    exact congrArg f (Fin.ext (by dsimp only; omega))
  · rw [dif_neg h, decide_eq_false h]
    rfl

/-- The compressed keys' hidden row. -/
theorem pay2_at (p0 p1 : Vec Ideal S1x1024 .f32) (g : Vec Ideal S1x256x1024 .f32) (wt wb : Vec Ideal S1024x256 .bf16) (r j : Fin 256) :
    k0_pay2 (F := Ideal) p0 p1 g wt wb (ix2 r j) = gelu ((∑ q : Fin 1024, (g (ix3 0 r q) + p0 (ix2 0 q)) * wt (ix2 q j))
      + if h : r.val < 255 then ∑ q : Fin 1024, (g (ix3 0 ⟨r.val + 1, by omega⟩ q) + p1 (ix2 0 q)) * wb (ix2 q j) else 0) := by
  pointwise [k0_pay2]
  rw [below r fun r' => ∑ q : Fin 1024, (g (ix3 0 r' q) + p1 (ix2 0 q)) * wb (ix2 q j)]
  rfl

/-- The compressed keys. -/
theorem pay3_at (h : Vec Ideal S256x256 .bf16) (w : Vec Ideal S256x64 .bf16) (g : Vec Ideal S1x64 .f32) (r : Fin 256) (d : Fin 64) :
    k0_pay3 (F := Ideal) h w g (ix3 0 r d) = rms (fun d => ∑ j : Fin 256, h (ix2 r j) * w (ix2 j d)) (fun d => g (ix2 0 d)) d := by
  pointwise [k0_pay3]
  rfl

/-- The first half of the compressed values' hidden row. -/
theorem pay5_at (p : Vec Ideal S1x1024 .f32) (g : Vec Ideal S1x256x1024 .f32) (w : Vec Ideal S1024x256 .bf16) (r j : Fin 256) :
    k0_pay5 (F := Ideal) p g w (ix2 r j) = ∑ q : Fin 1024, (g (ix3 0 r q) + p (ix2 0 q)) * w (ix2 q j) := by
  pointwise [k0_pay5, k0_pay4]

/-- The rows of the second half. -/
theorem pay6_at (p : Vec Ideal S1x1024 .f32) (g : Vec Ideal S1x256x1024 .f32) (r : Fin 256) (q : Fin 1024) :
    k0_pay6 (F := Ideal) p g (ix2 r q) = g (ix3 0 r q) + p (ix2 0 q) := by
  pointwise [k0_pay6, k0_pay4]

/-- The compressed values. -/
theorem pay7_at (a : FVec Ideal S256x256 .f32) (b : FVec Ideal S256x1024 .bf16) (wb : Vec Ideal S1024x256 .bf16) (w : Vec Ideal S256x64 .bf16) (r : Fin 256) (d : Fin 64) :
    k0_pay7 (F := Ideal) (iota .tc S256x256 32 [0] iota_S256x256_d0_w32) a b wb w (ix3 0 r d)
      = ∑ j : Fin 256, gelu (a (ix2 r j) + if h : r.val < 255 then ∑ q : Fin 1024, b (ix2 ⟨r.val + 1, by omega⟩ q) * wb (ix2 q j) else 0) * w (ix2 j d) := by
  pointwise [k0_pay7]
  refine Finset.sum_congr rfl fun j _ => ?_
  rw [below r fun r' => ∑ q : Fin 1024, b (ix2 r' q) * wb (ix2 q j)]
  rfl

/-- The rotated, normalised keys of the selected branch. -/
theorem pay12_at (c s t : FVec Ideal S4096x64 .f32) (x : Vec Ideal S1x4096x64 .f32) (g : Vec Ideal S1x64 .f32) (r : Fin 4096) (d : Fin 64) (cs sn : Fin 8 → EReal)
    (hc : ∀ d : Fin 64, c (ix2 r d) = if h : d.val < 8 then cs ⟨d.val, h⟩ else if h : d.val < 16 then cs ⟨d.val - 8, by omega⟩ else 1)
    (hs : ∀ d : Fin 64, s (ix2 r d) = if h : d.val < 8 then - sn ⟨d.val, h⟩ else 0)
    (ht : ∀ d : Fin 64, t (ix2 r d) = if h : 8 ≤ d.val ∧ d.val < 16 then sn ⟨d.val - 8, by omega⟩ else 0) :
    k0_pay12 (F := Ideal) c s t x g (ix3 0 r d) = rope (rms (fun d => x (ix3 0 r d)) fun d => g (ix2 0 d)) cs sn d := by
  pointwise [k0_pay12]
  refine Cert.NsaKernelIdeal.Pure.turn (rms (fun d => x (ix3 0 r d)) fun d => g (ix2 0 d)) (fun d => c (ix2 r d)) (fun d => s (ix2 r d)) (fun d => t (ix2 r d)) cs sn hc hs ht d _ _ (fun hd => ?_) fun hd => ?_
  · rw [dif_pos (by omega)]
    exact congrArg (rms (fun d => x (ix3 0 r d)) fun d => g (ix2 0 d)) (Fin.ext (by dsimp only; omega))
  · rw [dif_neg (by omega)]
    rfl

/-- The column of ones, as its zeros and ones. -/
theorem ones_at (r : Fin 4096) (d : Fin 64) :
    k0_pay11 (F := Ideal) (iota .tc S4096x64 32 [1] iota_S4096x64_d1_w32) (ix2 r d) = if d.val = 0 then 1 else 0 := by
  pointwise [k0_pay11]
  rw [show (0#32 : BitVec 32) = BitVec.ofNat 32 0 from rfl, WordCmp.cmpi_eq_ofNat (by omega) (by omega)]
  by_cases h : d.val = 0
  · rw [if_pos h, decide_eq_true h]
    simp [FloatOps.sitofp]
  · rw [if_neg h, decide_eq_false h]
    simp [FloatOps.sitofp]

/-- The selected values with their column of ones. -/
theorem pay14_at (x : Vec Ideal S1x4096x64 .f32) (r : Fin 4096) (e : Fin 128) :
    k0_pay14 (F := Ideal) (k0_pay13 (iota .tc S4096x64 32 [1] iota_S4096x64_d1_w32) x) (ix3 0 r e)
      = ones (fun d => x (ix3 0 r d)) e := by
  pointwise [k0_pay14, k0_pay13]
  unfold ones
  by_cases h : e.val < 64
  · rw [dif_pos h, dif_pos h]
  · rw [dif_neg h, dif_neg h, ones_at]
    exact if_congr (by dsimp only; omega) rfl rfl

/-- The rotated, normalised keys of the window branch. -/
theorem pay15_at (c s t : FVec Ideal S4096x64 .f32) (x : Vec Ideal S1x4096x64 .f32) (g : Vec Ideal S1x64 .f32) (r : Fin 4096) (d : Fin 64) (cs sn : Fin 8 → EReal)
    (hc : ∀ d : Fin 64, c (ix2 r d) = if h : d.val < 8 then cs ⟨d.val, h⟩ else if h : d.val < 16 then cs ⟨d.val - 8, by omega⟩ else 1)
    (hs : ∀ d : Fin 64, s (ix2 r d) = if h : d.val < 8 then - sn ⟨d.val, h⟩ else 0)
    (ht : ∀ d : Fin 64, t (ix2 r d) = if h : 8 ≤ d.val ∧ d.val < 16 then sn ⟨d.val - 8, by omega⟩ else 0) :
    k0_pay15 (F := Ideal) c s t x g (ix3 0 r d) = rope (rms (fun d => x (ix3 0 r d)) fun d => g (ix2 0 d)) cs sn d := by
  pointwise [k0_pay15]
  refine Cert.NsaKernelIdeal.Pure.turn (rms (fun d => x (ix3 0 r d)) fun d => g (ix2 0 d)) (fun d => c (ix2 r d)) (fun d => s (ix2 r d)) (fun d => t (ix2 r d)) cs sn hc hs ht d _ _ (fun hd => ?_) fun hd => ?_
  · rw [dif_pos (by omega)]
    exact congrArg (rms (fun d => x (ix3 0 r d)) fun d => g (ix2 0 d)) (Fin.ext (by dsimp only; omega))
  · rw [dif_neg (by omega)]
    rfl

/-- The window's values with their column of ones. -/
theorem pay1_at (x : Vec Ideal S1x4096x64 .f32) (r : Fin 4096) (e : Fin 128) :
    k0_pay1 (F := Ideal) (k0_pay16 (k0_pay11 (iota .tc S4096x64 32 [1] iota_S4096x64_d1_w32)) x) (ix3 0 r e) = ones (fun d => x (ix3 0 r d)) e := by
  pointwise [k0_pay1, k0_pay16]
  unfold ones
  by_cases h : e.val < 64
  · rw [dif_pos h, dif_pos h]
  · rw [dif_neg h, dif_neg h, ones_at]
    exact if_congr (by dsimp only; omega) rfl rfl

end Cert.PrepKernelIdeal.Pure
-- ==== Proof.PrepEntry.lean ====
module

public import proofs.«01_k».proof.Proof.Gen.PrepKernelIdeal.Frame
public import proofs.«01_k».proof.Proof.PrepPure
public import Idealize.ShloMosaic.Lib.Pipeline.ValueKit
public import Idealize.ShloMosaic.Lib.Pipeline.ReadBack
/-! The arrays the preparation's call is entered with, and the blocks each point reads, from the program's arguments. -/

@[expose] public section

set_option maxRecDepth 16384
noncomputable section
open Idealize.ShloMosaic Idealize.ShloMosaic.TcCoe Idealize.SL.Sem
namespace Cert.PrepKernelIdeal.Bridge
open Cert.PrepKernelIdeal Cert.PrepKernelIdeal.Gen Cert.PrepKernelIdeal.Pure
variable (m : (ℓ : Loc nD τ sig) → Buf (Elt Ideal) ℓ)

/-- The argument that holds the projected keys and values. -/
abbrev a0 (c : Dev nD) : (⟨S8x4096x384, .f32⟩ : BufTy).Contents (Elt Ideal) := m ((c : Thread nD τ).loc main_arg0)

/-- The argument that holds the cosines. -/
abbrev a1 (c : Dev nD) : (⟨S8x4096x8, .f32⟩ : BufTy).Contents (Elt Ideal) := m ((c : Thread nD τ).loc main_arg1)

/-- The argument that holds the sines. -/
abbrev a2 (c : Dev nD) : (⟨S8x4096x8, .f32⟩ : BufTy).Contents (Elt Ideal) := m ((c : Thread nD τ).loc main_arg2)

/-- The argument that holds the three gains. -/
abbrev a3 (c : Dev nD) : (⟨S3x64, .f32⟩ : BufTy).Contents (Elt Ideal) := m ((c : Thread nD τ).loc main_arg3)

/-- The argument that holds the places. -/
abbrev a4 (c : Dev nD) : (⟨S2x32x64, .f32⟩ : BufTy).Contents (Elt Ideal) := m ((c : Thread nD τ).loc main_arg4)

/-- The argument that holds the keys' first layer. -/
abbrev a5 (c : Dev nD) : (⟨S2048x256, .f32⟩ : BufTy).Contents (Elt Ideal) := m ((c : Thread nD τ).loc main_arg5)

/-- The argument that holds the keys' second layer. -/
abbrev a6 (c : Dev nD) : (⟨S256x64, .f32⟩ : BufTy).Contents (Elt Ideal) := m ((c : Thread nD τ).loc main_arg6)

/-- The argument that holds the values' first layer. -/
abbrev a7 (c : Dev nD) : (⟨S2048x256, .f32⟩ : BufTy).Contents (Elt Ideal) := m ((c : Thread nD τ).loc main_arg7)

/-- The argument that holds the values' second layer. -/
abbrev a8 (c : Dev nD) : (⟨S256x64, .f32⟩ : BufTy).Contents (Elt Ideal) := m ((c : Thread nD τ).loc main_arg8)

/-- The cosines twice, then ones. -/
def ct (x : FVec Ideal S8x4096x8 .f32) : FVec Ideal S8x4096x64 .f32 :=
  concatenate S8x4096x64 2 [⟨S8x4096x8, x⟩, ⟨S8x4096x8, x⟩, ⟨S8x4096x48, broadcastInDim S8x4096x48 ![] bcast_S_S8x4096x48 (constant (F := Ideal) S_ .f32 0x3F800000#32)⟩] concatenates_S8x4096x8_S8x4096x8_S8x4096x48_S8x4096x64_d2

/-- The table of cosines: twice the eight cosines, then ones. -/
theorem ct_at (x : FVec Ideal S8x4096x8 .f32) (b : Fin 8) (t : Fin 4096) (e : Fin 64) : ct x (ix3 b t e) = if h : e.val < 8 then x (ix3 b t ⟨e.val, h⟩) else if h : e.val < 16 then x (ix3 b t ⟨e.val - 8, by omega⟩) else 1 := by
  pointwise [ct]
  by_cases h0 : e.val < 8
  · rw [dif_pos h0, dif_pos h0]
  · rw [dif_neg h0, dif_neg h0]
    by_cases h1 : e.val < 16
    · rw [dif_pos (show e.val - 8 < 8 by omega), dif_pos h1]
    · rw [dif_neg (show ¬ e.val - 8 < 8 by omega), dif_neg h1]

/-- The call is entered with that table. -/
theorem V_v3 (c : Dev nD) : V m c main_v3 = ct (m ((c : Thread nD τ).loc main_arg1)) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- The sines negated, then zeros. -/
def s1 (x : FVec Ideal S8x4096x8 .f32) : FVec Ideal S8x4096x64 .f32 :=
  concatenate S8x4096x64 2 [⟨S8x4096x8, Host.negf x⟩, ⟨S8x4096x8, broadcastInDim S8x4096x8 ![] bcast_S_S8x4096x8 (constant (F := Ideal) S_ .f32 0x00000000#32)⟩, ⟨S8x4096x48, broadcastInDim S8x4096x48 ![] bcast_S_S8x4096x48 (constant (F := Ideal) S_ .f32 0x00000000#32)⟩] concatenates_S8x4096x8_S8x4096x8_S8x4096x48_S8x4096x64_d2

/-- The first table of sines: the eight sines negated, then zeros. -/
theorem s1_at (x : FVec Ideal S8x4096x8 .f32) (b : Fin 8) (t : Fin 4096) (e : Fin 64) : s1 x (ix3 b t e) = if h : e.val < 8 then - x (ix3 b t ⟨e.val, h⟩) else 0 := by
  pointwise [s1]
  by_cases h0 : e.val < 8
  · rw [dif_pos h0, dif_pos h0]
  · rw [dif_neg h0, dif_neg h0]
    split <;> rfl

/-- The call is entered with that table. -/
theorem V_v5 (c : Dev nD) : V m c main_v5 = s1 (m ((c : Thread nD τ).loc main_arg2)) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- Zeros, the sines, then zeros. -/
def s2 (x : FVec Ideal S8x4096x8 .f32) : FVec Ideal S8x4096x64 .f32 :=
  concatenate S8x4096x64 2 [⟨S8x4096x8, broadcastInDim S8x4096x8 ![] bcast_S_S8x4096x8 (constant (F := Ideal) S_ .f32 0x00000000#32)⟩, ⟨S8x4096x8, x⟩, ⟨S8x4096x48, broadcastInDim S8x4096x48 ![] bcast_S_S8x4096x48 (constant (F := Ideal) S_ .f32 0x00000000#32)⟩] concatenates_S8x4096x8_S8x4096x8_S8x4096x48_S8x4096x64_d2

/-- The second table of sines: eight zeros, the eight sines, then zeros. -/
theorem s2_at (x : FVec Ideal S8x4096x8 .f32) (b : Fin 8) (t : Fin 4096) (e : Fin 64) : s2 x (ix3 b t e) = if h : 8 ≤ e.val ∧ e.val < 16 then x (ix3 b t ⟨e.val - 8, by omega⟩) else 0 := by
  pointwise [s2]
  by_cases h0 : e.val < 8
  · rw [dif_pos h0, dif_neg (show ¬ (8 ≤ e.val ∧ e.val < 16) by omega)]
  · rw [dif_neg h0]
    by_cases h1 : e.val < 16
    · rw [dif_pos (show e.val - 8 < 8 by omega), dif_pos (show 8 ≤ e.val ∧ e.val < 16 by omega)]
    · rw [dif_neg (show ¬ e.val - 8 < 8 by omega), dif_neg (show ¬ (8 ≤ e.val ∧ e.val < 16) by omega)]

/-- The call is entered with that table. -/
theorem V_v6 (c : Dev nD) : V m c main_v6 = s2 (m ((c : Thread nD τ).loc main_arg2)) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

/-- The keys the call is entered with, sixteen rows to a row. -/
theorem V_v8 (c : Dev nD) (b : Fin 8) (n : Fin 256) (q : Fin 1024) : V m c main_v8 (ix3 b n q) = a0 m c (ix3 b ⟨16 * n.val + q.val / 64, by omega⟩ ⟨q.val % 64, by omega⟩) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise
  exact congrArg (fun z => a0 m c (ix3 b z ⟨q.val % 64, by omega⟩)) (Fin.ext (by dsimp only; omega))

/-- The values the call is entered with, sixteen rows to a row. -/
theorem V_v10 (c : Dev nD) (b : Fin 8) (n : Fin 256) (q : Fin 1024) : V m c main_v10 (ix3 b n q) = a0 m c (ix3 b ⟨16 * n.val + q.val / 64, by omega⟩ ⟨64 + q.val % 64, by omega⟩) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise
  exact congrArg (fun z => a0 m c (ix3 b z ⟨64 + q.val % 64, by omega⟩)) (Fin.ext (by dsimp only; omega))

/-- The places the call is entered with, sixteen to a row. -/
theorem V_v11 (c : Dev nD) (r : Fin 4) (q : Fin 1024) : V m c main_v11 (ix2 r q) = a4 m c (ix3 ⟨r.val / 2, by omega⟩ ⟨16 * (r.val % 2) + q.val / 64, by omega⟩ ⟨q.val % 64, by omega⟩) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise
  exact congrArg (fun z => a4 m c (ix3 ⟨r.val / 2, by omega⟩ z ⟨q.val % 64, by omega⟩)) (Fin.ext (by dsimp only; omega))

/-- The keys' first layer as the call is entered with. -/
theorem V_v12 (c : Dev nD) (p : Fin 2048) (q : Fin 256) : V m c main_v12 (ix2 p q) = a5 m c (ix2 p q) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise

/-- The keys' second layer as the call is entered with. -/
theorem V_v13 (c : Dev nD) (p : Fin 256) (q : Fin 64) : V m c main_v13 (ix2 p q) = a6 m c (ix2 p q) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise

/-- The values' first layer as the call is entered with. -/
theorem V_v14 (c : Dev nD) (p : Fin 2048) (q : Fin 256) : V m c main_v14 (ix2 p q) = a7 m c (ix2 p q) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise

/-- The values' second layer as the call is entered with. -/
theorem V_v15 (c : Dev nD) (p : Fin 256) (q : Fin 64) : V m c main_v15 (ix2 p q) = a8 m c (ix2 p q) := by
  unfold_abbrev_sides
  simp only [hostOps0, List.flatten_cons, List.flatten_nil, List.append_nil, List.cons_append,
      List.nil_append, StableHlo.TRef.binary, StableHlo.TRef.unary, StableHlo.TRef.toBuf, StableHlo.TRef.ofBuf, cast_eq]
  after_results
  pointwise

/-- Which block of its array each window holds at point `t`. -/
theorem idx : ∀ t : Fin cfg0.N, win0_0.index t = ![t.val, 0, 0] ∧ win0_1.index t = ![t.val, 0, 0] ∧ win0_2.index t = ![t.val, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0, 0] ∧ win0_10.index t = ![t.val, 0, 0] ∧ win0_11.index t = ![t.val, 0, 0] ∧ win0_12.index t = ![t.val, 0, 0] ∧ win0_13.index t = ![t.val, 0, 0] ∧ win0_14.index t = ![t.val, 0, 0] ∧ win0_15.index t = ![t.val, 0, 0] ∧ win0_16.index t = ![t.val, 0, 0] ∧ win0_17.index t = ![t.val, 0, 0] :=
  (by decide +kernel : ∀ t : Fin grid0.N, _)

/-- The keys at point `t`: batch `t`. -/
theorem b1 (c : Dev nD) (t : Fin cfg0.N) (y : Fin 256) (k : Fin 1024) (b : Fin 8) (h : b.val = t.val) : iblk m c 1 t (ix3 0 y k) = V m c main_v8 (ix3 b y k) := by
  have hemb : (win0_1.blk t).view.emb (ix3 0 y k) = ix3 b y k := by
    blk_ext [idx t]
  show V m c main_v8 ((win0_1.blk t).view.emb (ix3 0 y k)) = _
  rw [hemb]

/-- The values at point `t`: batch `t`. -/
theorem b2 (c : Dev nD) (t : Fin cfg0.N) (y : Fin 256) (k : Fin 1024) (b : Fin 8) (h : b.val = t.val) : iblk m c 2 t (ix3 0 y k) = V m c main_v10 (ix3 b y k) := by
  have hemb : (win0_2.blk t).view.emb (ix3 0 y k) = ix3 b y k := by
    blk_ext [idx t]
  show V m c main_v10 ((win0_2.blk t).view.emb (ix3 0 y k)) = _
  rw [hemb]

/-- The cosine table at point `t`: batch `t`. -/
theorem b9 (c : Dev nD) (t : Fin cfg0.N) (y : Fin 4096) (k : Fin 64) (b : Fin 8) (h : b.val = t.val) : iblk m c 9 t (ix3 0 y k) = V m c main_v3 (ix3 b y k) := by
  have hemb : (win0_9.blk t).view.emb (ix3 0 y k) = ix3 b y k := by
    blk_ext [idx t]
  show V m c main_v3 ((win0_9.blk t).view.emb (ix3 0 y k)) = _
  rw [hemb]

/-- The first sine table at point `t`: batch `t`. -/
theorem b10 (c : Dev nD) (t : Fin cfg0.N) (y : Fin 4096) (k : Fin 64) (b : Fin 8) (h : b.val = t.val) : iblk m c 10 t (ix3 0 y k) = V m c main_v5 (ix3 b y k) := by
  have hemb : (win0_10.blk t).view.emb (ix3 0 y k) = ix3 b y k := by
    blk_ext [idx t]
  show V m c main_v5 ((win0_10.blk t).view.emb (ix3 0 y k)) = _
  rw [hemb]

/-- The second sine table at point `t`: batch `t`. -/
theorem b11 (c : Dev nD) (t : Fin cfg0.N) (y : Fin 4096) (k : Fin 64) (b : Fin 8) (h : b.val = t.val) : iblk m c 11 t (ix3 0 y k) = V m c main_v6 (ix3 b y k) := by
  have hemb : (win0_11.blk t).view.emb (ix3 0 y k) = ix3 b y k := by
    blk_ext [idx t]
  show V m c main_v6 ((win0_11.blk t).view.emb (ix3 0 y k)) = _
  rw [hemb]

/-- Columns `128 …` of the projection at point `t`. -/
theorem x128 (c : Dev nD) (t : Fin cfg0.N) (y : Fin 4096) (k : Fin 64) (b : Fin 8) (h : b.val = t.val) : View.ld (iblk m c 0 t) r0_11 (ix3 0 y k) = a0 m c (ix3 b y ⟨128 + k.val, by omega⟩) := by
  have hemb : (win0_0.blk t).view.emb (r0_11.idx (ix3 0 y k)) = ix3 b y (⟨128 + k.val, by omega⟩ : Fin 384) := by
    blk_ext [idx t]
    all_goals simp [r0_11, LoadRect.idx, Rect.unit]
  show V m c main_arg0 ((win0_0.blk t).view.emb (r0_11.idx (ix3 0 y k))) = _
  rw [hemb, V_main_arg0]

/-- Columns `192 …` of the projection at point `t`. -/
theorem x192 (c : Dev nD) (t : Fin cfg0.N) (y : Fin 4096) (k : Fin 64) (b : Fin 8) (h : b.val = t.val) : View.ld (iblk m c 0 t) r0_13 (ix3 0 y k) = a0 m c (ix3 b y ⟨192 + k.val, by omega⟩) := by
  have hemb : (win0_0.blk t).view.emb (r0_13.idx (ix3 0 y k)) = ix3 b y (⟨192 + k.val, by omega⟩ : Fin 384) := by
    blk_ext [idx t]
    all_goals simp [r0_13, LoadRect.idx, Rect.unit]
  show V m c main_arg0 ((win0_0.blk t).view.emb (r0_13.idx (ix3 0 y k))) = _
  rw [hemb, V_main_arg0]

/-- Columns `256 …` of the projection at point `t`. -/
theorem x256 (c : Dev nD) (t : Fin cfg0.N) (y : Fin 4096) (k : Fin 64) (b : Fin 8) (h : b.val = t.val) : View.ld (iblk m c 0 t) r0_15 (ix3 0 y k) = a0 m c (ix3 b y ⟨256 + k.val, by omega⟩) := by
  have hemb : (win0_0.blk t).view.emb (r0_15.idx (ix3 0 y k)) = ix3 b y (⟨256 + k.val, by omega⟩ : Fin 384) := by
    blk_ext [idx t]
    all_goals simp [r0_15, LoadRect.idx, Rect.unit]
  show V m c main_arg0 ((win0_0.blk t).view.emb (r0_15.idx (ix3 0 y k))) = _
  rw [hemb, V_main_arg0]

/-- Columns `320 …` of the projection at point `t`. -/
theorem x320 (c : Dev nD) (t : Fin cfg0.N) (y : Fin 4096) (k : Fin 64) (b : Fin 8) (h : b.val = t.val) : View.ld (iblk m c 0 t) r0_17 (ix3 0 y k) = a0 m c (ix3 b y ⟨320 + k.val, by omega⟩) := by
  have hemb : (win0_0.blk t).view.emb (r0_17.idx (ix3 0 y k)) = ix3 b y (⟨320 + k.val, by omega⟩ : Fin 384) := by
    blk_ext [idx t]
    all_goals simp [r0_17, LoadRect.idx, Rect.unit]
  show V m c main_arg0 ((win0_0.blk t).view.emb (r0_17.idx (ix3 0 y k))) = _
  rw [hemb, V_main_arg0]

/-- Row 0 of the places. -/
theorem p0 (c : Dev nD) (t : Fin cfg0.N) (k : Fin 1024) : View.ld (iblk m c 3 t) r0_0 (ix2 0 k) = a4 m c (ix3 0 ⟨k.val / 64, by omega⟩ ⟨k.val % 64, by omega⟩) := by
  have hemb : (win0_3.blk t).view.emb (r0_0.idx (ix2 0 k)) = ix2 (0 : Fin 4) k := by
    blk_ext [idx t]
    all_goals simp [r0_0, LoadRect.idx, Rect.unit]
  show V m c main_v11 ((win0_3.blk t).view.emb (r0_0.idx (ix2 0 k))) = _
  rw [hemb, V_v11]
  refine congrArg (a4 m c) (funext fun a => Fin.ext ?_)
  match a with
  | ⟨0, _⟩ => rfl
  | ⟨1, _⟩ => show 16 * (0 % 2) + k.val / 64 = k.val / 64; omega
  | ⟨2, _⟩ => rfl

/-- Row 1 of the places. -/
theorem p1 (c : Dev nD) (t : Fin cfg0.N) (k : Fin 1024) : View.ld (iblk m c 3 t) r0_1 (ix2 0 k) = a4 m c (ix3 0 ⟨16 + k.val / 64, by omega⟩ ⟨k.val % 64, by omega⟩) := by
  have hemb : (win0_3.blk t).view.emb (r0_1.idx (ix2 0 k)) = ix2 (1 : Fin 4) k := by
    blk_ext [idx t]
    all_goals simp [r0_1, LoadRect.idx, Rect.unit]
  show V m c main_v11 ((win0_3.blk t).view.emb (r0_1.idx (ix2 0 k))) = _
  rw [hemb, V_v11]
  refine congrArg (a4 m c) (funext fun a => Fin.ext ?_)
  match a with
  | ⟨0, _⟩ => rfl
  | ⟨1, _⟩ => show 16 * (1 % 2) + k.val / 64 = 16 + k.val / 64; omega
  | ⟨2, _⟩ => rfl

/-- Row 2 of the places. -/
theorem p2 (c : Dev nD) (t : Fin cfg0.N) (k : Fin 1024) : View.ld (iblk m c 3 t) r0_8 (ix2 0 k) = a4 m c (ix3 1 ⟨k.val / 64, by omega⟩ ⟨k.val % 64, by omega⟩) := by
  have hemb : (win0_3.blk t).view.emb (r0_8.idx (ix2 0 k)) = ix2 (2 : Fin 4) k := by
    blk_ext [idx t]
    all_goals simp [r0_8, LoadRect.idx, Rect.unit]
  show V m c main_v11 ((win0_3.blk t).view.emb (r0_8.idx (ix2 0 k))) = _
  rw [hemb, V_v11]
  refine congrArg (a4 m c) (funext fun a => Fin.ext ?_)
  match a with
  | ⟨0, _⟩ => rfl
  | ⟨1, _⟩ => show 16 * (2 % 2) + k.val / 64 = k.val / 64; omega
  | ⟨2, _⟩ => rfl

/-- Row 3 of the places. -/
theorem p3 (c : Dev nD) (t : Fin cfg0.N) (k : Fin 1024) : View.ld (iblk m c 3 t) r0_9 (ix2 0 k) = a4 m c (ix3 1 ⟨16 + k.val / 64, by omega⟩ ⟨k.val % 64, by omega⟩) := by
  have hemb : (win0_3.blk t).view.emb (r0_9.idx (ix2 0 k)) = ix2 (3 : Fin 4) k := by
    blk_ext [idx t]
    all_goals simp [r0_9, LoadRect.idx, Rect.unit]
  show V m c main_v11 ((win0_3.blk t).view.emb (r0_9.idx (ix2 0 k))) = _
  rw [hemb, V_v11]
  refine congrArg (a4 m c) (funext fun a => Fin.ext ?_)
  match a with
  | ⟨0, _⟩ => rfl
  | ⟨1, _⟩ => show 16 * (3 % 2) + k.val / 64 = 16 + k.val / 64; omega
  | ⟨2, _⟩ => rfl

/-- Row 0 of the gains. -/
theorem g0 (c : Dev nD) (t : Fin cfg0.N) (k : Fin 64) : View.ld (iblk m c 8 t) r0_6 (ix2 0 k) = a3 m c (ix2 0 k) := by
  have hemb : (win0_8.blk t).view.emb (r0_6.idx (ix2 0 k)) = ix2 (0 : Fin 3) k := by
    blk_ext [idx t]
    all_goals simp [r0_6, LoadRect.idx, Rect.unit]
  show V m c main_arg3 ((win0_8.blk t).view.emb (r0_6.idx (ix2 0 k))) = _
  rw [hemb, V_main_arg3]

/-- Row 1 of the gains. -/
theorem g1 (c : Dev nD) (t : Fin cfg0.N) (k : Fin 64) : View.ld (iblk m c 8 t) r0_12 (ix2 0 k) = a3 m c (ix2 1 k) := by
  have hemb : (win0_8.blk t).view.emb (r0_12.idx (ix2 0 k)) = ix2 (1 : Fin 3) k := by
    blk_ext [idx t]
    all_goals simp [r0_12, LoadRect.idx, Rect.unit]
  show V m c main_arg3 ((win0_8.blk t).view.emb (r0_12.idx (ix2 0 k))) = _
  rw [hemb, V_main_arg3]

/-- Row 2 of the gains. -/
theorem g2 (c : Dev nD) (t : Fin cfg0.N) (k : Fin 64) : View.ld (iblk m c 8 t) r0_16 (ix2 0 k) = a3 m c (ix2 2 k) := by
  have hemb : (win0_8.blk t).view.emb (r0_16.idx (ix2 0 k)) = ix2 (2 : Fin 3) k := by
    blk_ext [idx t]
    all_goals simp [r0_16, LoadRect.idx, Rect.unit]
  show V m c main_arg3 ((win0_8.blk t).view.emb (r0_16.idx (ix2 0 k))) = _
  rw [hemb, V_main_arg3]

/-- Rows `0 …` of the keys' first layer. -/
theorem w4_3 (c : Dev nD) (t : Fin cfg0.N) (k : Fin 1024) (j : Fin 256) : View.ld (iblk m c 4 t) r0_3 (ix2 k j) = a5 m c (ix2 ⟨k.val, by omega⟩ j) := by
  have hemb : (win0_4.blk t).view.emb (r0_3.idx (ix2 k j)) = ix2 (⟨k.val, by omega⟩ : Fin 2048) j := by
    blk_ext [idx t]
    all_goals simp [r0_3, LoadRect.idx, Rect.unit]
  show V m c main_v12 ((win0_4.blk t).view.emb (r0_3.idx (ix2 k j))) = _
  rw [hemb, V_v12]

/-- Rows `1024 …` of the keys' first layer. -/
theorem w4_4 (c : Dev nD) (t : Fin cfg0.N) (k : Fin 1024) (j : Fin 256) : View.ld (iblk m c 4 t) r0_4 (ix2 k j) = a5 m c (ix2 ⟨1024 + k.val, by omega⟩ j) := by
  have hemb : (win0_4.blk t).view.emb (r0_4.idx (ix2 k j)) = ix2 (⟨1024 + k.val, by omega⟩ : Fin 2048) j := by
    blk_ext [idx t]
    all_goals simp [r0_4, LoadRect.idx, Rect.unit]
  show V m c main_v12 ((win0_4.blk t).view.emb (r0_4.idx (ix2 k j))) = _
  rw [hemb, V_v12]

/-- Rows `0 …` of the values' first layer. -/
theorem w6_3 (c : Dev nD) (t : Fin cfg0.N) (k : Fin 1024) (j : Fin 256) : View.ld (iblk m c 6 t) r0_3 (ix2 k j) = a7 m c (ix2 ⟨k.val, by omega⟩ j) := by
  have hemb : (win0_6.blk t).view.emb (r0_3.idx (ix2 k j)) = ix2 (⟨k.val, by omega⟩ : Fin 2048) j := by
    blk_ext [idx t]
    all_goals simp [r0_3, LoadRect.idx, Rect.unit]
  show V m c main_v14 ((win0_6.blk t).view.emb (r0_3.idx (ix2 k j))) = _
  rw [hemb, V_v14]

/-- Rows `1024 …` of the values' first layer. -/
theorem w6_4 (c : Dev nD) (t : Fin cfg0.N) (k : Fin 1024) (j : Fin 256) : View.ld (iblk m c 6 t) r0_4 (ix2 k j) = a7 m c (ix2 ⟨1024 + k.val, by omega⟩ j) := by
  have hemb : (win0_6.blk t).view.emb (r0_4.idx (ix2 k j)) = ix2 (⟨1024 + k.val, by omega⟩ : Fin 2048) j := by
    blk_ext [idx t]
    all_goals simp [r0_4, LoadRect.idx, Rect.unit]
  show V m c main_v14 ((win0_6.blk t).view.emb (r0_4.idx (ix2 k j))) = _
  rw [hemb, V_v14]

/-- The keys' second layer. -/
theorem w5 (c : Dev nD) (t : Fin cfg0.N) (k : Fin 256) (j : Fin 64) : iblk m c 5 t (ix2 k j) = a6 m c (ix2 k j) := by
  have hemb : (win0_5.blk t).view.emb (ix2 k j) = ix2 k j := by
    blk_ext [idx t]
  show V m c main_v13 ((win0_5.blk t).view.emb (ix2 k j)) = _
  rw [hemb, V_v13]

/-- The values' second layer. -/
theorem w7 (c : Dev nD) (t : Fin cfg0.N) (k : Fin 256) (j : Fin 64) : iblk m c 7 t (ix2 k j) = a8 m c (ix2 k j) := by
  have hemb : (win0_7.blk t).view.emb (ix2 k j) = ix2 k j := by
    blk_ext [idx t]
  show V m c main_v15 ((win0_7.blk t).view.emb (ix2 k j)) = _
  rw [hemb, V_v15]

end Cert.PrepKernelIdeal.Bridge
-- ==== Proof.PrepRef.lean ====
module

public import proofs.«01_k».proof.Proof.Gen.PrepReferenceIdeal.Read
public import proofs.«01_k».proof.Proof.PrepSpec
public import Idealize.ShloMosaic.Lib.Pointwise
public import Idealize.ShloMosaic.Lib.WordCmp
/-! What the reference of the preparation of keys and values holds at one element. -/

@[expose] public section

set_option maxRecDepth 16384
noncomputable section
namespace Cert.PrepReferenceIdeal.Read
open Idealize.ShloMosaic Idealize.ShloMosaic.TcCoe Cert.PrepReferenceIdeal Cert.PrepReferenceIdeal.Gen Cert.Layer.Nsa Cert.Layer.Prep

variable (x0 : (⟨S8x4096x384, .f32⟩ : BufTy).Contents (Elt Ideal)) (x1 x2 : (⟨S8x4096x8, .f32⟩ : BufTy).Contents (Elt Ideal)) (x3 : (⟨S3x64, .f32⟩ : BufTy).Contents (Elt Ideal)) (x4 : (⟨S2x32x64, .f32⟩ : BufTy).Contents (Elt Ideal)) (x5 x7 : (⟨S2048x256, .f32⟩ : BufTy).Contents (Elt Ideal)) (x6 x8 : (⟨S256x64, .f32⟩ : BufTy).Contents (Elt Ideal))

/-- The gather reads the row whose number stands in the index array. -/
theorem gather_at (x : (⟨S8x4112x64, .f32⟩ : BufTy).Contents (Elt Ideal)) (idx : (⟨S256x32x1, .i32⟩ : BufTy).Contents (Elt Ideal))
    (b : Fin 8) (n : Fin 256) (l : Fin 32) (d : Fin 64) (t : Fin 4112) (h : idx (ix3 n l 0) = BitVec.ofNat 32 t.val) :
    Host.gather gather_S8x4112x64_S256x32x1_S8x256x32x64_03_1_n_n_1_2_8164 x idx (ix4 b n l d) = x (ix3 b t d) := by
  unfold Host.gather
  refine congrArg x (funext fun a => Fin.ext ?_)
  match a with
  | ⟨0, _⟩ => exact Nat.zero_add _
  | ⟨1, _⟩ =>
    refine (show _ = min (idx (GatherDims.siIdx gather_S8x4112x64_S256x32x1_S8x256x32x64_03_1_n_n_1_2_8164 (ix4 b n l d) ⟨0, by decide⟩)).toInt.toNat 4111 + 0 + 0 from rfl).trans ?_
    rw [show GatherDims.siIdx gather_S8x4112x64_S256x32x1_S8x256x32x64_03_1_n_n_1_2_8164 (ix4 b n l d) ⟨0, by decide⟩ = ix3 n l 0 from
      funext fun a => by match a with | ⟨0, _⟩ => rfl | ⟨1, _⟩ => rfl | ⟨2, _⟩ => rfl, h, WordCmp.toInt_ofNat_of_lt (by omega)]
    show min t.val 4111 + 0 + 0 = t.val
    omega
  | ⟨2, _⟩ => exact Nat.zero_add _

/-- The row number of one place of one block. -/
theorem v14_at (n : Fin 256) (l : Fin 32) : val_main_v14 (F := Ideal) (ix2 n l) = BitVec.ofNat 32 (16 * n.val + l.val) := by
  pointwise [val_main_v14, val_main_v13, val_main_v12, val_main_v11, val_main_v10, val_main_v9, val_main_v8, val_main_v7, val_main_c, val_main_v6]
  rw [show (16#32 : BitVec 32) = BitVec.ofNat 32 16 from rfl]
  unfold IntOp.addi IntOp.muli
  rw [← BitVec.ofNat_mul, ← BitVec.ofNat_add, Nat.mul_comm]

/-- An index that is not negative is not wrapped. -/
theorem wrap_nat (a : ℕ) (y : BitVec 32) (h : a < 2 ^ 31) :
    Scalar.select (IntOp.cmpi CmpIPredicate.slt (BitVec.ofNat 32 a) 0#32) y (BitVec.ofNat 32 a) = BitVec.ofNat 32 a := by
  rw [WordCmp.cmpi_slt_ofNat h (by omega), decide_eq_false (by omega)]
  rfl

/-- The index of the first gather. -/
theorem v26_at (n : Fin 256) (l : Fin 32) : val_main_v26 (F := Ideal) (ix3 n l 0) = BitVec.ofNat 32 (16 * n.val + l.val) := by
  pointwise [val_main_v26, val_main_v25, val_main_v24, val_main_v23, val_main_c_3, val_main_v22, val_main_v21, val_main_c_2]
  rw [v14_at]
  exact wrap_nat _ _ (by omega)

/-- The index of the second gather. -/
theorem v73_at (n : Fin 256) (l : Fin 32) : val_main_v73 (F := Ideal) (ix3 n l 0) = BitVec.ofNat 32 (16 * n.val + l.val) := by
  pointwise [val_main_v73, val_main_v72, val_main_v71, val_main_v70, val_main_c_13, val_main_v69, val_main_v68, val_main_c_12]
  rw [v14_at]
  exact wrap_nat _ _ (by omega)

/-- The padded keys. -/
theorem v20_at (b : Fin 8) (t : Fin 4096) (d : Fin 64) : val_main_v20 (F := Ideal) x0 (ix3 b ⟨t.val, by omega⟩ d) = x0 (ix3 b t ⟨d.val, by omega⟩) := by
  pointwise [val_main_v20, val_main_v0]

/-- The gathered keys with their places. -/
theorem v33_at (b : Fin 8) (n : Fin 256) (l : Fin 32) (d : Fin 64) : val_main_v33 (F := Ideal) x0 x4 (ix4 b n l d)
    = if h : 16 * n.val + l.val < 4096 then x0 (ix3 b ⟨16 * n.val + l.val, h⟩ ⟨d.val, by omega⟩) + x4 (ix3 0 l d) else 0 := by
  pointwise [val_main_v33, val_main_v32, val_main_cst, val_main_v31, val_main_v30, val_main_v29, val_main_v28, val_main_v26, val_main_v25, val_main_v24, val_main_v23, val_main_c_3, val_main_v22, val_main_v21, val_main_c_2, val_main_c_1, val_main_v19, val_main_v18, val_main_v17, val_main_v16, val_main_v15, val_main_c_0]
  rw [v14_at, show (4096#32 : BitVec 32) = BitVec.ofNat 32 4096 from rfl, WordCmp.cmpi_slt_ofNat (by omega) (by omega)]
  by_cases h : 16 * n.val + l.val < 4096
  · rw [dif_pos h, decide_eq_true h, show val_main_v27 (F := Ideal) x0 (ix4 b n l d) = _ from gather_at _ _ b n l d ⟨16 * n.val + l.val, by omega⟩ (v26_at n l), v20_at x0 b ⟨16 * n.val + l.val, h⟩ d]
    rfl
  · rw [dif_neg h, decide_eq_false h]
    rfl

/-- The rows the first layer of the keys reads. -/
def xk (b : Fin 8) (t : Fin 4096) (d : Fin 64) : EReal := x0 (ix3 b t ⟨d.val, by omega⟩)

/-- The blocks of the keys, each in one row. -/
theorem v34_at (b : Fin 8) (n : Fin 256) (p : Fin 2048) : val_main_v34 (F := Ideal) x0 x4 (ix3 b n p) = block (xk x0 b) (fun l d => x4 (ix3 0 l d)) n p := by
  rw [val_main_v34_apply]
  refine Eq.trans (congrArg (val_main_v33 (F := Ideal) x0 x4) (funext fun a => Fin.ext ?_)) (v33_at x0 x4 b n ⟨p.val / 64, by omega⟩ ⟨p.val % 64, by omega⟩)
  match a with
  | ⟨0, _⟩ => show ((b.val * 256 + n.val) * 2048 + p.val) / 524288 = b.val; omega
  | ⟨1, _⟩ => show ((b.val * 256 + n.val) * 2048 + p.val) / 2048 % 256 = n.val; omega
  | ⟨2, _⟩ => show ((b.val * 256 + n.val) * 2048 + p.val) / 64 % 32 = p.val / 64; omega
  | ⟨3, _⟩ => show ((b.val * 256 + n.val) * 2048 + p.val) % 64 = p.val % 64; omega

/-- The first layer of the keys. -/
theorem v35_at (b : Fin 8) (n : Fin 256) (j : Fin 256) : val_main_v35 (F := Ideal) x0 x4 x5 (ix3 b n j) = ∑ p : Fin 2048, block (xk x0 b) (fun l d => x4 (ix3 0 l d)) n p * x5 (ix2 p j) := by
  pointwise [val_main_v35]
  simp only [v34_at]

/-- The compressed keys before any norm. -/
theorem v49_at (b : Fin 8) (n : Fin 256) (d : Fin 64) : val_main_v49 (F := Ideal) x0 x4 x5 x6 (ix3 b n d) = comp (xk x0 b) (fun l d => x4 (ix3 0 l d)) (fun p j => x5 (ix2 p j)) (fun j d => x6 (ix2 j d)) n d := by
  pointwise [val_main_v49, val_main_v48, val_main_v47, val_main_v46, val_main_cst_7, val_main_v45, val_main_v44, val_main_cst_6, val_main_v43, val_main_v42, val_main_v41, val_main_cst_5, val_main_v40, val_main_v39, val_main_v38, val_main_cst_4, val_main_v37, val_main_v36]
  simp only [v35_at]
  refine Finset.sum_congr rfl fun j _ => congrArg (· * x6 (ix2 j d)) ?_
  unfold gelu
  rw [← mul_assoc, mul_comm _ (Ideal.ofBits .f32 0x3F000000#32)]

/-- The padded values. -/
theorem v67_at (b : Fin 8) (t : Fin 4096) (d : Fin 64) : val_main_v67 (F := Ideal) x0 (ix3 b ⟨t.val, by omega⟩ d) = x0 (ix3 b t ⟨64 + d.val, by omega⟩) := by
  pointwise [val_main_v67, val_main_v1]

/-- The gathered values with their places. -/
theorem v80_at (b : Fin 8) (n : Fin 256) (l : Fin 32) (d : Fin 64) : val_main_v80 (F := Ideal) x0 x4 (ix4 b n l d)
    = if h : 16 * n.val + l.val < 4096 then x0 (ix3 b ⟨16 * n.val + l.val, h⟩ ⟨64 + d.val, by omega⟩) + x4 (ix3 1 l d) else 0 := by
  pointwise [val_main_v80, val_main_v79, val_main_cst_14, val_main_v78, val_main_v77, val_main_v76, val_main_v75, val_main_v73, val_main_v72, val_main_v71, val_main_v70, val_main_c_13, val_main_v69, val_main_v68, val_main_c_12, val_main_c_11, val_main_v66, val_main_v65, val_main_v17, val_main_v16, val_main_v15, val_main_c_0]
  rw [v14_at, show (4096#32 : BitVec 32) = BitVec.ofNat 32 4096 from rfl, WordCmp.cmpi_slt_ofNat (by omega) (by omega)]
  by_cases h : 16 * n.val + l.val < 4096
  · rw [dif_pos h, decide_eq_true h, show val_main_v74 (F := Ideal) x0 (ix4 b n l d) = _ from gather_at _ _ b n l d ⟨16 * n.val + l.val, by omega⟩ (v73_at n l), v67_at x0 b ⟨16 * n.val + l.val, h⟩ d]
    rfl
  · rw [dif_neg h, decide_eq_false h]
    rfl

/-- The rows the first layer of the values reads. -/
def xv (b : Fin 8) (t : Fin 4096) (d : Fin 64) : EReal := x0 (ix3 b t ⟨64 + d.val, by omega⟩)

/-- The blocks of the values, each in one row. -/
theorem v81_at (b : Fin 8) (n : Fin 256) (p : Fin 2048) : val_main_v81 (F := Ideal) x0 x4 (ix3 b n p) = block (xv x0 b) (fun l d => x4 (ix3 1 l d)) n p := by
  rw [val_main_v81_apply]
  refine Eq.trans (congrArg (val_main_v80 (F := Ideal) x0 x4) (funext fun a => Fin.ext ?_)) (v80_at x0 x4 b n ⟨p.val / 64, by omega⟩ ⟨p.val % 64, by omega⟩)
  match a with
  | ⟨0, _⟩ => show ((b.val * 256 + n.val) * 2048 + p.val) / 524288 = b.val; omega
  | ⟨1, _⟩ => show ((b.val * 256 + n.val) * 2048 + p.val) / 2048 % 256 = n.val; omega
  | ⟨2, _⟩ => show ((b.val * 256 + n.val) * 2048 + p.val) / 64 % 32 = p.val / 64; omega
  | ⟨3, _⟩ => show ((b.val * 256 + n.val) * 2048 + p.val) % 64 = p.val % 64; omega

/-- The first layer of the values. -/
theorem v82_at (b : Fin 8) (n : Fin 256) (j : Fin 256) : val_main_v82 (F := Ideal) x0 x4 x7 (ix3 b n j) = ∑ p : Fin 2048, block (xv x0 b) (fun l d => x4 (ix3 1 l d)) n p * x7 (ix2 p j) := by
  pointwise [val_main_v82]
  simp only [v81_at]

/-- The compressed values before any norm. -/
theorem v96_at (b : Fin 8) (n : Fin 256) (d : Fin 64) : val_main_v96 (F := Ideal) x0 x4 x7 x8 (ix3 b n d) = comp (xv x0 b) (fun l d => x4 (ix3 1 l d)) (fun p j => x7 (ix2 p j)) (fun j d => x8 (ix2 j d)) n d := by
  pointwise [val_main_v96, val_main_v95, val_main_v94, val_main_v93, val_main_cst_18, val_main_v92, val_main_v91, val_main_cst_17, val_main_v90, val_main_v89, val_main_v88, val_main_cst_16, val_main_v87, val_main_v86, val_main_v85, val_main_cst_15, val_main_v84, val_main_v83]
  simp only [v82_at]
  refine Finset.sum_congr rfl fun j _ => congrArg (· * x8 (ix2 j d)) ?_
  unfold gelu
  rw [← mul_assoc, mul_comm _ (Ideal.ofBits .f32 0x3F000000#32)]

/-- The first result: the compressed keys. -/
theorem v151_at (b : Fin 8) (n : Fin 256) (d : Fin 64) : val_main_v151 (F := Ideal) x0 x3 x4 x5 x6 (ix3 b n d)
    = rms (comp (xk x0 b) (fun l d => x4 (ix3 0 l d)) (fun p j => x5 (ix2 p j)) (fun j d => x6 (ix2 j d)) n) (fun d => x3 (ix2 0 d)) d := by
  pointwise [val_main_v151, val_main_v64, val_main_v63, val_main_v62, val_main_v61, val_main_v60, val_main_v59, val_main_v58, val_main_v57, val_main_cst_10, val_main_v56, val_main_v55, val_main_cst_9, val_main_v54, val_main_v53, val_main_cst_8, val_main_v52, val_main_v51, val_main_v50]
  simp only [v49_at]
  rfl

/-- The second result: the compressed values. -/
theorem v152_at (b : Fin 8) (n : Fin 256) (d : Fin 64) : val_main_v152 (F := Ideal) x0 x4 x7 x8 (ix3 b n d)
    = comp (xv x0 b) (fun l d => x4 (ix3 1 l d)) (fun p j => x7 (ix2 p j)) (fun j d => x8 (ix2 j d)) n d := by
  pointwise [val_main_v152]
  rw [v96_at]

/-- The normed keys of the third result. -/
theorem v111_at (b : Fin 8) (t : Fin 4096) (d : Fin 64) : val_main_v111 (F := Ideal) x0 x3 (ix3 b t d) = rms (fun d => x0 (ix3 b t ⟨128 + d.val, by omega⟩)) (fun d => x3 (ix2 1 d)) d := by
  pointwise [val_main_v111, val_main_v110, val_main_v109, val_main_v108, val_main_v107, val_main_v106, val_main_v105, val_main_v104, val_main_cst_21, val_main_v103, val_main_v102, val_main_cst_20, val_main_v101, val_main_v100, val_main_cst_19, val_main_v99, val_main_v98, val_main_v97, val_main_v2]
  rfl

/-- The third result: rotated keys. -/
theorem v153_at (b : Fin 8) (t : Fin 4096) (d : Fin 64) : val_main_v153 (F := Ideal) x0 x1 x2 x3 (ix3 b t d)
    = rope (rms (fun d => x0 (ix3 b t ⟨128 + d.val, by omega⟩)) fun d => x3 (ix2 1 d)) (fun d => x1 (ix3 b t d)) (fun d => x2 (ix3 b t d)) d := by
  pointwise [val_main_v153, val_main_v121, val_main_v120, val_main_v119, val_main_v118, val_main_v117, val_main_v116, val_main_v115, val_main_v114, val_main_v113, val_main_v112]
  simp only [v111_at]
  unfold rope
  by_cases h : d.val < 8
  · rw [dif_pos h, dif_pos h]
    refine congrArg (_ - · * _) (congrArg (rms _ _) (Fin.ext (by dsimp only; omega)))
  · rw [dif_neg h, dif_neg h]
    by_cases h' : d.val < 16
    · rw [dif_pos (by omega), dif_pos h']
      refine congrArg (· * _ + _) (congrArg (rms _ _) (Fin.ext (by dsimp only; omega)))
    · rw [dif_neg (by omega), dif_neg h']
      exact congrArg (rms _ _) (Fin.ext (by dsimp only; omega))

/-- The normed keys of the fifth result. -/
theorem v136_at (b : Fin 8) (t : Fin 4096) (d : Fin 64) : val_main_v136 (F := Ideal) x0 x3 (ix3 b t d) = rms (fun d => x0 (ix3 b t ⟨256 + d.val, by omega⟩)) (fun d => x3 (ix2 2 d)) d := by
  pointwise [val_main_v136, val_main_v135, val_main_v134, val_main_v133, val_main_v132, val_main_v131, val_main_v130, val_main_v129, val_main_cst_24, val_main_v128, val_main_v127, val_main_cst_23, val_main_v126, val_main_v125, val_main_cst_22, val_main_v124, val_main_v123, val_main_v122, val_main_v4]
  rfl

/-- The fifth result: rotated keys. -/
theorem v155_at (b : Fin 8) (t : Fin 4096) (d : Fin 64) : val_main_v155 (F := Ideal) x0 x1 x2 x3 (ix3 b t d)
    = rope (rms (fun d => x0 (ix3 b t ⟨256 + d.val, by omega⟩)) fun d => x3 (ix2 2 d)) (fun d => x1 (ix3 b t d)) (fun d => x2 (ix3 b t d)) d := by
  pointwise [val_main_v155, val_main_v146, val_main_v145, val_main_v144, val_main_v143, val_main_v142, val_main_v141, val_main_v140, val_main_v139, val_main_v138, val_main_v137]
  simp only [v136_at]
  unfold rope
  by_cases h : d.val < 8
  · rw [dif_pos h, dif_pos h]
    refine congrArg (_ - · * _) (congrArg (rms _ _) (Fin.ext (by dsimp only; omega)))
  · rw [dif_neg h, dif_neg h]
    by_cases h' : d.val < 16
    · rw [dif_pos (by omega), dif_pos h']
      refine congrArg (· * _ + _) (congrArg (rms _ _) (Fin.ext (by dsimp only; omega)))
    · rw [dif_neg (by omega), dif_neg h']
      exact congrArg (rms _ _) (Fin.ext (by dsimp only; omega))

/-- The fourth result: values with their column of ones. -/
theorem v154_at (b : Fin 8) (t : Fin 4096) (e : Fin 128) : val_main_v154 (F := Ideal) x0 (ix3 b t e) = ones (fun d => x0 (ix3 b t ⟨192 + d.val, by omega⟩)) e := by
  pointwise [val_main_v154, val_main_v149, val_main_v148, val_main_call2_v0, val_main_c_26, val_main_v147, val_main_v3, val_main_cst_25, val_main_c_26]
  unfold ones
  by_cases h : e.val < 64
  · rw [dif_pos h, dif_pos h]
  · rw [dif_neg h, dif_neg h]
    by_cases h' : e.val = 64
    · rw [dif_pos (by omega), if_pos h']
    · rw [dif_neg (by omega), if_neg h']
      simp [FloatOps.sitofp]

/-- The sixth result: values with their column of ones. -/
theorem v156_at (b : Fin 8) (t : Fin 4096) (e : Fin 128) : val_main_v156 (F := Ideal) x0 (ix3 b t e) = ones (fun d => x0 (ix3 b t ⟨320 + d.val, by omega⟩)) e := by
  pointwise [val_main_v156, val_main_v150, val_main_v148, val_main_call2_v0, val_main_c_26, val_main_v147, val_main_v5, val_main_cst_25, val_main_c_26]
  unfold ones
  by_cases h : e.val < 64
  · rw [dif_pos h, dif_pos h]
  · rw [dif_neg h, dif_neg h]
    by_cases h' : e.val = 64
    · rw [dif_pos (by omega), if_pos h']
    · rw [dif_neg (by omega), if_neg h']
      simp [FloatOps.sitofp]

end Cert.PrepReferenceIdeal.Read
-- ==== Proof.PrepValue.lean ====
module

public import proofs.«01_k».proof.Proof.PrepEntry
public import proofs.«01_k».proof.Proof.PrepRef
/-! The preparation's result arrays after the run, block by block, are the reference's. -/

@[expose] public section

set_option maxRecDepth 16384
noncomputable section
open Idealize.ShloMosaic Idealize.ShloMosaic.TcCoe Idealize.SL.Sem
open Idealize.ShloMosaic.Pipeline (Dat)
namespace Cert.PrepKernelIdeal.Bridge
open Cert.PrepKernelIdeal Cert.PrepKernelIdeal.Gen Cert.PrepKernelIdeal.Pure Cert.Layer.Nsa Cert.Layer.Prep
variable (m : (ℓ : Loc nD τ sig) → Buf (Elt Ideal) ℓ)

section
variable (x0 : Vec Ideal S1x4096x384 .f32) (x1 x2 : Vec Ideal S1x256x1024 .f32) (x3 : Vec Ideal S4x1024 .f32) (x4 x6 : Vec Ideal S2048x256 .bf16) (x5 x7 : Vec Ideal S256x64 .bf16) (x8 : Vec Ideal S3x64 .f32) (x9 x10 x11 : Vec Ideal S1x4096x64 .f32)

/-- Table 1 of the rotation. -/
theorem pay18_at (r : Fin 4096) (d : Fin 64) : k0_pay18 (F := Ideal) x0 x1 x2 x3 x4 x5 x6 x7 x8 x9 x10 x11 (ix2 r d) = x9 (ix3 0 r d) := by
  unfold k0_pay18
  pointwise [k0_pay8]

/-- Table 2 of the rotation. -/
theorem pay19_at (r : Fin 4096) (d : Fin 64) : k0_pay19 (F := Ideal) x0 x1 x2 x3 x4 x5 x6 x7 x8 x9 x10 x11 (ix2 r d) = x10 (ix3 0 r d) := by
  unfold k0_pay19
  pointwise [k0_pay9]

/-- Table 3 of the rotation. -/
theorem pay20_at (r : Fin 4096) (d : Fin 64) : k0_pay20 (F := Ideal) x0 x1 x2 x3 x4 x5 x6 x7 x8 x9 x10 x11 (ix2 r d) = x11 (ix3 0 r d) := by
  unfold k0_pay20
  pointwise [k0_pay10]
end

/-- Result array 1 after the run. -/
theorem final12 (c : Dev nD) : (dats m 0 c).arrAt 12 (cfgs 0).N = Cert.PrepReferenceIdeal.Read.val_main_v151 (F := Ideal) (a0 m c) (a3 m c) (a4 m c) (a5 m c) (a6 m c) := by
  refine (dats m 0 c).arrAt_eq_of_covers 12 _ (by decide +kernel) fun t hf y => ?_
  blk_simp
  rw [after0_12]
  frame_out
  idx_vars y
  have htN : t.val < 8 := lt_of_lt_of_eq t.isLt N_0
  have hemb : (win0_12.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [pay3_at, Cert.PrepReferenceIdeal.Read.v151_at]
  refine congrFun (congrArg₂ rms (funext fun d => ?_) (funext fun d => g0 m c t d)) y2
  unfold comp
  refine Finset.sum_congr rfl fun j _ => congrArg₂ (· * ·) ?_ (w5 m c t j d)
  rw [pay2_at]
  refine congrArg gelu ?_
  rw [halves (Cert.PrepReferenceIdeal.Read.xk (a0 m c) ⟨t.val, htN⟩) (fun l d => a4 m c (ix3 0 l d)) (fun p => a5 m c (ix2 p j)) y1 (fun n q => V m c main_v8 (ix3 ⟨t.val, htN⟩ n q)) fun n q => V_v8 m c ⟨t.val, htN⟩ n q]
  refine congrArg₂ (· + ·) (Finset.sum_congr rfl fun q _ => ?_) ?_
  · rw [b1 m c t y1 q ⟨t.val, htN⟩ rfl, p0, w4_3]
  · by_cases h : y1.val < 255
    · rw [dif_pos h, dif_pos h]
      refine Finset.sum_congr rfl fun q _ => ?_
      rw [b1 m c t ⟨y1.val + 1, by omega⟩ q ⟨t.val, htN⟩ rfl, p1, w4_4]
    · rw [dif_neg h, dif_neg h]

/-- Result array 2 after the run. -/
theorem final13 (c : Dev nD) : (dats m 0 c).arrAt 13 (cfgs 0).N = Cert.PrepReferenceIdeal.Read.val_main_v152 (F := Ideal) (a0 m c) (a4 m c) (a7 m c) (a8 m c) := by
  refine (dats m 0 c).arrAt_eq_of_covers 13 _ (by decide +kernel) fun t hf y => ?_
  blk_simp
  rw [after0_13]
  frame_out
  idx_vars y
  have htN : t.val < 8 := lt_of_lt_of_eq t.isLt N_0
  have hemb : (win0_13.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [pay7_at, Cert.PrepReferenceIdeal.Read.v152_at]
  unfold comp
  show @Eq EReal _ _
  refine Finset.sum_congr rfl fun j _ => congrArg₂ (· * ·) ?_ (w7 m c t j y2)
  refine congrArg gelu ?_
  rw [halves (Cert.PrepReferenceIdeal.Read.xv (a0 m c) ⟨t.val, htN⟩) (fun l d => a4 m c (ix3 1 l d)) (fun p => a7 m c (ix2 p j)) y1 (fun n q => V m c main_v10 (ix3 ⟨t.val, htN⟩ n q)) fun n q => V_v10 m c ⟨t.val, htN⟩ n q]
  rw [pay5_at]
  refine congrArg₂ (· + ·) (Finset.sum_congr rfl fun q _ => ?_) ?_
  · rw [b2 m c t y1 q ⟨t.val, htN⟩ rfl, p2, w6_3]
  · by_cases h : y1.val < 255
    · rw [dif_pos h, dif_pos h]
      refine Finset.sum_congr rfl fun q _ => ?_
      rw [pay6_at, b2 m c t ⟨y1.val + 1, by omega⟩ q ⟨t.val, htN⟩ rfl, p3, w6_4]
    · rw [dif_neg h, dif_neg h]

/-- Result array 3 after the run. -/
theorem final14 (c : Dev nD) : (dats m 0 c).arrAt 14 (cfgs 0).N = Cert.PrepReferenceIdeal.Read.val_main_v153 (F := Ideal) (a0 m c) (a1 m c) (a2 m c) (a3 m c) := by
  refine (dats m 0 c).arrAt_eq_of_covers 14 _ (by decide +kernel) fun t hf y => ?_
  blk_simp
  rw [after0_14]
  frame_out
  idx_vars y
  have htN : t.val < 8 := lt_of_lt_of_eq t.isLt N_0
  have hemb : (win0_14.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [Cert.PrepReferenceIdeal.Read.v153_at]
  refine (pay12_at _ _ _ _ _ y1 y2 (fun d => a1 m c (ix3 ⟨t.val, htN⟩ y1 d)) (fun d => a2 m c (ix3 ⟨t.val, htN⟩ y1 d)) (fun d => ?_) (fun d => ?_) fun d => ?_).trans ?_
  · rw [pay18_at, b9 m c t y1 d ⟨t.val, htN⟩ rfl, V_v3, ct_at]
  · rw [pay19_at, b10 m c t y1 d ⟨t.val, htN⟩ rfl, V_v5, s1_at]
  · rw [pay20_at, b11 m c t y1 d ⟨t.val, htN⟩ rfl, V_v6, s2_at]
  · exact congrArg (fun y => rope y _ _ y2) (congrArg₂ rms (funext fun d => x128 m c t y1 d _ rfl) (funext fun d => g1 m c t d))

/-- Result array 5 after the run. -/
theorem final16 (c : Dev nD) : (dats m 0 c).arrAt 16 (cfgs 0).N = Cert.PrepReferenceIdeal.Read.val_main_v155 (F := Ideal) (a0 m c) (a1 m c) (a2 m c) (a3 m c) := by
  refine (dats m 0 c).arrAt_eq_of_covers 16 _ (by decide +kernel) fun t hf y => ?_
  blk_simp
  rw [after0_16]
  frame_out
  idx_vars y
  have htN : t.val < 8 := lt_of_lt_of_eq t.isLt N_0
  have hemb : (win0_16.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [Cert.PrepReferenceIdeal.Read.v155_at]
  refine (pay15_at _ _ _ _ _ y1 y2 (fun d => a1 m c (ix3 ⟨t.val, htN⟩ y1 d)) (fun d => a2 m c (ix3 ⟨t.val, htN⟩ y1 d)) (fun d => ?_) (fun d => ?_) fun d => ?_).trans ?_
  · rw [pay18_at, b9 m c t y1 d ⟨t.val, htN⟩ rfl, V_v3, ct_at]
  · rw [pay19_at, b10 m c t y1 d ⟨t.val, htN⟩ rfl, V_v5, s1_at]
  · rw [pay20_at, b11 m c t y1 d ⟨t.val, htN⟩ rfl, V_v6, s2_at]
  · exact congrArg (fun y => rope y _ _ y2) (congrArg₂ rms (funext fun d => x256 m c t y1 d _ rfl) (funext fun d => g2 m c t d))

/-- Result array 4 after the run. -/
theorem final15 (c : Dev nD) : (dats m 0 c).arrAt 15 (cfgs 0).N = Cert.PrepReferenceIdeal.Read.val_main_v154 (F := Ideal) (a0 m c) := by
  refine (dats m 0 c).arrAt_eq_of_covers 15 _ (by decide +kernel) fun t hf y => ?_
  blk_simp
  rw [after0_15]
  frame_out
  idx_vars y
  have htN : t.val < 8 := lt_of_lt_of_eq t.isLt N_0
  have hemb : (win0_15.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [Cert.PrepReferenceIdeal.Read.v154_at]
  refine (pay14_at (View.ld (iblk m c 0 t) r0_13) y1 y2).trans ?_
  exact congrArg (fun y => ones y y2) (funext fun d => x192 m c t y1 d _ rfl)

/-- Result array 6 after the run. -/
theorem final17 (c : Dev nD) : (dats m 0 c).arrAt 17 (cfgs 0).N = Cert.PrepReferenceIdeal.Read.val_main_v156 (F := Ideal) (a0 m c) := by
  refine (dats m 0 c).arrAt_eq_of_covers 17 _ (by decide +kernel) fun t hf y => ?_
  blk_simp
  rw [after0_17]
  frame_out
  idx_vars y
  have htN : t.val < 8 := lt_of_lt_of_eq t.isLt N_0
  have hemb : (win0_17.blk t).view.emb (ix3 y0 y1 y2) = ix3 (⟨t.val, by omega⟩ : Fin 8) y1 y2 := by
    blk_ext [idx t]
  blk_simp
  rw [hemb]
  frame_out
  obtain rfl : y0 = 0 := Subsingleton.elim _ _
  rw [Cert.PrepReferenceIdeal.Read.v156_at]
  refine (pay1_at (View.ld (iblk m c 0 t) r0_17) y1 y2).trans ?_
  exact congrArg (fun y => ones y y2) (funext fun d => x320 m c t y1 d _ rfl)

end Cert.PrepKernelIdeal.Bridge
-- ==== Proof.PrepClaims.lean ====
module

public import proofs.«01_k».proof.Defs
public import proofs.«01_k».proof.Proof.Gen.PrepKernel.Frame
public import proofs.«01_k».proof.Proof.Gen.PrepKernelIdeal.Value
public import proofs.«01_k».proof.Proof.PrepValue
public import Idealize.ShloMosaic.Lib.Quiescent
/-! The five claims of the `Prep` pair of programs. -/

@[expose] public section

set_option maxRecDepth 16384
noncomputable section
open Idealize.ShloMosaic Idealize.ShloMosaic.TcCoe Idealize.SL.Sem
namespace Cert.PrepClaims

/-- The printed kernel runs, leaves its arguments and ends with every counter at zero. -/
theorem frame_p : Cert.quiescent_PrepKernel := fun m ρ _ => Cert.PrepKernel.Gen.frame m ρ

/-- The idealized kernel runs, leaves its arguments and ends with every counter at zero. -/
theorem frame_pi : Cert.quiescent_PrepKernelIdeal := fun m ρ _ => Cert.PrepKernelIdeal.Gen.frame m ρ

/-- The reference runs, leaves its arguments and ends with every counter at zero. -/
theorem frame_ri : Cert.quiescent_PrepReferenceIdeal := fun m ρ _ =>
  (θ_run Cert.PrepReferenceIdeal.defs _ _).mono (fun r h => ⟨fun c => (h c).2.2.2.2.2.2,
      Idealize.ShloMosaic.sem_eq_zero_of_no_sems (by decide) r.2⟩)
    (Cert.PrepReferenceIdeal.Value.run (F := Ideal) m ρ)

/-- From agreeing arguments the kernel's result arrays end holding what the reference's do. -/
theorem algebraic : Cert.algebraic_PrepKernelIdeal_PrepReferenceIdeal := by
  intro m ρ m' ρ' _ hag
  refine ⟨_, _, _, _, _, _, Cert.PrepKernelIdeal.Value.run_blocks (F := Ideal) m ρ, ?_⟩
  refine (θ_run Cert.PrepReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.PrepReferenceIdeal.Value.run (F := Ideal) m' ρ')
  all_goals obtain ⟨h0, h1, h2, h3, h4, h5, h6, h7, h8⟩ := hag c
  all_goals have e0 : StableHlo.launchContents m' c (Proc.devRef .tc Cert.PrepReferenceIdeal.main_arg0) = Cert.PrepKernelIdeal.Bridge.a0 m c := h0
  all_goals have e1 : StableHlo.launchContents m' c (Proc.devRef .tc Cert.PrepReferenceIdeal.main_arg1) = Cert.PrepKernelIdeal.Bridge.a1 m c := h1
  all_goals have e2 : StableHlo.launchContents m' c (Proc.devRef .tc Cert.PrepReferenceIdeal.main_arg2) = Cert.PrepKernelIdeal.Bridge.a2 m c := h2
  all_goals have e3 : StableHlo.launchContents m' c (Proc.devRef .tc Cert.PrepReferenceIdeal.main_arg3) = Cert.PrepKernelIdeal.Bridge.a3 m c := h3
  all_goals have e4 : StableHlo.launchContents m' c (Proc.devRef .tc Cert.PrepReferenceIdeal.main_arg4) = Cert.PrepKernelIdeal.Bridge.a4 m c := h4
  all_goals have e5 : StableHlo.launchContents m' c (Proc.devRef .tc Cert.PrepReferenceIdeal.main_arg5) = Cert.PrepKernelIdeal.Bridge.a5 m c := h5
  all_goals have e6 : StableHlo.launchContents m' c (Proc.devRef .tc Cert.PrepReferenceIdeal.main_arg6) = Cert.PrepKernelIdeal.Bridge.a6 m c := h6
  all_goals have e7 : StableHlo.launchContents m' c (Proc.devRef .tc Cert.PrepReferenceIdeal.main_arg7) = Cert.PrepKernelIdeal.Bridge.a7 m c := h7
  all_goals have e8 : StableHlo.launchContents m' c (Proc.devRef .tc Cert.PrepReferenceIdeal.main_arg8) = Cert.PrepKernelIdeal.Bridge.a8 m c := h8
  · refine Eq.trans ?_ (Cert.PrepKernelIdeal.Bridge.final12 m c).symm
    refine (Cert.PrepReferenceIdeal.Read.val_main_v151_eq (F := Ideal) (StableHlo.launchContents m' c)).trans ?_
    rw [e0, e3, e4, e5, e6]
  · refine Eq.trans ?_ (Cert.PrepKernelIdeal.Bridge.final13 m c).symm
    refine (Cert.PrepReferenceIdeal.Read.val_main_v152_eq (F := Ideal) (StableHlo.launchContents m' c)).trans ?_
    rw [e0, e4, e7, e8]
  · refine Eq.trans ?_ (Cert.PrepKernelIdeal.Bridge.final14 m c).symm
    refine (Cert.PrepReferenceIdeal.Read.val_main_v153_eq (F := Ideal) (StableHlo.launchContents m' c)).trans ?_
    rw [e0, e1, e2, e3]
  · refine Eq.trans ?_ (Cert.PrepKernelIdeal.Bridge.final15 m c).symm
    refine (Cert.PrepReferenceIdeal.Read.val_main_v154_eq (F := Ideal) (StableHlo.launchContents m' c)).trans ?_
    rw [e0]
  · refine Eq.trans ?_ (Cert.PrepKernelIdeal.Bridge.final16 m c).symm
    refine (Cert.PrepReferenceIdeal.Read.val_main_v155_eq (F := Ideal) (StableHlo.launchContents m' c)).trans ?_
    rw [e0, e1, e2, e3]
  · refine Eq.trans ?_ (Cert.PrepKernelIdeal.Bridge.final17 m c).symm
    refine (Cert.PrepReferenceIdeal.Read.val_main_v156_eq (F := Ideal) (StableHlo.launchContents m' c)).trans ?_
    rw [e0]

end Cert.PrepClaims
-- ==== Proof.lean ====
module

public import proofs.«01_k».proof.Defs
public import proofs.«01_k».proof.Proof.FfnClaims
public import proofs.«01_k».proof.Proof.MergeClaims
public import proofs.«01_k».proof.Proof.SbClaims
public import proofs.«01_k».proof.Proof.InprojClaims
public import proofs.«01_k».proof.Proof.NsaClaims
public import proofs.«01_k».proof.Proof.PrepClaims
public import Idealize.ShloMosaic.Adequacy
public import Idealize.ShloMosaic.Init

@[expose] public section

noncomputable section

namespace Cert.Proof

open Idealize.ShloMosaic Idealize.SL.Sem

/-- The certificate: for each pair of programs, that the printed kernel, the idealized kernel and the reference run and
    end quiescent, that the idealization's ledger holds, and that kernel and reference end with equal results. -/
theorem claim : Cert.Claim :=
  ⟨Cert.FfnKernel.Gen.facts, Cert.FfnKernelIdeal.Gen.facts, Cert.FfnReferenceIdeal.Gen.facts,
    Cert.MergeKernel.Gen.facts, Cert.MergeKernelIdeal.Gen.facts, Cert.MergeReferenceIdeal.Gen.facts,
    Cert.SbKernel.Gen.facts, Cert.SbKernelIdeal.Gen.facts, Cert.SbReferenceIdeal.Gen.facts,
    Cert.InprojKernel.Gen.facts, Cert.InprojKernelIdeal.Gen.facts, Cert.InprojReferenceIdeal.Gen.facts,
    Cert.NsaKernel.Gen.facts, Cert.NsaKernelIdeal.Gen.facts, Cert.NsaReferenceIdeal.Gen.facts,
    Cert.PrepKernel.Gen.facts, Cert.PrepKernelIdeal.Gen.facts, Cert.PrepReferenceIdeal.Gen.facts,
    SbClaims.pre_facts,
    FfnClaims.frame_p, FfnClaims.frame_pi, FfnClaims.frame_ri,
    MergeClaims.frame_p, MergeClaims.frame_pi, MergeClaims.frame_ri,
    SbClaims.frame_p, SbClaims.frame_pi, SbClaims.frame_pi_pre, SbClaims.frame_ri, SbClaims.frame_ri_pre,
    InprojClaims.frame_p, InprojClaims.frame_pi, InprojClaims.frame_ri,
    NsaClaims.frame_p, NsaClaims.frame_pi, NsaClaims.frame_ri,
    PrepClaims.frame_p, PrepClaims.frame_pi, PrepClaims.frame_ri,
    trivial, FfnClaims.algebraic,
    trivial, MergeClaims.algebraic,
    SbClaims.preserves, SbClaims.algebraic,
    trivial, InprojClaims.algebraic,
    NsaClaims.preserves, NsaClaims.algebraic,
    trivial, PrepClaims.algebraic⟩

end Cert.Proof

end
